-- ==== Defs.lean ====
def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfReferenceIdeal (m : (ℓ : Loc Cert.HalfReferenceIdeal.nD Cert.HalfReferenceIdeal.τ Cert.HalfReferenceIdeal.sig) → Buf (Elt Ideal) ℓ) : Prop :=
  True

def Pre_HalfReference (m : (ℓ : Loc Cert.HalfReference.nD Cert.HalfReference.τ Cert.HalfReference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairReferenceIdeal (m : (ℓ : Loc Cert.PairReferenceIdeal.nD Cert.PairReferenceIdeal.τ Cert.PairReferenceIdeal.sig) → Buf (Elt Ideal) ℓ) : Prop :=
  True

def Pre_PairReference (m : (ℓ : Loc Cert.PairReference.nD Cert.PairReference.τ Cert.PairReference.sig) → Buf (Elt Bits) ℓ) : Prop :=
  True

def Pre_Chip (m : (ℓ : Loc Cert.Chip.nD Cert.Chip.τ Cert.Chip.sig) → Buf (Elt Bits) ℓ) : Prop :=
  True

def Pre_ChipIdeal (m : (ℓ : Loc Cert.ChipIdeal.nD Cert.ChipIdeal.τ Cert.ChipIdeal.sig) → Buf (Elt Ideal) ℓ) : Prop :=
  True

def Pre_ChipReferenceIdeal (m : (ℓ : Loc Cert.ChipReferenceIdeal.nD Cert.ChipReferenceIdeal.τ Cert.ChipReferenceIdeal.sig) → Buf (Elt Ideal) ℓ) : Prop :=
  True

def Pre_ChipReference (m : (ℓ : Loc Cert.ChipReference.nD Cert.ChipReference.τ Cert.ChipReference.sig) → Buf (Elt Bits) ℓ) : Prop :=
  True

def Pre_PairSumA (m : (ℓ : Loc Cert.PairSumA.nD Cert.PairSumA.τ Cert.PairSumA.sig) → Buf (Elt Bits) ℓ) : Prop :=
  True

def Pre_PairSumAIdeal (m : (ℓ : Loc Cert.PairSumAIdeal.nD Cert.PairSumAIdeal.τ Cert.PairSumAIdeal.sig) → Buf (Elt Ideal) ℓ) : Prop :=
  True

def Pre_PairSumAReferenceIdeal (m : (ℓ : Loc Cert.PairSumAReferenceIdeal.nD Cert.PairSumAReferenceIdeal.τ Cert.PairSumAReferenceIdeal.sig) → Buf (Elt Ideal) ℓ) : Prop :=
  True

def Pre_PairSumAReference (m : (ℓ : Loc Cert.PairSumAReference.nD Cert.PairSumAReference.τ Cert.PairSumAReference.sig) → Buf (Elt Bits) ℓ) : Prop :=
  True

def Pre_PairSumB (m : (ℓ : Loc Cert.PairSumB.nD Cert.PairSumB.τ Cert.PairSumB.sig) → Buf (Elt Bits) ℓ) : Prop :=
  True

def Pre_PairSumBIdeal (m : (ℓ : Loc Cert.PairSumBIdeal.nD Cert.PairSumBIdeal.τ Cert.PairSumBIdeal.sig) → Buf (Elt Ideal) ℓ) : Prop :=
  True

def Pre_PairSumBReferenceIdeal (m : (ℓ : Loc Cert.PairSumBReferenceIdeal.nD Cert.PairSumBReferenceIdeal.τ Cert.PairSumBReferenceIdeal.sig) → Buf (Elt Ideal) ℓ) : Prop :=
  True

def Pre_PairSumBReference (m : (ℓ : Loc Cert.PairSumBReference.nD Cert.PairSumBReference.τ Cert.PairSumBReference.sig) → Buf (Elt Bits) ℓ) : Prop :=
  True

def Pre_ChipSumA (m : (ℓ : Loc Cert.ChipSumA.nD Cert.ChipSumA.τ Cert.ChipSumA.sig) → Buf (Elt Bits) ℓ) : Prop :=
  True

def Pre_ChipSumAIdeal (m : (ℓ : Loc Cert.ChipSumAIdeal.nD Cert.ChipSumAIdeal.τ Cert.ChipSumAIdeal.sig) → Buf (Elt Ideal) ℓ) : Prop :=
  True

def Pre_ChipSumAReferenceIdeal (m : (ℓ : Loc Cert.ChipSumAReferenceIdeal.nD Cert.ChipSumAReferenceIdeal.τ Cert.ChipSumAReferenceIdeal.sig) → Buf (Elt Ideal) ℓ) : Prop :=
  True

def Pre_ChipSumAReference (m : (ℓ : Loc Cert.ChipSumAReference.nD Cert.ChipSumAReference.τ Cert.ChipSumAReference.sig) → Buf (Elt Bits) ℓ) : Prop :=
  True

def Pre_ChipSumB (m : (ℓ : Loc Cert.ChipSumB.nD Cert.ChipSumB.τ Cert.ChipSumB.sig) → Buf (Elt Bits) ℓ) : Prop :=
  True

def Pre_ChipSumBIdeal (m : (ℓ : Loc Cert.ChipSumBIdeal.nD Cert.ChipSumBIdeal.τ Cert.ChipSumBIdeal.sig) → Buf (Elt Ideal) ℓ) : Prop :=
  True

def Pre_ChipSumBReferenceIdeal (m : (ℓ : Loc Cert.ChipSumBReferenceIdeal.nD Cert.ChipSumBReferenceIdeal.τ Cert.ChipSumBReferenceIdeal.sig) → Buf (Elt Ideal) ℓ) : Prop :=
  True

def Pre_ChipSumBReference (m : (ℓ : Loc Cert.ChipSumBReference.nD Cert.ChipSumBReference.τ Cert.ChipSumBReference.sig) → Buf (Elt Bits) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamBranchA (m : (ℓ : Loc Cert.AdamBranchA.nD Cert.AdamBranchA.τ Cert.AdamBranchA.sig) → Buf (Elt Bits) ℓ) : Prop :=
  True

def Pre_AdamBranchAIdeal (m : (ℓ : Loc Cert.AdamBranchAIdeal.nD Cert.AdamBranchAIdeal.τ Cert.AdamBranchAIdeal.sig) → Buf (Elt Ideal) ℓ) : Prop :=
  True

def Pre_AdamBranchAReferenceIdeal (m : (ℓ : Loc Cert.AdamBranchAReferenceIdeal.nD Cert.AdamBranchAReferenceIdeal.τ Cert.AdamBranchAReferenceIdeal.sig) → Buf (Elt Ideal) ℓ) : Prop :=
  True

def Pre_AdamBranchB (m : (ℓ : Loc Cert.AdamBranchB.nD Cert.AdamBranchB.τ Cert.AdamBranchB.sig) → Buf (Elt Bits) ℓ) : Prop :=
  True

def Pre_AdamBranchBIdeal (m : (ℓ : Loc Cert.AdamBranchBIdeal.nD Cert.AdamBranchBIdeal.τ Cert.AdamBranchBIdeal.sig) → Buf (Elt Ideal) ℓ) : Prop :=
  True

def Pre_AdamBranchBReferenceIdeal (m : (ℓ : Loc Cert.AdamBranchBReferenceIdeal.nD Cert.AdamBranchBReferenceIdeal.τ Cert.AdamBranchBReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdReferenceIdeal (m : (ℓ : Loc Cert.FfnBwdReferenceIdeal.nD Cert.FfnBwdReferenceIdeal.τ Cert.FfnBwdReferenceIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpReferenceIdeal (m : (ℓ : Loc Cert.GradUpReferenceIdeal.nD Cert.GradUpReferenceIdeal.τ Cert.GradUpReferenceIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownReferenceIdeal (m : (ℓ : Loc Cert.GradDownReferenceIdeal.nD Cert.GradDownReferenceIdeal.τ Cert.GradDownReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradBranchA (m : (ℓ : Loc Cert.GradBranchA.nD Cert.GradBranchA.τ Cert.GradBranchA.sig) → Buf (Elt Bits) ℓ) : Prop :=
  True

def Pre_GradBranchAIdeal (m : (ℓ : Loc Cert.GradBranchAIdeal.nD Cert.GradBranchAIdeal.τ Cert.GradBranchAIdeal.sig) → Buf (Elt Ideal) ℓ) : Prop :=
  True

def Pre_GradBranchAReferenceIdeal (m : (ℓ : Loc Cert.GradBranchAReferenceIdeal.nD Cert.GradBranchAReferenceIdeal.τ Cert.GradBranchAReferenceIdeal.sig) → Buf (Elt Ideal) ℓ) : Prop :=
  True

def Pre_GradBranchB (m : (ℓ : Loc Cert.GradBranchB.nD Cert.GradBranchB.τ Cert.GradBranchB.sig) → Buf (Elt Bits) ℓ) : Prop :=
  True

def Pre_GradBranchBIdeal (m : (ℓ : Loc Cert.GradBranchBIdeal.nD Cert.GradBranchBIdeal.τ Cert.GradBranchBIdeal.sig) → Buf (Elt Ideal) ℓ) : Prop :=
  True

def Pre_GradBranchBReferenceIdeal (m : (ℓ : Loc Cert.GradBranchBReferenceIdeal.nD Cert.GradBranchBReferenceIdeal.τ Cert.GradBranchBReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradReferenceIdeal (m : (ℓ : Loc Cert.BiasGradReferenceIdeal.nD Cert.BiasGradReferenceIdeal.τ Cert.BiasGradReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1))
      ∧ r.2.sem = fun _ => 0)

def quiescent_HalfReferenceIdeal [hHalfReferenceIdeal : Cert.HalfReferenceIdeal.Facts] : Prop :=
  ∀ (m : (ℓ : Loc Cert.HalfReferenceIdeal.nD Cert.HalfReferenceIdeal.τ Cert.HalfReferenceIdeal.sig) → Buf (Elt Ideal) ℓ) (g : Dev Cert.HalfReferenceIdeal.nD → PrngReg), Pre_HalfReferenceIdeal m →
    θ_run (Cert.HalfReferenceIdeal.defs (F := Ideal)) (onTc (τ := Cert.HalfReferenceIdeal.τ) (Cert.HalfReferenceIdeal.main (F := Ideal))) ⟨m, fun _ => 0, g⟩ (fun r => (∀ c : Dev Cert.HalfReferenceIdeal.nD,
      r.2.mem ((c.tc : Thread Cert.HalfReferenceIdeal.nD Cert.HalfReferenceIdeal.τ).loc Cert.HalfReferenceIdeal.main_arg0) = m ((c.tc : Thread Cert.HalfReferenceIdeal.nD Cert.HalfReferenceIdeal.τ).loc Cert.HalfReferenceIdeal.main_arg0)
      ∧ r.2.mem ((c.tc : Thread Cert.HalfReferenceIdeal.nD Cert.HalfReferenceIdeal.τ).loc Cert.HalfReferenceIdeal.main_arg1) = m ((c.tc : Thread Cert.HalfReferenceIdeal.nD Cert.HalfReferenceIdeal.τ).loc Cert.HalfReferenceIdeal.main_arg1))
      ∧ r.2.sem = fun _ => 0)

def quiescent_HalfReference [hHalfReference : Cert.HalfReference.Facts] : Prop :=
  ∀ (m : (ℓ : Loc Cert.HalfReference.nD Cert.HalfReference.τ Cert.HalfReference.sig) → Buf (Elt Bits) ℓ) (g : Dev Cert.HalfReference.nD → PrngReg), Pre_HalfReference m →
    θ_run (Cert.HalfReference.defs (F := Bits)) (onTc (τ := Cert.HalfReference.τ) (Cert.HalfReference.main (F := Bits))) ⟨m, fun _ => 0, g⟩ (fun r => (∀ c : Dev Cert.HalfReference.nD,
      r.2.mem ((c.tc : Thread Cert.HalfReference.nD Cert.HalfReference.τ).loc Cert.HalfReference.main_arg0) = m ((c.tc : Thread Cert.HalfReference.nD Cert.HalfReference.τ).loc Cert.HalfReference.main_arg0)
      ∧ r.2.mem ((c.tc : Thread Cert.HalfReference.nD Cert.HalfReference.τ).loc Cert.HalfReference.main_arg1) = m ((c.tc : Thread Cert.HalfReference.nD Cert.HalfReference.τ).loc Cert.HalfReference.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1))
      ∧ r.2.sem = fun _ => 0)

def quiescent_PairReferenceIdeal [hPairReferenceIdeal : Cert.PairReferenceIdeal.Facts] : Prop :=
  ∀ (m : (ℓ : Loc Cert.PairReferenceIdeal.nD Cert.PairReferenceIdeal.τ Cert.PairReferenceIdeal.sig) → Buf (Elt Ideal) ℓ) (g : Dev Cert.PairReferenceIdeal.nD → PrngReg), Pre_PairReferenceIdeal m →
    θ_run (Cert.PairReferenceIdeal.defs (F := Ideal)) (onTc (τ := Cert.PairReferenceIdeal.τ) (Cert.PairReferenceIdeal.main (F := Ideal))) ⟨m, fun _ => 0, g⟩ (fun r => (∀ c : Dev Cert.PairReferenceIdeal.nD,
      r.2.mem ((c.tc : Thread Cert.PairReferenceIdeal.nD Cert.PairReferenceIdeal.τ).loc Cert.PairReferenceIdeal.main_arg0) = m ((c.tc : Thread Cert.PairReferenceIdeal.nD Cert.PairReferenceIdeal.τ).loc Cert.PairReferenceIdeal.main_arg0)
      ∧ r.2.mem ((c.tc : Thread Cert.PairReferenceIdeal.nD Cert.PairReferenceIdeal.τ).loc Cert.PairReferenceIdeal.main_arg1) = m ((c.tc : Thread Cert.PairReferenceIdeal.nD Cert.PairReferenceIdeal.τ).loc Cert.PairReferenceIdeal.main_arg1))
      ∧ r.2.sem = fun _ => 0)

def quiescent_PairReference [hPairReference : Cert.PairReference.Facts] : Prop :=
  ∀ (m : (ℓ : Loc Cert.PairReference.nD Cert.PairReference.τ Cert.PairReference.sig) → Buf (Elt Bits) ℓ) (g : Dev Cert.PairReference.nD → PrngReg), Pre_PairReference m →
    θ_run (Cert.PairReference.defs (F := Bits)) (onTc (τ := Cert.PairReference.τ) (Cert.PairReference.main (F := Bits))) ⟨m, fun _ => 0, g⟩ (fun r => (∀ c : Dev Cert.PairReference.nD,
      r.2.mem ((c.tc : Thread Cert.PairReference.nD Cert.PairReference.τ).loc Cert.PairReference.main_arg0) = m ((c.tc : Thread Cert.PairReference.nD Cert.PairReference.τ).loc Cert.PairReference.main_arg0)
      ∧ r.2.mem ((c.tc : Thread Cert.PairReference.nD Cert.PairReference.τ).loc Cert.PairReference.main_arg1) = m ((c.tc : Thread Cert.PairReference.nD Cert.PairReference.τ).loc Cert.PairReference.main_arg1))
      ∧ r.2.sem = fun _ => 0)

def quiescent_Chip [hChip : Cert.Chip.Facts] : Prop :=
  ∀ (m : (ℓ : Loc Cert.Chip.nD Cert.Chip.τ Cert.Chip.sig) → Buf (Elt Bits) ℓ) (g : Dev Cert.Chip.nD → PrngReg), Pre_Chip m →
    θ_run (Cert.Chip.defs (F := Bits)) (onTc (τ := Cert.Chip.τ) (Cert.Chip.main (F := Bits))) ⟨m, fun _ => 0, g⟩ (fun r => (∀ c : Dev Cert.Chip.nD,
      r.2.mem ((c.tc : Thread Cert.Chip.nD Cert.Chip.τ).loc Cert.Chip.main_arg0) = m ((c.tc : Thread Cert.Chip.nD Cert.Chip.τ).loc Cert.Chip.main_arg0)
      ∧ r.2.mem ((c.tc : Thread Cert.Chip.nD Cert.Chip.τ).loc Cert.Chip.main_arg1) = m ((c.tc : Thread Cert.Chip.nD Cert.Chip.τ).loc Cert.Chip.main_arg1))
      ∧ r.2.sem = fun _ => 0)

def quiescent_ChipIdeal [hChipIdeal : Cert.ChipIdeal.Facts] : Prop :=
  ∀ (m : (ℓ : Loc Cert.ChipIdeal.nD Cert.ChipIdeal.τ Cert.ChipIdeal.sig) → Buf (Elt Ideal) ℓ) (g : Dev Cert.ChipIdeal.nD → PrngReg), Pre_ChipIdeal m →
    θ_run (Cert.ChipIdeal.defs (F := Ideal)) (onTc (τ := Cert.ChipIdeal.τ) (Cert.ChipIdeal.main (F := Ideal))) ⟨m, fun _ => 0, g⟩ (fun r => (∀ c : Dev Cert.ChipIdeal.nD,
      r.2.mem ((c.tc : Thread Cert.ChipIdeal.nD Cert.ChipIdeal.τ).loc Cert.ChipIdeal.main_arg0) = m ((c.tc : Thread Cert.ChipIdeal.nD Cert.ChipIdeal.τ).loc Cert.ChipIdeal.main_arg0)
      ∧ r.2.mem ((c.tc : Thread Cert.ChipIdeal.nD Cert.ChipIdeal.τ).loc Cert.ChipIdeal.main_arg1) = m ((c.tc : Thread Cert.ChipIdeal.nD Cert.ChipIdeal.τ).loc Cert.ChipIdeal.main_arg1))
      ∧ r.2.sem = fun _ => 0)

def quiescent_ChipReferenceIdeal [hChipReferenceIdeal : Cert.ChipReferenceIdeal.Facts] : Prop :=
  ∀ (m : (ℓ : Loc Cert.ChipReferenceIdeal.nD Cert.ChipReferenceIdeal.τ Cert.ChipReferenceIdeal.sig) → Buf (Elt Ideal) ℓ) (g : Dev Cert.ChipReferenceIdeal.nD → PrngReg), Pre_ChipReferenceIdeal m →
    θ_run (Cert.ChipReferenceIdeal.defs (F := Ideal)) (onTc (τ := Cert.ChipReferenceIdeal.τ) (Cert.ChipReferenceIdeal.main (F := Ideal))) ⟨m, fun _ => 0, g⟩ (fun r => (∀ c : Dev Cert.ChipReferenceIdeal.nD,
      r.2.mem ((c.tc : Thread Cert.ChipReferenceIdeal.nD Cert.ChipReferenceIdeal.τ).loc Cert.ChipReferenceIdeal.main_arg0) = m ((c.tc : Thread Cert.ChipReferenceIdeal.nD Cert.ChipReferenceIdeal.τ).loc Cert.ChipReferenceIdeal.main_arg0)
      ∧ r.2.mem ((c.tc : Thread Cert.ChipReferenceIdeal.nD Cert.ChipReferenceIdeal.τ).loc Cert.ChipReferenceIdeal.main_arg1) = m ((c.tc : Thread Cert.ChipReferenceIdeal.nD Cert.ChipReferenceIdeal.τ).loc Cert.ChipReferenceIdeal.main_arg1))
      ∧ r.2.sem = fun _ => 0)

def quiescent_ChipReference [hChipReference : Cert.ChipReference.Facts] : Prop :=
  ∀ (m : (ℓ : Loc Cert.ChipReference.nD Cert.ChipReference.τ Cert.ChipReference.sig) → Buf (Elt Bits) ℓ) (g : Dev Cert.ChipReference.nD → PrngReg), Pre_ChipReference m →
    θ_run (Cert.ChipReference.defs (F := Bits)) (onTc (τ := Cert.ChipReference.τ) (Cert.ChipReference.main (F := Bits))) ⟨m, fun _ => 0, g⟩ (fun r => (∀ c : Dev Cert.ChipReference.nD,
      r.2.mem ((c.tc : Thread Cert.ChipReference.nD Cert.ChipReference.τ).loc Cert.ChipReference.main_arg0) = m ((c.tc : Thread Cert.ChipReference.nD Cert.ChipReference.τ).loc Cert.ChipReference.main_arg0)
      ∧ r.2.mem ((c.tc : Thread Cert.ChipReference.nD Cert.ChipReference.τ).loc Cert.ChipReference.main_arg1) = m ((c.tc : Thread Cert.ChipReference.nD Cert.ChipReference.τ).loc Cert.ChipReference.main_arg1))
      ∧ r.2.sem = fun _ => 0)

def quiescent_PairSumA [hPairSumA : Cert.PairSumA.Facts] : Prop :=
  ∀ (m : (ℓ : Loc Cert.PairSumA.nD Cert.PairSumA.τ Cert.PairSumA.sig) → Buf (Elt Bits) ℓ) (g : Dev Cert.PairSumA.nD → PrngReg), Pre_PairSumA m →
    θ_run (Cert.PairSumA.defs (F := Bits)) (onTc (τ := Cert.PairSumA.τ) (Cert.PairSumA.main (F := Bits))) ⟨m, fun _ => 0, g⟩ (fun r => (∀ c : Dev Cert.PairSumA.nD,
      r.2.mem ((c.tc : Thread Cert.PairSumA.nD Cert.PairSumA.τ).loc Cert.PairSumA.main_arg0) = m ((c.tc : Thread Cert.PairSumA.nD Cert.PairSumA.τ).loc Cert.PairSumA.main_arg0)
      ∧ r.2.mem ((c.tc : Thread Cert.PairSumA.nD Cert.PairSumA.τ).loc Cert.PairSumA.main_arg1) = m ((c.tc : Thread Cert.PairSumA.nD Cert.PairSumA.τ).loc Cert.PairSumA.main_arg1))
      ∧ r.2.sem = fun _ => 0)

def quiescent_PairSumAIdeal [hPairSumAIdeal : Cert.PairSumAIdeal.Facts] : Prop :=
  ∀ (m : (ℓ : Loc Cert.PairSumAIdeal.nD Cert.PairSumAIdeal.τ Cert.PairSumAIdeal.sig) → Buf (Elt Ideal) ℓ) (g : Dev Cert.PairSumAIdeal.nD → PrngReg), Pre_PairSumAIdeal m →
    θ_run (Cert.PairSumAIdeal.defs (F := Ideal)) (onTc (τ := Cert.PairSumAIdeal.τ) (Cert.PairSumAIdeal.main (F := Ideal))) ⟨m, fun _ => 0, g⟩ (fun r => (∀ c : Dev Cert.PairSumAIdeal.nD,
      r.2.mem ((c.tc : Thread Cert.PairSumAIdeal.nD Cert.PairSumAIdeal.τ).loc Cert.PairSumAIdeal.main_arg0) = m ((c.tc : Thread Cert.PairSumAIdeal.nD Cert.PairSumAIdeal.τ).loc Cert.PairSumAIdeal.main_arg0)
      ∧ r.2.mem ((c.tc : Thread Cert.PairSumAIdeal.nD Cert.PairSumAIdeal.τ).loc Cert.PairSumAIdeal.main_arg1) = m ((c.tc : Thread Cert.PairSumAIdeal.nD Cert.PairSumAIdeal.τ).loc Cert.PairSumAIdeal.main_arg1))
      ∧ r.2.sem = fun _ => 0)

def quiescent_PairSumAReferenceIdeal [hPairSumAReferenceIdeal : Cert.PairSumAReferenceIdeal.Facts] : Prop :=
  ∀ (m : (ℓ : Loc Cert.PairSumAReferenceIdeal.nD Cert.PairSumAReferenceIdeal.τ Cert.PairSumAReferenceIdeal.sig) → Buf (Elt Ideal) ℓ) (g : Dev Cert.PairSumAReferenceIdeal.nD → PrngReg), Pre_PairSumAReferenceIdeal m →
    θ_run (Cert.PairSumAReferenceIdeal.defs (F := Ideal)) (onTc (τ := Cert.PairSumAReferenceIdeal.τ) (Cert.PairSumAReferenceIdeal.main (F := Ideal))) ⟨m, fun _ => 0, g⟩ (fun r => (∀ c : Dev Cert.PairSumAReferenceIdeal.nD,
      r.2.mem ((c.tc : Thread Cert.PairSumAReferenceIdeal.nD Cert.PairSumAReferenceIdeal.τ).loc Cert.PairSumAReferenceIdeal.main_arg0) = m ((c.tc : Thread Cert.PairSumAReferenceIdeal.nD Cert.PairSumAReferenceIdeal.τ).loc Cert.PairSumAReferenceIdeal.main_arg0)
      ∧ r.2.mem ((c.tc : Thread Cert.PairSumAReferenceIdeal.nD Cert.PairSumAReferenceIdeal.τ).loc Cert.PairSumAReferenceIdeal.main_arg1) = m ((c.tc : Thread Cert.PairSumAReferenceIdeal.nD Cert.PairSumAReferenceIdeal.τ).loc Cert.PairSumAReferenceIdeal.main_arg1))
      ∧ r.2.sem = fun _ => 0)

def quiescent_PairSumAReference [hPairSumAReference : Cert.PairSumAReference.Facts] : Prop :=
  ∀ (m : (ℓ : Loc Cert.PairSumAReference.nD Cert.PairSumAReference.τ Cert.PairSumAReference.sig) → Buf (Elt Bits) ℓ) (g : Dev Cert.PairSumAReference.nD → PrngReg), Pre_PairSumAReference m →
    θ_run (Cert.PairSumAReference.defs (F := Bits)) (onTc (τ := Cert.PairSumAReference.τ) (Cert.PairSumAReference.main (F := Bits))) ⟨m, fun _ => 0, g⟩ (fun r => (∀ c : Dev Cert.PairSumAReference.nD,
      r.2.mem ((c.tc : Thread Cert.PairSumAReference.nD Cert.PairSumAReference.τ).loc Cert.PairSumAReference.main_arg0) = m ((c.tc : Thread Cert.PairSumAReference.nD Cert.PairSumAReference.τ).loc Cert.PairSumAReference.main_arg0)
      ∧ r.2.mem ((c.tc : Thread Cert.PairSumAReference.nD Cert.PairSumAReference.τ).loc Cert.PairSumAReference.main_arg1) = m ((c.tc : Thread Cert.PairSumAReference.nD Cert.PairSumAReference.τ).loc Cert.PairSumAReference.main_arg1))
      ∧ r.2.sem = fun _ => 0)

def quiescent_PairSumB [hPairSumB : Cert.PairSumB.Facts] : Prop :=
  ∀ (m : (ℓ : Loc Cert.PairSumB.nD Cert.PairSumB.τ Cert.PairSumB.sig) → Buf (Elt Bits) ℓ) (g : Dev Cert.PairSumB.nD → PrngReg), Pre_PairSumB m →
    θ_run (Cert.PairSumB.defs (F := Bits)) (onTc (τ := Cert.PairSumB.τ) (Cert.PairSumB.main (F := Bits))) ⟨m, fun _ => 0, g⟩ (fun r => (∀ c : Dev Cert.PairSumB.nD,
      r.2.mem ((c.tc : Thread Cert.PairSumB.nD Cert.PairSumB.τ).loc Cert.PairSumB.main_arg0) = m ((c.tc : Thread Cert.PairSumB.nD Cert.PairSumB.τ).loc Cert.PairSumB.main_arg0)
      ∧ r.2.mem ((c.tc : Thread Cert.PairSumB.nD Cert.PairSumB.τ).loc Cert.PairSumB.main_arg1) = m ((c.tc : Thread Cert.PairSumB.nD Cert.PairSumB.τ).loc Cert.PairSumB.main_arg1))
      ∧ r.2.sem = fun _ => 0)

def quiescent_PairSumBIdeal [hPairSumBIdeal : Cert.PairSumBIdeal.Facts] : Prop :=
  ∀ (m : (ℓ : Loc Cert.PairSumBIdeal.nD Cert.PairSumBIdeal.τ Cert.PairSumBIdeal.sig) → Buf (Elt Ideal) ℓ) (g : Dev Cert.PairSumBIdeal.nD → PrngReg), Pre_PairSumBIdeal m →
    θ_run (Cert.PairSumBIdeal.defs (F := Ideal)) (onTc (τ := Cert.PairSumBIdeal.τ) (Cert.PairSumBIdeal.main (F := Ideal))) ⟨m, fun _ => 0, g⟩ (fun r => (∀ c : Dev Cert.PairSumBIdeal.nD,
      r.2.mem ((c.tc : Thread Cert.PairSumBIdeal.nD Cert.PairSumBIdeal.τ).loc Cert.PairSumBIdeal.main_arg0) = m ((c.tc : Thread Cert.PairSumBIdeal.nD Cert.PairSumBIdeal.τ).loc Cert.PairSumBIdeal.main_arg0)
      ∧ r.2.mem ((c.tc : Thread Cert.PairSumBIdeal.nD Cert.PairSumBIdeal.τ).loc Cert.PairSumBIdeal.main_arg1) = m ((c.tc : Thread Cert.PairSumBIdeal.nD Cert.PairSumBIdeal.τ).loc Cert.PairSumBIdeal.main_arg1))
      ∧ r.2.sem = fun _ => 0)

def quiescent_PairSumBReferenceIdeal [hPairSumBReferenceIdeal : Cert.PairSumBReferenceIdeal.Facts] : Prop :=
  ∀ (m : (ℓ : Loc Cert.PairSumBReferenceIdeal.nD Cert.PairSumBReferenceIdeal.τ Cert.PairSumBReferenceIdeal.sig) → Buf (Elt Ideal) ℓ) (g : Dev Cert.PairSumBReferenceIdeal.nD → PrngReg), Pre_PairSumBReferenceIdeal m →
    θ_run (Cert.PairSumBReferenceIdeal.defs (F := Ideal)) (onTc (τ := Cert.PairSumBReferenceIdeal.τ) (Cert.PairSumBReferenceIdeal.main (F := Ideal))) ⟨m, fun _ => 0, g⟩ (fun r => (∀ c : Dev Cert.PairSumBReferenceIdeal.nD,
      r.2.mem ((c.tc : Thread Cert.PairSumBReferenceIdeal.nD Cert.PairSumBReferenceIdeal.τ).loc Cert.PairSumBReferenceIdeal.main_arg0) = m ((c.tc : Thread Cert.PairSumBReferenceIdeal.nD Cert.PairSumBReferenceIdeal.τ).loc Cert.PairSumBReferenceIdeal.main_arg0)
      ∧ r.2.mem ((c.tc : Thread Cert.PairSumBReferenceIdeal.nD Cert.PairSumBReferenceIdeal.τ).loc Cert.PairSumBReferenceIdeal.main_arg1) = m ((c.tc : Thread Cert.PairSumBReferenceIdeal.nD Cert.PairSumBReferenceIdeal.τ).loc Cert.PairSumBReferenceIdeal.main_arg1))
      ∧ r.2.sem = fun _ => 0)

def quiescent_PairSumBReference [hPairSumBReference : Cert.PairSumBReference.Facts] : Prop :=
  ∀ (m : (ℓ : Loc Cert.PairSumBReference.nD Cert.PairSumBReference.τ Cert.PairSumBReference.sig) → Buf (Elt Bits) ℓ) (g : Dev Cert.PairSumBReference.nD → PrngReg), Pre_PairSumBReference m →
    θ_run (Cert.PairSumBReference.defs (F := Bits)) (onTc (τ := Cert.PairSumBReference.τ) (Cert.PairSumBReference.main (F := Bits))) ⟨m, fun _ => 0, g⟩ (fun r => (∀ c : Dev Cert.PairSumBReference.nD,
      r.2.mem ((c.tc : Thread Cert.PairSumBReference.nD Cert.PairSumBReference.τ).loc Cert.PairSumBReference.main_arg0) = m ((c.tc : Thread Cert.PairSumBReference.nD Cert.PairSumBReference.τ).loc Cert.PairSumBReference.main_arg0)
      ∧ r.2.mem ((c.tc : Thread Cert.PairSumBReference.nD Cert.PairSumBReference.τ).loc Cert.PairSumBReference.main_arg1) = m ((c.tc : Thread Cert.PairSumBReference.nD Cert.PairSumBReference.τ).loc Cert.PairSumBReference.main_arg1))
      ∧ r.2.sem = fun _ => 0)

def quiescent_ChipSumA [hChipSumA : Cert.ChipSumA.Facts] : Prop :=
  ∀ (m : (ℓ : Loc Cert.ChipSumA.nD Cert.ChipSumA.τ Cert.ChipSumA.sig) → Buf (Elt Bits) ℓ) (g : Dev Cert.ChipSumA.nD → PrngReg), Pre_ChipSumA m →
    θ_run (Cert.ChipSumA.defs (F := Bits)) (onTc (τ := Cert.ChipSumA.τ) (Cert.ChipSumA.main (F := Bits))) ⟨m, fun _ => 0, g⟩ (fun r => (∀ c : Dev Cert.ChipSumA.nD,
      r.2.mem ((c.tc : Thread Cert.ChipSumA.nD Cert.ChipSumA.τ).loc Cert.ChipSumA.main_arg0) = m ((c.tc : Thread Cert.ChipSumA.nD Cert.ChipSumA.τ).loc Cert.ChipSumA.main_arg0)
      ∧ r.2.mem ((c.tc : Thread Cert.ChipSumA.nD Cert.ChipSumA.τ).loc Cert.ChipSumA.main_arg1) = m ((c.tc : Thread Cert.ChipSumA.nD Cert.ChipSumA.τ).loc Cert.ChipSumA.main_arg1)
      ∧ r.2.mem ((c.tc : Thread Cert.ChipSumA.nD Cert.ChipSumA.τ).loc Cert.ChipSumA.main_arg2) = m ((c.tc : Thread Cert.ChipSumA.nD Cert.ChipSumA.τ).loc Cert.ChipSumA.main_arg2)
      ∧ r.2.mem ((c.tc : Thread Cert.ChipSumA.nD Cert.ChipSumA.τ).loc Cert.ChipSumA.main_arg3) = m ((c.tc : Thread Cert.ChipSumA.nD Cert.ChipSumA.τ).loc Cert.ChipSumA.main_arg3))
      ∧ r.2.sem = fun _ => 0)

def quiescent_ChipSumAIdeal [hChipSumAIdeal : Cert.ChipSumAIdeal.Facts] : Prop :=
  ∀ (m : (ℓ : Loc Cert.ChipSumAIdeal.nD Cert.ChipSumAIdeal.τ Cert.ChipSumAIdeal.sig) → Buf (Elt Ideal) ℓ) (g : Dev Cert.ChipSumAIdeal.nD → PrngReg), Pre_ChipSumAIdeal m →
    θ_run (Cert.ChipSumAIdeal.defs (F := Ideal)) (onTc (τ := Cert.ChipSumAIdeal.τ) (Cert.ChipSumAIdeal.main (F := Ideal))) ⟨m, fun _ => 0, g⟩ (fun r => (∀ c : Dev Cert.ChipSumAIdeal.nD,
      r.2.mem ((c.tc : Thread Cert.ChipSumAIdeal.nD Cert.ChipSumAIdeal.τ).loc Cert.ChipSumAIdeal.main_arg0) = m ((c.tc : Thread Cert.ChipSumAIdeal.nD Cert.ChipSumAIdeal.τ).loc Cert.ChipSumAIdeal.main_arg0)
      ∧ r.2.mem ((c.tc : Thread Cert.ChipSumAIdeal.nD Cert.ChipSumAIdeal.τ).loc Cert.ChipSumAIdeal.main_arg1) = m ((c.tc : Thread Cert.ChipSumAIdeal.nD Cert.ChipSumAIdeal.τ).loc Cert.ChipSumAIdeal.main_arg1)
      ∧ r.2.mem ((c.tc : Thread Cert.ChipSumAIdeal.nD Cert.ChipSumAIdeal.τ).loc Cert.ChipSumAIdeal.main_arg2) = m ((c.tc : Thread Cert.ChipSumAIdeal.nD Cert.ChipSumAIdeal.τ).loc Cert.ChipSumAIdeal.main_arg2)
      ∧ r.2.mem ((c.tc : Thread Cert.ChipSumAIdeal.nD Cert.ChipSumAIdeal.τ).loc Cert.ChipSumAIdeal.main_arg3) = m ((c.tc : Thread Cert.ChipSumAIdeal.nD Cert.ChipSumAIdeal.τ).loc Cert.ChipSumAIdeal.main_arg3))
      ∧ r.2.sem = fun _ => 0)

def quiescent_ChipSumAReferenceIdeal [hChipSumAReferenceIdeal : Cert.ChipSumAReferenceIdeal.Facts] : Prop :=
  ∀ (m : (ℓ : Loc Cert.ChipSumAReferenceIdeal.nD Cert.ChipSumAReferenceIdeal.τ Cert.ChipSumAReferenceIdeal.sig) → Buf (Elt Ideal) ℓ) (g : Dev Cert.ChipSumAReferenceIdeal.nD → PrngReg), Pre_ChipSumAReferenceIdeal m →
    θ_run (Cert.ChipSumAReferenceIdeal.defs (F := Ideal)) (onTc (τ := Cert.ChipSumAReferenceIdeal.τ) (Cert.ChipSumAReferenceIdeal.main (F := Ideal))) ⟨m, fun _ => 0, g⟩ (fun r => (∀ c : Dev Cert.ChipSumAReferenceIdeal.nD,
      r.2.mem ((c.tc : Thread Cert.ChipSumAReferenceIdeal.nD Cert.ChipSumAReferenceIdeal.τ).loc Cert.ChipSumAReferenceIdeal.main_arg0) = m ((c.tc : Thread Cert.ChipSumAReferenceIdeal.nD Cert.ChipSumAReferenceIdeal.τ).loc Cert.ChipSumAReferenceIdeal.main_arg0)
      ∧ r.2.mem ((c.tc : Thread Cert.ChipSumAReferenceIdeal.nD Cert.ChipSumAReferenceIdeal.τ).loc Cert.ChipSumAReferenceIdeal.main_arg1) = m ((c.tc : Thread Cert.ChipSumAReferenceIdeal.nD Cert.ChipSumAReferenceIdeal.τ).loc Cert.ChipSumAReferenceIdeal.main_arg1)
      ∧ r.2.mem ((c.tc : Thread Cert.ChipSumAReferenceIdeal.nD Cert.ChipSumAReferenceIdeal.τ).loc Cert.ChipSumAReferenceIdeal.main_arg2) = m ((c.tc : Thread Cert.ChipSumAReferenceIdeal.nD Cert.ChipSumAReferenceIdeal.τ).loc Cert.ChipSumAReferenceIdeal.main_arg2)
      ∧ r.2.mem ((c.tc : Thread Cert.ChipSumAReferenceIdeal.nD Cert.ChipSumAReferenceIdeal.τ).loc Cert.ChipSumAReferenceIdeal.main_arg3) = m ((c.tc : Thread Cert.ChipSumAReferenceIdeal.nD Cert.ChipSumAReferenceIdeal.τ).loc Cert.ChipSumAReferenceIdeal.main_arg3))
      ∧ r.2.sem = fun _ => 0)

def quiescent_ChipSumAReference [hChipSumAReference : Cert.ChipSumAReference.Facts] : Prop :=
  ∀ (m : (ℓ : Loc Cert.ChipSumAReference.nD Cert.ChipSumAReference.τ Cert.ChipSumAReference.sig) → Buf (Elt Bits) ℓ) (g : Dev Cert.ChipSumAReference.nD → PrngReg), Pre_ChipSumAReference m →
    θ_run (Cert.ChipSumAReference.defs (F := Bits)) (onTc (τ := Cert.ChipSumAReference.τ) (Cert.ChipSumAReference.main (F := Bits))) ⟨m, fun _ => 0, g⟩ (fun r => (∀ c : Dev Cert.ChipSumAReference.nD,
      r.2.mem ((c.tc : Thread Cert.ChipSumAReference.nD Cert.ChipSumAReference.τ).loc Cert.ChipSumAReference.main_arg0) = m ((c.tc : Thread Cert.ChipSumAReference.nD Cert.ChipSumAReference.τ).loc Cert.ChipSumAReference.main_arg0)
      ∧ r.2.mem ((c.tc : Thread Cert.ChipSumAReference.nD Cert.ChipSumAReference.τ).loc Cert.ChipSumAReference.main_arg1) = m ((c.tc : Thread Cert.ChipSumAReference.nD Cert.ChipSumAReference.τ).loc Cert.ChipSumAReference.main_arg1)
      ∧ r.2.mem ((c.tc : Thread Cert.ChipSumAReference.nD Cert.ChipSumAReference.τ).loc Cert.ChipSumAReference.main_arg2) = m ((c.tc : Thread Cert.ChipSumAReference.nD Cert.ChipSumAReference.τ).loc Cert.ChipSumAReference.main_arg2)
      ∧ r.2.mem ((c.tc : Thread Cert.ChipSumAReference.nD Cert.ChipSumAReference.τ).loc Cert.ChipSumAReference.main_arg3) = m ((c.tc : Thread Cert.ChipSumAReference.nD Cert.ChipSumAReference.τ).loc Cert.ChipSumAReference.main_arg3))
      ∧ r.2.sem = fun _ => 0)

def quiescent_ChipSumB [hChipSumB : Cert.ChipSumB.Facts] : Prop :=
  ∀ (m : (ℓ : Loc Cert.ChipSumB.nD Cert.ChipSumB.τ Cert.ChipSumB.sig) → Buf (Elt Bits) ℓ) (g : Dev Cert.ChipSumB.nD → PrngReg), Pre_ChipSumB m →
    θ_run (Cert.ChipSumB.defs (F := Bits)) (onTc (τ := Cert.ChipSumB.τ) (Cert.ChipSumB.main (F := Bits))) ⟨m, fun _ => 0, g⟩ (fun r => (∀ c : Dev Cert.ChipSumB.nD,
      r.2.mem ((c.tc : Thread Cert.ChipSumB.nD Cert.ChipSumB.τ).loc Cert.ChipSumB.main_arg0) = m ((c.tc : Thread Cert.ChipSumB.nD Cert.ChipSumB.τ).loc Cert.ChipSumB.main_arg0)
      ∧ r.2.mem ((c.tc : Thread Cert.ChipSumB.nD Cert.ChipSumB.τ).loc Cert.ChipSumB.main_arg1) = m ((c.tc : Thread Cert.ChipSumB.nD Cert.ChipSumB.τ).loc Cert.ChipSumB.main_arg1)
      ∧ r.2.mem ((c.tc : Thread Cert.ChipSumB.nD Cert.ChipSumB.τ).loc Cert.ChipSumB.main_arg2) = m ((c.tc : Thread Cert.ChipSumB.nD Cert.ChipSumB.τ).loc Cert.ChipSumB.main_arg2)
      ∧ r.2.mem ((c.tc : Thread Cert.ChipSumB.nD Cert.ChipSumB.τ).loc Cert.ChipSumB.main_arg3) = m ((c.tc : Thread Cert.ChipSumB.nD Cert.ChipSumB.τ).loc Cert.ChipSumB.main_arg3))
      ∧ r.2.sem = fun _ => 0)

def quiescent_ChipSumBIdeal [hChipSumBIdeal : Cert.ChipSumBIdeal.Facts] : Prop :=
  ∀ (m : (ℓ : Loc Cert.ChipSumBIdeal.nD Cert.ChipSumBIdeal.τ Cert.ChipSumBIdeal.sig) → Buf (Elt Ideal) ℓ) (g : Dev Cert.ChipSumBIdeal.nD → PrngReg), Pre_ChipSumBIdeal m →
    θ_run (Cert.ChipSumBIdeal.defs (F := Ideal)) (onTc (τ := Cert.ChipSumBIdeal.τ) (Cert.ChipSumBIdeal.main (F := Ideal))) ⟨m, fun _ => 0, g⟩ (fun r => (∀ c : Dev Cert.ChipSumBIdeal.nD,
      r.2.mem ((c.tc : Thread Cert.ChipSumBIdeal.nD Cert.ChipSumBIdeal.τ).loc Cert.ChipSumBIdeal.main_arg0) = m ((c.tc : Thread Cert.ChipSumBIdeal.nD Cert.ChipSumBIdeal.τ).loc Cert.ChipSumBIdeal.main_arg0)
      ∧ r.2.mem ((c.tc : Thread Cert.ChipSumBIdeal.nD Cert.ChipSumBIdeal.τ).loc Cert.ChipSumBIdeal.main_arg1) = m ((c.tc : Thread Cert.ChipSumBIdeal.nD Cert.ChipSumBIdeal.τ).loc Cert.ChipSumBIdeal.main_arg1)
      ∧ r.2.mem ((c.tc : Thread Cert.ChipSumBIdeal.nD Cert.ChipSumBIdeal.τ).loc Cert.ChipSumBIdeal.main_arg2) = m ((c.tc : Thread Cert.ChipSumBIdeal.nD Cert.ChipSumBIdeal.τ).loc Cert.ChipSumBIdeal.main_arg2)
      ∧ r.2.mem ((c.tc : Thread Cert.ChipSumBIdeal.nD Cert.ChipSumBIdeal.τ).loc Cert.ChipSumBIdeal.main_arg3) = m ((c.tc : Thread Cert.ChipSumBIdeal.nD Cert.ChipSumBIdeal.τ).loc Cert.ChipSumBIdeal.main_arg3))
      ∧ r.2.sem = fun _ => 0)

def quiescent_ChipSumBReferenceIdeal [hChipSumBReferenceIdeal : Cert.ChipSumBReferenceIdeal.Facts] : Prop :=
  ∀ (m : (ℓ : Loc Cert.ChipSumBReferenceIdeal.nD Cert.ChipSumBReferenceIdeal.τ Cert.ChipSumBReferenceIdeal.sig) → Buf (Elt Ideal) ℓ) (g : Dev Cert.ChipSumBReferenceIdeal.nD → PrngReg), Pre_ChipSumBReferenceIdeal m →
    θ_run (Cert.ChipSumBReferenceIdeal.defs (F := Ideal)) (onTc (τ := Cert.ChipSumBReferenceIdeal.τ) (Cert.ChipSumBReferenceIdeal.main (F := Ideal))) ⟨m, fun _ => 0, g⟩ (fun r => (∀ c : Dev Cert.ChipSumBReferenceIdeal.nD,
      r.2.mem ((c.tc : Thread Cert.ChipSumBReferenceIdeal.nD Cert.ChipSumBReferenceIdeal.τ).loc Cert.ChipSumBReferenceIdeal.main_arg0) = m ((c.tc : Thread Cert.ChipSumBReferenceIdeal.nD Cert.ChipSumBReferenceIdeal.τ).loc Cert.ChipSumBReferenceIdeal.main_arg0)
      ∧ r.2.mem ((c.tc : Thread Cert.ChipSumBReferenceIdeal.nD Cert.ChipSumBReferenceIdeal.τ).loc Cert.ChipSumBReferenceIdeal.main_arg1) = m ((c.tc : Thread Cert.ChipSumBReferenceIdeal.nD Cert.ChipSumBReferenceIdeal.τ).loc Cert.ChipSumBReferenceIdeal.main_arg1)
      ∧ r.2.mem ((c.tc : Thread Cert.ChipSumBReferenceIdeal.nD Cert.ChipSumBReferenceIdeal.τ).loc Cert.ChipSumBReferenceIdeal.main_arg2) = m ((c.tc : Thread Cert.ChipSumBReferenceIdeal.nD Cert.ChipSumBReferenceIdeal.τ).loc Cert.ChipSumBReferenceIdeal.main_arg2)
      ∧ r.2.mem ((c.tc : Thread Cert.ChipSumBReferenceIdeal.nD Cert.ChipSumBReferenceIdeal.τ).loc Cert.ChipSumBReferenceIdeal.main_arg3) = m ((c.tc : Thread Cert.ChipSumBReferenceIdeal.nD Cert.ChipSumBReferenceIdeal.τ).loc Cert.ChipSumBReferenceIdeal.main_arg3))
      ∧ r.2.sem = fun _ => 0)

def quiescent_ChipSumBReference [hChipSumBReference : Cert.ChipSumBReference.Facts] : Prop :=
  ∀ (m : (ℓ : Loc Cert.ChipSumBReference.nD Cert.ChipSumBReference.τ Cert.ChipSumBReference.sig) → Buf (Elt Bits) ℓ) (g : Dev Cert.ChipSumBReference.nD → PrngReg), Pre_ChipSumBReference m →
    θ_run (Cert.ChipSumBReference.defs (F := Bits)) (onTc (τ := Cert.ChipSumBReference.τ) (Cert.ChipSumBReference.main (F := Bits))) ⟨m, fun _ => 0, g⟩ (fun r => (∀ c : Dev Cert.ChipSumBReference.nD,
      r.2.mem ((c.tc : Thread Cert.ChipSumBReference.nD Cert.ChipSumBReference.τ).loc Cert.ChipSumBReference.main_arg0) = m ((c.tc : Thread Cert.ChipSumBReference.nD Cert.ChipSumBReference.τ).loc Cert.ChipSumBReference.main_arg0)
      ∧ r.2.mem ((c.tc : Thread Cert.ChipSumBReference.nD Cert.ChipSumBReference.τ).loc Cert.ChipSumBReference.main_arg1) = m ((c.tc : Thread Cert.ChipSumBReference.nD Cert.ChipSumBReference.τ).loc Cert.ChipSumBReference.main_arg1)
      ∧ r.2.mem ((c.tc : Thread Cert.ChipSumBReference.nD Cert.ChipSumBReference.τ).loc Cert.ChipSumBReference.main_arg2) = m ((c.tc : Thread Cert.ChipSumBReference.nD Cert.ChipSumBReference.τ).loc Cert.ChipSumBReference.main_arg2)
      ∧ r.2.mem ((c.tc : Thread Cert.ChipSumBReference.nD Cert.ChipSumBReference.τ).loc Cert.ChipSumBReference.main_arg3) = m ((c.tc : Thread Cert.ChipSumBReference.nD Cert.ChipSumBReference.τ).loc Cert.ChipSumBReference.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamBranchA [hAdamBranchA : Cert.AdamBranchA.Facts] : Prop :=
  ∀ (m : (ℓ : Loc Cert.AdamBranchA.nD Cert.AdamBranchA.τ Cert.AdamBranchA.sig) → Buf (Elt Bits) ℓ) (g : Dev Cert.AdamBranchA.nD → PrngReg), Pre_AdamBranchA m →
    θ_run (Cert.AdamBranchA.defs (F := Bits)) (onTc (τ := Cert.AdamBranchA.τ) (Cert.AdamBranchA.main (F := Bits))) ⟨m, fun _ => 0, g⟩ (fun r => (∀ c : Dev Cert.AdamBranchA.nD,
      r.2.mem ((c.tc : Thread Cert.AdamBranchA.nD Cert.AdamBranchA.τ).loc Cert.AdamBranchA.main_arg0) = m ((c.tc : Thread Cert.AdamBranchA.nD Cert.AdamBranchA.τ).loc Cert.AdamBranchA.main_arg0)
      ∧ r.2.mem ((c.tc : Thread Cert.AdamBranchA.nD Cert.AdamBranchA.τ).loc Cert.AdamBranchA.main_arg1) = m ((c.tc : Thread Cert.AdamBranchA.nD Cert.AdamBranchA.τ).loc Cert.AdamBranchA.main_arg1)
      ∧ r.2.mem ((c.tc : Thread Cert.AdamBranchA.nD Cert.AdamBranchA.τ).loc Cert.AdamBranchA.main_arg2) = m ((c.tc : Thread Cert.AdamBranchA.nD Cert.AdamBranchA.τ).loc Cert.AdamBranchA.main_arg2)
      ∧ r.2.mem ((c.tc : Thread Cert.AdamBranchA.nD Cert.AdamBranchA.τ).loc Cert.AdamBranchA.main_arg3) = m ((c.tc : Thread Cert.AdamBranchA.nD Cert.AdamBranchA.τ).loc Cert.AdamBranchA.main_arg3))
      ∧ r.2.sem = fun _ => 0)

def quiescent_AdamBranchAIdeal [hAdamBranchAIdeal : Cert.AdamBranchAIdeal.Facts] : Prop :=
  ∀ (m : (ℓ : Loc Cert.AdamBranchAIdeal.nD Cert.AdamBranchAIdeal.τ Cert.AdamBranchAIdeal.sig) → Buf (Elt Ideal) ℓ) (g : Dev Cert.AdamBranchAIdeal.nD → PrngReg), Pre_AdamBranchAIdeal m →
    θ_run (Cert.AdamBranchAIdeal.defs (F := Ideal)) (onTc (τ := Cert.AdamBranchAIdeal.τ) (Cert.AdamBranchAIdeal.main (F := Ideal))) ⟨m, fun _ => 0, g⟩ (fun r => (∀ c : Dev Cert.AdamBranchAIdeal.nD,
      r.2.mem ((c.tc : Thread Cert.AdamBranchAIdeal.nD Cert.AdamBranchAIdeal.τ).loc Cert.AdamBranchAIdeal.main_arg0) = m ((c.tc : Thread Cert.AdamBranchAIdeal.nD Cert.AdamBranchAIdeal.τ).loc Cert.AdamBranchAIdeal.main_arg0)
      ∧ r.2.mem ((c.tc : Thread Cert.AdamBranchAIdeal.nD Cert.AdamBranchAIdeal.τ).loc Cert.AdamBranchAIdeal.main_arg1) = m ((c.tc : Thread Cert.AdamBranchAIdeal.nD Cert.AdamBranchAIdeal.τ).loc Cert.AdamBranchAIdeal.main_arg1)
      ∧ r.2.mem ((c.tc : Thread Cert.AdamBranchAIdeal.nD Cert.AdamBranchAIdeal.τ).loc Cert.AdamBranchAIdeal.main_arg2) = m ((c.tc : Thread Cert.AdamBranchAIdeal.nD Cert.AdamBranchAIdeal.τ).loc Cert.AdamBranchAIdeal.main_arg2)
      ∧ r.2.mem ((c.tc : Thread Cert.AdamBranchAIdeal.nD Cert.AdamBranchAIdeal.τ).loc Cert.AdamBranchAIdeal.main_arg3) = m ((c.tc : Thread Cert.AdamBranchAIdeal.nD Cert.AdamBranchAIdeal.τ).loc Cert.AdamBranchAIdeal.main_arg3))
      ∧ r.2.sem = fun _ => 0)

def quiescent_AdamBranchAReferenceIdeal [hAdamBranchAReferenceIdeal : Cert.AdamBranchAReferenceIdeal.Facts] : Prop :=
  ∀ (m : (ℓ : Loc Cert.AdamBranchAReferenceIdeal.nD Cert.AdamBranchAReferenceIdeal.τ Cert.AdamBranchAReferenceIdeal.sig) → Buf (Elt Ideal) ℓ) (g : Dev Cert.AdamBranchAReferenceIdeal.nD → PrngReg), Pre_AdamBranchAReferenceIdeal m →
    θ_run (Cert.AdamBranchAReferenceIdeal.defs (F := Ideal)) (onTc (τ := Cert.AdamBranchAReferenceIdeal.τ) (Cert.AdamBranchAReferenceIdeal.main (F := Ideal))) ⟨m, fun _ => 0, g⟩ (fun r => (∀ c : Dev Cert.AdamBranchAReferenceIdeal.nD,
      r.2.mem ((c.tc : Thread Cert.AdamBranchAReferenceIdeal.nD Cert.AdamBranchAReferenceIdeal.τ).loc Cert.AdamBranchAReferenceIdeal.main_arg0) = m ((c.tc : Thread Cert.AdamBranchAReferenceIdeal.nD Cert.AdamBranchAReferenceIdeal.τ).loc Cert.AdamBranchAReferenceIdeal.main_arg0)
      ∧ r.2.mem ((c.tc : Thread Cert.AdamBranchAReferenceIdeal.nD Cert.AdamBranchAReferenceIdeal.τ).loc Cert.AdamBranchAReferenceIdeal.main_arg1) = m ((c.tc : Thread Cert.AdamBranchAReferenceIdeal.nD Cert.AdamBranchAReferenceIdeal.τ).loc Cert.AdamBranchAReferenceIdeal.main_arg1)
      ∧ r.2.mem ((c.tc : Thread Cert.AdamBranchAReferenceIdeal.nD Cert.AdamBranchAReferenceIdeal.τ).loc Cert.AdamBranchAReferenceIdeal.main_arg2) = m ((c.tc : Thread Cert.AdamBranchAReferenceIdeal.nD Cert.AdamBranchAReferenceIdeal.τ).loc Cert.AdamBranchAReferenceIdeal.main_arg2)
      ∧ r.2.mem ((c.tc : Thread Cert.AdamBranchAReferenceIdeal.nD Cert.AdamBranchAReferenceIdeal.τ).loc Cert.AdamBranchAReferenceIdeal.main_arg3) = m ((c.tc : Thread Cert.AdamBranchAReferenceIdeal.nD Cert.AdamBranchAReferenceIdeal.τ).loc Cert.AdamBranchAReferenceIdeal.main_arg3))
      ∧ r.2.sem = fun _ => 0)

def quiescent_AdamBranchB [hAdamBranchB : Cert.AdamBranchB.Facts] : Prop :=
  ∀ (m : (ℓ : Loc Cert.AdamBranchB.nD Cert.AdamBranchB.τ Cert.AdamBranchB.sig) → Buf (Elt Bits) ℓ) (g : Dev Cert.AdamBranchB.nD → PrngReg), Pre_AdamBranchB m →
    θ_run (Cert.AdamBranchB.defs (F := Bits)) (onTc (τ := Cert.AdamBranchB.τ) (Cert.AdamBranchB.main (F := Bits))) ⟨m, fun _ => 0, g⟩ (fun r => (∀ c : Dev Cert.AdamBranchB.nD,
      r.2.mem ((c.tc : Thread Cert.AdamBranchB.nD Cert.AdamBranchB.τ).loc Cert.AdamBranchB.main_arg0) = m ((c.tc : Thread Cert.AdamBranchB.nD Cert.AdamBranchB.τ).loc Cert.AdamBranchB.main_arg0)
      ∧ r.2.mem ((c.tc : Thread Cert.AdamBranchB.nD Cert.AdamBranchB.τ).loc Cert.AdamBranchB.main_arg1) = m ((c.tc : Thread Cert.AdamBranchB.nD Cert.AdamBranchB.τ).loc Cert.AdamBranchB.main_arg1)
      ∧ r.2.mem ((c.tc : Thread Cert.AdamBranchB.nD Cert.AdamBranchB.τ).loc Cert.AdamBranchB.main_arg2) = m ((c.tc : Thread Cert.AdamBranchB.nD Cert.AdamBranchB.τ).loc Cert.AdamBranchB.main_arg2)
      ∧ r.2.mem ((c.tc : Thread Cert.AdamBranchB.nD Cert.AdamBranchB.τ).loc Cert.AdamBranchB.main_arg3) = m ((c.tc : Thread Cert.AdamBranchB.nD Cert.AdamBranchB.τ).loc Cert.AdamBranchB.main_arg3))
      ∧ r.2.sem = fun _ => 0)

def quiescent_AdamBranchBIdeal [hAdamBranchBIdeal : Cert.AdamBranchBIdeal.Facts] : Prop :=
  ∀ (m : (ℓ : Loc Cert.AdamBranchBIdeal.nD Cert.AdamBranchBIdeal.τ Cert.AdamBranchBIdeal.sig) → Buf (Elt Ideal) ℓ) (g : Dev Cert.AdamBranchBIdeal.nD → PrngReg), Pre_AdamBranchBIdeal m →
    θ_run (Cert.AdamBranchBIdeal.defs (F := Ideal)) (onTc (τ := Cert.AdamBranchBIdeal.τ) (Cert.AdamBranchBIdeal.main (F := Ideal))) ⟨m, fun _ => 0, g⟩ (fun r => (∀ c : Dev Cert.AdamBranchBIdeal.nD,
      r.2.mem ((c.tc : Thread Cert.AdamBranchBIdeal.nD Cert.AdamBranchBIdeal.τ).loc Cert.AdamBranchBIdeal.main_arg0) = m ((c.tc : Thread Cert.AdamBranchBIdeal.nD Cert.AdamBranchBIdeal.τ).loc Cert.AdamBranchBIdeal.main_arg0)
      ∧ r.2.mem ((c.tc : Thread Cert.AdamBranchBIdeal.nD Cert.AdamBranchBIdeal.τ).loc Cert.AdamBranchBIdeal.main_arg1) = m ((c.tc : Thread Cert.AdamBranchBIdeal.nD Cert.AdamBranchBIdeal.τ).loc Cert.AdamBranchBIdeal.main_arg1)
      ∧ r.2.mem ((c.tc : Thread Cert.AdamBranchBIdeal.nD Cert.AdamBranchBIdeal.τ).loc Cert.AdamBranchBIdeal.main_arg2) = m ((c.tc : Thread Cert.AdamBranchBIdeal.nD Cert.AdamBranchBIdeal.τ).loc Cert.AdamBranchBIdeal.main_arg2)
      ∧ r.2.mem ((c.tc : Thread Cert.AdamBranchBIdeal.nD Cert.AdamBranchBIdeal.τ).loc Cert.AdamBranchBIdeal.main_arg3) = m ((c.tc : Thread Cert.AdamBranchBIdeal.nD Cert.AdamBranchBIdeal.τ).loc Cert.AdamBranchBIdeal.main_arg3))
      ∧ r.2.sem = fun _ => 0)

def quiescent_AdamBranchBReferenceIdeal [hAdamBranchBReferenceIdeal : Cert.AdamBranchBReferenceIdeal.Facts] : Prop :=
  ∀ (m : (ℓ : Loc Cert.AdamBranchBReferenceIdeal.nD Cert.AdamBranchBReferenceIdeal.τ Cert.AdamBranchBReferenceIdeal.sig) → Buf (Elt Ideal) ℓ) (g : Dev Cert.AdamBranchBReferenceIdeal.nD → PrngReg), Pre_AdamBranchBReferenceIdeal m →
    θ_run (Cert.AdamBranchBReferenceIdeal.defs (F := Ideal)) (onTc (τ := Cert.AdamBranchBReferenceIdeal.τ) (Cert.AdamBranchBReferenceIdeal.main (F := Ideal))) ⟨m, fun _ => 0, g⟩ (fun r => (∀ c : Dev Cert.AdamBranchBReferenceIdeal.nD,
      r.2.mem ((c.tc : Thread Cert.AdamBranchBReferenceIdeal.nD Cert.AdamBranchBReferenceIdeal.τ).loc Cert.AdamBranchBReferenceIdeal.main_arg0) = m ((c.tc : Thread Cert.AdamBranchBReferenceIdeal.nD Cert.AdamBranchBReferenceIdeal.τ).loc Cert.AdamBranchBReferenceIdeal.main_arg0)
      ∧ r.2.mem ((c.tc : Thread Cert.AdamBranchBReferenceIdeal.nD Cert.AdamBranchBReferenceIdeal.τ).loc Cert.AdamBranchBReferenceIdeal.main_arg1) = m ((c.tc : Thread Cert.AdamBranchBReferenceIdeal.nD Cert.AdamBranchBReferenceIdeal.τ).loc Cert.AdamBranchBReferenceIdeal.main_arg1)
      ∧ r.2.mem ((c.tc : Thread Cert.AdamBranchBReferenceIdeal.nD Cert.AdamBranchBReferenceIdeal.τ).loc Cert.AdamBranchBReferenceIdeal.main_arg2) = m ((c.tc : Thread Cert.AdamBranchBReferenceIdeal.nD Cert.AdamBranchBReferenceIdeal.τ).loc Cert.AdamBranchBReferenceIdeal.main_arg2)
      ∧ r.2.mem ((c.tc : Thread Cert.AdamBranchBReferenceIdeal.nD Cert.AdamBranchBReferenceIdeal.τ).loc Cert.AdamBranchBReferenceIdeal.main_arg3) = m ((c.tc : Thread Cert.AdamBranchBReferenceIdeal.nD Cert.AdamBranchBReferenceIdeal.τ).loc Cert.AdamBranchBReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25)
      ∧ r.2.mem ((c.tc : Thread Cert.AdamSmallReferenceIdeal.nD Cert.AdamSmallReferenceIdeal.τ).loc Cert.AdamSmallReferenceIdeal.main_arg26) = m ((c.tc : Thread Cert.AdamSmallReferenceIdeal.nD Cert.AdamSmallReferenceIdeal.τ).loc Cert.AdamSmallReferenceIdeal.main_arg26)
      ∧ r.2.mem ((c.tc : Thread Cert.AdamSmallReferenceIdeal.nD Cert.AdamSmallReferenceIdeal.τ).loc Cert.AdamSmallReferenceIdeal.main_arg27) = m ((c.tc : Thread Cert.AdamSmallReferenceIdeal.nD Cert.AdamSmallReferenceIdeal.τ).loc Cert.AdamSmallReferenceIdeal.main_arg27))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdReferenceIdeal [hFfnBwdReferenceIdeal : Cert.FfnBwdReferenceIdeal.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4)
      ∧ r.2.mem ((c.tc : Thread Cert.FfnBwdReferenceIdeal.nD Cert.FfnBwdReferenceIdeal.τ).loc Cert.FfnBwdReferenceIdeal.main_arg5) = m ((c.tc : Thread Cert.FfnBwdReferenceIdeal.nD Cert.FfnBwdReferenceIdeal.τ).loc Cert.FfnBwdReferenceIdeal.main_arg5)
      ∧ r.2.mem ((c.tc : Thread Cert.FfnBwdReferenceIdeal.nD Cert.FfnBwdReferenceIdeal.τ).loc Cert.FfnBwdReferenceIdeal.main_arg6) = m ((c.tc : Thread Cert.FfnBwdReferenceIdeal.nD Cert.FfnBwdReferenceIdeal.τ).loc Cert.FfnBwdReferenceIdeal.main_arg6)
      ∧ r.2.mem ((c.tc : Thread Cert.FfnBwdReferenceIdeal.nD Cert.FfnBwdReferenceIdeal.τ).loc Cert.FfnBwdReferenceIdeal.main_arg7) = m ((c.tc : Thread Cert.FfnBwdReferenceIdeal.nD Cert.FfnBwdReferenceIdeal.τ).loc Cert.FfnBwdReferenceIdeal.main_arg7))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpReferenceIdeal [hGradUpReferenceIdeal : Cert.GradUpReferenceIdeal.Facts] : Prop :=
  ∀ (m : (ℓ : Loc Cert.GradUpReferenceIdeal.nD Cert.GradUpReferenceIdeal.τ Cert.GradUpReferenceIdeal.sig) → Buf (Elt Ideal) ℓ) (g : Dev Cert.GradUpReferenceIdeal.nD → PrngReg), Pre_GradUpReferenceIdeal m →
    θ_run (Cert.GradUpReferenceIdeal.defs (F := Ideal)) (onTc (τ := Cert.GradUpReferenceIdeal.τ) (Cert.GradUpReferenceIdeal.main (F := Ideal))) ⟨m, fun _ => 0, g⟩ (fun r => (∀ c : Dev Cert.GradUpReferenceIdeal.nD,
      r.2.mem ((c.tc : Thread Cert.GradUpReferenceIdeal.nD Cert.GradUpReferenceIdeal.τ).loc Cert.GradUpReferenceIdeal.main_arg0) = m ((c.tc : Thread Cert.GradUpReferenceIdeal.nD Cert.GradUpReferenceIdeal.τ).loc Cert.GradUpReferenceIdeal.main_arg0)
      ∧ r.2.mem ((c.tc : Thread Cert.GradUpReferenceIdeal.nD Cert.GradUpReferenceIdeal.τ).loc Cert.GradUpReferenceIdeal.main_arg1) = m ((c.tc : Thread Cert.GradUpReferenceIdeal.nD Cert.GradUpReferenceIdeal.τ).loc Cert.GradUpReferenceIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownReferenceIdeal [hGradDownReferenceIdeal : Cert.GradDownReferenceIdeal.Facts] : Prop :=
  ∀ (m : (ℓ : Loc Cert.GradDownReferenceIdeal.nD Cert.GradDownReferenceIdeal.τ Cert.GradDownReferenceIdeal.sig) → Buf (Elt Ideal) ℓ) (g : Dev Cert.GradDownReferenceIdeal.nD → PrngReg), Pre_GradDownReferenceIdeal m →
    θ_run (Cert.GradDownReferenceIdeal.defs (F := Ideal)) (onTc (τ := Cert.GradDownReferenceIdeal.τ) (Cert.GradDownReferenceIdeal.main (F := Ideal))) ⟨m, fun _ => 0, g⟩ (fun r => (∀ c : Dev Cert.GradDownReferenceIdeal.nD,
      r.2.mem ((c.tc : Thread Cert.GradDownReferenceIdeal.nD Cert.GradDownReferenceIdeal.τ).loc Cert.GradDownReferenceIdeal.main_arg0) = m ((c.tc : Thread Cert.GradDownReferenceIdeal.nD Cert.GradDownReferenceIdeal.τ).loc Cert.GradDownReferenceIdeal.main_arg0)
      ∧ r.2.mem ((c.tc : Thread Cert.GradDownReferenceIdeal.nD Cert.GradDownReferenceIdeal.τ).loc Cert.GradDownReferenceIdeal.main_arg1) = m ((c.tc : Thread Cert.GradDownReferenceIdeal.nD Cert.GradDownReferenceIdeal.τ).loc Cert.GradDownReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradBranchA [hGradBranchA : Cert.GradBranchA.Facts] : Prop :=
  ∀ (m : (ℓ : Loc Cert.GradBranchA.nD Cert.GradBranchA.τ Cert.GradBranchA.sig) → Buf (Elt Bits) ℓ) (g : Dev Cert.GradBranchA.nD → PrngReg), Pre_GradBranchA m →
    θ_run (Cert.GradBranchA.defs (F := Bits)) (onTc (τ := Cert.GradBranchA.τ) (Cert.GradBranchA.main (F := Bits))) ⟨m, fun _ => 0, g⟩ (fun r => (∀ c : Dev Cert.GradBranchA.nD,
      r.2.mem ((c.tc : Thread Cert.GradBranchA.nD Cert.GradBranchA.τ).loc Cert.GradBranchA.main_arg0) = m ((c.tc : Thread Cert.GradBranchA.nD Cert.GradBranchA.τ).loc Cert.GradBranchA.main_arg0)
      ∧ r.2.mem ((c.tc : Thread Cert.GradBranchA.nD Cert.GradBranchA.τ).loc Cert.GradBranchA.main_arg1) = m ((c.tc : Thread Cert.GradBranchA.nD Cert.GradBranchA.τ).loc Cert.GradBranchA.main_arg1))
      ∧ r.2.sem = fun _ => 0)

def quiescent_GradBranchAIdeal [hGradBranchAIdeal : Cert.GradBranchAIdeal.Facts] : Prop :=
  ∀ (m : (ℓ : Loc Cert.GradBranchAIdeal.nD Cert.GradBranchAIdeal.τ Cert.GradBranchAIdeal.sig) → Buf (Elt Ideal) ℓ) (g : Dev Cert.GradBranchAIdeal.nD → PrngReg), Pre_GradBranchAIdeal m →
    θ_run (Cert.GradBranchAIdeal.defs (F := Ideal)) (onTc (τ := Cert.GradBranchAIdeal.τ) (Cert.GradBranchAIdeal.main (F := Ideal))) ⟨m, fun _ => 0, g⟩ (fun r => (∀ c : Dev Cert.GradBranchAIdeal.nD,
      r.2.mem ((c.tc : Thread Cert.GradBranchAIdeal.nD Cert.GradBranchAIdeal.τ).loc Cert.GradBranchAIdeal.main_arg0) = m ((c.tc : Thread Cert.GradBranchAIdeal.nD Cert.GradBranchAIdeal.τ).loc Cert.GradBranchAIdeal.main_arg0)
      ∧ r.2.mem ((c.tc : Thread Cert.GradBranchAIdeal.nD Cert.GradBranchAIdeal.τ).loc Cert.GradBranchAIdeal.main_arg1) = m ((c.tc : Thread Cert.GradBranchAIdeal.nD Cert.GradBranchAIdeal.τ).loc Cert.GradBranchAIdeal.main_arg1))
      ∧ r.2.sem = fun _ => 0)

def quiescent_GradBranchAReferenceIdeal [hGradBranchAReferenceIdeal : Cert.GradBranchAReferenceIdeal.Facts] : Prop :=
  ∀ (m : (ℓ : Loc Cert.GradBranchAReferenceIdeal.nD Cert.GradBranchAReferenceIdeal.τ Cert.GradBranchAReferenceIdeal.sig) → Buf (Elt Ideal) ℓ) (g : Dev Cert.GradBranchAReferenceIdeal.nD → PrngReg), Pre_GradBranchAReferenceIdeal m →
    θ_run (Cert.GradBranchAReferenceIdeal.defs (F := Ideal)) (onTc (τ := Cert.GradBranchAReferenceIdeal.τ) (Cert.GradBranchAReferenceIdeal.main (F := Ideal))) ⟨m, fun _ => 0, g⟩ (fun r => (∀ c : Dev Cert.GradBranchAReferenceIdeal.nD,
      r.2.mem ((c.tc : Thread Cert.GradBranchAReferenceIdeal.nD Cert.GradBranchAReferenceIdeal.τ).loc Cert.GradBranchAReferenceIdeal.main_arg0) = m ((c.tc : Thread Cert.GradBranchAReferenceIdeal.nD Cert.GradBranchAReferenceIdeal.τ).loc Cert.GradBranchAReferenceIdeal.main_arg0)
      ∧ r.2.mem ((c.tc : Thread Cert.GradBranchAReferenceIdeal.nD Cert.GradBranchAReferenceIdeal.τ).loc Cert.GradBranchAReferenceIdeal.main_arg1) = m ((c.tc : Thread Cert.GradBranchAReferenceIdeal.nD Cert.GradBranchAReferenceIdeal.τ).loc Cert.GradBranchAReferenceIdeal.main_arg1))
      ∧ r.2.sem = fun _ => 0)

def quiescent_GradBranchB [hGradBranchB : Cert.GradBranchB.Facts] : Prop :=
  ∀ (m : (ℓ : Loc Cert.GradBranchB.nD Cert.GradBranchB.τ Cert.GradBranchB.sig) → Buf (Elt Bits) ℓ) (g : Dev Cert.GradBranchB.nD → PrngReg), Pre_GradBranchB m →
    θ_run (Cert.GradBranchB.defs (F := Bits)) (onTc (τ := Cert.GradBranchB.τ) (Cert.GradBranchB.main (F := Bits))) ⟨m, fun _ => 0, g⟩ (fun r => (∀ c : Dev Cert.GradBranchB.nD,
      r.2.mem ((c.tc : Thread Cert.GradBranchB.nD Cert.GradBranchB.τ).loc Cert.GradBranchB.main_arg0) = m ((c.tc : Thread Cert.GradBranchB.nD Cert.GradBranchB.τ).loc Cert.GradBranchB.main_arg0)
      ∧ r.2.mem ((c.tc : Thread Cert.GradBranchB.nD Cert.GradBranchB.τ).loc Cert.GradBranchB.main_arg1) = m ((c.tc : Thread Cert.GradBranchB.nD Cert.GradBranchB.τ).loc Cert.GradBranchB.main_arg1))
      ∧ r.2.sem = fun _ => 0)

def quiescent_GradBranchBIdeal [hGradBranchBIdeal : Cert.GradBranchBIdeal.Facts] : Prop :=
  ∀ (m : (ℓ : Loc Cert.GradBranchBIdeal.nD Cert.GradBranchBIdeal.τ Cert.GradBranchBIdeal.sig) → Buf (Elt Ideal) ℓ) (g : Dev Cert.GradBranchBIdeal.nD → PrngReg), Pre_GradBranchBIdeal m →
    θ_run (Cert.GradBranchBIdeal.defs (F := Ideal)) (onTc (τ := Cert.GradBranchBIdeal.τ) (Cert.GradBranchBIdeal.main (F := Ideal))) ⟨m, fun _ => 0, g⟩ (fun r => (∀ c : Dev Cert.GradBranchBIdeal.nD,
      r.2.mem ((c.tc : Thread Cert.GradBranchBIdeal.nD Cert.GradBranchBIdeal.τ).loc Cert.GradBranchBIdeal.main_arg0) = m ((c.tc : Thread Cert.GradBranchBIdeal.nD Cert.GradBranchBIdeal.τ).loc Cert.GradBranchBIdeal.main_arg0)
      ∧ r.2.mem ((c.tc : Thread Cert.GradBranchBIdeal.nD Cert.GradBranchBIdeal.τ).loc Cert.GradBranchBIdeal.main_arg1) = m ((c.tc : Thread Cert.GradBranchBIdeal.nD Cert.GradBranchBIdeal.τ).loc Cert.GradBranchBIdeal.main_arg1))
      ∧ r.2.sem = fun _ => 0)

def quiescent_GradBranchBReferenceIdeal [hGradBranchBReferenceIdeal : Cert.GradBranchBReferenceIdeal.Facts] : Prop :=
  ∀ (m : (ℓ : Loc Cert.GradBranchBReferenceIdeal.nD Cert.GradBranchBReferenceIdeal.τ Cert.GradBranchBReferenceIdeal.sig) → Buf (Elt Ideal) ℓ) (g : Dev Cert.GradBranchBReferenceIdeal.nD → PrngReg), Pre_GradBranchBReferenceIdeal m →
    θ_run (Cert.GradBranchBReferenceIdeal.defs (F := Ideal)) (onTc (τ := Cert.GradBranchBReferenceIdeal.τ) (Cert.GradBranchBReferenceIdeal.main (F := Ideal))) ⟨m, fun _ => 0, g⟩ (fun r => (∀ c : Dev Cert.GradBranchBReferenceIdeal.nD,
      r.2.mem ((c.tc : Thread Cert.GradBranchBReferenceIdeal.nD Cert.GradBranchBReferenceIdeal.τ).loc Cert.GradBranchBReferenceIdeal.main_arg0) = m ((c.tc : Thread Cert.GradBranchBReferenceIdeal.nD Cert.GradBranchBReferenceIdeal.τ).loc Cert.GradBranchBReferenceIdeal.main_arg0)
      ∧ r.2.mem ((c.tc : Thread Cert.GradBranchBReferenceIdeal.nD Cert.GradBranchBReferenceIdeal.τ).loc Cert.GradBranchBReferenceIdeal.main_arg1) = m ((c.tc : Thread Cert.GradBranchBReferenceIdeal.nD Cert.GradBranchBReferenceIdeal.τ).loc Cert.GradBranchBReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1)
      ∧ r.2.mem ((c.tc : Thread Cert.InFwdReferenceIdeal.nD Cert.InFwdReferenceIdeal.τ).loc Cert.InFwdReferenceIdeal.main_arg2) = m ((c.tc : Thread Cert.InFwdReferenceIdeal.nD Cert.InFwdReferenceIdeal.τ).loc Cert.InFwdReferenceIdeal.main_arg2)
      ∧ r.2.mem ((c.tc : Thread Cert.InFwdReferenceIdeal.nD Cert.InFwdReferenceIdeal.τ).loc Cert.InFwdReferenceIdeal.main_arg3) = m ((c.tc : Thread Cert.InFwdReferenceIdeal.nD Cert.InFwdReferenceIdeal.τ).loc Cert.InFwdReferenceIdeal.main_arg3))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3)
      ∧ r.2.mem ((c.tc : Thread Cert.InBwdReferenceIdeal.nD Cert.InBwdReferenceIdeal.τ).loc Cert.InBwdReferenceIdeal.main_arg4) = m ((c.tc : Thread Cert.InBwdReferenceIdeal.nD Cert.InBwdReferenceIdeal.τ).loc Cert.InBwdReferenceIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8)
      ∧ r.2.mem ((c.tc : Thread Cert.MergeFwd.nD Cert.MergeFwd.τ).loc Cert.MergeFwd.main_arg9) = m ((c.tc : Thread Cert.MergeFwd.nD Cert.MergeFwd.τ).loc Cert.MergeFwd.main_arg9)
      ∧ r.2.mem ((c.tc : Thread Cert.MergeFwd.nD Cert.MergeFwd.τ).loc Cert.MergeFwd.main_arg10) = m ((c.tc : Thread Cert.MergeFwd.nD Cert.MergeFwd.τ).loc Cert.MergeFwd.main_arg10)
      ∧ r.2.mem ((c.tc : Thread Cert.MergeFwd.nD Cert.MergeFwd.τ).loc Cert.MergeFwd.main_arg11) = m ((c.tc : Thread Cert.MergeFwd.nD Cert.MergeFwd.τ).loc Cert.MergeFwd.main_arg11))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
      ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
      ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10)
      ∧ r.2.mem ((c.tc : Thread Cert.MergeFwdIdeal.nD Cert.MergeFwdIdeal.τ).loc Cert.MergeFwdIdeal.main_arg11) = m ((c.tc : Thread Cert.MergeFwdIdeal.nD Cert.MergeFwdIdeal.τ).loc Cert.MergeFwdIdeal.main_arg11))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6)
      ∧ r.2.mem ((c.tc : Thread Cert.MergeFwdReferenceIdeal.nD Cert.MergeFwdReferenceIdeal.τ).loc Cert.MergeFwdReferenceIdeal.main_arg7) = m ((c.tc : Thread Cert.MergeFwdReferenceIdeal.nD Cert.MergeFwdReferenceIdeal.τ).loc Cert.MergeFwdReferenceIdeal.main_arg7)
      ∧ r.2.mem ((c.tc : Thread Cert.MergeFwdReferenceIdeal.nD Cert.MergeFwdReferenceIdeal.τ).loc Cert.MergeFwdReferenceIdeal.main_arg8) = m ((c.tc : Thread Cert.MergeFwdReferenceIdeal.nD Cert.MergeFwdReferenceIdeal.τ).loc Cert.MergeFwdReferenceIdeal.main_arg8)
      ∧ r.2.mem ((c.tc : Thread Cert.MergeFwdReferenceIdeal.nD Cert.MergeFwdReferenceIdeal.τ).loc Cert.MergeFwdReferenceIdeal.main_arg9) = m ((c.tc : Thread Cert.MergeFwdReferenceIdeal.nD Cert.MergeFwdReferenceIdeal.τ).loc Cert.MergeFwdReferenceIdeal.main_arg9)
      ∧ r.2.mem ((c.tc : Thread Cert.MergeFwdReferenceIdeal.nD Cert.MergeFwdReferenceIdeal.τ).loc Cert.MergeFwdReferenceIdeal.main_arg10) = m ((c.tc : Thread Cert.MergeFwdReferenceIdeal.nD Cert.MergeFwdReferenceIdeal.τ).loc Cert.MergeFwdReferenceIdeal.main_arg10)
      ∧ r.2.mem ((c.tc : Thread Cert.MergeFwdReferenceIdeal.nD Cert.MergeFwdReferenceIdeal.τ).loc Cert.MergeFwdReferenceIdeal.main_arg11) = m ((c.tc : Thread Cert.MergeFwdReferenceIdeal.nD Cert.MergeFwdReferenceIdeal.τ).loc Cert.MergeFwdReferenceIdeal.main_arg11))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7)
      ∧ r.2.mem ((c.tc : Thread Cert.MergeBwd.nD Cert.MergeBwd.τ).loc Cert.MergeBwd.main_arg8) = m ((c.tc : Thread Cert.MergeBwd.nD Cert.MergeBwd.τ).loc Cert.MergeBwd.main_arg8))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
      ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4)
      ∧ r.2.mem ((c.tc : Thread Cert.MergeBwdReferenceIdeal.nD Cert.MergeBwdReferenceIdeal.τ).loc Cert.MergeBwdReferenceIdeal.main_arg5) = m ((c.tc : Thread Cert.MergeBwdReferenceIdeal.nD Cert.MergeBwdReferenceIdeal.τ).loc Cert.MergeBwdReferenceIdeal.main_arg5)
      ∧ r.2.mem ((c.tc : Thread Cert.MergeBwdReferenceIdeal.nD Cert.MergeBwdReferenceIdeal.τ).loc Cert.MergeBwdReferenceIdeal.main_arg6) = m ((c.tc : Thread Cert.MergeBwdReferenceIdeal.nD Cert.MergeBwdReferenceIdeal.τ).loc Cert.MergeBwdReferenceIdeal.main_arg6)
      ∧ r.2.mem ((c.tc : Thread Cert.MergeBwdReferenceIdeal.nD Cert.MergeBwdReferenceIdeal.τ).loc Cert.MergeBwdReferenceIdeal.main_arg7) = m ((c.tc : Thread Cert.MergeBwdReferenceIdeal.nD Cert.MergeBwdReferenceIdeal.τ).loc Cert.MergeBwdReferenceIdeal.main_arg7)
      ∧ r.2.mem ((c.tc : Thread Cert.MergeBwdReferenceIdeal.nD Cert.MergeBwdReferenceIdeal.τ).loc Cert.MergeBwdReferenceIdeal.main_arg8) = m ((c.tc : Thread Cert.MergeBwdReferenceIdeal.nD Cert.MergeBwdReferenceIdeal.τ).loc Cert.MergeBwdReferenceIdeal.main_arg8))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0)
      ∧ r.2.mem ((c.tc : Thread Cert.BiasGrad.nD Cert.BiasGrad.τ).loc Cert.BiasGrad.main_arg1) = m ((c.tc : Thread Cert.BiasGrad.nD Cert.BiasGrad.τ).loc Cert.BiasGrad.main_arg1))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ r.2.sem = fun _ => 0)

def quiescent_BiasGradReferenceIdeal [hBiasGradReferenceIdeal : Cert.BiasGradReferenceIdeal.Facts] : Prop :=
  ∀ (m : (ℓ : Loc Cert.BiasGradReferenceIdeal.nD Cert.BiasGradReferenceIdeal.τ Cert.BiasGradReferenceIdeal.sig) → Buf (Elt Ideal) ℓ) (g : Dev Cert.BiasGradReferenceIdeal.nD → PrngReg), Pre_BiasGradReferenceIdeal m →
    θ_run (Cert.BiasGradReferenceIdeal.defs (F := Ideal)) (onTc (τ := Cert.BiasGradReferenceIdeal.τ) (Cert.BiasGradReferenceIdeal.main (F := Ideal))) ⟨m, fun _ => 0, g⟩ (fun r => (∀ c : Dev Cert.BiasGradReferenceIdeal.nD,
      r.2.mem ((c.tc : Thread Cert.BiasGradReferenceIdeal.nD Cert.BiasGradReferenceIdeal.τ).loc Cert.BiasGradReferenceIdeal.main_arg0) = m ((c.tc : Thread Cert.BiasGradReferenceIdeal.nD Cert.BiasGradReferenceIdeal.τ).loc Cert.BiasGradReferenceIdeal.main_arg0)
      ∧ r.2.mem ((c.tc : Thread Cert.BiasGradReferenceIdeal.nD Cert.BiasGradReferenceIdeal.τ).loc Cert.BiasGradReferenceIdeal.main_arg1) = m ((c.tc : Thread Cert.BiasGradReferenceIdeal.nD Cert.BiasGradReferenceIdeal.τ).loc Cert.BiasGradReferenceIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def preserves_Half_HalfIdeal : Prop :=
  True

def algebraic_HalfIdeal_HalfReferenceIdeal [hHalfIdeal : Cert.HalfIdeal.Facts] [hHalfReferenceIdeal : Cert.HalfReferenceIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfReferenceIdeal.nD Cert.HalfReferenceIdeal.τ Cert.HalfReferenceIdeal.sig) → Buf (Elt Ideal) ℓ) (g' : Dev Cert.HalfReferenceIdeal.nD → PrngReg), Pre_HalfIdeal m →
    (∀ c : Dev Cert.HalfIdeal.nD,
      m ((c.tc : Thread Cert.HalfIdeal.nD Cert.HalfIdeal.τ).loc Cert.HalfIdeal.main_arg0) = Layout.block ⟨2, ![512, 4096]⟩ ⟨2, ![4096, 4096]⟩ 0 8 c (m' (((0 : Dev Cert.HalfReferenceIdeal.nD).tc : Thread Cert.HalfReferenceIdeal.nD Cert.HalfReferenceIdeal.τ).loc Cert.HalfReferenceIdeal.main_arg0))
      ∧ m ((c.tc : Thread Cert.HalfIdeal.nD Cert.HalfIdeal.τ).loc Cert.HalfIdeal.main_arg1) = Layout.block ⟨2, ![928, 1024]⟩ ⟨2, ![7424, 1024]⟩ 0 8 c (m' (((0 : Dev Cert.HalfReferenceIdeal.nD).tc : Thread Cert.HalfReferenceIdeal.nD Cert.HalfReferenceIdeal.τ).loc Cert.HalfReferenceIdeal.main_arg1))) →
    ∃ (v0 : Buf (Elt Ideal) (((0 : Dev Cert.HalfReferenceIdeal.nD).tc : Thread Cert.HalfReferenceIdeal.nD Cert.HalfReferenceIdeal.τ).loc Cert.HalfReferenceIdeal.main_v0)) (v1 : Buf (Elt Ideal) (((0 : Dev Cert.HalfReferenceIdeal.nD).tc : Thread Cert.HalfReferenceIdeal.nD Cert.HalfReferenceIdeal.τ).loc Cert.HalfReferenceIdeal.main_v1)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v1_0) = Layout.blockN ⟨3, ![2, 512, 4096]⟩ ⟨3, ![8, 512, 4096]⟩ (Layout.meshBlock [2, 2, 2] ![[0, 1], [], []] c) v0
          ∧ r.2.mem ((c.tc : Thread Cert.HalfIdeal.nD Cert.HalfIdeal.τ).loc Cert.HalfIdeal.main_v1_1) = Layout.blockN ⟨3, ![2, 928, 1024]⟩ ⟨3, ![8, 928, 1024]⟩ (Layout.meshBlock [2, 2, 2] ![[0, 1], [], []] c) v1
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1))
      ∧ θ_run (Cert.HalfReferenceIdeal.defs (F := Ideal)) (onTc (τ := Cert.HalfReferenceIdeal.τ) (Cert.HalfReferenceIdeal.main (F := Ideal))) ⟨m', fun _ => 0, g'⟩ (fun r =>
          r.2.mem (((0 : Dev Cert.HalfReferenceIdeal.nD).tc : Thread Cert.HalfReferenceIdeal.nD Cert.HalfReferenceIdeal.τ).loc Cert.HalfReferenceIdeal.main_v0) = v0
          ∧ r.2.mem (((0 : Dev Cert.HalfReferenceIdeal.nD).tc : Thread Cert.HalfReferenceIdeal.nD Cert.HalfReferenceIdeal.τ).loc Cert.HalfReferenceIdeal.main_v1) = v1
          ∧ r.2.mem (((0 : Dev Cert.HalfReferenceIdeal.nD).tc : Thread Cert.HalfReferenceIdeal.nD Cert.HalfReferenceIdeal.τ).loc Cert.HalfReferenceIdeal.main_arg0) = m' (((0 : Dev Cert.HalfReferenceIdeal.nD).tc : Thread Cert.HalfReferenceIdeal.nD Cert.HalfReferenceIdeal.τ).loc Cert.HalfReferenceIdeal.main_arg0)
          ∧ r.2.mem (((0 : Dev Cert.HalfReferenceIdeal.nD).tc : Thread Cert.HalfReferenceIdeal.nD Cert.HalfReferenceIdeal.τ).loc Cert.HalfReferenceIdeal.main_arg1) = m' (((0 : Dev Cert.HalfReferenceIdeal.nD).tc : Thread Cert.HalfReferenceIdeal.nD Cert.HalfReferenceIdeal.τ).loc Cert.HalfReferenceIdeal.main_arg1))

def bitexact_Half_HalfReference [hHalf : Cert.Half.Facts] [hHalfReference : Cert.HalfReference.Facts] : Prop :=
  ∀ (m : (ℓ : Loc Cert.Half.nD Cert.Half.τ Cert.Half.sig) → Buf (Elt Bits) ℓ) (g : Dev Cert.Half.nD → PrngReg)
    (m' : (ℓ : Loc Cert.HalfReference.nD Cert.HalfReference.τ Cert.HalfReference.sig) → Buf (Elt Bits) ℓ) (g' : Dev Cert.HalfReference.nD → PrngReg), Pre_Half m →
    (∀ c : Dev Cert.Half.nD,
      m ((c.tc : Thread Cert.Half.nD Cert.Half.τ).loc Cert.Half.main_arg0) = Layout.block ⟨2, ![512, 4096]⟩ ⟨2, ![4096, 4096]⟩ 0 8 c (m' (((0 : Dev Cert.HalfReference.nD).tc : Thread Cert.HalfReference.nD Cert.HalfReference.τ).loc Cert.HalfReference.main_arg0))
      ∧ m ((c.tc : Thread Cert.Half.nD Cert.Half.τ).loc Cert.Half.main_arg1) = Layout.block ⟨2, ![928, 1024]⟩ ⟨2, ![7424, 1024]⟩ 0 8 c (m' (((0 : Dev Cert.HalfReference.nD).tc : Thread Cert.HalfReference.nD Cert.HalfReference.τ).loc Cert.HalfReference.main_arg1))) →
    ∃ (v0 : Buf (Elt Bits) (((0 : Dev Cert.HalfReference.nD).tc : Thread Cert.HalfReference.nD Cert.HalfReference.τ).loc Cert.HalfReference.main_v0)) (v1 : Buf (Elt Bits) (((0 : Dev Cert.HalfReference.nD).tc : Thread Cert.HalfReference.nD Cert.HalfReference.τ).loc Cert.HalfReference.main_v1)),
      θ_run (Cert.Half.defs (F := Bits)) (onTc (τ := Cert.Half.τ) (Cert.Half.main (F := Bits))) ⟨m, fun _ => 0, g⟩ (fun r => ∀ c : Dev Cert.Half.nD,
          r.2.mem ((c.tc : Thread Cert.Half.nD Cert.Half.τ).loc Cert.Half.main_v1_0) = Layout.blockN ⟨3, ![2, 512, 4096]⟩ ⟨3, ![8, 512, 4096]⟩ (Layout.meshBlock [2, 2, 2] ![[0, 1], [], []] c) v0
          ∧ r.2.mem ((c.tc : Thread Cert.Half.nD Cert.Half.τ).loc Cert.Half.main_v1_1) = Layout.blockN ⟨3, ![2, 928, 1024]⟩ ⟨3, ![8, 928, 1024]⟩ (Layout.meshBlock [2, 2, 2] ![[0, 1], [], []] c) v1
          ∧ r.2.mem ((c.tc : Thread Cert.Half.nD Cert.Half.τ).loc Cert.Half.main_arg0) = m ((c.tc : Thread Cert.Half.nD Cert.Half.τ).loc Cert.Half.main_arg0)
          ∧ r.2.mem ((c.tc : Thread Cert.Half.nD Cert.Half.τ).loc Cert.Half.main_arg1) = m ((c.tc : Thread Cert.Half.nD Cert.Half.τ).loc Cert.Half.main_arg1))
      ∧ θ_run (Cert.HalfReference.defs (F := Bits)) (onTc (τ := Cert.HalfReference.τ) (Cert.HalfReference.main (F := Bits))) ⟨m', fun _ => 0, g'⟩ (fun r =>
          r.2.mem (((0 : Dev Cert.HalfReference.nD).tc : Thread Cert.HalfReference.nD Cert.HalfReference.τ).loc Cert.HalfReference.main_v0) = v0
          ∧ r.2.mem (((0 : Dev Cert.HalfReference.nD).tc : Thread Cert.HalfReference.nD Cert.HalfReference.τ).loc Cert.HalfReference.main_v1) = v1
          ∧ r.2.mem (((0 : Dev Cert.HalfReference.nD).tc : Thread Cert.HalfReference.nD Cert.HalfReference.τ).loc Cert.HalfReference.main_arg0) = m' (((0 : Dev Cert.HalfReference.nD).tc : Thread Cert.HalfReference.nD Cert.HalfReference.τ).loc Cert.HalfReference.main_arg0)
          ∧ r.2.mem (((0 : Dev Cert.HalfReference.nD).tc : Thread Cert.HalfReference.nD Cert.HalfReference.τ).loc Cert.HalfReference.main_arg1) = m' (((0 : Dev Cert.HalfReference.nD).tc : Thread Cert.HalfReference.nD Cert.HalfReference.τ).loc Cert.HalfReference.main_arg1))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![1024, 4096]⟩ ⟨2, ![4096, 4096]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨2, ![1856, 1024]⟩ ⟨2, ![7424, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg1))) →
    ∃ (v0 : Buf (Elt Ideal) (((0 : Dev Cert.GatherReferenceIdeal.nD).tc : Thread Cert.GatherReferenceIdeal.nD Cert.GatherReferenceIdeal.τ).loc Cert.GatherReferenceIdeal.main_v0)) (v1 : Buf (Elt Ideal) (((0 : Dev Cert.GatherReferenceIdeal.nD).tc : Thread Cert.GatherReferenceIdeal.nD Cert.GatherReferenceIdeal.τ).loc Cert.GatherReferenceIdeal.main_v1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_v1) = v1
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨2, ![1024, 4096]⟩ ⟨2, ![4096, 4096]⟩ (Layout.meshBlock [2, 2, 2] ![[0, 1], []] c) (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.blockN ⟨2, ![1856, 1024]⟩ ⟨2, ![7424, 1024]⟩ (Layout.meshBlock [2, 2, 2] ![[0, 1], []] c) (m' (((0 : Dev Cert.GatherReference.nD).tc : Thread Cert.GatherReference.nD Cert.GatherReference.τ).loc Cert.GatherReference.main_arg1))) →
    ∃ (v0 : Buf (Elt Bits) (((0 : Dev Cert.GatherReference.nD).tc : Thread Cert.GatherReference.nD Cert.GatherReference.τ).loc Cert.GatherReference.main_v0)) (v1 : Buf (Elt Bits) (((0 : Dev Cert.GatherReference.nD).tc : Thread Cert.GatherReference.nD Cert.GatherReference.τ).loc Cert.GatherReference.main_v1)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_v1) = v1
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1))

def preserves_Pair_PairIdeal : Prop :=
  True

def algebraic_PairIdeal_PairReferenceIdeal [hPairIdeal : Cert.PairIdeal.Facts] [hPairReferenceIdeal : Cert.PairReferenceIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairReferenceIdeal.nD Cert.PairReferenceIdeal.τ Cert.PairReferenceIdeal.sig) → Buf (Elt Ideal) ℓ) (g' : Dev Cert.PairReferenceIdeal.nD → PrngReg), Pre_PairIdeal m →
    (∀ c : Dev Cert.PairIdeal.nD,
      m ((c.tc : Thread Cert.PairIdeal.nD Cert.PairIdeal.τ).loc Cert.PairIdeal.main_arg0) = Layout.block ⟨4, ![2, 4, 512, 4096]⟩ ⟨4, ![16, 4, 512, 4096]⟩ 0 8 c (m' (((0 : Dev Cert.PairReferenceIdeal.nD).tc : Thread Cert.PairReferenceIdeal.nD Cert.PairReferenceIdeal.τ).loc Cert.PairReferenceIdeal.main_arg0))
      ∧ m ((c.tc : Thread Cert.PairIdeal.nD Cert.PairIdeal.τ).loc Cert.PairIdeal.main_arg1) = Layout.block ⟨4, ![2, 4, 928, 1024]⟩ ⟨4, ![16, 4, 928, 1024]⟩ 0 8 c (m' (((0 : Dev Cert.PairReferenceIdeal.nD).tc : Thread Cert.PairReferenceIdeal.nD Cert.PairReferenceIdeal.τ).loc Cert.PairReferenceIdeal.main_arg1))) →
    ∃ (v0 : Buf (Elt Ideal) (((0 : Dev Cert.PairReferenceIdeal.nD).tc : Thread Cert.PairReferenceIdeal.nD Cert.PairReferenceIdeal.τ).loc Cert.PairReferenceIdeal.main_v15)) (v1 : Buf (Elt Ideal) (((0 : Dev Cert.PairReferenceIdeal.nD).tc : Thread Cert.PairReferenceIdeal.nD Cert.PairReferenceIdeal.τ).loc Cert.PairReferenceIdeal.main_v16)) (v2 : Buf (Elt Ideal) (((0 : Dev Cert.PairReferenceIdeal.nD).tc : Thread Cert.PairReferenceIdeal.nD Cert.PairReferenceIdeal.τ).loc Cert.PairReferenceIdeal.main_v32)) (v3 : Buf (Elt Ideal) (((0 : Dev Cert.PairReferenceIdeal.nD).tc : Thread Cert.PairReferenceIdeal.nD Cert.PairReferenceIdeal.τ).loc Cert.PairReferenceIdeal.main_v33)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v1_0) = Layout.block ⟨3, ![4, 512, 4096]⟩ ⟨3, ![32, 512, 4096]⟩ 0 8 c v0
          ∧ r.2.mem ((c.tc : Thread Cert.PairIdeal.nD Cert.PairIdeal.τ).loc Cert.PairIdeal.main_v1_1) = Layout.block ⟨3, ![4, 512, 4096]⟩ ⟨3, ![32, 512, 4096]⟩ 0 8 c v1
          ∧ r.2.mem ((c.tc : Thread Cert.PairIdeal.nD Cert.PairIdeal.τ).loc Cert.PairIdeal.main_v1_2) = Layout.block ⟨3, ![4, 928, 1024]⟩ ⟨3, ![32, 928, 1024]⟩ 0 8 c v2
          ∧ r.2.mem ((c.tc : Thread Cert.PairIdeal.nD Cert.PairIdeal.τ).loc Cert.PairIdeal.main_v1_3) = Layout.block ⟨3, ![4, 928, 1024]⟩ ⟨3, ![32, 928, 1024]⟩ 0 8 c v3
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1))
      ∧ θ_run (Cert.PairReferenceIdeal.defs (F := Ideal)) (onTc (τ := Cert.PairReferenceIdeal.τ) (Cert.PairReferenceIdeal.main (F := Ideal))) ⟨m', fun _ => 0, g'⟩ (fun r =>
          r.2.mem (((0 : Dev Cert.PairReferenceIdeal.nD).tc : Thread Cert.PairReferenceIdeal.nD Cert.PairReferenceIdeal.τ).loc Cert.PairReferenceIdeal.main_v15) = v0
          ∧ r.2.mem (((0 : Dev Cert.PairReferenceIdeal.nD).tc : Thread Cert.PairReferenceIdeal.nD Cert.PairReferenceIdeal.τ).loc Cert.PairReferenceIdeal.main_v16) = v1
          ∧ r.2.mem (((0 : Dev Cert.PairReferenceIdeal.nD).tc : Thread Cert.PairReferenceIdeal.nD Cert.PairReferenceIdeal.τ).loc Cert.PairReferenceIdeal.main_v32) = v2
          ∧ r.2.mem (((0 : Dev Cert.PairReferenceIdeal.nD).tc : Thread Cert.PairReferenceIdeal.nD Cert.PairReferenceIdeal.τ).loc Cert.PairReferenceIdeal.main_v33) = v3
          ∧ r.2.mem (((0 : Dev Cert.PairReferenceIdeal.nD).tc : Thread Cert.PairReferenceIdeal.nD Cert.PairReferenceIdeal.τ).loc Cert.PairReferenceIdeal.main_arg0) = m' (((0 : Dev Cert.PairReferenceIdeal.nD).tc : Thread Cert.PairReferenceIdeal.nD Cert.PairReferenceIdeal.τ).loc Cert.PairReferenceIdeal.main_arg0)
          ∧ r.2.mem (((0 : Dev Cert.PairReferenceIdeal.nD).tc : Thread Cert.PairReferenceIdeal.nD Cert.PairReferenceIdeal.τ).loc Cert.PairReferenceIdeal.main_arg1) = m' (((0 : Dev Cert.PairReferenceIdeal.nD).tc : Thread Cert.PairReferenceIdeal.nD Cert.PairReferenceIdeal.τ).loc Cert.PairReferenceIdeal.main_arg1))

def bitexact_Pair_PairReference [hPair : Cert.Pair.Facts] [hPairReference : Cert.PairReference.Facts] : Prop :=
  ∀ (m : (ℓ : Loc Cert.Pair.nD Cert.Pair.τ Cert.Pair.sig) → Buf (Elt Bits) ℓ) (g : Dev Cert.Pair.nD → PrngReg)
    (m' : (ℓ : Loc Cert.PairReference.nD Cert.PairReference.τ Cert.PairReference.sig) → Buf (Elt Bits) ℓ) (g' : Dev Cert.PairReference.nD → PrngReg), Pre_Pair m →
    (∀ c : Dev Cert.Pair.nD,
      m ((c.tc : Thread Cert.Pair.nD Cert.Pair.τ).loc Cert.Pair.main_arg0) = Layout.block ⟨4, ![2, 4, 512, 4096]⟩ ⟨4, ![16, 4, 512, 4096]⟩ 0 8 c (m' (((0 : Dev Cert.PairReference.nD).tc : Thread Cert.PairReference.nD Cert.PairReference.τ).loc Cert.PairReference.main_arg0))
      ∧ m ((c.tc : Thread Cert.Pair.nD Cert.Pair.τ).loc Cert.Pair.main_arg1) = Layout.block ⟨4, ![2, 4, 928, 1024]⟩ ⟨4, ![16, 4, 928, 1024]⟩ 0 8 c (m' (((0 : Dev Cert.PairReference.nD).tc : Thread Cert.PairReference.nD Cert.PairReference.τ).loc Cert.PairReference.main_arg1))) →
    ∃ (v0 : Buf (Elt Bits) (((0 : Dev Cert.PairReference.nD).tc : Thread Cert.PairReference.nD Cert.PairReference.τ).loc Cert.PairReference.main_v15)) (v1 : Buf (Elt Bits) (((0 : Dev Cert.PairReference.nD).tc : Thread Cert.PairReference.nD Cert.PairReference.τ).loc Cert.PairReference.main_v16)) (v2 : Buf (Elt Bits) (((0 : Dev Cert.PairReference.nD).tc : Thread Cert.PairReference.nD Cert.PairReference.τ).loc Cert.PairReference.main_v32)) (v3 : Buf (Elt Bits) (((0 : Dev Cert.PairReference.nD).tc : Thread Cert.PairReference.nD Cert.PairReference.τ).loc Cert.PairReference.main_v33)),
      θ_run (Cert.Pair.defs (F := Bits)) (onTc (τ := Cert.Pair.τ) (Cert.Pair.main (F := Bits))) ⟨m, fun _ => 0, g⟩ (fun r => ∀ c : Dev Cert.Pair.nD,
          r.2.mem ((c.tc : Thread Cert.Pair.nD Cert.Pair.τ).loc Cert.Pair.main_v1_0) = Layout.block ⟨3, ![4, 512, 4096]⟩ ⟨3, ![32, 512, 4096]⟩ 0 8 c v0
          ∧ r.2.mem ((c.tc : Thread Cert.Pair.nD Cert.Pair.τ).loc Cert.Pair.main_v1_1) = Layout.block ⟨3, ![4, 512, 4096]⟩ ⟨3, ![32, 512, 4096]⟩ 0 8 c v1
          ∧ r.2.mem ((c.tc : Thread Cert.Pair.nD Cert.Pair.τ).loc Cert.Pair.main_v1_2) = Layout.block ⟨3, ![4, 928, 1024]⟩ ⟨3, ![32, 928, 1024]⟩ 0 8 c v2
          ∧ r.2.mem ((c.tc : Thread Cert.Pair.nD Cert.Pair.τ).loc Cert.Pair.main_v1_3) = Layout.block ⟨3, ![4, 928, 1024]⟩ ⟨3, ![32, 928, 1024]⟩ 0 8 c v3
          ∧ r.2.mem ((c.tc : Thread Cert.Pair.nD Cert.Pair.τ).loc Cert.Pair.main_arg0) = m ((c.tc : Thread Cert.Pair.nD Cert.Pair.τ).loc Cert.Pair.main_arg0)
          ∧ r.2.mem ((c.tc : Thread Cert.Pair.nD Cert.Pair.τ).loc Cert.Pair.main_arg1) = m ((c.tc : Thread Cert.Pair.nD Cert.Pair.τ).loc Cert.Pair.main_arg1))
      ∧ θ_run (Cert.PairReference.defs (F := Bits)) (onTc (τ := Cert.PairReference.τ) (Cert.PairReference.main (F := Bits))) ⟨m', fun _ => 0, g'⟩ (fun r =>
          r.2.mem (((0 : Dev Cert.PairReference.nD).tc : Thread Cert.PairReference.nD Cert.PairReference.τ).loc Cert.PairReference.main_v15) = v0
          ∧ r.2.mem (((0 : Dev Cert.PairReference.nD).tc : Thread Cert.PairReference.nD Cert.PairReference.τ).loc Cert.PairReference.main_v16) = v1
          ∧ r.2.mem (((0 : Dev Cert.PairReference.nD).tc : Thread Cert.PairReference.nD Cert.PairReference.τ).loc Cert.PairReference.main_v32) = v2
          ∧ r.2.mem (((0 : Dev Cert.PairReference.nD).tc : Thread Cert.PairReference.nD Cert.PairReference.τ).loc Cert.PairReference.main_v33) = v3
          ∧ r.2.mem (((0 : Dev Cert.PairReference.nD).tc : Thread Cert.PairReference.nD Cert.PairReference.τ).loc Cert.PairReference.main_arg0) = m' (((0 : Dev Cert.PairReference.nD).tc : Thread Cert.PairReference.nD Cert.PairReference.τ).loc Cert.PairReference.main_arg0)
          ∧ r.2.mem (((0 : Dev Cert.PairReference.nD).tc : Thread Cert.PairReference.nD Cert.PairReference.τ).loc Cert.PairReference.main_arg1) = m' (((0 : Dev Cert.PairReference.nD).tc : Thread Cert.PairReference.nD Cert.PairReference.τ).loc Cert.PairReference.main_arg1))

def preserves_Chip_ChipIdeal : Prop :=
  True

def algebraic_ChipIdeal_ChipReferenceIdeal [hChipIdeal : Cert.ChipIdeal.Facts] [hChipReferenceIdeal : Cert.ChipReferenceIdeal.Facts] : Prop :=
  ∀ (m : (ℓ : Loc Cert.ChipIdeal.nD Cert.ChipIdeal.τ Cert.ChipIdeal.sig) → Buf (Elt Ideal) ℓ) (g : Dev Cert.ChipIdeal.nD → PrngReg)
    (m' : (ℓ : Loc Cert.ChipReferenceIdeal.nD Cert.ChipReferenceIdeal.τ Cert.ChipReferenceIdeal.sig) → Buf (Elt Ideal) ℓ) (g' : Dev Cert.ChipReferenceIdeal.nD → PrngReg), Pre_ChipIdeal m →
    (∀ c : Dev Cert.ChipIdeal.nD,
      m ((c.tc : Thread Cert.ChipIdeal.nD Cert.ChipIdeal.τ).loc Cert.ChipIdeal.main_arg0) = Layout.block ⟨3, ![4, 512, 4096]⟩ ⟨3, ![32, 512, 4096]⟩ 0 8 c (m' (((0 : Dev Cert.ChipReferenceIdeal.nD).tc : Thread Cert.ChipReferenceIdeal.nD Cert.ChipReferenceIdeal.τ).loc Cert.ChipReferenceIdeal.main_arg0))
      ∧ m ((c.tc : Thread Cert.ChipIdeal.nD Cert.ChipIdeal.τ).loc Cert.ChipIdeal.main_arg1) = Layout.block ⟨3, ![4, 928, 1024]⟩ ⟨3, ![32, 928, 1024]⟩ 0 8 c (m' (((0 : Dev Cert.ChipReferenceIdeal.nD).tc : Thread Cert.ChipReferenceIdeal.nD Cert.ChipReferenceIdeal.τ).loc Cert.ChipReferenceIdeal.main_arg1))) →
    ∃ (v0 : Buf (Elt Ideal) (((0 : Dev Cert.ChipReferenceIdeal.nD).tc : Thread Cert.ChipReferenceIdeal.nD Cert.ChipReferenceIdeal.τ).loc Cert.ChipReferenceIdeal.main_v57)) (v1 : Buf (Elt Ideal) (((0 : Dev Cert.ChipReferenceIdeal.nD).tc : Thread Cert.ChipReferenceIdeal.nD Cert.ChipReferenceIdeal.τ).loc Cert.ChipReferenceIdeal.main_v58)) (v2 : Buf (Elt Ideal) (((0 : Dev Cert.ChipReferenceIdeal.nD).tc : Thread Cert.ChipReferenceIdeal.nD Cert.ChipReferenceIdeal.τ).loc Cert.ChipReferenceIdeal.main_v116)) (v3 : Buf (Elt Ideal) (((0 : Dev Cert.ChipReferenceIdeal.nD).tc : Thread Cert.ChipReferenceIdeal.nD Cert.ChipReferenceIdeal.τ).loc Cert.ChipReferenceIdeal.main_v117)),
      θ_run (Cert.ChipIdeal.defs (F := Ideal)) (onTc (τ := Cert.ChipIdeal.τ) (Cert.ChipIdeal.main (F := Ideal))) ⟨m, fun _ => 0, g⟩ (fun r => ∀ c : Dev Cert.ChipIdeal.nD,
          r.2.mem ((c.tc : Thread Cert.ChipIdeal.nD Cert.ChipIdeal.τ).loc Cert.ChipIdeal.main_v1_0) = Layout.block ⟨2, ![512, 4096]⟩ ⟨2, ![4096, 4096]⟩ 0 8 c v0
          ∧ r.2.mem ((c.tc : Thread Cert.ChipIdeal.nD Cert.ChipIdeal.τ).loc Cert.ChipIdeal.main_v1_1) = Layout.block ⟨3, ![3, 512, 4096]⟩ ⟨3, ![24, 512, 4096]⟩ 0 8 c v1
          ∧ r.2.mem ((c.tc : Thread Cert.ChipIdeal.nD Cert.ChipIdeal.τ).loc Cert.ChipIdeal.main_v1_2) = Layout.block ⟨2, ![928, 1024]⟩ ⟨2, ![7424, 1024]⟩ 0 8 c v2
          ∧ r.2.mem ((c.tc : Thread Cert.ChipIdeal.nD Cert.ChipIdeal.τ).loc Cert.ChipIdeal.main_v1_3) = Layout.block ⟨3, ![3, 928, 1024]⟩ ⟨3, ![24, 928, 1024]⟩ 0 8 c v3
          ∧ r.2.mem ((c.tc : Thread Cert.ChipIdeal.nD Cert.ChipIdeal.τ).loc Cert.ChipIdeal.main_arg0) = m ((c.tc : Thread Cert.ChipIdeal.nD Cert.ChipIdeal.τ).loc Cert.ChipIdeal.main_arg0)
          ∧ r.2.mem ((c.tc : Thread Cert.ChipIdeal.nD Cert.ChipIdeal.τ).loc Cert.ChipIdeal.main_arg1) = m ((c.tc : Thread Cert.ChipIdeal.nD Cert.ChipIdeal.τ).loc Cert.ChipIdeal.main_arg1))
      ∧ θ_run (Cert.ChipReferenceIdeal.defs (F := Ideal)) (onTc (τ := Cert.ChipReferenceIdeal.τ) (Cert.ChipReferenceIdeal.main (F := Ideal))) ⟨m', fun _ => 0, g'⟩ (fun r =>
          r.2.mem (((0 : Dev Cert.ChipReferenceIdeal.nD).tc : Thread Cert.ChipReferenceIdeal.nD Cert.ChipReferenceIdeal.τ).loc Cert.ChipReferenceIdeal.main_v57) = v0
          ∧ r.2.mem (((0 : Dev Cert.ChipReferenceIdeal.nD).tc : Thread Cert.ChipReferenceIdeal.nD Cert.ChipReferenceIdeal.τ).loc Cert.ChipReferenceIdeal.main_v58) = v1
          ∧ r.2.mem (((0 : Dev Cert.ChipReferenceIdeal.nD).tc : Thread Cert.ChipReferenceIdeal.nD Cert.ChipReferenceIdeal.τ).loc Cert.ChipReferenceIdeal.main_v116) = v2
          ∧ r.2.mem (((0 : Dev Cert.ChipReferenceIdeal.nD).tc : Thread Cert.ChipReferenceIdeal.nD Cert.ChipReferenceIdeal.τ).loc Cert.ChipReferenceIdeal.main_v117) = v3
          ∧ r.2.mem (((0 : Dev Cert.ChipReferenceIdeal.nD).tc : Thread Cert.ChipReferenceIdeal.nD Cert.ChipReferenceIdeal.τ).loc Cert.ChipReferenceIdeal.main_arg0) = m' (((0 : Dev Cert.ChipReferenceIdeal.nD).tc : Thread Cert.ChipReferenceIdeal.nD Cert.ChipReferenceIdeal.τ).loc Cert.ChipReferenceIdeal.main_arg0)
          ∧ r.2.mem (((0 : Dev Cert.ChipReferenceIdeal.nD).tc : Thread Cert.ChipReferenceIdeal.nD Cert.ChipReferenceIdeal.τ).loc Cert.ChipReferenceIdeal.main_arg1) = m' (((0 : Dev Cert.ChipReferenceIdeal.nD).tc : Thread Cert.ChipReferenceIdeal.nD Cert.ChipReferenceIdeal.τ).loc Cert.ChipReferenceIdeal.main_arg1))

def bitexact_Chip_ChipReference [hChip : Cert.Chip.Facts] [hChipReference : Cert.ChipReference.Facts] : Prop :=
  ∀ (m : (ℓ : Loc Cert.Chip.nD Cert.Chip.τ Cert.Chip.sig) → Buf (Elt Bits) ℓ) (g : Dev Cert.Chip.nD → PrngReg)
    (m' : (ℓ : Loc Cert.ChipReference.nD Cert.ChipReference.τ Cert.ChipReference.sig) → Buf (Elt Bits) ℓ) (g' : Dev Cert.ChipReference.nD → PrngReg), Pre_Chip m →
    (∀ c : Dev Cert.Chip.nD,
      m ((c.tc : Thread Cert.Chip.nD Cert.Chip.τ).loc Cert.Chip.main_arg0) = Layout.block ⟨3, ![4, 512, 4096]⟩ ⟨3, ![32, 512, 4096]⟩ 0 8 c (m' (((0 : Dev Cert.ChipReference.nD).tc : Thread Cert.ChipReference.nD Cert.ChipReference.τ).loc Cert.ChipReference.main_arg0))
      ∧ m ((c.tc : Thread Cert.Chip.nD Cert.Chip.τ).loc Cert.Chip.main_arg1) = Layout.block ⟨3, ![4, 928, 1024]⟩ ⟨3, ![32, 928, 1024]⟩ 0 8 c (m' (((0 : Dev Cert.ChipReference.nD).tc : Thread Cert.ChipReference.nD Cert.ChipReference.τ).loc Cert.ChipReference.main_arg1))) →
    ∃ (v0 : Buf (Elt Bits) (((0 : Dev Cert.ChipReference.nD).tc : Thread Cert.ChipReference.nD Cert.ChipReference.τ).loc Cert.ChipReference.main_v57)) (v1 : Buf (Elt Bits) (((0 : Dev Cert.ChipReference.nD).tc : Thread Cert.ChipReference.nD Cert.ChipReference.τ).loc Cert.ChipReference.main_v58)) (v2 : Buf (Elt Bits) (((0 : Dev Cert.ChipReference.nD).tc : Thread Cert.ChipReference.nD Cert.ChipReference.τ).loc Cert.ChipReference.main_v116)) (v3 : Buf (Elt Bits) (((0 : Dev Cert.ChipReference.nD).tc : Thread Cert.ChipReference.nD Cert.ChipReference.τ).loc Cert.ChipReference.main_v117)),
      θ_run (Cert.Chip.defs (F := Bits)) (onTc (τ := Cert.Chip.τ) (Cert.Chip.main (F := Bits))) ⟨m, fun _ => 0, g⟩ (fun r => ∀ c : Dev Cert.Chip.nD,
          r.2.mem ((c.tc : Thread Cert.Chip.nD Cert.Chip.τ).loc Cert.Chip.main_v1_0) = Layout.block ⟨2, ![512, 4096]⟩ ⟨2, ![4096, 4096]⟩ 0 8 c v0
          ∧ r.2.mem ((c.tc : Thread Cert.Chip.nD Cert.Chip.τ).loc Cert.Chip.main_v1_1) = Layout.block ⟨3, ![3, 512, 4096]⟩ ⟨3, ![24, 512, 4096]⟩ 0 8 c v1
          ∧ r.2.mem ((c.tc : Thread Cert.Chip.nD Cert.Chip.τ).loc Cert.Chip.main_v1_2) = Layout.block ⟨2, ![928, 1024]⟩ ⟨2, ![7424, 1024]⟩ 0 8 c v2
          ∧ r.2.mem ((c.tc : Thread Cert.Chip.nD Cert.Chip.τ).loc Cert.Chip.main_v1_3) = Layout.block ⟨3, ![3, 928, 1024]⟩ ⟨3, ![24, 928, 1024]⟩ 0 8 c v3
          ∧ r.2.mem ((c.tc : Thread Cert.Chip.nD Cert.Chip.τ).loc Cert.Chip.main_arg0) = m ((c.tc : Thread Cert.Chip.nD Cert.Chip.τ).loc Cert.Chip.main_arg0)
          ∧ r.2.mem ((c.tc : Thread Cert.Chip.nD Cert.Chip.τ).loc Cert.Chip.main_arg1) = m ((c.tc : Thread Cert.Chip.nD Cert.Chip.τ).loc Cert.Chip.main_arg1))
      ∧ θ_run (Cert.ChipReference.defs (F := Bits)) (onTc (τ := Cert.ChipReference.τ) (Cert.ChipReference.main (F := Bits))) ⟨m', fun _ => 0, g'⟩ (fun r =>
          r.2.mem (((0 : Dev Cert.ChipReference.nD).tc : Thread Cert.ChipReference.nD Cert.ChipReference.τ).loc Cert.ChipReference.main_v57) = v0
          ∧ r.2.mem (((0 : Dev Cert.ChipReference.nD).tc : Thread Cert.ChipReference.nD Cert.ChipReference.τ).loc Cert.ChipReference.main_v58) = v1
          ∧ r.2.mem (((0 : Dev Cert.ChipReference.nD).tc : Thread Cert.ChipReference.nD Cert.ChipReference.τ).loc Cert.ChipReference.main_v116) = v2
          ∧ r.2.mem (((0 : Dev Cert.ChipReference.nD).tc : Thread Cert.ChipReference.nD Cert.ChipReference.τ).loc Cert.ChipReference.main_v117) = v3
          ∧ r.2.mem (((0 : Dev Cert.ChipReference.nD).tc : Thread Cert.ChipReference.nD Cert.ChipReference.τ).loc Cert.ChipReference.main_arg0) = m' (((0 : Dev Cert.ChipReference.nD).tc : Thread Cert.ChipReference.nD Cert.ChipReference.τ).loc Cert.ChipReference.main_arg0)
          ∧ r.2.mem (((0 : Dev Cert.ChipReference.nD).tc : Thread Cert.ChipReference.nD Cert.ChipReference.τ).loc Cert.ChipReference.main_arg1) = m' (((0 : Dev Cert.ChipReference.nD).tc : Thread Cert.ChipReference.nD Cert.ChipReference.τ).loc Cert.ChipReference.main_arg1))

def preserves_PairSumA_PairSumAIdeal : Prop :=
  True

def algebraic_PairSumAIdeal_PairSumAReferenceIdeal [hPairSumAIdeal : Cert.PairSumAIdeal.Facts] [hPairSumAReferenceIdeal : Cert.PairSumAReferenceIdeal.Facts] : Prop :=
  ∀ (m : (ℓ : Loc Cert.PairSumAIdeal.nD Cert.PairSumAIdeal.τ Cert.PairSumAIdeal.sig) → Buf (Elt Ideal) ℓ) (g : Dev Cert.PairSumAIdeal.nD → PrngReg)
    (m' : (ℓ : Loc Cert.PairSumAReferenceIdeal.nD Cert.PairSumAReferenceIdeal.τ Cert.PairSumAReferenceIdeal.sig) → Buf (Elt Ideal) ℓ) (g' : Dev Cert.PairSumAReferenceIdeal.nD → PrngReg), Pre_PairSumAIdeal m →
    (∀ c : Dev Cert.PairSumAIdeal.nD,
      m' ((c.tc : Thread Cert.PairSumAReferenceIdeal.nD Cert.PairSumAReferenceIdeal.τ).loc Cert.PairSumAReferenceIdeal.main_arg0) = m ((c.tc : Thread Cert.PairSumAIdeal.nD Cert.PairSumAIdeal.τ).loc Cert.PairSumAIdeal.main_arg0)
      ∧ m' ((c.tc : Thread Cert.PairSumAReferenceIdeal.nD Cert.PairSumAReferenceIdeal.τ).loc Cert.PairSumAReferenceIdeal.main_arg1) = m ((c.tc : Thread Cert.PairSumAIdeal.nD Cert.PairSumAIdeal.τ).loc Cert.PairSumAIdeal.main_arg1)) →
    ∃ (v0 : (c : Dev Cert.PairSumAIdeal.nD) → Buf (Elt Ideal) ((c.tc : Thread Cert.PairSumAIdeal.nD Cert.PairSumAIdeal.τ).loc Cert.PairSumAIdeal.main_v0)),
      θ_run (Cert.PairSumAIdeal.defs (F := Ideal)) (onTc (τ := Cert.PairSumAIdeal.τ) (Cert.PairSumAIdeal.main (F := Ideal))) ⟨m, fun _ => 0, g⟩ (fun r => ∀ c : Dev Cert.PairSumAIdeal.nD,
          r.2.mem ((c.tc : Thread Cert.PairSumAIdeal.nD Cert.PairSumAIdeal.τ).loc Cert.PairSumAIdeal.main_v0) = v0 c
          ∧ r.2.mem ((c.tc : Thread Cert.PairSumAIdeal.nD Cert.PairSumAIdeal.τ).loc Cert.PairSumAIdeal.main_arg0) = m ((c.tc : Thread Cert.PairSumAIdeal.nD Cert.PairSumAIdeal.τ).loc Cert.PairSumAIdeal.main_arg0)
          ∧ r.2.mem ((c.tc : Thread Cert.PairSumAIdeal.nD Cert.PairSumAIdeal.τ).loc Cert.PairSumAIdeal.main_arg1) = m ((c.tc : Thread Cert.PairSumAIdeal.nD Cert.PairSumAIdeal.τ).loc Cert.PairSumAIdeal.main_arg1))
      ∧ θ_run (Cert.PairSumAReferenceIdeal.defs (F := Ideal)) (onTc (τ := Cert.PairSumAReferenceIdeal.τ) (Cert.PairSumAReferenceIdeal.main (F := Ideal))) ⟨m', fun _ => 0, g'⟩ (fun r => ∀ c : Dev Cert.PairSumAReferenceIdeal.nD,
          r.2.mem ((c.tc : Thread Cert.PairSumAReferenceIdeal.nD Cert.PairSumAReferenceIdeal.τ).loc Cert.PairSumAReferenceIdeal.main_v3) = v0 c
          ∧ r.2.mem ((c.tc : Thread Cert.PairSumAReferenceIdeal.nD Cert.PairSumAReferenceIdeal.τ).loc Cert.PairSumAReferenceIdeal.main_arg0) = m' ((c.tc : Thread Cert.PairSumAReferenceIdeal.nD Cert.PairSumAReferenceIdeal.τ).loc Cert.PairSumAReferenceIdeal.main_arg0)
          ∧ r.2.mem ((c.tc : Thread Cert.PairSumAReferenceIdeal.nD Cert.PairSumAReferenceIdeal.τ).loc Cert.PairSumAReferenceIdeal.main_arg1) = m' ((c.tc : Thread Cert.PairSumAReferenceIdeal.nD Cert.PairSumAReferenceIdeal.τ).loc Cert.PairSumAReferenceIdeal.main_arg1))

def bitexact_PairSumA_PairSumAReference [hPairSumA : Cert.PairSumA.Facts] [hPairSumAReference : Cert.PairSumAReference.Facts] : Prop :=
  ∀ (m : (ℓ : Loc Cert.PairSumA.nD Cert.PairSumA.τ Cert.PairSumA.sig) → Buf (Elt Bits) ℓ) (g : Dev Cert.PairSumA.nD → PrngReg)
    (m' : (ℓ : Loc Cert.PairSumAReference.nD Cert.PairSumAReference.τ Cert.PairSumAReference.sig) → Buf (Elt Bits) ℓ) (g' : Dev Cert.PairSumAReference.nD → PrngReg), Pre_PairSumA m →
    (∀ c : Dev Cert.PairSumA.nD,
      m' ((c.tc : Thread Cert.PairSumAReference.nD Cert.PairSumAReference.τ).loc Cert.PairSumAReference.main_arg0) = m ((c.tc : Thread Cert.PairSumA.nD Cert.PairSumA.τ).loc Cert.PairSumA.main_arg0)
      ∧ m' ((c.tc : Thread Cert.PairSumAReference.nD Cert.PairSumAReference.τ).loc Cert.PairSumAReference.main_arg1) = m ((c.tc : Thread Cert.PairSumA.nD Cert.PairSumA.τ).loc Cert.PairSumA.main_arg1)) →
    ∃ (v0 : (c : Dev Cert.PairSumA.nD) → Buf (Elt Bits) ((c.tc : Thread Cert.PairSumA.nD Cert.PairSumA.τ).loc Cert.PairSumA.main_v0)),
      θ_run (Cert.PairSumA.defs (F := Bits)) (onTc (τ := Cert.PairSumA.τ) (Cert.PairSumA.main (F := Bits))) ⟨m, fun _ => 0, g⟩ (fun r => ∀ c : Dev Cert.PairSumA.nD,
          r.2.mem ((c.tc : Thread Cert.PairSumA.nD Cert.PairSumA.τ).loc Cert.PairSumA.main_v0) = v0 c
          ∧ r.2.mem ((c.tc : Thread Cert.PairSumA.nD Cert.PairSumA.τ).loc Cert.PairSumA.main_arg0) = m ((c.tc : Thread Cert.PairSumA.nD Cert.PairSumA.τ).loc Cert.PairSumA.main_arg0)
          ∧ r.2.mem ((c.tc : Thread Cert.PairSumA.nD Cert.PairSumA.τ).loc Cert.PairSumA.main_arg1) = m ((c.tc : Thread Cert.PairSumA.nD Cert.PairSumA.τ).loc Cert.PairSumA.main_arg1))
      ∧ θ_run (Cert.PairSumAReference.defs (F := Bits)) (onTc (τ := Cert.PairSumAReference.τ) (Cert.PairSumAReference.main (F := Bits))) ⟨m', fun _ => 0, g'⟩ (fun r => ∀ c : Dev Cert.PairSumAReference.nD,
          r.2.mem ((c.tc : Thread Cert.PairSumAReference.nD Cert.PairSumAReference.τ).loc Cert.PairSumAReference.main_v3) = v0 c
          ∧ r.2.mem ((c.tc : Thread Cert.PairSumAReference.nD Cert.PairSumAReference.τ).loc Cert.PairSumAReference.main_arg0) = m' ((c.tc : Thread Cert.PairSumAReference.nD Cert.PairSumAReference.τ).loc Cert.PairSumAReference.main_arg0)
          ∧ r.2.mem ((c.tc : Thread Cert.PairSumAReference.nD Cert.PairSumAReference.τ).loc Cert.PairSumAReference.main_arg1) = m' ((c.tc : Thread Cert.PairSumAReference.nD Cert.PairSumAReference.τ).loc Cert.PairSumAReference.main_arg1))

def preserves_PairSumB_PairSumBIdeal : Prop :=
  True

def algebraic_PairSumBIdeal_PairSumBReferenceIdeal [hPairSumBIdeal : Cert.PairSumBIdeal.Facts] [hPairSumBReferenceIdeal : Cert.PairSumBReferenceIdeal.Facts] : Prop :=
  ∀ (m : (ℓ : Loc Cert.PairSumBIdeal.nD Cert.PairSumBIdeal.τ Cert.PairSumBIdeal.sig) → Buf (Elt Ideal) ℓ) (g : Dev Cert.PairSumBIdeal.nD → PrngReg)
    (m' : (ℓ : Loc Cert.PairSumBReferenceIdeal.nD Cert.PairSumBReferenceIdeal.τ Cert.PairSumBReferenceIdeal.sig) → Buf (Elt Ideal) ℓ) (g' : Dev Cert.PairSumBReferenceIdeal.nD → PrngReg), Pre_PairSumBIdeal m →
    (∀ c : Dev Cert.PairSumBIdeal.nD,
      m' ((c.tc : Thread Cert.PairSumBReferenceIdeal.nD Cert.PairSumBReferenceIdeal.τ).loc Cert.PairSumBReferenceIdeal.main_arg0) = m ((c.tc : Thread Cert.PairSumBIdeal.nD Cert.PairSumBIdeal.τ).loc Cert.PairSumBIdeal.main_arg0)
      ∧ m' ((c.tc : Thread Cert.PairSumBReferenceIdeal.nD Cert.PairSumBReferenceIdeal.τ).loc Cert.PairSumBReferenceIdeal.main_arg1) = m ((c.tc : Thread Cert.PairSumBIdeal.nD Cert.PairSumBIdeal.τ).loc Cert.PairSumBIdeal.main_arg1)) →
    ∃ (v0 : (c : Dev Cert.PairSumBIdeal.nD) → Buf (Elt Ideal) ((c.tc : Thread Cert.PairSumBIdeal.nD Cert.PairSumBIdeal.τ).loc Cert.PairSumBIdeal.main_v0)),
      θ_run (Cert.PairSumBIdeal.defs (F := Ideal)) (onTc (τ := Cert.PairSumBIdeal.τ) (Cert.PairSumBIdeal.main (F := Ideal))) ⟨m, fun _ => 0, g⟩ (fun r => ∀ c : Dev Cert.PairSumBIdeal.nD,
          r.2.mem ((c.tc : Thread Cert.PairSumBIdeal.nD Cert.PairSumBIdeal.τ).loc Cert.PairSumBIdeal.main_v0) = v0 c
          ∧ r.2.mem ((c.tc : Thread Cert.PairSumBIdeal.nD Cert.PairSumBIdeal.τ).loc Cert.PairSumBIdeal.main_arg0) = m ((c.tc : Thread Cert.PairSumBIdeal.nD Cert.PairSumBIdeal.τ).loc Cert.PairSumBIdeal.main_arg0)
          ∧ r.2.mem ((c.tc : Thread Cert.PairSumBIdeal.nD Cert.PairSumBIdeal.τ).loc Cert.PairSumBIdeal.main_arg1) = m ((c.tc : Thread Cert.PairSumBIdeal.nD Cert.PairSumBIdeal.τ).loc Cert.PairSumBIdeal.main_arg1))
      ∧ θ_run (Cert.PairSumBReferenceIdeal.defs (F := Ideal)) (onTc (τ := Cert.PairSumBReferenceIdeal.τ) (Cert.PairSumBReferenceIdeal.main (F := Ideal))) ⟨m', fun _ => 0, g'⟩ (fun r => ∀ c : Dev Cert.PairSumBReferenceIdeal.nD,
          r.2.mem ((c.tc : Thread Cert.PairSumBReferenceIdeal.nD Cert.PairSumBReferenceIdeal.τ).loc Cert.PairSumBReferenceIdeal.main_v3) = v0 c
          ∧ r.2.mem ((c.tc : Thread Cert.PairSumBReferenceIdeal.nD Cert.PairSumBReferenceIdeal.τ).loc Cert.PairSumBReferenceIdeal.main_arg0) = m' ((c.tc : Thread Cert.PairSumBReferenceIdeal.nD Cert.PairSumBReferenceIdeal.τ).loc Cert.PairSumBReferenceIdeal.main_arg0)
          ∧ r.2.mem ((c.tc : Thread Cert.PairSumBReferenceIdeal.nD Cert.PairSumBReferenceIdeal.τ).loc Cert.PairSumBReferenceIdeal.main_arg1) = m' ((c.tc : Thread Cert.PairSumBReferenceIdeal.nD Cert.PairSumBReferenceIdeal.τ).loc Cert.PairSumBReferenceIdeal.main_arg1))

def bitexact_PairSumB_PairSumBReference [hPairSumB : Cert.PairSumB.Facts] [hPairSumBReference : Cert.PairSumBReference.Facts] : Prop :=
  ∀ (m : (ℓ : Loc Cert.PairSumB.nD Cert.PairSumB.τ Cert.PairSumB.sig) → Buf (Elt Bits) ℓ) (g : Dev Cert.PairSumB.nD → PrngReg)
    (m' : (ℓ : Loc Cert.PairSumBReference.nD Cert.PairSumBReference.τ Cert.PairSumBReference.sig) → Buf (Elt Bits) ℓ) (g' : Dev Cert.PairSumBReference.nD → PrngReg), Pre_PairSumB m →
    (∀ c : Dev Cert.PairSumB.nD,
      m' ((c.tc : Thread Cert.PairSumBReference.nD Cert.PairSumBReference.τ).loc Cert.PairSumBReference.main_arg0) = m ((c.tc : Thread Cert.PairSumB.nD Cert.PairSumB.τ).loc Cert.PairSumB.main_arg0)
      ∧ m' ((c.tc : Thread Cert.PairSumBReference.nD Cert.PairSumBReference.τ).loc Cert.PairSumBReference.main_arg1) = m ((c.tc : Thread Cert.PairSumB.nD Cert.PairSumB.τ).loc Cert.PairSumB.main_arg1)) →
    ∃ (v0 : (c : Dev Cert.PairSumB.nD) → Buf (Elt Bits) ((c.tc : Thread Cert.PairSumB.nD Cert.PairSumB.τ).loc Cert.PairSumB.main_v0)),
      θ_run (Cert.PairSumB.defs (F := Bits)) (onTc (τ := Cert.PairSumB.τ) (Cert.PairSumB.main (F := Bits))) ⟨m, fun _ => 0, g⟩ (fun r => ∀ c : Dev Cert.PairSumB.nD,
          r.2.mem ((c.tc : Thread Cert.PairSumB.nD Cert.PairSumB.τ).loc Cert.PairSumB.main_v0) = v0 c
          ∧ r.2.mem ((c.tc : Thread Cert.PairSumB.nD Cert.PairSumB.τ).loc Cert.PairSumB.main_arg0) = m ((c.tc : Thread Cert.PairSumB.nD Cert.PairSumB.τ).loc Cert.PairSumB.main_arg0)
          ∧ r.2.mem ((c.tc : Thread Cert.PairSumB.nD Cert.PairSumB.τ).loc Cert.PairSumB.main_arg1) = m ((c.tc : Thread Cert.PairSumB.nD Cert.PairSumB.τ).loc Cert.PairSumB.main_arg1))
      ∧ θ_run (Cert.PairSumBReference.defs (F := Bits)) (onTc (τ := Cert.PairSumBReference.τ) (Cert.PairSumBReference.main (F := Bits))) ⟨m', fun _ => 0, g'⟩ (fun r => ∀ c : Dev Cert.PairSumBReference.nD,
          r.2.mem ((c.tc : Thread Cert.PairSumBReference.nD Cert.PairSumBReference.τ).loc Cert.PairSumBReference.main_v3) = v0 c
          ∧ r.2.mem ((c.tc : Thread Cert.PairSumBReference.nD Cert.PairSumBReference.τ).loc Cert.PairSumBReference.main_arg0) = m' ((c.tc : Thread Cert.PairSumBReference.nD Cert.PairSumBReference.τ).loc Cert.PairSumBReference.main_arg0)
          ∧ r.2.mem ((c.tc : Thread Cert.PairSumBReference.nD Cert.PairSumBReference.τ).loc Cert.PairSumBReference.main_arg1) = m' ((c.tc : Thread Cert.PairSumBReference.nD Cert.PairSumBReference.τ).loc Cert.PairSumBReference.main_arg1))

def preserves_ChipSumA_ChipSumAIdeal : Prop :=
  True

def algebraic_ChipSumAIdeal_ChipSumAReferenceIdeal [hChipSumAIdeal : Cert.ChipSumAIdeal.Facts] [hChipSumAReferenceIdeal : Cert.ChipSumAReferenceIdeal.Facts] : Prop :=
  ∀ (m : (ℓ : Loc Cert.ChipSumAIdeal.nD Cert.ChipSumAIdeal.τ Cert.ChipSumAIdeal.sig) → Buf (Elt Ideal) ℓ) (g : Dev Cert.ChipSumAIdeal.nD → PrngReg)
    (m' : (ℓ : Loc Cert.ChipSumAReferenceIdeal.nD Cert.ChipSumAReferenceIdeal.τ Cert.ChipSumAReferenceIdeal.sig) → Buf (Elt Ideal) ℓ) (g' : Dev Cert.ChipSumAReferenceIdeal.nD → PrngReg), Pre_ChipSumAIdeal m →
    (∀ c : Dev Cert.ChipSumAIdeal.nD,
      m' ((c.tc : Thread Cert.ChipSumAReferenceIdeal.nD Cert.ChipSumAReferenceIdeal.τ).loc Cert.ChipSumAReferenceIdeal.main_arg0) = m ((c.tc : Thread Cert.ChipSumAIdeal.nD Cert.ChipSumAIdeal.τ).loc Cert.ChipSumAIdeal.main_arg0)
      ∧ m' ((c.tc : Thread Cert.ChipSumAReferenceIdeal.nD Cert.ChipSumAReferenceIdeal.τ).loc Cert.ChipSumAReferenceIdeal.main_arg1) = m ((c.tc : Thread Cert.ChipSumAIdeal.nD Cert.ChipSumAIdeal.τ).loc Cert.ChipSumAIdeal.main_arg1)
      ∧ m' ((c.tc : Thread Cert.ChipSumAReferenceIdeal.nD Cert.ChipSumAReferenceIdeal.τ).loc Cert.ChipSumAReferenceIdeal.main_arg2) = m ((c.tc : Thread Cert.ChipSumAIdeal.nD Cert.ChipSumAIdeal.τ).loc Cert.ChipSumAIdeal.main_arg2)
      ∧ m' ((c.tc : Thread Cert.ChipSumAReferenceIdeal.nD Cert.ChipSumAReferenceIdeal.τ).loc Cert.ChipSumAReferenceIdeal.main_arg3) = m ((c.tc : Thread Cert.ChipSumAIdeal.nD Cert.ChipSumAIdeal.τ).loc Cert.ChipSumAIdeal.main_arg3)) →
    ∃ (v0 : (c : Dev Cert.ChipSumAIdeal.nD) → Buf (Elt Ideal) ((c.tc : Thread Cert.ChipSumAIdeal.nD Cert.ChipSumAIdeal.τ).loc Cert.ChipSumAIdeal.main_v0)),
      θ_run (Cert.ChipSumAIdeal.defs (F := Ideal)) (onTc (τ := Cert.ChipSumAIdeal.τ) (Cert.ChipSumAIdeal.main (F := Ideal))) ⟨m, fun _ => 0, g⟩ (fun r => ∀ c : Dev Cert.ChipSumAIdeal.nD,
          r.2.mem ((c.tc : Thread Cert.ChipSumAIdeal.nD Cert.ChipSumAIdeal.τ).loc Cert.ChipSumAIdeal.main_v0) = v0 c
          ∧ r.2.mem ((c.tc : Thread Cert.ChipSumAIdeal.nD Cert.ChipSumAIdeal.τ).loc Cert.ChipSumAIdeal.main_arg0) = m ((c.tc : Thread Cert.ChipSumAIdeal.nD Cert.ChipSumAIdeal.τ).loc Cert.ChipSumAIdeal.main_arg0)
          ∧ r.2.mem ((c.tc : Thread Cert.ChipSumAIdeal.nD Cert.ChipSumAIdeal.τ).loc Cert.ChipSumAIdeal.main_arg1) = m ((c.tc : Thread Cert.ChipSumAIdeal.nD Cert.ChipSumAIdeal.τ).loc Cert.ChipSumAIdeal.main_arg1)
          ∧ r.2.mem ((c.tc : Thread Cert.ChipSumAIdeal.nD Cert.ChipSumAIdeal.τ).loc Cert.ChipSumAIdeal.main_arg2) = m ((c.tc : Thread Cert.ChipSumAIdeal.nD Cert.ChipSumAIdeal.τ).loc Cert.ChipSumAIdeal.main_arg2)
          ∧ r.2.mem ((c.tc : Thread Cert.ChipSumAIdeal.nD Cert.ChipSumAIdeal.τ).loc Cert.ChipSumAIdeal.main_arg3) = m ((c.tc : Thread Cert.ChipSumAIdeal.nD Cert.ChipSumAIdeal.τ).loc Cert.ChipSumAIdeal.main_arg3))
      ∧ θ_run (Cert.ChipSumAReferenceIdeal.defs (F := Ideal)) (onTc (τ := Cert.ChipSumAReferenceIdeal.τ) (Cert.ChipSumAReferenceIdeal.main (F := Ideal))) ⟨m', fun _ => 0, g'⟩ (fun r => ∀ c : Dev Cert.ChipSumAReferenceIdeal.nD,
          r.2.mem ((c.tc : Thread Cert.ChipSumAReferenceIdeal.nD Cert.ChipSumAReferenceIdeal.τ).loc Cert.ChipSumAReferenceIdeal.main_v6) = v0 c
          ∧ r.2.mem ((c.tc : Thread Cert.ChipSumAReferenceIdeal.nD Cert.ChipSumAReferenceIdeal.τ).loc Cert.ChipSumAReferenceIdeal.main_arg0) = m' ((c.tc : Thread Cert.ChipSumAReferenceIdeal.nD Cert.ChipSumAReferenceIdeal.τ).loc Cert.ChipSumAReferenceIdeal.main_arg0)
          ∧ r.2.mem ((c.tc : Thread Cert.ChipSumAReferenceIdeal.nD Cert.ChipSumAReferenceIdeal.τ).loc Cert.ChipSumAReferenceIdeal.main_arg1) = m' ((c.tc : Thread Cert.ChipSumAReferenceIdeal.nD Cert.ChipSumAReferenceIdeal.τ).loc Cert.ChipSumAReferenceIdeal.main_arg1)
          ∧ r.2.mem ((c.tc : Thread Cert.ChipSumAReferenceIdeal.nD Cert.ChipSumAReferenceIdeal.τ).loc Cert.ChipSumAReferenceIdeal.main_arg2) = m' ((c.tc : Thread Cert.ChipSumAReferenceIdeal.nD Cert.ChipSumAReferenceIdeal.τ).loc Cert.ChipSumAReferenceIdeal.main_arg2)
          ∧ r.2.mem ((c.tc : Thread Cert.ChipSumAReferenceIdeal.nD Cert.ChipSumAReferenceIdeal.τ).loc Cert.ChipSumAReferenceIdeal.main_arg3) = m' ((c.tc : Thread Cert.ChipSumAReferenceIdeal.nD Cert.ChipSumAReferenceIdeal.τ).loc Cert.ChipSumAReferenceIdeal.main_arg3))

def bitexact_ChipSumA_ChipSumAReference [hChipSumA : Cert.ChipSumA.Facts] [hChipSumAReference : Cert.ChipSumAReference.Facts] : Prop :=
  ∀ (m : (ℓ : Loc Cert.ChipSumA.nD Cert.ChipSumA.τ Cert.ChipSumA.sig) → Buf (Elt Bits) ℓ) (g : Dev Cert.ChipSumA.nD → PrngReg)
    (m' : (ℓ : Loc Cert.ChipSumAReference.nD Cert.ChipSumAReference.τ Cert.ChipSumAReference.sig) → Buf (Elt Bits) ℓ) (g' : Dev Cert.ChipSumAReference.nD → PrngReg), Pre_ChipSumA m →
    (∀ c : Dev Cert.ChipSumA.nD,
      m' ((c.tc : Thread Cert.ChipSumAReference.nD Cert.ChipSumAReference.τ).loc Cert.ChipSumAReference.main_arg0) = m ((c.tc : Thread Cert.ChipSumA.nD Cert.ChipSumA.τ).loc Cert.ChipSumA.main_arg0)
      ∧ m' ((c.tc : Thread Cert.ChipSumAReference.nD Cert.ChipSumAReference.τ).loc Cert.ChipSumAReference.main_arg1) = m ((c.tc : Thread Cert.ChipSumA.nD Cert.ChipSumA.τ).loc Cert.ChipSumA.main_arg1)
      ∧ m' ((c.tc : Thread Cert.ChipSumAReference.nD Cert.ChipSumAReference.τ).loc Cert.ChipSumAReference.main_arg2) = m ((c.tc : Thread Cert.ChipSumA.nD Cert.ChipSumA.τ).loc Cert.ChipSumA.main_arg2)
      ∧ m' ((c.tc : Thread Cert.ChipSumAReference.nD Cert.ChipSumAReference.τ).loc Cert.ChipSumAReference.main_arg3) = m ((c.tc : Thread Cert.ChipSumA.nD Cert.ChipSumA.τ).loc Cert.ChipSumA.main_arg3)) →
    ∃ (v0 : (c : Dev Cert.ChipSumA.nD) → Buf (Elt Bits) ((c.tc : Thread Cert.ChipSumA.nD Cert.ChipSumA.τ).loc Cert.ChipSumA.main_v0)),
      θ_run (Cert.ChipSumA.defs (F := Bits)) (onTc (τ := Cert.ChipSumA.τ) (Cert.ChipSumA.main (F := Bits))) ⟨m, fun _ => 0, g⟩ (fun r => ∀ c : Dev Cert.ChipSumA.nD,
          r.2.mem ((c.tc : Thread Cert.ChipSumA.nD Cert.ChipSumA.τ).loc Cert.ChipSumA.main_v0) = v0 c
          ∧ r.2.mem ((c.tc : Thread Cert.ChipSumA.nD Cert.ChipSumA.τ).loc Cert.ChipSumA.main_arg0) = m ((c.tc : Thread Cert.ChipSumA.nD Cert.ChipSumA.τ).loc Cert.ChipSumA.main_arg0)
          ∧ r.2.mem ((c.tc : Thread Cert.ChipSumA.nD Cert.ChipSumA.τ).loc Cert.ChipSumA.main_arg1) = m ((c.tc : Thread Cert.ChipSumA.nD Cert.ChipSumA.τ).loc Cert.ChipSumA.main_arg1)
          ∧ r.2.mem ((c.tc : Thread Cert.ChipSumA.nD Cert.ChipSumA.τ).loc Cert.ChipSumA.main_arg2) = m ((c.tc : Thread Cert.ChipSumA.nD Cert.ChipSumA.τ).loc Cert.ChipSumA.main_arg2)
          ∧ r.2.mem ((c.tc : Thread Cert.ChipSumA.nD Cert.ChipSumA.τ).loc Cert.ChipSumA.main_arg3) = m ((c.tc : Thread Cert.ChipSumA.nD Cert.ChipSumA.τ).loc Cert.ChipSumA.main_arg3))
      ∧ θ_run (Cert.ChipSumAReference.defs (F := Bits)) (onTc (τ := Cert.ChipSumAReference.τ) (Cert.ChipSumAReference.main (F := Bits))) ⟨m', fun _ => 0, g'⟩ (fun r => ∀ c : Dev Cert.ChipSumAReference.nD,
          r.2.mem ((c.tc : Thread Cert.ChipSumAReference.nD Cert.ChipSumAReference.τ).loc Cert.ChipSumAReference.main_v6) = v0 c
          ∧ r.2.mem ((c.tc : Thread Cert.ChipSumAReference.nD Cert.ChipSumAReference.τ).loc Cert.ChipSumAReference.main_arg0) = m' ((c.tc : Thread Cert.ChipSumAReference.nD Cert.ChipSumAReference.τ).loc Cert.ChipSumAReference.main_arg0)
          ∧ r.2.mem ((c.tc : Thread Cert.ChipSumAReference.nD Cert.ChipSumAReference.τ).loc Cert.ChipSumAReference.main_arg1) = m' ((c.tc : Thread Cert.ChipSumAReference.nD Cert.ChipSumAReference.τ).loc Cert.ChipSumAReference.main_arg1)
          ∧ r.2.mem ((c.tc : Thread Cert.ChipSumAReference.nD Cert.ChipSumAReference.τ).loc Cert.ChipSumAReference.main_arg2) = m' ((c.tc : Thread Cert.ChipSumAReference.nD Cert.ChipSumAReference.τ).loc Cert.ChipSumAReference.main_arg2)
          ∧ r.2.mem ((c.tc : Thread Cert.ChipSumAReference.nD Cert.ChipSumAReference.τ).loc Cert.ChipSumAReference.main_arg3) = m' ((c.tc : Thread Cert.ChipSumAReference.nD Cert.ChipSumAReference.τ).loc Cert.ChipSumAReference.main_arg3))

def preserves_ChipSumB_ChipSumBIdeal : Prop :=
  True

def algebraic_ChipSumBIdeal_ChipSumBReferenceIdeal [hChipSumBIdeal : Cert.ChipSumBIdeal.Facts] [hChipSumBReferenceIdeal : Cert.ChipSumBReferenceIdeal.Facts] : Prop :=
  ∀ (m : (ℓ : Loc Cert.ChipSumBIdeal.nD Cert.ChipSumBIdeal.τ Cert.ChipSumBIdeal.sig) → Buf (Elt Ideal) ℓ) (g : Dev Cert.ChipSumBIdeal.nD → PrngReg)
    (m' : (ℓ : Loc Cert.ChipSumBReferenceIdeal.nD Cert.ChipSumBReferenceIdeal.τ Cert.ChipSumBReferenceIdeal.sig) → Buf (Elt Ideal) ℓ) (g' : Dev Cert.ChipSumBReferenceIdeal.nD → PrngReg), Pre_ChipSumBIdeal m →
    (∀ c : Dev Cert.ChipSumBIdeal.nD,
      m' ((c.tc : Thread Cert.ChipSumBReferenceIdeal.nD Cert.ChipSumBReferenceIdeal.τ).loc Cert.ChipSumBReferenceIdeal.main_arg0) = m ((c.tc : Thread Cert.ChipSumBIdeal.nD Cert.ChipSumBIdeal.τ).loc Cert.ChipSumBIdeal.main_arg0)
      ∧ m' ((c.tc : Thread Cert.ChipSumBReferenceIdeal.nD Cert.ChipSumBReferenceIdeal.τ).loc Cert.ChipSumBReferenceIdeal.main_arg1) = m ((c.tc : Thread Cert.ChipSumBIdeal.nD Cert.ChipSumBIdeal.τ).loc Cert.ChipSumBIdeal.main_arg1)
      ∧ m' ((c.tc : Thread Cert.ChipSumBReferenceIdeal.nD Cert.ChipSumBReferenceIdeal.τ).loc Cert.ChipSumBReferenceIdeal.main_arg2) = m ((c.tc : Thread Cert.ChipSumBIdeal.nD Cert.ChipSumBIdeal.τ).loc Cert.ChipSumBIdeal.main_arg2)
      ∧ m' ((c.tc : Thread Cert.ChipSumBReferenceIdeal.nD Cert.ChipSumBReferenceIdeal.τ).loc Cert.ChipSumBReferenceIdeal.main_arg3) = m ((c.tc : Thread Cert.ChipSumBIdeal.nD Cert.ChipSumBIdeal.τ).loc Cert.ChipSumBIdeal.main_arg3)) →
    ∃ (v0 : (c : Dev Cert.ChipSumBIdeal.nD) → Buf (Elt Ideal) ((c.tc : Thread Cert.ChipSumBIdeal.nD Cert.ChipSumBIdeal.τ).loc Cert.ChipSumBIdeal.main_v0)),
      θ_run (Cert.ChipSumBIdeal.defs (F := Ideal)) (onTc (τ := Cert.ChipSumBIdeal.τ) (Cert.ChipSumBIdeal.main (F := Ideal))) ⟨m, fun _ => 0, g⟩ (fun r => ∀ c : Dev Cert.ChipSumBIdeal.nD,
          r.2.mem ((c.tc : Thread Cert.ChipSumBIdeal.nD Cert.ChipSumBIdeal.τ).loc Cert.ChipSumBIdeal.main_v0) = v0 c
          ∧ r.2.mem ((c.tc : Thread Cert.ChipSumBIdeal.nD Cert.ChipSumBIdeal.τ).loc Cert.ChipSumBIdeal.main_arg0) = m ((c.tc : Thread Cert.ChipSumBIdeal.nD Cert.ChipSumBIdeal.τ).loc Cert.ChipSumBIdeal.main_arg0)
          ∧ r.2.mem ((c.tc : Thread Cert.ChipSumBIdeal.nD Cert.ChipSumBIdeal.τ).loc Cert.ChipSumBIdeal.main_arg1) = m ((c.tc : Thread Cert.ChipSumBIdeal.nD Cert.ChipSumBIdeal.τ).loc Cert.ChipSumBIdeal.main_arg1)
          ∧ r.2.mem ((c.tc : Thread Cert.ChipSumBIdeal.nD Cert.ChipSumBIdeal.τ).loc Cert.ChipSumBIdeal.main_arg2) = m ((c.tc : Thread Cert.ChipSumBIdeal.nD Cert.ChipSumBIdeal.τ).loc Cert.ChipSumBIdeal.main_arg2)
          ∧ r.2.mem ((c.tc : Thread Cert.ChipSumBIdeal.nD Cert.ChipSumBIdeal.τ).loc Cert.ChipSumBIdeal.main_arg3) = m ((c.tc : Thread Cert.ChipSumBIdeal.nD Cert.ChipSumBIdeal.τ).loc Cert.ChipSumBIdeal.main_arg3))
      ∧ θ_run (Cert.ChipSumBReferenceIdeal.defs (F := Ideal)) (onTc (τ := Cert.ChipSumBReferenceIdeal.τ) (Cert.ChipSumBReferenceIdeal.main (F := Ideal))) ⟨m', fun _ => 0, g'⟩ (fun r => ∀ c : Dev Cert.ChipSumBReferenceIdeal.nD,
          r.2.mem ((c.tc : Thread Cert.ChipSumBReferenceIdeal.nD Cert.ChipSumBReferenceIdeal.τ).loc Cert.ChipSumBReferenceIdeal.main_v6) = v0 c
          ∧ r.2.mem ((c.tc : Thread Cert.ChipSumBReferenceIdeal.nD Cert.ChipSumBReferenceIdeal.τ).loc Cert.ChipSumBReferenceIdeal.main_arg0) = m' ((c.tc : Thread Cert.ChipSumBReferenceIdeal.nD Cert.ChipSumBReferenceIdeal.τ).loc Cert.ChipSumBReferenceIdeal.main_arg0)
          ∧ r.2.mem ((c.tc : Thread Cert.ChipSumBReferenceIdeal.nD Cert.ChipSumBReferenceIdeal.τ).loc Cert.ChipSumBReferenceIdeal.main_arg1) = m' ((c.tc : Thread Cert.ChipSumBReferenceIdeal.nD Cert.ChipSumBReferenceIdeal.τ).loc Cert.ChipSumBReferenceIdeal.main_arg1)
          ∧ r.2.mem ((c.tc : Thread Cert.ChipSumBReferenceIdeal.nD Cert.ChipSumBReferenceIdeal.τ).loc Cert.ChipSumBReferenceIdeal.main_arg2) = m' ((c.tc : Thread Cert.ChipSumBReferenceIdeal.nD Cert.ChipSumBReferenceIdeal.τ).loc Cert.ChipSumBReferenceIdeal.main_arg2)
          ∧ r.2.mem ((c.tc : Thread Cert.ChipSumBReferenceIdeal.nD Cert.ChipSumBReferenceIdeal.τ).loc Cert.ChipSumBReferenceIdeal.main_arg3) = m' ((c.tc : Thread Cert.ChipSumBReferenceIdeal.nD Cert.ChipSumBReferenceIdeal.τ).loc Cert.ChipSumBReferenceIdeal.main_arg3))

def bitexact_ChipSumB_ChipSumBReference [hChipSumB : Cert.ChipSumB.Facts] [hChipSumBReference : Cert.ChipSumBReference.Facts] : Prop :=
  ∀ (m : (ℓ : Loc Cert.ChipSumB.nD Cert.ChipSumB.τ Cert.ChipSumB.sig) → Buf (Elt Bits) ℓ) (g : Dev Cert.ChipSumB.nD → PrngReg)
    (m' : (ℓ : Loc Cert.ChipSumBReference.nD Cert.ChipSumBReference.τ Cert.ChipSumBReference.sig) → Buf (Elt Bits) ℓ) (g' : Dev Cert.ChipSumBReference.nD → PrngReg), Pre_ChipSumB m →
    (∀ c : Dev Cert.ChipSumB.nD,
      m' ((c.tc : Thread Cert.ChipSumBReference.nD Cert.ChipSumBReference.τ).loc Cert.ChipSumBReference.main_arg0) = m ((c.tc : Thread Cert.ChipSumB.nD Cert.ChipSumB.τ).loc Cert.ChipSumB.main_arg0)
      ∧ m' ((c.tc : Thread Cert.ChipSumBReference.nD Cert.ChipSumBReference.τ).loc Cert.ChipSumBReference.main_arg1) = m ((c.tc : Thread Cert.ChipSumB.nD Cert.ChipSumB.τ).loc Cert.ChipSumB.main_arg1)
      ∧ m' ((c.tc : Thread Cert.ChipSumBReference.nD Cert.ChipSumBReference.τ).loc Cert.ChipSumBReference.main_arg2) = m ((c.tc : Thread Cert.ChipSumB.nD Cert.ChipSumB.τ).loc Cert.ChipSumB.main_arg2)
      ∧ m' ((c.tc : Thread Cert.ChipSumBReference.nD Cert.ChipSumBReference.τ).loc Cert.ChipSumBReference.main_arg3) = m ((c.tc : Thread Cert.ChipSumB.nD Cert.ChipSumB.τ).loc Cert.ChipSumB.main_arg3)) →
    ∃ (v0 : (c : Dev Cert.ChipSumB.nD) → Buf (Elt Bits) ((c.tc : Thread Cert.ChipSumB.nD Cert.ChipSumB.τ).loc Cert.ChipSumB.main_v0)),
      θ_run (Cert.ChipSumB.defs (F := Bits)) (onTc (τ := Cert.ChipSumB.τ) (Cert.ChipSumB.main (F := Bits))) ⟨m, fun _ => 0, g⟩ (fun r => ∀ c : Dev Cert.ChipSumB.nD,
          r.2.mem ((c.tc : Thread Cert.ChipSumB.nD Cert.ChipSumB.τ).loc Cert.ChipSumB.main_v0) = v0 c
          ∧ r.2.mem ((c.tc : Thread Cert.ChipSumB.nD Cert.ChipSumB.τ).loc Cert.ChipSumB.main_arg0) = m ((c.tc : Thread Cert.ChipSumB.nD Cert.ChipSumB.τ).loc Cert.ChipSumB.main_arg0)
          ∧ r.2.mem ((c.tc : Thread Cert.ChipSumB.nD Cert.ChipSumB.τ).loc Cert.ChipSumB.main_arg1) = m ((c.tc : Thread Cert.ChipSumB.nD Cert.ChipSumB.τ).loc Cert.ChipSumB.main_arg1)
          ∧ r.2.mem ((c.tc : Thread Cert.ChipSumB.nD Cert.ChipSumB.τ).loc Cert.ChipSumB.main_arg2) = m ((c.tc : Thread Cert.ChipSumB.nD Cert.ChipSumB.τ).loc Cert.ChipSumB.main_arg2)
          ∧ r.2.mem ((c.tc : Thread Cert.ChipSumB.nD Cert.ChipSumB.τ).loc Cert.ChipSumB.main_arg3) = m ((c.tc : Thread Cert.ChipSumB.nD Cert.ChipSumB.τ).loc Cert.ChipSumB.main_arg3))
      ∧ θ_run (Cert.ChipSumBReference.defs (F := Bits)) (onTc (τ := Cert.ChipSumBReference.τ) (Cert.ChipSumBReference.main (F := Bits))) ⟨m', fun _ => 0, g'⟩ (fun r => ∀ c : Dev Cert.ChipSumBReference.nD,
          r.2.mem ((c.tc : Thread Cert.ChipSumBReference.nD Cert.ChipSumBReference.τ).loc Cert.ChipSumBReference.main_v6) = v0 c
          ∧ r.2.mem ((c.tc : Thread Cert.ChipSumBReference.nD Cert.ChipSumBReference.τ).loc Cert.ChipSumBReference.main_arg0) = m' ((c.tc : Thread Cert.ChipSumBReference.nD Cert.ChipSumBReference.τ).loc Cert.ChipSumBReference.main_arg0)
          ∧ r.2.mem ((c.tc : Thread Cert.ChipSumBReference.nD Cert.ChipSumBReference.τ).loc Cert.ChipSumBReference.main_arg1) = m' ((c.tc : Thread Cert.ChipSumBReference.nD Cert.ChipSumBReference.τ).loc Cert.ChipSumBReference.main_arg1)
          ∧ r.2.mem ((c.tc : Thread Cert.ChipSumBReference.nD Cert.ChipSumBReference.τ).loc Cert.ChipSumBReference.main_arg2) = m' ((c.tc : Thread Cert.ChipSumBReference.nD Cert.ChipSumBReference.τ).loc Cert.ChipSumBReference.main_arg2)
          ∧ r.2.mem ((c.tc : Thread Cert.ChipSumBReference.nD Cert.ChipSumBReference.τ).loc Cert.ChipSumBReference.main_arg3) = m' ((c.tc : Thread Cert.ChipSumBReference.nD Cert.ChipSumBReference.τ).loc Cert.ChipSumBReference.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamBranchA_AdamBranchAIdeal : Prop :=
  True

def algebraic_AdamBranchAIdeal_AdamBranchAReferenceIdeal [hAdamBranchAIdeal : Cert.AdamBranchAIdeal.Facts] [hAdamBranchAReferenceIdeal : Cert.AdamBranchAReferenceIdeal.Facts] : Prop :=
  ∀ (m : (ℓ : Loc Cert.AdamBranchAIdeal.nD Cert.AdamBranchAIdeal.τ Cert.AdamBranchAIdeal.sig) → Buf (Elt Ideal) ℓ) (g : Dev Cert.AdamBranchAIdeal.nD → PrngReg)
    (m' : (ℓ : Loc Cert.AdamBranchAReferenceIdeal.nD Cert.AdamBranchAReferenceIdeal.τ Cert.AdamBranchAReferenceIdeal.sig) → Buf (Elt Ideal) ℓ) (g' : Dev Cert.AdamBranchAReferenceIdeal.nD → PrngReg), Pre_AdamBranchAIdeal m →
    (∀ c : Dev Cert.AdamBranchAIdeal.nD,
      m' ((c.tc : Thread Cert.AdamBranchAReferenceIdeal.nD Cert.AdamBranchAReferenceIdeal.τ).loc Cert.AdamBranchAReferenceIdeal.main_arg0) = m ((c.tc : Thread Cert.AdamBranchAIdeal.nD Cert.AdamBranchAIdeal.τ).loc Cert.AdamBranchAIdeal.main_arg0)
      ∧ m' ((c.tc : Thread Cert.AdamBranchAReferenceIdeal.nD Cert.AdamBranchAReferenceIdeal.τ).loc Cert.AdamBranchAReferenceIdeal.main_arg1) = m ((c.tc : Thread Cert.AdamBranchAIdeal.nD Cert.AdamBranchAIdeal.τ).loc Cert.AdamBranchAIdeal.main_arg1)
      ∧ m' ((c.tc : Thread Cert.AdamBranchAReferenceIdeal.nD Cert.AdamBranchAReferenceIdeal.τ).loc Cert.AdamBranchAReferenceIdeal.main_arg2) = m ((c.tc : Thread Cert.AdamBranchAIdeal.nD Cert.AdamBranchAIdeal.τ).loc Cert.AdamBranchAIdeal.main_arg2)
      ∧ m' ((c.tc : Thread Cert.AdamBranchAReferenceIdeal.nD Cert.AdamBranchAReferenceIdeal.τ).loc Cert.AdamBranchAReferenceIdeal.main_arg3) = m ((c.tc : Thread Cert.AdamBranchAIdeal.nD Cert.AdamBranchAIdeal.τ).loc Cert.AdamBranchAIdeal.main_arg3)) →
    ∃ (v0 : (c : Dev Cert.AdamBranchAIdeal.nD) → Buf (Elt Ideal) ((c.tc : Thread Cert.AdamBranchAIdeal.nD Cert.AdamBranchAIdeal.τ).loc Cert.AdamBranchAIdeal.main_v0_0)) (v1 : (c : Dev Cert.AdamBranchAIdeal.nD) → Buf (Elt Ideal) ((c.tc : Thread Cert.AdamBranchAIdeal.nD Cert.AdamBranchAIdeal.τ).loc Cert.AdamBranchAIdeal.main_v0_1)) (v2 : (c : Dev Cert.AdamBranchAIdeal.nD) → Buf (Elt Ideal) ((c.tc : Thread Cert.AdamBranchAIdeal.nD Cert.AdamBranchAIdeal.τ).loc Cert.AdamBranchAIdeal.main_v0_2)),
      θ_run (Cert.AdamBranchAIdeal.defs (F := Ideal)) (onTc (τ := Cert.AdamBranchAIdeal.τ) (Cert.AdamBranchAIdeal.main (F := Ideal))) ⟨m, fun _ => 0, g⟩ (fun r => ∀ c : Dev Cert.AdamBranchAIdeal.nD,
          r.2.mem ((c.tc : Thread Cert.AdamBranchAIdeal.nD Cert.AdamBranchAIdeal.τ).loc Cert.AdamBranchAIdeal.main_v0_0) = v0 c
          ∧ r.2.mem ((c.tc : Thread Cert.AdamBranchAIdeal.nD Cert.AdamBranchAIdeal.τ).loc Cert.AdamBranchAIdeal.main_v0_1) = v1 c
          ∧ r.2.mem ((c.tc : Thread Cert.AdamBranchAIdeal.nD Cert.AdamBranchAIdeal.τ).loc Cert.AdamBranchAIdeal.main_v0_2) = v2 c
          ∧ r.2.mem ((c.tc : Thread Cert.AdamBranchAIdeal.nD Cert.AdamBranchAIdeal.τ).loc Cert.AdamBranchAIdeal.main_arg0) = m ((c.tc : Thread Cert.AdamBranchAIdeal.nD Cert.AdamBranchAIdeal.τ).loc Cert.AdamBranchAIdeal.main_arg0)
          ∧ r.2.mem ((c.tc : Thread Cert.AdamBranchAIdeal.nD Cert.AdamBranchAIdeal.τ).loc Cert.AdamBranchAIdeal.main_arg1) = m ((c.tc : Thread Cert.AdamBranchAIdeal.nD Cert.AdamBranchAIdeal.τ).loc Cert.AdamBranchAIdeal.main_arg1)
          ∧ r.2.mem ((c.tc : Thread Cert.AdamBranchAIdeal.nD Cert.AdamBranchAIdeal.τ).loc Cert.AdamBranchAIdeal.main_arg2) = m ((c.tc : Thread Cert.AdamBranchAIdeal.nD Cert.AdamBranchAIdeal.τ).loc Cert.AdamBranchAIdeal.main_arg2)
          ∧ r.2.mem ((c.tc : Thread Cert.AdamBranchAIdeal.nD Cert.AdamBranchAIdeal.τ).loc Cert.AdamBranchAIdeal.main_arg3) = m ((c.tc : Thread Cert.AdamBranchAIdeal.nD Cert.AdamBranchAIdeal.τ).loc Cert.AdamBranchAIdeal.main_arg3))
      ∧ θ_run (Cert.AdamBranchAReferenceIdeal.defs (F := Ideal)) (onTc (τ := Cert.AdamBranchAReferenceIdeal.τ) (Cert.AdamBranchAReferenceIdeal.main (F := Ideal))) ⟨m', fun _ => 0, g'⟩ (fun r => ∀ c : Dev Cert.AdamBranchAReferenceIdeal.nD,
          r.2.mem ((c.tc : Thread Cert.AdamBranchAReferenceIdeal.nD Cert.AdamBranchAReferenceIdeal.τ).loc Cert.AdamBranchAReferenceIdeal.main_v23) = v0 c
          ∧ r.2.mem ((c.tc : Thread Cert.AdamBranchAReferenceIdeal.nD Cert.AdamBranchAReferenceIdeal.τ).loc Cert.AdamBranchAReferenceIdeal.main_v4) = v1 c
          ∧ r.2.mem ((c.tc : Thread Cert.AdamBranchAReferenceIdeal.nD Cert.AdamBranchAReferenceIdeal.τ).loc Cert.AdamBranchAReferenceIdeal.main_v10) = v2 c
          ∧ r.2.mem ((c.tc : Thread Cert.AdamBranchAReferenceIdeal.nD Cert.AdamBranchAReferenceIdeal.τ).loc Cert.AdamBranchAReferenceIdeal.main_arg0) = m' ((c.tc : Thread Cert.AdamBranchAReferenceIdeal.nD Cert.AdamBranchAReferenceIdeal.τ).loc Cert.AdamBranchAReferenceIdeal.main_arg0)
          ∧ r.2.mem ((c.tc : Thread Cert.AdamBranchAReferenceIdeal.nD Cert.AdamBranchAReferenceIdeal.τ).loc Cert.AdamBranchAReferenceIdeal.main_arg1) = m' ((c.tc : Thread Cert.AdamBranchAReferenceIdeal.nD Cert.AdamBranchAReferenceIdeal.τ).loc Cert.AdamBranchAReferenceIdeal.main_arg1)
          ∧ r.2.mem ((c.tc : Thread Cert.AdamBranchAReferenceIdeal.nD Cert.AdamBranchAReferenceIdeal.τ).loc Cert.AdamBranchAReferenceIdeal.main_arg2) = m' ((c.tc : Thread Cert.AdamBranchAReferenceIdeal.nD Cert.AdamBranchAReferenceIdeal.τ).loc Cert.AdamBranchAReferenceIdeal.main_arg2)
          ∧ r.2.mem ((c.tc : Thread Cert.AdamBranchAReferenceIdeal.nD Cert.AdamBranchAReferenceIdeal.τ).loc Cert.AdamBranchAReferenceIdeal.main_arg3) = m' ((c.tc : Thread Cert.AdamBranchAReferenceIdeal.nD Cert.AdamBranchAReferenceIdeal.τ).loc Cert.AdamBranchAReferenceIdeal.main_arg3))

def preserves_AdamBranchB_AdamBranchBIdeal : Prop :=
  True

def algebraic_AdamBranchBIdeal_AdamBranchBReferenceIdeal [hAdamBranchBIdeal : Cert.AdamBranchBIdeal.Facts] [hAdamBranchBReferenceIdeal : Cert.AdamBranchBReferenceIdeal.Facts] : Prop :=
  ∀ (m : (ℓ : Loc Cert.AdamBranchBIdeal.nD Cert.AdamBranchBIdeal.τ Cert.AdamBranchBIdeal.sig) → Buf (Elt Ideal) ℓ) (g : Dev Cert.AdamBranchBIdeal.nD → PrngReg)
    (m' : (ℓ : Loc Cert.AdamBranchBReferenceIdeal.nD Cert.AdamBranchBReferenceIdeal.τ Cert.AdamBranchBReferenceIdeal.sig) → Buf (Elt Ideal) ℓ) (g' : Dev Cert.AdamBranchBReferenceIdeal.nD → PrngReg), Pre_AdamBranchBIdeal m →
    (∀ c : Dev Cert.AdamBranchBIdeal.nD,
      m' ((c.tc : Thread Cert.AdamBranchBReferenceIdeal.nD Cert.AdamBranchBReferenceIdeal.τ).loc Cert.AdamBranchBReferenceIdeal.main_arg0) = m ((c.tc : Thread Cert.AdamBranchBIdeal.nD Cert.AdamBranchBIdeal.τ).loc Cert.AdamBranchBIdeal.main_arg0)
      ∧ m' ((c.tc : Thread Cert.AdamBranchBReferenceIdeal.nD Cert.AdamBranchBReferenceIdeal.τ).loc Cert.AdamBranchBReferenceIdeal.main_arg1) = m ((c.tc : Thread Cert.AdamBranchBIdeal.nD Cert.AdamBranchBIdeal.τ).loc Cert.AdamBranchBIdeal.main_arg1)
      ∧ m' ((c.tc : Thread Cert.AdamBranchBReferenceIdeal.nD Cert.AdamBranchBReferenceIdeal.τ).loc Cert.AdamBranchBReferenceIdeal.main_arg2) = m ((c.tc : Thread Cert.AdamBranchBIdeal.nD Cert.AdamBranchBIdeal.τ).loc Cert.AdamBranchBIdeal.main_arg2)
      ∧ m' ((c.tc : Thread Cert.AdamBranchBReferenceIdeal.nD Cert.AdamBranchBReferenceIdeal.τ).loc Cert.AdamBranchBReferenceIdeal.main_arg3) = m ((c.tc : Thread Cert.AdamBranchBIdeal.nD Cert.AdamBranchBIdeal.τ).loc Cert.AdamBranchBIdeal.main_arg3)) →
    ∃ (v0 : (c : Dev Cert.AdamBranchBIdeal.nD) → Buf (Elt Ideal) ((c.tc : Thread Cert.AdamBranchBIdeal.nD Cert.AdamBranchBIdeal.τ).loc Cert.AdamBranchBIdeal.main_v0_0)) (v1 : (c : Dev Cert.AdamBranchBIdeal.nD) → Buf (Elt Ideal) ((c.tc : Thread Cert.AdamBranchBIdeal.nD Cert.AdamBranchBIdeal.τ).loc Cert.AdamBranchBIdeal.main_v0_1)) (v2 : (c : Dev Cert.AdamBranchBIdeal.nD) → Buf (Elt Ideal) ((c.tc : Thread Cert.AdamBranchBIdeal.nD Cert.AdamBranchBIdeal.τ).loc Cert.AdamBranchBIdeal.main_v0_2)),
      θ_run (Cert.AdamBranchBIdeal.defs (F := Ideal)) (onTc (τ := Cert.AdamBranchBIdeal.τ) (Cert.AdamBranchBIdeal.main (F := Ideal))) ⟨m, fun _ => 0, g⟩ (fun r => ∀ c : Dev Cert.AdamBranchBIdeal.nD,
          r.2.mem ((c.tc : Thread Cert.AdamBranchBIdeal.nD Cert.AdamBranchBIdeal.τ).loc Cert.AdamBranchBIdeal.main_v0_0) = v0 c
          ∧ r.2.mem ((c.tc : Thread Cert.AdamBranchBIdeal.nD Cert.AdamBranchBIdeal.τ).loc Cert.AdamBranchBIdeal.main_v0_1) = v1 c
          ∧ r.2.mem ((c.tc : Thread Cert.AdamBranchBIdeal.nD Cert.AdamBranchBIdeal.τ).loc Cert.AdamBranchBIdeal.main_v0_2) = v2 c
          ∧ r.2.mem ((c.tc : Thread Cert.AdamBranchBIdeal.nD Cert.AdamBranchBIdeal.τ).loc Cert.AdamBranchBIdeal.main_arg0) = m ((c.tc : Thread Cert.AdamBranchBIdeal.nD Cert.AdamBranchBIdeal.τ).loc Cert.AdamBranchBIdeal.main_arg0)
          ∧ r.2.mem ((c.tc : Thread Cert.AdamBranchBIdeal.nD Cert.AdamBranchBIdeal.τ).loc Cert.AdamBranchBIdeal.main_arg1) = m ((c.tc : Thread Cert.AdamBranchBIdeal.nD Cert.AdamBranchBIdeal.τ).loc Cert.AdamBranchBIdeal.main_arg1)
          ∧ r.2.mem ((c.tc : Thread Cert.AdamBranchBIdeal.nD Cert.AdamBranchBIdeal.τ).loc Cert.AdamBranchBIdeal.main_arg2) = m ((c.tc : Thread Cert.AdamBranchBIdeal.nD Cert.AdamBranchBIdeal.τ).loc Cert.AdamBranchBIdeal.main_arg2)
          ∧ r.2.mem ((c.tc : Thread Cert.AdamBranchBIdeal.nD Cert.AdamBranchBIdeal.τ).loc Cert.AdamBranchBIdeal.main_arg3) = m ((c.tc : Thread Cert.AdamBranchBIdeal.nD Cert.AdamBranchBIdeal.τ).loc Cert.AdamBranchBIdeal.main_arg3))
      ∧ θ_run (Cert.AdamBranchBReferenceIdeal.defs (F := Ideal)) (onTc (τ := Cert.AdamBranchBReferenceIdeal.τ) (Cert.AdamBranchBReferenceIdeal.main (F := Ideal))) ⟨m', fun _ => 0, g'⟩ (fun r => ∀ c : Dev Cert.AdamBranchBReferenceIdeal.nD,
          r.2.mem ((c.tc : Thread Cert.AdamBranchBReferenceIdeal.nD Cert.AdamBranchBReferenceIdeal.τ).loc Cert.AdamBranchBReferenceIdeal.main_v23) = v0 c
          ∧ r.2.mem ((c.tc : Thread Cert.AdamBranchBReferenceIdeal.nD Cert.AdamBranchBReferenceIdeal.τ).loc Cert.AdamBranchBReferenceIdeal.main_v4) = v1 c
          ∧ r.2.mem ((c.tc : Thread Cert.AdamBranchBReferenceIdeal.nD Cert.AdamBranchBReferenceIdeal.τ).loc Cert.AdamBranchBReferenceIdeal.main_v10) = v2 c
          ∧ r.2.mem ((c.tc : Thread Cert.AdamBranchBReferenceIdeal.nD Cert.AdamBranchBReferenceIdeal.τ).loc Cert.AdamBranchBReferenceIdeal.main_arg0) = m' ((c.tc : Thread Cert.AdamBranchBReferenceIdeal.nD Cert.AdamBranchBReferenceIdeal.τ).loc Cert.AdamBranchBReferenceIdeal.main_arg0)
          ∧ r.2.mem ((c.tc : Thread Cert.AdamBranchBReferenceIdeal.nD Cert.AdamBranchBReferenceIdeal.τ).loc Cert.AdamBranchBReferenceIdeal.main_arg1) = m' ((c.tc : Thread Cert.AdamBranchBReferenceIdeal.nD Cert.AdamBranchBReferenceIdeal.τ).loc Cert.AdamBranchBReferenceIdeal.main_arg1)
          ∧ r.2.mem ((c.tc : Thread Cert.AdamBranchBReferenceIdeal.nD Cert.AdamBranchBReferenceIdeal.τ).loc Cert.AdamBranchBReferenceIdeal.main_arg2) = m' ((c.tc : Thread Cert.AdamBranchBReferenceIdeal.nD Cert.AdamBranchBReferenceIdeal.τ).loc Cert.AdamBranchBReferenceIdeal.main_arg2)
          ∧ r.2.mem ((c.tc : Thread Cert.AdamBranchBReferenceIdeal.nD Cert.AdamBranchBReferenceIdeal.τ).loc Cert.AdamBranchBReferenceIdeal.main_arg3) = m' ((c.tc : Thread Cert.AdamBranchBReferenceIdeal.nD Cert.AdamBranchBReferenceIdeal.τ).loc Cert.AdamBranchBReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)
      ∧ m' ((c.tc : Thread Cert.AdamSmallReferenceIdeal.nD Cert.AdamSmallReferenceIdeal.τ).loc Cert.AdamSmallReferenceIdeal.main_arg4) = m ((c.tc : Thread Cert.AdamSmallIdeal.nD Cert.AdamSmallIdeal.τ).loc Cert.AdamSmallIdeal.main_arg4)
      ∧ m' ((c.tc : Thread Cert.AdamSmallReferenceIdeal.nD Cert.AdamSmallReferenceIdeal.τ).loc Cert.AdamSmallReferenceIdeal.main_arg5) = m ((c.tc : Thread Cert.AdamSmallIdeal.nD Cert.AdamSmallIdeal.τ).loc Cert.AdamSmallIdeal.main_arg5)
      ∧ m' ((c.tc : Thread Cert.AdamSmallReferenceIdeal.nD Cert.AdamSmallReferenceIdeal.τ).loc Cert.AdamSmallReferenceIdeal.main_arg6) = m ((c.tc : Thread Cert.AdamSmallIdeal.nD Cert.AdamSmallIdeal.τ).loc Cert.AdamSmallIdeal.main_arg6)
      ∧ m' ((c.tc : Thread Cert.AdamSmallReferenceIdeal.nD Cert.AdamSmallReferenceIdeal.τ).loc Cert.AdamSmallReferenceIdeal.main_arg7) = m ((c.tc : Thread Cert.AdamSmallIdeal.nD Cert.AdamSmallIdeal.τ).loc Cert.AdamSmallIdeal.main_arg7)
      ∧ m' ((c.tc : Thread Cert.AdamSmallReferenceIdeal.nD Cert.AdamSmallReferenceIdeal.τ).loc Cert.AdamSmallReferenceIdeal.main_arg8) = m ((c.tc : Thread Cert.AdamSmallIdeal.nD Cert.AdamSmallIdeal.τ).loc Cert.AdamSmallIdeal.main_arg8)
      ∧ m' ((c.tc : Thread Cert.AdamSmallReferenceIdeal.nD Cert.AdamSmallReferenceIdeal.τ).loc Cert.AdamSmallReferenceIdeal.main_arg9) = m ((c.tc : Thread Cert.AdamSmallIdeal.nD Cert.AdamSmallIdeal.τ).loc Cert.AdamSmallIdeal.main_arg9)
      ∧ m' ((c.tc : Thread Cert.AdamSmallReferenceIdeal.nD Cert.AdamSmallReferenceIdeal.τ).loc Cert.AdamSmallReferenceIdeal.main_arg10) = m ((c.tc : Thread Cert.AdamSmallIdeal.nD Cert.AdamSmallIdeal.τ).loc Cert.AdamSmallIdeal.main_arg10)
      ∧ m' ((c.tc : Thread Cert.AdamSmallReferenceIdeal.nD Cert.AdamSmallReferenceIdeal.τ).loc Cert.AdamSmallReferenceIdeal.main_arg11) = m ((c.tc : Thread Cert.AdamSmallIdeal.nD Cert.AdamSmallIdeal.τ).loc Cert.AdamSmallIdeal.main_arg11)
      ∧ m' ((c.tc : Thread Cert.AdamSmallReferenceIdeal.nD Cert.AdamSmallReferenceIdeal.τ).loc Cert.AdamSmallReferenceIdeal.main_arg12) = m ((c.tc : Thread Cert.AdamSmallIdeal.nD Cert.AdamSmallIdeal.τ).loc Cert.AdamSmallIdeal.main_arg12)
      ∧ m' ((c.tc : Thread Cert.AdamSmallReferenceIdeal.nD Cert.AdamSmallReferenceIdeal.τ).loc Cert.AdamSmallReferenceIdeal.main_arg13) = m ((c.tc : Thread Cert.AdamSmallIdeal.nD Cert.AdamSmallIdeal.τ).loc Cert.AdamSmallIdeal.main_arg13)
      ∧ m' ((c.tc : Thread Cert.AdamSmallReferenceIdeal.nD Cert.AdamSmallReferenceIdeal.τ).loc Cert.AdamSmallReferenceIdeal.main_arg14) = m ((c.tc : Thread Cert.AdamSmallIdeal.nD Cert.AdamSmallIdeal.τ).loc Cert.AdamSmallIdeal.main_arg14)
      ∧ m' ((c.tc : Thread Cert.AdamSmallReferenceIdeal.nD Cert.AdamSmallReferenceIdeal.τ).loc Cert.AdamSmallReferenceIdeal.main_arg15) = m ((c.tc : Thread Cert.AdamSmallIdeal.nD Cert.AdamSmallIdeal.τ).loc Cert.AdamSmallIdeal.main_arg15)
      ∧ m' ((c.tc : Thread Cert.AdamSmallReferenceIdeal.nD Cert.AdamSmallReferenceIdeal.τ).loc Cert.AdamSmallReferenceIdeal.main_arg16) = m ((c.tc : Thread Cert.AdamSmallIdeal.nD Cert.AdamSmallIdeal.τ).loc Cert.AdamSmallIdeal.main_arg16)
      ∧ m' ((c.tc : Thread Cert.AdamSmallReferenceIdeal.nD Cert.AdamSmallReferenceIdeal.τ).loc Cert.AdamSmallReferenceIdeal.main_arg17) = m ((c.tc : Thread Cert.AdamSmallIdeal.nD Cert.AdamSmallIdeal.τ).loc Cert.AdamSmallIdeal.main_arg17)
      ∧ m' ((c.tc : Thread Cert.AdamSmallReferenceIdeal.nD Cert.AdamSmallReferenceIdeal.τ).loc Cert.AdamSmallReferenceIdeal.main_arg18) = m ((c.tc : Thread Cert.AdamSmallIdeal.nD Cert.AdamSmallIdeal.τ).loc Cert.AdamSmallIdeal.main_arg18)
      ∧ m' ((c.tc : Thread Cert.AdamSmallReferenceIdeal.nD Cert.AdamSmallReferenceIdeal.τ).loc Cert.AdamSmallReferenceIdeal.main_arg19) = m ((c.tc : Thread Cert.AdamSmallIdeal.nD Cert.AdamSmallIdeal.τ).loc Cert.AdamSmallIdeal.main_arg19)
      ∧ m' ((c.tc : Thread Cert.AdamSmallReferenceIdeal.nD Cert.AdamSmallReferenceIdeal.τ).loc Cert.AdamSmallReferenceIdeal.main_arg20) = m ((c.tc : Thread Cert.AdamSmallIdeal.nD Cert.AdamSmallIdeal.τ).loc Cert.AdamSmallIdeal.main_arg20)
      ∧ m' ((c.tc : Thread Cert.AdamSmallReferenceIdeal.nD Cert.AdamSmallReferenceIdeal.τ).loc Cert.AdamSmallReferenceIdeal.main_arg21) = m ((c.tc : Thread Cert.AdamSmallIdeal.nD Cert.AdamSmallIdeal.τ).loc Cert.AdamSmallIdeal.main_arg21)
      ∧ m' ((c.tc : Thread Cert.AdamSmallReferenceIdeal.nD Cert.AdamSmallReferenceIdeal.τ).loc Cert.AdamSmallReferenceIdeal.main_arg22) = m ((c.tc : Thread Cert.AdamSmallIdeal.nD Cert.AdamSmallIdeal.τ).loc Cert.AdamSmallIdeal.main_arg22)
      ∧ m' ((c.tc : Thread Cert.AdamSmallReferenceIdeal.nD Cert.AdamSmallReferenceIdeal.τ).loc Cert.AdamSmallReferenceIdeal.main_arg23) = m ((c.tc : Thread Cert.AdamSmallIdeal.nD Cert.AdamSmallIdeal.τ).loc Cert.AdamSmallIdeal.main_arg23)
      ∧ m' ((c.tc : Thread Cert.AdamSmallReferenceIdeal.nD Cert.AdamSmallReferenceIdeal.τ).loc Cert.AdamSmallReferenceIdeal.main_arg24) = m ((c.tc : Thread Cert.AdamSmallIdeal.nD Cert.AdamSmallIdeal.τ).loc Cert.AdamSmallIdeal.main_arg24)
      ∧ m' ((c.tc : Thread Cert.AdamSmallReferenceIdeal.nD Cert.AdamSmallReferenceIdeal.τ).loc Cert.AdamSmallReferenceIdeal.main_arg25) = m ((c.tc : Thread Cert.AdamSmallIdeal.nD Cert.AdamSmallIdeal.τ).loc Cert.AdamSmallIdeal.main_arg25)
      ∧ m' ((c.tc : Thread Cert.AdamSmallReferenceIdeal.nD Cert.AdamSmallReferenceIdeal.τ).loc Cert.AdamSmallReferenceIdeal.main_arg26) = m ((c.tc : Thread Cert.AdamSmallIdeal.nD Cert.AdamSmallIdeal.τ).loc Cert.AdamSmallIdeal.main_arg26)
      ∧ m' ((c.tc : Thread Cert.AdamSmallReferenceIdeal.nD Cert.AdamSmallReferenceIdeal.τ).loc Cert.AdamSmallReferenceIdeal.main_arg27) = m ((c.tc : Thread Cert.AdamSmallIdeal.nD Cert.AdamSmallIdeal.τ).loc Cert.AdamSmallIdeal.main_arg27)) →
    ∃ (v0 : (c : Dev Cert.AdamSmallIdeal.nD) → Buf (Elt Ideal) ((c.tc : Thread Cert.AdamSmallIdeal.nD Cert.AdamSmallIdeal.τ).loc Cert.AdamSmallIdeal.main_v37)) (v1 : (c : Dev Cert.AdamSmallIdeal.nD) → Buf (Elt Ideal) ((c.tc : Thread Cert.AdamSmallIdeal.nD Cert.AdamSmallIdeal.τ).loc Cert.AdamSmallIdeal.main_v38)) (v2 : (c : Dev Cert.AdamSmallIdeal.nD) → Buf (Elt Ideal) ((c.tc : Thread Cert.AdamSmallIdeal.nD Cert.AdamSmallIdeal.τ).loc Cert.AdamSmallIdeal.main_v43)) (v3 : (c : Dev Cert.AdamSmallIdeal.nD) → Buf (Elt Ideal) ((c.tc : Thread Cert.AdamSmallIdeal.nD Cert.AdamSmallIdeal.τ).loc Cert.AdamSmallIdeal.main_v46)) (v4 : (c : Dev Cert.AdamSmallIdeal.nD) → Buf (Elt Ideal) ((c.tc : Thread Cert.AdamSmallIdeal.nD Cert.AdamSmallIdeal.τ).loc Cert.AdamSmallIdeal.main_v49)) (v5 : (c : Dev Cert.AdamSmallIdeal.nD) → Buf (Elt Ideal) ((c.tc : Thread Cert.AdamSmallIdeal.nD Cert.AdamSmallIdeal.τ).loc Cert.AdamSmallIdeal.main_v39)) (v6 : (c : Dev Cert.AdamSmallIdeal.nD) → Buf (Elt Ideal) ((c.tc : Thread Cert.AdamSmallIdeal.nD Cert.AdamSmallIdeal.τ).loc Cert.AdamSmallIdeal.main_v41)) (v7 : (c : Dev Cert.AdamSmallIdeal.nD) → Buf (Elt Ideal) ((c.tc : Thread Cert.AdamSmallIdeal.nD Cert.AdamSmallIdeal.τ).loc Cert.AdamSmallIdeal.main_v50)) (v8 : (c : Dev Cert.AdamSmallIdeal.nD) → Buf (Elt Ideal) ((c.tc : Thread Cert.AdamSmallIdeal.nD Cert.AdamSmallIdeal.τ).loc Cert.AdamSmallIdeal.main_v51)) (v9 : (c : Dev Cert.AdamSmallIdeal.nD) → Buf (Elt Ideal) ((c.tc : Thread Cert.AdamSmallIdeal.nD Cert.AdamSmallIdeal.τ).loc Cert.AdamSmallIdeal.main_v56)) (v10 : (c : Dev Cert.AdamSmallIdeal.nD) → Buf (Elt Ideal) ((c.tc : Thread Cert.AdamSmallIdeal.nD Cert.AdamSmallIdeal.τ).loc Cert.AdamSmallIdeal.main_v59)) (v11 : (c : Dev Cert.AdamSmallIdeal.nD) → Buf (Elt Ideal) ((c.tc : Thread Cert.AdamSmallIdeal.nD Cert.AdamSmallIdeal.τ).loc Cert.AdamSmallIdeal.main_v62)) (v12 : (c : Dev Cert.AdamSmallIdeal.nD) → Buf (Elt Ideal) ((c.tc : Thread Cert.AdamSmallIdeal.nD Cert.AdamSmallIdeal.τ).loc Cert.AdamSmallIdeal.main_v52)) (v13 : (c : Dev Cert.AdamSmallIdeal.nD) → Buf (Elt Ideal) ((c.tc : Thread Cert.AdamSmallIdeal.nD Cert.AdamSmallIdeal.τ).loc Cert.AdamSmallIdeal.main_v54)) (v14 : (c : Dev Cert.AdamSmallIdeal.nD) → Buf (Elt Ideal) ((c.tc : Thread Cert.AdamSmallIdeal.nD Cert.AdamSmallIdeal.τ).loc Cert.AdamSmallIdeal.main_v63)) (v15 : (c : Dev Cert.AdamSmallIdeal.nD) → Buf (Elt Ideal) ((c.tc : Thread Cert.AdamSmallIdeal.nD Cert.AdamSmallIdeal.τ).loc Cert.AdamSmallIdeal.main_v64)) (v16 : (c : Dev Cert.AdamSmallIdeal.nD) → Buf (Elt Ideal) ((c.tc : Thread Cert.AdamSmallIdeal.nD Cert.AdamSmallIdeal.τ).loc Cert.AdamSmallIdeal.main_v69)) (v17 : (c : Dev Cert.AdamSmallIdeal.nD) → Buf (Elt Ideal) ((c.tc : Thread Cert.AdamSmallIdeal.nD Cert.AdamSmallIdeal.τ).loc Cert.AdamSmallIdeal.main_v72)) (v18 : (c : Dev Cert.AdamSmallIdeal.nD) → Buf (Elt Ideal) ((c.tc : Thread Cert.AdamSmallIdeal.nD Cert.AdamSmallIdeal.τ).loc Cert.AdamSmallIdeal.main_v75)) (v19 : (c : Dev Cert.AdamSmallIdeal.nD) → Buf (Elt Ideal) ((c.tc : Thread Cert.AdamSmallIdeal.nD Cert.AdamSmallIdeal.τ).loc Cert.AdamSmallIdeal.main_v65)) (v20 : (c : Dev Cert.AdamSmallIdeal.nD) → Buf (Elt Ideal) ((c.tc : Thread Cert.AdamSmallIdeal.nD Cert.AdamSmallIdeal.τ).loc Cert.AdamSmallIdeal.main_v67)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v37) = v0 c
          ∧ r.2.mem ((c.tc : Thread Cert.AdamSmallIdeal.nD Cert.AdamSmallIdeal.τ).loc Cert.AdamSmallIdeal.main_v38) = v1 c
          ∧ r.2.mem ((c.tc : Thread Cert.AdamSmallIdeal.nD Cert.AdamSmallIdeal.τ).loc Cert.AdamSmallIdeal.main_v43) = v2 c
          ∧ r.2.mem ((c.tc : Thread Cert.AdamSmallIdeal.nD Cert.AdamSmallIdeal.τ).loc Cert.AdamSmallIdeal.main_v46) = v3 c
          ∧ r.2.mem ((c.tc : Thread Cert.AdamSmallIdeal.nD Cert.AdamSmallIdeal.τ).loc Cert.AdamSmallIdeal.main_v49) = v4 c
          ∧ r.2.mem ((c.tc : Thread Cert.AdamSmallIdeal.nD Cert.AdamSmallIdeal.τ).loc Cert.AdamSmallIdeal.main_v39) = v5 c
          ∧ r.2.mem ((c.tc : Thread Cert.AdamSmallIdeal.nD Cert.AdamSmallIdeal.τ).loc Cert.AdamSmallIdeal.main_v41) = v6 c
          ∧ r.2.mem ((c.tc : Thread Cert.AdamSmallIdeal.nD Cert.AdamSmallIdeal.τ).loc Cert.AdamSmallIdeal.main_v50) = v7 c
          ∧ r.2.mem ((c.tc : Thread Cert.AdamSmallIdeal.nD Cert.AdamSmallIdeal.τ).loc Cert.AdamSmallIdeal.main_v51) = v8 c
          ∧ r.2.mem ((c.tc : Thread Cert.AdamSmallIdeal.nD Cert.AdamSmallIdeal.τ).loc Cert.AdamSmallIdeal.main_v56) = v9 c
          ∧ r.2.mem ((c.tc : Thread Cert.AdamSmallIdeal.nD Cert.AdamSmallIdeal.τ).loc Cert.AdamSmallIdeal.main_v59) = v10 c
          ∧ r.2.mem ((c.tc : Thread Cert.AdamSmallIdeal.nD Cert.AdamSmallIdeal.τ).loc Cert.AdamSmallIdeal.main_v62) = v11 c
          ∧ r.2.mem ((c.tc : Thread Cert.AdamSmallIdeal.nD Cert.AdamSmallIdeal.τ).loc Cert.AdamSmallIdeal.main_v52) = v12 c
          ∧ r.2.mem ((c.tc : Thread Cert.AdamSmallIdeal.nD Cert.AdamSmallIdeal.τ).loc Cert.AdamSmallIdeal.main_v54) = v13 c
          ∧ r.2.mem ((c.tc : Thread Cert.AdamSmallIdeal.nD Cert.AdamSmallIdeal.τ).loc Cert.AdamSmallIdeal.main_v63) = v14 c
          ∧ r.2.mem ((c.tc : Thread Cert.AdamSmallIdeal.nD Cert.AdamSmallIdeal.τ).loc Cert.AdamSmallIdeal.main_v64) = v15 c
          ∧ r.2.mem ((c.tc : Thread Cert.AdamSmallIdeal.nD Cert.AdamSmallIdeal.τ).loc Cert.AdamSmallIdeal.main_v69) = v16 c
          ∧ r.2.mem ((c.tc : Thread Cert.AdamSmallIdeal.nD Cert.AdamSmallIdeal.τ).loc Cert.AdamSmallIdeal.main_v72) = v17 c
          ∧ r.2.mem ((c.tc : Thread Cert.AdamSmallIdeal.nD Cert.AdamSmallIdeal.τ).loc Cert.AdamSmallIdeal.main_v75) = v18 c
          ∧ r.2.mem ((c.tc : Thread Cert.AdamSmallIdeal.nD Cert.AdamSmallIdeal.τ).loc Cert.AdamSmallIdeal.main_v65) = v19 c
          ∧ r.2.mem ((c.tc : Thread Cert.AdamSmallIdeal.nD Cert.AdamSmallIdeal.τ).loc Cert.AdamSmallIdeal.main_v67) = v20 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v47) = v1 c
          ∧ r.2.mem ((c.tc : Thread Cert.AdamSmallReferenceIdeal.nD Cert.AdamSmallReferenceIdeal.τ).loc Cert.AdamSmallReferenceIdeal.main_v71) = v2 c
          ∧ r.2.mem ((c.tc : Thread Cert.AdamSmallReferenceIdeal.nD Cert.AdamSmallReferenceIdeal.τ).loc Cert.AdamSmallReferenceIdeal.main_v95) = v3 c
          ∧ r.2.mem ((c.tc : Thread Cert.AdamSmallReferenceIdeal.nD Cert.AdamSmallReferenceIdeal.τ).loc Cert.AdamSmallReferenceIdeal.main_v119) = v4 c
          ∧ r.2.mem ((c.tc : Thread Cert.AdamSmallReferenceIdeal.nD Cert.AdamSmallReferenceIdeal.τ).loc Cert.AdamSmallReferenceIdeal.main_v143) = v5 c
          ∧ r.2.mem ((c.tc : Thread Cert.AdamSmallReferenceIdeal.nD Cert.AdamSmallReferenceIdeal.τ).loc Cert.AdamSmallReferenceIdeal.main_v167) = v6 c
          ∧ r.2.mem ((c.tc : Thread Cert.AdamSmallReferenceIdeal.nD Cert.AdamSmallReferenceIdeal.τ).loc Cert.AdamSmallReferenceIdeal.main_v4) = v7 c
          ∧ r.2.mem ((c.tc : Thread Cert.AdamSmallReferenceIdeal.nD Cert.AdamSmallReferenceIdeal.τ).loc Cert.AdamSmallReferenceIdeal.main_v28) = v8 c
          ∧ r.2.mem ((c.tc : Thread Cert.AdamSmallReferenceIdeal.nD Cert.AdamSmallReferenceIdeal.τ).loc Cert.AdamSmallReferenceIdeal.main_v52) = v9 c
          ∧ r.2.mem ((c.tc : Thread Cert.AdamSmallReferenceIdeal.nD Cert.AdamSmallReferenceIdeal.τ).loc Cert.AdamSmallReferenceIdeal.main_v76) = v10 c
          ∧ r.2.mem ((c.tc : Thread Cert.AdamSmallReferenceIdeal.nD Cert.AdamSmallReferenceIdeal.τ).loc Cert.AdamSmallReferenceIdeal.main_v100) = v11 c
          ∧ r.2.mem ((c.tc : Thread Cert.AdamSmallReferenceIdeal.nD Cert.AdamSmallReferenceIdeal.τ).loc Cert.AdamSmallReferenceIdeal.main_v124) = v12 c
          ∧ r.2.mem ((c.tc : Thread Cert.AdamSmallReferenceIdeal.nD Cert.AdamSmallReferenceIdeal.τ).loc Cert.AdamSmallReferenceIdeal.main_v148) = v13 c
          ∧ r.2.mem ((c.tc : Thread Cert.AdamSmallReferenceIdeal.nD Cert.AdamSmallReferenceIdeal.τ).loc Cert.AdamSmallReferenceIdeal.main_v10) = v14 c
          ∧ r.2.mem ((c.tc : Thread Cert.AdamSmallReferenceIdeal.nD Cert.AdamSmallReferenceIdeal.τ).loc Cert.AdamSmallReferenceIdeal.main_v34) = v15 c
          ∧ r.2.mem ((c.tc : Thread Cert.AdamSmallReferenceIdeal.nD Cert.AdamSmallReferenceIdeal.τ).loc Cert.AdamSmallReferenceIdeal.main_v58) = v16 c
          ∧ r.2.mem ((c.tc : Thread Cert.AdamSmallReferenceIdeal.nD Cert.AdamSmallReferenceIdeal.τ).loc Cert.AdamSmallReferenceIdeal.main_v82) = v17 c
          ∧ r.2.mem ((c.tc : Thread Cert.AdamSmallReferenceIdeal.nD Cert.AdamSmallReferenceIdeal.τ).loc Cert.AdamSmallReferenceIdeal.main_v106) = v18 c
          ∧ r.2.mem ((c.tc : Thread Cert.AdamSmallReferenceIdeal.nD Cert.AdamSmallReferenceIdeal.τ).loc Cert.AdamSmallReferenceIdeal.main_v130) = v19 c
          ∧ r.2.mem ((c.tc : Thread Cert.AdamSmallReferenceIdeal.nD Cert.AdamSmallReferenceIdeal.τ).loc Cert.AdamSmallReferenceIdeal.main_v154) = v20 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25)
          ∧ r.2.mem ((c.tc : Thread Cert.AdamSmallReferenceIdeal.nD Cert.AdamSmallReferenceIdeal.τ).loc Cert.AdamSmallReferenceIdeal.main_arg26) = m' ((c.tc : Thread Cert.AdamSmallReferenceIdeal.nD Cert.AdamSmallReferenceIdeal.τ).loc Cert.AdamSmallReferenceIdeal.main_arg26)
          ∧ r.2.mem ((c.tc : Thread Cert.AdamSmallReferenceIdeal.nD Cert.AdamSmallReferenceIdeal.τ).loc Cert.AdamSmallReferenceIdeal.main_arg27) = m' ((c.tc : Thread Cert.AdamSmallReferenceIdeal.nD Cert.AdamSmallReferenceIdeal.τ).loc Cert.AdamSmallReferenceIdeal.main_arg27))

def preserves_FfnBwd_FfnBwdIdeal : Prop :=
  True

def algebraic_FfnBwdIdeal_FfnBwdReferenceIdeal [hFfnBwdIdeal : Cert.FfnBwdIdeal.Facts] [hFfnBwdReferenceIdeal : Cert.FfnBwdReferenceIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdReferenceIdeal.nD Cert.FfnBwdReferenceIdeal.τ Cert.FfnBwdReferenceIdeal.sig) → Buf (Elt Ideal) ℓ) (g' : Dev Cert.FfnBwdReferenceIdeal.nD → PrngReg), Pre_FfnBwdIdeal m →
    (∀ c : Dev Cert.FfnBwdIdeal.nD,
      m' ((c.tc : Thread Cert.FfnBwdReferenceIdeal.nD Cert.FfnBwdReferenceIdeal.τ).loc Cert.FfnBwdReferenceIdeal.main_arg0) = m ((c.tc : Thread Cert.FfnBwdIdeal.nD Cert.FfnBwdIdeal.τ).loc Cert.FfnBwdIdeal.main_arg0)
      ∧ m' ((c.tc : Thread Cert.FfnBwdReferenceIdeal.nD Cert.FfnBwdReferenceIdeal.τ).loc Cert.FfnBwdReferenceIdeal.main_arg1) = m ((c.tc : Thread Cert.FfnBwdIdeal.nD Cert.FfnBwdIdeal.τ).loc Cert.FfnBwdIdeal.main_arg1)
      ∧ m' ((c.tc : Thread Cert.FfnBwdReferenceIdeal.nD Cert.FfnBwdReferenceIdeal.τ).loc Cert.FfnBwdReferenceIdeal.main_arg2) = m ((c.tc : Thread Cert.FfnBwdIdeal.nD Cert.FfnBwdIdeal.τ).loc Cert.FfnBwdIdeal.main_arg2)
      ∧ m' ((c.tc : Thread Cert.FfnBwdReferenceIdeal.nD Cert.FfnBwdReferenceIdeal.τ).loc Cert.FfnBwdReferenceIdeal.main_arg3) = m ((c.tc : Thread Cert.FfnBwdIdeal.nD Cert.FfnBwdIdeal.τ).loc Cert.FfnBwdIdeal.main_arg3)
      ∧ m' ((c.tc : Thread Cert.FfnBwdReferenceIdeal.nD Cert.FfnBwdReferenceIdeal.τ).loc Cert.FfnBwdReferenceIdeal.main_arg4) = m ((c.tc : Thread Cert.FfnBwdIdeal.nD Cert.FfnBwdIdeal.τ).loc Cert.FfnBwdIdeal.main_arg4)
      ∧ m' ((c.tc : Thread Cert.FfnBwdReferenceIdeal.nD Cert.FfnBwdReferenceIdeal.τ).loc Cert.FfnBwdReferenceIdeal.main_arg5) = m ((c.tc : Thread Cert.FfnBwdIdeal.nD Cert.FfnBwdIdeal.τ).loc Cert.FfnBwdIdeal.main_arg5)
      ∧ m' ((c.tc : Thread Cert.FfnBwdReferenceIdeal.nD Cert.FfnBwdReferenceIdeal.τ).loc Cert.FfnBwdReferenceIdeal.main_arg6) = m ((c.tc : Thread Cert.FfnBwdIdeal.nD Cert.FfnBwdIdeal.τ).loc Cert.FfnBwdIdeal.main_arg6)
      ∧ m' ((c.tc : Thread Cert.FfnBwdReferenceIdeal.nD Cert.FfnBwdReferenceIdeal.τ).loc Cert.FfnBwdReferenceIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)) (v4 : (c : Dev Cert.FfnBwdIdeal.nD) → Buf (Elt Ideal) ((c.tc : Thread Cert.FfnBwdIdeal.nD Cert.FfnBwdIdeal.τ).loc Cert.FfnBwdIdeal.main_v0_4)) (v5 : (c : Dev Cert.FfnBwdIdeal.nD) → Buf (Elt Ideal) ((c.tc : Thread Cert.FfnBwdIdeal.nD Cert.FfnBwdIdeal.τ).loc Cert.FfnBwdIdeal.main_v0_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_v0_4) = v4 c
          ∧ r.2.mem ((c.tc : Thread Cert.FfnBwdIdeal.nD Cert.FfnBwdIdeal.τ).loc Cert.FfnBwdIdeal.main_v0_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnBwdReferenceIdeal.defs (F := Ideal)) (onTc (τ := Cert.FfnBwdReferenceIdeal.τ) (Cert.FfnBwdReferenceIdeal.main (F := Ideal))) ⟨m', fun _ => 0, g'⟩ (fun r => ∀ c : Dev Cert.FfnBwdReferenceIdeal.nD,
          r.2.mem ((c.tc : Thread Cert.FfnBwdReferenceIdeal.nD Cert.FfnBwdReferenceIdeal.τ).loc Cert.FfnBwdReferenceIdeal.main_v54) = v0 c
          ∧ r.2.mem ((c.tc : Thread Cert.FfnBwdReferenceIdeal.nD Cert.FfnBwdReferenceIdeal.τ).loc Cert.FfnBwdReferenceIdeal.main_v58) = v1 c
          ∧ r.2.mem ((c.tc : Thread Cert.FfnBwdReferenceIdeal.nD Cert.FfnBwdReferenceIdeal.τ).loc Cert.FfnBwdReferenceIdeal.main_v59) = v2 c
          ∧ r.2.mem ((c.tc : Thread Cert.FfnBwdReferenceIdeal.nD Cert.FfnBwdReferenceIdeal.τ).loc Cert.FfnBwdReferenceIdeal.main_v60) = v3 c
          ∧ r.2.mem ((c.tc : Thread Cert.FfnBwdReferenceIdeal.nD Cert.FfnBwdReferenceIdeal.τ).loc Cert.FfnBwdReferenceIdeal.main_v61) = v4 c
          ∧ r.2.mem ((c.tc : Thread Cert.FfnBwdReferenceIdeal.nD Cert.FfnBwdReferenceIdeal.τ).loc Cert.FfnBwdReferenceIdeal.main_v57) = v5 c
          ∧ r.2.mem ((c.tc : Thread Cert.FfnBwdReferenceIdeal.nD Cert.FfnBwdReferenceIdeal.τ).loc Cert.FfnBwdReferenceIdeal.main_arg0) = m' ((c.tc : Thread Cert.FfnBwdReferenceIdeal.nD Cert.FfnBwdReferenceIdeal.τ).loc Cert.FfnBwdReferenceIdeal.main_arg0)
          ∧ r.2.mem ((c.tc : Thread Cert.FfnBwdReferenceIdeal.nD Cert.FfnBwdReferenceIdeal.τ).loc Cert.FfnBwdReferenceIdeal.main_arg1) = m' ((c.tc : Thread Cert.FfnBwdReferenceIdeal.nD Cert.FfnBwdReferenceIdeal.τ).loc Cert.FfnBwdReferenceIdeal.main_arg1)
          ∧ r.2.mem ((c.tc : Thread Cert.FfnBwdReferenceIdeal.nD Cert.FfnBwdReferenceIdeal.τ).loc Cert.FfnBwdReferenceIdeal.main_arg2) = m' ((c.tc : Thread Cert.FfnBwdReferenceIdeal.nD Cert.FfnBwdReferenceIdeal.τ).loc Cert.FfnBwdReferenceIdeal.main_arg2)
          ∧ r.2.mem ((c.tc : Thread Cert.FfnBwdReferenceIdeal.nD Cert.FfnBwdReferenceIdeal.τ).loc Cert.FfnBwdReferenceIdeal.main_arg3) = m' ((c.tc : Thread Cert.FfnBwdReferenceIdeal.nD Cert.FfnBwdReferenceIdeal.τ).loc Cert.FfnBwdReferenceIdeal.main_arg3)
          ∧ r.2.mem ((c.tc : Thread Cert.FfnBwdReferenceIdeal.nD Cert.FfnBwdReferenceIdeal.τ).loc Cert.FfnBwdReferenceIdeal.main_arg4) = m' ((c.tc : Thread Cert.FfnBwdReferenceIdeal.nD Cert.FfnBwdReferenceIdeal.τ).loc Cert.FfnBwdReferenceIdeal.main_arg4)
          ∧ r.2.mem ((c.tc : Thread Cert.FfnBwdReferenceIdeal.nD Cert.FfnBwdReferenceIdeal.τ).loc Cert.FfnBwdReferenceIdeal.main_arg5) = m' ((c.tc : Thread Cert.FfnBwdReferenceIdeal.nD Cert.FfnBwdReferenceIdeal.τ).loc Cert.FfnBwdReferenceIdeal.main_arg5)
          ∧ r.2.mem ((c.tc : Thread Cert.FfnBwdReferenceIdeal.nD Cert.FfnBwdReferenceIdeal.τ).loc Cert.FfnBwdReferenceIdeal.main_arg6) = m' ((c.tc : Thread Cert.FfnBwdReferenceIdeal.nD Cert.FfnBwdReferenceIdeal.τ).loc Cert.FfnBwdReferenceIdeal.main_arg6)
          ∧ r.2.mem ((c.tc : Thread Cert.FfnBwdReferenceIdeal.nD Cert.FfnBwdReferenceIdeal.τ).loc Cert.FfnBwdReferenceIdeal.main_arg7) = m' ((c.tc : Thread Cert.FfnBwdReferenceIdeal.nD Cert.FfnBwdReferenceIdeal.τ).loc Cert.FfnBwdReferenceIdeal.main_arg7))

def preserves_GradUp_GradUpIdeal : Prop :=
  True

def algebraic_GradUpIdeal_GradUpReferenceIdeal [hGradUpIdeal : Cert.GradUpIdeal.Facts] [hGradUpReferenceIdeal : Cert.GradUpReferenceIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpReferenceIdeal.nD Cert.GradUpReferenceIdeal.τ Cert.GradUpReferenceIdeal.sig) → Buf (Elt Ideal) ℓ) (g' : Dev Cert.GradUpReferenceIdeal.nD → PrngReg), Pre_GradUpIdeal m →
    (∀ c : Dev Cert.GradUpIdeal.nD,
      m' ((c.tc : Thread Cert.GradUpReferenceIdeal.nD Cert.GradUpReferenceIdeal.τ).loc Cert.GradUpReferenceIdeal.main_arg0) = m ((c.tc : Thread Cert.GradUpIdeal.nD Cert.GradUpIdeal.τ).loc Cert.GradUpIdeal.main_arg0)
      ∧ m' ((c.tc : Thread Cert.GradUpReferenceIdeal.nD Cert.GradUpReferenceIdeal.τ).loc Cert.GradUpReferenceIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpReferenceIdeal.defs (F := Ideal)) (onTc (τ := Cert.GradUpReferenceIdeal.τ) (Cert.GradUpReferenceIdeal.main (F := Ideal))) ⟨m', fun _ => 0, g'⟩ (fun r => ∀ c : Dev Cert.GradUpReferenceIdeal.nD,
          r.2.mem ((c.tc : Thread Cert.GradUpReferenceIdeal.nD Cert.GradUpReferenceIdeal.τ).loc Cert.GradUpReferenceIdeal.main_v3) = v0 c
          ∧ r.2.mem ((c.tc : Thread Cert.GradUpReferenceIdeal.nD Cert.GradUpReferenceIdeal.τ).loc Cert.GradUpReferenceIdeal.main_arg0) = m' ((c.tc : Thread Cert.GradUpReferenceIdeal.nD Cert.GradUpReferenceIdeal.τ).loc Cert.GradUpReferenceIdeal.main_arg0)
          ∧ r.2.mem ((c.tc : Thread Cert.GradUpReferenceIdeal.nD Cert.GradUpReferenceIdeal.τ).loc Cert.GradUpReferenceIdeal.main_arg1) = m' ((c.tc : Thread Cert.GradUpReferenceIdeal.nD Cert.GradUpReferenceIdeal.τ).loc Cert.GradUpReferenceIdeal.main_arg1))

def preserves_GradDown_GradDownIdeal : Prop :=
  True

def algebraic_GradDownIdeal_GradDownReferenceIdeal [hGradDownIdeal : Cert.GradDownIdeal.Facts] [hGradDownReferenceIdeal : Cert.GradDownReferenceIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg), Pre_GradDownIdeal m →
    (∀ c : Dev Cert.GradDownIdeal.nD,
      m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0)
      ∧ m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v3) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v3) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradBranchA_GradBranchAIdeal : Prop :=
  True

def algebraic_GradBranchAIdeal_GradBranchAReferenceIdeal [hGradBranchAIdeal : Cert.GradBranchAIdeal.Facts] [hGradBranchAReferenceIdeal : Cert.GradBranchAReferenceIdeal.Facts] : Prop :=
  ∀ (m : (ℓ : Loc Cert.GradBranchAIdeal.nD Cert.GradBranchAIdeal.τ Cert.GradBranchAIdeal.sig) → Buf (Elt Ideal) ℓ) (g : Dev Cert.GradBranchAIdeal.nD → PrngReg)
    (m' : (ℓ : Loc Cert.GradBranchAReferenceIdeal.nD Cert.GradBranchAReferenceIdeal.τ Cert.GradBranchAReferenceIdeal.sig) → Buf (Elt Ideal) ℓ) (g' : Dev Cert.GradBranchAReferenceIdeal.nD → PrngReg), Pre_GradBranchAIdeal m →
    (∀ c : Dev Cert.GradBranchAIdeal.nD,
      m' ((c.tc : Thread Cert.GradBranchAReferenceIdeal.nD Cert.GradBranchAReferenceIdeal.τ).loc Cert.GradBranchAReferenceIdeal.main_arg0) = m ((c.tc : Thread Cert.GradBranchAIdeal.nD Cert.GradBranchAIdeal.τ).loc Cert.GradBranchAIdeal.main_arg0)
      ∧ m' ((c.tc : Thread Cert.GradBranchAReferenceIdeal.nD Cert.GradBranchAReferenceIdeal.τ).loc Cert.GradBranchAReferenceIdeal.main_arg1) = m ((c.tc : Thread Cert.GradBranchAIdeal.nD Cert.GradBranchAIdeal.τ).loc Cert.GradBranchAIdeal.main_arg1)) →
    ∃ (v0 : (c : Dev Cert.GradBranchAIdeal.nD) → Buf (Elt Ideal) ((c.tc : Thread Cert.GradBranchAIdeal.nD Cert.GradBranchAIdeal.τ).loc Cert.GradBranchAIdeal.main_v0)),
      θ_run (Cert.GradBranchAIdeal.defs (F := Ideal)) (onTc (τ := Cert.GradBranchAIdeal.τ) (Cert.GradBranchAIdeal.main (F := Ideal))) ⟨m, fun _ => 0, g⟩ (fun r => ∀ c : Dev Cert.GradBranchAIdeal.nD,
          r.2.mem ((c.tc : Thread Cert.GradBranchAIdeal.nD Cert.GradBranchAIdeal.τ).loc Cert.GradBranchAIdeal.main_v0) = v0 c
          ∧ r.2.mem ((c.tc : Thread Cert.GradBranchAIdeal.nD Cert.GradBranchAIdeal.τ).loc Cert.GradBranchAIdeal.main_arg0) = m ((c.tc : Thread Cert.GradBranchAIdeal.nD Cert.GradBranchAIdeal.τ).loc Cert.GradBranchAIdeal.main_arg0)
          ∧ r.2.mem ((c.tc : Thread Cert.GradBranchAIdeal.nD Cert.GradBranchAIdeal.τ).loc Cert.GradBranchAIdeal.main_arg1) = m ((c.tc : Thread Cert.GradBranchAIdeal.nD Cert.GradBranchAIdeal.τ).loc Cert.GradBranchAIdeal.main_arg1))
      ∧ θ_run (Cert.GradBranchAReferenceIdeal.defs (F := Ideal)) (onTc (τ := Cert.GradBranchAReferenceIdeal.τ) (Cert.GradBranchAReferenceIdeal.main (F := Ideal))) ⟨m', fun _ => 0, g'⟩ (fun r => ∀ c : Dev Cert.GradBranchAReferenceIdeal.nD,
          r.2.mem ((c.tc : Thread Cert.GradBranchAReferenceIdeal.nD Cert.GradBranchAReferenceIdeal.τ).loc Cert.GradBranchAReferenceIdeal.main_v3) = v0 c
          ∧ r.2.mem ((c.tc : Thread Cert.GradBranchAReferenceIdeal.nD Cert.GradBranchAReferenceIdeal.τ).loc Cert.GradBranchAReferenceIdeal.main_arg0) = m' ((c.tc : Thread Cert.GradBranchAReferenceIdeal.nD Cert.GradBranchAReferenceIdeal.τ).loc Cert.GradBranchAReferenceIdeal.main_arg0)
          ∧ r.2.mem ((c.tc : Thread Cert.GradBranchAReferenceIdeal.nD Cert.GradBranchAReferenceIdeal.τ).loc Cert.GradBranchAReferenceIdeal.main_arg1) = m' ((c.tc : Thread Cert.GradBranchAReferenceIdeal.nD Cert.GradBranchAReferenceIdeal.τ).loc Cert.GradBranchAReferenceIdeal.main_arg1))

def preserves_GradBranchB_GradBranchBIdeal : Prop :=
  True

def algebraic_GradBranchBIdeal_GradBranchBReferenceIdeal [hGradBranchBIdeal : Cert.GradBranchBIdeal.Facts] [hGradBranchBReferenceIdeal : Cert.GradBranchBReferenceIdeal.Facts] : Prop :=
  ∀ (m : (ℓ : Loc Cert.GradBranchBIdeal.nD Cert.GradBranchBIdeal.τ Cert.GradBranchBIdeal.sig) → Buf (Elt Ideal) ℓ) (g : Dev Cert.GradBranchBIdeal.nD → PrngReg)
    (m' : (ℓ : Loc Cert.GradBranchBReferenceIdeal.nD Cert.GradBranchBReferenceIdeal.τ Cert.GradBranchBReferenceIdeal.sig) → Buf (Elt Ideal) ℓ) (g' : Dev Cert.GradBranchBReferenceIdeal.nD → PrngReg), Pre_GradBranchBIdeal m →
    (∀ c : Dev Cert.GradBranchBIdeal.nD,
      m' ((c.tc : Thread Cert.GradBranchBReferenceIdeal.nD Cert.GradBranchBReferenceIdeal.τ).loc Cert.GradBranchBReferenceIdeal.main_arg0) = m ((c.tc : Thread Cert.GradBranchBIdeal.nD Cert.GradBranchBIdeal.τ).loc Cert.GradBranchBIdeal.main_arg0)
      ∧ m' ((c.tc : Thread Cert.GradBranchBReferenceIdeal.nD Cert.GradBranchBReferenceIdeal.τ).loc Cert.GradBranchBReferenceIdeal.main_arg1) = m ((c.tc : Thread Cert.GradBranchBIdeal.nD Cert.GradBranchBIdeal.τ).loc Cert.GradBranchBIdeal.main_arg1)) →
    ∃ (v0 : (c : Dev Cert.GradBranchBIdeal.nD) → Buf (Elt Ideal) ((c.tc : Thread Cert.GradBranchBIdeal.nD Cert.GradBranchBIdeal.τ).loc Cert.GradBranchBIdeal.main_v0)),
      θ_run (Cert.GradBranchBIdeal.defs (F := Ideal)) (onTc (τ := Cert.GradBranchBIdeal.τ) (Cert.GradBranchBIdeal.main (F := Ideal))) ⟨m, fun _ => 0, g⟩ (fun r => ∀ c : Dev Cert.GradBranchBIdeal.nD,
          r.2.mem ((c.tc : Thread Cert.GradBranchBIdeal.nD Cert.GradBranchBIdeal.τ).loc Cert.GradBranchBIdeal.main_v0) = v0 c
          ∧ r.2.mem ((c.tc : Thread Cert.GradBranchBIdeal.nD Cert.GradBranchBIdeal.τ).loc Cert.GradBranchBIdeal.main_arg0) = m ((c.tc : Thread Cert.GradBranchBIdeal.nD Cert.GradBranchBIdeal.τ).loc Cert.GradBranchBIdeal.main_arg0)
          ∧ r.2.mem ((c.tc : Thread Cert.GradBranchBIdeal.nD Cert.GradBranchBIdeal.τ).loc Cert.GradBranchBIdeal.main_arg1) = m ((c.tc : Thread Cert.GradBranchBIdeal.nD Cert.GradBranchBIdeal.τ).loc Cert.GradBranchBIdeal.main_arg1))
      ∧ θ_run (Cert.GradBranchBReferenceIdeal.defs (F := Ideal)) (onTc (τ := Cert.GradBranchBReferenceIdeal.τ) (Cert.GradBranchBReferenceIdeal.main (F := Ideal))) ⟨m', fun _ => 0, g'⟩ (fun r => ∀ c : Dev Cert.GradBranchBReferenceIdeal.nD,
          r.2.mem ((c.tc : Thread Cert.GradBranchBReferenceIdeal.nD Cert.GradBranchBReferenceIdeal.τ).loc Cert.GradBranchBReferenceIdeal.main_v3) = v0 c
          ∧ r.2.mem ((c.tc : Thread Cert.GradBranchBReferenceIdeal.nD Cert.GradBranchBReferenceIdeal.τ).loc Cert.GradBranchBReferenceIdeal.main_arg0) = m' ((c.tc : Thread Cert.GradBranchBReferenceIdeal.nD Cert.GradBranchBReferenceIdeal.τ).loc Cert.GradBranchBReferenceIdeal.main_arg0)
          ∧ r.2.mem ((c.tc : Thread Cert.GradBranchBReferenceIdeal.nD Cert.GradBranchBReferenceIdeal.τ).loc Cert.GradBranchBReferenceIdeal.main_arg1) = m' ((c.tc : Thread Cert.GradBranchBReferenceIdeal.nD Cert.GradBranchBReferenceIdeal.τ).loc Cert.GradBranchBReferenceIdeal.main_arg1))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0_0)) (v1 : (c : Dev Cert.GradInIdeal.nD) → Buf (Elt Ideal) ((c.tc : Thread Cert.GradInIdeal.nD Cert.GradInIdeal.τ).loc Cert.GradInIdeal.main_v0_1)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0_0) = v0 c
          ∧ r.2.mem ((c.tc : Thread Cert.GradInIdeal.nD Cert.GradInIdeal.τ).loc Cert.GradInIdeal.main_v0_1) = v1 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v3) = v0 c
          ∧ r.2.mem ((c.tc : Thread Cert.GradInReferenceIdeal.nD Cert.GradInReferenceIdeal.τ).loc Cert.GradInReferenceIdeal.main_v6) = v1 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)
      ∧ m' ((c.tc : Thread Cert.FfnFwdReferenceIdeal.nD Cert.FfnFwdReferenceIdeal.τ).loc Cert.FfnFwdReferenceIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)) (v3 : (c : Dev Cert.FfnFwdIdeal.nD) → Buf (Elt Ideal) ((c.tc : Thread Cert.FfnFwdIdeal.nD Cert.FfnFwdIdeal.τ).loc Cert.FfnFwdIdeal.main_v0_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_v0_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v28) = v0 c
          ∧ r.2.mem ((c.tc : Thread Cert.FfnFwdReferenceIdeal.nD Cert.FfnFwdReferenceIdeal.τ).loc Cert.FfnFwdReferenceIdeal.main_v29) = v1 c
          ∧ r.2.mem ((c.tc : Thread Cert.FfnFwdReferenceIdeal.nD Cert.FfnFwdReferenceIdeal.τ).loc Cert.FfnFwdReferenceIdeal.main_v30) = v2 c
          ∧ r.2.mem ((c.tc : Thread Cert.FfnFwdReferenceIdeal.nD Cert.FfnFwdReferenceIdeal.τ).loc Cert.FfnFwdReferenceIdeal.main_v31) = v3 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)
      ∧ m' ((c.tc : Thread Cert.InFwdReferenceIdeal.nD Cert.InFwdReferenceIdeal.τ).loc Cert.InFwdReferenceIdeal.main_arg2) = m ((c.tc : Thread Cert.InFwdIdeal.nD Cert.InFwdIdeal.τ).loc Cert.InFwdIdeal.main_arg2)
      ∧ m' ((c.tc : Thread Cert.InFwdReferenceIdeal.nD Cert.InFwdReferenceIdeal.τ).loc Cert.InFwdReferenceIdeal.main_arg3) = m ((c.tc : Thread Cert.InFwdIdeal.nD Cert.InFwdIdeal.τ).loc Cert.InFwdIdeal.main_arg3)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v12) = v0 c
          ∧ r.2.mem ((c.tc : Thread Cert.InFwdReferenceIdeal.nD Cert.InFwdReferenceIdeal.τ).loc Cert.InFwdReferenceIdeal.main_v17) = v1 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1)
          ∧ r.2.mem ((c.tc : Thread Cert.InFwdReferenceIdeal.nD Cert.InFwdReferenceIdeal.τ).loc Cert.InFwdReferenceIdeal.main_arg2) = m' ((c.tc : Thread Cert.InFwdReferenceIdeal.nD Cert.InFwdReferenceIdeal.τ).loc Cert.InFwdReferenceIdeal.main_arg2)
          ∧ r.2.mem ((c.tc : Thread Cert.InFwdReferenceIdeal.nD Cert.InFwdReferenceIdeal.τ).loc Cert.InFwdReferenceIdeal.main_arg3) = m' ((c.tc : Thread Cert.InFwdReferenceIdeal.nD Cert.InFwdReferenceIdeal.τ).loc Cert.InFwdReferenceIdeal.main_arg3))

def preserves_InBwd_InBwdIdeal : Prop :=
  True

def algebraic_InBwdIdeal_InBwdReferenceIdeal [hInBwdIdeal : Cert.InBwdIdeal.Facts] [hInBwdReferenceIdeal : Cert.InBwdReferenceIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdIdeal m →
    (∀ c : Dev Cert.InBwdIdeal.nD,
      m' ((c.tc : Thread Cert.InBwdReferenceIdeal.nD Cert.InBwdReferenceIdeal.τ).loc Cert.InBwdReferenceIdeal.main_arg0) = m ((c.tc : Thread Cert.InBwdIdeal.nD Cert.InBwdIdeal.τ).loc Cert.InBwdIdeal.main_arg0)
      ∧ m' ((c.tc : Thread Cert.InBwdReferenceIdeal.nD Cert.InBwdReferenceIdeal.τ).loc Cert.InBwdReferenceIdeal.main_arg1) = m ((c.tc : Thread Cert.InBwdIdeal.nD Cert.InBwdIdeal.τ).loc Cert.InBwdIdeal.main_arg1)
      ∧ m' ((c.tc : Thread Cert.InBwdReferenceIdeal.nD Cert.InBwdReferenceIdeal.τ).loc Cert.InBwdReferenceIdeal.main_arg2) = m ((c.tc : Thread Cert.InBwdIdeal.nD Cert.InBwdIdeal.τ).loc Cert.InBwdIdeal.main_arg2)
      ∧ m' ((c.tc : Thread Cert.InBwdReferenceIdeal.nD Cert.InBwdReferenceIdeal.τ).loc Cert.InBwdReferenceIdeal.main_arg3) = m ((c.tc : Thread Cert.InBwdIdeal.nD Cert.InBwdIdeal.τ).loc Cert.InBwdIdeal.main_arg3)
      ∧ m' ((c.tc : Thread Cert.InBwdReferenceIdeal.nD Cert.InBwdReferenceIdeal.τ).loc Cert.InBwdReferenceIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v26) = v0 c
          ∧ r.2.mem ((c.tc : Thread Cert.InBwdReferenceIdeal.nD Cert.InBwdReferenceIdeal.τ).loc Cert.InBwdReferenceIdeal.main_v29) = v1 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
          ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
          ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3)
          ∧ r.2.mem ((c.tc : Thread Cert.InBwdReferenceIdeal.nD Cert.InBwdReferenceIdeal.τ).loc Cert.InBwdReferenceIdeal.main_arg4) = m' ((c.tc : Thread Cert.InBwdReferenceIdeal.nD Cert.InBwdReferenceIdeal.τ).loc Cert.InBwdReferenceIdeal.main_arg4))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v32) = v0 c
          ∧ r.2.mem ((c.tc : Thread Cert.LossHeadReferenceIdeal.nD Cert.LossHeadReferenceIdeal.τ).loc Cert.LossHeadReferenceIdeal.main_v33) = v1 c
          ∧ r.2.mem ((c.tc : Thread Cert.LossHeadReferenceIdeal.nD Cert.LossHeadReferenceIdeal.τ).loc Cert.LossHeadReferenceIdeal.main_v36) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)
      ∧ m' ((c.tc : Thread Cert.MergeFwdReferenceIdeal.nD Cert.MergeFwdReferenceIdeal.τ).loc Cert.MergeFwdReferenceIdeal.main_arg5) = m ((c.tc : Thread Cert.MergeFwdIdeal.nD Cert.MergeFwdIdeal.τ).loc Cert.MergeFwdIdeal.main_arg5)
      ∧ m' ((c.tc : Thread Cert.MergeFwdReferenceIdeal.nD Cert.MergeFwdReferenceIdeal.τ).loc Cert.MergeFwdReferenceIdeal.main_arg6) = m ((c.tc : Thread Cert.MergeFwdIdeal.nD Cert.MergeFwdIdeal.τ).loc Cert.MergeFwdIdeal.main_arg6)
      ∧ m' ((c.tc : Thread Cert.MergeFwdReferenceIdeal.nD Cert.MergeFwdReferenceIdeal.τ).loc Cert.MergeFwdReferenceIdeal.main_arg7) = m ((c.tc : Thread Cert.MergeFwdIdeal.nD Cert.MergeFwdIdeal.τ).loc Cert.MergeFwdIdeal.main_arg7)
      ∧ m' ((c.tc : Thread Cert.MergeFwdReferenceIdeal.nD Cert.MergeFwdReferenceIdeal.τ).loc Cert.MergeFwdReferenceIdeal.main_arg8) = m ((c.tc : Thread Cert.MergeFwdIdeal.nD Cert.MergeFwdIdeal.τ).loc Cert.MergeFwdIdeal.main_arg8)
      ∧ m' ((c.tc : Thread Cert.MergeFwdReferenceIdeal.nD Cert.MergeFwdReferenceIdeal.τ).loc Cert.MergeFwdReferenceIdeal.main_arg9) = m ((c.tc : Thread Cert.MergeFwdIdeal.nD Cert.MergeFwdIdeal.τ).loc Cert.MergeFwdIdeal.main_arg9)
      ∧ m' ((c.tc : Thread Cert.MergeFwdReferenceIdeal.nD Cert.MergeFwdReferenceIdeal.τ).loc Cert.MergeFwdReferenceIdeal.main_arg10) = m ((c.tc : Thread Cert.MergeFwdIdeal.nD Cert.MergeFwdIdeal.τ).loc Cert.MergeFwdIdeal.main_arg10)
      ∧ m' ((c.tc : Thread Cert.MergeFwdReferenceIdeal.nD Cert.MergeFwdReferenceIdeal.τ).loc Cert.MergeFwdReferenceIdeal.main_arg11) = m ((c.tc : Thread Cert.MergeFwdIdeal.nD Cert.MergeFwdIdeal.τ).loc Cert.MergeFwdIdeal.main_arg11)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)) (v4 : (c : Dev Cert.MergeFwdIdeal.nD) → Buf (Elt Ideal) ((c.tc : Thread Cert.MergeFwdIdeal.nD Cert.MergeFwdIdeal.τ).loc Cert.MergeFwdIdeal.main_v0_4)) (v5 : (c : Dev Cert.MergeFwdIdeal.nD) → Buf (Elt Ideal) ((c.tc : Thread Cert.MergeFwdIdeal.nD Cert.MergeFwdIdeal.τ).loc Cert.MergeFwdIdeal.main_v0_5)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_v0_4) = v4 c
          ∧ r.2.mem ((c.tc : Thread Cert.MergeFwdIdeal.nD Cert.MergeFwdIdeal.τ).loc Cert.MergeFwdIdeal.main_v0_5) = v5 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
          ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
          ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10)
          ∧ r.2.mem ((c.tc : Thread Cert.MergeFwdIdeal.nD Cert.MergeFwdIdeal.τ).loc Cert.MergeFwdIdeal.main_arg11) = m ((c.tc : Thread Cert.MergeFwdIdeal.nD Cert.MergeFwdIdeal.τ).loc Cert.MergeFwdIdeal.main_arg11))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v42) = v0 c
          ∧ r.2.mem ((c.tc : Thread Cert.MergeFwdReferenceIdeal.nD Cert.MergeFwdReferenceIdeal.τ).loc Cert.MergeFwdReferenceIdeal.main_v43) = v1 c
          ∧ r.2.mem ((c.tc : Thread Cert.MergeFwdReferenceIdeal.nD Cert.MergeFwdReferenceIdeal.τ).loc Cert.MergeFwdReferenceIdeal.main_v45) = v2 c
          ∧ r.2.mem ((c.tc : Thread Cert.MergeFwdReferenceIdeal.nD Cert.MergeFwdReferenceIdeal.τ).loc Cert.MergeFwdReferenceIdeal.main_v46) = v3 c
          ∧ r.2.mem ((c.tc : Thread Cert.MergeFwdReferenceIdeal.nD Cert.MergeFwdReferenceIdeal.τ).loc Cert.MergeFwdReferenceIdeal.main_v47) = v4 c
          ∧ r.2.mem ((c.tc : Thread Cert.MergeFwdReferenceIdeal.nD Cert.MergeFwdReferenceIdeal.τ).loc Cert.MergeFwdReferenceIdeal.main_v48) = v5 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6)
          ∧ r.2.mem ((c.tc : Thread Cert.MergeFwdReferenceIdeal.nD Cert.MergeFwdReferenceIdeal.τ).loc Cert.MergeFwdReferenceIdeal.main_arg7) = m' ((c.tc : Thread Cert.MergeFwdReferenceIdeal.nD Cert.MergeFwdReferenceIdeal.τ).loc Cert.MergeFwdReferenceIdeal.main_arg7)
          ∧ r.2.mem ((c.tc : Thread Cert.MergeFwdReferenceIdeal.nD Cert.MergeFwdReferenceIdeal.τ).loc Cert.MergeFwdReferenceIdeal.main_arg8) = m' ((c.tc : Thread Cert.MergeFwdReferenceIdeal.nD Cert.MergeFwdReferenceIdeal.τ).loc Cert.MergeFwdReferenceIdeal.main_arg8)
          ∧ r.2.mem ((c.tc : Thread Cert.MergeFwdReferenceIdeal.nD Cert.MergeFwdReferenceIdeal.τ).loc Cert.MergeFwdReferenceIdeal.main_arg9) = m' ((c.tc : Thread Cert.MergeFwdReferenceIdeal.nD Cert.MergeFwdReferenceIdeal.τ).loc Cert.MergeFwdReferenceIdeal.main_arg9)
          ∧ r.2.mem ((c.tc : Thread Cert.MergeFwdReferenceIdeal.nD Cert.MergeFwdReferenceIdeal.τ).loc Cert.MergeFwdReferenceIdeal.main_arg10) = m' ((c.tc : Thread Cert.MergeFwdReferenceIdeal.nD Cert.MergeFwdReferenceIdeal.τ).loc Cert.MergeFwdReferenceIdeal.main_arg10)
          ∧ r.2.mem ((c.tc : Thread Cert.MergeFwdReferenceIdeal.nD Cert.MergeFwdReferenceIdeal.τ).loc Cert.MergeFwdReferenceIdeal.main_arg11) = m' ((c.tc : Thread Cert.MergeFwdReferenceIdeal.nD Cert.MergeFwdReferenceIdeal.τ).loc Cert.MergeFwdReferenceIdeal.main_arg11))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)
      ∧ m' ((c.tc : Thread Cert.MergeBwdReferenceIdeal.nD Cert.MergeBwdReferenceIdeal.τ).loc Cert.MergeBwdReferenceIdeal.main_arg4) = m ((c.tc : Thread Cert.MergeBwdIdeal.nD Cert.MergeBwdIdeal.τ).loc Cert.MergeBwdIdeal.main_arg4)
      ∧ m' ((c.tc : Thread Cert.MergeBwdReferenceIdeal.nD Cert.MergeBwdReferenceIdeal.τ).loc Cert.MergeBwdReferenceIdeal.main_arg5) = m ((c.tc : Thread Cert.MergeBwdIdeal.nD Cert.MergeBwdIdeal.τ).loc Cert.MergeBwdIdeal.main_arg5)
      ∧ m' ((c.tc : Thread Cert.MergeBwdReferenceIdeal.nD Cert.MergeBwdReferenceIdeal.τ).loc Cert.MergeBwdReferenceIdeal.main_arg6) = m ((c.tc : Thread Cert.MergeBwdIdeal.nD Cert.MergeBwdIdeal.τ).loc Cert.MergeBwdIdeal.main_arg6)
      ∧ m' ((c.tc : Thread Cert.MergeBwdReferenceIdeal.nD Cert.MergeBwdReferenceIdeal.τ).loc Cert.MergeBwdReferenceIdeal.main_arg7) = m ((c.tc : Thread Cert.MergeBwdIdeal.nD Cert.MergeBwdIdeal.τ).loc Cert.MergeBwdIdeal.main_arg7)
      ∧ m' ((c.tc : Thread Cert.MergeBwdReferenceIdeal.nD Cert.MergeBwdReferenceIdeal.τ).loc Cert.MergeBwdReferenceIdeal.main_arg8) = m ((c.tc : Thread Cert.MergeBwdIdeal.nD Cert.MergeBwdIdeal.τ).loc Cert.MergeBwdIdeal.main_arg8)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)) (v6 : (c : Dev Cert.MergeBwdIdeal.nD) → Buf (Elt Ideal) ((c.tc : Thread Cert.MergeBwdIdeal.nD Cert.MergeBwdIdeal.τ).loc Cert.MergeBwdIdeal.main_v0_6)) (v7 : (c : Dev Cert.MergeBwdIdeal.nD) → Buf (Elt Ideal) ((c.tc : Thread Cert.MergeBwdIdeal.nD Cert.MergeBwdIdeal.τ).loc Cert.MergeBwdIdeal.main_v0_7)) (v8 : (c : Dev Cert.MergeBwdIdeal.nD) → Buf (Elt Ideal) ((c.tc : Thread Cert.MergeBwdIdeal.nD Cert.MergeBwdIdeal.τ).loc Cert.MergeBwdIdeal.main_v0_8)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_v0_6) = v6 c
          ∧ r.2.mem ((c.tc : Thread Cert.MergeBwdIdeal.nD Cert.MergeBwdIdeal.τ).loc Cert.MergeBwdIdeal.main_v0_7) = v7 c
          ∧ r.2.mem ((c.tc : Thread Cert.MergeBwdIdeal.nD Cert.MergeBwdIdeal.τ).loc Cert.MergeBwdIdeal.main_v0_8) = v8 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
          ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v41) = v0 c
          ∧ r.2.mem ((c.tc : Thread Cert.MergeBwdReferenceIdeal.nD Cert.MergeBwdReferenceIdeal.τ).loc Cert.MergeBwdReferenceIdeal.main_v42) = v1 c
          ∧ r.2.mem ((c.tc : Thread Cert.MergeBwdReferenceIdeal.nD Cert.MergeBwdReferenceIdeal.τ).loc Cert.MergeBwdReferenceIdeal.main_v43) = v2 c
          ∧ r.2.mem ((c.tc : Thread Cert.MergeBwdReferenceIdeal.nD Cert.MergeBwdReferenceIdeal.τ).loc Cert.MergeBwdReferenceIdeal.main_v44) = v3 c
          ∧ r.2.mem ((c.tc : Thread Cert.MergeBwdReferenceIdeal.nD Cert.MergeBwdReferenceIdeal.τ).loc Cert.MergeBwdReferenceIdeal.main_v45) = v4 c
          ∧ r.2.mem ((c.tc : Thread Cert.MergeBwdReferenceIdeal.nD Cert.MergeBwdReferenceIdeal.τ).loc Cert.MergeBwdReferenceIdeal.main_v46) = v5 c
          ∧ r.2.mem ((c.tc : Thread Cert.MergeBwdReferenceIdeal.nD Cert.MergeBwdReferenceIdeal.τ).loc Cert.MergeBwdReferenceIdeal.main_v47) = v6 c
          ∧ r.2.mem ((c.tc : Thread Cert.MergeBwdReferenceIdeal.nD Cert.MergeBwdReferenceIdeal.τ).loc Cert.MergeBwdReferenceIdeal.main_v53) = v7 c
          ∧ r.2.mem ((c.tc : Thread Cert.MergeBwdReferenceIdeal.nD Cert.MergeBwdReferenceIdeal.τ).loc Cert.MergeBwdReferenceIdeal.main_v59) = v8 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4)
          ∧ r.2.mem ((c.tc : Thread Cert.MergeBwdReferenceIdeal.nD Cert.MergeBwdReferenceIdeal.τ).loc Cert.MergeBwdReferenceIdeal.main_arg5) = m' ((c.tc : Thread Cert.MergeBwdReferenceIdeal.nD Cert.MergeBwdReferenceIdeal.τ).loc Cert.MergeBwdReferenceIdeal.main_arg5)
          ∧ r.2.mem ((c.tc : Thread Cert.MergeBwdReferenceIdeal.nD Cert.MergeBwdReferenceIdeal.τ).loc Cert.MergeBwdReferenceIdeal.main_arg6) = m' ((c.tc : Thread Cert.MergeBwdReferenceIdeal.nD Cert.MergeBwdReferenceIdeal.τ).loc Cert.MergeBwdReferenceIdeal.main_arg6)
          ∧ r.2.mem ((c.tc : Thread Cert.MergeBwdReferenceIdeal.nD Cert.MergeBwdReferenceIdeal.τ).loc Cert.MergeBwdReferenceIdeal.main_arg7) = m' ((c.tc : Thread Cert.MergeBwdReferenceIdeal.nD Cert.MergeBwdReferenceIdeal.τ).loc Cert.MergeBwdReferenceIdeal.main_arg7)
          ∧ r.2.mem ((c.tc : Thread Cert.MergeBwdReferenceIdeal.nD Cert.MergeBwdReferenceIdeal.τ).loc Cert.MergeBwdReferenceIdeal.main_arg8) = m' ((c.tc : Thread Cert.MergeBwdReferenceIdeal.nD Cert.MergeBwdReferenceIdeal.τ).loc Cert.MergeBwdReferenceIdeal.main_arg8))

def preserves_BiasGrad_BiasGradIdeal : Prop :=
  True

def algebraic_BiasGradIdeal_BiasGradReferenceIdeal [hBiasGradIdeal : Cert.BiasGradIdeal.Facts] [hBiasGradReferenceIdeal : Cert.BiasGradReferenceIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradReferenceIdeal.nD Cert.BiasGradReferenceIdeal.τ Cert.BiasGradReferenceIdeal.sig) → Buf (Elt Ideal) ℓ) (g' : Dev Cert.BiasGradReferenceIdeal.nD → PrngReg), Pre_BiasGradIdeal m →
    (∀ c : Dev Cert.BiasGradIdeal.nD,
      m' ((c.tc : Thread Cert.BiasGradReferenceIdeal.nD Cert.BiasGradReferenceIdeal.τ).loc Cert.BiasGradReferenceIdeal.main_arg0) = m ((c.tc : Thread Cert.BiasGradIdeal.nD Cert.BiasGradIdeal.τ).loc Cert.BiasGradIdeal.main_arg0)
      ∧ m' ((c.tc : Thread Cert.BiasGradReferenceIdeal.nD Cert.BiasGradReferenceIdeal.τ).loc Cert.BiasGradReferenceIdeal.main_arg1) = m ((c.tc : Thread Cert.BiasGradIdeal.nD Cert.BiasGradIdeal.τ).loc Cert.BiasGradIdeal.main_arg1)) →
    ∃ (v0 : (c : Dev Cert.BiasGradIdeal.nD) → Buf (Elt Ideal) ((c.tc : Thread Cert.BiasGradIdeal.nD Cert.BiasGradIdeal.τ).loc Cert.BiasGradIdeal.main_v0)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v0) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
          ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ θ_run (Cert.BiasGradReferenceIdeal.defs (F := Ideal)) (onTc (τ := Cert.BiasGradReferenceIdeal.τ) (Cert.BiasGradReferenceIdeal.main (F := Ideal))) ⟨m', fun _ => 0, g'⟩ (fun r => ∀ c : Dev Cert.BiasGradReferenceIdeal.nD,
          r.2.mem ((c.tc : Thread Cert.BiasGradReferenceIdeal.nD Cert.BiasGradReferenceIdeal.τ).loc Cert.BiasGradReferenceIdeal.main_v17) = v0 c
          ∧ r.2.mem ((c.tc : Thread Cert.BiasGradReferenceIdeal.nD Cert.BiasGradReferenceIdeal.τ).loc Cert.BiasGradReferenceIdeal.main_arg0) = m' ((c.tc : Thread Cert.BiasGradReferenceIdeal.nD Cert.BiasGradReferenceIdeal.τ).loc Cert.BiasGradReferenceIdeal.main_arg0)
          ∧ r.2.mem ((c.tc : Thread Cert.BiasGradReferenceIdeal.nD Cert.BiasGradReferenceIdeal.τ).loc Cert.BiasGradReferenceIdeal.main_arg1) = m' ((c.tc : Thread Cert.BiasGradReferenceIdeal.nD Cert.BiasGradReferenceIdeal.τ).loc Cert.BiasGradReferenceIdeal.main_arg1))

def preserves_AttnFwd_AttnFwdIdeal : Prop :=
  True

def algebraic_AttnFwdIdeal_AttnFwdReferenceIdeal [hAttnFwdIdeal : Cert.AttnFwdIdeal.Facts] [hAttnFwdReferenceIdeal : Cert.AttnFwdReferenceIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v1_0)) (v1 : (c : Dev Cert.AttnFwdIdeal.nD) → Buf (Elt Ideal) ((c.tc : Thread Cert.AttnFwdIdeal.nD Cert.AttnFwdIdeal.τ).loc Cert.AttnFwdIdeal.main_v1_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v1_0) = v0 c
          ∧ r.2.mem ((c.tc : Thread Cert.AttnFwdIdeal.nD Cert.AttnFwdIdeal.τ).loc Cert.AttnFwdIdeal.main_v1_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v27) = v0 c
          ∧ r.2.mem ((c.tc : Thread Cert.AttnFwdReferenceIdeal.nD Cert.AttnFwdReferenceIdeal.τ).loc Cert.AttnFwdReferenceIdeal.main_v29) = v1 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1))

def Claim : Prop :=
  ∃ (hHalf : Cert.Half.Facts) (hHalfIdeal : Cert.HalfIdeal.Facts) (hHalfReferenceIdeal : Cert.HalfReferenceIdeal.Facts) (hHalfReference : Cert.HalfReference.Facts) (hGather : Cert.Gather.Facts) (hGatherIdeal : Cert.GatherIdeal.Facts) (hGatherReferenceIdeal : Cert.GatherReferenceIdeal.Facts) (hGatherReference : Cert.GatherReference.Facts) (hPair : Cert.Pair.Facts) (hPairIdeal : Cert.PairIdeal.Facts) (hPairReferenceIdeal : Cert.PairReferenceIdeal.Facts) (hPairReference : Cert.PairReference.Facts) (hChip : Cert.Chip.Facts) (hChipIdeal : Cert.ChipIdeal.Facts) (hChipReferenceIdeal : Cert.ChipReferenceIdeal.Facts) (hChipReference : Cert.ChipReference.Facts) (hPairSumA : Cert.PairSumA.Facts) (hPairSumAIdeal : Cert.PairSumAIdeal.Facts) (hPairSumAReferenceIdeal : Cert.PairSumAReferenceIdeal.Facts) (hPairSumAReference : Cert.PairSumAReference.Facts) (hPairSumB : Cert.PairSumB.Facts) (hPairSumBIdeal : Cert.PairSumBIdeal.Facts) (hPairSumBReferenceIdeal : Cert.PairSumBReferenceIdeal.Facts) (hPairSumBReference : Cert.PairSumBReference.Facts) (hChipSumA : Cert.ChipSumA.Facts) (hChipSumAIdeal : Cert.ChipSumAIdeal.Facts) (hChipSumAReferenceIdeal : Cert.ChipSumAReferenceIdeal.Facts) (hChipSumAReference : Cert.ChipSumAReference.Facts) (hChipSumB : Cert.ChipSumB.Facts) (hChipSumBIdeal : Cert.ChipSumBIdeal.Facts) (hChipSumBReferenceIdeal : Cert.ChipSumBReferenceIdeal.Facts) (hChipSumBReference : Cert.ChipSumBReference.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamBranchA : Cert.AdamBranchA.Facts) (hAdamBranchAIdeal : Cert.AdamBranchAIdeal.Facts) (hAdamBranchAReferenceIdeal : Cert.AdamBranchAReferenceIdeal.Facts) (hAdamBranchB : Cert.AdamBranchB.Facts) (hAdamBranchBIdeal : Cert.AdamBranchBIdeal.Facts) (hAdamBranchBReferenceIdeal : Cert.AdamBranchBReferenceIdeal.Facts) (hAdamSmall : Cert.AdamSmall.Facts) (hAdamSmallIdeal : Cert.AdamSmallIdeal.Facts) (hAdamSmallReferenceIdeal : Cert.AdamSmallReferenceIdeal.Facts) (hFfnBwd : Cert.FfnBwd.Facts) (hFfnBwdIdeal : Cert.FfnBwdIdeal.Facts) (hFfnBwdReferenceIdeal : Cert.FfnBwdReferenceIdeal.Facts) (hGradUp : Cert.GradUp.Facts) (hGradUpIdeal : Cert.GradUpIdeal.Facts) (hGradUpReferenceIdeal : Cert.GradUpReferenceIdeal.Facts) (hGradDown : Cert.GradDown.Facts) (hGradDownIdeal : Cert.GradDownIdeal.Facts) (hGradDownReferenceIdeal : Cert.GradDownReferenceIdeal.Facts) (hGradOut : Cert.GradOut.Facts) (hGradOutIdeal : Cert.GradOutIdeal.Facts) (hGradOutReferenceIdeal : Cert.GradOutReferenceIdeal.Facts) (hGradBranchA : Cert.GradBranchA.Facts) (hGradBranchAIdeal : Cert.GradBranchAIdeal.Facts) (hGradBranchAReferenceIdeal : Cert.GradBranchAReferenceIdeal.Facts) (hGradBranchB : Cert.GradBranchB.Facts) (hGradBranchBIdeal : Cert.GradBranchBIdeal.Facts) (hGradBranchBReferenceIdeal : Cert.GradBranchBReferenceIdeal.Facts) (hGradIn : Cert.GradIn.Facts) (hGradInIdeal : Cert.GradInIdeal.Facts) (hGradInReferenceIdeal : Cert.GradInReferenceIdeal.Facts) (hFfnFwd : Cert.FfnFwd.Facts) (hFfnFwdIdeal : Cert.FfnFwdIdeal.Facts) (hFfnFwdReferenceIdeal : Cert.FfnFwdReferenceIdeal.Facts) (hInFwd : Cert.InFwd.Facts) (hInFwdIdeal : Cert.InFwdIdeal.Facts) (hInFwdReferenceIdeal : Cert.InFwdReferenceIdeal.Facts) (hInBwd : Cert.InBwd.Facts) (hInBwdIdeal : Cert.InBwdIdeal.Facts) (hInBwdReferenceIdeal : Cert.InBwdReferenceIdeal.Facts) (hLossHead : Cert.LossHead.Facts) (hLossHeadIdeal : Cert.LossHeadIdeal.Facts) (hLossHeadReferenceIdeal : Cert.LossHeadReferenceIdeal.Facts) (hMergeFwd : Cert.MergeFwd.Facts) (hMergeFwdIdeal : Cert.MergeFwdIdeal.Facts) (hMergeFwdReferenceIdeal : Cert.MergeFwdReferenceIdeal.Facts) (hMergeBwd : Cert.MergeBwd.Facts) (hMergeBwdIdeal : Cert.MergeBwdIdeal.Facts) (hMergeBwdReferenceIdeal : Cert.MergeBwdReferenceIdeal.Facts) (hBiasGrad : Cert.BiasGrad.Facts) (hBiasGradIdeal : Cert.BiasGradIdeal.Facts) (hBiasGradReferenceIdeal : Cert.BiasGradReferenceIdeal.Facts) (hAttnFwd : Cert.AttnFwd.Facts) (hAttnFwdIdeal : Cert.AttnFwdIdeal.Facts) (hAttnFwdReferenceIdeal : Cert.AttnFwdReferenceIdeal.Facts),
    quiescent_Half (hHalf := hHalf)
    ∧ quiescent_HalfIdeal (hHalfIdeal := hHalfIdeal)
    ∧ quiescent_HalfReferenceIdeal (hHalfReferenceIdeal := hHalfReferenceIdeal)
    ∧ quiescent_HalfReference (hHalfReference := hHalfReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Pair (hPair := hPair)
    ∧ quiescent_PairIdeal (hPairIdeal := hPairIdeal)
    ∧ quiescent_PairReferenceIdeal (hPairReferenceIdeal := hPairReferenceIdeal)
    ∧ quiescent_PairReference (hPairReference := hPairReference)
    ∧ quiescent_Chip (hChip := hChip)
    ∧ quiescent_ChipIdeal (hChipIdeal := hChipIdeal)
    ∧ quiescent_ChipReferenceIdeal (hChipReferenceIdeal := hChipReferenceIdeal)
    ∧ quiescent_ChipReference (hChipReference := hChipReference)
    ∧ quiescent_PairSumA (hPairSumA := hPairSumA)
    ∧ quiescent_PairSumAIdeal (hPairSumAIdeal := hPairSumAIdeal)
    ∧ quiescent_PairSumAReferenceIdeal (hPairSumAReferenceIdeal := hPairSumAReferenceIdeal)
    ∧ quiescent_PairSumAReference (hPairSumAReference := hPairSumAReference)
    ∧ quiescent_PairSumB (hPairSumB := hPairSumB)
    ∧ quiescent_PairSumBIdeal (hPairSumBIdeal := hPairSumBIdeal)
    ∧ quiescent_PairSumBReferenceIdeal (hPairSumBReferenceIdeal := hPairSumBReferenceIdeal)
    ∧ quiescent_PairSumBReference (hPairSumBReference := hPairSumBReference)
    ∧ quiescent_ChipSumA (hChipSumA := hChipSumA)
    ∧ quiescent_ChipSumAIdeal (hChipSumAIdeal := hChipSumAIdeal)
    ∧ quiescent_ChipSumAReferenceIdeal (hChipSumAReferenceIdeal := hChipSumAReferenceIdeal)
    ∧ quiescent_ChipSumAReference (hChipSumAReference := hChipSumAReference)
    ∧ quiescent_ChipSumB (hChipSumB := hChipSumB)
    ∧ quiescent_ChipSumBIdeal (hChipSumBIdeal := hChipSumBIdeal)
    ∧ quiescent_ChipSumBReferenceIdeal (hChipSumBReferenceIdeal := hChipSumBReferenceIdeal)
    ∧ quiescent_ChipSumBReference (hChipSumBReference := hChipSumBReference)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamBranchA (hAdamBranchA := hAdamBranchA)
    ∧ quiescent_AdamBranchAIdeal (hAdamBranchAIdeal := hAdamBranchAIdeal)
    ∧ quiescent_AdamBranchAReferenceIdeal (hAdamBranchAReferenceIdeal := hAdamBranchAReferenceIdeal)
    ∧ quiescent_AdamBranchB (hAdamBranchB := hAdamBranchB)
    ∧ quiescent_AdamBranchBIdeal (hAdamBranchBIdeal := hAdamBranchBIdeal)
    ∧ quiescent_AdamBranchBReferenceIdeal (hAdamBranchBReferenceIdeal := hAdamBranchBReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_FfnBwd (hFfnBwd := hFfnBwd)
    ∧ quiescent_FfnBwdIdeal (hFfnBwdIdeal := hFfnBwdIdeal)
    ∧ quiescent_FfnBwdReferenceIdeal (hFfnBwdReferenceIdeal := hFfnBwdReferenceIdeal)
    ∧ quiescent_GradUp (hGradUp := hGradUp)
    ∧ quiescent_GradUpIdeal (hGradUpIdeal := hGradUpIdeal)
    ∧ quiescent_GradUpReferenceIdeal (hGradUpReferenceIdeal := hGradUpReferenceIdeal)
    ∧ quiescent_GradDown (hGradDown := hGradDown)
    ∧ quiescent_GradDownIdeal (hGradDownIdeal := hGradDownIdeal)
    ∧ quiescent_GradDownReferenceIdeal (hGradDownReferenceIdeal := hGradDownReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradBranchA (hGradBranchA := hGradBranchA)
    ∧ quiescent_GradBranchAIdeal (hGradBranchAIdeal := hGradBranchAIdeal)
    ∧ quiescent_GradBranchAReferenceIdeal (hGradBranchAReferenceIdeal := hGradBranchAReferenceIdeal)
    ∧ quiescent_GradBranchB (hGradBranchB := hGradBranchB)
    ∧ quiescent_GradBranchBIdeal (hGradBranchBIdeal := hGradBranchBIdeal)
    ∧ quiescent_GradBranchBReferenceIdeal (hGradBranchBReferenceIdeal := hGradBranchBReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_InBwd (hInBwd := hInBwd)
    ∧ quiescent_InBwdIdeal (hInBwdIdeal := hInBwdIdeal)
    ∧ quiescent_InBwdReferenceIdeal (hInBwdReferenceIdeal := hInBwdReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_BiasGrad (hBiasGrad := hBiasGrad)
    ∧ quiescent_BiasGradIdeal (hBiasGradIdeal := hBiasGradIdeal)
    ∧ quiescent_BiasGradReferenceIdeal (hBiasGradReferenceIdeal := hBiasGradReferenceIdeal)
    ∧ quiescent_AttnFwd (hAttnFwd := hAttnFwd)
    ∧ quiescent_AttnFwdIdeal (hAttnFwdIdeal := hAttnFwdIdeal)
    ∧ quiescent_AttnFwdReferenceIdeal (hAttnFwdReferenceIdeal := hAttnFwdReferenceIdeal)
    ∧ preserves_Half_HalfIdeal
    ∧ algebraic_HalfIdeal_HalfReferenceIdeal (hHalfIdeal := hHalfIdeal) (hHalfReferenceIdeal := hHalfReferenceIdeal)
    ∧ bitexact_Half_HalfReference (hHalf := hHalf) (hHalfReference := hHalfReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Pair_PairIdeal
    ∧ algebraic_PairIdeal_PairReferenceIdeal (hPairIdeal := hPairIdeal) (hPairReferenceIdeal := hPairReferenceIdeal)
    ∧ bitexact_Pair_PairReference (hPair := hPair) (hPairReference := hPairReference)
    ∧ preserves_Chip_ChipIdeal
    ∧ algebraic_ChipIdeal_ChipReferenceIdeal (hChipIdeal := hChipIdeal) (hChipReferenceIdeal := hChipReferenceIdeal)
    ∧ bitexact_Chip_ChipReference (hChip := hChip) (hChipReference := hChipReference)
    ∧ preserves_PairSumA_PairSumAIdeal
    ∧ algebraic_PairSumAIdeal_PairSumAReferenceIdeal (hPairSumAIdeal := hPairSumAIdeal) (hPairSumAReferenceIdeal := hPairSumAReferenceIdeal)
    ∧ bitexact_PairSumA_PairSumAReference (hPairSumA := hPairSumA) (hPairSumAReference := hPairSumAReference)
    ∧ preserves_PairSumB_PairSumBIdeal
    ∧ algebraic_PairSumBIdeal_PairSumBReferenceIdeal (hPairSumBIdeal := hPairSumBIdeal) (hPairSumBReferenceIdeal := hPairSumBReferenceIdeal)
    ∧ bitexact_PairSumB_PairSumBReference (hPairSumB := hPairSumB) (hPairSumBReference := hPairSumBReference)
    ∧ preserves_ChipSumA_ChipSumAIdeal
    ∧ algebraic_ChipSumAIdeal_ChipSumAReferenceIdeal (hChipSumAIdeal := hChipSumAIdeal) (hChipSumAReferenceIdeal := hChipSumAReferenceIdeal)
    ∧ bitexact_ChipSumA_ChipSumAReference (hChipSumA := hChipSumA) (hChipSumAReference := hChipSumAReference)
    ∧ preserves_ChipSumB_ChipSumBIdeal
    ∧ algebraic_ChipSumBIdeal_ChipSumBReferenceIdeal (hChipSumBIdeal := hChipSumBIdeal) (hChipSumBReferenceIdeal := hChipSumBReferenceIdeal)
    ∧ bitexact_ChipSumB_ChipSumBReference (hChipSumB := hChipSumB) (hChipSumBReference := hChipSumBReference)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamBranchA_AdamBranchAIdeal
    ∧ algebraic_AdamBranchAIdeal_AdamBranchAReferenceIdeal (hAdamBranchAIdeal := hAdamBranchAIdeal) (hAdamBranchAReferenceIdeal := hAdamBranchAReferenceIdeal)
    ∧ preserves_AdamBranchB_AdamBranchBIdeal
    ∧ algebraic_AdamBranchBIdeal_AdamBranchBReferenceIdeal (hAdamBranchBIdeal := hAdamBranchBIdeal) (hAdamBranchBReferenceIdeal := hAdamBranchBReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_FfnBwd_FfnBwdIdeal
    ∧ algebraic_FfnBwdIdeal_FfnBwdReferenceIdeal (hFfnBwdIdeal := hFfnBwdIdeal) (hFfnBwdReferenceIdeal := hFfnBwdReferenceIdeal)
    ∧ preserves_GradUp_GradUpIdeal
    ∧ algebraic_GradUpIdeal_GradUpReferenceIdeal (hGradUpIdeal := hGradUpIdeal) (hGradUpReferenceIdeal := hGradUpReferenceIdeal)
    ∧ preserves_GradDown_GradDownIdeal
    ∧ algebraic_GradDownIdeal_GradDownReferenceIdeal (hGradDownIdeal := hGradDownIdeal) (hGradDownReferenceIdeal := hGradDownReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradBranchA_GradBranchAIdeal
    ∧ algebraic_GradBranchAIdeal_GradBranchAReferenceIdeal (hGradBranchAIdeal := hGradBranchAIdeal) (hGradBranchAReferenceIdeal := hGradBranchAReferenceIdeal)
    ∧ preserves_GradBranchB_GradBranchBIdeal
    ∧ algebraic_GradBranchBIdeal_GradBranchBReferenceIdeal (hGradBranchBIdeal := hGradBranchBIdeal) (hGradBranchBReferenceIdeal := hGradBranchBReferenceIdeal)
    ∧ preserves_GradIn_GradInIdeal
    ∧ algebraic_GradInIdeal_GradInReferenceIdeal (hGradInIdeal := hGradInIdeal) (hGradInReferenceIdeal := hGradInReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
    ∧ preserves_InFwd_InFwdIdeal
    ∧ algebraic_InFwdIdeal_InFwdReferenceIdeal (hInFwdIdeal := hInFwdIdeal) (hInFwdReferenceIdeal := hInFwdReferenceIdeal)
    ∧ preserves_InBwd_InBwdIdeal
    ∧ algebraic_InBwdIdeal_InBwdReferenceIdeal (hInBwdIdeal := hInBwdIdeal) (hInBwdReferenceIdeal := hInBwdReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_BiasGrad_BiasGradIdeal
    ∧ algebraic_BiasGradIdeal_BiasGradReferenceIdeal (hBiasGradIdeal := hBiasGradIdeal) (hBiasGradReferenceIdeal := hBiasGradReferenceIdeal)
    ∧ preserves_AttnFwd_AttnFwdIdeal
    ∧ algebraic_AttnFwdIdeal_AttnFwdReferenceIdeal (hAttnFwdIdeal := hAttnFwdIdeal) (hAttnFwdReferenceIdeal := hAttnFwdReferenceIdeal)
-- ==== Half.lean ====
abbrev S512x4096 : Shape := ⟨2, ![512, 4096]⟩
abbrev S928x1024 : Shape := ⟨2, ![928, 1024]⟩
abbrev S2x512x4096 : Shape := ⟨3, ![2, 512, 4096]⟩
abbrev S2x928x1024 : Shape := ⟨3, ![2, 928, 1024]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S1x928x1024 : Shape := ⟨3, ![1, 928, 1024]⟩

abbrev nBuf : Space → Nat
  | .hbm => 4
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S928x1024, .f32⟩
  | .hbm, ⟨2, _⟩ => ⟨S2x512x4096, .f32⟩
  | .hbm, ⟨3, _⟩ => ⟨S2x928x1024, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_4 : BitVec 32 := 0#32
  let c0_i32_5 : BitVec 32 := 0#32
  ![v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_7 : BitVec 32 := 0#32
  let c0_i32_8 : BitVec 32 := 0#32
  ![v8.toNat, 0, 0]
def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v18 : BitVec 32 := Scalar.muli v2 c4_i32_11
  let v19 : BitVec 32 := Scalar.addi c0_i32_12 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v20 : BitVec 32 := Scalar.muli v5 c2_i32_13
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_14 : BitVec 32 := 1#32
  let v22 : BitVec 32 := Scalar.muli v9 c1_i32_14
  let v23 : BitVec 32 := Scalar.addi v21 v22
  v23.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v30 : BitVec 32 := Scalar.muli v2 c4_i32_19
  let v31 : BitVec 32 := Scalar.addi c0_i32_20 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v32 : BitVec 32 := Scalar.muli v5 c2_i32_21
  let v33 : BitVec 32 := Scalar.addi v31 v32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_22 : BitVec 32 := 1#32
  let v34 : BitVec 32 := Scalar.muli v9 c1_i32_22
  let v35 : BitVec 32 := Scalar.addi v33 v34
  v35.toNat
-- ==== HalfReference.lean ====
abbrev S4096x4096 : Shape := ⟨2, ![4096, 4096]⟩
abbrev S7424x1024 : Shape := ⟨2, ![7424, 1024]⟩
abbrev S8x512x4096 : Shape := ⟨3, ![8, 512, 4096]⟩
abbrev S8x928x1024 : Shape := ⟨3, ![8, 928, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S7424x1024, .f32⟩
  | .hbm, ⟨2, _⟩ => ⟨S8x512x4096, .f32⟩
  | .hbm, ⟨3, _⟩ => ⟨S8x928x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gather.lean ====
abbrev S1024x4096 : Shape := ⟨2, ![1024, 4096]⟩
abbrev S1856x1024 : Shape := ⟨2, ![1856, 1024]⟩
abbrev S4x1024x4096 : Shape := ⟨3, ![4, 1024, 4096]⟩
abbrev S4x1856x1024 : Shape := ⟨3, ![4, 1856, 1024]⟩
abbrev S6 : Shape := ⟨1, ![6]⟩
abbrev S2 : Shape := ⟨1, ![2]⟩
abbrev S1 : Shape := ⟨1, ![1]⟩
abbrev S_ : Shape := ⟨0, ![]⟩
abbrev S1x1024x4096 : Shape := ⟨3, ![1, 1024, 4096]⟩
abbrev S1x1856x1024 : Shape := ⟨3, ![1, 1856, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1856x1024, .bf16⟩
  | .hbm, ⟨2, _⟩ => ⟨S4x1024x4096, .bf16⟩
  | .hbm, ⟨3, _⟩ => ⟨S4x1856x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_7 : BitVec 32 := 0#32
  let c0_i32_8 : BitVec 32 := 0#32
  ![v10.toNat, 0, 0]
def k0_dev1 (d0 : Dev nD) : Nat :=
  let c0_i32_13 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_12 : BitVec 32 := 4#32
  let v20 : BitVec 32 := Scalar.muli v19 c4_i32_12
  let v21 : BitVec 32 := Scalar.addi c0_i32_13 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v22 : BitVec 32 := Scalar.muli v5 c2_i32_14
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v24 : BitVec 32 := Scalar.muli v8 c1_i32_15
  let v25 : BitVec 32 := Scalar.addi v23 v24
  v25.toNat
def k0_dev2 (d0 : Dev nD) : Nat :=
  let c0_i32_21 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_20 : BitVec 32 := 4#32
  let v32 : BitVec 32 := Scalar.muli v19 c4_i32_20
  let v33 : BitVec 32 := Scalar.addi c0_i32_21 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v34 : BitVec 32 := Scalar.muli v5 c2_i32_22
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v36 : BitVec 32 := Scalar.muli v8 c1_i32_23
  let v37 : BitVec 32 := Scalar.addi v35 v36
  v37.toNat
def k0_dev3 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v45 : BitVec 32 := Scalar.muli v2 c4_i32_29
  let v46 : BitVec 32 := Scalar.addi c0_i32_30 v45
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v44 : BitVec 32 := Scalar.subi c1_i32_26 v5
  let c2_i32_31 : BitVec 32 := 2#32
  let v47 : BitVec 32 := Scalar.muli v44 c2_i32_31
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v49 : BitVec 32 := Scalar.muli v8 c1_i32_32
  let v50 : BitVec 32 := Scalar.addi v48 v49
  v50.toNat
def k0_dev4 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v44 : BitVec 32 := Scalar.subi c1_i32_26 v5
  let c2_i32_38 : BitVec 32 := 2#32
  let v59 : BitVec 32 := Scalar.muli v44 c2_i32_38
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v61 : BitVec 32 := Scalar.muli v8 c1_i32_39
  let v62 : BitVec 32 := Scalar.addi v60 v61
  v62.toNat
def k0_dev5 (d0 : Dev nD) : Nat :=
  let c0_i32_47 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_42 v2
  let c4_i32_46 : BitVec 32 := 4#32
  let v71 : BitVec 32 := Scalar.muli v69 c4_i32_46
  let v72 : BitVec 32 := Scalar.addi c0_i32_47 v71
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v70 : BitVec 32 := Scalar.subi c1_i32_43 v5
  let c2_i32_48 : BitVec 32 := 2#32
  let v73 : BitVec 32 := Scalar.muli v70 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_dev6 (d0 : Dev nD) : Nat :=
  let c0_i32_54 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_42 v2
  let c4_i32_53 : BitVec 32 := 4#32
  let v83 : BitVec 32 := Scalar.muli v69 c4_i32_53
  let v84 : BitVec 32 := Scalar.addi c0_i32_54 v83
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v70 : BitVec 32 := Scalar.subi c1_i32_43 v5
  let c2_i32_55 : BitVec 32 := 2#32
  let v85 : BitVec 32 := Scalar.muli v70 c2_i32_55
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v87 : BitVec 32 := Scalar.muli v8 c1_i32_56
  let v88 : BitVec 32 := Scalar.addi v86 v87
  v88.toNat
-- ==== GatherReference.lean ====
abbrev S4096x4096 : Shape := ⟨2, ![4096, 4096]⟩
abbrev S7424x1024 : Shape := ⟨2, ![7424, 1024]⟩
abbrev S4x1024x4096 : Shape := ⟨3, ![4, 1024, 4096]⟩
abbrev S4x1856x1024 : Shape := ⟨3, ![4, 1856, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S7424x1024, .bf16⟩
  | .hbm, ⟨2, _⟩ => ⟨S4x1024x4096, .bf16⟩
  | .hbm, ⟨3, _⟩ => ⟨S4x1856x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pair.lean ====
abbrev S2x4x512x4096 : Shape := ⟨4, ![2, 4, 512, 4096]⟩
abbrev S2x4x928x1024 : Shape := ⟨4, ![2, 4, 928, 1024]⟩
abbrev S4x512x4096 : Shape := ⟨3, ![4, 512, 4096]⟩
abbrev S4x928x1024 : Shape := ⟨3, ![4, 928, 1024]⟩
abbrev S2 : Shape := ⟨1, ![2]⟩
abbrev S1 : Shape := ⟨1, ![1]⟩
abbrev S_ : Shape := ⟨0, ![]⟩
abbrev S1x4x512x4096 : Shape := ⟨4, ![1, 4, 512, 4096]⟩
abbrev S1x4x928x1024 : Shape := ⟨4, ![1, 4, 928, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4x512x4096, .bf16⟩
  | .hbm, ⟨1, _⟩ => ⟨S2x4x928x1024, .bf16⟩
  | .hbm, ⟨2, _⟩ => ⟨S4x512x4096, .bf16⟩
  | .hbm, ⟨3, _⟩ => ⟨S4x512x4096, .bf16⟩
  | .hbm, ⟨4, _⟩ => ⟨S4x928x1024, .bf16⟩
  | .hbm, ⟨5, _⟩ => ⟨S4x928x1024, .bf16⟩
  | _, _ => ⟨S2x4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_4 : BitVec 32 := 0#32
  let c0_i32_5 : BitVec 32 := 0#32
  let c0_i32_6 : BitVec 32 := 0#32
  ![v8.toNat, 0, 0, 0]
def k0_off2 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_8 : BitVec 32 := 0#32
  let c0_i32_9 : BitVec 32 := 0#32
  let c0_i32_10 : BitVec 32 := 0#32
  ![v8.toNat, 0, 0, 0]
def k0_off3 (d0 : Dev nD) : Fin 4 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_11 v8
  let c0_i32_19 : BitVec 32 := 0#32
  let c0_i32_20 : BitVec 32 := 0#32
  let c0_i32_21 : BitVec 32 := 0#32
  ![v18.toNat, 0, 0, 0]
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v20 : BitVec 32 := Scalar.muli v2 c4_i32_15
  let v21 : BitVec 32 := Scalar.addi c0_i32_16 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v22 : BitVec 32 := Scalar.muli v5 c2_i32_17
  let v23 : BitVec 32 := Scalar.addi v21 v22
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_18 : BitVec 32 := 1#32
  let v24 : BitVec 32 := Scalar.muli v9 c1_i32_18
  let v25 : BitVec 32 := Scalar.addi v23 v24
  v25.toNat
def k0_off4 (d0 : Dev nD) : Fin 4 → Nat :=
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_12 v8
  let c0_i32_28 : BitVec 32 := 0#32
  let c0_i32_29 : BitVec 32 := 0#32
  let c0_i32_30 : BitVec 32 := 0#32
  ![v19.toNat, 0, 0, 0]
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v32 : BitVec 32 := Scalar.muli v2 c4_i32_24
  let v33 : BitVec 32 := Scalar.addi c0_i32_25 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v34 : BitVec 32 := Scalar.muli v5 c2_i32_26
  let v35 : BitVec 32 := Scalar.addi v33 v34
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v36 : BitVec 32 := Scalar.muli v9 c1_i32_27
  let v37 : BitVec 32 := Scalar.addi v35 v36
  v37.toNat
-- ==== PairReference.lean ====
abbrev S16x4x512x4096 : Shape := ⟨4, ![16, 4, 512, 4096]⟩
abbrev S16x4x928x1024 : Shape := ⟨4, ![16, 4, 928, 1024]⟩
abbrev S4x2x2x4x512x4096 : Shape := ⟨6, ![4, 2, 2, 4, 512, 4096]⟩
abbrev S4x1x1x4x512x4096 : Shape := ⟨6, ![4, 1, 1, 4, 512, 4096]⟩
abbrev S4x4x512x4096 : Shape := ⟨4, ![4, 4, 512, 4096]⟩
abbrev S4x1x4x512x4096 : Shape := ⟨5, ![4, 1, 4, 512, 4096]⟩
abbrev S4x2x4x512x4096 : Shape := ⟨5, ![4, 2, 4, 512, 4096]⟩
abbrev S32x512x4096 : Shape := ⟨3, ![32, 512, 4096]⟩
abbrev S4x2x2x4x928x1024 : Shape := ⟨6, ![4, 2, 2, 4, 928, 1024]⟩
abbrev S4x1x1x4x928x1024 : Shape := ⟨6, ![4, 1, 1, 4, 928, 1024]⟩
abbrev S4x4x928x1024 : Shape := ⟨4, ![4, 4, 928, 1024]⟩
abbrev S4x1x4x928x1024 : Shape := ⟨5, ![4, 1, 4, 928, 1024]⟩
abbrev S4x2x4x928x1024 : Shape := ⟨5, ![4, 2, 4, 928, 1024]⟩
abbrev S32x928x1024 : Shape := ⟨3, ![32, 928, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16x4x512x4096, .bf16⟩
  | .hbm, ⟨1, _⟩ => ⟨S16x4x928x1024, .bf16⟩
  | .hbm, ⟨2, _⟩ => ⟨S4x2x2x4x512x4096, .bf16⟩
  | .hbm, ⟨3, _⟩ => ⟨S4x1x1x4x512x4096, .bf16⟩
  | .hbm, ⟨4, _⟩ => ⟨S4x4x512x4096, .bf16⟩
  | .hbm, ⟨5, _⟩ => ⟨S4x1x1x4x512x4096, .bf16⟩
  | .hbm, ⟨6, _⟩ => ⟨S4x4x512x4096, .bf16⟩
  | .hbm, ⟨7, _⟩ => ⟨S4x1x4x512x4096, .bf16⟩
  | .hbm, ⟨8, _⟩ => ⟨S4x1x4x512x4096, .bf16⟩
  | .hbm, ⟨9, _⟩ => ⟨S4x2x4x512x4096, .bf16⟩
  | .hbm, ⟨10, _⟩ => ⟨S4x1x1x4x512x4096, .bf16⟩
  | .hbm, ⟨11, _⟩ => ⟨S4x4x512x4096, .bf16⟩
  | .hbm, ⟨12, _⟩ => ⟨S4x1x1x4x512x4096, .bf16⟩
  | .hbm, ⟨13, _⟩ => ⟨S4x4x512x4096, .bf16⟩
  | .hbm, ⟨14, _⟩ => ⟨S4x1x4x512x4096, .bf16⟩
  | .hbm, ⟨15, _⟩ => ⟨S4x1x4x512x4096, .bf16⟩
  | .hbm, ⟨16, _⟩ => ⟨S4x2x4x512x4096, .bf16⟩
  | .hbm, ⟨17, _⟩ => ⟨S32x512x4096, .bf16⟩
  | .hbm, ⟨18, _⟩ => ⟨S32x512x4096, .bf16⟩
  | .hbm, ⟨19, _⟩ => ⟨S4x2x2x4x928x1024, .bf16⟩
  | .hbm, ⟨20, _⟩ => ⟨S4x1x1x4x928x1024, .bf16⟩
  | .hbm, ⟨21, _⟩ => ⟨S4x4x928x1024, .bf16⟩
  | .hbm, ⟨22, _⟩ => ⟨S4x1x1x4x928x1024, .bf16⟩
  | .hbm, ⟨23, _⟩ => ⟨S4x4x928x1024, .bf16⟩
  | .hbm, ⟨24, _⟩ => ⟨S4x1x4x928x1024, .bf16⟩
  | .hbm, ⟨25, _⟩ => ⟨S4x1x4x928x1024, .bf16⟩
  | .hbm, ⟨26, _⟩ => ⟨S4x2x4x928x1024, .bf16⟩
  | .hbm, ⟨27, _⟩ => ⟨S4x1x1x4x928x1024, .bf16⟩
  | .hbm, ⟨28, _⟩ => ⟨S4x4x928x1024, .bf16⟩
  | .hbm, ⟨29, _⟩ => ⟨S4x1x1x4x928x1024, .bf16⟩
  | .hbm, ⟨30, _⟩ => ⟨S4x4x928x1024, .bf16⟩
  | .hbm, ⟨31, _⟩ => ⟨S4x1x4x928x1024, .bf16⟩
  | .hbm, ⟨32, _⟩ => ⟨S4x1x4x928x1024, .bf16⟩
  | .hbm, ⟨33, _⟩ => ⟨S4x2x4x928x1024, .bf16⟩
  | .hbm, ⟨34, _⟩ => ⟨S32x928x1024, .bf16⟩
  | .hbm, ⟨35, _⟩ => ⟨S32x928x1024, .bf16⟩
  | _, _ => ⟨S16x4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩

abbrev nD : Nat := 1
abbrev τ : Topo := Topo.v7x

variable {F : FTy → Type} [FloatOps F]
-- ==== Chip.lean ====
abbrev S4x512x4096 : Shape := ⟨3, ![4, 512, 4096]⟩
abbrev S4x928x1024 : Shape := ⟨3, ![4, 928, 1024]⟩
abbrev S512x4096 : Shape := ⟨2, ![512, 4096]⟩
abbrev S3x512x4096 : Shape := ⟨3, ![3, 512, 4096]⟩
abbrev S928x1024 : Shape := ⟨2, ![928, 1024]⟩
abbrev S3x928x1024 : Shape := ⟨3, ![3, 928, 1024]⟩
abbrev S6 : Shape := ⟨1, ![6]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S1x928x1024 : Shape := ⟨3, ![1, 928, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S4x928x1024, .bf16⟩
  | .hbm, ⟨2, _⟩ => ⟨S512x4096, .bf16⟩
  | .hbm, ⟨3, _⟩ => ⟨S3x512x4096, .bf16⟩
  | .hbm, ⟨4, _⟩ => ⟨S928x1024, .bf16⟩
  | .hbm, ⟨5, _⟩ => ⟨S3x928x1024, .bf16⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_7 : BitVec 32 := 0#32
  let c0_i32_8 : BitVec 32 := 0#32
  ![v10.toNat, 0, 0]
def k0_off3 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let v20 : BitVec 32 := Scalar.muli c2_i32_10 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.addi v20 v5
  let c0_i32_20 : BitVec 32 := 0#32
  let c0_i32_21 : BitVec 32 := 0#32
  ![v21.toNat, 0, 0]
def k0_dev1 (d0 : Dev nD) : Nat :=
  let c0_i32_15 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_14 : BitVec 32 := 4#32
  let v22 : BitVec 32 := Scalar.muli v19 c4_i32_14
  let v23 : BitVec 32 := Scalar.addi c0_i32_15 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v24 : BitVec 32 := Scalar.muli v5 c2_i32_16
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v26 : BitVec 32 := Scalar.muli v8 c1_i32_17
  let v27 : BitVec 32 := Scalar.addi v25 v26
  v27.toNat
def k0_off4 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let v20 : BitVec 32 := Scalar.muli c2_i32_10 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.addi v20 v5
  let c0_i32_31 : BitVec 32 := 0#32
  let c0_i32_32 : BitVec 32 := 0#32
  ![v21.toNat, 0, 0]
def k0_dev2 (d0 : Dev nD) : Nat :=
  let c0_i32_26 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_25 : BitVec 32 := 4#32
  let v36 : BitVec 32 := Scalar.muli v19 c4_i32_25
  let v37 : BitVec 32 := Scalar.addi c0_i32_26 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v38 : BitVec 32 := Scalar.muli v5 c2_i32_27
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v40 : BitVec 32 := Scalar.muli v8 c1_i32_28
  let v41 : BitVec 32 := Scalar.addi v39 v40
  v41.toNat
def k0_off5 (d0 : Dev nD) : Fin 3 → Nat :=
  let c2_i32_34 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.muli c2_i32_34 v2
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_33 v5
  let v52 : BitVec 32 := Scalar.addi v51 v50
  let c0_i32_44 : BitVec 32 := 0#32
  let c0_i32_45 : BitVec 32 := 0#32
  ![v52.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v53 : BitVec 32 := Scalar.muli v2 c4_i32_38
  let v54 : BitVec 32 := Scalar.addi c0_i32_39 v53
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_33 v5
  let c2_i32_40 : BitVec 32 := 2#32
  let v55 : BitVec 32 := Scalar.muli v50 c2_i32_40
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v57 : BitVec 32 := Scalar.muli v8 c1_i32_41
  let v58 : BitVec 32 := Scalar.addi v56 v57
  v58.toNat
def k0_off6 (d0 : Dev nD) : Fin 3 → Nat :=
  let c2_i32_34 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.muli c2_i32_34 v2
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_33 v5
  let v52 : BitVec 32 := Scalar.addi v51 v50
  let c0_i32_54 : BitVec 32 := 0#32
  let c0_i32_55 : BitVec 32 := 0#32
  ![v52.toNat, 0, 0]
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v67 : BitVec 32 := Scalar.muli v2 c4_i32_48
  let v68 : BitVec 32 := Scalar.addi c0_i32_49 v67
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_33 v5
  let c2_i32_50 : BitVec 32 := 2#32
  let v69 : BitVec 32 := Scalar.muli v50 c2_i32_50
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v71 : BitVec 32 := Scalar.muli v8 c1_i32_51
  let v72 : BitVec 32 := Scalar.addi v70 v71
  v72.toNat
def k0_off7 (d0 : Dev nD) : Fin 3 → Nat :=
  let c2_i32_58 : BitVec 32 := 2#32
  let c1_i32_56 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.subi c1_i32_56 v2
  let v83 : BitVec 32 := Scalar.muli c2_i32_58 v81
  let c1_i32_57 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.subi c1_i32_57 v5
  let v84 : BitVec 32 := Scalar.addi v83 v82
  let c0_i32_68 : BitVec 32 := 0#32
  let c0_i32_69 : BitVec 32 := 0#32
  ![v84.toNat, 0, 0]
def k0_dev5 (d0 : Dev nD) : Nat :=
  let c0_i32_63 : BitVec 32 := 0#32
  let c1_i32_56 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.subi c1_i32_56 v2
  let c4_i32_62 : BitVec 32 := 4#32
  let v85 : BitVec 32 := Scalar.muli v81 c4_i32_62
  let v86 : BitVec 32 := Scalar.addi c0_i32_63 v85
  let c1_i32_57 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.subi c1_i32_57 v5
  let c2_i32_64 : BitVec 32 := 2#32
  let v87 : BitVec 32 := Scalar.muli v82 c2_i32_64
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v89 : BitVec 32 := Scalar.muli v8 c1_i32_65
  let v90 : BitVec 32 := Scalar.addi v88 v89
  v90.toNat
def k0_off8 (d0 : Dev nD) : Fin 3 → Nat :=
  let c2_i32_58 : BitVec 32 := 2#32
  let c1_i32_56 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.subi c1_i32_56 v2
  let v83 : BitVec 32 := Scalar.muli c2_i32_58 v81
  let c1_i32_57 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.subi c1_i32_57 v5
  let v84 : BitVec 32 := Scalar.addi v83 v82
  let c0_i32_78 : BitVec 32 := 0#32
  let c0_i32_79 : BitVec 32 := 0#32
  ![v84.toNat, 0, 0]
def k0_dev6 (d0 : Dev nD) : Nat :=
  let c0_i32_73 : BitVec 32 := 0#32
  let c1_i32_56 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.subi c1_i32_56 v2
  let c4_i32_72 : BitVec 32 := 4#32
  let v99 : BitVec 32 := Scalar.muli v81 c4_i32_72
  let v100 : BitVec 32 := Scalar.addi c0_i32_73 v99
  let c1_i32_57 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.subi c1_i32_57 v5
  let c2_i32_74 : BitVec 32 := 2#32
  let v101 : BitVec 32 := Scalar.muli v82 c2_i32_74
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v103 : BitVec 32 := Scalar.muli v8 c1_i32_75
  let v104 : BitVec 32 := Scalar.addi v102 v103
  v104.toNat
-- ==== ChipReference.lean ====
abbrev S32x512x4096 : Shape := ⟨3, ![32, 512, 4096]⟩
abbrev S32x928x1024 : Shape := ⟨3, ![32, 928, 1024]⟩
abbrev S4x2x4x512x4096 : Shape := ⟨5, ![4, 2, 4, 512, 4096]⟩
abbrev S1x2x1x512x4096 : Shape := ⟨5, ![1, 2, 1, 512, 4096]⟩
abbrev S2x512x4096 : Shape := ⟨3, ![2, 512, 4096]⟩
abbrev S1x2x512x4096 : Shape := ⟨4, ![1, 2, 512, 4096]⟩
abbrev S4x2x512x4096 : Shape := ⟨4, ![4, 2, 512, 4096]⟩
abbrev S4x2x1x512x4096 : Shape := ⟨5, ![4, 2, 1, 512, 4096]⟩
abbrev S4x2x3x512x4096 : Shape := ⟨5, ![4, 2, 3, 512, 4096]⟩
abbrev S4096x4096 : Shape := ⟨2, ![4096, 4096]⟩
abbrev S24x512x4096 : Shape := ⟨3, ![24, 512, 4096]⟩
abbrev S4x2x4x928x1024 : Shape := ⟨5, ![4, 2, 4, 928, 1024]⟩
abbrev S1x2x1x928x1024 : Shape := ⟨5, ![1, 2, 1, 928, 1024]⟩
abbrev S2x928x1024 : Shape := ⟨3, ![2, 928, 1024]⟩
abbrev S1x2x928x1024 : Shape := ⟨4, ![1, 2, 928, 1024]⟩
abbrev S4x2x928x1024 : Shape := ⟨4, ![4, 2, 928, 1024]⟩
abbrev S4x2x1x928x1024 : Shape := ⟨5, ![4, 2, 1, 928, 1024]⟩
abbrev S4x2x3x928x1024 : Shape := ⟨5, ![4, 2, 3, 928, 1024]⟩
abbrev S7424x1024 : Shape := ⟨2, ![7424, 1024]⟩
abbrev S24x928x1024 : Shape := ⟨3, ![24, 928, 1024]⟩

abbrev nBuf : Space → Nat
  | .hbm => 120
  | .vmem => 0
  | .smem => 0
  | _ => 0

abbrev bufTy : (tb : Table) → Fin (tcTables nBuf tb) → BufTy
  | .hbm, ⟨0, _⟩ => ⟨S32x512x4096, .bf16⟩
  | .hbm, ⟨1, _⟩ => ⟨S32x928x1024, .bf16⟩
  | .hbm, ⟨2, _⟩ => ⟨S4x2x4x512x4096, .bf16⟩
  | .hbm, ⟨3, _⟩ => ⟨S1x2x1x512x4096, .bf16⟩
  | .hbm, ⟨4, _⟩ => ⟨S2x512x4096, .bf16⟩
  | .hbm, ⟨5, _⟩ => ⟨S1x2x1x512x4096, .bf16⟩
  | .hbm, ⟨6, _⟩ => ⟨S2x512x4096, .bf16⟩
  | .hbm, ⟨7, _⟩ => ⟨S1x2x1x512x4096, .bf16⟩
  | .hbm, ⟨8, _⟩ => ⟨S2x512x4096, .bf16⟩
  | .hbm, ⟨9, _⟩ => ⟨S1x2x1x512x4096, .bf16⟩
  | .hbm, ⟨10, _⟩ => ⟨S2x512x4096, .bf16⟩
  | .hbm, ⟨11, _⟩ => ⟨S1x2x512x4096, .bf16⟩
  | .hbm, ⟨12, _⟩ => ⟨S1x2x512x4096, .bf16⟩
  | .hbm, ⟨13, _⟩ => ⟨S1x2x512x4096, .bf16⟩
  | .hbm, ⟨14, _⟩ => ⟨S1x2x512x4096, .bf16⟩
  | .hbm, ⟨15, _⟩ => ⟨S4x2x512x4096, .bf16⟩
  | .hbm, ⟨16, _⟩ => ⟨S1x2x1x512x4096, .bf16⟩
  | .hbm, ⟨17, _⟩ => ⟨S2x512x4096, .bf16⟩
  | .hbm, ⟨18, _⟩ => ⟨S1x2x1x512x4096, .bf16⟩
  | .hbm, ⟨19, _⟩ => ⟨S2x512x4096, .bf16⟩
  | .hbm, ⟨20, _⟩ => ⟨S1x2x1x512x4096, .bf16⟩
  | .hbm, ⟨21, _⟩ => ⟨S2x512x4096, .bf16⟩
  | .hbm, ⟨22, _⟩ => ⟨S1x2x1x512x4096, .bf16⟩
  | .hbm, ⟨23, _⟩ => ⟨S2x512x4096, .bf16⟩
  | .hbm, ⟨24, _⟩ => ⟨S1x2x512x4096, .bf16⟩
  | .hbm, ⟨25, _⟩ => ⟨S1x2x512x4096, .bf16⟩
  | .hbm, ⟨26, _⟩ => ⟨S1x2x512x4096, .bf16⟩
  | .hbm, ⟨27, _⟩ => ⟨S1x2x512x4096, .bf16⟩
  | .hbm, ⟨28, _⟩ => ⟨S4x2x512x4096, .bf16⟩
  | .hbm, ⟨29, _⟩ => ⟨S1x2x1x512x4096, .bf16⟩
  | .hbm, ⟨30, _⟩ => ⟨S2x512x4096, .bf16⟩
  | .hbm, ⟨31, _⟩ => ⟨S1x2x1x512x4096, .bf16⟩
  | .hbm, ⟨32, _⟩ => ⟨S2x512x4096, .bf16⟩
  | .hbm, ⟨33, _⟩ => ⟨S1x2x1x512x4096, .bf16⟩
  | .hbm, ⟨34, _⟩ => ⟨S2x512x4096, .bf16⟩
  | .hbm, ⟨35, _⟩ => ⟨S1x2x1x512x4096, .bf16⟩
  | .hbm, ⟨36, _⟩ => ⟨S2x512x4096, .bf16⟩
  | .hbm, ⟨37, _⟩ => ⟨S1x2x512x4096, .bf16⟩
  | .hbm, ⟨38, _⟩ => ⟨S1x2x512x4096, .bf16⟩
  | .hbm, ⟨39, _⟩ => ⟨S1x2x512x4096, .bf16⟩
  | .hbm, ⟨40, _⟩ => ⟨S1x2x512x4096, .bf16⟩
  | .hbm, ⟨41, _⟩ => ⟨S4x2x512x4096, .bf16⟩
  | .hbm, ⟨42, _⟩ => ⟨S1x2x1x512x4096, .bf16⟩
  | .hbm, ⟨43, _⟩ => ⟨S2x512x4096, .bf16⟩
  | .hbm, ⟨44, _⟩ => ⟨S1x2x1x512x4096, .bf16⟩
  | .hbm, ⟨45, _⟩ => ⟨S2x512x4096, .bf16⟩
  | .hbm, ⟨46, _⟩ => ⟨S1x2x1x512x4096, .bf16⟩
  | .hbm, ⟨47, _⟩ => ⟨S2x512x4096, .bf16⟩
  | .hbm, ⟨48, _⟩ => ⟨S1x2x1x512x4096, .bf16⟩
  | .hbm, ⟨49, _⟩ => ⟨S2x512x4096, .bf16⟩
  | .hbm, ⟨50, _⟩ => ⟨S1x2x512x4096, .bf16⟩
  | .hbm, ⟨51, _⟩ => ⟨S1x2x512x4096, .bf16⟩
  | .hbm, ⟨52, _⟩ => ⟨S1x2x512x4096, .bf16⟩
  | .hbm, ⟨53, _⟩ => ⟨S1x2x512x4096, .bf16⟩
  | .hbm, ⟨54, _⟩ => ⟨S4x2x512x4096, .bf16⟩
  | .hbm, ⟨55, _⟩ => ⟨S4x2x1x512x4096, .bf16⟩
  | .hbm, ⟨56, _⟩ => ⟨S4x2x1x512x4096, .bf16⟩
  | .hbm, ⟨57, _⟩ => ⟨S4x2x1x512x4096, .bf16⟩
  | .hbm, ⟨58, _⟩ => ⟨S4x2x3x512x4096, .bf16⟩
  | .hbm, ⟨59, _⟩ => ⟨S4096x4096, .bf16⟩
  | .hbm, ⟨60, _⟩ => ⟨S24x512x4096, .bf16⟩
  | .hbm, ⟨61, _⟩ => ⟨S4x2x4x928x1024, .bf16⟩
  | .hbm, ⟨62, _⟩ => ⟨S1x2x1x928x1024, .bf16⟩
  | .hbm, ⟨63, _⟩ => ⟨S2x928x1024, .bf16⟩
  | .hbm, ⟨64, _⟩ => ⟨S1x2x1x928x1024, .bf16⟩
  | .hbm, ⟨65, _⟩ => ⟨S2x928x1024, .bf16⟩
  | .hbm, ⟨66, _⟩ => ⟨S1x2x1x928x1024, .bf16⟩
  | .hbm, ⟨67, _⟩ => ⟨S2x928x1024, .bf16⟩
  | .hbm, ⟨68, _⟩ => ⟨S1x2x1x928x1024, .bf16⟩
  | .hbm, ⟨69, _⟩ => ⟨S2x928x1024, .bf16⟩
  | .hbm, ⟨70, _⟩ => ⟨S1x2x928x1024, .bf16⟩
  | .hbm, ⟨71, _⟩ => ⟨S1x2x928x1024, .bf16⟩
  | .hbm, ⟨72, _⟩ => ⟨S1x2x928x1024, .bf16⟩
  | .hbm, ⟨73, _⟩ => ⟨S1x2x928x1024, .bf16⟩
  | .hbm, ⟨74, _⟩ => ⟨S4x2x928x1024, .bf16⟩
  | .hbm, ⟨75, _⟩ => ⟨S1x2x1x928x1024, .bf16⟩
  | .hbm, ⟨76, _⟩ => ⟨S2x928x1024, .bf16⟩
  | .hbm, ⟨77, _⟩ => ⟨S1x2x1x928x1024, .bf16⟩
  | .hbm, ⟨78, _⟩ => ⟨S2x928x1024, .bf16⟩
  | .hbm, ⟨79, _⟩ => ⟨S1x2x1x928x1024, .bf16⟩
  | .hbm, ⟨80, _⟩ => ⟨S2x928x1024, .bf16⟩
  | .hbm, ⟨81, _⟩ => ⟨S1x2x1x928x1024, .bf16⟩
  | .hbm, ⟨82, _⟩ => ⟨S2x928x1024, .bf16⟩
  | .hbm, ⟨83, _⟩ => ⟨S1x2x928x1024, .bf16⟩
  | .hbm, ⟨84, _⟩ => ⟨S1x2x928x1024, .bf16⟩
  | .hbm, ⟨85, _⟩ => ⟨S1x2x928x1024, .bf16⟩
  | .hbm, ⟨86, _⟩ => ⟨S1x2x928x1024, .bf16⟩
  | .hbm, ⟨87, _⟩ => ⟨S4x2x928x1024, .bf16⟩
  | .hbm, ⟨88, _⟩ => ⟨S1x2x1x928x1024, .bf16⟩
  | .hbm, ⟨89, _⟩ => ⟨S2x928x1024, .bf16⟩
  | .hbm, ⟨90, _⟩ => ⟨S1x2x1x928x1024, .bf16⟩
  | .hbm, ⟨91, _⟩ => ⟨S2x928x1024, .bf16⟩
  | .hbm, ⟨92, _⟩ => ⟨S1x2x1x928x1024, .bf16⟩
  | .hbm, ⟨93, _⟩ => ⟨S2x928x1024, .bf16⟩
  | .hbm, ⟨94, _⟩ => ⟨S1x2x1x928x1024, .bf16⟩
  | .hbm, ⟨95, _⟩ => ⟨S2x928x1024, .bf16⟩
  | .hbm, ⟨96, _⟩ => ⟨S1x2x928x1024, .bf16⟩
  | .hbm, ⟨97, _⟩ => ⟨S1x2x928x1024, .bf16⟩
  | .hbm, ⟨98, _⟩ => ⟨S1x2x928x1024, .bf16⟩
  | .hbm, ⟨99, _⟩ => ⟨S1x2x928x1024, .bf16⟩
  | .hbm, ⟨100, _⟩ => ⟨S4x2x928x1024, .bf16⟩
  | .hbm, ⟨101, _⟩ => ⟨S1x2x1x928x1024, .bf16⟩
  | .hbm, ⟨102, _⟩ => ⟨S2x928x1024, .bf16⟩
  | .hbm, ⟨103, _⟩ => ⟨S1x2x1x928x1024, .bf16⟩
  | .hbm, ⟨104, _⟩ => ⟨S2x928x1024, .bf16⟩
  | .hbm, ⟨105, _⟩ => ⟨S1x2x1x928x1024, .bf16⟩
  | .hbm, ⟨106, _⟩ => ⟨S2x928x1024, .bf16⟩
  | .hbm, ⟨107, _⟩ => ⟨S1x2x1x928x1024, .bf16⟩
  | .hbm, ⟨108, _⟩ => ⟨S2x928x1024, .bf16⟩
  | .hbm, ⟨109, _⟩ => ⟨S1x2x928x1024, .bf16⟩
  | .hbm, ⟨110, _⟩ => ⟨S1x2x928x1024, .bf16⟩
  | .hbm, ⟨111, _⟩ => ⟨S1x2x928x1024, .bf16⟩
  | .hbm, ⟨112, _⟩ => ⟨S1x2x928x1024, .bf16⟩
  | .hbm, ⟨113, _⟩ => ⟨S4x2x928x1024, .bf16⟩
  | .hbm, ⟨114, _⟩ => ⟨S4x2x1x928x1024, .bf16⟩
  | .hbm, ⟨115, _⟩ => ⟨S4x2x1x928x1024, .bf16⟩
  | .hbm, ⟨116, _⟩ => ⟨S4x2x1x928x1024, .bf16⟩
  | .hbm, ⟨117, _⟩ => ⟨S4x2x3x928x1024, .bf16⟩
  | .hbm, ⟨118, _⟩ => ⟨S7424x1024, .bf16⟩
  | .hbm, ⟨119, _⟩ => ⟨S24x928x1024, .bf16⟩
  | _, _ => ⟨S32x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩

abbrev nD : Nat := 1
abbrev τ : Topo := Topo.v7x

variable {F : FTy → Type} [FloatOps F]
-- ==== PairSumA.lean ====
abbrev S2048x4096 : Shape := ⟨2, ![2048, 4096]⟩
abbrev S128x4096 : Shape := ⟨2, ![128, 4096]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumAIdeal.lean ====
abbrev S2048x4096 : Shape := ⟨2, ![2048, 4096]⟩
abbrev S128x4096 : Shape := ⟨2, ![128, 4096]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumAReferenceIdeal.lean ====
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumAReference.lean ====
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumB.lean ====
abbrev S3712x1024 : Shape := ⟨2, ![3712, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S3712x1024, .bf16⟩
  | .hbm, ⟨1, _⟩ => ⟨S3712x1024, .bf16⟩
  | .hbm, ⟨2, _⟩ => ⟨S3712x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | _, _ => ⟨S3712x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumBIdeal.lean ====
abbrev S3712x1024 : Shape := ⟨2, ![3712, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S3712x1024, .bf16⟩
  | .hbm, ⟨1, _⟩ => ⟨S3712x1024, .bf16⟩
  | .hbm, ⟨2, _⟩ => ⟨S3712x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | _, _ => ⟨S3712x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumBReferenceIdeal.lean ====
abbrev S3712x1024 : Shape := ⟨2, ![3712, 1024]⟩

abbrev nBuf : Space → Nat
  | .hbm => 6
  | .vmem => 0
  | .smem => 0
  | _ => 0

abbrev bufTy : (tb : Table) → Fin (tcTables nBuf tb) → BufTy
  | .hbm, ⟨0, _⟩ => ⟨S3712x1024, .bf16⟩
  | .hbm, ⟨1, _⟩ => ⟨S3712x1024, .bf16⟩
  | .hbm, ⟨2, _⟩ => ⟨S3712x1024, .f32⟩
  | .hbm, ⟨3, _⟩ => ⟨S3712x1024, .f32⟩
  | .hbm, ⟨4, _⟩ => ⟨S3712x1024, .f32⟩
  | .hbm, ⟨5, _⟩ => ⟨S3712x1024, .bf16⟩
  | _, _ => ⟨S3712x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSumBReference.lean ====
abbrev S3712x1024 : Shape := ⟨2, ![3712, 1024]⟩

abbrev nBuf : Space → Nat
  | .hbm => 6
  | .vmem => 0
  | .smem => 0
  | _ => 0

abbrev bufTy : (tb : Table) → Fin (tcTables nBuf tb) → BufTy
  | .hbm, ⟨0, _⟩ => ⟨S3712x1024, .bf16⟩
  | .hbm, ⟨1, _⟩ => ⟨S3712x1024, .bf16⟩
  | .hbm, ⟨2, _⟩ => ⟨S3712x1024, .f32⟩
  | .hbm, ⟨3, _⟩ => ⟨S3712x1024, .f32⟩
  | .hbm, ⟨4, _⟩ => ⟨S3712x1024, .f32⟩
  | .hbm, ⟨5, _⟩ => ⟨S3712x1024, .bf16⟩
  | _, _ => ⟨S3712x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ChipSumA.lean ====
abbrev S512x4096 : Shape := ⟨2, ![512, 4096]⟩
abbrev S128x4096 : Shape := ⟨2, ![128, 4096]⟩

abbrev nBuf : Space → Nat
  | .hbm => 5
  | .vmem => 10
  | .smem => 0
  | _ => 0

abbrev bufTy : (tb : Table) → Fin (tcTables nBuf tb) → BufTy
  | .hbm, ⟨0, _⟩ => ⟨S512x4096, .bf16⟩
  | .hbm, ⟨1, _⟩ => ⟨S512x4096, .bf16⟩
  | .hbm, ⟨2, _⟩ => ⟨S512x4096, .bf16⟩
  | .hbm, ⟨3, _⟩ => ⟨S512x4096, .bf16⟩
  | .hbm, ⟨4, _⟩ => ⟨S512x4096, .f32⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .f32⟩
  | .local _ .vmem, ⟨9, _⟩ => ⟨S128x4096, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumAIdeal.lean ====
abbrev S512x4096 : Shape := ⟨2, ![512, 4096]⟩
abbrev S128x4096 : Shape := ⟨2, ![128, 4096]⟩

abbrev nBuf : Space → Nat
  | .hbm => 5
  | .vmem => 10
  | .smem => 0
  | _ => 0

abbrev bufTy : (tb : Table) → Fin (tcTables nBuf tb) → BufTy
  | .hbm, ⟨0, _⟩ => ⟨S512x4096, .bf16⟩
  | .hbm, ⟨1, _⟩ => ⟨S512x4096, .bf16⟩
  | .hbm, ⟨2, _⟩ => ⟨S512x4096, .bf16⟩
  | .hbm, ⟨3, _⟩ => ⟨S512x4096, .bf16⟩
  | .hbm, ⟨4, _⟩ => ⟨S512x4096, .f32⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .f32⟩
  | .local _ .vmem, ⟨9, _⟩ => ⟨S128x4096, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumAReferenceIdeal.lean ====
abbrev S512x4096 : Shape := ⟨2, ![512, 4096]⟩

abbrev nBuf : Space → Nat
  | .hbm => 11
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S512x4096, .bf16⟩
  | .hbm, ⟨2, _⟩ => ⟨S512x4096, .bf16⟩
  | .hbm, ⟨3, _⟩ => ⟨S512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x4096, .f32⟩
  | .hbm, ⟨10, _⟩ => ⟨S512x4096, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ChipSumAReference.lean ====
abbrev S512x4096 : Shape := ⟨2, ![512, 4096]⟩

abbrev nBuf : Space → Nat
  | .hbm => 11
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S512x4096, .bf16⟩
  | .hbm, ⟨2, _⟩ => ⟨S512x4096, .bf16⟩
  | .hbm, ⟨3, _⟩ => ⟨S512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x4096, .f32⟩
  | .hbm, ⟨10, _⟩ => ⟨S512x4096, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ChipSumB.lean ====
abbrev S928x1024 : Shape := ⟨2, ![928, 1024]⟩
abbrev S464x1024 : Shape := ⟨2, ![464, 1024]⟩

abbrev nBuf : Space → Nat
  | .hbm => 5
  | .vmem => 10
  | .smem => 0
  | _ => 0

abbrev bufTy : (tb : Table) → Fin (tcTables nBuf tb) → BufTy
  | .hbm, ⟨0, _⟩ => ⟨S928x1024, .bf16⟩
  | .hbm, ⟨1, _⟩ => ⟨S928x1024, .bf16⟩
  | .hbm, ⟨2, _⟩ => ⟨S928x1024, .bf16⟩
  | .hbm, ⟨3, _⟩ => ⟨S928x1024, .bf16⟩
  | .hbm, ⟨4, _⟩ => ⟨S928x1024, .f32⟩
  | .local _ .vmem, ⟨0, _⟩ => ⟨S464x1024, .bf16⟩
  | .local _ .vmem, ⟨1, _⟩ => ⟨S464x1024, .bf16⟩
  | .local _ .vmem, ⟨2, _⟩ => ⟨S464x1024, .bf16⟩
  | .local _ .vmem, ⟨3, _⟩ => ⟨S464x1024, .bf16⟩
  | .local _ .vmem, ⟨4, _⟩ => ⟨S464x1024, .bf16⟩
  | .local _ .vmem, ⟨5, _⟩ => ⟨S464x1024, .bf16⟩
  | .local _ .vmem, ⟨6, _⟩ => ⟨S464x1024, .bf16⟩
  | .local _ .vmem, ⟨7, _⟩ => ⟨S464x1024, .bf16⟩
  | .local _ .vmem, ⟨8, _⟩ => ⟨S464x1024, .f32⟩
  | .local _ .vmem, ⟨9, _⟩ => ⟨S464x1024, .f32⟩
  | _, _ => ⟨S928x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S464x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S464x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S464x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S464x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S464x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumBReference.lean ====
abbrev S928x1024 : Shape := ⟨2, ![928, 1024]⟩

abbrev nBuf : Space → Nat
  | .hbm => 11
  | .vmem => 0
  | .smem => 0
  | _ => 0

abbrev bufTy : (tb : Table) → Fin (tcTables nBuf tb) → BufTy
  | .hbm, ⟨0, _⟩ => ⟨S928x1024, .bf16⟩
  | .hbm, ⟨1, _⟩ => ⟨S928x1024, .bf16⟩
  | .hbm, ⟨2, _⟩ => ⟨S928x1024, .bf16⟩
  | .hbm, ⟨3, _⟩ => ⟨S928x1024, .bf16⟩
  | .hbm, ⟨4, _⟩ => ⟨S928x1024, .f32⟩
  | .hbm, ⟨5, _⟩ => ⟨S928x1024, .f32⟩
  | .hbm, ⟨6, _⟩ => ⟨S928x1024, .f32⟩
  | .hbm, ⟨7, _⟩ => ⟨S928x1024, .f32⟩
  | .hbm, ⟨8, _⟩ => ⟨S928x1024, .f32⟩
  | .hbm, ⟨9, _⟩ => ⟨S928x1024, .f32⟩
  | .hbm, ⟨10, _⟩ => ⟨S928x1024, .f32⟩
  | _, _ => ⟨S928x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AdamUp.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x1280 : Shape := ⟨2, ![1024, 1280]⟩
abbrev S256x1280 : Shape := ⟨2, ![256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x1280 : Shape := ⟨2, ![1024, 1280]⟩
abbrev S256x1280 : Shape := ⟨2, ![256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x1280 : Shape := ⟨2, ![1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S_, .f32⟩
  | .hbm, ⟨5, _⟩ => ⟨S1024x1280, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S1024x1280, .f32⟩
  | .hbm, ⟨11, _⟩ => ⟨S_, .f32⟩
  | .hbm, ⟨12, _⟩ => ⟨S1024x1280, .f32⟩
  | .hbm, ⟨13, _⟩ => ⟨S1024x1280, .f32⟩
  | .hbm, ⟨14, _⟩ => ⟨S1024x1280, .f32⟩
  | .hbm, ⟨15, _⟩ => ⟨S_, .f32⟩
  | .hbm, ⟨16, _⟩ => ⟨S1024x1280, .f32⟩
  | .hbm, ⟨17, _⟩ => ⟨S1024x1280, .f32⟩
  | .hbm, ⟨18, _⟩ => ⟨S1024x1280, .f32⟩
  | .hbm, ⟨19, _⟩ => ⟨S_, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S1024x1280, .f32⟩
  | .hbm, ⟨26, _⟩ => ⟨S_, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S1024x1280, .f32⟩
  | .hbm, ⟨34, _⟩ => ⟨S_, .f32⟩
  | .hbm, ⟨35, _⟩ => ⟨S1024x1280, .f32⟩
  | .hbm, ⟨36, _⟩ => ⟨S1024x1280, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranchA.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBranchAIdeal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBranchAReferenceIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranchB.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchBReferenceIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x1024 : Shape := ⟨2, ![1, 1024]⟩
abbrev S1x5120 : Shape := ⟨2, ![1, 5120]⟩
abbrev S1x8 : Shape := ⟨2, ![1, 8]⟩
abbrev S32x20 : Shape := ⟨2, ![32, 20]⟩
abbrev S1024 : Shape := ⟨1, ![1024]⟩
abbrev S8 : Shape := ⟨1, ![8]⟩
abbrev S640 : Shape := ⟨1, ![640]⟩
abbrev S_ : Shape := ⟨0, ![]⟩
abbrev S376 : Shape := ⟨1, ![376]⟩
abbrev S5x1024 : Shape := ⟨2, ![5, 1024]⟩
abbrev S6x1024 : Shape := ⟨2, ![6, 1024]⟩
abbrev S16x1024 : Shape := ⟨2, ![16, 1024]⟩
abbrev S1x640 : Shape := ⟨2, ![1, 640]⟩

abbrev nBuf : Space → Nat
  | .hbm => 114
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x5120, .f32⟩
  | .hbm, ⟨3, _⟩ => ⟨S1x8, .f32⟩
  | .hbm, ⟨4, _⟩ => ⟨S32x20, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x5120, .f32⟩
  | .hbm, ⟨10, _⟩ => ⟨S1x8, .f32⟩
  | .hbm, ⟨11, _⟩ => ⟨S32x20, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x5120, .f32⟩
  | .hbm, ⟨17, _⟩ => ⟨S1x8, .f32⟩
  | .hbm, ⟨18, _⟩ => ⟨S32x20, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x5120, .f32⟩
  | .hbm, ⟨24, _⟩ => ⟨S1x8, .f32⟩
  | .hbm, ⟨25, _⟩ => ⟨S32x20, .f32⟩
  | .hbm, ⟨26, _⟩ => ⟨S1x1024, .f32⟩
  | .hbm, ⟨27, _⟩ => ⟨S1024, .f32⟩
  | .hbm, ⟨28, _⟩ => ⟨S8, .f32⟩
  | .hbm, ⟨29, _⟩ => ⟨S640, .f32⟩
  | .hbm, ⟨30, _⟩ => ⟨S_, .f32⟩
  | .hbm, ⟨31, _⟩ => ⟨S376, .f32⟩
  | .hbm, ⟨32, _⟩ => ⟨S1x1024, .f32⟩
  | .hbm, ⟨33, _⟩ => ⟨S5x1024, .f32⟩
  | .hbm, ⟨34, _⟩ => ⟨S1024, .f32⟩
  | .hbm, ⟨35, _⟩ => ⟨S1x1024, .f32⟩
  | .hbm, ⟨36, _⟩ => ⟨S_, .f32⟩
  | .hbm, ⟨37, _⟩ => ⟨S6x1024, .f32⟩
  | .hbm, ⟨38, _⟩ => ⟨S16x1024, .f32⟩
  | .hbm, ⟨39, _⟩ => ⟨S8, .f32⟩
  | .hbm, ⟨40, _⟩ => ⟨S640, .f32⟩
  | .hbm, ⟨41, _⟩ => ⟨S_, .f32⟩
  | .hbm, ⟨42, _⟩ => ⟨S376, .f32⟩
  | .hbm, ⟨43, _⟩ => ⟨S1x1024, .f32⟩
  | .hbm, ⟨44, _⟩ => ⟨S5x1024, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S6x1024, .f32⟩
  | .hbm, ⟨49, _⟩ => ⟨S16x1024, .f32⟩
  | .hbm, ⟨50, _⟩ => ⟨S8, .f32⟩
  | .hbm, ⟨51, _⟩ => ⟨S640, .f32⟩
  | .hbm, ⟨52, _⟩ => ⟨S_, .f32⟩
  | .hbm, ⟨53, _⟩ => ⟨S376, .f32⟩
  | .hbm, ⟨54, _⟩ => ⟨S1x1024, .f32⟩
  | .hbm, ⟨55, _⟩ => ⟨S5x1024, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S6x1024, .f32⟩
  | .hbm, ⟨60, _⟩ => ⟨S16x1024, .f32⟩
  | .hbm, ⟨61, _⟩ => ⟨S8, .f32⟩
  | .hbm, ⟨62, _⟩ => ⟨S640, .f32⟩
  | .hbm, ⟨63, _⟩ => ⟨S_, .f32⟩
  | .hbm, ⟨64, _⟩ => ⟨S376, .f32⟩
  | .hbm, ⟨65, _⟩ => ⟨S1x1024, .f32⟩
  | .hbm, ⟨66, _⟩ => ⟨S5x1024, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S6x1024, .f32⟩
  | .hbm, ⟨71, _⟩ => ⟨S16x1024, .f32⟩
  | .hbm, ⟨72, _⟩ => ⟨S16x1024, .f32⟩
  | .hbm, ⟨73, _⟩ => ⟨S16x1024, .f32⟩
  | .hbm, ⟨74, _⟩ => ⟨S16x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1024, .f32⟩
  | .hbm, ⟨80, _⟩ => ⟨S5x1024, .f32⟩
  | .hbm, ⟨81, _⟩ => ⟨S1x5120, .f32⟩
  | .hbm, ⟨82, _⟩ => ⟨S1x8, .f32⟩
  | .hbm, ⟨83, _⟩ => ⟨S8, .f32⟩
  | .hbm, ⟨84, _⟩ => ⟨S1x8, .f32⟩
  | .hbm, ⟨85, _⟩ => ⟨S1x640, .f32⟩
  | .hbm, ⟨86, _⟩ => ⟨S640, .f32⟩
  | .hbm, ⟨87, _⟩ => ⟨S32x20, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1024, .f32⟩
  | .hbm, ⟨93, _⟩ => ⟨S5x1024, .f32⟩
  | .hbm, ⟨94, _⟩ => ⟨S1x5120, .f32⟩
  | .hbm, ⟨95, _⟩ => ⟨S1x8, .f32⟩
  | .hbm, ⟨96, _⟩ => ⟨S8, .f32⟩
  | .hbm, ⟨97, _⟩ => ⟨S1x8, .f32⟩
  | .hbm, ⟨98, _⟩ => ⟨S1x640, .f32⟩
  | .hbm, ⟨99, _⟩ => ⟨S640, .f32⟩
  | .hbm, ⟨100, _⟩ => ⟨S32x20, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S1024, .f32⟩
  | .hbm, ⟨106, _⟩ => ⟨S5x1024, .f32⟩
  | .hbm, ⟨107, _⟩ => ⟨S1x5120, .f32⟩
  | .hbm, ⟨108, _⟩ => ⟨S1x8, .f32⟩
  | .hbm, ⟨109, _⟩ => ⟨S8, .f32⟩
  | .hbm, ⟨110, _⟩ => ⟨S1x8, .f32⟩
  | .hbm, ⟨111, _⟩ => ⟨S1x640, .f32⟩
  | .hbm, ⟨112, _⟩ => ⟨S640, .f32⟩
  | .hbm, ⟨113, _⟩ => ⟨S32x20, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_6 : Ref sig .tc := ⟨.hbm, 69, rfl⟩
abbrev main_v34 : Ref sig .tc := ⟨.hbm, 70, rfl⟩
abbrev main_v35 : Ref sig .tc := ⟨.hbm, 71, rfl⟩
abbrev main_v36_0 : Ref sig .tc := ⟨.hbm, 72, rfl⟩
abbrev main_v36_1 : Ref sig .tc := ⟨.hbm, 73, rfl⟩
abbrev main_v36_2 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallReferenceIdeal.lean ====
abbrev S1x1024 : Shape := ⟨2, ![1, 1024]⟩
abbrev S1x5120 : Shape := ⟨2, ![1, 5120]⟩
abbrev S1x8 : Shape := ⟨2, ![1, 8]⟩
abbrev S32x20 : Shape := ⟨2, ![32, 20]⟩
abbrev S1024 : Shape := ⟨1, ![1024]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S1x1024, .f32⟩
  | 1 => ⟨S1x1024, .f32⟩
  | 2 => ⟨S1x5120, .f32⟩
  | 3 => ⟨S1x8, .f32⟩
  | 4 => ⟨S32x20, .f32⟩
  | 5 => ⟨S1x1024, .f32⟩
  | 6 => ⟨S1024, .f32⟩
  | 7 => ⟨S1x1024, .f32⟩
  | 8 => ⟨S1x1024, .f32⟩
  | 9 => ⟨S1x5120, .f32⟩
  | 10 => ⟨S1x8, .f32⟩
  | 11 => ⟨S32x20, .f32⟩
  | 12 => ⟨S1x1024, .f32⟩
  | 13 => ⟨S1024, .f32⟩
  | 14 => ⟨S1x1024, .f32⟩
  | 15 => ⟨S1x1024, .f32⟩
  | 16 => ⟨S1x5120, .f32⟩
  | 17 => ⟨S1x8, .f32⟩
  | 18 => ⟨S32x20, .f32⟩
  | 19 => ⟨S1x1024, .f32⟩
  | 20 => ⟨S1024, .f32⟩
  | 21 => ⟨S1x1024, .f32⟩
  | 22 => ⟨S1x1024, .f32⟩
  | 23 => ⟨S1x5120, .f32⟩
  | 24 => ⟨S1x8, .f32⟩
  | 25 => ⟨S32x20, .f32⟩
  | 26 => ⟨S1x1024, .f32⟩
  | 27 => ⟨S1024, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S_, .f32⟩
  | 95 => ⟨S1x5120, .f32⟩
  | 96 => ⟨S1x5120, .f32⟩
  | 97 => ⟨S_, .f32⟩
  | 98 => ⟨S1x5120, .f32⟩
  | 99 => ⟨S1x5120, .f32⟩
  | 100 => ⟨S1x5120, .f32⟩
  | 101 => ⟨S_, .f32⟩
  | 102 => ⟨S1x5120, .f32⟩
  | 103 => ⟨S1x5120, .f32⟩
  | 104 => ⟨S1x5120, .f32⟩
  | 105 => ⟨S_, .f32⟩
  | 106 => ⟨S1x5120, .f32⟩
  | 107 => ⟨S1x5120, .f32⟩
  | 108 => ⟨S1x5120, .f32⟩
  | 109 => ⟨S_, .f32⟩
  | 110 => ⟨S1x5120, .f32⟩
  | 111 => ⟨S1x5120, .f32⟩
  | 112 => ⟨S_, .f32⟩
  | 113 => ⟨S1x5120, .f32⟩
  | 114 => ⟨S1x5120, .f32⟩
  | 115 => ⟨S1x5120, .f32⟩
  | 116 => ⟨S_, .f32⟩
  | 117 => ⟨S1x5120, .f32⟩
  | 118 => ⟨S1x5120, .f32⟩
  | 119 => ⟨S1x5120, .f32⟩
  | 120 => ⟨S_, .f32⟩
  | 121 => ⟨S1x5120, .f32⟩
  | 122 => ⟨S1x5120, .f32⟩
  | 123 => ⟨S1x5120, .f32⟩
  | 124 => ⟨S_, .f32⟩
  | 125 => ⟨S1x5120, .f32⟩
  | 126 => ⟨S1x5120, .f32⟩
  | 127 => ⟨S_, .f32⟩
  | _ => ⟨S1x1024, .f32⟩

abbrev hbmTy0_1 (i : Nat) : BufTy := match i % 128 with
  | 0 => ⟨S1x8, .f32⟩
  | 1 => ⟨S1x8, .f32⟩
  | 2 => ⟨S_, .f32⟩
  | 3 => ⟨S1x8, .f32⟩
  | 4 => ⟨S1x8, .f32⟩
  | 5 => ⟨S1x8, .f32⟩
  | 6 => ⟨S_, .f32⟩
  | 7 => ⟨S1x8, .f32⟩
  | 8 => ⟨S1x8, .f32⟩
  | 9 => ⟨S1x8, .f32⟩
  | 10 => ⟨S_, .f32⟩
  | 11 => ⟨S1x8, .f32⟩
  | 12 => ⟨S1x8, .f32⟩
  | 13 => ⟨S1x8, .f32⟩
  | 14 => ⟨S_, .f32⟩
  | 15 => ⟨S1x8, .f32⟩
  | 16 => ⟨S1x8, .f32⟩
  | 17 => ⟨S_, .f32⟩
  | 18 => ⟨S1x8, .f32⟩
  | 19 => ⟨S1x8, .f32⟩
  | 20 => ⟨S1x8, .f32⟩
  | 21 => ⟨S_, .f32⟩
  | 22 => ⟨S1x8, .f32⟩
  | 23 => ⟨S1x8, .f32⟩
  | 24 => ⟨S1x8, .f32⟩
  | 25 => ⟨S_, .f32⟩
  | 26 => ⟨S1x8, .f32⟩
  | 27 => ⟨S1x8, .f32⟩
  | 28 => ⟨S1x8, .f32⟩
  | 29 => ⟨S_, .f32⟩
  | 30 => ⟨S1x8, .f32⟩
  | 31 => ⟨S1x8, .f32⟩
  | 32 => ⟨S_, .f32⟩
  | 33 => ⟨S32x20, .f32⟩
  | 34 => ⟨S32x20, .f32⟩
  | 35 => ⟨S_, .f32⟩
  | 36 => ⟨S32x20, .f32⟩
  | 37 => ⟨S32x20, .f32⟩
  | 38 => ⟨S32x20, .f32⟩
  | 39 => ⟨S_, .f32⟩
  | 40 => ⟨S32x20, .f32⟩
  | 41 => ⟨S32x20, .f32⟩
  | 42 => ⟨S32x20, .f32⟩
  | 43 => ⟨S_, .f32⟩
  | 44 => ⟨S32x20, .f32⟩
  | 45 => ⟨S32x20, .f32⟩
  | 46 => ⟨S32x20, .f32⟩
  | 47 => ⟨S_, .f32⟩
  | 48 => ⟨S32x20, .f32⟩
  | 49 => ⟨S32x20, .f32⟩
  | 50 => ⟨S_, .f32⟩
  | 51 => ⟨S32x20, .f32⟩
  | 52 => ⟨S32x20, .f32⟩
  | 53 => ⟨S32x20, .f32⟩
  | 54 => ⟨S_, .f32⟩
  | 55 => ⟨S32x20, .f32⟩
  | 56 => ⟨S32x20, .f32⟩
  | 57 => ⟨S32x20, .f32⟩
  | 58 => ⟨S_, .f32⟩
  | 59 => ⟨S32x20, .f32⟩
  | 60 => ⟨S32x20, .f32⟩
  | 61 => ⟨S32x20, .f32⟩
  | 62 => ⟨S_, .f32⟩
  | 63 => ⟨S32x20, .f32⟩
  | 64 => ⟨S32x20, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1024, .f32⟩
  | 100 => ⟨S1024, .f32⟩
  | 101 => ⟨S_, .f32⟩
  | 102 => ⟨S1024, .f32⟩
  | 103 => ⟨S1024, .f32⟩
  | 104 => ⟨S1024, .f32⟩
  | 105 => ⟨S_, .f32⟩
  | 106 => ⟨S1024, .f32⟩
  | 107 => ⟨S1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S_, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024, .f32⟩
  | 120 => ⟨S_, .f32⟩
  | 121 => ⟨S1024, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S1x1024, .f32⟩

abbrev hbmTy0_2 (i : Nat) : BufTy := match i % 128 with
  | 0 => ⟨S_, .f32⟩
  | 1 => ⟨S1024, .f32⟩
  | 2 => ⟨S1024, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== FfnBwd.lean ====
abbrev S8192x1024 : Shape := ⟨2, ![8192, 1024]⟩
abbrev S1x1024 : Shape := ⟨2, ![1, 1024]⟩
abbrev S8192x2816 : Shape := ⟨2, ![8192, 2816]⟩
abbrev S1024x2816 : Shape := ⟨2, ![1024, 2816]⟩
abbrev S2816x1024 : Shape := ⟨2, ![2816, 1024]⟩
abbrev S256x1024 : Shape := ⟨2, ![256, 1024]⟩
abbrev S256x2816 : Shape := ⟨2, ![256, 2816]⟩
abbrev S_ : Shape := ⟨0, ![]⟩
abbrev S1408x1024 : Shape := ⟨2, ![1408, 1024]⟩
abbrev S256x1408 : Shape := ⟨2, ![256, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x2816, .bf16⟩
  | .hbm, ⟨4, _⟩ => ⟨S8192x2816, .bf16⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S8192x1024, .f32⟩
  | .hbm, ⟨9, _⟩ => ⟨S8192x2816, .bf16⟩
  | .hbm, ⟨10, _⟩ => ⟨S8192x2816, .bf16⟩
  | .hbm, ⟨11, _⟩ => ⟨S8192x2816, .bf16⟩
  | .hbm, ⟨12, _⟩ => ⟨S8192x1024, .bf16⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1024x2816, .bf16⟩
  | .local _ .vmem, ⟨21, _⟩ => ⟨S1024x2816, .bf16⟩
  | .local _ .vmem, ⟨22, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnBwdReferenceIdeal.lean ====
abbrev S8192x1024 : Shape := ⟨2, ![8192, 1024]⟩
abbrev S1x1024 : Shape := ⟨2, ![1, 1024]⟩
abbrev S8192x2816 : Shape := ⟨2, ![8192, 2816]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x2816, .bf16⟩
  | .hbm, ⟨4, _⟩ => ⟨S8192x2816, .bf16⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S8192x2816, .f32⟩
  | .hbm, ⟨9, _⟩ => ⟨S8192x2816, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S1024x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S2816x1024, .f32⟩
  | .hbm, ⟨41, _⟩ => ⟨S8192x1024, .f32⟩
  | .hbm, ⟨42, _⟩ => ⟨S2816x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x2816, .bf16⟩
  | .hbm, ⟨78, _⟩ => ⟨S8192x2816, .bf16⟩
  | .hbm, ⟨79, _⟩ => ⟨S8192x2816, .bf16⟩
  | .hbm, ⟨80, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== GradUp.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradUpIdeal.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradUpReferenceIdeal.lean ====
abbrev S8192x1024 : Shape := ⟨2, ![8192, 1024]⟩
abbrev S8192x2816 : Shape := ⟨2, ![8192, 2816]⟩
abbrev S1024x8192 : Shape := ⟨2, ![1024, 8192]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S1024x8192, .f32⟩
  | .hbm, ⟨4, _⟩ => ⟨S8192x2816, .f32⟩
  | .hbm, ⟨5, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradDown.lean ====
abbrev S8192x2816 : Shape := ⟨2, ![8192, 2816]⟩
abbrev S8192x1024 : Shape := ⟨2, ![8192, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradDownIdeal.lean ====
abbrev S8192x2816 : Shape := ⟨2, ![8192, 2816]⟩
abbrev S8192x1024 : Shape := ⟨2, ![8192, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradDownReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradBranchA.lean ====
abbrev S8192x256 : Shape := ⟨2, ![8192, 256]⟩
abbrev S8192x1024 : Shape := ⟨2, ![8192, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradBranchAIdeal.lean ====
abbrev S8192x256 : Shape := ⟨2, ![8192, 256]⟩
abbrev S8192x1024 : Shape := ⟨2, ![8192, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradBranchAReferenceIdeal.lean ====
abbrev S8192x256 : Shape := ⟨2, ![8192, 256]⟩
abbrev S8192x1024 : Shape := ⟨2, ![8192, 1024]⟩
abbrev S256x8192 : Shape := ⟨2, ![256, 8192]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S256x8192, .f32⟩
  | .hbm, ⟨4, _⟩ => ⟨S8192x1024, .f32⟩
  | .hbm, ⟨5, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradBranchB.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradBranchBIdeal.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradBranchBReferenceIdeal.lean ====
abbrev S8192x512 : Shape := ⟨2, ![8192, 512]⟩
abbrev S8192x1024 : Shape := ⟨2, ![8192, 1024]⟩
abbrev S512x8192 : Shape := ⟨2, ![512, 8192]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S512x8192, .f32⟩
  | .hbm, ⟨4, _⟩ => ⟨S8192x1024, .f32⟩
  | .hbm, ⟨5, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradIn.lean ====
abbrev S8192x1024 : Shape := ⟨2, ![8192, 1024]⟩
abbrev S8192x5120 : Shape := ⟨2, ![8192, 5120]⟩
abbrev S1024x5120 : Shape := ⟨2, ![1024, 5120]⟩
abbrev S1x5120 : Shape := ⟨2, ![1, 5120]⟩
abbrev S512x1024 : Shape := ⟨2, ![512, 1024]⟩
abbrev S512x2560 : Shape := ⟨2, ![512, 2560]⟩
abbrev S1024x2560 : Shape := ⟨2, ![1024, 2560]⟩
abbrev S1x2560 : Shape := ⟨2, ![1, 2560]⟩
abbrev S2560 : Shape := ⟨1, ![2560]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S1024x5120, .f32⟩
  | .hbm, ⟨3, _⟩ => ⟨S1x5120, .f32⟩
  | .local _ .vmem, ⟨0, _⟩ => ⟨S512x1024, .bf16⟩
  | .local _ .vmem, ⟨1, _⟩ => ⟨S512x1024, .bf16⟩
  | .local _ .vmem, ⟨2, _⟩ => ⟨S512x2560, .bf16⟩
  | .local _ .vmem, ⟨3, _⟩ => ⟨S512x2560, .bf16⟩
  | .local _ .vmem, ⟨4, _⟩ => ⟨S1024x2560, .f32⟩
  | .local _ .vmem, ⟨5, _⟩ => ⟨S1024x2560, .f32⟩
  | .local _ .vmem, ⟨6, _⟩ => ⟨S1x2560, .f32⟩
  | .local _ .vmem, ⟨7, _⟩ => ⟨S1x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradInReferenceIdeal.lean ====
abbrev S8192x1024 : Shape := ⟨2, ![8192, 1024]⟩
abbrev S8192x5120 : Shape := ⟨2, ![8192, 5120]⟩
abbrev S1024x8192 : Shape := ⟨2, ![1024, 8192]⟩
abbrev S1024x5120 : Shape := ⟨2, ![1024, 5120]⟩
abbrev S_ : Shape := ⟨0, ![]⟩
abbrev S5120 : Shape := ⟨1, ![5120]⟩
abbrev S1x5120 : Shape := ⟨2, ![1, 5120]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S8192x1024, .f32⟩
  | .hbm, ⟨3, _⟩ => ⟨S1024x8192, .f32⟩
  | .hbm, ⟨4, _⟩ => ⟨S8192x5120, .f32⟩
  | .hbm, ⟨5, _⟩ => ⟨S1024x5120, .f32⟩
  | .hbm, ⟨6, _⟩ => ⟨S8192x5120, .f32⟩
  | .hbm, ⟨7, _⟩ => ⟨S_, .f32⟩
  | .hbm, ⟨8, _⟩ => ⟨S5120, .f32⟩
  | .hbm, ⟨9, _⟩ => ⟨S1x5120, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S_ : Shape := ⟨0, ![]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8192x1024, .f32⟩
  | .hbm, ⟨6, _⟩ => ⟨S8192x1024, .bf16⟩
  | .hbm, ⟨7, _⟩ => ⟨S8192x2816, .bf16⟩
  | .hbm, ⟨8, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFwdReferenceIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S8192x2816, .bf16⟩
  | .hbm, ⟨42, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== InFwd.lean ====
abbrev S8192x1024 : Shape := ⟨2, ![8192, 1024]⟩
abbrev S1x1024 : Shape := ⟨2, ![1, 1024]⟩
abbrev S1024x5120 : Shape := ⟨2, ![1024, 5120]⟩
abbrev S1x5120 : Shape := ⟨2, ![1, 5120]⟩
abbrev S8192x5120 : Shape := ⟨2, ![8192, 5120]⟩
abbrev S512x1024 : Shape := ⟨2, ![512, 1024]⟩
abbrev S512x5120 : Shape := ⟨2, ![512, 5120]⟩
abbrev S_ : Shape := ⟨0, ![]⟩
abbrev S512 : Shape := ⟨1, ![512]⟩
abbrev S512x1 : Shape := ⟨2, ![512, 1]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5120, .bf16⟩
  | .hbm, ⟨3, _⟩ => ⟨S1x5120, .f32⟩
  | .hbm, ⟨4, _⟩ => ⟨S8192x1024, .bf16⟩
  | .hbm, ⟨5, _⟩ => ⟨S8192x5120, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x5120, .f32⟩
  | .local _ .vmem, ⟨4, _⟩ => ⟨S512x1024, .bf16⟩
  | .local _ .vmem, ⟨5, _⟩ => ⟨S512x1024, .bf16⟩
  | .local _ .vmem, ⟨6, _⟩ => ⟨S512x5120, .bf16⟩
  | .local _ .vmem, ⟨7, _⟩ => ⟨S512x5120, .bf16⟩
  | .local _ .vmem, ⟨8, _⟩ => ⟨S1024x5120, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdReferenceIdeal.lean ====
abbrev S8192x1024 : Shape := ⟨2, ![8192, 1024]⟩
abbrev S1x1024 : Shape := ⟨2, ![1, 1024]⟩
abbrev S1024x5120 : Shape := ⟨2, ![1024, 5120]⟩
abbrev S1x5120 : Shape := ⟨2, ![1, 5120]⟩
abbrev S_ : Shape := ⟨0, ![]⟩
abbrev S8192 : Shape := ⟨1, ![8192]⟩
abbrev S8192x1 : Shape := ⟨2, ![8192, 1]⟩
abbrev S8192x5120 : Shape := ⟨2, ![8192, 5120]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5120, .bf16⟩
  | .hbm, ⟨3, _⟩ => ⟨S1x5120, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x5120, .f32⟩
  | .hbm, ⟨21, _⟩ => ⟨S8192x5120, .f32⟩
  | .hbm, ⟨22, _⟩ => ⟨S8192x5120, .f32⟩
  | .hbm, ⟨23, _⟩ => ⟨S8192x5120, .f32⟩
  | .hbm, ⟨24, _⟩ => ⟨S8192x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InBwd.lean ====
abbrev S8192x5120 : Shape := ⟨2, ![8192, 5120]⟩
abbrev S8192x1024 : Shape := ⟨2, ![8192, 1024]⟩
abbrev S1x1024 : Shape := ⟨2, ![1, 1024]⟩
abbrev S1024x5120 : Shape := ⟨2, ![1024, 5120]⟩
abbrev S512x5120 : Shape := ⟨2, ![512, 5120]⟩
abbrev S512x1024 : Shape := ⟨2, ![512, 1024]⟩
abbrev S_ : Shape := ⟨0, ![]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x5120, .bf16⟩
  | .hbm, ⟨5, _⟩ => ⟨S8192x1024, .f32⟩
  | .hbm, ⟨6, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1024x5120, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InBwdReferenceIdeal.lean ====
abbrev S8192x5120 : Shape := ⟨2, ![8192, 5120]⟩
abbrev S8192x1024 : Shape := ⟨2, ![8192, 1024]⟩
abbrev S1x1024 : Shape := ⟨2, ![1, 1024]⟩
abbrev S1024x5120 : Shape := ⟨2, ![1024, 5120]⟩
abbrev S5120x1024 : Shape := ⟨2, ![5120, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x5120, .bf16⟩
  | .hbm, ⟨5, _⟩ => ⟨S8192x5120, .f32⟩
  | .hbm, ⟨6, _⟩ => ⟨S1024x5120, .f32⟩
  | .hbm, ⟨7, _⟩ => ⟨S5120x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8x128, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8x128, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== MergeFwd.lean ====
abbrev S8192x256 : Shape := ⟨2, ![8192, 256]⟩
abbrev S8192x512 : Shape := ⟨2, ![8192, 512]⟩
abbrev S8192x5120 : Shape := ⟨2, ![8192, 5120]⟩
abbrev S8192x1024 : Shape := ⟨2, ![8192, 1024]⟩
abbrev S256x1024 : Shape := ⟨2, ![256, 1024]⟩
abbrev S512x1024 : Shape := ⟨2, ![512, 1024]⟩
abbrev S1024x1024 : Shape := ⟨2, ![1024, 1024]⟩
abbrev S512x256 : Shape := ⟨2, ![512, 256]⟩
abbrev S512x512 : Shape := ⟨2, ![512, 512]⟩

abbrev nBuf : Space → Nat
  | .hbm => 18
  | .vmem => 35
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x512, .bf16⟩
  | .hbm, ⟨7, _⟩ => ⟨S8192x5120, .bf16⟩
  | .hbm, ⟨8, _⟩ => ⟨S8192x1024, .f32⟩
  | .hbm, ⟨9, _⟩ => ⟨S256x1024, .bf16⟩
  | .hbm, ⟨10, _⟩ => ⟨S512x1024, .bf16⟩
  | .hbm, ⟨11, _⟩ => ⟨S1024x1024, .bf16⟩
  | .hbm, ⟨12, _⟩ => ⟨S8192x1024, .f32⟩
  | .hbm, ⟨13, _⟩ => ⟨S8192x256, .bf16⟩
  | .hbm, ⟨14, _⟩ => ⟨S8192x256, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S256x1024, .bf16⟩
  | .local _ .vmem, ⟨21, _⟩ => ⟨S512x1024, .bf16⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | .local _ .vmem, ⟨25, _⟩ => ⟨S512x256, .bf16⟩
  | .local _ .vmem, ⟨26, _⟩ => ⟨S512x256, .bf16⟩
  | .local _ .vmem, ⟨27, _⟩ => ⟨S512x256, .f32⟩
  | .local _ .vmem, ⟨28, _⟩ => ⟨S512x256, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeFwdReferenceIdeal.lean ====
abbrev S8192x256 : Shape := ⟨2, ![8192, 256]⟩
abbrev S8192x512 : Shape := ⟨2, ![8192, 512]⟩
abbrev S8192x5120 : Shape := ⟨2, ![8192, 5120]⟩
abbrev S8192x1024 : Shape := ⟨2, ![8192, 1024]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x512, .bf16⟩
  | .hbm, ⟨7, _⟩ => ⟨S8192x5120, .bf16⟩
  | .hbm, ⟨8, _⟩ => ⟨S8192x1024, .f32⟩
  | .hbm, ⟨9, _⟩ => ⟨S256x1024, .bf16⟩
  | .hbm, ⟨10, _⟩ => ⟨S512x1024, .bf16⟩
  | .hbm, ⟨11, _⟩ => ⟨S1024x1024, .bf16⟩
  | .hbm, ⟨12, _⟩ => ⟨S8192x1024, .bf16⟩
  | .hbm, ⟨13, _⟩ => ⟨S8192x1024, .bf16⟩
  | .hbm, ⟨14, _⟩ => ⟨S8192x512, .f32⟩
  | .hbm, ⟨15, _⟩ => ⟨S8192x1024, .f32⟩
  | .hbm, ⟨16, _⟩ => ⟨S8192x1024, .f32⟩
  | .hbm, ⟨17, _⟩ => ⟨S256x1024, .f32⟩
  | .hbm, ⟨18, _⟩ => ⟨S512x1024, .f32⟩
  | .hbm, ⟨19, _⟩ => ⟨S1024x1024, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x256, .bf16⟩
  | .hbm, ⟨60, _⟩ => ⟨S8192x256, .f32⟩
  | .hbm, ⟨61, _⟩ => ⟨S8192x256, .f32⟩
  | .hbm, ⟨62, _⟩ => ⟨S8192x1024, .bf16⟩
  | .hbm, ⟨63, _⟩ => ⟨S8192x1024, .bf16⟩
  | .hbm, ⟨64, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== MergeBwd.lean ====
abbrev S8192x1024 : Shape := ⟨2, ![8192, 1024]⟩
abbrev S8192x5120 : Shape := ⟨2, ![8192, 5120]⟩
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S1024x1024 : Shape := ⟨2, ![1024, 1024]⟩
abbrev S512x256 : Shape := ⟨2, ![512, 256]⟩
abbrev S512x512 : Shape := ⟨2, ![512, 512]⟩
abbrev S256x256 : Shape := ⟨2, ![256, 256]⟩

abbrev nBuf : Space → Nat
  | .hbm => 18
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x5120, .bf16⟩
  | .hbm, ⟨4, _⟩ => ⟨S8192x256, .bf16⟩
  | .hbm, ⟨5, _⟩ => ⟨S8192x512, .bf16⟩
  | .hbm, ⟨6, _⟩ => ⟨S256x1024, .bf16⟩
  | .hbm, ⟨7, _⟩ => ⟨S512x1024, .bf16⟩
  | .hbm, ⟨8, _⟩ => ⟨S1024x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x256, .bf16⟩
  | .hbm, ⟨14, _⟩ => ⟨S8192x512, .bf16⟩
  | .hbm, ⟨15, _⟩ => ⟨S8192x1024, .bf16⟩
  | .hbm, ⟨16, _⟩ => ⟨S8192x256, .f32⟩
  | .hbm, ⟨17, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S256x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x256, .bf16⟩
  | .local _ .vmem, ⟨26, _⟩ => ⟨S512x256, .bf16⟩
  | .local _ .vmem, ⟨27, _⟩ => ⟨S512x512, .bf16⟩
  | .local _ .vmem, ⟨28, _⟩ => ⟨S512x512, .bf16⟩
  | .local _ .vmem, ⟨29, _⟩ => ⟨S512x1024, .bf16⟩
  | .local _ .vmem, ⟨30, _⟩ => ⟨S512x1024, .bf16⟩
  | .local _ .vmem, ⟨31, _⟩ => ⟨S512x256, .f32⟩
  | .local _ .vmem, ⟨32, _⟩ => ⟨S512x256, .f32⟩
  | .local _ .vmem, ⟨33, _⟩ => ⟨S512x512, .f32⟩
  | .local _ .vmem, ⟨34, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeBwdReferenceIdeal.lean ====
abbrev S8192x1024 : Shape := ⟨2, ![8192, 1024]⟩
abbrev S8192x5120 : Shape := ⟨2, ![8192, 5120]⟩
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024x256 : Shape := ⟨2, ![1024, 256]⟩
abbrev S1024x512 : Shape := ⟨2, ![1024, 512]⟩
abbrev S8192x4x64 : Shape := ⟨3, ![8192, 4, 64]⟩
abbrev S8192x4 : Shape := ⟨2, ![8192, 4]⟩
abbrev S8192x4x1 : Shape := ⟨3, ![8192, 4, 1]⟩
abbrev S8192x8x64 : Shape := ⟨3, ![8192, 8, 64]⟩
abbrev S8192x8 : Shape := ⟨2, ![8192, 8]⟩
abbrev S8192x8x1 : Shape := ⟨3, ![8192, 8, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x5120, .bf16⟩
  | .hbm, ⟨4, _⟩ => ⟨S8192x256, .bf16⟩
  | .hbm, ⟨5, _⟩ => ⟨S8192x512, .bf16⟩
  | .hbm, ⟨6, _⟩ => ⟨S256x1024, .bf16⟩
  | .hbm, ⟨7, _⟩ => ⟨S512x1024, .bf16⟩
  | .hbm, ⟨8, _⟩ => ⟨S1024x1024, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x256, .f32⟩
  | .hbm, ⟨16, _⟩ => ⟨S8192x512, .f32⟩
  | .hbm, ⟨17, _⟩ => ⟨S256x1024, .f32⟩
  | .hbm, ⟨18, _⟩ => ⟨S512x1024, .f32⟩
  | .hbm, ⟨19, _⟩ => ⟨S1024x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024x256, .f32⟩
  | .hbm, ⟨53, _⟩ => ⟨S8192x256, .f32⟩
  | .hbm, ⟨54, _⟩ => ⟨S1024x512, .f32⟩
  | .hbm, ⟨55, _⟩ => ⟨S8192x512, .f32⟩
  | .hbm, ⟨56, _⟩ => ⟨S8192x1024, .bf16⟩
  | .hbm, ⟨57, _⟩ => ⟨S8192x1024, .bf16⟩
  | .hbm, ⟨58, _⟩ => ⟨S8192x1024, .bf16⟩
  | .hbm, ⟨59, _⟩ => ⟨S8192x1024, .bf16⟩
  | .hbm, ⟨60, _⟩ => ⟨S8192x256, .bf16⟩
  | .hbm, ⟨61, _⟩ => ⟨S8192x512, .bf16⟩
  | .hbm, ⟨62, _⟩ => ⟨S8192x1024, .bf16⟩
  | .hbm, ⟨63, _⟩ => ⟨S8192x256, .f32⟩
  | .hbm, ⟨64, _⟩ => ⟨S8192x4x64, .f32⟩
  | .hbm, ⟨65, _⟩ => ⟨S_, .f32⟩
  | .hbm, ⟨66, _⟩ => ⟨S8192x4, .f32⟩
  | .hbm, ⟨67, _⟩ => ⟨S8192x4x1, .f32⟩
  | .hbm, ⟨68, _⟩ => ⟨S8192x4x64, .f32⟩
  | .hbm, ⟨69, _⟩ => ⟨S8192x256, .f32⟩
  | .hbm, ⟨70, _⟩ => ⟨S8192x512, .f32⟩
  | .hbm, ⟨71, _⟩ => ⟨S8192x8x64, .f32⟩
  | .hbm, ⟨72, _⟩ => ⟨S_, .f32⟩
  | .hbm, ⟨73, _⟩ => ⟨S8192x8, .f32⟩
  | .hbm, ⟨74, _⟩ => ⟨S8192x8x1, .f32⟩
  | .hbm, ⟨75, _⟩ => ⟨S8192x8x64, .f32⟩
  | .hbm, ⟨76, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== BiasGrad.lean ====
abbrev S20x128x256 : Shape := ⟨3, ![20, 128, 256]⟩
abbrev S4x128x256 : Shape := ⟨3, ![4, 128, 256]⟩
abbrev S32x128 : Shape := ⟨2, ![32, 128]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S20x128x256, .f32⟩
  | .hbm, ⟨1, _⟩ => ⟨S4x128x256, .i32⟩
  | .hbm, ⟨2, _⟩ => ⟨S32x128, .f32⟩
  | .local _ .vmem, ⟨0, _⟩ => ⟨S20x128x256, .f32⟩
  | .local _ .vmem, ⟨1, _⟩ => ⟨S4x128x256, .i32⟩
  | .local _ .vmem, ⟨2, _⟩ => ⟨S32x128, .f32⟩
  | _, _ => ⟨S20x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
abbrev stage0_0 : Fin 1 → Memref sig .tc .vmem S20x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasGradReferenceIdeal.lean ====
abbrev S20x128x256 : Shape := ⟨3, ![20, 128, 256]⟩
abbrev S4x128x256 : Shape := ⟨3, ![4, 128, 256]⟩
abbrev S3x128x256 : Shape := ⟨3, ![3, 128, 256]⟩
abbrev S3x4x128x256 : Shape := ⟨4, ![3, 4, 128, 256]⟩
abbrev S12x128x256 : Shape := ⟨3, ![12, 128, 256]⟩
abbrev S1x128x256 : Shape := ⟨3, ![1, 128, 256]⟩
abbrev S1x8x128x256 : Shape := ⟨4, ![1, 8, 128, 256]⟩
abbrev S8x128x256 : Shape := ⟨3, ![8, 128, 256]⟩
abbrev S1x20x128x256 : Shape := ⟨4, ![1, 20, 128, 256]⟩
abbrev S32 : Shape := ⟨1, ![32]⟩
abbrev S32x1x1x1 : Shape := ⟨4, ![32, 1, 1, 1]⟩
abbrev S32x20x128x256 : Shape := ⟨4, ![32, 20, 128, 256]⟩
abbrev S_ : Shape := ⟨0, ![]⟩
abbrev S32x20 : Shape := ⟨2, ![32, 20]⟩
abbrev S32x108 : Shape := ⟨2, ![32, 108]⟩
abbrev S32x128 : Shape := ⟨2, ![32, 128]⟩

abbrev nBuf : Space → Nat
  | .hbm => 26
  | .vmem => 0
  | .smem => 0
  | _ => 0

abbrev bufTy : (tb : Table) → Fin (tcTables nBuf tb) → BufTy
  | .hbm, ⟨0, _⟩ => ⟨S20x128x256, .f32⟩
  | .hbm, ⟨1, _⟩ => ⟨S4x128x256, .i32⟩
  | .hbm, ⟨2, _⟩ => ⟨S3x128x256, .i32⟩
  | .hbm, ⟨3, _⟩ => ⟨S3x4x128x256, .i32⟩
  | .hbm, ⟨4, _⟩ => ⟨S12x128x256, .i32⟩
  | .hbm, ⟨5, _⟩ => ⟨S1x128x256, .i32⟩
  | .hbm, ⟨6, _⟩ => ⟨S1x8x128x256, .i32⟩
  | .hbm, ⟨7, _⟩ => ⟨S8x128x256, .i32⟩
  | .hbm, ⟨8, _⟩ => ⟨S20x128x256, .i32⟩
  | .hbm, ⟨9, _⟩ => ⟨S1x20x128x256, .i32⟩
  | .hbm, ⟨10, _⟩ => ⟨S32, .i32⟩
  | .hbm, ⟨11, _⟩ => ⟨S32x1x1x1, .i32⟩
  | .hbm, ⟨12, _⟩ => ⟨S32x20x128x256, .i32⟩
  | .hbm, ⟨13, _⟩ => ⟨S32x20x128x256, .i32⟩
  | .hbm, ⟨14, _⟩ => ⟨S32x20x128x256, .i1⟩
  | .hbm, ⟨15, _⟩ => ⟨S1x20x128x256, .f32⟩
  | .hbm, ⟨16, _⟩ => ⟨S_, .f32⟩
  | .hbm, ⟨17, _⟩ => ⟨S_, .f32⟩
  | .hbm, ⟨18, _⟩ => ⟨S32x20x128x256, .f32⟩
  | .hbm, ⟨19, _⟩ => ⟨S32x20x128x256, .f32⟩
  | .hbm, ⟨20, _⟩ => ⟨S32x20x128x256, .f32⟩
  | .hbm, ⟨21, _⟩ => ⟨S_, .f32⟩
  | .hbm, ⟨22, _⟩ => ⟨S32x20, .f32⟩
  | .hbm, ⟨23, _⟩ => ⟨S_, .f32⟩
  | .hbm, ⟨24, _⟩ => ⟨S32x108, .f32⟩
  | .hbm, ⟨25, _⟩ => ⟨S32x128, .f32⟩
  | _, _ => ⟨S20x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== AttnFwd.lean ====
abbrev S4x128x81920 : Shape := ⟨3, ![4, 128, 81920]⟩
abbrev S4x128x256 : Shape := ⟨3, ![4, 128, 256]⟩
abbrev S_ : Shape := ⟨0, ![]⟩
abbrev S1x4x128 : Shape := ⟨3, ![1, 4, 128]⟩
abbrev S4x128x4096 : Shape := ⟨3, ![4, 128, 4096]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x128x81920, .bf16⟩
  | .hbm, ⟨1, _⟩ => ⟨S4x128x256, .f32⟩
  | .hbm, ⟨2, _⟩ => ⟨S_, .f32⟩
  | .hbm, ⟨3, _⟩ => ⟨S1x4x128, .f32⟩
  | .hbm, ⟨4, _⟩ => ⟨S4x128x4096, .f32⟩
  | .hbm, ⟨5, _⟩ => ⟨S4x128x4096, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S4x128x256, .f32⟩
  | .local _ .vmem, ⟨7, _⟩ => ⟨S1x4x128, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | _, _ => ⟨S4x128x81920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def k0_mult1 : BitVec 32 :=
  let c0_i32_4 : BitVec 32 := 0#32
  c0_i32_4
def cc0_transform_0 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg1 c20_i32
  let c2_i32 : BitVec 32 := 2#32
  let v1 : BitVec 32 := Scalar.addi v0 c2_i32
  let c0_i32 : BitVec 32 := 0#32
  let c0_i32_0 : BitVec 32 := 0#32
  ![arg0.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg1 c20_i32
  let c3_i32 : BitVec 32 := 3#32
  let v1 : BitVec 32 := Scalar.addi v0 c3_i32
  let c2_i32 : BitVec 32 := 2#32
  let v2 : BitVec 32 := Scalar.addi v1 c2_i32
  let c0_i32 : BitVec 32 := 0#32
  let c0_i32_0 : BitVec 32 := 0#32
  ![arg0.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg1 c20_i32
  let c6_i32 : BitVec 32 := 6#32
  let v1 : BitVec 32 := Scalar.addi v0 c6_i32
  let c2_i32 : BitVec 32 := 2#32
  let v2 : BitVec 32 := Scalar.addi v1 c2_i32
  let c0_i32 : BitVec 32 := 0#32
  let c0_i32_0 : BitVec 32 := 0#32
  ![arg0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdReferenceIdeal.lean ====
abbrev S4x128x81920 : Shape := ⟨3, ![4, 128, 81920]⟩
abbrev S4x128x256 : Shape := ⟨3, ![4, 128, 256]⟩
abbrev S4x128x16x80x64 : Shape := ⟨5, ![4, 128, 16, 80, 64]⟩
abbrev S4x128x16x4x64 : Shape := ⟨5, ![4, 128, 16, 4, 64]⟩
abbrev S4x16x4x128x128 : Shape := ⟨5, ![4, 16, 4, 128, 128]⟩
abbrev S_ : Shape := ⟨0, ![]⟩
abbrev S4x128x128 : Shape := ⟨3, ![4, 128, 128]⟩
abbrev S1x1x4x128x128 : Shape := ⟨5, ![1, 1, 4, 128, 128]⟩
abbrev S4x16x4x128 : Shape := ⟨4, ![4, 16, 4, 128]⟩
abbrev S4x16x4x128x1 : Shape := ⟨5, ![4, 16, 4, 128, 1]⟩
abbrev S4x16x4x128x64 : Shape := ⟨5, ![4, 16, 4, 128, 64]⟩
abbrev S4x128x4096 : Shape := ⟨3, ![4, 128, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x128x81920, .bf16⟩
  | .hbm, ⟨1, _⟩ => ⟨S4x128x256, .f32⟩
  | .hbm, ⟨2, _⟩ => ⟨S4x128x81920, .f32⟩
  | .hbm, ⟨3, _⟩ => ⟨S4x128x16x80x64, .f32⟩
  | .hbm, ⟨4, _⟩ => ⟨S4x128x16x4x64, .f32⟩
  | .hbm, ⟨5, _⟩ => ⟨S4x128x16x4x64, .f32⟩
  | .hbm, ⟨6, _⟩ => ⟨S4x128x16x4x64, .f32⟩
  | .hbm, ⟨7, _⟩ => ⟨S4x16x4x128x128, .f32⟩
  | .hbm, ⟨8, _⟩ => ⟨S_, .f32⟩
  | .hbm, ⟨9, _⟩ => ⟨S4x16x4x128x128, .f32⟩
  | .hbm, ⟨10, _⟩ => ⟨S4x16x4x128x128, .f32⟩
  | .hbm, ⟨11, _⟩ => ⟨S4x128x128, .f32⟩
  | .hbm, ⟨12, _⟩ => ⟨S1x1x4x128x128, .f32⟩
  | .hbm, ⟨13, _⟩ => ⟨S4x16x4x128x128, .f32⟩
  | .hbm, ⟨14, _⟩ => ⟨S4x16x4x128x128, .f32⟩
  | .hbm, ⟨15, _⟩ => ⟨S_, .f32⟩
  | .hbm, ⟨16, _⟩ => ⟨S4x16x4x128, .f32⟩
  | .hbm, ⟨17, _⟩ => ⟨S4x16x4x128x1, .f32⟩
  | .hbm, ⟨18, _⟩ => ⟨S4x16x4x128x128, .f32⟩
  | .hbm, ⟨19, _⟩ => ⟨S4x16x4x128x128, .f32⟩
  | .hbm, ⟨20, _⟩ => ⟨S4x16x4x128x128, .f32⟩
  | .hbm, ⟨21, _⟩ => ⟨S_, .f32⟩
  | .hbm, ⟨22, _⟩ => ⟨S4x16x4x128, .f32⟩
  | .hbm, ⟨23, _⟩ => ⟨S4x16x4x128x64, .f32⟩
  | .hbm, ⟨24, _⟩ => ⟨S4x16x4x128x1, .f32⟩
  | .hbm, ⟨25, _⟩ => ⟨S4x16x4x128x64, .f32⟩
  | .hbm, ⟨26, _⟩ => ⟨S4x16x4x128x64, .f32⟩
  | .hbm, ⟨27, _⟩ => ⟨S4x16x4x128, .f32⟩
  | .hbm, ⟨28, _⟩ => ⟨S4x16x4x128, .f32⟩
  | .hbm, ⟨29, _⟩ => ⟨S4x16x4x128x1, .f32⟩
  | .hbm, ⟨30, _⟩ => ⟨S4x16x4x128x64, .f32⟩
  | .hbm, ⟨31, _⟩ => ⟨S4x128x16x4x64, .f32⟩
  | .hbm, ⟨32, _⟩ => ⟨S4x128x4096, .f32⟩
  | .hbm, ⟨33, _⟩ => ⟨S4x128x16x4x64, .f32⟩
  | .hbm, ⟨34, _⟩ => ⟨S4x128x4096, .f32⟩
  | _, _ => ⟨S4x128x81920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Proof.Exchange.lean ====
/-
# A one-shot exchange

Every device issues a fixed family of transfers, each once, and then waits once on each of its semaphores. There is no
handshake: a device writes into its peers' result arrays straight away, so the launch deals each landing zone to the
device that writes it, together with what every device owes the receive semaphores of its peers.

A `Plan` names the semaphores (`osem`), how many units each one gets (`amt`), what its owner takes on waiting (`pay`),
and which device pays it (`payer`: the device itself for a local copy or the source side of a transfer, the peer for
the landing side). The rules below are stated for any plan; `run_exchange` is the launch.
-/
module

public import Idealize.ShloMosaic.Lib.Pipeline.Launch
public import Idealize.ShloMosaic.Lib.Pipeline.Kit
public import Idealize.ShloMosaic.Lib.Pipeline.FrameBody
public import Idealize.ShloMosaic.Lib.Ring
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Val : EltTy → Type}

/-- The ghost state: the pipelines' copy of the rounds library, and the exchange's. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable (nD τ sig Val) in
/-- The semaphores of an exchange, indexed by `K`, and what is due on each. -/
structure Plan (K : Type) where
  osem : K → SemLoc sig
  inj : Function.Injective osem
  /-- The units each semaphore gets. -/
  amt : K → ℕ
  amt_pos : ∀ k, 0 < amt k
  /-- What device `c` takes when it waits on semaphore `k`. -/
  pay : Dev nD → K → sProp (MT nD τ sig Unit Val ℕ (UU nD τ sig) ℕ)
  storable : ∀ c k, BI.Storable (upEmb : UEmb _ (MT nD τ sig Unit Val ℕ (UU nD τ sig) ℕ)) (pay c k)
  /-- The device that pays semaphore `k` of device `c`; an involution. -/
  payer : K → Dev nD → Dev nD
  payer_payer : ∀ k c, payer k (payer k c) = c
  /-- The semaphores another device pays. -/
  remote : Finset K

namespace Plan

variable {K : Type} [Fintype K] [DecidableEq K] (P : Plan nD τ sig Val K)

abbrev cell (ck : Dev nD × K) : GSem nD τ sig := ((ck.1 : Thread nD τ), P.osem ck.2)

theorem cell_injective : Function.Injective P.cell := by
  rintro ⟨c, k⟩ ⟨c', k'⟩ h
  have h1 : c = c' := congrArg (fun g : GSem nD τ sig => g.1.1) h
  have h2 : k = k' := P.inj (congrArg Prod.snd h)
  rw [h1, h2]

/-- The index of a semaphore, if it is one of the plan's. -/
def at? (sm : SemLoc sig) : Option K := by
  classical exact if h : ∃ k, P.osem k = sm then some h.choose else none

theorem at?_osem (k : K) : P.at? (P.osem k) = some k := by
  have h : ∃ k', P.osem k' = P.osem k := ⟨k, rfl⟩
  unfold at?
  rw [dif_pos h]
  exact congrArg some (P.inj h.choose_spec)

theorem at?_amt_pos (sm : SemLoc sig) : 0 < ((P.at? sm).map P.amt).getD 1 := by
  cases P.at? sm with
  | none => exact Nat.one_pos
  | some k => exact P.amt_pos k

/-- The schedule: one duty, in round 0, on every semaphore of the plan. -/
def Rd : Rounds.Schedule (GSem nD τ sig) Unit 𝕄 where
  duties g r := if r = 0 ∧ g.1.2 = .tc ∧ (P.at? g.2).isSome = true then {()} else ∅
  unitless _ := False
  amount g _ _ := ((P.at? g.2).map P.amt).getD 1
  payload g _ _ := ((P.at? g.2).map (P.pay g.1.1)).getD iprop(emp)
  amount_pos g _ _ _ := P.at?_amt_pos g.2

instance payload_storable (g : GSem nD τ sig) (r : ℕ) (d : Unit) : BI.Storable (upEmb : UEmb _ 𝕄) (P.Rd.payload g r d) := by
  show BI.Storable upEmb (((P.at? g.2).map (P.pay g.1.1)).getD iprop(emp))
  cases P.at? g.2 with
  | none => show BI.Storable upEmb iprop(emp); infer_instance
  | some k => exact P.storable _ _

section Sched
variable (c : Dev nD) (k : K)

theorem duties_cell : P.Rd.duties (P.cell (c, k)) 0 = {()} := by
  dsimp only [Rd]; exact if_pos ⟨rfl, rfl, by rw [P.at?_osem]; rfl⟩
theorem duties_later (g : GSem nD τ sig) : ∀ r, 1 ≤ r → P.Rd.duties g r = ∅ :=
  fun r hr => by dsimp only [Rd]; exact if_neg fun h => by omega
theorem amount_cell (u : Unit) : P.Rd.amount (P.cell (c, k)) 0 u = P.amt k := by
  dsimp only [Rd]; rw [P.at?_osem]; rfl
theorem expect_cell : P.Rd.expect (P.cell (c, k)) 0 = P.amt k := by
  unfold Schedule.expect Schedule.amountOf; rw [duties_cell, Finset.sum_singleton, amount_cell]
theorem payload_cell (u : Unit) : P.Rd.payload (P.cell (c, k)) 0 u = P.pay c k := by
  dsimp only [Rd]; rw [P.at?_osem]; rfl
theorem rest_cell : bigSep (P.Rd.duties (P.cell (c, k)) 0 \ ∅) (fun u => P.Rd.payload (P.cell (c, k)) 0 u) = P.pay c k := by
  rw [Finset.sdiff_empty, duties_cell, bigSep_singleton, payload_cell]

end Sched

/-! ## What is owed, what is recorded, what a device holds -/

/-- What device `c` still owes, over the semaphores `S`. -/
def dueOn (c : Dev nD) (S : Finset K) : CellTallies nD τ sig Unit := ∑ k ∈ S, tallyAt (P.cell (P.payer k c, k)) () (P.amt k)
def due (c : Dev nD) : CellTallies nD τ sig Unit := P.dueOn c P.remote

theorem dueOn_empty (c : Dev nD) : P.dueOn c ∅ = 0 := Finset.sum_empty
theorem dueOn_erase (c : Dev nD) {S : Finset K} {k : K} (hk : k ∈ S) :
    P.dueOn c S = P.dueOn c (S.erase k) + tallyAt (P.cell (P.payer k c, k)) () (P.amt k) :=
  (Finset.sum_erase_add S _ hk).symm

/-- Every semaphore's invariant, and that its round 0 is reached: the same facts for every device. -/
def records (κ : Dev nD × K → ℕ) : sProp 𝕄 :=
  iprop((bigSep Finset.univ fun ck : Dev nD × K => cellInv ER P.Rd (κ ck) (P.cell ck))
    ∗ bigSep Finset.univ fun ck : Dev nD × K => reached ER (P.cell ck) 0)
instance records_persistent (κ : Dev nD × K → ℕ) : BI.Persistent (P.records κ) := by unfold records; infer_instance

theorem records_inv (κ : Dev nD × K → ℕ) (ck : Dev nD × K) : P.records κ ⊢ cellInv ER P.Rd (κ ck) (P.cell ck) := by
  unfold records
  exact sep_elim_left.trans (bigSep_elim (Φ := fun ck : Dev nD × K => (cellInv ER P.Rd (κ ck) (P.cell ck) : sProp 𝕄)) (Finset.mem_univ ck))
theorem records_reached (κ : Dev nD × K → ℕ) (ck : Dev nD × K) : P.records κ ⊢ reached ER (P.cell ck) 0 := by
  unfold records
  exact sep_elim_right.trans (bigSep_elim (Φ := fun ck : Dev nD × K => (reached ER (P.cell ck) 0 : sProp 𝕄)) (Finset.mem_univ ck))

/-- Device `c`'s position on its own semaphore `k`, before its wait. -/
def pos (c : Dev nD) (k : K) : sProp 𝕄 := atPos ER (P.cell (c, k)) 0 ∅ 0
/-- … and after it. -/
def done (c : Dev nD) (k : K) : sProp 𝕄 := atPos ER (P.cell (c, k)) 1 ∅ 0
/-- Device `c`'s right to pay semaphore `k` of the device it pays. -/
def tok (c : Dev nD) (k : K) : sProp 𝕄 := dutyTok ER (P.cell (P.payer k c, k)) 0 ()
/-- The credit for a wait of device `c` on its semaphore `k`. -/
def crd (c : Dev nD) (k : K) : sProp 𝕄 := cred (tallyAt (P.cell (c, k)) () (P.amt k))
/-- What device `c` owes, whatever waits it has recorded. -/
def owed (c : Dev nD) (O : CellTallies nD τ sig Unit) : sProp 𝕄 := iprop(∃ W, owes (c : Thread nD τ) O W)

/-- What device `c` starts from, besides the records and its memory. -/
def hand (c : Dev nD) : sProp 𝕄 :=
  iprop((bigSep Finset.univ fun k => P.pos c k) ∗ (bigSep Finset.univ fun k => P.tok c k) ∗ bigSep P.remote fun k => P.crd c k)
/-- What it hands back: every semaphore waited for. -/
def back (c : Dev nD) : sProp 𝕄 := bigSep Finset.univ fun k => P.done c k

/-! ## The rules -/

section Rules

variable {Λ₀ : Labels} (defs₀ : Defs nD τ sig Val Λ₀) (𝒱₀ : Variants) (κ : Dev nD × K → ℕ)
variable {sp sp' : Space} {s : Shape} {e : EltTy} {α : Type}

/-- A local copy on semaphore `k`. -/
theorem wp_copy {Q : α → sProp 𝕄} (c : Dev nD) (k : K) {src : Memref sig .tc sp s e} {dst : Memref sig .tc sp' s e} {sem : SemLoc sig}
    (hk : sem = P.osem k) (hself : P.payer k c = c)
    {hsrc : src.view.WordExact} {hdst : dst.view.WordExact} {hsem : DmaTarget.Typed (nD := nD) (p := (Proc.tc : Proc τ)) sp sem (.here dst)}
    {cont : PUnit → Prog (TpuEff nD τ sig Val Λ₀ .tc) α} {q : PosShare TreeShare} {fs : Buf Val (src.view.loc (c : Thread nD τ))}
    {fd : Buf Val (dst.view.loc (c : Thread nD τ))} (hN : dst.view.amount sem = P.amt k)
    (hpay : iprop((dst.view.loc (c : Thread nD τ) ↦[dst.view.set]{fullShare} (dst.view.write Val fd (src.view.read Val fs) Finset.univ))
              ∗ (src.view.loc (c : Thread nD τ) ↦[src.view.set]{q} fs)) ⊢ P.pay c k) :
    iprop(P.records κ ∗ (src.view.loc (c : Thread nD τ) ↦[src.view.set]{q} fs) ∗ (dst.view.loc (c : Thread nD τ) ↦[dst.view.set]{fullShare} fd)
        ∗ P.tok c k)
      ⊢ iprop((P.crd c k -∗ wp frame (wpE (Ix := Unit) (Name := ℕ) (U := UU nD τ sig) (Lvl := ℕ) defs₀ 𝒱₀ (c : Thread nD τ) none) Set.univ (cont ⟨⟩) Q)
          -∗ wp frame (wpE (Ix := Unit) (Name := ℕ) (U := UU nD τ sig) (Lvl := ℕ) defs₀ 𝒱₀ (c : Thread nD τ) none) Set.univ (.op (.enqueueDma src (.here dst) sem hsrc hdst hsem) cont) Q) := by
  subst hk
  unfold tok crd
  rw [hself]
  iintro ⟨#HR, Hs, Hd, Ht⟩
  iapply (Rounds.wp_copy_pointsTo 𝒱₀ ER P.Rd (c : Thread nD τ) none (κ := κ (c, k)) (r := 0) (d := ()) (sem := P.osem k)
    (by rw [duties_cell P c k]; exact Finset.mem_singleton_self _) () (P.amt k) hN (amount_cell P c k ())
    (by rw [payload_cell P c k]; exact hpay)) $$ [Hs Hd Ht]
  isplitr; · iapply (P.records_inv κ (c, k)); iexact HR
  isplitl [Hs]; · iexact Hs
  isplitl [Hd]; · iexact Hd
  isplitl [Ht]; · iexact Ht
  iapply (P.records_reached κ (c, k)); iexact HR

/-- A transfer to device `n`, on the sender's semaphore `ks` and the receiver's `kr`. -/
theorem wp_send {Q : α → sProp 𝕄} (c n : Dev nD) (ks kr : K) {src : Memref sig .tc sp s e} {dst : Memref sig .tc sp' s e} {sS sem : SemLoc sig}
    (hks : sS = P.osem ks) (hkr : sem = P.osem kr) (hself : P.payer ks c = c) (hn : n = P.payer kr c) {S : Finset K} (hS : kr ∈ S)
    {hsc : dst.view.ref.isScScratch = false}
    {hsrc : src.view.WordExact} {hdst : dst.view.WordExact} {hsem : DmaTarget.Typed sp sem (.remote (n : Thread nD τ) dst sS hsc)}
    {cont : PUnit → Prog (TpuEff nD τ sig Val Λ₀ .tc) α} {q : PosShare TreeShare} {fs : Buf Val (src.view.loc (c : Thread nD τ))}
    {fd : Buf Val (dst.view.loc (n : Thread nD τ))} (hN : dst.view.amount sem = P.amt kr) (hNs : P.amt ks = P.amt kr)
    (hpay₁ : (src.view.loc (c : Thread nD τ) ↦[src.view.set]{q} fs) ⊢ P.pay c ks)
    (hpay₂ : (dst.view.loc (n : Thread nD τ) ↦[dst.view.set]{fullShare} (dst.view.write Val fd (src.view.read Val fs) Finset.univ)) ⊢ P.pay n kr)
    (hr : τ.routes (c : Thread nD τ) (n : Thread nD τ) = true := by routes) :
    iprop(P.records κ ∗ (src.view.loc (c : Thread nD τ) ↦[src.view.set]{q} fs) ∗ (dst.view.loc (n : Thread nD τ) ↦[dst.view.set]{fullShare} fd)
        ∗ owed c (P.dueOn c S) ∗ P.tok c ks ∗ P.tok c kr)
      ⊢ iprop(((P.crd c ks ∗ owed c (P.dueOn c (S.erase kr))) -∗ wp frame (wpE (Ix := Unit) (Name := ℕ) (U := UU nD τ sig) (Lvl := ℕ) defs₀ 𝒱₀ (c : Thread nD τ) none) Set.univ (cont ⟨⟩) Q)
          -∗ wp frame (wpE (Ix := Unit) (Name := ℕ) (U := UU nD τ sig) (Lvl := ℕ) defs₀ 𝒱₀ (c : Thread nD τ) none) Set.univ
              (.op (.enqueueDma src (.remote (n : Thread nD τ) dst sS hsc) sem hsrc hdst hsem) cont) Q) := by
  subst hks hkr
  unfold tok crd owed
  rw [hself, ← hn]
  iintro ⟨#HR, Hs, Hd, ⟨%W, Ho⟩, Hts, Htr⟩ Hk
  iapply (Rounds.wp_send_pointsTo 𝒱₀ ER P.Rd (c : Thread nD τ) none (κ₁ := κ (c, ks)) (κ₂ := κ (n, kr)) (r₁ := 0) (r₂ := 0) (d₁ := ()) (d₂ := ())
    (sS := P.osem ks) (sem := P.osem kr) (c' := (n : Thread nD τ)) (W := W) (O₀ := P.dueOn c S)
    (by rw [duties_cell P c ks]; exact Finset.mem_singleton_self _) (by rw [duties_cell P n kr]; exact Finset.mem_singleton_self _)
    () () (P.amt kr) hN ((amount_cell P c ks ()).trans hNs) (amount_cell P n kr ()) (P.dueOn c (S.erase kr))
    (by rw [P.dueOn_erase c hS, ← hn])
    (by rw [payload_cell P c ks]; exact hpay₁) (by rw [payload_cell P n kr]; exact hpay₂) hr) $$ [Hs Hd Ho Hts Htr]
  · isplitr; · iapply (P.records_inv κ (c, ks)); iexact HR
    isplitr; · iapply (P.records_inv κ (n, kr)); iexact HR
    isplitl [Hs]; · iexact Hs
    isplitl [Hd]; · iexact Hd
    isplitl [Ho]; · iexact Ho
    isplitl [Hts]; · iexact Hts
    isplitr; · iapply (P.records_reached κ (c, ks)); iexact HR
    isplitl [Htr]; · iexact Htr
    iapply (P.records_reached κ (n, kr)); iexact HR
  iintro ⟨Hc, Ho⟩
  iapply Hk
  rw [hNs]
  isplitl [Hc]; · iexact Hc
  iexists W; iexact Ho

/-- The wait on semaphore `k`, when nothing is owed any more. -/
theorem wp_wait {Q : α → sProp 𝕄} (c : Dev nD) (k : K) {sm : SemLoc sig} (hk : sm = P.osem k) {w : TpuEff nD τ sig Val Λ₀ .tc PUnit} {n : ℕ}
    (hw : ∀ Kt : PUnit → sProp 𝕄, wpE defs₀ 𝒱₀ (c : Thread nD τ) none Set.univ w Kt = waitSpec (c : Thread nD τ) Set.univ sm n Kt)
    (hn : n = P.amt k) {cont : PUnit → Prog (TpuEff nD τ sig Val Λ₀ .tc) α} :
    iprop(P.records κ ∗ P.crd c k ∗ owed c 0 ∗ P.pos c k)
      ⊢ iprop(((owed c 0 ∗ P.done c k ∗ P.pay c k) -∗ wp frame (wpE (Ix := Unit) (Name := ℕ) (U := UU nD τ sig) (Lvl := ℕ) defs₀ 𝒱₀ (c : Thread nD τ) none) Set.univ (cont ⟨⟩) Q)
          -∗ wp frame (wpE (Ix := Unit) (Name := ℕ) (U := UU nD τ sig) (Lvl := ℕ) defs₀ 𝒱₀ (c : Thread nD τ) none) Set.univ (.op w cont) Q) := by
  subst hk hn
  unfold crd owed pos done
  iintro ⟨#HR, Hc, ⟨%W, Ho⟩, Hp⟩ Hk
  iapply (Rounds.wp_wait_rest_token 𝒱₀ ER P.Rd (c : Thread nD τ) none (κ := κ (c, k)) hw (Set.mem_univ _) () (O := 0) (W := W) (R := 0) (m := 0) (T := ∅)
    (by rw [Nat.zero_add, expect_cell P c k])) $$ [Hc Ho Hp]
  · isplitr; · iapply (P.records_inv κ (c, k)); iexact HR
    isplitl [Hc]; · iexact Hc
    isplitl [Ho]; · iexact Ho
    isplitr; · rw [MayWait_zero]; iempintro
    iexact Hp
  iintro ⟨Ho, Hp, -, Hpay⟩
  ihave Hpay := (Entails.of_eq (P.rest_cell c k)) $$ Hpay
  iapply Hk
  isplitl [Ho]; · iexists _; iexact Ho
  isplitl [Hp]; · iexact Hp
  iexact Hpay

end Rules

theorem close_one (κ : Dev nD × K → ℕ) (c : Dev nD) (k : K) :
    iprop(P.records κ ∗ P.done c k) ⊢ |={Set.univ}=> (semVal (P.cell (c, k)) 0 : sProp 𝕄) := by
  unfold done
  iintro ⟨#HR, Hp⟩
  iapply (Rounds.cell_close ER P.Rd (Set.mem_univ (κ (c, k))) (fun h => h) (R := 1) (P.duties_later (P.cell (c, k))))
  isplitr; · iapply (P.records_inv κ (c, k)); iexact HR
  iexact Hp

/-- Every semaphore back at zero. -/
theorem close_all (κ : Dev nD × K → ℕ) (c : Dev nD) :
    iprop(P.records κ ∗ P.back c) ⊢ |={Set.univ}=> (bigSep Finset.univ fun k => semVal (P.cell (c, k)) 0 : sProp 𝕄) := by
  unfold back
  refine ((sep_mono_left (BI.bigSep_of_persistent (Finset.univ : Finset K) (P.records κ))).trans ?_).trans (bigSep_fupd _ _)
  rw [← bigSep_sep']
  exact bigSep_mono fun k _ => P.close_one κ c k

/-! ## The launch: funding -/

def cells : Finset (GSem nD τ sig) := Finset.univ.map ⟨P.cell, P.cell_injective⟩
def toks : Finset (GSem nD τ sig × ℕ × Unit) :=
  Finset.univ.map ⟨fun ck : Dev nD × K => (P.cell ck, 0, ()), fun _ _ h => P.cell_injective (congrArg Prod.fst h)⟩

def u₀ : UU nD τ sig := (initOf ∅ ∅, initOf P.cells P.toks)

/-- Each semaphore's payer, as a permutation. -/
def swap : Dev nD × K ≃ Dev nD × K where
  toFun ck := (P.payer ck.2 ck.1, ck.2)
  invFun ck := (P.payer ck.2 ck.1, ck.2)
  left_inv ck := by dsimp only; rw [P.payer_payer]
  right_inv ck := by dsimp only; rw [P.payer_payer]

theorem fund : (ownU P.u₀ : sProp 𝕄)
    ⊢ |==> iprop((bigSep Finset.univ fun ck : Dev nD × K => roundState ER P.Rd (P.cell ck) 0)
        ∗ (bigSep Finset.univ fun ck : Dev nD × K => reached ER (P.cell ck) 0)
        ∗ (bigSep Finset.univ fun ck : Dev nD × K => P.pos ck.1 ck.2)
        ∗ bigSep Finset.univ fun ck : Dev nD × K => P.tok ck.1 ck.2) := by
  have hX (Φ : GSem nD τ sig → sProp 𝕄) : bigSep P.cells Φ = bigSep Finset.univ fun ck : Dev nD × K => Φ (P.cell ck) := by
    unfold cells; rw [bigSep_map]; rfl
  have hT : bigSep P.toks (fun x => (dutyTok ER x.1 x.2.1 x.2.2 : sProp 𝕄)) = bigSep Finset.univ fun ck : Dev nD × K => P.tok ck.1 ck.2 := by
    unfold toks
    rw [bigSep_map, bigSep_univ_equiv P.swap]
    rfl
  unfold u₀
  iintro Hu
  ihave H := (ownU_pair _ _) $$ Hu
  icases H with ⟨-, HX⟩
  imod (Rounds.fund ER P.Rd P.cells P.toks) $$ HX with ⟨Hst, Hr, Hat, Htok⟩
  imodintro
  ihave Hst := (Entails.of_eq (hX fun g => roundState ER P.Rd g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  isplitl [Hst]; · iexact Hst
  isplitl [Hr]; · iexact Hr
  isplitl [Hat]; · unfold pos; iexact Hat
  iexact Htok

theorem invs : iprop((bigSep Finset.univ fun ck : Dev nD × K => semVal (P.cell ck) 0) ∗ bigSep Finset.univ fun ck : Dev nD × K => roundState ER P.Rd (P.cell ck) 0)
    ⊢ (|={Set.univ}=> ∃ κ : Dev nD × K → ℕ, bigSep Finset.univ fun ck : Dev nD × K => cellInv ER P.Rd (κ ck) (P.cell ck) : sProp 𝕄) := by
  rw [← bigSep_sep']
  exact ((bigSep_mono fun ck _ => (Rounds.body_intro ER P.Rd (P.cell ck)).trans inv_alloc).trans (bigSep_fupd _ _)).trans
    (BI.fupd_mono (BI.bigSep_exists_pi Finset.univ (fun (ck : Dev nD × K) (κ : ℕ) => (cellInv ER P.Rd κ (P.cell ck) : sProp 𝕄))))

/-- From every device's semaphores at zero and the launch element: the records, and every device's positions and
    rights to pay. -/
theorem start : iprop((bigSep Finset.univ fun c : Dev nD => bigSep Finset.univ fun k : K => semVal (P.cell (c, k)) 0) ∗ ownU P.u₀)
    ⊢ (|={Set.univ}=> ∃ κ, P.records κ ∗ (bigSep Finset.univ fun c : Dev nD => bigSep Finset.univ fun k : K => P.pos c k)
        ∗ bigSep Finset.univ fun c : Dev nD => bigSep Finset.univ fun k : K => P.tok c k : sProp 𝕄) := by
  rw [← bigSep_univ_prod (fun ck : Dev nD × K => (semVal (P.cell ck) 0 : sProp 𝕄)), ← bigSep_univ_prod (fun ck : Dev nD × K => (P.pos ck.1 ck.2 : sProp 𝕄)),
    ← bigSep_univ_prod (fun ck : Dev nD × K => (P.tok ck.1 ck.2 : sProp 𝕄))]
  iintro ⟨Hv, Hu⟩
  imod P.fund $$ Hu with ⟨Hst, Hr, Hat, Htok⟩
  imod P.invs $$ [Hv Hst] with ⟨%κ, Hinv⟩
  · isplitl [Hv] <;> iassumption
  imodintro
  iexists κ
  isplitl [Hinv Hr]
  · unfold records; isplitl [Hinv] <;> iassumption
  isplitl [Hat] <;> iassumption

/-! ## The launch: credit -/

theorem due_cell (d c : Dev nD) {k : K} (hk : k ∈ P.remote) : P.due d (P.cell (c, k)) () = if d = P.payer k c then P.amt k else 0 := by
  unfold due dueOn
  rw [Finset.sum_apply, Finsupp.finset_sum_apply, Finset.sum_eq_single k]
  · rw [tallyAt_apply]
    by_cases h : d = P.payer k c
    · subst h; rw [P.payer_payer, if_pos ⟨rfl, rfl⟩, if_pos rfl]
    · rw [if_neg h, if_neg]
      rintro ⟨h1, -⟩
      have h2 : c = P.payer k d := congrArg Prod.fst (P.cell_injective h1)
      exact h (by rw [h2, P.payer_payer])
  · intro k' _ hne
    rw [tallyAt_apply, if_neg]
    rintro ⟨h1, -⟩
    exact hne (congrArg Prod.snd (P.cell_injective h1)).symm
  · intro h; exact absurd hk h

theorem launch_cell (c : Dev nD) {k : K} (hk : k ∈ P.remote) :
    tallyOn (P.cell (c, k)) (launchCredit (Pipeline.owing P.due) 0 (P.cell (c, k))) = (tallyAt (P.cell (c, k)) () (P.amt k) : CellTallies nD τ sig Unit) := by
  unfold tallyAt
  refine congrArg _ (Finsupp.ext fun u => ?_)
  cases u
  rw [Pipeline.launchCredit_owing, Finsupp.single_eq_same, Finset.sum_congr rfl fun d _ => P.due_cell d c hk, Finset.sum_ite_eq' Finset.univ (P.payer k c) fun _ => P.amt k,
    if_pos (Finset.mem_univ _)]

theorem credits (c : Dev nD) : (Pipeline.launchCred P.due c : sProp 𝕄) ⊢ bigSep P.remote fun k => P.crd c k := by
  unfold Pipeline.launchCred
  refine (bigSep_subset (Finset.subset_univ (P.remote.map ⟨P.osem, P.inj⟩))).trans ?_
  rw [bigSep_map]
  refine bigSep_mono fun k hk => ?_
  unfold crd
  rw [← P.launch_cell c hk]
  exact BI.Entails.refl _

end Plan

/-! ## The launch theorem -/

section Launch

variable {K : Type} [Fintype K] [DecidableEq K] (P : Plan nD τ sig Val K)
variable {Λ₀ : Labels} (cfgs : Fin 1 → Cfg sig Λ₀) (defs₀ : Defs nD τ sig Val Λ₀)

/-- The region's invariant: before the body, the exchange's resources and the device's memory; after it, what the
    device ends with and its semaphores at zero. -/
def inv (start fin : Dev nD → sProp 𝕄) (c : Dev nD) (n : ℕ) : sProp 𝕄 :=
  if n = 0 then iprop(((∃ κ, P.records κ) ∗ P.hand c ∗ start c) ∗ Pipeline.scopedRest (cfgs 0).spec c)
  else iprop((fin c ∗ bigSep Finset.univ fun k => semVal (P.cell (c, k)) 0) ∗ Pipeline.scopedRest (cfgs 0).spec c)

def dats (hW : ∀ p, IsEmpty (Fin (cfgs p).W)) (start fin : Dev nD → sProp 𝕄) (p : Fin 1) (c : Dev nD) : Dat τ Val Unit ℕ (UU nD τ sig) ℕ (cfgs p) c where
  A w := ((hW p).false w).elim
  after w _ := ((hW p).false w).elim
  Φ t := inv P cfgs start fin c t.val
  q _ := fullShare
  owed t := if t.val = 0 then P.due c else 0

variable (hW : ∀ p, IsEmpty (Fin (cfgs p).W)) (hN : (cfgs 0).N = 1)

theorem none_windows (p : Fin 1) (hW : ∀ p, IsEmpty (Fin (cfgs p).W)) (Φ : Fin (cfgs p).W → sProp 𝕄) : bigSep Finset.univ Φ = BI.emp := by
  haveI := hW p
  rw [Finset.univ_eq_empty, BI.bigSep_empty]

include hN in
theorem body_obligation (start fin : Dev nD → sProp 𝕄)
  (hbody : ∀ (c : Dev nD) (κ : Dev nD × K → ℕ) (t : Fin (cfgs 0).N) (Kt : sProp 𝕄), iprop(P.records κ ∗ P.hand c ∗ start c ∗ Plan.owed c (P.due c) ∗ ((P.back c ∗ fin c ∗ Plan.owed c 0) -∗ Kt))
     ⊢ wp frame (wpE (Ix := Unit) (Name := ℕ) (U := UU nD τ sig) (Lvl := ℕ) defs₀ Variants.none c none) Set.univ (defs₀ .tc (cfgs 0).body ((cfgs 0).bodyArgs t ((cfgs 0).slots t))) fun _ => Kt)
  (c : Dev nD) : BodyObligation (dats P cfgs hW start fin 0 c) defs₀ Variants.none () Set.univ := by
  intro t
  have ht0 : t.castSucc.val = 0 := Nat.lt_one_iff.mp (lt_of_lt_of_eq t.isLt hN)
  have ht1 : t.succ.val ≠ 0 := by simp
  rw [none_windows cfgs 0 hW, none_windows cfgs 0 hW]
  simp only [dats, inv, Dat.owesAt, Pipeline.owesWithin]
  rw [if_pos ht0, if_pos ht0, if_neg ht1, if_neg ht1]
  iintro ⟨⟨⟨⟨%κ, #Hrec⟩, Hhand, Hstart⟩, Hrest⟩, ⟨%W, -, Ho⟩, -⟩
  iapply (wp_fupd frame (wpE defs₀ Variants.none c none) Set.univ _ _)
  iapply (hbody c κ t _)
  isplitr; · iexact Hrec
  isplitl [Hhand]; · iexact Hhand
  isplitl [Hstart]; · iexact Hstart
  isplitl [Ho]; · unfold Plan.owed; iexists W; iexact Ho
  iintro ⟨Hback, Hfin, Ho⟩
  imod (P.close_all κ c) $$ [Hback] with Hs
  · isplitr; · iexact Hrec
    iexact Hback
  imodintro
  isplitl [Hfin Hs Hrest]
  · isplitl [Hfin Hs]
    · isplitl [Hfin]; · iexact Hfin
      iexact Hs
    iexact Hrest
  isplitl [Ho]
  · unfold Plan.owed
    icases Ho with ⟨%W', Ho⟩
    iexists W'
    isplitr
    · ipureintro; exact fun _ _ => Or.inl trivial
    iexact Ho
  iempintro

variable (hinj : Function.Injective (cellOf (nD := nD) (τ := τ) cfgs)) (hwin : Pipeline.WinFacts (cfgs 0).spec)
  (hown : Pipeline.OwnSemFacts (cfgs 0).spec P.osem)

include hW hN hinj hwin hown in
/-- The launch: from the shape of the call, the body's run and a way to deal the devices' memory, the program's run. -/
theorem run_exchange (start fin : Dev nD → sProp 𝕄)
  (hbody : ∀ (c : Dev nD) (κ : Dev nD × K → ℕ) (t : Fin (cfgs 0).N) (Kt : sProp 𝕄), iprop(P.records κ ∗ P.hand c ∗ start c ∗ Plan.owed c (P.due c) ∗ ((P.back c ∗ fin c ∗ Plan.owed c 0) -∗ Kt))
     ⊢ wp frame (wpE (Ix := Unit) (Name := ℕ) (U := UU nD τ sig) (Lvl := ℕ) defs₀ Variants.none c none) Set.univ (defs₀ .tc (cfgs 0).body ((cfgs 0).bodyArgs t ((cfgs 0).slots t))) fun _ => Kt)
    [∀ e, Nonempty (Val e)] (hscoped : ∀ sm : SemLoc sig, sm.isScoped .tc = true)
    (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (Pipeline.entry 0) ()) fun _ => .ret ⟨⟩)
    (hdeal : (bigSep Finset.univ fun c : Dev nD => Pipeline.unscopedRest (cfgs 0).spec c (fun b => m ((c : Thread nD τ).loc b))) ⊢ bigSep Finset.univ start)
    (QY : Dev nD → MemSt nD τ sig Val → Prop)
    (hread : ∀ c (s' : Phys nD τ sig Val), iprop(fin c ∗ SI s') ⊢ |={Set.univ}=> iprop(⌜QY c s'.mem⌝ ∗ SI s')) :
    θ_run (Pipeline.defs (fun p => (cfgs p).toPCfg) defs₀) (onTc main) ⟨m, fun _ => 0, g⟩ (fun r => (∀ c, QY c r.2) ∧ r.2.sem = fun _ => 0) := by
  classical
  have hss := fun c : Dev nD => Pipeline.scopedSems0_split cfgs hinj 0 hwin.to₀ hown (Ix := Unit) (Val := Val) (Name := ℕ) (U := UU nD τ sig) (Lvl := ℕ) c
  have hsb := fun c : Dev nD => Pipeline.scopedBufs_split cfgs 0 hwin.stage_scoped hwin.stage_inj (fun w => ((hW 0).false w).elim) (nD := nD) (τ := τ) (Ix := Unit) (Val := Val) (Name := ℕ) (U := UU nD τ sig) (Lvl := ℕ) c
  let atStart : (Dev nD × K → ℕ) → Dev nD → sProp 𝕄 := fun κ c =>
    iprop(scopedBufs (c : Thread nD τ) ∗ Pipeline.idleSems0 cfgs hinj 0 hown c ∗ Plan.owed c (P.due c) ∗ P.records κ ∗ P.hand c ∗ start c)
  let atEnd : Dev nD → sProp 𝕄 := fun c => iprop(fin c ∗ scopedSems0 (c : Thread nD τ))
  refine (θ_run (Pipeline.defs (fun p => (cfgs p).toPCfg) defs₀) _ _).mono (Q := fun r => (∀ c : Dev nD, QY c r.2 ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped hscoped (sems_of_reads (fun c => (hr.1 c).2) hr.2)⟩)
    (adequate_tpu (Pipeline.defs (fun p => (cfgs p).toPCfg) defs₀) _ _ _
    (reflect_intro_fupd_tc_sems (X := Dev nD × K → ℕ) (Variants.lift Variants.none) (Pipeline.owing P.due) 0 (noBookings fun _ => le_rfl) (Pipeline.owing_of_ne P.due) P.u₀
      atStart (fun _ => atEnd) (fun _ => iprop(emp)) Set.univ ?_ (fun κ c => ?_) fun _ => ?_))
  · -- every device's initial bundle, then the exchange's ghost state
    have hinit (c : Dev nD) : coreInit (Ix := Unit) (Name := ℕ) (U := UU nD τ sig) (Lvl := ℕ) (Pipeline.owing P.due) 0 (⟨m, fun _ => 0, g⟩ : MemSt nD τ sig Val) (c : Thread nD τ)
        ⊢ iprop((scopedBufs (c : Thread nD τ) ∗ Pipeline.idleSems0 cfgs hinj 0 hown c ∗ Plan.owed c (P.due c))
          ∗ (bigSep Finset.univ fun k : K => semVal (P.cell (c, k)) 0) ∗ Pipeline.unscopedRest (cfgs 0).spec c (fun b => m ((c : Thread nD τ).loc b))
          ∗ bigSep P.remote fun k => P.crd c k : sProp 𝕄) := by
      refine (Pipeline.coreInit_boundary_owing P.due m g c).trans ?_
      unfold boundary
      rw [hss c, Pipeline.unscopedBufs_split cfgs 0 hwin.arr_unscoped hwin.arr_inj c (fun b => m ((c : Thread nD τ).loc b))]
      iintro ⟨⟨Hsc, ⟨⟨-, Hos⟩, Hidle⟩, -⟩, ⟨-, Hu⟩, -, HL, -, -, Hcr⟩
      isplitl [Hsc Hidle HL]
      · isplitl [Hsc]; · iexact Hsc
        isplitl [Hidle]; · iexact Hidle
        unfold Plan.owed; iexists ∅; iexact HL
      isplitl [Hos]; · unfold Pipeline.ownSems0; iexact Hos
      isplitl [Hu]; · iexact Hu
      iapply (P.credits c); iexact Hcr
    iintro ⟨Hc, Hu⟩
    ihave Hc := (show (bigSep Finset.univ fun c : Dev nD => coreInit (Ix := Unit) (Name := ℕ) (U := UU nD τ sig) (Lvl := ℕ) (Pipeline.owing P.due) 0 (⟨m, fun _ => 0, g⟩ : MemSt nD τ sig Val) (c : Thread nD τ))
      ⊢ _ from bigSep_mono fun (c : Dev nD) _ => hinit c) $$ Hc
    simp only [bigSep_sep']
    icases Hc with ⟨⟨Hsc, Hidle, Ho⟩, Hsem, Hrest, Hcr⟩
    imod P.start $$ [Hsem Hu] with ⟨%κ, #Hrec, Hpos, Htok⟩
    · isplitl [Hsem] <;> iassumption
    imodintro
    iexists κ
    isplitl [Hsc Hidle Ho Hpos Htok Hcr Hrest]
    · simp only [atStart, Plan.hand, bigSep_sep']
      isplitl [Hsc]; · iexact Hsc
      isplitl [Hidle]; · iexact Hidle
      isplitl [Ho]; · iexact Ho
      isplitr; · iapply (BI.bigSep_intro_persistent (S := Finset.univ) fun (c : Dev nD) _ => (BI.Entails.refl (P.records κ : sProp 𝕄))); iexact Hrec
      isplitl [Hpos Htok Hcr]
      · isplitl [Hpos]; · iexact Hpos
        isplitl [Htok] <;> iassumption
      iapply hdeal; iexact Hrest
    · iempintro
  · -- one device's run: the call, then the return
    have hN0 : (Fin.last (cfgs 0).N).val ≠ 0 := by rw [Fin.val_last, hN]; exact one_ne_zero
    have hin : iprop(((∃ κ, P.records κ) ∗ P.hand c ∗ start c) ∗ Pipeline.prefHeld ((cfgs 0).toPCfg (Val := Val)).pre c (fun _ => fullShare) ((cfgs 0).toPCfg_adm).1 ∗ Pipeline.scopedRest (cfgs 0).spec c)
        ⊢ ((dats P cfgs hW start fin 0 c).Φ 0 : sProp 𝕄) := by
      simp only [dats, inv]
      rw [if_pos (by rfl)]
      iintro ⟨HX, -, HR⟩
      isplitl [HX]; · iexact HX
      iexact HR
    have hout : iprop((dats P cfgs hW start fin 0 c).Φ (Fin.last (cfgs 0).N) ∗ Pipeline.cellsSems0 cfgs 0 c ∗ Dat.staging (cfgs 0) c ∗ Pipeline.idleSems0 cfgs hinj 0 hown c)
        ⊢ (iprop(fin c ∗ scopedSems0 (c : Thread nD τ) ∗ scopedBufs (c : Thread nD τ)) : sProp 𝕄) := by
      simp only [dats, inv]
      rw [if_neg hN0, hss c, hsb c]
      unfold Pipeline.ownSems0
      iintro ⟨⟨⟨Hf, Hos⟩, HR⟩, Hcells, Hst, Hidle⟩
      isplitl [Hf]; · iexact Hf
      isplitl [Hcells Hos Hidle]
      · isplitl [Hcells Hos]; · isplitl [Hcells] <;> iassumption
        iexact Hidle
      isplitl [Hst] <;> iassumption
    have hpost : Pipeline.EntryPost cfgs (dats P cfgs hW start fin) () 0 c ⊢ (iprop(∃ W, owes (c : Thread nD τ) (0 : CellTallies nD τ sig Unit) W) : sProp 𝕄) := by
      unfold Pipeline.EntryPost Pipeline.PerCore.EntryPost Dat.owesAt Pipeline.owesWithin
      simp only [dats]
      rw [if_neg hN0]
      iintro ⟨-, ⟨%W, -, HW⟩⟩
      iexists W; iexact HW
    have hpre : iprop(Plan.owed c (P.due c)) ⊢ (Pipeline.EntryPre cfgs (dats P cfgs hW start fin) () EP (fun _ => 0) 0 c : sProp 𝕄) := by
      unfold Pipeline.EntryPre Pipeline.PerCore.EntryPre Pipeline.PerCore.cellsWaits Pipeline.PerCore.cellsInit Pipeline.PerCore.toksInit Pipeline.PerCore.RDat.cellsWaits Pipeline.PerCore.RDat.cellsInit Dat.arrays
      rw [none_windows cfgs 0 hW, none_windows cfgs 0 hW, none_windows cfgs 0 hW, none_windows cfgs 0 hW]
      unfold Plan.owed Dat.owesAt Pipeline.owesWithin
      simp only [dats]
      rw [if_pos (by rfl)]
      iintro ⟨%W, HW⟩
      isplitr; · iempintro
      isplitl [HW]
      · iexists W
        isplitr
        · ipureintro; exact fun _ _ => Or.inl trivial
        iexact HW
      isplitr; · iempintro
      isplitr <;> iempintro
    rw [hmain c]
    simp only [atStart]
    iintro ⟨Hsc, Hidle, Ho, Hrec, Hhand, Hstart⟩
    iapply (Pipeline.wp_customCall_entry_frame (fun p => (cfgs p).toPCfg) (fun p => (cfgs p).toPCfg_adm) (dats P cfgs hW start fin) () EP (fun _ => 0) hinj 0 defs₀ Variants.none (fun _ => fullShare) c Set.univ
        (fun _ _ => Set.mem_univ _) (body_obligation P cfgs defs₀ hW hN start fin hbody c).loose (fun w => ((hW 0).false w).elim) none (fun u h => nomatch h)
        (X := iprop((∃ κ, P.records κ) ∗ P.hand c ∗ start c)) (Y := fin c) (R := Pipeline.scopedRest (cfgs 0).spec c) (I := Pipeline.idleSems0 cfgs hinj 0 hown c)
        (Entails.of_eq (hsb c)) hin hout (k := fun _ => .ret ⟨⟩) (Q := fun _ => post (liftTc atEnd BI.emp) (c : Thread nD τ))) $$ [Hsc Hidle Ho Hrec Hhand Hstart]
    · isplitl [Ho]; · iapply hpre; iexact Ho
      isplitr; · unfold Pipeline.prefHeld; iempintro
      isplitl [Hrec Hhand Hstart]
      · isplitl [Hrec]; · iexists κ; iexact Hrec
        isplitl [Hhand] <;> iassumption
      isplitl [Hidle] <;> iassumption
    iintro ⟨Hpost, HY, Hss, -⟩
    rw [wp_ret]; imodintro
    unfold post; simp only [liftTc_tc, atEnd]
    isplitl [HY Hss]
    · isplitl [HY] <;> iassumption
    iapply hpost; iexact Hpost
  · -- what the devices hold at the end, read in the final state
    have hcore (c : Dev nD) (s' : Phys nD τ sig Val) : iprop(atEnd c ∗ SI s') ⊢ |={Set.univ}=>
        iprop(⌜QY c s'.mem ∧ ∀ sm : SemLoc sig, sm.isScoped .tc = true → s'.mem.sem ((c : Thread nD τ), sm) = 0⌝ ∗ SI s') := by
      simp only [atEnd]
      iintro ⟨⟨Hf, Hss⟩, HSI⟩
      ihave %hz := (tcScoped_read_pers c s') $$ [Hss HSI]
      · isplitl [Hss] <;> iassumption
      imod (hread c s') $$ [Hf HSI] with ⟨%hq, HSI⟩
      · isplitl [Hf] <;> iassumption
      imodintro
      isplitr
      · ipureintro; exact ⟨hq, hz⟩
      iexact HSI
    iintro ⟨H, -, Hsc⟩ %s' HSI
    ihave %hsc := (scSems_read_zero m g s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Launch

end Cert.Exchange

end
-- ==== Proof.Slots.lean ====
/-
# Slots of an array

A slot is one index of an array's leading axis, as a memory reference of the remaining axes. What it covers
(`set_slot`), what it reads (`read_slot`), and the rules of a one-shot exchange for transfers whose two sides are given
by the sets of elements they cover and by the contents the destination ends at.
-/
module

public import proofs.«01_k».proof.Proof.Exchange
public import Idealize.ShloMosaic.Lib.ViewIndex

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Slot

variable {sig : RefSig} {κ : Kind} {sp : Space} {r n : ℕ} {t : Fin r → ℕ} {e : EltTy} {Val : EltTy → Type}

/-- An array's index without its leading coordinate. -/
def tail (x : (⟨r + 1, Matrix.vecCons n t⟩ : Shape).Idx) : (⟨r, t⟩ : Shape).Idx := fun a => x a.succ

theorem idx_ext {x y : (⟨r + 1, Matrix.vecCons n t⟩ : Shape).Idx} (h0 : (x 0).val = (y 0).val) (ht : tail x = tail y) : x = y := by
  funext a
  refine Fin.cases (Fin.ext h0) (fun a => ?_) a
  exact congrFun ht a

/-- The index of an array with leading coordinate `k` and the rest `x`. -/
def lead (k : Fin n) (x : (⟨r, t⟩ : Shape).Idx) : (⟨r + 1, Matrix.vecCons n t⟩ : Shape).Idx :=
  fun a => Fin.cases (motive := fun a => Fin ((Matrix.vecCons n t : Fin (r + 1) → ℕ) a)) k x a

variable (M : Memref sig κ sp ⟨r + 1, Matrix.vecCons n t⟩ e) (off : Fin (r + 1) → ℕ)
  (inb : ∀ a, off a + (Matrix.vecCons 1 t : Fin (r + 1) → ℕ) a ≤ (Matrix.vecCons n t : Fin (r + 1) → ℕ) a)
  (hst : ∀ a, (Rect.unit (s := ⟨r + 1, Matrix.vecCons n t⟩) off (Matrix.vecCons 1 t) inb).stride a = 1)
  (hsq : (Rect.unit (s := ⟨r + 1, Matrix.vecCons n t⟩) off (Matrix.vecCons 1 t) inb).shape.Squeezes ⟨r, t⟩)
  (k : ℕ) (hk : off 0 = k) (h0 : ∀ a : Fin r, off a.succ = 0)

include hk h0 in
theorem emb_slot (j : (⟨r, t⟩ : Shape).Idx) : ∃ x : (⟨r + 1, Matrix.vecCons n t⟩ : Shape).Idx,
    ((M.slice (Rect.unit (s := ⟨r + 1, Matrix.vecCons n t⟩) off (Matrix.vecCons 1 t) inb) hst).squeeze ⟨r, t⟩ hsq).view.emb j = M.view.emb x
      ∧ (x 0).val = k ∧ tail x = j := by
  have hy := Shape.rowMajor_reshapeEquiv hsq.numel_eq j
  refine ⟨(Rect.unit (s := ⟨r + 1, Matrix.vecCons n t⟩) off (Matrix.vecCons 1 t) inb).emb (Shape.reshapeEquiv hsq.numel_eq j), rfl, ?_, ?_⟩
  all_goals
    generalize Shape.reshapeEquiv hsq.numel_eq j = y at hy ⊢
    have hy0 : (y 0).val = 0 := Nat.lt_one_iff.mp (y 0).isLt
  · rw [Rect.emb_apply]
    show off 0 + 1 * (y 0).val = k
    rw [hy0, hk]; rfl
  · have hrm := (Shape.rowMajor_val_succ y).symm.trans hy
    rw [hy0, Nat.zero_mul, Nat.zero_add] at hrm
    have hyj : (fun a : Fin r => y a.succ) = j := (⟨r, t⟩ : Shape).rowMajor.injective (Fin.ext hrm)
    funext a
    refine Fin.ext ?_
    show off a.succ + 1 * (y a.succ).val = (j a).val
    rw [h0, Nat.zero_add, Nat.one_mul, ← hyj]

include hk h0 in
/-- A slot reads the array at its own leading coordinate. -/
theorem read_slot (f : M.view.ty.Contents Val) (j : (⟨r, t⟩ : Shape).Idx) : ∃ x : (⟨r + 1, Matrix.vecCons n t⟩ : Shape).Idx,
    ((M.slice (Rect.unit (s := ⟨r + 1, Matrix.vecCons n t⟩) off (Matrix.vecCons 1 t) inb) hst).squeeze ⟨r, t⟩ hsq).view.read Val f j = M.view.read Val f x
      ∧ (x 0).val = k ∧ tail x = j := by
  obtain ⟨x, hx, h1, h2⟩ := emb_slot M off inb hst hsq k hk h0 j
  refine ⟨x, ?_, h1, h2⟩
  rw [View.read_apply, View.read_apply, ← hx]

include hk h0 in
/-- A slot reads the array at its own leading coordinate, named. -/
theorem read_lead (hkn : k < n) (f : M.view.ty.Contents Val) :
    ((M.slice (Rect.unit (s := ⟨r + 1, Matrix.vecCons n t⟩) off (Matrix.vecCons 1 t) inb) hst).squeeze ⟨r, t⟩ hsq).view.read Val f
      = fun j => M.view.read Val f (lead ⟨k, hkn⟩ j) := by
  funext j
  obtain ⟨x, hx, h1, h2⟩ := read_slot M off inb hst hsq k hk h0 f j
  rw [hx, idx_ext (y := lead ⟨k, hkn⟩ j) h1 h2]

include hk h0 in
/-- A slot covers the elements at its own leading coordinate. -/
theorem set_slot : ((M.slice (Rect.unit (s := ⟨r + 1, Matrix.vecCons n t⟩) off (Matrix.vecCons 1 t) inb) hst).squeeze ⟨r, t⟩ hsq).view.set
    = (Finset.univ.filter fun x : (⟨r + 1, Matrix.vecCons n t⟩ : Shape).Idx => (x 0).val = k).map M.view.emb := by
  ext i
  constructor
  · intro hi
    obtain ⟨j, -, rfl⟩ := Finset.mem_map.mp hi
    obtain ⟨x, hx, h1, -⟩ := emb_slot M off inb hst hsq k hk h0 j
    exact Finset.mem_map.mpr ⟨x, Finset.mem_filter.mpr ⟨Finset.mem_univ _, h1⟩, hx.symm⟩
  · intro hi
    obtain ⟨x, hx, rfl⟩ := Finset.mem_map.mp hi
    have hx0 := (Finset.mem_filter.mp hx).2
    obtain ⟨x', hx', h1, h2⟩ := emb_slot M off inb hst hsq k hk h0 (tail x)
    rw [idx_ext (h1.trans hx0.symm) h2] at hx'
    rw [← hx']
    exact View.emb_mem_set _ _

end Slot

variable {nD : Nat} {τ : Topo} {sig : RefSig} {Val : EltTy → Type}

local notation "𝕄" => MT nD τ sig Unit Val ℕ (UU nD τ sig) ℕ

/-- A written view is held at any contents it reads the written value from. -/
theorem landed {sp : Space} {s : Shape} {e : EltTy} (v : View sig .tc sp s e) (c : Dev nD) {q : PosShare TreeShare} {S : Finset v.ty.Idx} (hS : v.set = S)
    (fd T : v.ty.Contents Val) (w : s.Idx → Val e) (h : v.read Val T = w) :
    (v.loc (c : Thread nD τ) ↦[v.set]{q} v.write Val fd w Finset.univ : sProp 𝕄) = (v.loc (c : Thread nD τ) ↦[S]{q} T) := by
  subst hS
  refine pointsTo_congr fun i hi => ?_
  obtain ⟨x, -, rfl⟩ := Finset.mem_map.mp hi
  exact View.eq_of_read_eq (by rw [View.read_write_univ, h])

section Deal

/-- A buffer held whole is held class by class of a numbering of its elements. -/
theorem pointsTo_by {ℓ : Loc nD τ sig} {n : ℕ} (g : Idx ℓ → ℕ) (hg : ∀ x, g x < n) (q : PosShare TreeShare) (f : Buf Val ℓ) :
    (ℓ ↦{q} f : sProp 𝕄) = bigSep Finset.univ fun b : Fin n => ℓ ↦[Finset.univ.filter fun x => g x = b.val]{q} f := by
  refine Ring.pointsTo_blocks (fun b : Fin n => Finset.univ.filter fun x => g x = b.val) (fun b b' h => ?_) ?_ f
  · refine Finset.disjoint_left.mpr fun x hx hx' => h (Fin.ext ?_)
    rw [← (Finset.mem_filter.mp hx).2, (Finset.mem_filter.mp hx').2]
  · ext x
    simp only [Finset.mem_biUnion, Finset.mem_univ, true_and, Finset.mem_filter, iff_true]
    exact ⟨⟨g x, hg x⟩, rfl⟩

/-- Pieces numbered by device and slot, dealt out again along a bijection. -/
theorem deal_slots {n : ℕ} (e : Dev nD × Fin n → Dev nD × Fin n) (he : Function.Bijective e) (Φ : Dev nD → Fin n → sProp 𝕄) :
    (bigSep Finset.univ fun d => bigSep Finset.univ fun k => Φ d k) = bigSep Finset.univ fun c => bigSep Finset.univ fun i => Φ (e (c, i)).1 (e (c, i)).2 := by
  have h1 := bigSep_univ_prod (fun x : Dev nD × Fin n => Φ x.1 x.2)
  have h2 := bigSep_univ_equiv (Equiv.ofBijective e he) (fun x : Dev nD × Fin n => Φ x.1 x.2)
  have h3 := bigSep_univ_prod (fun x : Dev nD × Fin n => Φ (e x).1 (e x).2)
  exact h1.symm.trans (h2.trans h3)

/-- One buffer per device, each cut into the classes of a numbering of its elements, and the pieces dealt out along a
    bijection. -/
theorem dealt_by {n : ℕ} (ℓ : Dev nD → Loc nD τ sig) (g : (d : Dev nD) → Idx (ℓ d) → ℕ) (hg : ∀ d x, g d x < n) (f : (d : Dev nD) → Buf Val (ℓ d))
    (e : Dev nD × Fin n → Dev nD × Fin n) (he : Function.Bijective e) :
    (bigSep Finset.univ fun d => (ℓ d ↦{fullShare} f d : sProp 𝕄))
      = bigSep Finset.univ fun c => bigSep Finset.univ fun i => (ℓ (e (c, i)).1 ↦[Finset.univ.filter fun x => g (e (c, i)).1 x = (e (c, i)).2.val]{fullShare} f (e (c, i)).1) := by
  have h : (fun d => (ℓ d ↦{fullShare} f d : sProp 𝕄)) = fun d => bigSep Finset.univ fun b : Fin n => (ℓ d ↦[Finset.univ.filter fun x => g d x = b.val]{fullShare} f d) :=
    funext fun d => pointsTo_by (g d) (hg d) fullShare (f d)
  rw [h]
  exact deal_slots e he fun d b => (ℓ d ↦[Finset.univ.filter fun x => g d x = b.val]{fullShare} f d)

/-- One piece per device, dealt out along a bijection of the devices. -/
theorem deal_whole (e : Dev nD → Dev nD) (he : Function.Bijective e) (Φ : Dev nD → sProp 𝕄) :
    (bigSep Finset.univ fun d => Φ d) = bigSep Finset.univ fun c => Φ (e c) :=
  bigSep_univ_equiv (Equiv.ofBijective e he) Φ

/-- Slots in another order. -/
theorem reorder {n : ℕ} (e : Fin n → Fin n) (he : Function.Bijective e) (Φ : Fin n → sProp 𝕄) :
    (bigSep Finset.univ fun k => Φ k) = bigSep Finset.univ fun i => Φ (e i) :=
  bigSep_univ_equiv (Equiv.ofBijective e he) Φ

theorem bigSep_fin2 (Φ : Fin 2 → sProp 𝕄) : bigSep Finset.univ Φ = iprop(Φ 0 ∗ Φ 1) := bigSep_univ_eq_bigSepL [0, 1] (by decide) (by decide) Φ
theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- A buffer held in two halves. -/
theorem halves {ℓ : Loc nD τ sig} (S : Finset (Idx ℓ)) (q : PosShare TreeShare) (f : Buf Val ℓ) :
    (ℓ ↦[S]{q} f : sProp 𝕄) ⊣⊢ iprop((ℓ ↦[S]{q.left} f) ∗ ℓ ↦[S]{q.right} f) :=
  pointsTo_share (PosShare.mem_left_op_right q)

/-- One buffer held whole, read in the state. -/
theorem read_one {ℓ : Loc nD τ sig} (f : Buf Val ℓ) (s' : Phys nD τ sig Val) :
    iprop((ℓ ↦{fullShare} f : sProp 𝕄) ∗ SI s') ⊢ iprop(⌜s'.mem.mem ℓ = f⌝ ∗ SI s') := by
  have h := pointsTo_read_all (Ix := Unit) (Name := ℕ) (U := UU nD τ sig) (Lvl := ℕ) (Finset.univ : Finset Unit) (fun _ => ℓ) (fun _ => f) s'
  rw [show (Finset.univ : Finset Unit) = {()} from rfl, bigSep_singleton] at h
  refine h.trans ?_
  iintro ⟨%h, H⟩
  isplitr
  · ipureintro; exact h () (Finset.mem_singleton_self _)
  iexact H

end Deal

namespace Plan

variable {K : Type} [Fintype K] [DecidableEq K] (P : Plan nD τ sig Val K)

section Rules

variable {Λ₀ : Labels} (defs₀ : Defs nD τ sig Val Λ₀) (𝒱₀ : Variants) (κ : Dev nD × K → ℕ)
variable {sp sp' : Space} {s : Shape} {e : EltTy} {α : Type}

/-- `wp_copy`, each side by the set it covers; the destination ends at `T`. -/
theorem copy {Q : α → sProp 𝕄} (c : Dev nD) (k : K) {src : Memref sig .tc sp s e} {dst : Memref sig .tc sp' s e} {sem : SemLoc sig}
    (hk : sem = P.osem k) (hself : P.payer k c = c)
    {hsrc : src.view.WordExact} {hdst : dst.view.WordExact} {hsem : DmaTarget.Typed (nD := nD) (p := (Proc.tc : Proc τ)) sp sem (.here dst)}
    {cont : PUnit → Prog (TpuEff nD τ sig Val Λ₀ .tc) α} {q : PosShare TreeShare} {fs : Buf Val (src.view.loc (c : Thread nD τ))}
    {fd : Buf Val (dst.view.loc (c : Thread nD τ))} (T : Buf Val (dst.view.loc (c : Thread nD τ)))
    {Ss : Finset (Idx (src.view.loc (c : Thread nD τ)))} {Sd : Finset (Idx (dst.view.loc (c : Thread nD τ)))}
    (hN : dst.view.amount sem = P.amt k) (hss : src.view.set = Ss) (hds : dst.view.set = Sd) (hT : dst.view.read Val T = src.view.read Val fs)
    (hpay : iprop((dst.view.loc (c : Thread nD τ) ↦[Sd]{fullShare} T) ∗ (src.view.loc (c : Thread nD τ) ↦[Ss]{q} fs)) ⊢ P.pay c k) :
    iprop(P.records κ ∗ (src.view.loc (c : Thread nD τ) ↦[Ss]{q} fs) ∗ (dst.view.loc (c : Thread nD τ) ↦[Sd]{fullShare} fd) ∗ P.tok c k)
      ⊢ iprop((P.crd c k -∗ wp frame (wpE (Ix := Unit) (Name := ℕ) (U := UU nD τ sig) (Lvl := ℕ) defs₀ 𝒱₀ (c : Thread nD τ) none) Set.univ (cont ⟨⟩) Q)
          -∗ wp frame (wpE (Ix := Unit) (Name := ℕ) (U := UU nD τ sig) (Lvl := ℕ) defs₀ 𝒱₀ (c : Thread nD τ) none) Set.univ (.op (.enqueueDma src (.here dst) sem hsrc hdst hsem) cont) Q) := by
  subst hss
  have hl := landed (nD := nD) (τ := τ) dst.view c (q := fullShare) hds fd T _ hT
  subst hds
  exact P.wp_copy defs₀ 𝒱₀ κ c k hk hself hN (by rw [hl]; exact hpay)

/-- `wp_send`, each side by the set it covers; the destination ends at `T`; `n'` is the target as the program
    writes it. -/
theorem send {Q : α → sProp 𝕄} (c n : Dev nD) {n' : Dev nD} (hn' : n' = n) (ks kr : K) {src : Memref sig .tc sp s e} {dst : Memref sig .tc sp' s e} {sS sem : SemLoc sig}
    (hks : sS = P.osem ks) (hkr : sem = P.osem kr) (hself : P.payer ks c = c) (hn : n = P.payer kr c) {S : Finset K} (hS : kr ∈ S)
    {hsc : dst.view.ref.isScScratch = false}
    {hsrc : src.view.WordExact} {hdst : dst.view.WordExact} {hsem : DmaTarget.Typed sp sem (.remote (n' : Thread nD τ) dst sS hsc)}
    {cont : PUnit → Prog (TpuEff nD τ sig Val Λ₀ .tc) α} {q : PosShare TreeShare} {fs : Buf Val (src.view.loc (c : Thread nD τ))}
    {fd : Buf Val (dst.view.loc (n : Thread nD τ))} (T : Buf Val (dst.view.loc (n : Thread nD τ)))
    {Ss : Finset (Idx (src.view.loc (c : Thread nD τ)))} {Sd : Finset (Idx (dst.view.loc (n : Thread nD τ)))}
    (hN : dst.view.amount sem = P.amt kr) (hNs : P.amt ks = P.amt kr) (hss : src.view.set = Ss) (hds : dst.view.set = Sd)
    (hT : dst.view.read Val T = src.view.read Val fs)
    (hpay₁ : (src.view.loc (c : Thread nD τ) ↦[Ss]{q} fs) ⊢ P.pay c ks)
    (hpay₂ : (dst.view.loc (n : Thread nD τ) ↦[Sd]{fullShare} T) ⊢ P.pay n kr)
    (hr : τ.routes (c : Thread nD τ) (n : Thread nD τ) = true := by routes) :
    iprop(P.records κ ∗ (src.view.loc (c : Thread nD τ) ↦[Ss]{q} fs) ∗ (dst.view.loc (n : Thread nD τ) ↦[Sd]{fullShare} fd)
        ∗ owed c (P.dueOn c S) ∗ P.tok c ks ∗ P.tok c kr)
      ⊢ iprop(((P.crd c ks ∗ owed c (P.dueOn c (S.erase kr))) -∗ wp frame (wpE (Ix := Unit) (Name := ℕ) (U := UU nD τ sig) (Lvl := ℕ) defs₀ 𝒱₀ (c : Thread nD τ) none) Set.univ (cont ⟨⟩) Q)
          -∗ wp frame (wpE (Ix := Unit) (Name := ℕ) (U := UU nD τ sig) (Lvl := ℕ) defs₀ 𝒱₀ (c : Thread nD τ) none) Set.univ
              (.op (.enqueueDma src (.remote (n' : Thread nD τ) dst sS hsc) sem hsrc hdst hsem) cont) Q) := by
  subst hss; subst n'
  have hl := landed (nD := nD) (τ := τ) dst.view n (q := fullShare) hds fd T _ hT
  subst hds
  exact P.wp_send defs₀ 𝒱₀ κ c n ks kr hks hkr hself hn hS hN hNs hpay₁ (by rw [hl]; exact hpay₂) hr

end Rules

end Plan

end Cert.Exchange

end
-- ==== Proof.HalfRun.lean ====
/-
# The exchange between the two cores of a chip

Device `c` copies its two arguments into slot `c % 2` of its own results, and sends them to the same slot of the results
of its sibling, the other core of its chip. The launch deals device `c` slot `c % 2` of its own results and of its
sibling's.
-/
module

public import proofs.«01_k».proof.Proof.Slots
public import proofs.«01_k».proof.Proof.Gen.HalfIdeal.Skeleton
public import proofs.«01_k».proof.Proof.Gen.HalfIdeal.Launch

@[expose] public section

noncomputable section

namespace Cert.HalfIdeal.Run

open Cert.HalfIdeal Cert.HalfIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Devices -/

/-- The other core of the chip. -/
def sib (c : Dev nD) : Dev nD := ⟨2 * (c.val / 2) + (1 - c.val % 2), by have := c.isLt; simp only [nD] at *; omega⟩
theorem sib_sib (c : Dev nD) : sib (sib c) = c := Fin.ext (by simp only [sib]; omega)
theorem sib_mod (c : Dev nD) : (sib c).val % 2 = 1 - c.val % 2 := by simp only [sib]; omega
theorem sib_div (c : Dev nD) : (sib c).val / 2 = c.val / 2 := by simp only [sib]; omega
theorem dev1_eq (c : Dev nD) : (⟨k0_dev1 c, k0_dev1_lt c⟩ : Dev nD) = sib c := Fin.ext (by
  show k0_dev1 c = 2 * (c.val / 2) + (1 - c.val % 2)
  rw [k0_dev1_eq]; omega)
theorem dev2_eq (c : Dev nD) : (⟨k0_dev2 c, k0_dev2_lt c⟩ : Dev nD) = sib c := Fin.ext (by
  show k0_dev2 c = 2 * (c.val / 2) + (1 - c.val % 2)
  rw [k0_dev2_eq]; omega)

/-- Core `i` of the chip of `c`. -/
def core (c : Dev nD) (i : ℕ) (hi : i < 2) : Dev nD := ⟨2 * (c.val / 2) + i, by have := c.isLt; simp only [nD] at *; omega⟩

/-! ## Contents -/

variable (m : (ℓ : Loc nD τ sig) → Buf (Elt F) ℓ)

abbrev A0 (c : Dev nD) : Buf (Elt F) ((c : Thread nD τ).loc main_arg0) := m ((c : Thread nD τ).loc main_arg0)
abbrev A1 (c : Dev nD) : Buf (Elt F) ((c : Thread nD τ).loc main_arg1) := m ((c : Thread nD τ).loc main_arg1)
/-- What the results end at: slot `i` is the argument of core `i` of the chip. -/
def T0 (c : Dev nD) : Buf (Elt F) ((c : Thread nD τ).loc main_v1_0) := fun x : S2x512x4096.Idx => A0 m (core c (x 0).val (x 0).isLt) (tail (t := ![512, 4096]) x)
def T1 (c : Dev nD) : Buf (Elt F) ((c : Thread nD τ).loc main_v1_1) := fun x : S2x928x1024.Idx => A1 m (core c (x 0).val (x 0).isLt) (tail (t := ![928, 1024]) x)

/-! ## Slots -/

def slot0 (k : ℕ) : Finset S2x512x4096.Idx := Finset.univ.filter fun x => (x 0).val = k
def slot1 (k : ℕ) : Finset S2x928x1024.Idx := Finset.univ.filter fun x => (x 0).val = k

abbrev M0 (d : Dev nD) : Memref sig .tc .hbm S512x4096 .f32 :=
  ((Memref.whole main_v1_0 : Memref sig .tc .hbm S2x512x4096 .f32).slice (Rect.unit (s := S2x512x4096) (k0_off1 d) S1x512x4096.size (k0_off1_inb d)) (fun _ => rfl)).squeeze S512x4096 squeezes_S1x512x4096_S512x4096
abbrev M1 (d : Dev nD) : Memref sig .tc .hbm S928x1024 .f32 :=
  ((Memref.whole main_v1_1 : Memref sig .tc .hbm S2x928x1024 .f32).slice (Rect.unit (s := S2x928x1024) (k0_off2 d) S1x928x1024.size (k0_off2_inb d)) (fun _ => rfl)).squeeze S928x1024 squeezes_S1x928x1024_S928x1024

theorem off1_0 (d : Dev nD) : k0_off1 d 0 = d.val % 2 := by rw [k0_off1_eq]; rfl
theorem off1_s (d : Dev nD) (a : Fin 2) : k0_off1 d a.succ = 0 := by rw [k0_off1_eq]; fin_cases a <;> rfl
theorem off2_0 (d : Dev nD) : k0_off2 d 0 = d.val % 2 := by rw [k0_off2_eq]; rfl
theorem off2_s (d : Dev nD) (a : Fin 2) : k0_off2 d a.succ = 0 := by rw [k0_off2_eq]; fin_cases a <;> rfl

theorem set_M0 (d : Dev nD) : (M0 d).view.set = slot0 (d.val % 2) :=
  (set_slot (n := 2) (t := ![512, 4096]) (Memref.whole main_v1_0 : Memref sig .tc .hbm S2x512x4096 .f32) (k0_off1 d) (k0_off1_inb d) (fun _ => rfl) squeezes_S1x512x4096_S512x4096
    _ (off1_0 d) (off1_s d)).trans (Finset.map_refl)
theorem set_M1 (d : Dev nD) : (M1 d).view.set = slot1 (d.val % 2) :=
  (set_slot (n := 2) (t := ![928, 1024]) (Memref.whole main_v1_1 : Memref sig .tc .hbm S2x928x1024 .f32) (k0_off2 d) (k0_off2_inb d) (fun _ => rfl) squeezes_S1x928x1024_S928x1024
    _ (off2_0 d) (off2_s d)).trans (Finset.map_refl)

/-- Slot `d % 2` of the results of a device of `d`'s chip ends at `d`'s arguments. -/
theorem read_M0 (c d : Dev nD) (h : c.val / 2 = d.val / 2) : (M0 d).view.read (Elt F) (T0 m c) = (Memref.whole main_arg0 : Memref sig .tc .hbm S512x4096 .f32).view.read (Elt F) (A0 m d) := by
  funext j
  obtain ⟨x, hx, h1, h2⟩ := read_slot (n := 2) (t := ![512, 4096]) (Memref.whole main_v1_0 : Memref sig .tc .hbm S2x512x4096 .f32) (k0_off1 d) (k0_off1_inb d) (fun _ => rfl) squeezes_S1x512x4096_S512x4096
    _ (off1_0 d) (off1_s d) (T0 m c) j
  refine hx.trans ?_
  show A0 m (core c (x 0).val (x 0).isLt) (tail (t := ![512, 4096]) x) = A0 m d j
  rw [h2, show core c (x 0).val (x 0).isLt = d from Fin.ext (by show 2 * (c.val / 2) + (x 0).val = d.val; omega)]
theorem read_M1 (c d : Dev nD) (h : c.val / 2 = d.val / 2) : (M1 d).view.read (Elt F) (T1 m c) = (Memref.whole main_arg1 : Memref sig .tc .hbm S928x1024 .f32).view.read (Elt F) (A1 m d) := by
  funext j
  obtain ⟨x, hx, h1, h2⟩ := read_slot (n := 2) (t := ![928, 1024]) (Memref.whole main_v1_1 : Memref sig .tc .hbm S2x928x1024 .f32) (k0_off2 d) (k0_off2_inb d) (fun _ => rfl) squeezes_S1x928x1024_S928x1024
    _ (off2_0 d) (off2_s d) (T1 m c) j
  refine hx.trans ?_
  show A1 m (core c (x 0).val (x 0).isLt) (tail (t := ![928, 1024]) x) = A1 m d j
  rw [h2, show core c (x 0).val (x 0).isLt = d from Fin.ext (by show 2 * (c.val / 2) + (x 0).val = d.val; omega)]

/-! ## The plan -/

abbrev N0 : ℕ := (Memref.whole main_arg0 : Memref sig .tc .hbm S512x4096 .f32).view.dmaCredit
abbrev N1 : ℕ := (Memref.whole main_arg1 : Memref sig .tc .hbm S928x1024 .f32).view.dmaCredit

abbrev osem : Fin 6 → SemLoc sig
  | 0 => .dma ((cc0_scratch0.slice (Rect.unit (s := S2) ![0] S1.size inb_S2_S1_0)).squeeze S_ squeezes_S1_S_).sem
  | 1 => .dma ((cc0_scratch0.slice (Rect.unit (s := S2) ![1] S1.size inb_S2_S1_1)).squeeze S_ squeezes_S1_S_).sem
  | 2 => .dma ((cc0_scratch1.slice (Rect.unit (s := S2) ![0] S1.size inb_S2_S1_0)).squeeze S_ squeezes_S1_S_).sem
  | 3 => .dma ((cc0_scratch1.slice (Rect.unit (s := S2) ![1] S1.size inb_S2_S1_1)).squeeze S_ squeezes_S1_S_).sem
  | 4 => .dma ((cc0_scratch2.slice (Rect.unit (s := S2) ![0] S1.size inb_S2_S1_0)).squeeze S_ squeezes_S1_S_).sem
  | 5 => .dma ((cc0_scratch2.slice (Rect.unit (s := S2) ![1] S1.size inb_S2_S1_1)).squeeze S_ squeezes_S1_S_).sem

def pay (c : Dev nD) : Fin 6 → sProp 𝕄
  | 0 => ((c : Thread nD τ).loc main_arg0) ↦{fullShare.right} A0 m c
  | 1 => ((c : Thread nD τ).loc main_arg1) ↦{fullShare.right} A1 m c
  | 2 => ((c : Thread nD τ).loc main_v1_0) ↦[slot0 ((sib c).val % 2)]{fullShare} T0 m c
  | 3 => ((c : Thread nD τ).loc main_v1_1) ↦[slot1 ((sib c).val % 2)]{fullShare} T1 m c
  | 4 => iprop((((c : Thread nD τ).loc main_v1_0) ↦[slot0 (c.val % 2)]{fullShare} T0 m c) ∗ ((c : Thread nD τ).loc main_arg0) ↦{fullShare.left} A0 m c)
  | 5 => iprop((((c : Thread nD τ).loc main_v1_1) ↦[slot1 (c.val % 2)]{fullShare} T1 m c) ∗ ((c : Thread nD τ).loc main_arg1) ↦{fullShare.left} A1 m c)

def payer (k : Fin 6) (c : Dev nD) : Dev nD := if k = 2 ∨ k = 3 then sib c else c

def plan : Plan nD τ sig (Elt F) (Fin 6) where
  osem := osem
  inj := by intro a b h; revert h; fin_cases a <;> fin_cases b <;> first | (intro _; rfl) | (intro h; exact absurd h (by decide))
  amt k := if k.val % 2 = 0 then N0 else N1
  amt_pos k := by split; exacts [View.dmaCredit_pos _ (by decide), View.dmaCredit_pos _ (by decide)]
  pay := pay m
  storable c k := by fin_cases k <;> (dsimp only [pay]; infer_instance)
  payer := payer
  payer_payer k c := by unfold payer; split; exacts [sib_sib c, rfl]
  remote := {2, 3}

/-! ## One device's run -/

/-- What the launch deals device `c`: its arguments, slot `c % 2` of its results, slot `c % 2` of its sibling's. -/
def start (c : Dev nD) : sProp 𝕄 :=
  iprop((((c : Thread nD τ).loc main_arg0) ↦{fullShare} A0 m c) ∗ (((c : Thread nD τ).loc main_arg1) ↦{fullShare} A1 m c)
    ∗ ((((c : Thread nD τ).loc main_v1_0) ↦[slot0 (c.val % 2)]{fullShare} m ((c : Thread nD τ).loc main_v1_0))
      ∗ (((sib c : Thread nD τ).loc main_v1_0) ↦[slot0 (c.val % 2)]{fullShare} m ((sib c : Thread nD τ).loc main_v1_0)))
    ∗ ((((c : Thread nD τ).loc main_v1_1) ↦[slot1 (c.val % 2)]{fullShare} m ((c : Thread nD τ).loc main_v1_1))
      ∗ (((sib c : Thread nD τ).loc main_v1_1) ↦[slot1 (c.val % 2)]{fullShare} m ((sib c : Thread nD τ).loc main_v1_1))))

/-- What device `c` ends with. -/
def fin (c : Dev nD) : sProp 𝕄 :=
  iprop((((c : Thread nD τ).loc main_arg0) ↦{fullShare} A0 m c) ∗ (((c : Thread nD τ).loc main_arg1) ↦{fullShare} A1 m c)
    ∗ (((c : Thread nD τ).loc main_v1_0) ↦{fullShare} T0 m c) ∗ (((c : Thread nD τ).loc main_v1_1) ↦{fullShare} T1 m c))

/-- The slots of device `c`, its own first. -/
def order (c : Dev nD) (i : Fin 2) : Fin 2 := if i = 0 then ⟨c.val % 2, by omega⟩ else ⟨(sib c).val % 2, by omega⟩
theorem order_bij (c : Dev nD) : Function.Bijective (order c) := by revert c; decide

theorem whole0 (c : Dev nD) (f : Buf (Elt F) ((c : Thread nD τ).loc main_v1_0)) : (((c : Thread nD τ).loc main_v1_0) ↦{fullShare} f : sProp 𝕄)
    = iprop((((c : Thread nD τ).loc main_v1_0) ↦[slot0 (c.val % 2)]{fullShare} f) ∗ ((c : Thread nD τ).loc main_v1_0) ↦[slot0 ((sib c).val % 2)]{fullShare} f) := by
  rw [pointsTo_by (n := 2) (fun x : S2x512x4096.Idx => (x 0).val) (fun x => (x 0).isLt), reorder (order c) (order_bij c), bigSep_fin2]; rfl
theorem whole1 (c : Dev nD) (f : Buf (Elt F) ((c : Thread nD τ).loc main_v1_1)) : (((c : Thread nD τ).loc main_v1_1) ↦{fullShare} f : sProp 𝕄)
    = iprop((((c : Thread nD τ).loc main_v1_1) ↦[slot1 (c.val % 2)]{fullShare} f) ∗ ((c : Thread nD τ).loc main_v1_1) ↦[slot1 ((sib c).val % 2)]{fullShare} f) := by
  rw [pointsTo_by (n := 2) (fun x : S2x928x1024.Idx => (x 0).val) (fun x => (x 0).isLt), reorder (order c) (order_bij c), bigSep_fin2]; rfl

/-- The semaphores its sibling pays. -/
abbrev both : Finset (Fin 6) := {2, 3}
theorem due_eq (c : Dev nD) : (plan m).due c = (plan m).dueOn c both := rfl
theorem due_done (c : Dev nD) : (plan m).dueOn c ((both.erase 2).erase 3) = 0 := by
  rw [show (both.erase 2).erase 3 = ∅ by decide, Plan.dueOn_empty]

/-- What a device pays its sibling. -/
theorem pay_sib0 (c : Dev nD) : (((sib c : Thread nD τ).loc main_v1_0) ↦[slot0 (c.val % 2)]{fullShare} T0 m (sib c) : sProp 𝕄) ⊢ (plan m).pay (sib c) 2 := by
  refine BI.Entails.trans ?_ (BI.Entails.refl (((sib c : Thread nD τ).loc main_v1_0) ↦[slot0 ((sib (sib c)).val % 2)]{fullShare} T0 m (sib c) : sProp 𝕄))
  rw [sib_sib]; exact BI.Entails.refl _
theorem pay_sib1 (c : Dev nD) : (((sib c : Thread nD τ).loc main_v1_1) ↦[slot1 (c.val % 2)]{fullShare} T1 m (sib c) : sProp 𝕄) ⊢ (plan m).pay (sib c) 3 := by
  refine BI.Entails.trans ?_ (BI.Entails.refl (((sib c : Thread nD τ).loc main_v1_1) ↦[slot1 ((sib (sib c)).val % 2)]{fullShare} T1 m (sib c) : sProp 𝕄))
  rw [sib_sib]; exact BI.Entails.refl _

theorem pay_arg0 (c : Dev nD) : (plan m).pay c 0 = (((c : Thread nD τ).loc main_arg0) ↦{fullShare.right} A0 m c : sProp 𝕄) := rfl
theorem pay_arg1 (c : Dev nD) : (plan m).pay c 1 = (((c : Thread nD τ).loc main_arg1) ↦{fullShare.right} A1 m c : sProp 𝕄) := rfl
theorem pay_got0 (c : Dev nD) : (plan m).pay c 2 = (((c : Thread nD τ).loc main_v1_0) ↦[slot0 ((sib c).val % 2)]{fullShare} T0 m c : sProp 𝕄) := rfl
theorem pay_got1 (c : Dev nD) : (plan m).pay c 3 = (((c : Thread nD τ).loc main_v1_1) ↦[slot1 ((sib c).val % 2)]{fullShare} T1 m c : sProp 𝕄) := rfl
theorem pay_own0 (c : Dev nD) : (plan m).pay c 4 = iprop((((c : Thread nD τ).loc main_v1_0) ↦[slot0 (c.val % 2)]{fullShare} T0 m c)
    ∗ ((c : Thread nD τ).loc main_arg0) ↦{fullShare.left} A0 m c) := rfl
theorem pay_own1 (c : Dev nD) : (plan m).pay c 5 = iprop((((c : Thread nD τ).loc main_v1_1) ↦[slot1 (c.val % 2)]{fullShare} T1 m c)
    ∗ ((c : Thread nD τ).loc main_arg1) ↦{fullShare.left} A1 m c) := rfl

theorem hand_eq (c : Dev nD) : (plan m).hand c = iprop((bigSep Finset.univ fun k => (plan m).pos c k) ∗ (bigSep Finset.univ fun k => (plan m).tok c k)
    ∗ ((plan m).crd c 2 ∗ (plan m).crd c 3)) := by
  unfold Plan.hand
  rw [show (plan m).remote = {2, 3} from rfl, bigSep_eq_bigSepL_of_eq (S := {2, 3}) [2, 3] (by decide) (by decide) (fun k => (plan m).crd c k)]; rfl

set_option maxHeartbeats 1600000 in
theorem sound_body (c : Dev nD) (κ : Dev nD × Fin 6 → ℕ) (Kt : sProp 𝕄) :
    iprop((plan m).records κ ∗ (plan m).hand c ∗ start m c ∗ Plan.owed c ((plan m).due c) ∗ (((plan m).back c ∗ fin m c ∗ Plan.owed c 0) -∗ Kt))
      ⊢ wp frame (wpE (Ix := Unit) (Name := ℕ) (U := UU nD τ sig) (Lvl := ℕ) (defs₀ (F := F)) Variants.none (c : Thread nD τ) none) Set.univ
          (cc0_grad_half_exchange (Memref.whole main_arg0) (Memref.isWhole_whole _) (Memref.whole main_arg1) (Memref.isWhole_whole _)
            (Memref.whole main_v1_0) (Memref.isWhole_whole _) (Memref.whole main_v1_1) (Memref.isWhole_whole _) cc0_scratch0 cc0_scratch1 cc0_scratch2)
          fun _ => Kt := by
  simp only [cc0_grad_half_exchange_eq_skeleton]; unfold cc0_grad_half_exchange_skel
  simp only [k0_part1_eq_skeleton, k0_part2_eq_skeleton]; unfold k0_part1_skel k0_part2_skel
  simp only [Prog.lift, Prog.bind_op, Prog.bind_ret, Prog.pure_eq_ret, wp_deviceId]
  rw [hand_eq, bigSep_fin6, bigSep_fin6, due_eq]
  unfold start
  iintro ⟨#HR, ⟨⟨Hp0, Hp1, Hp2, Hp3, Hp4, Hp5⟩, ⟨Ht0, Ht1, Ht2, Ht3, Ht4, Ht5⟩, Hc2, Hc3⟩, ⟨HA0, HA1, ⟨HM0, HN0⟩, HM1, HN1⟩, Ho, Hk⟩
  ihave HA0 := (halves Finset.univ fullShare (A0 m c)).1 $$ HA0
  icases HA0 with ⟨HA0, HB0⟩
  ihave HA1 := (halves Finset.univ fullShare (A1 m c)).1 $$ HA1
  icases HA1 with ⟨HA1, HB1⟩
  -- the copies into its own slots
  iapply ((plan m).copy defs₀ Variants.none κ c 4 (dst := M0 c) rfl rfl (T0 m c) rfl (View.set_whole _) (set_M0 c) (read_M0 m c c rfl) (BI.Entails.refl _)) $$ [HA0 HM0 Ht4]
  · isplitr; · iexact HR
    isplitl [HA0]; · iexact HA0
    isplitl [HM0]; · iexact HM0
    iexact Ht4
  iintro Hc4
  iapply ((plan m).copy defs₀ Variants.none κ c 5 (dst := M1 c) rfl rfl (T1 m c) rfl (View.set_whole _) (set_M1 c) (read_M1 m c c rfl) (BI.Entails.refl _)) $$ [HA1 HM1 Ht5]
  · isplitr; · iexact HR
    isplitl [HA1]; · iexact HA1
    isplitl [HM1]; · iexact HM1
    iexact Ht5
  iintro Hc5
  -- the transfers into its sibling's
  iapply ((plan m).send defs₀ Variants.none κ c (sib c) (dev1_eq c) 0 2 (dst := M0 c) rfl rfl rfl rfl (S := both) (by decide) (T0 m (sib c)) rfl rfl (View.set_whole _) (set_M0 c)
      (read_M0 m (sib c) c (sib_div c)) (BI.Entails.refl _) (pay_sib0 m c)) $$ [HB0 HN0 Ho Ht0 Ht2]
  · isplitr; · iexact HR
    isplitl [HB0]; · iexact HB0
    isplitl [HN0]; · iexact HN0
    isplitl [Ho]; · iexact Ho
    isplitl [Ht0]; · iexact Ht0
    iexact Ht2
  iintro ⟨Hc0, Ho⟩
  iapply ((plan m).send defs₀ Variants.none κ c (sib c) (dev2_eq c) 1 3 (dst := M1 c) rfl rfl rfl rfl (S := both.erase 2) (by decide) (T1 m (sib c)) rfl rfl (View.set_whole _) (set_M1 c)
      (read_M1 m (sib c) c (sib_div c)) (BI.Entails.refl _) (pay_sib1 m c)) $$ [HB1 HN1 Ho Ht1 Ht3]
  · isplitr; · iexact HR
    isplitl [HB1]; · iexact HB1
    isplitl [HN1]; · iexact HN1
    isplitl [Ho]; · iexact Ho
    isplitl [Ht1]; · iexact Ht1
    iexact Ht3
  iintro ⟨Hc1, Ho⟩
  rw [due_done]
  -- the waits
  iapply ((plan m).wp_wait defs₀ Variants.none κ c 0 rfl (wpE_waitDma2_eq Variants.none (c : Thread nD τ) none Set.univ) rfl) $$ [Hc0 Ho Hp0]
  · isplitr; · iexact HR
    isplitl [Hc0]; · iexact Hc0
    isplitl [Ho]; · iexact Ho
    iexact Hp0
  iintro ⟨Ho, Hd0, Hy0⟩
  iapply ((plan m).wp_wait defs₀ Variants.none κ c 2 rfl (wpE_waitDma2_eq Variants.none (c : Thread nD τ) none Set.univ) rfl) $$ [Hc2 Ho Hp2]
  · isplitr; · iexact HR
    isplitl [Hc2]; · iexact Hc2
    isplitl [Ho]; · iexact Ho
    iexact Hp2
  iintro ⟨Ho, Hd2, Hy2⟩
  iapply ((plan m).wp_wait defs₀ Variants.none κ c 1 rfl (wpE_waitDma2_eq Variants.none (c : Thread nD τ) none Set.univ) rfl) $$ [Hc1 Ho Hp1]
  · isplitr; · iexact HR
    isplitl [Hc1]; · iexact Hc1
    isplitl [Ho]; · iexact Ho
    iexact Hp1
  iintro ⟨Ho, Hd1, Hy1⟩
  iapply ((plan m).wp_wait defs₀ Variants.none κ c 3 rfl (wpE_waitDma2_eq Variants.none (c : Thread nD τ) none Set.univ) rfl) $$ [Hc3 Ho Hp3]
  · isplitr; · iexact HR
    isplitl [Hc3]; · iexact Hc3
    isplitl [Ho]; · iexact Ho
    iexact Hp3
  iintro ⟨Ho, Hd3, Hy3⟩
  iapply ((plan m).wp_wait defs₀ Variants.none κ c 4 rfl (wpE_waitDma2_eq Variants.none (c : Thread nD τ) none Set.univ) rfl) $$ [Hc4 Ho Hp4]
  · isplitr; · iexact HR
    isplitl [Hc4]; · iexact Hc4
    isplitl [Ho]; · iexact Ho
    iexact Hp4
  iintro ⟨Ho, Hd4, Hy4⟩
  iapply ((plan m).wp_wait defs₀ Variants.none κ c 5 rfl (wpE_waitDma2_eq Variants.none (c : Thread nD τ) none Set.univ) rfl) $$ [Hc5 Ho Hp5]
  · isplitr; · iexact HR
    isplitl [Hc5]; · iexact Hc5
    isplitl [Ho]; · iexact Ho
    iexact Hp5
  iintro ⟨Ho, Hd5, Hy5⟩
  rw [wp_ret]; imodintro
  iapply Hk
  isplitl [Hd0 Hd1 Hd2 Hd3 Hd4 Hd5]
  · unfold Plan.back
    rw [bigSep_fin6]
    isplitl [Hd0]; · iexact Hd0
    isplitl [Hd1]; · iexact Hd1
    isplitl [Hd2]; · iexact Hd2
    isplitl [Hd3]; · iexact Hd3
    isplitl [Hd4]; · iexact Hd4
    iexact Hd5
  isplitr [Ho]
  · unfold fin
    rw [whole0, whole1]
    ihave Hy0 := (Entails.of_eq (pay_arg0 m c)) $$ Hy0
    ihave Hy1 := (Entails.of_eq (pay_arg1 m c)) $$ Hy1
    ihave Hy2 := (Entails.of_eq (pay_got0 m c)) $$ Hy2
    ihave Hy3 := (Entails.of_eq (pay_got1 m c)) $$ Hy3
    ihave Hy4 := (Entails.of_eq (pay_own0 m c)) $$ Hy4
    icases Hy4 with ⟨Hy4, HA0⟩
    ihave Hy5 := (Entails.of_eq (pay_own1 m c)) $$ Hy5
    icases Hy5 with ⟨Hy5, HA1⟩
    isplitl [HA0 Hy0]
    · iapply (halves Finset.univ fullShare (A0 m c)).2
      isplitl [HA0]; · iexact HA0
      iexact Hy0
    isplitl [HA1 Hy1]
    · iapply (halves Finset.univ fullShare (A1 m c)).2
      isplitl [HA1]; · iexact HA1
      iexact Hy1
    isplitl [Hy4 Hy2]
    · isplitl [Hy4]; · iexact Hy4
      iexact Hy2
    isplitl [Hy5]; · iexact Hy5
    iexact Hy3
  iexact Ho

/-! ## The launch -/

/-- Which slot of which device the launch deals to device `c`: its own slot `c % 2`, then its sibling's. -/
def dealt (x : Dev nD × Fin 2) : Dev nD × Fin 2 := (if x.2 = 0 then x.1 else sib x.1, ⟨x.1.val % 2, by omega⟩)
theorem dealt_bij : Function.Bijective dealt := by decide

theorem deal : (bigSep Finset.univ fun c : Dev nD => Pipeline.unscopedRest (Ix := Unit) (Name := ℕ) (U := UU nD τ sig) (Lvl := ℕ) (cfgs 0).spec c (fun b => m ((c : Thread nD τ).loc b)))
    ⊢ bigSep Finset.univ (start m) := by
  have hv : (fun c : Dev nD => Pipeline.unscopedRest (Ix := Unit) (Name := ℕ) (U := UU nD τ sig) (Lvl := ℕ) (cfgs 0).spec c (fun b => m ((c : Thread nD τ).loc b))) = fun c => _ :=
    funext fun c => unscopedRest0_eq c _
  have h0 := dealt_by (Val := Elt F) (fun d : Dev nD => (d : Thread nD τ).loc main_v1_0) (fun d (x : S2x512x4096.Idx) => (x 0).val) (fun d x => (x 0).isLt)
    (fun d => m ((d : Thread nD τ).loc main_v1_0)) dealt dealt_bij
  have h1 := dealt_by (Val := Elt F) (fun d : Dev nD => (d : Thread nD τ).loc main_v1_1) (fun d (x : S2x928x1024.Idx) => (x 0).val) (fun d x => (x 0).isLt)
    (fun d => m ((d : Thread nD τ).loc main_v1_1)) dealt dealt_bij
  rw [hv, show (start m : Dev nD → sProp 𝕄) = fun c => start m c from rfl]
  unfold start
  simp only [bigSep_sep', h0, h1]
  simp only [bigSep_fin2, bigSep_sep']
  exact Entails.of_eq rfl

theorem ownSemFacts : Pipeline.OwnSemFacts (cfgs 0).spec (plan m).osem := by
  show Pipeline.OwnSemFacts cfg0.spec osem
  decide

/-- The run: every device ends with its chip's arguments in its results, its arguments unchanged, and every semaphore at
    zero. -/
theorem run_main (g : Dev nD → PrngReg) :
    θ_run (Cert.HalfIdeal.defs (F := F)) (onTc (τ := τ) main) ⟨m, fun _ => 0, g⟩ (fun r =>
      (∀ c : Dev nD, r.2.mem ((c : Thread nD τ).loc main_arg0) = A0 m c ∧ r.2.mem ((c : Thread nD τ).loc main_arg1) = A1 m c
        ∧ r.2.mem ((c : Thread nD τ).loc main_v1_0) = T0 m c ∧ r.2.mem ((c : Thread nD τ).loc main_v1_1) = T1 m c) ∧ r.2.sem = fun _ => 0) := by
  refine run_exchange (plan m) cfgs defs₀ (fun p => by fin_cases p; exact inferInstanceAs (IsEmpty (Fin 0))) N_0 cellOf_inj winFacts0 (ownSemFacts m) (start m) (fin m)
    (fun c κ t Kt => sound_body m c κ Kt) (by decide) m g main (fun _ => rfl) (deal m)
    (fun c mem => mem.mem ((c : Thread nD τ).loc main_arg0) = A0 m c ∧ mem.mem ((c : Thread nD τ).loc main_arg1) = A1 m c
        ∧ mem.mem ((c : Thread nD τ).loc main_v1_0) = T0 m c ∧ mem.mem ((c : Thread nD τ).loc main_v1_1) = T1 m c) fun c s' => ?_
  unfold fin
  iintro ⟨⟨H0, H1, H2, H3⟩, HSI⟩
  ihave H := (read_one (A0 m c) s') $$ [H0 HSI]
  · isplitl [H0] <;> iassumption
  icases H with ⟨%e0, HSI⟩
  ihave H := (read_one (A1 m c) s') $$ [H1 HSI]
  · isplitl [H1] <;> iassumption
  icases H with ⟨%e1, HSI⟩
  ihave H := (read_one (T0 m c) s') $$ [H2 HSI]
  · isplitl [H2] <;> iassumption
  icases H with ⟨%e2, HSI⟩
  ihave H := (read_one (T1 m c) s') $$ [H3 HSI]
  · isplitl [H3] <;> iassumption
  icases H with ⟨%e3, HSI⟩
  imodintro
  isplitr
  · ipureintro; exact ⟨e0, e1, e2, e3⟩
  iexact HSI

end Cert.HalfIdeal.Run

end
-- ==== Proof.HalfValue.lean ====
/-
# The exchange between the two cores of a chip: its results are the whole arguments' rows, chip by chip
-/
module

public import proofs.«01_k».proof.Defs
public import proofs.«01_k».proof.Proof.HalfRun
public import proofs.«01_k».proof.Proof.Gen.Half
public import proofs.«01_k».proof.Proof.Gen.HalfReference
public import proofs.«01_k».proof.Proof.Gen.HalfReferenceIdeal.Run
public import Idealize.ShloMosaic.Lib.Pipeline.Value

@[expose] public section

noncomputable section

namespace Cert.HalfIdeal.Run

open Cert.HalfIdeal Cert.Exchange
open Idealize.ShloMosaic Idealize.ShloMosaic.TcCoe Idealize.SL.Sem

variable {F : FTy → Type} [FloatOps F]

/-- Device `c` is on chip `c / 2`: its coordinates on `x` and `y`, major first. -/
theorem chip_lin (c : Dev nD) : Layout.meshLin [2, 2, 2] c.val [0, 1] = c.val / 2 := by
  have := c.isLt
  simp only [nD] at this
  simp only [Layout.meshLin, Layout.meshCoord, Layout.cutSize, List.drop, List.foldr, List.getD_cons_zero, List.getD_cons_succ]
  omega

theorem rows0 (X : Cert.HalfReferenceIdeal.S4096x4096.Idx → Elt F .f32) (m : (ℓ : Loc nD τ sig) → Buf (Elt F) ℓ)
    (h : ∀ d : Dev nD, m ((d : Thread nD τ).loc main_arg0) = Layout.block ⟨2, ![512, 4096]⟩ ⟨2, ![4096, 4096]⟩ 0 8 d X) (c : Dev nD) :
    T0 m c = Layout.blockN ⟨3, ![2, 512, 4096]⟩ ⟨3, ![8, 512, 4096]⟩ (Layout.meshBlock [2, 2, 2] ![[0, 1], [], []] c)
      (shapeCast Cert.HalfReferenceIdeal.S8x512x4096 X Cert.HalfReferenceIdeal.Gen.shapeCasts_S4096x4096_S8x512x4096) := by
  funext x
  show m _ _ = _
  rw [h, Layout.block_apply, Layout.blockN_apply]
  refine (shapeCast_apply X _ _ _ ?_).symm
  refine (Shape.rowMajor_val_two (d := ![4096, 4096]) _).trans (Eq.trans ?_ (Shape.rowMajor_val_three (d := ![8, 512, 4096]) _).symm)
  show ((2 * (c.val / 2) + (x 0).val) * 512 + (x 1).val) * 4096 + (x 2).val
    = ((Layout.meshLin [2, 2, 2] c.val [0, 1] * 2 + (x 0).val) * 512 + (0 * 512 + (x 1).val)) * 4096 + (0 * 4096 + (x 2).val)
  rw [chip_lin]; omega

theorem rows1 (X : Cert.HalfReferenceIdeal.S7424x1024.Idx → Elt F .f32) (m : (ℓ : Loc nD τ sig) → Buf (Elt F) ℓ)
    (h : ∀ d : Dev nD, m ((d : Thread nD τ).loc main_arg1) = Layout.block ⟨2, ![928, 1024]⟩ ⟨2, ![7424, 1024]⟩ 0 8 d X) (c : Dev nD) :
    T1 m c = Layout.blockN ⟨3, ![2, 928, 1024]⟩ ⟨3, ![8, 928, 1024]⟩ (Layout.meshBlock [2, 2, 2] ![[0, 1], [], []] c)
      (shapeCast Cert.HalfReferenceIdeal.S8x928x1024 X Cert.HalfReferenceIdeal.Gen.shapeCasts_S7424x1024_S8x928x1024) := by
  funext x
  show m _ _ = _
  rw [h, Layout.block_apply, Layout.blockN_apply]
  refine (shapeCast_apply X _ _ _ ?_).symm
  refine (Shape.rowMajor_val_two (d := ![7424, 1024]) _).trans (Eq.trans ?_ (Shape.rowMajor_val_three (d := ![8, 928, 1024]) _).symm)
  show ((2 * (c.val / 2) + (x 0).val) * 928 + (x 1).val) * 1024 + (x 2).val
    = ((Layout.meshLin [2, 2, 2] c.val [0, 1] * 2 + (x 0).val) * 928 + (0 * 928 + (x 1).val)) * 1024 + (0 * 1024 + (x 2).val)
  rw [chip_lin]; omega

theorem frame_half : Cert.quiescent_Half := fun m g _ =>
  (θ_run Cert.HalfIdeal.defs _ _).mono (fun _ h => ⟨fun c => ⟨(h.1 c).1, (h.1 c).2.1⟩, h.2⟩) (run_main (F := Bits) m g)
theorem frame_half_ideal : Cert.quiescent_HalfIdeal := fun m g _ =>
  (θ_run Cert.HalfIdeal.defs _ _).mono (fun _ h => ⟨fun c => ⟨(h.1 c).1, (h.1 c).2.1⟩, h.2⟩) (run_main (F := Ideal) m g)

theorem frame_half_reference : Cert.quiescent_HalfReference := fun m g _ =>
  (θ_run Cert.HalfReferenceIdeal.defs _ _).mono (fun r h => ⟨fun c => (h c).2.2, sem_eq_zero_of_no_sems (by decide) r.2⟩)
    (Cert.HalfReferenceIdeal.Value.run (F := Bits) m g)
theorem frame_half_reference_ideal : Cert.quiescent_HalfReferenceIdeal := fun m g _ =>
  (θ_run Cert.HalfReferenceIdeal.defs _ _).mono (fun r h => ⟨fun c => (h c).2.2, sem_eq_zero_of_no_sems (by decide) r.2⟩)
    (Cert.HalfReferenceIdeal.Value.run (F := Ideal) m g)

theorem algebraic_half : Cert.algebraic_HalfIdeal_HalfReferenceIdeal := by
  intro m g m' g' _ hag
  refine ⟨_, _, ?_, (θ_run Cert.HalfReferenceIdeal.defs _ _).mono (fun r h => h 0) (Cert.HalfReferenceIdeal.Value.run (F := Ideal) m' g')⟩
  refine (θ_run Cert.HalfIdeal.defs _ _).mono (fun r h c => ⟨?_, ?_, (h.1 c).1, (h.1 c).2.1⟩) (run_main (F := Ideal) m g)
  · exact (h.1 c).2.2.1.trans (rows0 (F := Ideal) _ m (fun d => (hag d).1) c)
  · exact (h.1 c).2.2.2.trans (rows1 (F := Ideal) _ m (fun d => (hag d).2) c)

theorem bitexact_half : Cert.bitexact_Half_HalfReference := by
  intro m g m' g' _ hag
  refine ⟨_, _, ?_, (θ_run Cert.HalfReferenceIdeal.defs _ _).mono (fun r h => h 0) (Cert.HalfReferenceIdeal.Value.run (F := Bits) m' g')⟩
  refine (θ_run Cert.HalfIdeal.defs _ _).mono (fun r h c => ⟨?_, ?_, (h.1 c).1, (h.1 c).2.1⟩) (run_main (F := Bits) m g)
  · exact (h.1 c).2.2.1.trans (rows0 (F := Bits) _ m (fun d => (hag d).1) c)
  · exact (h.1 c).2.2.2.trans (rows1 (F := Bits) _ m (fun d => (hag d).2) c)

end Cert.HalfIdeal.Run

end
-- ==== Proof.GatherRun.lean ====
/-
# The gather of the weight shards over the four chips

Device `c` copies its two arguments into slot `c / 2` of its own results and into slot `c / 2` of the results of the three
devices of its core on the other chips. The launch deals device `c` exactly these slots, on the four devices.
-/
module

public import proofs.«01_k».proof.Proof.Slots
public import proofs.«01_k».proof.Proof.Gen.GatherIdeal.Skeleton
public import proofs.«01_k».proof.Proof.Gen.GatherIdeal.Launch

@[expose] public section

noncomputable section

namespace Cert.GatherIdeal.Run

open Cert.GatherIdeal Cert.GatherIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Devices -/

/-- The device of the same core on the chip across `x`, across `y`, across both. -/
def far (k : Fin 3) (c : Dev nD) : Dev nD :=
  ⟨match k with | 0 => (c.val + 4) % 8 | 1 => 4 * (c.val / 4) + (c.val + 2) % 4 | 2 => (4 * (c.val / 4) + (c.val + 2) % 4 + 4) % 8, by
    have := c.isLt; simp only [nD] at *; fin_cases k <;> (dsimp only; omega)⟩
theorem far_far (k : Fin 3) (c : Dev nD) : far k (far k c) = c := by revert k c; decide
theorem far_mod (k : Fin 3) (c : Dev nD) : (far k c).val % 2 = c.val % 2 := by revert k c; decide
theorem dev1_eq (c : Dev nD) : (⟨k0_dev1 c, k0_dev1_lt c⟩ : Dev nD) = far 0 c := Fin.ext ((k0_dev1_eq c).trans (by revert c; decide))
theorem dev2_eq (c : Dev nD) : (⟨k0_dev2 c, k0_dev2_lt c⟩ : Dev nD) = far 0 c := Fin.ext ((k0_dev2_eq c).trans (by revert c; decide))
theorem dev3_eq (c : Dev nD) : (⟨k0_dev3 c, k0_dev3_lt c⟩ : Dev nD) = far 1 c := Fin.ext ((k0_dev3_eq c).trans (by revert c; decide))
theorem dev4_eq (c : Dev nD) : (⟨k0_dev4 c, k0_dev4_lt c⟩ : Dev nD) = far 1 c := Fin.ext ((k0_dev4_eq c).trans (by revert c; decide))
theorem dev5_eq (c : Dev nD) : (⟨k0_dev5 c, k0_dev5_lt c⟩ : Dev nD) = far 2 c := Fin.ext ((k0_dev5_eq c).trans (by revert c; decide))
theorem dev6_eq (c : Dev nD) : (⟨k0_dev6 c, k0_dev6_lt c⟩ : Dev nD) = far 2 c := Fin.ext ((k0_dev6_eq c).trans (by revert c; decide))
/-- The device of the same core on chip `j`. -/
def onChip (c : Dev nD) (j : ℕ) (hj : j < 4) : Dev nD := ⟨2 * j + c.val % 2, by simp only [nD]; omega⟩

/-! ## Contents -/

variable (m : (ℓ : Loc nD τ sig) → Buf (Elt F) ℓ)

abbrev A0 (c : Dev nD) : Buf (Elt F) ((c : Thread nD τ).loc main_arg0) := m ((c : Thread nD τ).loc main_arg0)
abbrev A1 (c : Dev nD) : Buf (Elt F) ((c : Thread nD τ).loc main_arg1) := m ((c : Thread nD τ).loc main_arg1)
/-- What the results end at: slot `j` is the argument on chip `j`. -/
def T0 (c : Dev nD) : Buf (Elt F) ((c : Thread nD τ).loc main_v1_0) := fun x : S4x1024x4096.Idx => A0 m (onChip c (x 0).val (x 0).isLt) (tail (t := ![1024, 4096]) x)
def T1 (c : Dev nD) : Buf (Elt F) ((c : Thread nD τ).loc main_v1_1) := fun x : S4x1856x1024.Idx => A1 m (onChip c (x 0).val (x 0).isLt) (tail (t := ![1856, 1024]) x)

/-! ## Slots -/

def slot0 (k : ℕ) : Finset S4x1024x4096.Idx := Finset.univ.filter fun x => (x 0).val = k
abbrev M0 (d : Dev nD) : Memref sig .tc .hbm S1024x4096 .bf16 :=
  ((Memref.whole main_v1_0 : Memref sig .tc .hbm S4x1024x4096 .bf16).slice (Rect.unit (s := S4x1024x4096) (k0_off1 d) S1x1024x4096.size (k0_off1_inb d)) (fun _ => rfl)).squeeze S1024x4096 squeezes_S1x1024x4096_S1024x4096
theorem off1_0 (d : Dev nD) : k0_off1 d 0 = d.val / 2 := by
  rw [k0_off1_eq]; show 2 * (d.val / 4) + d.val / 2 % 2 = d.val / 2; omega
theorem off1_s (d : Dev nD) (a : Fin 2) : k0_off1 d a.succ = 0 := by rw [k0_off1_eq]; fin_cases a <;> rfl
theorem set_M0 (d : Dev nD) : (M0 d).view.set = slot0 (d.val / 2) :=
  (set_slot (n := 4) (t := ![1024, 4096]) (Memref.whole main_v1_0 : Memref sig .tc .hbm S4x1024x4096 .bf16) (k0_off1 d) (k0_off1_inb d) (fun _ => rfl) squeezes_S1x1024x4096_S1024x4096
    _ (off1_0 d) (off1_s d)).trans (Finset.map_refl)
/-- Slot `d / 2` of the results of a device of `d`'s core ends at `d`'s argument. -/
theorem read_M0 (c d : Dev nD) (h : c.val % 2 = d.val % 2) : (M0 d).view.read (Elt F) (T0 m c) = (Memref.whole main_arg0 : Memref sig .tc .hbm S1024x4096 .bf16).view.read (Elt F) (A0 m d) := by
  funext j
  obtain ⟨x, hx, h1, h2⟩ := read_slot (n := 4) (t := ![1024, 4096]) (Memref.whole main_v1_0 : Memref sig .tc .hbm S4x1024x4096 .bf16) (k0_off1 d) (k0_off1_inb d) (fun _ => rfl) squeezes_S1x1024x4096_S1024x4096
    _ (off1_0 d) (off1_s d) (T0 m c) j
  refine hx.trans ?_
  show A0 m (onChip c (x 0).val (x 0).isLt) (tail (t := ![1024, 4096]) x) = A0 m d j
  rw [h2, show onChip c (x 0).val (x 0).isLt = d from Fin.ext (by show 2 * (x 0).val + c.val % 2 = d.val; omega)]

def slot1 (k : ℕ) : Finset S4x1856x1024.Idx := Finset.univ.filter fun x => (x 0).val = k
abbrev M1 (d : Dev nD) : Memref sig .tc .hbm S1856x1024 .bf16 :=
  ((Memref.whole main_v1_1 : Memref sig .tc .hbm S4x1856x1024 .bf16).slice (Rect.unit (s := S4x1856x1024) (k0_off2 d) S1x1856x1024.size (k0_off2_inb d)) (fun _ => rfl)).squeeze S1856x1024 squeezes_S1x1856x1024_S1856x1024
theorem off2_0 (d : Dev nD) : k0_off2 d 0 = d.val / 2 := by
  rw [k0_off2_eq]; show 2 * (d.val / 4) + d.val / 2 % 2 = d.val / 2; omega
theorem off2_s (d : Dev nD) (a : Fin 2) : k0_off2 d a.succ = 0 := by rw [k0_off2_eq]; fin_cases a <;> rfl
theorem set_M1 (d : Dev nD) : (M1 d).view.set = slot1 (d.val / 2) :=
  (set_slot (n := 4) (t := ![1856, 1024]) (Memref.whole main_v1_1 : Memref sig .tc .hbm S4x1856x1024 .bf16) (k0_off2 d) (k0_off2_inb d) (fun _ => rfl) squeezes_S1x1856x1024_S1856x1024
    _ (off2_0 d) (off2_s d)).trans (Finset.map_refl)
/-- Slot `d / 2` of the results of a device of `d`'s core ends at `d`'s argument. -/
theorem read_M1 (c d : Dev nD) (h : c.val % 2 = d.val % 2) : (M1 d).view.read (Elt F) (T1 m c) = (Memref.whole main_arg1 : Memref sig .tc .hbm S1856x1024 .bf16).view.read (Elt F) (A1 m d) := by
  funext j
  obtain ⟨x, hx, h1, h2⟩ := read_slot (n := 4) (t := ![1856, 1024]) (Memref.whole main_v1_1 : Memref sig .tc .hbm S4x1856x1024 .bf16) (k0_off2 d) (k0_off2_inb d) (fun _ => rfl) squeezes_S1x1856x1024_S1856x1024
    _ (off2_0 d) (off2_s d) (T1 m c) j
  refine hx.trans ?_
  show A1 m (onChip c (x 0).val (x 0).isLt) (tail (t := ![1856, 1024]) x) = A1 m d j
  rw [h2, show onChip c (x 0).val (x 0).isLt = d from Fin.ext (by show 2 * (x 0).val + c.val % 2 = d.val; omega)]

/-! ## The plan -/

abbrev N0 : ℕ := (Memref.whole main_arg0 : Memref sig .tc .hbm S1024x4096 .bf16).view.dmaCredit
abbrev N1 : ℕ := (Memref.whole main_arg1 : Memref sig .tc .hbm S1856x1024 .bf16).view.dmaCredit

abbrev osem : Fin 14 → SemLoc sig
  | 0 => .dma ((cc0_scratch0.slice (Rect.unit (s := S6) ![0] S1.size inb_S6_S1_0)).squeeze S_ squeezes_S1_S_).sem
  | 1 => .dma ((cc0_scratch0.slice (Rect.unit (s := S6) ![1] S1.size inb_S6_S1_1)).squeeze S_ squeezes_S1_S_).sem
  | 2 => .dma ((cc0_scratch0.slice (Rect.unit (s := S6) ![2] S1.size inb_S6_S1_2)).squeeze S_ squeezes_S1_S_).sem
  | 3 => .dma ((cc0_scratch0.slice (Rect.unit (s := S6) ![3] S1.size inb_S6_S1_3)).squeeze S_ squeezes_S1_S_).sem
  | 4 => .dma ((cc0_scratch0.slice (Rect.unit (s := S6) ![4] S1.size inb_S6_S1_4)).squeeze S_ squeezes_S1_S_).sem
  | 5 => .dma ((cc0_scratch0.slice (Rect.unit (s := S6) ![5] S1.size inb_S6_S1_5)).squeeze S_ squeezes_S1_S_).sem
  | 6 => .dma ((cc0_scratch1.slice (Rect.unit (s := S6) ![0] S1.size inb_S6_S1_0)).squeeze S_ squeezes_S1_S_).sem
  | 7 => .dma ((cc0_scratch1.slice (Rect.unit (s := S6) ![1] S1.size inb_S6_S1_1)).squeeze S_ squeezes_S1_S_).sem
  | 8 => .dma ((cc0_scratch1.slice (Rect.unit (s := S6) ![2] S1.size inb_S6_S1_2)).squeeze S_ squeezes_S1_S_).sem
  | 9 => .dma ((cc0_scratch1.slice (Rect.unit (s := S6) ![3] S1.size inb_S6_S1_3)).squeeze S_ squeezes_S1_S_).sem
  | 10 => .dma ((cc0_scratch1.slice (Rect.unit (s := S6) ![4] S1.size inb_S6_S1_4)).squeeze S_ squeezes_S1_S_).sem
  | 11 => .dma ((cc0_scratch1.slice (Rect.unit (s := S6) ![5] S1.size inb_S6_S1_5)).squeeze S_ squeezes_S1_S_).sem
  | 12 => .dma ((cc0_scratch2.slice (Rect.unit (s := S2) ![0] S1.size inb_S2_S1_0)).squeeze S_ squeezes_S1_S_).sem
  | 13 => .dma ((cc0_scratch2.slice (Rect.unit (s := S2) ![1] S1.size inb_S2_S1_1)).squeeze S_ squeezes_S1_S_).sem

/-- An argument's four shares: for its own copy, for the three transfers. -/
abbrev q0 : PosShare TreeShare := fullShare.left.left
abbrev q1 : PosShare TreeShare := fullShare.left.right
abbrev q2 : PosShare TreeShare := fullShare.right.left
abbrev q3 : PosShare TreeShare := fullShare.right.right

def pay (c : Dev nD) : Fin 14 → sProp 𝕄
  | 0 => ((c : Thread nD τ).loc main_arg0) ↦{q1} A0 m c
  | 1 => ((c : Thread nD τ).loc main_arg1) ↦{q1} A1 m c
  | 2 => ((c : Thread nD τ).loc main_arg0) ↦{q2} A0 m c
  | 3 => ((c : Thread nD τ).loc main_arg1) ↦{q2} A1 m c
  | 4 => ((c : Thread nD τ).loc main_arg0) ↦{q3} A0 m c
  | 5 => ((c : Thread nD τ).loc main_arg1) ↦{q3} A1 m c
  | 6 => ((c : Thread nD τ).loc main_v1_0) ↦[slot0 ((far 0 c).val / 2)]{fullShare} T0 m c
  | 7 => ((c : Thread nD τ).loc main_v1_1) ↦[slot1 ((far 0 c).val / 2)]{fullShare} T1 m c
  | 8 => ((c : Thread nD τ).loc main_v1_0) ↦[slot0 ((far 1 c).val / 2)]{fullShare} T0 m c
  | 9 => ((c : Thread nD τ).loc main_v1_1) ↦[slot1 ((far 1 c).val / 2)]{fullShare} T1 m c
  | 10 => ((c : Thread nD τ).loc main_v1_0) ↦[slot0 ((far 2 c).val / 2)]{fullShare} T0 m c
  | 11 => ((c : Thread nD τ).loc main_v1_1) ↦[slot1 ((far 2 c).val / 2)]{fullShare} T1 m c
  | 12 => iprop((((c : Thread nD τ).loc main_v1_0) ↦[slot0 (c.val / 2)]{fullShare} T0 m c) ∗ ((c : Thread nD τ).loc main_arg0) ↦{q0} A0 m c)
  | 13 => iprop((((c : Thread nD τ).loc main_v1_1) ↦[slot1 (c.val / 2)]{fullShare} T1 m c) ∗ ((c : Thread nD τ).loc main_arg1) ↦{q0} A1 m c)

def payer (k : Fin 14) (c : Dev nD) : Dev nD :=
  if k = 6 ∨ k = 7 then far 0 c else if k = 8 ∨ k = 9 then far 1 c else if k = 10 ∨ k = 11 then far 2 c else c

/-- The semaphores the other chips pay. -/
abbrev six : Finset (Fin 14) := {6, 7, 8, 9, 10, 11}

def plan : Plan nD τ sig (Elt F) (Fin 14) where
  osem := osem
  inj := by decide
  amt k := if k.val % 2 = 0 then N0 else N1
  amt_pos k := by split; exacts [View.dmaCredit_pos _ (by decide), View.dmaCredit_pos _ (by decide)]
  pay := pay m
  storable c k := by fin_cases k <;> (dsimp only [pay]; infer_instance)
  payer := payer
  payer_payer k c := by revert k c; decide
  remote := six

/-! ## One device's run -/

/-- What the launch deals device `c`: its arguments, slot `c / 2` of its own results and of the other chips'. -/
def start (c : Dev nD) : sProp 𝕄 :=
  iprop((((c : Thread nD τ).loc main_arg0) ↦{fullShare} A0 m c) ∗ (((c : Thread nD τ).loc main_arg1) ↦{fullShare} A1 m c)
    ∗ ((((c : Thread nD τ).loc main_v1_0) ↦[slot0 (c.val / 2)]{fullShare} m ((c : Thread nD τ).loc main_v1_0))
      ∗ (((far 0 c : Thread nD τ).loc main_v1_0) ↦[slot0 (c.val / 2)]{fullShare} m ((far 0 c : Thread nD τ).loc main_v1_0))
      ∗ (((far 1 c : Thread nD τ).loc main_v1_0) ↦[slot0 (c.val / 2)]{fullShare} m ((far 1 c : Thread nD τ).loc main_v1_0))
      ∗ (((far 2 c : Thread nD τ).loc main_v1_0) ↦[slot0 (c.val / 2)]{fullShare} m ((far 2 c : Thread nD τ).loc main_v1_0)))
    ∗ ((((c : Thread nD τ).loc main_v1_1) ↦[slot1 (c.val / 2)]{fullShare} m ((c : Thread nD τ).loc main_v1_1))
      ∗ (((far 0 c : Thread nD τ).loc main_v1_1) ↦[slot1 (c.val / 2)]{fullShare} m ((far 0 c : Thread nD τ).loc main_v1_1))
      ∗ (((far 1 c : Thread nD τ).loc main_v1_1) ↦[slot1 (c.val / 2)]{fullShare} m ((far 1 c : Thread nD τ).loc main_v1_1))
      ∗ (((far 2 c : Thread nD τ).loc main_v1_1) ↦[slot1 (c.val / 2)]{fullShare} m ((far 2 c : Thread nD τ).loc main_v1_1))))

/-- What device `c` ends with. -/
def fin (c : Dev nD) : sProp 𝕄 :=
  iprop((((c : Thread nD τ).loc main_arg0) ↦{fullShare} A0 m c) ∗ (((c : Thread nD τ).loc main_arg1) ↦{fullShare} A1 m c)
    ∗ (((c : Thread nD τ).loc main_v1_0) ↦{fullShare} T0 m c) ∗ (((c : Thread nD τ).loc main_v1_1) ↦{fullShare} T1 m c))

/-- The chips, a device's own first. -/
def order (c : Dev nD) (i : Fin 4) : Fin 4 := match i with
  | 0 => ⟨c.val / 2, by have := c.isLt; simp only [nD] at this; omega⟩
  | 1 => ⟨(far 0 c).val / 2, by have := (far 0 c).isLt; simp only [nD] at this; omega⟩
  | 2 => ⟨(far 1 c).val / 2, by have := (far 1 c).isLt; simp only [nD] at this; omega⟩
  | 3 => ⟨(far 2 c).val / 2, by have := (far 2 c).isLt; simp only [nD] at this; omega⟩
theorem order_bij (c : Dev nD) : Function.Bijective (order c) := by revert c; decide

theorem whole0 (c : Dev nD) (f : Buf (Elt F) ((c : Thread nD τ).loc main_v1_0)) : (((c : Thread nD τ).loc main_v1_0) ↦{fullShare} f : sProp 𝕄)
    = iprop((((c : Thread nD τ).loc main_v1_0) ↦[slot0 (c.val / 2)]{fullShare} f) ∗ (((c : Thread nD τ).loc main_v1_0) ↦[slot0 ((far 0 c).val / 2)]{fullShare} f) ∗ (((c : Thread nD τ).loc main_v1_0) ↦[slot0 ((far 1 c).val / 2)]{fullShare} f) ∗ (((c : Thread nD τ).loc main_v1_0) ↦[slot0 ((far 2 c).val / 2)]{fullShare} f)) := by
  rw [pointsTo_by (n := 4) (fun x : S4x1024x4096.Idx => (x 0).val) (fun x => (x 0).isLt), reorder (order c) (order_bij c), bigSep_fin4]; rfl
theorem whole1 (c : Dev nD) (f : Buf (Elt F) ((c : Thread nD τ).loc main_v1_1)) : (((c : Thread nD τ).loc main_v1_1) ↦{fullShare} f : sProp 𝕄)
    = iprop((((c : Thread nD τ).loc main_v1_1) ↦[slot1 (c.val / 2)]{fullShare} f) ∗ (((c : Thread nD τ).loc main_v1_1) ↦[slot1 ((far 0 c).val / 2)]{fullShare} f) ∗ (((c : Thread nD τ).loc main_v1_1) ↦[slot1 ((far 1 c).val / 2)]{fullShare} f) ∗ (((c : Thread nD τ).loc main_v1_1) ↦[slot1 ((far 2 c).val / 2)]{fullShare} f)) := by
  rw [pointsTo_by (n := 4) (fun x : S4x1856x1024.Idx => (x 0).val) (fun x => (x 0).isLt), reorder (order c) (order_bij c), bigSep_fin4]; rfl

theorem due_eq (c : Dev nD) : (plan m).due c = (plan m).dueOn c six := rfl
theorem due_done (c : Dev nD) : (plan m).dueOn c ((((((six.erase 6).erase 7).erase 8).erase 9).erase 10).erase 11) = 0 := by
  rw [show (((((six.erase 6).erase 7).erase 8).erase 9).erase 10).erase 11 = ∅ by decide, Plan.dueOn_empty]

/-- What a device pays another chip's. -/
theorem pay_far6 (c : Dev nD) : (((far 0 c : Thread nD τ).loc main_v1_0) ↦[slot0 (c.val / 2)]{fullShare} T0 m (far 0 c) : sProp 𝕄) ⊢ (plan m).pay (far 0 c) 6 := by
  refine BI.Entails.trans ?_ (BI.Entails.refl (((far 0 c : Thread nD τ).loc main_v1_0) ↦[slot0 ((far 0 (far 0 c)).val / 2)]{fullShare} T0 m (far 0 c) : sProp 𝕄))
  rw [far_far]; exact BI.Entails.refl _
theorem pay_far7 (c : Dev nD) : (((far 0 c : Thread nD τ).loc main_v1_1) ↦[slot1 (c.val / 2)]{fullShare} T1 m (far 0 c) : sProp 𝕄) ⊢ (plan m).pay (far 0 c) 7 := by
  refine BI.Entails.trans ?_ (BI.Entails.refl (((far 0 c : Thread nD τ).loc main_v1_1) ↦[slot1 ((far 0 (far 0 c)).val / 2)]{fullShare} T1 m (far 0 c) : sProp 𝕄))
  rw [far_far]; exact BI.Entails.refl _
theorem pay_far8 (c : Dev nD) : (((far 1 c : Thread nD τ).loc main_v1_0) ↦[slot0 (c.val / 2)]{fullShare} T0 m (far 1 c) : sProp 𝕄) ⊢ (plan m).pay (far 1 c) 8 := by
  refine BI.Entails.trans ?_ (BI.Entails.refl (((far 1 c : Thread nD τ).loc main_v1_0) ↦[slot0 ((far 1 (far 1 c)).val / 2)]{fullShare} T0 m (far 1 c) : sProp 𝕄))
  rw [far_far]; exact BI.Entails.refl _
theorem pay_far9 (c : Dev nD) : (((far 1 c : Thread nD τ).loc main_v1_1) ↦[slot1 (c.val / 2)]{fullShare} T1 m (far 1 c) : sProp 𝕄) ⊢ (plan m).pay (far 1 c) 9 := by
  refine BI.Entails.trans ?_ (BI.Entails.refl (((far 1 c : Thread nD τ).loc main_v1_1) ↦[slot1 ((far 1 (far 1 c)).val / 2)]{fullShare} T1 m (far 1 c) : sProp 𝕄))
  rw [far_far]; exact BI.Entails.refl _
theorem pay_far10 (c : Dev nD) : (((far 2 c : Thread nD τ).loc main_v1_0) ↦[slot0 (c.val / 2)]{fullShare} T0 m (far 2 c) : sProp 𝕄) ⊢ (plan m).pay (far 2 c) 10 := by
  refine BI.Entails.trans ?_ (BI.Entails.refl (((far 2 c : Thread nD τ).loc main_v1_0) ↦[slot0 ((far 2 (far 2 c)).val / 2)]{fullShare} T0 m (far 2 c) : sProp 𝕄))
  rw [far_far]; exact BI.Entails.refl _
theorem pay_far11 (c : Dev nD) : (((far 2 c : Thread nD τ).loc main_v1_1) ↦[slot1 (c.val / 2)]{fullShare} T1 m (far 2 c) : sProp 𝕄) ⊢ (plan m).pay (far 2 c) 11 := by
  refine BI.Entails.trans ?_ (BI.Entails.refl (((far 2 c : Thread nD τ).loc main_v1_1) ↦[slot1 ((far 2 (far 2 c)).val / 2)]{fullShare} T1 m (far 2 c) : sProp 𝕄))
  rw [far_far]; exact BI.Entails.refl _

theorem pay_0 (c : Dev nD) : (plan m).pay c 0 = (((c : Thread nD τ).loc main_arg0) ↦{q1} A0 m c : sProp 𝕄) := rfl
theorem pay_1 (c : Dev nD) : (plan m).pay c 1 = (((c : Thread nD τ).loc main_arg1) ↦{q1} A1 m c : sProp 𝕄) := rfl
theorem pay_2 (c : Dev nD) : (plan m).pay c 2 = (((c : Thread nD τ).loc main_arg0) ↦{q2} A0 m c : sProp 𝕄) := rfl
theorem pay_3 (c : Dev nD) : (plan m).pay c 3 = (((c : Thread nD τ).loc main_arg1) ↦{q2} A1 m c : sProp 𝕄) := rfl
theorem pay_4 (c : Dev nD) : (plan m).pay c 4 = (((c : Thread nD τ).loc main_arg0) ↦{q3} A0 m c : sProp 𝕄) := rfl
theorem pay_5 (c : Dev nD) : (plan m).pay c 5 = (((c : Thread nD τ).loc main_arg1) ↦{q3} A1 m c : sProp 𝕄) := rfl
theorem pay_6 (c : Dev nD) : (plan m).pay c 6 = (((c : Thread nD τ).loc main_v1_0) ↦[slot0 ((far 0 c).val / 2)]{fullShare} T0 m c : sProp 𝕄) := rfl
theorem pay_7 (c : Dev nD) : (plan m).pay c 7 = (((c : Thread nD τ).loc main_v1_1) ↦[slot1 ((far 0 c).val / 2)]{fullShare} T1 m c : sProp 𝕄) := rfl
theorem pay_8 (c : Dev nD) : (plan m).pay c 8 = (((c : Thread nD τ).loc main_v1_0) ↦[slot0 ((far 1 c).val / 2)]{fullShare} T0 m c : sProp 𝕄) := rfl
theorem pay_9 (c : Dev nD) : (plan m).pay c 9 = (((c : Thread nD τ).loc main_v1_1) ↦[slot1 ((far 1 c).val / 2)]{fullShare} T1 m c : sProp 𝕄) := rfl
theorem pay_10 (c : Dev nD) : (plan m).pay c 10 = (((c : Thread nD τ).loc main_v1_0) ↦[slot0 ((far 2 c).val / 2)]{fullShare} T0 m c : sProp 𝕄) := rfl
theorem pay_11 (c : Dev nD) : (plan m).pay c 11 = (((c : Thread nD τ).loc main_v1_1) ↦[slot1 ((far 2 c).val / 2)]{fullShare} T1 m c : sProp 𝕄) := rfl
theorem pay_12 (c : Dev nD) : (plan m).pay c 12 = iprop((((c : Thread nD τ).loc main_v1_0) ↦[slot0 (c.val / 2)]{fullShare} T0 m c) ∗ ((c : Thread nD τ).loc main_arg0) ↦{q0} A0 m c) := rfl
theorem pay_13 (c : Dev nD) : (plan m).pay c 13 = iprop((((c : Thread nD τ).loc main_v1_1) ↦[slot1 (c.val / 2)]{fullShare} T1 m c) ∗ ((c : Thread nD τ).loc main_arg1) ↦{q0} A1 m c) := rfl

theorem hand_eq (c : Dev nD) : (plan m).hand c = iprop((bigSep Finset.univ fun k => (plan m).pos c k) ∗ (bigSep Finset.univ fun k => (plan m).tok c k)
    ∗ ((plan m).crd c 6 ∗ (plan m).crd c 7 ∗ (plan m).crd c 8 ∗ (plan m).crd c 9 ∗ (plan m).crd c 10 ∗ (plan m).crd c 11)) := by
  unfold Plan.hand
  rw [show (plan m).remote = six from rfl, bigSep_eq_bigSepL_of_eq (S := six) [6, 7, 8, 9, 10, 11] (by decide) (by decide) (fun k => (plan m).crd c k)]; rfl

set_option maxHeartbeats 4000000 in
theorem sound_body (c : Dev nD) (κ : Dev nD × Fin 14 → ℕ) (Kt : sProp 𝕄) :
    iprop((plan m).records κ ∗ (plan m).hand c ∗ start m c ∗ Plan.owed c ((plan m).due c) ∗ (((plan m).back c ∗ fin m c ∗ Plan.owed c 0) -∗ Kt))
      ⊢ wp frame (wpE (Ix := Unit) (Name := ℕ) (U := UU nD τ sig) (Lvl := ℕ) (defs₀ (F := F)) Variants.none (c : Thread nD τ) none) Set.univ
          (cc0_gather_weights (Memref.whole main_arg0) (Memref.isWhole_whole _) (Memref.whole main_arg1) (Memref.isWhole_whole _)
            (Memref.whole main_v1_0) (Memref.isWhole_whole _) (Memref.whole main_v1_1) (Memref.isWhole_whole _) cc0_scratch0 cc0_scratch1 cc0_scratch2)
          fun _ => Kt := by
  simp only [cc0_gather_weights_eq_skeleton]; unfold cc0_gather_weights_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  rw [hand_eq, bigSep_fin14, bigSep_fin14, due_eq]
  unfold start
  iintro ⟨#HR, ⟨⟨Hp0, Hp1, Hp2, Hp3, Hp4, Hp5, Hp6, Hp7, Hp8, Hp9, Hp10, Hp11, Hp12, Hp13⟩, ⟨Ht0, Ht1, Ht2, Ht3, Ht4, Ht5, Ht6, Ht7, Ht8, Ht9, Ht10, Ht11, Ht12, Ht13⟩, Hc6, Hc7, Hc8, Hc9, Hc10, Hc11⟩, ⟨HA0, HA1, ⟨HM0, HN0, HN2, HN4⟩, HM1, HN1, HN3, HN5⟩, Ho, Hk⟩
  ihave HA0 := (halves Finset.univ fullShare (A0 m c)).1 $$ HA0
  icases HA0 with ⟨HL, HR'⟩
  ihave HL := (halves Finset.univ fullShare.left (A0 m c)).1 $$ HL
  icases HL with ⟨HA0, HB0⟩
  ihave HR' := (halves Finset.univ fullShare.right (A0 m c)).1 $$ HR'
  icases HR' with ⟨HB2, HB4⟩
  ihave HA1 := (halves Finset.univ fullShare (A1 m c)).1 $$ HA1
  icases HA1 with ⟨HL, HR'⟩
  ihave HL := (halves Finset.univ fullShare.left (A1 m c)).1 $$ HL
  icases HL with ⟨HA1, HB1⟩
  ihave HR' := (halves Finset.univ fullShare.right (A1 m c)).1 $$ HR'
  icases HR' with ⟨HB3, HB5⟩
  -- the copies into its own slots
  iapply ((plan m).copy defs₀ Variants.none κ c 12 (dst := M0 c) rfl rfl (T0 m c) rfl (View.set_whole _) (set_M0 c) (read_M0 m c c rfl) (BI.Entails.refl _)) $$ [HA0 HM0 Ht12]
  · isplitr; · iexact HR
    isplitl [HA0]; · iexact HA0
    isplitl [HM0]; · iexact HM0
    iexact Ht12
  iintro Hc12
  iapply ((plan m).copy defs₀ Variants.none κ c 13 (dst := M1 c) rfl rfl (T1 m c) rfl (View.set_whole _) (set_M1 c) (read_M1 m c c rfl) (BI.Entails.refl _)) $$ [HA1 HM1 Ht13]
  · isplitr; · iexact HR
    isplitl [HA1]; · iexact HA1
    isplitl [HM1]; · iexact HM1
    iexact Ht13
  iintro Hc13
  -- the transfers into the other chips'
  iapply ((plan m).send defs₀ Variants.none κ c (far 0 c) (dev1_eq c) 0 6 (dst := M0 c) rfl rfl rfl rfl (S := six) (by decide) (T0 m (far 0 c)) rfl rfl (View.set_whole _) (set_M0 c)
      (read_M0 m (far 0 c) c (far_mod 0 c)) (BI.Entails.refl _) (pay_far6 m c)) $$ [HB0 HN0 Ho Ht0 Ht6]
  · isplitr; · iexact HR
    isplitl [HB0]; · iexact HB0
    isplitl [HN0]; · iexact HN0
    isplitl [Ho]; · iexact Ho
    isplitl [Ht0]; · iexact Ht0
    iexact Ht6
  iintro ⟨Hc0, Ho⟩
  iapply ((plan m).send defs₀ Variants.none κ c (far 0 c) (dev2_eq c) 1 7 (dst := M1 c) rfl rfl rfl rfl (S := (six.erase 6)) (by decide) (T1 m (far 0 c)) rfl rfl (View.set_whole _) (set_M1 c)
      (read_M1 m (far 0 c) c (far_mod 0 c)) (BI.Entails.refl _) (pay_far7 m c)) $$ [HB1 HN1 Ho Ht1 Ht7]
  · isplitr; · iexact HR
    isplitl [HB1]; · iexact HB1
    isplitl [HN1]; · iexact HN1
    isplitl [Ho]; · iexact Ho
    isplitl [Ht1]; · iexact Ht1
    iexact Ht7
  iintro ⟨Hc1, Ho⟩
  iapply ((plan m).send defs₀ Variants.none κ c (far 1 c) (dev3_eq c) 2 8 (dst := M0 c) rfl rfl rfl rfl (S := (((six.erase 6)).erase 7)) (by decide) (T0 m (far 1 c)) rfl rfl (View.set_whole _) (set_M0 c)
      (read_M0 m (far 1 c) c (far_mod 1 c)) (BI.Entails.refl _) (pay_far8 m c)) $$ [HB2 HN2 Ho Ht2 Ht8]
  · isplitr; · iexact HR
    isplitl [HB2]; · iexact HB2
    isplitl [HN2]; · iexact HN2
    isplitl [Ho]; · iexact Ho
    isplitl [Ht2]; · iexact Ht2
    iexact Ht8
  iintro ⟨Hc2, Ho⟩
  iapply ((plan m).send defs₀ Variants.none κ c (far 1 c) (dev4_eq c) 3 9 (dst := M1 c) rfl rfl rfl rfl (S := (((((six.erase 6)).erase 7)).erase 8)) (by decide) (T1 m (far 1 c)) rfl rfl (View.set_whole _) (set_M1 c)
      (read_M1 m (far 1 c) c (far_mod 1 c)) (BI.Entails.refl _) (pay_far9 m c)) $$ [HB3 HN3 Ho Ht3 Ht9]
  · isplitr; · iexact HR
    isplitl [HB3]; · iexact HB3
    isplitl [HN3]; · iexact HN3
    isplitl [Ho]; · iexact Ho
    isplitl [Ht3]; · iexact Ht3
    iexact Ht9
  iintro ⟨Hc3, Ho⟩
  iapply ((plan m).send defs₀ Variants.none κ c (far 2 c) (dev5_eq c) 4 10 (dst := M0 c) rfl rfl rfl rfl (S := (((((((six.erase 6)).erase 7)).erase 8)).erase 9)) (by decide) (T0 m (far 2 c)) rfl rfl (View.set_whole _) (set_M0 c)
      (read_M0 m (far 2 c) c (far_mod 2 c)) (BI.Entails.refl _) (pay_far10 m c)) $$ [HB4 HN4 Ho Ht4 Ht10]
  · isplitr; · iexact HR
    isplitl [HB4]; · iexact HB4
    isplitl [HN4]; · iexact HN4
    isplitl [Ho]; · iexact Ho
    isplitl [Ht4]; · iexact Ht4
    iexact Ht10
  iintro ⟨Hc4, Ho⟩
  iapply ((plan m).send defs₀ Variants.none κ c (far 2 c) (dev6_eq c) 5 11 (dst := M1 c) rfl rfl rfl rfl (S := (((((((((six.erase 6)).erase 7)).erase 8)).erase 9)).erase 10)) (by decide) (T1 m (far 2 c)) rfl rfl (View.set_whole _) (set_M1 c)
      (read_M1 m (far 2 c) c (far_mod 2 c)) (BI.Entails.refl _) (pay_far11 m c)) $$ [HB5 HN5 Ho Ht5 Ht11]
  · isplitr; · iexact HR
    isplitl [HB5]; · iexact HB5
    isplitl [HN5]; · iexact HN5
    isplitl [Ho]; · iexact Ho
    isplitl [Ht5]; · iexact Ht5
    iexact Ht11
  iintro ⟨Hc5, Ho⟩
  rw [due_done]
  -- the waits
  iapply ((plan m).wp_wait defs₀ Variants.none κ c 0 rfl (wpE_waitDma2_eq Variants.none (c : Thread nD τ) none Set.univ) rfl) $$ [Hc0 Ho Hp0]
  · isplitr; · iexact HR
    isplitl [Hc0]; · iexact Hc0
    isplitl [Ho]; · iexact Ho
    iexact Hp0
  iintro ⟨Ho, Hd0, Hy0⟩
  iapply ((plan m).wp_wait defs₀ Variants.none κ c 6 rfl (wpE_waitDma2_eq Variants.none (c : Thread nD τ) none Set.univ) rfl) $$ [Hc6 Ho Hp6]
  · isplitr; · iexact HR
    isplitl [Hc6]; · iexact Hc6
    isplitl [Ho]; · iexact Ho
    iexact Hp6
  iintro ⟨Ho, Hd6, Hy6⟩
  iapply ((plan m).wp_wait defs₀ Variants.none κ c 1 rfl (wpE_waitDma2_eq Variants.none (c : Thread nD τ) none Set.univ) rfl) $$ [Hc1 Ho Hp1]
  · isplitr; · iexact HR
    isplitl [Hc1]; · iexact Hc1
    isplitl [Ho]; · iexact Ho
    iexact Hp1
  iintro ⟨Ho, Hd1, Hy1⟩
  iapply ((plan m).wp_wait defs₀ Variants.none κ c 7 rfl (wpE_waitDma2_eq Variants.none (c : Thread nD τ) none Set.univ) rfl) $$ [Hc7 Ho Hp7]
  · isplitr; · iexact HR
    isplitl [Hc7]; · iexact Hc7
    isplitl [Ho]; · iexact Ho
    iexact Hp7
  iintro ⟨Ho, Hd7, Hy7⟩
  iapply ((plan m).wp_wait defs₀ Variants.none κ c 2 rfl (wpE_waitDma2_eq Variants.none (c : Thread nD τ) none Set.univ) rfl) $$ [Hc2 Ho Hp2]
  · isplitr; · iexact HR
    isplitl [Hc2]; · iexact Hc2
    isplitl [Ho]; · iexact Ho
    iexact Hp2
  iintro ⟨Ho, Hd2, Hy2⟩
  iapply ((plan m).wp_wait defs₀ Variants.none κ c 8 rfl (wpE_waitDma2_eq Variants.none (c : Thread nD τ) none Set.univ) rfl) $$ [Hc8 Ho Hp8]
  · isplitr; · iexact HR
    isplitl [Hc8]; · iexact Hc8
    isplitl [Ho]; · iexact Ho
    iexact Hp8
  iintro ⟨Ho, Hd8, Hy8⟩
  iapply ((plan m).wp_wait defs₀ Variants.none κ c 3 rfl (wpE_waitDma2_eq Variants.none (c : Thread nD τ) none Set.univ) rfl) $$ [Hc3 Ho Hp3]
  · isplitr; · iexact HR
    isplitl [Hc3]; · iexact Hc3
    isplitl [Ho]; · iexact Ho
    iexact Hp3
  iintro ⟨Ho, Hd3, Hy3⟩
  iapply ((plan m).wp_wait defs₀ Variants.none κ c 9 rfl (wpE_waitDma2_eq Variants.none (c : Thread nD τ) none Set.univ) rfl) $$ [Hc9 Ho Hp9]
  · isplitr; · iexact HR
    isplitl [Hc9]; · iexact Hc9
    isplitl [Ho]; · iexact Ho
    iexact Hp9
  iintro ⟨Ho, Hd9, Hy9⟩
  iapply ((plan m).wp_wait defs₀ Variants.none κ c 4 rfl (wpE_waitDma2_eq Variants.none (c : Thread nD τ) none Set.univ) rfl) $$ [Hc4 Ho Hp4]
  · isplitr; · iexact HR
    isplitl [Hc4]; · iexact Hc4
    isplitl [Ho]; · iexact Ho
    iexact Hp4
  iintro ⟨Ho, Hd4, Hy4⟩
  iapply ((plan m).wp_wait defs₀ Variants.none κ c 10 rfl (wpE_waitDma2_eq Variants.none (c : Thread nD τ) none Set.univ) rfl) $$ [Hc10 Ho Hp10]
  · isplitr; · iexact HR
    isplitl [Hc10]; · iexact Hc10
    isplitl [Ho]; · iexact Ho
    iexact Hp10
  iintro ⟨Ho, Hd10, Hy10⟩
  iapply ((plan m).wp_wait defs₀ Variants.none κ c 5 rfl (wpE_waitDma2_eq Variants.none (c : Thread nD τ) none Set.univ) rfl) $$ [Hc5 Ho Hp5]
  · isplitr; · iexact HR
    isplitl [Hc5]; · iexact Hc5
    isplitl [Ho]; · iexact Ho
    iexact Hp5
  iintro ⟨Ho, Hd5, Hy5⟩
  iapply ((plan m).wp_wait defs₀ Variants.none κ c 11 rfl (wpE_waitDma2_eq Variants.none (c : Thread nD τ) none Set.univ) rfl) $$ [Hc11 Ho Hp11]
  · isplitr; · iexact HR
    isplitl [Hc11]; · iexact Hc11
    isplitl [Ho]; · iexact Ho
    iexact Hp11
  iintro ⟨Ho, Hd11, Hy11⟩
  iapply ((plan m).wp_wait defs₀ Variants.none κ c 12 rfl (wpE_waitDma2_eq Variants.none (c : Thread nD τ) none Set.univ) rfl) $$ [Hc12 Ho Hp12]
  · isplitr; · iexact HR
    isplitl [Hc12]; · iexact Hc12
    isplitl [Ho]; · iexact Ho
    iexact Hp12
  iintro ⟨Ho, Hd12, Hy12⟩
  iapply ((plan m).wp_wait defs₀ Variants.none κ c 13 rfl (wpE_waitDma2_eq Variants.none (c : Thread nD τ) none Set.univ) rfl) $$ [Hc13 Ho Hp13]
  · isplitr; · iexact HR
    isplitl [Hc13]; · iexact Hc13
    isplitl [Ho]; · iexact Ho
    iexact Hp13
  iintro ⟨Ho, Hd13, Hy13⟩
  rw [wp_ret]; imodintro
  iapply Hk
  isplitl [Hd0 Hd1 Hd2 Hd3 Hd4 Hd5 Hd6 Hd7 Hd8 Hd9 Hd10 Hd11 Hd12 Hd13]
  · unfold Plan.back
    rw [bigSep_fin14]
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    iexact Hd13
  isplitr [Ho]
  · unfold fin
    rw [whole0, whole1]
    ihave Hy0 := (Entails.of_eq (pay_0 m c)) $$ Hy0
    ihave Hy1 := (Entails.of_eq (pay_1 m c)) $$ Hy1
    ihave Hy2 := (Entails.of_eq (pay_2 m c)) $$ Hy2
    ihave Hy3 := (Entails.of_eq (pay_3 m c)) $$ Hy3
    ihave Hy4 := (Entails.of_eq (pay_4 m c)) $$ Hy4
    ihave Hy5 := (Entails.of_eq (pay_5 m c)) $$ Hy5
    ihave Hy6 := (Entails.of_eq (pay_6 m c)) $$ Hy6
    ihave Hy7 := (Entails.of_eq (pay_7 m c)) $$ Hy7
    ihave Hy8 := (Entails.of_eq (pay_8 m c)) $$ Hy8
    ihave Hy9 := (Entails.of_eq (pay_9 m c)) $$ Hy9
    ihave Hy10 := (Entails.of_eq (pay_10 m c)) $$ Hy10
    ihave Hy11 := (Entails.of_eq (pay_11 m c)) $$ Hy11
    ihave Hy12 := (Entails.of_eq (pay_12 m c)) $$ Hy12
    ihave Hy13 := (Entails.of_eq (pay_13 m c)) $$ Hy13
    icases Hy12 with ⟨Hy12, HA0⟩
    icases Hy13 with ⟨Hy13, HA1⟩
    isplitl [HA0 Hy0 Hy2 Hy4]
    · iapply (halves Finset.univ fullShare (A0 m c)).2
      isplitl [HA0 Hy0]
      · iapply (halves Finset.univ fullShare.left (A0 m c)).2
        isplitl [HA0]; · iexact HA0
        iexact Hy0
      iapply (halves Finset.univ fullShare.right (A0 m c)).2
      isplitl [Hy2]; · iexact Hy2
      iexact Hy4
    isplitl [HA1 Hy1 Hy3 Hy5]
    · iapply (halves Finset.univ fullShare (A1 m c)).2
      isplitl [HA1 Hy1]
      · iapply (halves Finset.univ fullShare.left (A1 m c)).2
        isplitl [HA1]; · iexact HA1
        iexact Hy1
      iapply (halves Finset.univ fullShare.right (A1 m c)).2
      isplitl [Hy3]; · iexact Hy3
      iexact Hy5
    isplitl [Hy12 Hy6 Hy8 Hy10]
    · isplitl [Hy12]; · iexact Hy12
      isplitl [Hy6]; · iexact Hy6
      isplitl [Hy8]; · iexact Hy8
      iexact Hy10
    isplitl [Hy13]; · iexact Hy13
    isplitl [Hy7]; · iexact Hy7
    isplitl [Hy9]; · iexact Hy9
    iexact Hy11
  iexact Ho

/-! ## The launch -/

/-- Which slot of which device the launch deals to device `c`: slot `c / 2` of its own, then of the other chips'. -/
def dealt (x : Dev nD × Fin 4) : Dev nD × Fin 4 :=
  (match x.2 with | 0 => x.1 | 1 => far 0 x.1 | 2 => far 1 x.1 | 3 => far 2 x.1, ⟨x.1.val / 2, by have := x.1.isLt; simp only [nD] at this; omega⟩)
theorem dealt_bij : Function.Bijective dealt := by decide

theorem deal : (bigSep Finset.univ fun c : Dev nD => Pipeline.unscopedRest (Ix := Unit) (Name := ℕ) (U := UU nD τ sig) (Lvl := ℕ) (cfgs 0).spec c (fun b => m ((c : Thread nD τ).loc b)))
    ⊢ bigSep Finset.univ (start m) := by
  have hv : (fun c : Dev nD => Pipeline.unscopedRest (Ix := Unit) (Name := ℕ) (U := UU nD τ sig) (Lvl := ℕ) (cfgs 0).spec c (fun b => m ((c : Thread nD τ).loc b))) = fun c => _ :=
    funext fun c => unscopedRest0_eq c _
  have h0 := dealt_by (Val := Elt F) (fun d : Dev nD => (d : Thread nD τ).loc main_v1_0) (fun d (x : S4x1024x4096.Idx) => (x 0).val) (fun d x => (x 0).isLt)
    (fun d => m ((d : Thread nD τ).loc main_v1_0)) dealt dealt_bij
  have h1 := dealt_by (Val := Elt F) (fun d : Dev nD => (d : Thread nD τ).loc main_v1_1) (fun d (x : S4x1856x1024.Idx) => (x 0).val) (fun d x => (x 0).isLt)
    (fun d => m ((d : Thread nD τ).loc main_v1_1)) dealt dealt_bij
  rw [hv, show (start m : Dev nD → sProp 𝕄) = fun c => start m c from rfl]
  unfold start
  simp only [bigSep_sep', h0, h1]
  simp only [bigSep_fin4, bigSep_sep']
  exact Entails.of_eq rfl

theorem ownSemFacts : Pipeline.OwnSemFacts (cfgs 0).spec (plan m).osem := by
  show Pipeline.OwnSemFacts cfg0.spec osem
  decide

/-- The run: every device ends with the four chips' arguments in its results, its arguments unchanged, and every semaphore at
    zero. -/
theorem run_main (g : Dev nD → PrngReg) :
    θ_run (Cert.GatherIdeal.defs (F := F)) (onTc (τ := τ) main) ⟨m, fun _ => 0, g⟩ (fun r =>
      (∀ c : Dev nD, r.2.mem ((c : Thread nD τ).loc main_arg0) = A0 m c ∧ r.2.mem ((c : Thread nD τ).loc main_arg1) = A1 m c
        ∧ r.2.mem ((c : Thread nD τ).loc main_v1_0) = T0 m c ∧ r.2.mem ((c : Thread nD τ).loc main_v1_1) = T1 m c) ∧ r.2.sem = fun _ => 0) := by
  refine run_exchange (plan m) cfgs defs₀ (fun p => by fin_cases p; exact inferInstanceAs (IsEmpty (Fin 0))) N_0 cellOf_inj winFacts0 (ownSemFacts m) (start m) (fin m)
    (fun c κ t Kt => sound_body m c κ Kt) (by decide) m g main (fun _ => rfl) (deal m)
    (fun c mem => mem.mem ((c : Thread nD τ).loc main_arg0) = A0 m c ∧ mem.mem ((c : Thread nD τ).loc main_arg1) = A1 m c
        ∧ mem.mem ((c : Thread nD τ).loc main_v1_0) = T0 m c ∧ mem.mem ((c : Thread nD τ).loc main_v1_1) = T1 m c) fun c s' => ?_
  unfold fin
  iintro ⟨⟨H0, H1, H2, H3⟩, HSI⟩
  ihave H := (read_one (A0 m c) s') $$ [H0 HSI]
  · isplitl [H0] <;> iassumption
  icases H with ⟨%e0, HSI⟩
  ihave H := (read_one (A1 m c) s') $$ [H1 HSI]
  · isplitl [H1] <;> iassumption
  icases H with ⟨%e1, HSI⟩
  ihave H := (read_one (T0 m c) s') $$ [H2 HSI]
  · isplitl [H2] <;> iassumption
  icases H with ⟨%e2, HSI⟩
  ihave H := (read_one (T1 m c) s') $$ [H3 HSI]
  · isplitl [H3] <;> iassumption
  icases H with ⟨%e3, HSI⟩
  imodintro
  isplitr
  · ipureintro; exact ⟨e0, e1, e2, e3⟩
  iexact HSI

end Cert.GatherIdeal.Run

end
-- ==== Proof.GatherValue.lean ====
/-
# The gather of the weight shards: its results are the whole arguments' rows, on every device
-/
module

public import proofs.«01_k».proof.Defs
public import proofs.«01_k».proof.Proof.GatherRun
public import proofs.«01_k».proof.Proof.Gen.Gather
public import proofs.«01_k».proof.Proof.Gen.GatherReference
public import proofs.«01_k».proof.Proof.Gen.GatherReferenceIdeal.Run
public import Idealize.ShloMosaic.Lib.Pipeline.Value

@[expose] public section

noncomputable section

namespace Cert.GatherIdeal.Run

open Cert.GatherIdeal Cert.Exchange
open Idealize.ShloMosaic Idealize.ShloMosaic.TcCoe Idealize.SL.Sem

variable {F : FTy → Type} [FloatOps F]

/-- Device `c` is on chip `c / 2`: its coordinates on `x` and `y`, major first. -/
theorem chip_lin (c : Dev nD) : Layout.meshLin [2, 2, 2] c.val [0, 1] = c.val / 2 := by
  have := c.isLt
  simp only [nD] at this
  simp only [Layout.meshLin, Layout.meshCoord, Layout.cutSize, List.drop, List.foldr, List.getD_cons_zero, List.getD_cons_succ]
  omega

theorem rows0 (X : Cert.GatherReferenceIdeal.S4096x4096.Idx → Elt F .bf16) (m : (ℓ : Loc nD τ sig) → Buf (Elt F) ℓ)
    (h : ∀ d : Dev nD, m ((d : Thread nD τ).loc main_arg0) = Layout.blockN ⟨2, ![1024, 4096]⟩ ⟨2, ![4096, 4096]⟩ (Layout.meshBlock [2, 2, 2] ![[0, 1], []] d) X) (c : Dev nD) :
    T0 m c = shapeCast Cert.GatherReferenceIdeal.S4x1024x4096 X Cert.GatherReferenceIdeal.Gen.shapeCasts_S4096x4096_S4x1024x4096 := by
  funext x
  show m _ _ = _
  rw [h, Layout.blockN_apply]
  refine (shapeCast_apply X _ _ _ ?_).symm
  refine (Shape.rowMajor_val_two (d := ![4096, 4096]) _).trans (Eq.trans ?_ (Shape.rowMajor_val_three (d := ![4, 1024, 4096]) _).symm)
  show (Layout.meshLin [2, 2, 2] (onChip c (x 0).val (x 0).isLt).val [0, 1] * 1024 + (x 1).val) * 4096 + (0 * 4096 + (x 2).val)
    = ((x 0).val * 1024 + (x 1).val) * 4096 + (x 2).val
  rw [chip_lin, show (onChip c (x 0).val (x 0).isLt).val = 2 * (x 0).val + c.val % 2 from rfl]; omega

theorem rows1 (X : Cert.GatherReferenceIdeal.S7424x1024.Idx → Elt F .bf16) (m : (ℓ : Loc nD τ sig) → Buf (Elt F) ℓ)
    (h : ∀ d : Dev nD, m ((d : Thread nD τ).loc main_arg1) = Layout.blockN ⟨2, ![1856, 1024]⟩ ⟨2, ![7424, 1024]⟩ (Layout.meshBlock [2, 2, 2] ![[0, 1], []] d) X) (c : Dev nD) :
    T1 m c = shapeCast Cert.GatherReferenceIdeal.S4x1856x1024 X Cert.GatherReferenceIdeal.Gen.shapeCasts_S7424x1024_S4x1856x1024 := by
  funext x
  show m _ _ = _
  rw [h, Layout.blockN_apply]
  refine (shapeCast_apply X _ _ _ ?_).symm
  refine (Shape.rowMajor_val_two (d := ![7424, 1024]) _).trans (Eq.trans ?_ (Shape.rowMajor_val_three (d := ![4, 1856, 1024]) _).symm)
  show (Layout.meshLin [2, 2, 2] (onChip c (x 0).val (x 0).isLt).val [0, 1] * 1856 + (x 1).val) * 1024 + (0 * 1024 + (x 2).val)
    = ((x 0).val * 1856 + (x 1).val) * 1024 + (x 2).val
  rw [chip_lin, show (onChip c (x 0).val (x 0).isLt).val = 2 * (x 0).val + c.val % 2 from rfl]; omega

theorem frame_gather : Cert.quiescent_Gather := fun m g _ =>
  (θ_run Cert.GatherIdeal.defs _ _).mono (fun _ h => ⟨fun c => ⟨(h.1 c).1, (h.1 c).2.1⟩, h.2⟩) (run_main (F := Bits) m g)
theorem frame_gather_ideal : Cert.quiescent_GatherIdeal := fun m g _ =>
  (θ_run Cert.GatherIdeal.defs _ _).mono (fun _ h => ⟨fun c => ⟨(h.1 c).1, (h.1 c).2.1⟩, h.2⟩) (run_main (F := Ideal) m g)

theorem frame_gather_reference : Cert.quiescent_GatherReference := fun m g _ =>
  (θ_run Cert.GatherReferenceIdeal.defs _ _).mono (fun r h => ⟨fun c => (h c).2.2, sem_eq_zero_of_no_sems (by decide) r.2⟩)
    (Cert.GatherReferenceIdeal.Value.run (F := Bits) m g)
theorem frame_gather_reference_ideal : Cert.quiescent_GatherReferenceIdeal := fun m g _ =>
  (θ_run Cert.GatherReferenceIdeal.defs _ _).mono (fun r h => ⟨fun c => (h c).2.2, sem_eq_zero_of_no_sems (by decide) r.2⟩)
    (Cert.GatherReferenceIdeal.Value.run (F := Ideal) m g)

theorem algebraic_gather : Cert.algebraic_GatherIdeal_GatherReferenceIdeal := by
  intro m g m' g' _ hag
  refine ⟨_, _, ?_, (θ_run Cert.GatherReferenceIdeal.defs _ _).mono (fun r h => h 0) (Cert.GatherReferenceIdeal.Value.run (F := Ideal) m' g')⟩
  refine (θ_run Cert.GatherIdeal.defs _ _).mono (fun r h c => ⟨?_, ?_, (h.1 c).1, (h.1 c).2.1⟩) (run_main (F := Ideal) m g)
  · exact (h.1 c).2.2.1.trans (rows0 (F := Ideal) _ m (fun d => (hag d).1) c)
  · exact (h.1 c).2.2.2.trans (rows1 (F := Ideal) _ m (fun d => (hag d).2) c)

theorem bitexact_gather : Cert.bitexact_Gather_GatherReference := by
  intro m g m' g' _ hag
  refine ⟨_, _, ?_, (θ_run Cert.GatherReferenceIdeal.defs _ _).mono (fun r h => h 0) (Cert.GatherReferenceIdeal.Value.run (F := Bits) m' g')⟩
  refine (θ_run Cert.GatherIdeal.defs _ _).mono (fun r h c => ⟨?_, ?_, (h.1 c).1, (h.1 c).2.1⟩) (run_main (F := Bits) m g)
  · exact (h.1 c).2.2.1.trans (rows0 (F := Bits) _ m (fun d => (hag d).1) c)
  · exact (h.1 c).2.2.2.trans (rows1 (F := Bits) _ m (fun d => (hag d).2) c)

end Cert.GatherIdeal.Run

end
-- ==== Proof.PairRun.lean ====
/-
# The exchange of gradient halves between the two cores of a chip

Device `c` copies half `c % 2` of its two arguments into its own results and sends the other half of each to its sibling,
the other core of its chip, as the whole of another result there. The launch deals device `c` its sibling's receiving
results.
-/
module

public import proofs.«01_k».proof.Proof.Slots
public import proofs.«01_k».proof.Proof.Gen.PairIdeal.Skeleton
public import proofs.«01_k».proof.Proof.Gen.PairIdeal.Launch

@[expose] public section

noncomputable section

namespace Cert.PairIdeal.Run

open Cert.PairIdeal Cert.PairIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Devices -/

/-- The other core of the chip. -/
def sib (c : Dev nD) : Dev nD := ⟨2 * (c.val / 2) + (1 - c.val % 2), by have := c.isLt; simp only [nD] at *; omega⟩
theorem sib_sib (c : Dev nD) : sib (sib c) = c := Fin.ext (by simp only [sib]; omega)
theorem sib_mod (c : Dev nD) : (sib c).val % 2 = 1 - c.val % 2 := by simp only [sib]; omega
theorem sib_div (c : Dev nD) : (sib c).val / 2 = c.val / 2 := by simp only [sib]; omega
theorem dev1_eq (c : Dev nD) : (⟨k0_dev1 c, k0_dev1_lt c⟩ : Dev nD) = sib c := Fin.ext (by
  show k0_dev1 c = 2 * (c.val / 2) + (1 - c.val % 2)
  rw [k0_dev1_eq]; omega)
theorem dev2_eq (c : Dev nD) : (⟨k0_dev2 c, k0_dev2_lt c⟩ : Dev nD) = sib c := Fin.ext (by
  show k0_dev2 c = 2 * (c.val / 2) + (1 - c.val % 2)
  rw [k0_dev2_eq]; omega)

/-! ## Contents -/

variable (m : (ℓ : Loc nD τ sig) → Buf (Elt F) ℓ)

abbrev A0 (c : Dev nD) : Buf (Elt F) ((c : Thread nD τ).loc main_arg0) := m ((c : Thread nD τ).loc main_arg0)
abbrev A1 (c : Dev nD) : Buf (Elt F) ((c : Thread nD τ).loc main_arg1) := m ((c : Thread nD τ).loc main_arg1)
/-- A device's core. -/
def co (c : Dev nD) : Fin 2 := ⟨c.val % 2, by omega⟩
/-- What the results end at: half `c % 2` of its own arguments, and of its sibling's. -/
def O0 (c : Dev nD) : Buf (Elt F) ((c : Thread nD τ).loc main_v1_0) := fun x : S4x512x4096.Idx => A0 m c (lead (n := 2) (t := ![4, 512, 4096]) (co c) x)
def O1 (c : Dev nD) : Buf (Elt F) ((c : Thread nD τ).loc main_v1_2) := fun x : S4x928x1024.Idx => A1 m c (lead (n := 2) (t := ![4, 928, 1024]) (co c) x)
def R0 (c : Dev nD) : Buf (Elt F) ((c : Thread nD τ).loc main_v1_1) := fun x : S4x512x4096.Idx => A0 m (sib c) (lead (n := 2) (t := ![4, 512, 4096]) (co c) x)
def R1 (c : Dev nD) : Buf (Elt F) ((c : Thread nD τ).loc main_v1_3) := fun x : S4x928x1024.Idx => A1 m (sib c) (lead (n := 2) (t := ![4, 928, 1024]) (co c) x)

/-! ## The halves of the arguments -/

def half0 (k : ℕ) : Finset S2x4x512x4096.Idx := Finset.univ.filter fun x => (x 0).val = k
def half1 (k : ℕ) : Finset S2x4x928x1024.Idx := Finset.univ.filter fun x => (x 0).val = k

abbrev K0 (d : Dev nD) : Memref sig .tc .hbm S4x512x4096 .bf16 :=
  ((Memref.whole main_arg0 : Memref sig .tc .hbm S2x4x512x4096 .bf16).slice (Rect.unit (s := S2x4x512x4096) (k0_off1 d) S1x4x512x4096.size (k0_off1_inb d)) (fun _ => rfl)).squeeze S4x512x4096 squeezes_S1x4x512x4096_S4x512x4096
abbrev G0 (d : Dev nD) : Memref sig .tc .hbm S4x512x4096 .bf16 :=
  ((Memref.whole main_arg0 : Memref sig .tc .hbm S2x4x512x4096 .bf16).slice (Rect.unit (s := S2x4x512x4096) (k0_off3 d) S1x4x512x4096.size (k0_off3_inb d)) (fun _ => rfl)).squeeze S4x512x4096 squeezes_S1x4x512x4096_S4x512x4096
abbrev K1 (d : Dev nD) : Memref sig .tc .hbm S4x928x1024 .bf16 :=
  ((Memref.whole main_arg1 : Memref sig .tc .hbm S2x4x928x1024 .bf16).slice (Rect.unit (s := S2x4x928x1024) (k0_off2 d) S1x4x928x1024.size (k0_off2_inb d)) (fun _ => rfl)).squeeze S4x928x1024 squeezes_S1x4x928x1024_S4x928x1024
abbrev G1 (d : Dev nD) : Memref sig .tc .hbm S4x928x1024 .bf16 :=
  ((Memref.whole main_arg1 : Memref sig .tc .hbm S2x4x928x1024 .bf16).slice (Rect.unit (s := S2x4x928x1024) (k0_off4 d) S1x4x928x1024.size (k0_off4_inb d)) (fun _ => rfl)).squeeze S4x928x1024 squeezes_S1x4x928x1024_S4x928x1024
theorem off1_0 (d : Dev nD) : k0_off1 d 0 = d.val % 2 := by rw [k0_off1_eq]; rfl
theorem off1_s (d : Dev nD) (a : Fin 3) : k0_off1 d a.succ = 0 := by rw [k0_off1_eq]; fin_cases a <;> rfl
theorem set_K0 (d : Dev nD) : (K0 d).view.set = half0 (d.val % 2) :=
  (set_slot (n := 2) (t := ![4, 512, 4096]) (Memref.whole main_arg0 : Memref sig .tc .hbm S2x4x512x4096 .bf16) (k0_off1 d) (k0_off1_inb d) (fun _ => rfl) squeezes_S1x4x512x4096_S4x512x4096
    _ (off1_0 d) (off1_s d)).trans (Finset.map_refl)
/-- Its own half is what its own result ends at. -/
theorem read_K0 (c : Dev nD) : (Memref.whole main_v1_0 : Memref sig .tc .hbm S4x512x4096 .bf16).view.read (Elt F) (O0 m c) = (K0 c).view.read (Elt F) (A0 m c) :=
  (read_lead (n := 2) (t := ![4, 512, 4096]) (Memref.whole main_arg0 : Memref sig .tc .hbm S2x4x512x4096 .bf16) (k0_off1 c) (k0_off1_inb c) (fun _ => rfl) squeezes_S1x4x512x4096_S4x512x4096
    _ (off1_0 c) (off1_s c) (co c).isLt (A0 m c)).symm
theorem off3_0 (d : Dev nD) : k0_off3 d 0 = 1 - d.val % 2 := by rw [k0_off3_eq]; rfl
theorem off3_s (d : Dev nD) (a : Fin 3) : k0_off3 d a.succ = 0 := by rw [k0_off3_eq]; fin_cases a <;> rfl
theorem set_G0 (d : Dev nD) : (G0 d).view.set = half0 (1 - d.val % 2) :=
  (set_slot (n := 2) (t := ![4, 512, 4096]) (Memref.whole main_arg0 : Memref sig .tc .hbm S2x4x512x4096 .bf16) (k0_off3 d) (k0_off3_inb d) (fun _ => rfl) squeezes_S1x4x512x4096_S4x512x4096
    _ (off3_0 d) (off3_s d)).trans (Finset.map_refl)
/-- The other half is what its sibling's result ends at. -/
theorem read_G0 (c : Dev nD) : (Memref.whole main_v1_1 : Memref sig .tc .hbm S4x512x4096 .bf16).view.read (Elt F) (R0 m (sib c)) = (G0 c).view.read (Elt F) (A0 m c) := by
  rw [read_lead (n := 2) (t := ![4, 512, 4096]) (Memref.whole main_arg0 : Memref sig .tc .hbm S2x4x512x4096 .bf16) (k0_off3 c) (k0_off3_inb c) (fun _ => rfl) squeezes_S1x4x512x4096_S4x512x4096
    _ (off3_0 c) (off3_s c) (by omega) (A0 m c)]
  funext j
  show A0 m (sib (sib c)) (lead (n := 2) (t := ![4, 512, 4096]) (co (sib c)) j) = A0 m c (lead (n := 2) (t := ![4, 512, 4096]) _ j)
  rw [sib_sib, show co (sib c) = ⟨1 - c.val % 2, by omega⟩ from Fin.ext (sib_mod c)]
theorem off2_0 (d : Dev nD) : k0_off2 d 0 = d.val % 2 := by rw [k0_off2_eq]; rfl
theorem off2_s (d : Dev nD) (a : Fin 3) : k0_off2 d a.succ = 0 := by rw [k0_off2_eq]; fin_cases a <;> rfl
theorem set_K1 (d : Dev nD) : (K1 d).view.set = half1 (d.val % 2) :=
  (set_slot (n := 2) (t := ![4, 928, 1024]) (Memref.whole main_arg1 : Memref sig .tc .hbm S2x4x928x1024 .bf16) (k0_off2 d) (k0_off2_inb d) (fun _ => rfl) squeezes_S1x4x928x1024_S4x928x1024
    _ (off2_0 d) (off2_s d)).trans (Finset.map_refl)
/-- Its own half is what its own result ends at. -/
theorem read_K1 (c : Dev nD) : (Memref.whole main_v1_2 : Memref sig .tc .hbm S4x928x1024 .bf16).view.read (Elt F) (O1 m c) = (K1 c).view.read (Elt F) (A1 m c) :=
  (read_lead (n := 2) (t := ![4, 928, 1024]) (Memref.whole main_arg1 : Memref sig .tc .hbm S2x4x928x1024 .bf16) (k0_off2 c) (k0_off2_inb c) (fun _ => rfl) squeezes_S1x4x928x1024_S4x928x1024
    _ (off2_0 c) (off2_s c) (co c).isLt (A1 m c)).symm
theorem off4_0 (d : Dev nD) : k0_off4 d 0 = 1 - d.val % 2 := by rw [k0_off4_eq]; rfl
theorem off4_s (d : Dev nD) (a : Fin 3) : k0_off4 d a.succ = 0 := by rw [k0_off4_eq]; fin_cases a <;> rfl
theorem set_G1 (d : Dev nD) : (G1 d).view.set = half1 (1 - d.val % 2) :=
  (set_slot (n := 2) (t := ![4, 928, 1024]) (Memref.whole main_arg1 : Memref sig .tc .hbm S2x4x928x1024 .bf16) (k0_off4 d) (k0_off4_inb d) (fun _ => rfl) squeezes_S1x4x928x1024_S4x928x1024
    _ (off4_0 d) (off4_s d)).trans (Finset.map_refl)
/-- The other half is what its sibling's result ends at. -/
theorem read_G1 (c : Dev nD) : (Memref.whole main_v1_3 : Memref sig .tc .hbm S4x928x1024 .bf16).view.read (Elt F) (R1 m (sib c)) = (G1 c).view.read (Elt F) (A1 m c) := by
  rw [read_lead (n := 2) (t := ![4, 928, 1024]) (Memref.whole main_arg1 : Memref sig .tc .hbm S2x4x928x1024 .bf16) (k0_off4 c) (k0_off4_inb c) (fun _ => rfl) squeezes_S1x4x928x1024_S4x928x1024
    _ (off4_0 c) (off4_s c) (by omega) (A1 m c)]
  funext j
  show A1 m (sib (sib c)) (lead (n := 2) (t := ![4, 928, 1024]) (co (sib c)) j) = A1 m c (lead (n := 2) (t := ![4, 928, 1024]) _ j)
  rw [sib_sib, show co (sib c) = ⟨1 - c.val % 2, by omega⟩ from Fin.ext (sib_mod c)]

/-! ## The plan -/

abbrev N0 : ℕ := (Memref.whole main_v1_0 : Memref sig .tc .hbm S4x512x4096 .bf16).view.dmaCredit
abbrev N1 : ℕ := (Memref.whole main_v1_2 : Memref sig .tc .hbm S4x928x1024 .bf16).view.dmaCredit

abbrev osem : Fin 6 → SemLoc sig
  | 0 => .dma ((cc0_scratch0.slice (Rect.unit (s := S2) ![0] S1.size inb_S2_S1_0)).squeeze S_ squeezes_S1_S_).sem
  | 1 => .dma ((cc0_scratch0.slice (Rect.unit (s := S2) ![1] S1.size inb_S2_S1_1)).squeeze S_ squeezes_S1_S_).sem
  | 2 => .dma ((cc0_scratch1.slice (Rect.unit (s := S2) ![0] S1.size inb_S2_S1_0)).squeeze S_ squeezes_S1_S_).sem
  | 3 => .dma ((cc0_scratch1.slice (Rect.unit (s := S2) ![1] S1.size inb_S2_S1_1)).squeeze S_ squeezes_S1_S_).sem
  | 4 => .dma ((cc0_scratch2.slice (Rect.unit (s := S2) ![0] S1.size inb_S2_S1_0)).squeeze S_ squeezes_S1_S_).sem
  | 5 => .dma ((cc0_scratch2.slice (Rect.unit (s := S2) ![1] S1.size inb_S2_S1_1)).squeeze S_ squeezes_S1_S_).sem

def pay (c : Dev nD) : Fin 6 → sProp 𝕄
  | 0 => ((c : Thread nD τ).loc main_arg0) ↦[half0 (1 - c.val % 2)]{fullShare} A0 m c
  | 1 => ((c : Thread nD τ).loc main_arg1) ↦[half1 (1 - c.val % 2)]{fullShare} A1 m c
  | 2 => ((c : Thread nD τ).loc main_v1_1) ↦{fullShare} R0 m c
  | 3 => ((c : Thread nD τ).loc main_v1_3) ↦{fullShare} R1 m c
  | 4 => iprop((((c : Thread nD τ).loc main_v1_0) ↦{fullShare} O0 m c) ∗ ((c : Thread nD τ).loc main_arg0) ↦[half0 (c.val % 2)]{fullShare} A0 m c)
  | 5 => iprop((((c : Thread nD τ).loc main_v1_2) ↦{fullShare} O1 m c) ∗ ((c : Thread nD τ).loc main_arg1) ↦[half1 (c.val % 2)]{fullShare} A1 m c)

def payer (k : Fin 6) (c : Dev nD) : Dev nD := if k = 2 ∨ k = 3 then sib c else c

def plan : Plan nD τ sig (Elt F) (Fin 6) where
  osem := osem
  inj := by intro a b h; revert h; fin_cases a <;> fin_cases b <;> first | (intro _; rfl) | (intro h; exact absurd h (by decide))
  amt k := if k.val % 2 = 0 then N0 else N1
  amt_pos k := by split; exacts [View.dmaCredit_pos _ (by decide), View.dmaCredit_pos _ (by decide)]
  pay := pay m
  storable c k := by fin_cases k <;> (dsimp only [pay]; infer_instance)
  payer := payer
  payer_payer k c := by unfold payer; split; exacts [sib_sib c, rfl]
  remote := {2, 3}

/-! ## One device's run -/

/-- What the launch deals device `c`: its arguments, its own keeping results, its sibling's receiving ones. -/
def start (c : Dev nD) : sProp 𝕄 :=
  iprop((((c : Thread nD τ).loc main_arg0) ↦{fullShare} A0 m c) ∗ (((c : Thread nD τ).loc main_arg1) ↦{fullShare} A1 m c)
    ∗ (((c : Thread nD τ).loc main_v1_0) ↦{fullShare} m ((c : Thread nD τ).loc main_v1_0))
    ∗ (((sib c : Thread nD τ).loc main_v1_1) ↦{fullShare} m ((sib c : Thread nD τ).loc main_v1_1))
    ∗ (((c : Thread nD τ).loc main_v1_2) ↦{fullShare} m ((c : Thread nD τ).loc main_v1_2))
    ∗ (((sib c : Thread nD τ).loc main_v1_3) ↦{fullShare} m ((sib c : Thread nD τ).loc main_v1_3)))

/-- What device `c` ends with. -/
def fin (c : Dev nD) : sProp 𝕄 :=
  iprop((((c : Thread nD τ).loc main_arg0) ↦{fullShare} A0 m c) ∗ (((c : Thread nD τ).loc main_arg1) ↦{fullShare} A1 m c)
    ∗ (((c : Thread nD τ).loc main_v1_0) ↦{fullShare} O0 m c) ∗ (((c : Thread nD τ).loc main_v1_1) ↦{fullShare} R0 m c)
    ∗ (((c : Thread nD τ).loc main_v1_2) ↦{fullShare} O1 m c) ∗ (((c : Thread nD τ).loc main_v1_3) ↦{fullShare} R1 m c))

/-- The halves of an argument, a device's own first. -/
def order (c : Dev nD) (i : Fin 2) : Fin 2 := if i = 0 then ⟨c.val % 2, by omega⟩ else ⟨1 - c.val % 2, by omega⟩
theorem order_bij (c : Dev nD) : Function.Bijective (order c) := by revert c; decide

theorem whole0 (c : Dev nD) (f : Buf (Elt F) ((c : Thread nD τ).loc main_arg0)) : (((c : Thread nD τ).loc main_arg0) ↦{fullShare} f : sProp 𝕄)
    = iprop((((c : Thread nD τ).loc main_arg0) ↦[half0 (c.val % 2)]{fullShare} f) ∗ ((c : Thread nD τ).loc main_arg0) ↦[half0 (1 - c.val % 2)]{fullShare} f) := by
  rw [pointsTo_by (n := 2) (fun x : S2x4x512x4096.Idx => (x 0).val) (fun x => (x 0).isLt), reorder (order c) (order_bij c), bigSep_fin2]; rfl
theorem whole1 (c : Dev nD) (f : Buf (Elt F) ((c : Thread nD τ).loc main_arg1)) : (((c : Thread nD τ).loc main_arg1) ↦{fullShare} f : sProp 𝕄)
    = iprop((((c : Thread nD τ).loc main_arg1) ↦[half1 (c.val % 2)]{fullShare} f) ∗ ((c : Thread nD τ).loc main_arg1) ↦[half1 (1 - c.val % 2)]{fullShare} f) := by
  rw [pointsTo_by (n := 2) (fun x : S2x4x928x1024.Idx => (x 0).val) (fun x => (x 0).isLt), reorder (order c) (order_bij c), bigSep_fin2]; rfl

/-- The semaphores its sibling pays. -/
abbrev both : Finset (Fin 6) := {2, 3}
theorem due_eq (c : Dev nD) : (plan m).due c = (plan m).dueOn c both := rfl
theorem due_done (c : Dev nD) : (plan m).dueOn c ((both.erase 2).erase 3) = 0 := by
  rw [show (both.erase 2).erase 3 = ∅ by decide, Plan.dueOn_empty]

theorem pay_0 (c : Dev nD) : (plan m).pay c 0 = (((c : Thread nD τ).loc main_arg0) ↦[half0 (1 - c.val % 2)]{fullShare} A0 m c : sProp 𝕄) := rfl
theorem pay_1 (c : Dev nD) : (plan m).pay c 1 = (((c : Thread nD τ).loc main_arg1) ↦[half1 (1 - c.val % 2)]{fullShare} A1 m c : sProp 𝕄) := rfl
theorem pay_2 (c : Dev nD) : (plan m).pay c 2 = (((c : Thread nD τ).loc main_v1_1) ↦{fullShare} R0 m c : sProp 𝕄) := rfl
theorem pay_3 (c : Dev nD) : (plan m).pay c 3 = (((c : Thread nD τ).loc main_v1_3) ↦{fullShare} R1 m c : sProp 𝕄) := rfl
theorem pay_4 (c : Dev nD) : (plan m).pay c 4 = iprop((((c : Thread nD τ).loc main_v1_0) ↦{fullShare} O0 m c) ∗ ((c : Thread nD τ).loc main_arg0) ↦[half0 (c.val % 2)]{fullShare} A0 m c) := rfl
theorem pay_5 (c : Dev nD) : (plan m).pay c 5 = iprop((((c : Thread nD τ).loc main_v1_2) ↦{fullShare} O1 m c) ∗ ((c : Thread nD τ).loc main_arg1) ↦[half1 (c.val % 2)]{fullShare} A1 m c) := rfl

theorem hand_eq (c : Dev nD) : (plan m).hand c = iprop((bigSep Finset.univ fun k => (plan m).pos c k) ∗ (bigSep Finset.univ fun k => (plan m).tok c k)
    ∗ ((plan m).crd c 2 ∗ (plan m).crd c 3)) := by
  unfold Plan.hand
  rw [show (plan m).remote = {2, 3} from rfl, bigSep_eq_bigSepL_of_eq (S := {2, 3}) [2, 3] (by decide) (by decide) (fun k => (plan m).crd c k)]; rfl

set_option maxHeartbeats 1600000 in
theorem sound_body (c : Dev nD) (κ : Dev nD × Fin 6 → ℕ) (Kt : sProp 𝕄) :
    iprop((plan m).records κ ∗ (plan m).hand c ∗ start m c ∗ Plan.owed c ((plan m).due c) ∗ (((plan m).back c ∗ fin m c ∗ Plan.owed c 0) -∗ Kt))
      ⊢ wp frame (wpE (Ix := Unit) (Name := ℕ) (U := UU nD τ sig) (Lvl := ℕ) (defs₀ (F := F)) Variants.none (c : Thread nD τ) none) Set.univ
          (cc0_grad_pair_exchange (Memref.whole main_arg0) (Memref.isWhole_whole _) (Memref.whole main_arg1) (Memref.isWhole_whole _)
            (Memref.whole main_v1_0) (Memref.isWhole_whole _) (Memref.whole main_v1_1) (Memref.isWhole_whole _)
            (Memref.whole main_v1_2) (Memref.isWhole_whole _) (Memref.whole main_v1_3) (Memref.isWhole_whole _) cc0_scratch0 cc0_scratch1 cc0_scratch2)
          fun _ => Kt := by
  simp only [cc0_grad_pair_exchange_eq_skeleton]; unfold cc0_grad_pair_exchange_skel
  simp only [k0_part1_eq_skeleton, k0_part2_eq_skeleton]; unfold k0_part1_skel k0_part2_skel
  simp only [Prog.lift, Prog.bind_op, Prog.bind_ret, Prog.pure_eq_ret, wp_deviceId]
  rw [hand_eq, bigSep_fin6, bigSep_fin6, due_eq]
  unfold start
  rw [whole0, whole1]
  iintro ⟨#HR, ⟨⟨Hp0, Hp1, Hp2, Hp3, Hp4, Hp5⟩, ⟨Ht0, Ht1, Ht2, Ht3, Ht4, Ht5⟩, Hc2, Hc3⟩, ⟨⟨HA0, HB0⟩, ⟨HA1, HB1⟩, HM0, HN0, HM1, HN1⟩, Ho, Hk⟩
  -- its own halves into its own results
  iapply ((plan m).copy defs₀ Variants.none κ c 4 (src := K0 c) (dst := Memref.whole main_v1_0) rfl rfl (O0 m c) rfl (set_K0 c) (View.set_whole _) (read_K0 m c) (BI.Entails.refl _)) $$ [HA0 HM0 Ht4]
  · isplitr; · iexact HR
    isplitl [HA0]; · iexact HA0
    isplitl [HM0]; · iexact HM0
    iexact Ht4
  iintro Hc4
  iapply ((plan m).copy defs₀ Variants.none κ c 5 (src := K1 c) (dst := Memref.whole main_v1_2) rfl rfl (O1 m c) rfl (set_K1 c) (View.set_whole _) (read_K1 m c) (BI.Entails.refl _)) $$ [HA1 HM1 Ht5]
  · isplitr; · iexact HR
    isplitl [HA1]; · iexact HA1
    isplitl [HM1]; · iexact HM1
    iexact Ht5
  iintro Hc5
  -- the other halves to its sibling
  iapply ((plan m).send defs₀ Variants.none κ c (sib c) (dev1_eq c) 0 2 (src := G0 c) (dst := Memref.whole main_v1_1) rfl rfl rfl rfl (S := both) (by decide) (R0 m (sib c)) rfl rfl (set_G0 c) (View.set_whole _)
      (read_G0 m c) (BI.Entails.refl _) (BI.Entails.refl _)) $$ [HB0 HN0 Ho Ht0 Ht2]
  · isplitr; · iexact HR
    isplitl [HB0]; · iexact HB0
    isplitl [HN0]; · iexact HN0
    isplitl [Ho]; · iexact Ho
    isplitl [Ht0]; · iexact Ht0
    iexact Ht2
  iintro ⟨Hc0, Ho⟩
  iapply ((plan m).send defs₀ Variants.none κ c (sib c) (dev2_eq c) 1 3 (src := G1 c) (dst := Memref.whole main_v1_3) rfl rfl rfl rfl (S := both.erase 2) (by decide) (R1 m (sib c)) rfl rfl (set_G1 c) (View.set_whole _)
      (read_G1 m c) (BI.Entails.refl _) (BI.Entails.refl _)) $$ [HB1 HN1 Ho Ht1 Ht3]
  · isplitr; · iexact HR
    isplitl [HB1]; · iexact HB1
    isplitl [HN1]; · iexact HN1
    isplitl [Ho]; · iexact Ho
    isplitl [Ht1]; · iexact Ht1
    iexact Ht3
  iintro ⟨Hc1, Ho⟩
  rw [due_done]
  -- the waits
  iapply ((plan m).wp_wait defs₀ Variants.none κ c 0 rfl (wpE_waitDma2_eq Variants.none (c : Thread nD τ) none Set.univ) rfl) $$ [Hc0 Ho Hp0]
  · isplitr; · iexact HR
    isplitl [Hc0]; · iexact Hc0
    isplitl [Ho]; · iexact Ho
    iexact Hp0
  iintro ⟨Ho, Hd0, Hy0⟩
  iapply ((plan m).wp_wait defs₀ Variants.none κ c 2 rfl (wpE_waitDma2_eq Variants.none (c : Thread nD τ) none Set.univ) rfl) $$ [Hc2 Ho Hp2]
  · isplitr; · iexact HR
    isplitl [Hc2]; · iexact Hc2
    isplitl [Ho]; · iexact Ho
    iexact Hp2
  iintro ⟨Ho, Hd2, Hy2⟩
  iapply ((plan m).wp_wait defs₀ Variants.none κ c 1 rfl (wpE_waitDma2_eq Variants.none (c : Thread nD τ) none Set.univ) rfl) $$ [Hc1 Ho Hp1]
  · isplitr; · iexact HR
    isplitl [Hc1]; · iexact Hc1
    isplitl [Ho]; · iexact Ho
    iexact Hp1
  iintro ⟨Ho, Hd1, Hy1⟩
  iapply ((plan m).wp_wait defs₀ Variants.none κ c 3 rfl (wpE_waitDma2_eq Variants.none (c : Thread nD τ) none Set.univ) rfl) $$ [Hc3 Ho Hp3]
  · isplitr; · iexact HR
    isplitl [Hc3]; · iexact Hc3
    isplitl [Ho]; · iexact Ho
    iexact Hp3
  iintro ⟨Ho, Hd3, Hy3⟩
  iapply ((plan m).wp_wait defs₀ Variants.none κ c 4 rfl (wpE_waitDma2_eq Variants.none (c : Thread nD τ) none Set.univ) rfl) $$ [Hc4 Ho Hp4]
  · isplitr; · iexact HR
    isplitl [Hc4]; · iexact Hc4
    isplitl [Ho]; · iexact Ho
    iexact Hp4
  iintro ⟨Ho, Hd4, Hy4⟩
  iapply ((plan m).wp_wait defs₀ Variants.none κ c 5 rfl (wpE_waitDma2_eq Variants.none (c : Thread nD τ) none Set.univ) rfl) $$ [Hc5 Ho Hp5]
  · isplitr; · iexact HR
    isplitl [Hc5]; · iexact Hc5
    isplitl [Ho]; · iexact Ho
    iexact Hp5
  iintro ⟨Ho, Hd5, Hy5⟩
  rw [wp_ret]; imodintro
  iapply Hk
  isplitl [Hd0 Hd1 Hd2 Hd3 Hd4 Hd5]
  · unfold Plan.back
    rw [bigSep_fin6]
    isplitl [Hd0]; · iexact Hd0
    isplitl [Hd1]; · iexact Hd1
    isplitl [Hd2]; · iexact Hd2
    isplitl [Hd3]; · iexact Hd3
    isplitl [Hd4]; · iexact Hd4
    iexact Hd5
  isplitr [Ho]
  · unfold fin
    rw [whole0, whole1]
    ihave Hy0 := (Entails.of_eq (pay_0 m c)) $$ Hy0
    ihave Hy1 := (Entails.of_eq (pay_1 m c)) $$ Hy1
    ihave Hy2 := (Entails.of_eq (pay_2 m c)) $$ Hy2
    ihave Hy3 := (Entails.of_eq (pay_3 m c)) $$ Hy3
    ihave Hy4 := (Entails.of_eq (pay_4 m c)) $$ Hy4
    ihave Hy5 := (Entails.of_eq (pay_5 m c)) $$ Hy5
    icases Hy4 with ⟨Hy4, HA0⟩
    icases Hy5 with ⟨Hy5, HA1⟩
    isplitl [HA0 Hy0]
    · isplitl [HA0]; · iexact HA0
      iexact Hy0
    isplitl [HA1 Hy1]
    · isplitl [HA1]; · iexact HA1
      iexact Hy1
    isplitl [Hy4]; · iexact Hy4
    isplitl [Hy2]; · iexact Hy2
    isplitl [Hy5]; · iexact Hy5
    iexact Hy3
  iexact Ho

/-! ## The launch -/

theorem sib_bij : Function.Bijective sib := by decide

theorem deal : (bigSep Finset.univ fun c : Dev nD => Pipeline.unscopedRest (Ix := Unit) (Name := ℕ) (U := UU nD τ sig) (Lvl := ℕ) (cfgs 0).spec c (fun b => m ((c : Thread nD τ).loc b)))
    ⊢ bigSep Finset.univ (start m) := by
  have hv : (fun c : Dev nD => Pipeline.unscopedRest (Ix := Unit) (Name := ℕ) (U := UU nD τ sig) (Lvl := ℕ) (cfgs 0).spec c (fun b => m ((c : Thread nD τ).loc b))) = fun c => _ :=
    funext fun c => unscopedRest0_eq c _
  have h0 := deal_whole (Val := Elt F) sib sib_bij fun d : Dev nD => (((d : Thread nD τ).loc main_v1_1) ↦{fullShare} m ((d : Thread nD τ).loc main_v1_1))
  have h1 := deal_whole (Val := Elt F) sib sib_bij fun d : Dev nD => (((d : Thread nD τ).loc main_v1_3) ↦{fullShare} m ((d : Thread nD τ).loc main_v1_3))
  rw [hv, show (start m : Dev nD → sProp 𝕄) = fun c => start m c from rfl]
  unfold start
  simp only [bigSep_sep']
  rw [h0, h1]

theorem ownSemFacts : Pipeline.OwnSemFacts (cfgs 0).spec (plan m).osem := by
  show Pipeline.OwnSemFacts cfg0.spec osem
  decide

/-- What a memory holds on device `c` at the end. -/
def Ends (c : Dev nD) (mem : (ℓ : Loc nD τ sig) → Buf (Elt F) ℓ) : Prop :=
  mem ((c : Thread nD τ).loc main_arg0) = A0 m c ∧ mem ((c : Thread nD τ).loc main_arg1) = A1 m c
    ∧ mem ((c : Thread nD τ).loc main_v1_0) = O0 m c ∧ mem ((c : Thread nD τ).loc main_v1_1) = R0 m c
    ∧ mem ((c : Thread nD τ).loc main_v1_2) = O1 m c ∧ mem ((c : Thread nD τ).loc main_v1_3) = R1 m c

/-- The run: every device ends with the halves of its core, its own and its sibling's, its arguments unchanged, and every
    semaphore at zero. -/
theorem run_main (g : Dev nD → PrngReg) :
    θ_run (Cert.PairIdeal.defs (F := F)) (onTc (τ := τ) main) ⟨m, fun _ => 0, g⟩ (fun r => (∀ c : Dev nD, Ends m c r.2.mem) ∧ r.2.sem = fun _ => 0) := by
  refine run_exchange (plan m) cfgs defs₀ (fun p => by fin_cases p; exact inferInstanceAs (IsEmpty (Fin 0))) N_0 cellOf_inj winFacts0 (ownSemFacts m) (start m) (fin m)
    (fun c κ t Kt => sound_body m c κ Kt) (by decide) m g main (fun _ => rfl) (deal m) (fun c mem => Ends m c mem.mem) fun c s' => ?_
  unfold fin
  iintro ⟨⟨H0, H1, H2, H3, H4, H5⟩, HSI⟩
  ihave H := (read_one (A0 m c) s') $$ [H0 HSI]
  · isplitl [H0] <;> iassumption
  icases H with ⟨%e0, HSI⟩
  ihave H := (read_one (A1 m c) s') $$ [H1 HSI]
  · isplitl [H1] <;> iassumption
  icases H with ⟨%e1, HSI⟩
  ihave H := (read_one (O0 m c) s') $$ [H2 HSI]
  · isplitl [H2] <;> iassumption
  icases H with ⟨%e2, HSI⟩
  ihave H := (read_one (R0 m c) s') $$ [H3 HSI]
  · isplitl [H3] <;> iassumption
  icases H with ⟨%e3, HSI⟩
  ihave H := (read_one (O1 m c) s') $$ [H4 HSI]
  · isplitl [H4] <;> iassumption
  icases H with ⟨%e4, HSI⟩
  ihave H := (read_one (R1 m c) s') $$ [H5 HSI]
  · isplitl [H5] <;> iassumption
  icases H with ⟨%e5, HSI⟩
  imodintro
  isplitr
  · ipureintro; exact ⟨e0, e1, e2, e3, e4, e5⟩
  iexact HSI

end Cert.PairIdeal.Run

end
-- ==== Proof.Stacks.lean ====
/-
# Slices of an array, stacked again: what the references of the exchanges hold at an index

At any row length: `P` rows of `Q` columns are carried along.
-/
module

public import Idealize.ShloMosaic.Lib.Pipeline.Value
public import Idealize.ShloMosaic.Lib.Pipeline.ValueKit
public import Idealize.ShloMosaic.Lib.ValueIdxRank6

@[expose] public section

noncomputable section

namespace Cert.Exchange

open Idealize.ShloMosaic

variable {α : Type} {P Q : ℕ}

/-! ## Of the two halves of the two cores of every chip, one per core -/

abbrev pairOff (o₁ o₂ : ℕ) : Fin 6 → ℕ := ![0, o₁, o₂, 0, 0, 0]

/-- Half `o₂` of core `o₁`, of every chip. -/
theorem pair_piece (o₁ o₂ : ℕ) (X : (⟨4, ![16, 4, P, Q]⟩ : Shape).Idx → α)
    (h₁ : (⟨4, ![16, 4, P, Q]⟩ : Shape).ShapeCasts ⟨6, ![4, 2, 2, 4, P, Q]⟩) (h₂ : (⟨6, ![4, 2, 2, 4, P, Q]⟩ : Shape).Slices (pairOff o₁ o₂) ⟨6, ![4, 1, 1, 4, P, Q]⟩)
    (h₃ : (⟨6, ![4, 1, 1, 4, P, Q]⟩ : Shape).ShapeCasts ⟨4, ![4, 4, P, Q]⟩) (h₄ : (⟨4, ![4, 4, P, Q]⟩ : Shape).BroadcastsInDim ⟨5, ![4, 1, 4, P, Q]⟩ ![0, 2, 3, 4])
    (ho₁ : o₁ < 2) (ho₂ : o₂ < 2) (i : (⟨5, ![4, 1, 4, P, Q]⟩ : Shape).Idx) (y : (⟨4, ![16, 4, P, Q]⟩ : Shape).Idx)
    (y0 : (y 0).val = 4 * (i 0).val + 2 * o₁ + o₂) (y1 : (y 1).val = (i 2).val) (y2 : (y 2).val = (i 3).val) (y3 : (y 3).val = (i 4).val) :
    broadcastInDim ⟨5, ![4, 1, 4, P, Q]⟩ ![0, 2, 3, 4] h₄
      (shapeCast ⟨4, ![4, 4, P, Q]⟩ (extractStridedSlice ⟨6, ![4, 1, 1, 4, P, Q]⟩ (pairOff o₁ o₂) (shapeCast ⟨6, ![4, 2, 2, 4, P, Q]⟩ X h₁) h₂) h₃) i = X y := by
  have e2 : (i 3).val < P := (i 3).isLt
  have e3 : (i 4).val < Q := (i 4).isLt
  rw [broadcastInDim_apply _ _ _ i (ValueIdx.ix4 (i 0) (i 2) (i 3) (i 4) : (⟨4, ![4, 4, P, Q]⟩ : Shape).Idx) (fun a => by
    match a with
    | ⟨0, _⟩ => rfl
    | ⟨1, _⟩ => rfl
    | ⟨2, _⟩ => show (i 3).val = if P = 1 then 0 else (i 3).val; split <;> omega
    | ⟨3, _⟩ => show (i 4).val = if Q = 1 then 0 else (i 4).val; split <;> omega)]
  rw [shapeCast_apply _ h₃ _ (ValueIdx.ix6 (i 0) 0 0 (i 2) (i 3) (i 4) : (⟨6, ![4, 1, 1, 4, P, Q]⟩ : Shape).Idx) (by
    rw [Shape.rowMajor_val_six, Shape.rowMajor_val_four]
    show (((((i 0).val * 1 + 0) * 1 + 0) * 4 + (i 2).val) * P + (i 3).val) * Q + (i 4).val = (((i 0).val * 4 + (i 2).val) * P + (i 3).val) * Q + (i 4).val
    simp only [Nat.mul_one, Nat.add_zero])]
  rw [extractStridedSlice_apply _ _ h₂ _ (ValueIdx.ix6 (i 0) ⟨o₁, ho₁⟩ ⟨o₂, ho₂⟩ (i 2) (i 3) (i 4) : (⟨6, ![4, 2, 2, 4, P, Q]⟩ : Shape).Idx) (fun a => by
    match a with
    | ⟨0, _⟩ => exact (Nat.zero_add _).symm
    | ⟨1, _⟩ => rfl
    | ⟨2, _⟩ => rfl
    | ⟨3, _⟩ => exact (Nat.zero_add _).symm
    | ⟨4, _⟩ => exact (Nat.zero_add _).symm
    | ⟨5, _⟩ => exact (Nat.zero_add _).symm)]
  refine shapeCast_apply X h₁ _ y ?_
  rw [Shape.rowMajor_val_six, Shape.rowMajor_val_four]
  show (((y 0).val * 4 + (y 1).val) * P + (y 2).val) * Q + (y 3).val
    = (((((i 0).val * 2 + o₁) * 2 + o₂) * 4 + (i 2).val) * P + (i 3).val) * Q + (i 4).val
  rw [y0, y1, y2, y3, show 4 * (i 0).val + 2 * o₁ + o₂ = ((i 0).val * 2 + o₁) * 2 + o₂ by omega]

/-- Half `b` of core `a` to core 0 and half `b'` of core `a'` to core 1, of every chip: row `z 0` belongs to device `z 0 / 4`. -/
theorem pair_stack (a b a' b' : ℕ) (X : (⟨4, ![16, 4, P, Q]⟩ : Shape).Idx → α) (h₁ h₂ h₃ h₄ h₁' h₂' h₃' h₄' h₅ h₆) (la : a < 2) (lb : b < 2) (la' : a' < 2) (lb' : b' < 2)
    (z : (⟨3, ![32, P, Q]⟩ : Shape).Idx) (y : (⟨4, ![16, 4, P, Q]⟩ : Shape).Idx)
    (y0 : (y 0).val = 4 * ((z 0).val / 8) + if (z 0).val / 4 % 2 = 0 then 2 * a + b else 2 * a' + b')
    (y1 : (y 1).val = (z 0).val % 4) (y2 : (y 2).val = (z 1).val) (y3 : (y 3).val = (z 2).val) :
    shapeCast ⟨3, ![32, P, Q]⟩ (concatenate ⟨5, ![4, 2, 4, P, Q]⟩ 1
      [⟨⟨5, ![4, 1, 4, P, Q]⟩, broadcastInDim ⟨5, ![4, 1, 4, P, Q]⟩ ![0, 2, 3, 4] h₄
        (shapeCast ⟨4, ![4, 4, P, Q]⟩ (extractStridedSlice ⟨6, ![4, 1, 1, 4, P, Q]⟩ (pairOff a b) (shapeCast ⟨6, ![4, 2, 2, 4, P, Q]⟩ X h₁) h₂) h₃)⟩,
       ⟨⟨5, ![4, 1, 4, P, Q]⟩, broadcastInDim ⟨5, ![4, 1, 4, P, Q]⟩ ![0, 2, 3, 4] h₄'
        (shapeCast ⟨4, ![4, 4, P, Q]⟩ (extractStridedSlice ⟨6, ![4, 1, 1, 4, P, Q]⟩ (pairOff a' b') (shapeCast ⟨6, ![4, 2, 2, 4, P, Q]⟩ X h₁') h₂') h₃')⟩] h₅) h₆ z = X y := by
  have hz : (z 0).val < 32 := (z 0).isLt
  rw [shapeCast_apply _ h₆ z (ValueIdx.ix5 ⟨(z 0).val / 8, by omega⟩ ⟨(z 0).val / 4 % 2, by omega⟩ ⟨(z 0).val % 4, by omega⟩ (z 1) (z 2) : (⟨5, ![4, 2, 4, P, Q]⟩ : Shape).Idx) (by
    rw [Shape.rowMajor_val_five, Shape.rowMajor_val_three]
    show ((((z 0).val / 8 * 2 + (z 0).val / 4 % 2) * 4 + (z 0).val % 4) * P + (z 1).val) * Q + (z 2).val = ((z 0).val * P + (z 1).val) * Q + (z 2).val
    rw [show ((z 0).val / 8 * 2 + (z 0).val / 4 % 2) * 4 + (z 0).val % 4 = (z 0).val by omega])]
  refine concatenate_ofFn_unit_eq (N := 2) (s₁ := ⟨5, ![4, 1, 4, P, Q]⟩) 1 ![_, _] h₅ _ (X y) rfl rfl fun n i hn _ hb => ?_
  have i0 : (i 0).val = (z 0).val / 8 := hb 0 (show (0 : Fin 5) ≠ 1 by decide)
  have i2 : (i 2).val = (z 0).val % 4 := hb 2 (show (2 : Fin 5) ≠ 1 by decide)
  have i3 : (i 3).val = (z 1).val := hb 3 (show (3 : Fin 5) ≠ 1 by decide)
  have i4 : (i 4).val = (z 2).val := hb 4 (show (4 : Fin 5) ≠ 1 by decide)
  have hk : (z 0).val / 4 % 2 = n.val := hn
  match n with
  | ⟨0, _⟩ =>
    exact pair_piece a b X h₁ h₂ h₃ h₄ la lb i y (by rw [y0, if_pos hk, i0]; omega) (y1.trans i2.symm) (y2.trans i3.symm) (y3.trans i4.symm)
  | ⟨1, _⟩ =>
    exact pair_piece a' b' X h₁' h₂' h₃' h₄' la' lb' i y (by rw [y0, if_neg (by rw [hk]; exact Nat.one_ne_zero), i0]; omega)
      (y1.trans i2.symm) (y2.trans i3.symm) (y3.trans i4.symm)

/-! ## Of every chip, what the two cores of another chip hold for it -/

/-- `u` is what chip `o` holds for chip `j`, core by core. -/
def Sent (u : (⟨4, ![1, 2, P, Q]⟩ : Shape).Idx → α) (X : (⟨3, ![32, P, Q]⟩ : Shape).Idx → α) (o j : ℕ) : Prop :=
  ∀ (i : (⟨4, ![1, 2, P, Q]⟩ : Shape).Idx) (y : (⟨3, ![32, P, Q]⟩ : Shape).Idx),
    (y 0).val = (o * 2 + (i 1).val) * 4 + j → (y 1).val = (i 2).val → (y 2).val = (i 3).val → u i = X y

/-- `w` is what chip `o j` holds for chip `j`, chip by chip. -/
def SentAll (w : (⟨4, ![4, 2, P, Q]⟩ : Shape).Idx → α) (X : (⟨3, ![32, P, Q]⟩ : Shape).Idx → α) (o : Fin 4 → ℕ) : Prop :=
  ∀ (k : (⟨4, ![4, 2, P, Q]⟩ : Shape).Idx) (y : (⟨3, ![32, P, Q]⟩ : Shape).Idx),
    (y 0).val = (o (k 0) * 2 + (k 1).val) * 4 + (k 0).val → (y 1).val = (k 2).val → (y 2).val = (k 3).val → w k = X y

abbrev chipOff (o j : ℕ) : Fin 5 → ℕ := ![o, 0, j, 0, 0]

theorem chip_piece (o j : ℕ) (X : (⟨3, ![32, P, Q]⟩ : Shape).Idx → α)
    (h₁ : (⟨3, ![32, P, Q]⟩ : Shape).ShapeCasts ⟨5, ![4, 2, 4, P, Q]⟩) (h₂ : (⟨5, ![4, 2, 4, P, Q]⟩ : Shape).Slices (chipOff o j) ⟨5, ![1, 2, 1, P, Q]⟩)
    (h₃ : (⟨5, ![1, 2, 1, P, Q]⟩ : Shape).ShapeCasts ⟨3, ![2, P, Q]⟩) (h₄ : (⟨3, ![2, P, Q]⟩ : Shape).BroadcastsInDim ⟨4, ![1, 2, P, Q]⟩ ![1, 2, 3])
    (lo : o < 4) (lj : j < 4) :
    Sent (broadcastInDim ⟨4, ![1, 2, P, Q]⟩ ![1, 2, 3] h₄
      (shapeCast ⟨3, ![2, P, Q]⟩ (extractStridedSlice ⟨5, ![1, 2, 1, P, Q]⟩ (chipOff o j) (shapeCast ⟨5, ![4, 2, 4, P, Q]⟩ X h₁) h₂) h₃)) X o j := by
  intro i y y0 y1 y2
  have e2 : (i 2).val < P := (i 2).isLt
  have e3 : (i 3).val < Q := (i 3).isLt
  rw [broadcastInDim_apply _ _ _ i (ValueIdx.ix3 (i 1) (i 2) (i 3) : (⟨3, ![2, P, Q]⟩ : Shape).Idx) (fun a => by
    match a with
    | ⟨0, _⟩ => rfl
    | ⟨1, _⟩ => show (i 2).val = if P = 1 then 0 else (i 2).val; split <;> omega
    | ⟨2, _⟩ => show (i 3).val = if Q = 1 then 0 else (i 3).val; split <;> omega)]
  rw [shapeCast_apply _ h₃ _ (ValueIdx.ix5 0 (i 1) 0 (i 2) (i 3) : (⟨5, ![1, 2, 1, P, Q]⟩ : Shape).Idx) (by
    rw [Shape.rowMajor_val_five, Shape.rowMajor_val_three]
    show ((((0 * 2 + (i 1).val) * 1 + 0) * P + (i 2).val) * Q + (i 3).val) = ((i 1).val * P + (i 2).val) * Q + (i 3).val
    simp only [Nat.mul_one, Nat.add_zero, Nat.zero_mul, Nat.zero_add])]
  rw [extractStridedSlice_apply _ _ h₂ _ (ValueIdx.ix5 ⟨o, lo⟩ (i 1) ⟨j, lj⟩ (i 2) (i 3) : (⟨5, ![4, 2, 4, P, Q]⟩ : Shape).Idx) (fun a => by
    match a with
    | ⟨0, _⟩ => rfl
    | ⟨1, _⟩ => exact (Nat.zero_add _).symm
    | ⟨2, _⟩ => rfl
    | ⟨3, _⟩ => exact (Nat.zero_add _).symm
    | ⟨4, _⟩ => exact (Nat.zero_add _).symm)]
  refine shapeCast_apply X h₁ _ y ?_
  rw [Shape.rowMajor_val_five, Shape.rowMajor_val_three]
  show ((y 0).val * P + (y 1).val) * Q + (y 2).val = (((o * 2 + (i 1).val) * 4 + j) * P + (i 2).val) * Q + (i 3).val
  rw [y0, y1, y2]

theorem chip_stack {u₀ u₁ u₂ u₃ : (⟨4, ![1, 2, P, Q]⟩ : Shape).Idx → α} {X : (⟨3, ![32, P, Q]⟩ : Shape).Idx → α} {o₀ o₁ o₂ o₃ : ℕ} (h)
    (h₀ : Sent u₀ X o₀ 0) (h₁ : Sent u₁ X o₁ 1) (h₂ : Sent u₂ X o₂ 2) (h₃ : Sent u₃ X o₃ 3) :
    SentAll (concatenate ⟨4, ![4, 2, P, Q]⟩ 0
      [⟨⟨4, ![1, 2, P, Q]⟩, u₀⟩, ⟨⟨4, ![1, 2, P, Q]⟩, u₁⟩, ⟨⟨4, ![1, 2, P, Q]⟩, u₂⟩, ⟨⟨4, ![1, 2, P, Q]⟩, u₃⟩] h) X ![o₀, o₁, o₂, o₃] := by
  intro k y y0 y1 y2
  refine concatenate_ofFn_unit_eq (N := 4) (s₁ := ⟨4, ![1, 2, P, Q]⟩) 0 ![u₀, u₁, u₂, u₃] h k (X y) rfl rfl fun n i hn _ hb => ?_
  have i1 : (i 1).val = (k 1).val := hb 1 (show (1 : Fin 4) ≠ 0 by decide)
  have i2 : (i 2).val = (k 2).val := hb 2 (show (2 : Fin 4) ≠ 0 by decide)
  have i3 : (i 3).val = (k 3).val := hb 3 (show (3 : Fin 4) ≠ 0 by decide)
  have hk : k 0 = n := Fin.ext hn
  rw [hk, ← i1] at y0
  match n with
  | ⟨0, _⟩ => exact h₀ i y y0 (y1.trans i2.symm) (y2.trans i3.symm)
  | ⟨1, _⟩ => exact h₁ i y y0 (y1.trans i2.symm) (y2.trans i3.symm)
  | ⟨2, _⟩ => exact h₂ i y y0 (y1.trans i2.symm) (y2.trans i3.symm)
  | ⟨3, _⟩ => exact h₃ i y y0 (y1.trans i2.symm) (y2.trans i3.symm)

/-- Its rows device by device: device `d`'s row `r` is row `r` of what chip `o (d / 2)`'s core `d % 2` holds for chip `d / 2`. -/
theorem chip_own {R : ℕ} {w : (⟨4, ![4, 2, P, Q]⟩ : Shape).Idx → α} {X : (⟨3, ![32, P, Q]⟩ : Shape).Idx → α} {o : Fin 4 → ℕ} (hw : SentAll w X o) (h)
    (d : Fin 8) (r : Fin P) (z : (⟨2, ![R, Q]⟩ : Shape).Idx) (y : (⟨3, ![32, P, Q]⟩ : Shape).Idx) (z0 : (z 0).val = d.val * P + r.val)
    (y0 : (y 0).val = (o ⟨d.val / 2, by omega⟩ * 2 + d.val % 2) * 4 + d.val / 2) (y1 : (y 1).val = r.val) (y2 : (y 2).val = (z 1).val) :
    shapeCast ⟨2, ![R, Q]⟩ w h z = X y := by
  rw [shapeCast_apply _ h z (ValueIdx.ix4 ⟨d.val / 2, by omega⟩ ⟨d.val % 2, by omega⟩ r (z 1) : (⟨4, ![4, 2, P, Q]⟩ : Shape).Idx) (by
    rw [Shape.rowMajor_val_four, Shape.rowMajor_val_two]
    show (((d.val / 2) * 2 + d.val % 2) * P + r.val) * Q + (z 1).val = (z 0).val * Q + (z 1).val
    rw [z0, show (d.val / 2) * 2 + d.val % 2 = d.val by omega])]
  exact hw _ y y0 y1 y2

/-- Three of them, side by side on every device. -/
theorem chip_rec {w₀ w₁ w₂ : (⟨4, ![4, 2, P, Q]⟩ : Shape).Idx → α} {X : (⟨3, ![32, P, Q]⟩ : Shape).Idx → α} {o₀ o₁ o₂ : Fin 4 → ℕ}
    (hw₀ : SentAll w₀ X o₀) (hw₁ : SentAll w₁ X o₁) (hw₂ : SentAll w₂ X o₂)
    (g₀ g₁ g₂ : (⟨4, ![4, 2, P, Q]⟩ : Shape).BroadcastsInDim ⟨5, ![4, 2, 1, P, Q]⟩ ![0, 1, 3, 4]) (g h)
    (d : Fin 8) (k : Fin 3) (z : (⟨3, ![24, P, Q]⟩ : Shape).Idx) (y : (⟨3, ![32, P, Q]⟩ : Shape).Idx) (z0 : (z 0).val = d.val * 3 + k.val)
    (y0 : (y 0).val = ((![o₀, o₁, o₂] : Fin 3 → Fin 4 → ℕ) k ⟨d.val / 2, by omega⟩ * 2 + d.val % 2) * 4 + d.val / 2)
    (y1 : (y 1).val = (z 1).val) (y2 : (y 2).val = (z 2).val) :
    shapeCast ⟨3, ![24, P, Q]⟩ (concatenate ⟨5, ![4, 2, 3, P, Q]⟩ 2
      [⟨⟨5, ![4, 2, 1, P, Q]⟩, broadcastInDim ⟨5, ![4, 2, 1, P, Q]⟩ ![0, 1, 3, 4] g₀ w₀⟩,
       ⟨⟨5, ![4, 2, 1, P, Q]⟩, broadcastInDim ⟨5, ![4, 2, 1, P, Q]⟩ ![0, 1, 3, 4] g₁ w₁⟩,
       ⟨⟨5, ![4, 2, 1, P, Q]⟩, broadcastInDim ⟨5, ![4, 2, 1, P, Q]⟩ ![0, 1, 3, 4] g₂ w₂⟩] g) h z = X y := by
  rw [shapeCast_apply _ h z (ValueIdx.ix5 ⟨d.val / 2, by omega⟩ ⟨d.val % 2, by omega⟩ k (z 1) (z 2) : (⟨5, ![4, 2, 3, P, Q]⟩ : Shape).Idx) (by
    rw [Shape.rowMajor_val_five, Shape.rowMajor_val_three]
    show ((((d.val / 2) * 2 + d.val % 2) * 3 + k.val) * P + (z 1).val) * Q + (z 2).val = ((z 0).val * P + (z 1).val) * Q + (z 2).val
    rw [z0, show (d.val / 2) * 2 + d.val % 2 = d.val by omega])]
  have one : ∀ {w : (⟨4, ![4, 2, P, Q]⟩ : Shape).Idx → α} {o : Fin 4 → ℕ} (hw : SentAll w X o) (g) (i : (⟨5, ![4, 2, 1, P, Q]⟩ : Shape).Idx),
      (i 0).val = d.val / 2 → (i 1).val = d.val % 2 → (i 3).val = (z 1).val → (i 4).val = (z 2).val →
      (y 0).val = (o ⟨d.val / 2, by omega⟩ * 2 + d.val % 2) * 4 + d.val / 2 →
      broadcastInDim ⟨5, ![4, 2, 1, P, Q]⟩ ![0, 1, 3, 4] g w i = X y := by
    intro w o hw g i i0 i1 i3 i4 yo
    have e2 : (i 3).val < P := (i 3).isLt
    have e3 : (i 4).val < Q := (i 4).isLt
    rw [broadcastInDim_apply _ _ _ i (ValueIdx.ix4 (i 0) (i 1) (i 3) (i 4) : (⟨4, ![4, 2, P, Q]⟩ : Shape).Idx) (fun a => by
      match a with
      | ⟨0, _⟩ => rfl
      | ⟨1, _⟩ => rfl
      | ⟨2, _⟩ => show (i 3).val = if P = 1 then 0 else (i 3).val; split <;> omega
      | ⟨3, _⟩ => show (i 4).val = if Q = 1 then 0 else (i 4).val; split <;> omega)]
    refine hw _ y ?_ (y1.trans i3.symm) (y2.trans i4.symm)
    show (y 0).val = (o (i 0) * 2 + (i 1).val) * 4 + (i 0).val
    rw [yo, i1, i0, show o (i 0) = o ⟨d.val / 2, by omega⟩ from congrArg o (Fin.ext i0)]
  refine concatenate_ofFn_unit_eq (N := 3) (s₁ := ⟨5, ![4, 2, 1, P, Q]⟩) 2 ![_, _, _] g _ (X y) rfl rfl fun n i hn _ hb => ?_
  have i0 : (i 0).val = d.val / 2 := hb 0 (show (0 : Fin 5) ≠ 2 by decide)
  have i1 : (i 1).val = d.val % 2 := hb 1 (show (1 : Fin 5) ≠ 2 by decide)
  have i3 : (i 3).val = (z 1).val := hb 3 (show (3 : Fin 5) ≠ 2 by decide)
  have i4 : (i 4).val = (z 2).val := hb 4 (show (4 : Fin 5) ≠ 2 by decide)
  have hk : k = n := Fin.ext hn
  rw [hk] at y0
  match n with
  | ⟨0, _⟩ => exact one hw₀ g₀ i i0 i1 i3 i4 y0
  | ⟨1, _⟩ => exact one hw₁ g₁ i i0 i1 i3 i4 y0
  | ⟨2, _⟩ => exact one hw₂ g₂ i i0 i1 i3 i4 y0

end Cert.Exchange

end
-- ==== Proof.PairValue.lean ====
/-
# The exchange of gradient halves: its results are the reference's, device by device
-/
module

public import proofs.«01_k».proof.Defs
public import proofs.«01_k».proof.Proof.PairRun
public import proofs.«01_k».proof.Proof.Gen.Pair
public import proofs.«01_k».proof.Proof.Gen.PairReference
public import proofs.«01_k».proof.Proof.Gen.PairReferenceIdeal.Run
public import proofs.«01_k».proof.Proof.Stacks

@[expose] public section

noncomputable section

namespace Cert.PairIdeal.Run

open Cert.PairIdeal Cert.Exchange
open Idealize.ShloMosaic Idealize.ShloMosaic.TcCoe Idealize.SL.Sem

variable {F : FTy → Type} [FloatOps F]

/-- The halves at two offsets, stacked. -/
abbrev stacked0 {o o' : Fin 6 → ℕ} (X : Cert.PairReferenceIdeal.S16x4x512x4096.Idx → Elt F .bf16) (h : Cert.PairReferenceIdeal.S4x2x2x4x512x4096.Slices o Cert.PairReferenceIdeal.S4x1x1x4x512x4096)
    (h' : Cert.PairReferenceIdeal.S4x2x2x4x512x4096.Slices o' Cert.PairReferenceIdeal.S4x1x1x4x512x4096) : Cert.PairReferenceIdeal.S4x2x4x512x4096.Idx → Elt F .bf16 :=
  concatenate _ 1
    [⟨_, broadcastInDim _ ![0, 2, 3, 4] Cert.PairReferenceIdeal.Gen.bcast_S4x4x512x4096_S4x1x4x512x4096_0_2_3_4 (shapeCast _ (extractStridedSlice _ o (shapeCast _ X Cert.PairReferenceIdeal.Gen.shapeCasts_S16x4x512x4096_S4x2x2x4x512x4096) h) Cert.PairReferenceIdeal.Gen.shapeCasts_S4x1x1x4x512x4096_S4x4x512x4096)⟩,
     ⟨_, broadcastInDim _ ![0, 2, 3, 4] Cert.PairReferenceIdeal.Gen.bcast_S4x4x512x4096_S4x1x4x512x4096_0_2_3_4 (shapeCast _ (extractStridedSlice _ o' (shapeCast _ X Cert.PairReferenceIdeal.Gen.shapeCasts_S16x4x512x4096_S4x2x2x4x512x4096) h') Cert.PairReferenceIdeal.Gen.shapeCasts_S4x1x1x4x512x4096_S4x4x512x4096)⟩] Cert.PairReferenceIdeal.Gen.concatenates_S4x1x4x512x4096_S4x1x4x512x4096_S4x2x4x512x4096_d1

theorem value_O0 (X : Cert.PairReferenceIdeal.S16x4x512x4096.Idx → Elt F .bf16) (m : (ℓ : Loc nD τ sig) → Buf (Elt F) ℓ)
    (h : ∀ d : Dev nD, m ((d : Thread nD τ).loc main_arg0) = Layout.block ⟨4, ![2, 4, 512, 4096]⟩ ⟨4, ![16, 4, 512, 4096]⟩ 0 8 d X) (c : Dev nD) :
    O0 m c = Layout.block ⟨3, ![4, 512, 4096]⟩ ⟨3, ![32, 512, 4096]⟩ 0 8 c (shapeCast Cert.PairReferenceIdeal.S32x512x4096
      (stacked0 X Cert.PairReferenceIdeal.Gen.slices_S4x2x2x4x512x4096_S4x1x1x4x512x4096_0_0_0_0_0_0 Cert.PairReferenceIdeal.Gen.slices_S4x2x2x4x512x4096_S4x1x1x4x512x4096_0_1_1_0_0_0) Cert.PairReferenceIdeal.Gen.shapeCasts_S4x2x4x512x4096_S32x512x4096) := by
  funext x
  have hc : c.val < 8 := c.isLt
  have hx : (x 0).val < 4 := (x 0).isLt
  show m _ _ = _
  rw [h, Layout.block_apply, Layout.block_apply]
  refine (pair_stack 0 0 1 1 X _ _ _ _ _ _ _ _ _ _ (by decide) (by decide) (by decide) (by decide) _ _ ?_ ?_ rfl rfl).symm
  · show c.val * 2 + c.val % 2 = 4 * ((c.val * 4 + (x 0).val) / 8) + if (c.val * 4 + (x 0).val) / 4 % 2 = 0 then _ else _
    rw [show (c.val * 4 + (x 0).val) / 4 = c.val by omega, show (c.val * 4 + (x 0).val) / 8 = c.val / 2 by omega]
    split <;> omega
  · show (x 0).val = (c.val * 4 + (x 0).val) % 4
    omega

theorem value_R0 (X : Cert.PairReferenceIdeal.S16x4x512x4096.Idx → Elt F .bf16) (m : (ℓ : Loc nD τ sig) → Buf (Elt F) ℓ)
    (h : ∀ d : Dev nD, m ((d : Thread nD τ).loc main_arg0) = Layout.block ⟨4, ![2, 4, 512, 4096]⟩ ⟨4, ![16, 4, 512, 4096]⟩ 0 8 d X) (c : Dev nD) :
    R0 m c = Layout.block ⟨3, ![4, 512, 4096]⟩ ⟨3, ![32, 512, 4096]⟩ 0 8 c (shapeCast Cert.PairReferenceIdeal.S32x512x4096
      (stacked0 X Cert.PairReferenceIdeal.Gen.slices_S4x2x2x4x512x4096_S4x1x1x4x512x4096_0_1_0_0_0_0 Cert.PairReferenceIdeal.Gen.slices_S4x2x2x4x512x4096_S4x1x1x4x512x4096_0_0_1_0_0_0) Cert.PairReferenceIdeal.Gen.shapeCasts_S4x2x4x512x4096_S32x512x4096) := by
  funext x
  have hc : c.val < 8 := c.isLt
  have hx : (x 0).val < 4 := (x 0).isLt
  show m _ _ = _
  rw [h, Layout.block_apply, Layout.block_apply]
  refine (pair_stack 1 0 0 1 X _ _ _ _ _ _ _ _ _ _ (by decide) (by decide) (by decide) (by decide) _ _ ?_ ?_ rfl rfl).symm
  · show (sib c).val * 2 + c.val % 2 = 4 * ((c.val * 4 + (x 0).val) / 8) + if (c.val * 4 + (x 0).val) / 4 % 2 = 0 then _ else _
    rw [show (c.val * 4 + (x 0).val) / 4 = c.val by omega, show (c.val * 4 + (x 0).val) / 8 = c.val / 2 by omega]
    simp only [sib]
    split <;> omega
  · show (x 0).val = (c.val * 4 + (x 0).val) % 4
    omega

/-- The halves at two offsets, stacked. -/
abbrev stacked1 {o o' : Fin 6 → ℕ} (X : Cert.PairReferenceIdeal.S16x4x928x1024.Idx → Elt F .bf16) (h : Cert.PairReferenceIdeal.S4x2x2x4x928x1024.Slices o Cert.PairReferenceIdeal.S4x1x1x4x928x1024)
    (h' : Cert.PairReferenceIdeal.S4x2x2x4x928x1024.Slices o' Cert.PairReferenceIdeal.S4x1x1x4x928x1024) : Cert.PairReferenceIdeal.S4x2x4x928x1024.Idx → Elt F .bf16 :=
  concatenate _ 1
    [⟨_, broadcastInDim _ ![0, 2, 3, 4] Cert.PairReferenceIdeal.Gen.bcast_S4x4x928x1024_S4x1x4x928x1024_0_2_3_4 (shapeCast _ (extractStridedSlice _ o (shapeCast _ X Cert.PairReferenceIdeal.Gen.shapeCasts_S16x4x928x1024_S4x2x2x4x928x1024) h) Cert.PairReferenceIdeal.Gen.shapeCasts_S4x1x1x4x928x1024_S4x4x928x1024)⟩,
     ⟨_, broadcastInDim _ ![0, 2, 3, 4] Cert.PairReferenceIdeal.Gen.bcast_S4x4x928x1024_S4x1x4x928x1024_0_2_3_4 (shapeCast _ (extractStridedSlice _ o' (shapeCast _ X Cert.PairReferenceIdeal.Gen.shapeCasts_S16x4x928x1024_S4x2x2x4x928x1024) h') Cert.PairReferenceIdeal.Gen.shapeCasts_S4x1x1x4x928x1024_S4x4x928x1024)⟩] Cert.PairReferenceIdeal.Gen.concatenates_S4x1x4x928x1024_S4x1x4x928x1024_S4x2x4x928x1024_d1

theorem value_O1 (X : Cert.PairReferenceIdeal.S16x4x928x1024.Idx → Elt F .bf16) (m : (ℓ : Loc nD τ sig) → Buf (Elt F) ℓ)
    (h : ∀ d : Dev nD, m ((d : Thread nD τ).loc main_arg1) = Layout.block ⟨4, ![2, 4, 928, 1024]⟩ ⟨4, ![16, 4, 928, 1024]⟩ 0 8 d X) (c : Dev nD) :
    O1 m c = Layout.block ⟨3, ![4, 928, 1024]⟩ ⟨3, ![32, 928, 1024]⟩ 0 8 c (shapeCast Cert.PairReferenceIdeal.S32x928x1024
      (stacked1 X Cert.PairReferenceIdeal.Gen.slices_S4x2x2x4x928x1024_S4x1x1x4x928x1024_0_0_0_0_0_0 Cert.PairReferenceIdeal.Gen.slices_S4x2x2x4x928x1024_S4x1x1x4x928x1024_0_1_1_0_0_0) Cert.PairReferenceIdeal.Gen.shapeCasts_S4x2x4x928x1024_S32x928x1024) := by
  funext x
  have hc : c.val < 8 := c.isLt
  have hx : (x 0).val < 4 := (x 0).isLt
  show m _ _ = _
  rw [h, Layout.block_apply, Layout.block_apply]
  refine (pair_stack 0 0 1 1 X _ _ _ _ _ _ _ _ _ _ (by decide) (by decide) (by decide) (by decide) _ _ ?_ ?_ rfl rfl).symm
  · show c.val * 2 + c.val % 2 = 4 * ((c.val * 4 + (x 0).val) / 8) + if (c.val * 4 + (x 0).val) / 4 % 2 = 0 then _ else _
    rw [show (c.val * 4 + (x 0).val) / 4 = c.val by omega, show (c.val * 4 + (x 0).val) / 8 = c.val / 2 by omega]
    split <;> omega
  · show (x 0).val = (c.val * 4 + (x 0).val) % 4
    omega

theorem value_R1 (X : Cert.PairReferenceIdeal.S16x4x928x1024.Idx → Elt F .bf16) (m : (ℓ : Loc nD τ sig) → Buf (Elt F) ℓ)
    (h : ∀ d : Dev nD, m ((d : Thread nD τ).loc main_arg1) = Layout.block ⟨4, ![2, 4, 928, 1024]⟩ ⟨4, ![16, 4, 928, 1024]⟩ 0 8 d X) (c : Dev nD) :
    R1 m c = Layout.block ⟨3, ![4, 928, 1024]⟩ ⟨3, ![32, 928, 1024]⟩ 0 8 c (shapeCast Cert.PairReferenceIdeal.S32x928x1024
      (stacked1 X Cert.PairReferenceIdeal.Gen.slices_S4x2x2x4x928x1024_S4x1x1x4x928x1024_0_1_0_0_0_0 Cert.PairReferenceIdeal.Gen.slices_S4x2x2x4x928x1024_S4x1x1x4x928x1024_0_0_1_0_0_0) Cert.PairReferenceIdeal.Gen.shapeCasts_S4x2x4x928x1024_S32x928x1024) := by
  funext x
  have hc : c.val < 8 := c.isLt
  have hx : (x 0).val < 4 := (x 0).isLt
  show m _ _ = _
  rw [h, Layout.block_apply, Layout.block_apply]
  refine (pair_stack 1 0 0 1 X _ _ _ _ _ _ _ _ _ _ (by decide) (by decide) (by decide) (by decide) _ _ ?_ ?_ rfl rfl).symm
  · show (sib c).val * 2 + c.val % 2 = 4 * ((c.val * 4 + (x 0).val) / 8) + if (c.val * 4 + (x 0).val) / 4 % 2 = 0 then _ else _
    rw [show (c.val * 4 + (x 0).val) / 4 = c.val by omega, show (c.val * 4 + (x 0).val) / 8 = c.val / 2 by omega]
    simp only [sib]
    split <;> omega
  · show (x 0).val = (c.val * 4 + (x 0).val) % 4
    omega

theorem frame_pair : Cert.quiescent_Pair := fun m g _ =>
  (θ_run Cert.PairIdeal.defs _ _).mono (fun _ h => ⟨fun c => ⟨(h.1 c).1, (h.1 c).2.1⟩, h.2⟩) (run_main (F := Bits) m g)
theorem frame_pair_ideal : Cert.quiescent_PairIdeal := fun m g _ =>
  (θ_run Cert.PairIdeal.defs _ _).mono (fun _ h => ⟨fun c => ⟨(h.1 c).1, (h.1 c).2.1⟩, h.2⟩) (run_main (F := Ideal) m g)

theorem frame_pair_reference : Cert.quiescent_PairReference := fun m g _ =>
  (θ_run Cert.PairReferenceIdeal.defs _ _).mono (fun r h => ⟨fun c => (h c).2.2.2.2, sem_eq_zero_of_no_sems (by decide) r.2⟩)
    (Cert.PairReferenceIdeal.Value.run (F := Bits) m g)
theorem frame_pair_reference_ideal : Cert.quiescent_PairReferenceIdeal := fun m g _ =>
  (θ_run Cert.PairReferenceIdeal.defs _ _).mono (fun r h => ⟨fun c => (h c).2.2.2.2, sem_eq_zero_of_no_sems (by decide) r.2⟩)
    (Cert.PairReferenceIdeal.Value.run (F := Ideal) m g)

theorem algebraic_pair : Cert.algebraic_PairIdeal_PairReferenceIdeal := by
  intro m g m' g' _ hag
  refine ⟨_, _, _, _, ?_, (θ_run Cert.PairReferenceIdeal.defs _ _).mono (fun r h => h 0) (Cert.PairReferenceIdeal.Value.run (F := Ideal) m' g')⟩
  refine (θ_run Cert.PairIdeal.defs _ _).mono (fun r h c => ?_) (run_main (F := Ideal) m g)
  obtain ⟨e0, e1, e2, e3, e4, e5⟩ := h.1 c
  exact ⟨e2.trans (value_O0 (F := Ideal) _ m (fun d => (hag d).1) c), e3.trans (value_R0 (F := Ideal) _ m (fun d => (hag d).1) c),
    e4.trans (value_O1 (F := Ideal) _ m (fun d => (hag d).2) c), e5.trans (value_R1 (F := Ideal) _ m (fun d => (hag d).2) c), e0, e1⟩

theorem bitexact_pair : Cert.bitexact_Pair_PairReference := by
  intro m g m' g' _ hag
  refine ⟨_, _, _, _, ?_, (θ_run Cert.PairReferenceIdeal.defs _ _).mono (fun r h => h 0) (Cert.PairReferenceIdeal.Value.run (F := Bits) m' g')⟩
  refine (θ_run Cert.PairIdeal.defs _ _).mono (fun r h c => ?_) (run_main (F := Bits) m g)
  obtain ⟨e0, e1, e2, e3, e4, e5⟩ := h.1 c
  exact ⟨e2.trans (value_O0 (F := Bits) _ m (fun d => (hag d).1) c), e3.trans (value_R0 (F := Bits) _ m (fun d => (hag d).1) c),
    e4.trans (value_O1 (F := Bits) _ m (fun d => (hag d).2) c), e5.trans (value_R1 (F := Bits) _ m (fun d => (hag d).2) c), e0, e1⟩

end Cert.PairIdeal.Run

end
-- ==== Proof.ChipRun.lean ====
/-
# The exchange of gradient chunks between the chips

Device `c` copies chunk `c / 2` of its two arguments into its own results, and for each of the three devices of its core on
the other chips the chunk of that chip into a slot of that device's receiving results. The launch deals device `c` its own
keeping results and, of each of the three devices, the slot it writes.
-/
module

public import proofs.«01_k».proof.Proof.Slots
public import proofs.«01_k».proof.Proof.Gen.ChipIdeal.Skeleton
public import proofs.«01_k».proof.Proof.Gen.ChipIdeal.Launch

@[expose] public section

noncomputable section

namespace Cert.ChipIdeal.Run

open Cert.ChipIdeal Cert.ChipIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Devices -/

/-- The device of the same core on the chip across `x`, across `y`, across both. -/
def far (k : Fin 3) (c : Dev nD) : Dev nD :=
  ⟨match k with | 0 => (c.val + 4) % 8 | 1 => 4 * (c.val / 4) + (c.val + 2) % 4 | 2 => (4 * (c.val / 4) + (c.val + 2) % 4 + 4) % 8, by
    have := c.isLt; simp only [nD] at *; fin_cases k <;> (dsimp only; omega)⟩
theorem far_far (k : Fin 3) (c : Dev nD) : far k (far k c) = c := by revert k c; decide
theorem dev1_eq (c : Dev nD) : (⟨k0_dev1 c, k0_dev1_lt c⟩ : Dev nD) = far 0 c := Fin.ext ((k0_dev1_eq c).trans (by revert c; decide))
theorem dev2_eq (c : Dev nD) : (⟨k0_dev2 c, k0_dev2_lt c⟩ : Dev nD) = far 0 c := Fin.ext ((k0_dev2_eq c).trans (by revert c; decide))
theorem dev3_eq (c : Dev nD) : (⟨k0_dev3 c, k0_dev3_lt c⟩ : Dev nD) = far 1 c := Fin.ext ((k0_dev3_eq c).trans (by revert c; decide))
theorem dev4_eq (c : Dev nD) : (⟨k0_dev4 c, k0_dev4_lt c⟩ : Dev nD) = far 1 c := Fin.ext ((k0_dev4_eq c).trans (by revert c; decide))
theorem dev5_eq (c : Dev nD) : (⟨k0_dev5 c, k0_dev5_lt c⟩ : Dev nD) = far 2 c := Fin.ext ((k0_dev5_eq c).trans (by revert c; decide))
theorem dev6_eq (c : Dev nD) : (⟨k0_dev6 c, k0_dev6_lt c⟩ : Dev nD) = far 2 c := Fin.ext ((k0_dev6_eq c).trans (by revert c; decide))
/-- A device's chip. -/
def chip (c : Dev nD) : Fin 4 := ⟨c.val / 2, by have := c.isLt; simp only [nD] at this; omega⟩

/-! ## Contents -/

variable (m : (ℓ : Loc nD τ sig) → Buf (Elt F) ℓ)

abbrev A0 (c : Dev nD) : Buf (Elt F) ((c : Thread nD τ).loc main_arg0) := m ((c : Thread nD τ).loc main_arg0)
abbrev A1 (c : Dev nD) : Buf (Elt F) ((c : Thread nD τ).loc main_arg1) := m ((c : Thread nD τ).loc main_arg1)
/-- What the results end at: its own chip's chunk of its own arguments, and of the other chips'. -/
def O0 (c : Dev nD) : Buf (Elt F) ((c : Thread nD τ).loc main_v1_0) := fun x : S512x4096.Idx => A0 m c (lead (n := 4) (t := ![512, 4096]) (chip c) x)
def O1 (c : Dev nD) : Buf (Elt F) ((c : Thread nD τ).loc main_v1_2) := fun x : S928x1024.Idx => A1 m c (lead (n := 4) (t := ![928, 1024]) (chip c) x)
def R0 (c : Dev nD) : Buf (Elt F) ((c : Thread nD τ).loc main_v1_1) := fun x : S3x512x4096.Idx =>
  A0 m (far ⟨(x 0).val, (x 0).isLt⟩ c) (lead (n := 4) (t := ![512, 4096]) (chip c) (tail (t := ![512, 4096]) x))
def R1 (c : Dev nD) : Buf (Elt F) ((c : Thread nD τ).loc main_v1_3) := fun x : S3x928x1024.Idx =>
  A1 m (far ⟨(x 0).val, (x 0).isLt⟩ c) (lead (n := 4) (t := ![928, 1024]) (chip c) (tail (t := ![928, 1024]) x))

/-! ## The chunks and the slots -/

def chunk0 (k : ℕ) : Finset S4x512x4096.Idx := Finset.univ.filter fun x => (x 0).val = k
def slot0 (k : ℕ) : Finset S3x512x4096.Idx := Finset.univ.filter fun x => (x 0).val = k
abbrev K0 (d : Dev nD) : Memref sig .tc .hbm S512x4096 .bf16 :=
  ((Memref.whole main_arg0 : Memref sig .tc .hbm S4x512x4096 .bf16).slice (Rect.unit (s := S4x512x4096) (k0_off1 d) S1x512x4096.size (k0_off1_inb d)) (fun _ => rfl)).squeeze S512x4096 squeezes_S1x512x4096_S512x4096
theorem off1_0 (d : Dev nD) : k0_off1 d 0 = d.val / 2 := by rw [k0_off1_eq]; revert d; decide
theorem off1_s (d : Dev nD) (a : Fin 2) : k0_off1 d a.succ = 0 := by rw [k0_off1_eq]; fin_cases a <;> rfl
theorem set_K0 (d : Dev nD) : (K0 d).view.set = chunk0 (d.val / 2) :=
  (set_slot (n := 4) (t := ![512, 4096]) (Memref.whole main_arg0 : Memref sig .tc .hbm S4x512x4096 .bf16) (k0_off1 d) (k0_off1_inb d) (fun _ => rfl) squeezes_S1x512x4096_S512x4096
    _ (off1_0 d) (off1_s d)).trans (Finset.map_refl)
/-- Its own chip's chunk is what its own result ends at. -/
theorem read_K0 (c : Dev nD) : (Memref.whole main_v1_0 : Memref sig .tc .hbm S512x4096 .bf16).view.read (Elt F) (O0 m c) = (K0 c).view.read (Elt F) (A0 m c) :=
  (read_lead (n := 4) (t := ![512, 4096]) (Memref.whole main_arg0 : Memref sig .tc .hbm S4x512x4096 .bf16) (k0_off1 c) (k0_off1_inb c) (fun _ => rfl) squeezes_S1x512x4096_S512x4096
    _ (off1_0 c) (off1_s c) (chip c).isLt (A0 m c)).symm
abbrev G00 (d : Dev nD) : Memref sig .tc .hbm S512x4096 .bf16 :=
  ((Memref.whole main_arg0 : Memref sig .tc .hbm S4x512x4096 .bf16).slice (Rect.unit (s := S4x512x4096) (k0_off3 d) S1x512x4096.size (k0_off3_inb d)) (fun _ => rfl)).squeeze S512x4096 squeezes_S1x512x4096_S512x4096
theorem off3_0 (d : Dev nD) : k0_off3 d 0 = (far 0 d).val / 2 := by rw [k0_off3_eq]; revert d; decide
theorem off3_s (d : Dev nD) (a : Fin 2) : k0_off3 d a.succ = 0 := by rw [k0_off3_eq]; fin_cases a <;> rfl
theorem set_G00 (d : Dev nD) : (G00 d).view.set = chunk0 ((far 0 d).val / 2) :=
  (set_slot (n := 4) (t := ![512, 4096]) (Memref.whole main_arg0 : Memref sig .tc .hbm S4x512x4096 .bf16) (k0_off3 d) (k0_off3_inb d) (fun _ => rfl) squeezes_S1x512x4096_S512x4096
    _ (off3_0 d) (off3_s d)).trans (Finset.map_refl)
abbrev D00 : Memref sig .tc .hbm S512x4096 .bf16 :=
  ((Memref.whole main_v1_1 : Memref sig .tc .hbm S3x512x4096 .bf16).slice (Rect.unit (s := S3x512x4096) ![0, 0, 0] S1x512x4096.size inb_S3x512x4096_S1x512x4096_0_0_0) (fun _ => rfl)).squeeze S512x4096 squeezes_S1x512x4096_S512x4096
theorem set_D00 : (D00).view.set = slot0 0 :=
  (set_slot (n := 3) (t := ![512, 4096]) (Memref.whole main_v1_1 : Memref sig .tc .hbm S3x512x4096 .bf16) ![0, 0, 0] inb_S3x512x4096_S1x512x4096_0_0_0 (fun _ => rfl) squeezes_S1x512x4096_S512x4096
    0 rfl (by decide)).trans (Finset.map_refl)
/-- The chunk of the device across is what slot 0 there ends at. -/
theorem read_D00 (c : Dev nD) : (D00).view.read (Elt F) (R0 m (far 0 c)) = (G00 c).view.read (Elt F) (A0 m c) := by
  rw [read_lead (n := 4) (t := ![512, 4096]) (Memref.whole main_arg0 : Memref sig .tc .hbm S4x512x4096 .bf16) (k0_off3 c) (k0_off3_inb c) (fun _ => rfl) squeezes_S1x512x4096_S512x4096
    _ (off3_0 c) (off3_s c) (chip (far 0 c)).isLt (A0 m c)]
  funext j
  obtain ⟨x, hx, h1, h2⟩ := read_slot (n := 3) (t := ![512, 4096]) (Memref.whole main_v1_1 : Memref sig .tc .hbm S3x512x4096 .bf16) ![0, 0, 0] inb_S3x512x4096_S1x512x4096_0_0_0 (fun _ => rfl) squeezes_S1x512x4096_S512x4096
    0 rfl (by decide) (R0 m (far 0 c)) j
  refine hx.trans ?_
  show A0 m (far ⟨(x 0).val, (x 0).isLt⟩ (far 0 c)) (lead (n := 4) (t := ![512, 4096]) (chip (far 0 c)) (tail (t := ![512, 4096]) x)) = A0 m c (lead (n := 4) (t := ![512, 4096]) (chip (far 0 c)) j)
  rw [h2, show (⟨(x 0).val, (x 0).isLt⟩ : Fin 3) = 0 from Fin.ext h1, far_far]
abbrev G01 (d : Dev nD) : Memref sig .tc .hbm S512x4096 .bf16 :=
  ((Memref.whole main_arg0 : Memref sig .tc .hbm S4x512x4096 .bf16).slice (Rect.unit (s := S4x512x4096) (k0_off5 d) S1x512x4096.size (k0_off5_inb d)) (fun _ => rfl)).squeeze S512x4096 squeezes_S1x512x4096_S512x4096
theorem off5_0 (d : Dev nD) : k0_off5 d 0 = (far 1 d).val / 2 := by rw [k0_off5_eq]; revert d; decide
theorem off5_s (d : Dev nD) (a : Fin 2) : k0_off5 d a.succ = 0 := by rw [k0_off5_eq]; fin_cases a <;> rfl
theorem set_G01 (d : Dev nD) : (G01 d).view.set = chunk0 ((far 1 d).val / 2) :=
  (set_slot (n := 4) (t := ![512, 4096]) (Memref.whole main_arg0 : Memref sig .tc .hbm S4x512x4096 .bf16) (k0_off5 d) (k0_off5_inb d) (fun _ => rfl) squeezes_S1x512x4096_S512x4096
    _ (off5_0 d) (off5_s d)).trans (Finset.map_refl)
abbrev D01 : Memref sig .tc .hbm S512x4096 .bf16 :=
  ((Memref.whole main_v1_1 : Memref sig .tc .hbm S3x512x4096 .bf16).slice (Rect.unit (s := S3x512x4096) ![1, 0, 0] S1x512x4096.size inb_S3x512x4096_S1x512x4096_1_0_0) (fun _ => rfl)).squeeze S512x4096 squeezes_S1x512x4096_S512x4096
theorem set_D01 : (D01).view.set = slot0 1 :=
  (set_slot (n := 3) (t := ![512, 4096]) (Memref.whole main_v1_1 : Memref sig .tc .hbm S3x512x4096 .bf16) ![1, 0, 0] inb_S3x512x4096_S1x512x4096_1_0_0 (fun _ => rfl) squeezes_S1x512x4096_S512x4096
    1 rfl (by decide)).trans (Finset.map_refl)
/-- The chunk of the device across is what slot 1 there ends at. -/
theorem read_D01 (c : Dev nD) : (D01).view.read (Elt F) (R0 m (far 1 c)) = (G01 c).view.read (Elt F) (A0 m c) := by
  rw [read_lead (n := 4) (t := ![512, 4096]) (Memref.whole main_arg0 : Memref sig .tc .hbm S4x512x4096 .bf16) (k0_off5 c) (k0_off5_inb c) (fun _ => rfl) squeezes_S1x512x4096_S512x4096
    _ (off5_0 c) (off5_s c) (chip (far 1 c)).isLt (A0 m c)]
  funext j
  obtain ⟨x, hx, h1, h2⟩ := read_slot (n := 3) (t := ![512, 4096]) (Memref.whole main_v1_1 : Memref sig .tc .hbm S3x512x4096 .bf16) ![1, 0, 0] inb_S3x512x4096_S1x512x4096_1_0_0 (fun _ => rfl) squeezes_S1x512x4096_S512x4096
    1 rfl (by decide) (R0 m (far 1 c)) j
  refine hx.trans ?_
  show A0 m (far ⟨(x 0).val, (x 0).isLt⟩ (far 1 c)) (lead (n := 4) (t := ![512, 4096]) (chip (far 1 c)) (tail (t := ![512, 4096]) x)) = A0 m c (lead (n := 4) (t := ![512, 4096]) (chip (far 1 c)) j)
  rw [h2, show (⟨(x 0).val, (x 0).isLt⟩ : Fin 3) = 1 from Fin.ext h1, far_far]
abbrev G02 (d : Dev nD) : Memref sig .tc .hbm S512x4096 .bf16 :=
  ((Memref.whole main_arg0 : Memref sig .tc .hbm S4x512x4096 .bf16).slice (Rect.unit (s := S4x512x4096) (k0_off7 d) S1x512x4096.size (k0_off7_inb d)) (fun _ => rfl)).squeeze S512x4096 squeezes_S1x512x4096_S512x4096
theorem off7_0 (d : Dev nD) : k0_off7 d 0 = (far 2 d).val / 2 := by rw [k0_off7_eq]; revert d; decide
theorem off7_s (d : Dev nD) (a : Fin 2) : k0_off7 d a.succ = 0 := by rw [k0_off7_eq]; fin_cases a <;> rfl
theorem set_G02 (d : Dev nD) : (G02 d).view.set = chunk0 ((far 2 d).val / 2) :=
  (set_slot (n := 4) (t := ![512, 4096]) (Memref.whole main_arg0 : Memref sig .tc .hbm S4x512x4096 .bf16) (k0_off7 d) (k0_off7_inb d) (fun _ => rfl) squeezes_S1x512x4096_S512x4096
    _ (off7_0 d) (off7_s d)).trans (Finset.map_refl)
abbrev D02 : Memref sig .tc .hbm S512x4096 .bf16 :=
  ((Memref.whole main_v1_1 : Memref sig .tc .hbm S3x512x4096 .bf16).slice (Rect.unit (s := S3x512x4096) ![2, 0, 0] S1x512x4096.size inb_S3x512x4096_S1x512x4096_2_0_0) (fun _ => rfl)).squeeze S512x4096 squeezes_S1x512x4096_S512x4096
theorem set_D02 : (D02).view.set = slot0 2 :=
  (set_slot (n := 3) (t := ![512, 4096]) (Memref.whole main_v1_1 : Memref sig .tc .hbm S3x512x4096 .bf16) ![2, 0, 0] inb_S3x512x4096_S1x512x4096_2_0_0 (fun _ => rfl) squeezes_S1x512x4096_S512x4096
    2 rfl (by decide)).trans (Finset.map_refl)
/-- The chunk of the device across is what slot 2 there ends at. -/
theorem read_D02 (c : Dev nD) : (D02).view.read (Elt F) (R0 m (far 2 c)) = (G02 c).view.read (Elt F) (A0 m c) := by
  rw [read_lead (n := 4) (t := ![512, 4096]) (Memref.whole main_arg0 : Memref sig .tc .hbm S4x512x4096 .bf16) (k0_off7 c) (k0_off7_inb c) (fun _ => rfl) squeezes_S1x512x4096_S512x4096
    _ (off7_0 c) (off7_s c) (chip (far 2 c)).isLt (A0 m c)]
  funext j
  obtain ⟨x, hx, h1, h2⟩ := read_slot (n := 3) (t := ![512, 4096]) (Memref.whole main_v1_1 : Memref sig .tc .hbm S3x512x4096 .bf16) ![2, 0, 0] inb_S3x512x4096_S1x512x4096_2_0_0 (fun _ => rfl) squeezes_S1x512x4096_S512x4096
    2 rfl (by decide) (R0 m (far 2 c)) j
  refine hx.trans ?_
  show A0 m (far ⟨(x 0).val, (x 0).isLt⟩ (far 2 c)) (lead (n := 4) (t := ![512, 4096]) (chip (far 2 c)) (tail (t := ![512, 4096]) x)) = A0 m c (lead (n := 4) (t := ![512, 4096]) (chip (far 2 c)) j)
  rw [h2, show (⟨(x 0).val, (x 0).isLt⟩ : Fin 3) = 2 from Fin.ext h1, far_far]

def chunk1 (k : ℕ) : Finset S4x928x1024.Idx := Finset.univ.filter fun x => (x 0).val = k
def slot1 (k : ℕ) : Finset S3x928x1024.Idx := Finset.univ.filter fun x => (x 0).val = k
abbrev K1 (d : Dev nD) : Memref sig .tc .hbm S928x1024 .bf16 :=
  ((Memref.whole main_arg1 : Memref sig .tc .hbm S4x928x1024 .bf16).slice (Rect.unit (s := S4x928x1024) (k0_off2 d) S1x928x1024.size (k0_off2_inb d)) (fun _ => rfl)).squeeze S928x1024 squeezes_S1x928x1024_S928x1024
theorem off2_0 (d : Dev nD) : k0_off2 d 0 = d.val / 2 := by rw [k0_off2_eq]; revert d; decide
theorem off2_s (d : Dev nD) (a : Fin 2) : k0_off2 d a.succ = 0 := by rw [k0_off2_eq]; fin_cases a <;> rfl
theorem set_K1 (d : Dev nD) : (K1 d).view.set = chunk1 (d.val / 2) :=
  (set_slot (n := 4) (t := ![928, 1024]) (Memref.whole main_arg1 : Memref sig .tc .hbm S4x928x1024 .bf16) (k0_off2 d) (k0_off2_inb d) (fun _ => rfl) squeezes_S1x928x1024_S928x1024
    _ (off2_0 d) (off2_s d)).trans (Finset.map_refl)
/-- Its own chip's chunk is what its own result ends at. -/
theorem read_K1 (c : Dev nD) : (Memref.whole main_v1_2 : Memref sig .tc .hbm S928x1024 .bf16).view.read (Elt F) (O1 m c) = (K1 c).view.read (Elt F) (A1 m c) :=
  (read_lead (n := 4) (t := ![928, 1024]) (Memref.whole main_arg1 : Memref sig .tc .hbm S4x928x1024 .bf16) (k0_off2 c) (k0_off2_inb c) (fun _ => rfl) squeezes_S1x928x1024_S928x1024
    _ (off2_0 c) (off2_s c) (chip c).isLt (A1 m c)).symm
abbrev G10 (d : Dev nD) : Memref sig .tc .hbm S928x1024 .bf16 :=
  ((Memref.whole main_arg1 : Memref sig .tc .hbm S4x928x1024 .bf16).slice (Rect.unit (s := S4x928x1024) (k0_off4 d) S1x928x1024.size (k0_off4_inb d)) (fun _ => rfl)).squeeze S928x1024 squeezes_S1x928x1024_S928x1024
theorem off4_0 (d : Dev nD) : k0_off4 d 0 = (far 0 d).val / 2 := by rw [k0_off4_eq]; revert d; decide
theorem off4_s (d : Dev nD) (a : Fin 2) : k0_off4 d a.succ = 0 := by rw [k0_off4_eq]; fin_cases a <;> rfl
theorem set_G10 (d : Dev nD) : (G10 d).view.set = chunk1 ((far 0 d).val / 2) :=
  (set_slot (n := 4) (t := ![928, 1024]) (Memref.whole main_arg1 : Memref sig .tc .hbm S4x928x1024 .bf16) (k0_off4 d) (k0_off4_inb d) (fun _ => rfl) squeezes_S1x928x1024_S928x1024
    _ (off4_0 d) (off4_s d)).trans (Finset.map_refl)
abbrev D10 : Memref sig .tc .hbm S928x1024 .bf16 :=
  ((Memref.whole main_v1_3 : Memref sig .tc .hbm S3x928x1024 .bf16).slice (Rect.unit (s := S3x928x1024) ![0, 0, 0] S1x928x1024.size inb_S3x928x1024_S1x928x1024_0_0_0) (fun _ => rfl)).squeeze S928x1024 squeezes_S1x928x1024_S928x1024
theorem set_D10 : (D10).view.set = slot1 0 :=
  (set_slot (n := 3) (t := ![928, 1024]) (Memref.whole main_v1_3 : Memref sig .tc .hbm S3x928x1024 .bf16) ![0, 0, 0] inb_S3x928x1024_S1x928x1024_0_0_0 (fun _ => rfl) squeezes_S1x928x1024_S928x1024
    0 rfl (by decide)).trans (Finset.map_refl)
/-- The chunk of the device across is what slot 0 there ends at. -/
theorem read_D10 (c : Dev nD) : (D10).view.read (Elt F) (R1 m (far 0 c)) = (G10 c).view.read (Elt F) (A1 m c) := by
  rw [read_lead (n := 4) (t := ![928, 1024]) (Memref.whole main_arg1 : Memref sig .tc .hbm S4x928x1024 .bf16) (k0_off4 c) (k0_off4_inb c) (fun _ => rfl) squeezes_S1x928x1024_S928x1024
    _ (off4_0 c) (off4_s c) (chip (far 0 c)).isLt (A1 m c)]
  funext j
  obtain ⟨x, hx, h1, h2⟩ := read_slot (n := 3) (t := ![928, 1024]) (Memref.whole main_v1_3 : Memref sig .tc .hbm S3x928x1024 .bf16) ![0, 0, 0] inb_S3x928x1024_S1x928x1024_0_0_0 (fun _ => rfl) squeezes_S1x928x1024_S928x1024
    0 rfl (by decide) (R1 m (far 0 c)) j
  refine hx.trans ?_
  show A1 m (far ⟨(x 0).val, (x 0).isLt⟩ (far 0 c)) (lead (n := 4) (t := ![928, 1024]) (chip (far 0 c)) (tail (t := ![928, 1024]) x)) = A1 m c (lead (n := 4) (t := ![928, 1024]) (chip (far 0 c)) j)
  rw [h2, show (⟨(x 0).val, (x 0).isLt⟩ : Fin 3) = 0 from Fin.ext h1, far_far]
abbrev G11 (d : Dev nD) : Memref sig .tc .hbm S928x1024 .bf16 :=
  ((Memref.whole main_arg1 : Memref sig .tc .hbm S4x928x1024 .bf16).slice (Rect.unit (s := S4x928x1024) (k0_off6 d) S1x928x1024.size (k0_off6_inb d)) (fun _ => rfl)).squeeze S928x1024 squeezes_S1x928x1024_S928x1024
theorem off6_0 (d : Dev nD) : k0_off6 d 0 = (far 1 d).val / 2 := by rw [k0_off6_eq]; revert d; decide
theorem off6_s (d : Dev nD) (a : Fin 2) : k0_off6 d a.succ = 0 := by rw [k0_off6_eq]; fin_cases a <;> rfl
theorem set_G11 (d : Dev nD) : (G11 d).view.set = chunk1 ((far 1 d).val / 2) :=
  (set_slot (n := 4) (t := ![928, 1024]) (Memref.whole main_arg1 : Memref sig .tc .hbm S4x928x1024 .bf16) (k0_off6 d) (k0_off6_inb d) (fun _ => rfl) squeezes_S1x928x1024_S928x1024
    _ (off6_0 d) (off6_s d)).trans (Finset.map_refl)
abbrev D11 : Memref sig .tc .hbm S928x1024 .bf16 :=
  ((Memref.whole main_v1_3 : Memref sig .tc .hbm S3x928x1024 .bf16).slice (Rect.unit (s := S3x928x1024) ![1, 0, 0] S1x928x1024.size inb_S3x928x1024_S1x928x1024_1_0_0) (fun _ => rfl)).squeeze S928x1024 squeezes_S1x928x1024_S928x1024
theorem set_D11 : (D11).view.set = slot1 1 :=
  (set_slot (n := 3) (t := ![928, 1024]) (Memref.whole main_v1_3 : Memref sig .tc .hbm S3x928x1024 .bf16) ![1, 0, 0] inb_S3x928x1024_S1x928x1024_1_0_0 (fun _ => rfl) squeezes_S1x928x1024_S928x1024
    1 rfl (by decide)).trans (Finset.map_refl)
/-- The chunk of the device across is what slot 1 there ends at. -/
theorem read_D11 (c : Dev nD) : (D11).view.read (Elt F) (R1 m (far 1 c)) = (G11 c).view.read (Elt F) (A1 m c) := by
  rw [read_lead (n := 4) (t := ![928, 1024]) (Memref.whole main_arg1 : Memref sig .tc .hbm S4x928x1024 .bf16) (k0_off6 c) (k0_off6_inb c) (fun _ => rfl) squeezes_S1x928x1024_S928x1024
    _ (off6_0 c) (off6_s c) (chip (far 1 c)).isLt (A1 m c)]
  funext j
  obtain ⟨x, hx, h1, h2⟩ := read_slot (n := 3) (t := ![928, 1024]) (Memref.whole main_v1_3 : Memref sig .tc .hbm S3x928x1024 .bf16) ![1, 0, 0] inb_S3x928x1024_S1x928x1024_1_0_0 (fun _ => rfl) squeezes_S1x928x1024_S928x1024
    1 rfl (by decide) (R1 m (far 1 c)) j
  refine hx.trans ?_
  show A1 m (far ⟨(x 0).val, (x 0).isLt⟩ (far 1 c)) (lead (n := 4) (t := ![928, 1024]) (chip (far 1 c)) (tail (t := ![928, 1024]) x)) = A1 m c (lead (n := 4) (t := ![928, 1024]) (chip (far 1 c)) j)
  rw [h2, show (⟨(x 0).val, (x 0).isLt⟩ : Fin 3) = 1 from Fin.ext h1, far_far]
abbrev G12 (d : Dev nD) : Memref sig .tc .hbm S928x1024 .bf16 :=
  ((Memref.whole main_arg1 : Memref sig .tc .hbm S4x928x1024 .bf16).slice (Rect.unit (s := S4x928x1024) (k0_off8 d) S1x928x1024.size (k0_off8_inb d)) (fun _ => rfl)).squeeze S928x1024 squeezes_S1x928x1024_S928x1024
theorem off8_0 (d : Dev nD) : k0_off8 d 0 = (far 2 d).val / 2 := by rw [k0_off8_eq]; revert d; decide
theorem off8_s (d : Dev nD) (a : Fin 2) : k0_off8 d a.succ = 0 := by rw [k0_off8_eq]; fin_cases a <;> rfl
theorem set_G12 (d : Dev nD) : (G12 d).view.set = chunk1 ((far 2 d).val / 2) :=
  (set_slot (n := 4) (t := ![928, 1024]) (Memref.whole main_arg1 : Memref sig .tc .hbm S4x928x1024 .bf16) (k0_off8 d) (k0_off8_inb d) (fun _ => rfl) squeezes_S1x928x1024_S928x1024
    _ (off8_0 d) (off8_s d)).trans (Finset.map_refl)
abbrev D12 : Memref sig .tc .hbm S928x1024 .bf16 :=
  ((Memref.whole main_v1_3 : Memref sig .tc .hbm S3x928x1024 .bf16).slice (Rect.unit (s := S3x928x1024) ![2, 0, 0] S1x928x1024.size inb_S3x928x1024_S1x928x1024_2_0_0) (fun _ => rfl)).squeeze S928x1024 squeezes_S1x928x1024_S928x1024
theorem set_D12 : (D12).view.set = slot1 2 :=
  (set_slot (n := 3) (t := ![928, 1024]) (Memref.whole main_v1_3 : Memref sig .tc .hbm S3x928x1024 .bf16) ![2, 0, 0] inb_S3x928x1024_S1x928x1024_2_0_0 (fun _ => rfl) squeezes_S1x928x1024_S928x1024
    2 rfl (by decide)).trans (Finset.map_refl)
/-- The chunk of the device across is what slot 2 there ends at. -/
theorem read_D12 (c : Dev nD) : (D12).view.read (Elt F) (R1 m (far 2 c)) = (G12 c).view.read (Elt F) (A1 m c) := by
  rw [read_lead (n := 4) (t := ![928, 1024]) (Memref.whole main_arg1 : Memref sig .tc .hbm S4x928x1024 .bf16) (k0_off8 c) (k0_off8_inb c) (fun _ => rfl) squeezes_S1x928x1024_S928x1024
    _ (off8_0 c) (off8_s c) (chip (far 2 c)).isLt (A1 m c)]
  funext j
  obtain ⟨x, hx, h1, h2⟩ := read_slot (n := 3) (t := ![928, 1024]) (Memref.whole main_v1_3 : Memref sig .tc .hbm S3x928x1024 .bf16) ![2, 0, 0] inb_S3x928x1024_S1x928x1024_2_0_0 (fun _ => rfl) squeezes_S1x928x1024_S928x1024
    2 rfl (by decide) (R1 m (far 2 c)) j
  refine hx.trans ?_
  show A1 m (far ⟨(x 0).val, (x 0).isLt⟩ (far 2 c)) (lead (n := 4) (t := ![928, 1024]) (chip (far 2 c)) (tail (t := ![928, 1024]) x)) = A1 m c (lead (n := 4) (t := ![928, 1024]) (chip (far 2 c)) j)
  rw [h2, show (⟨(x 0).val, (x 0).isLt⟩ : Fin 3) = 2 from Fin.ext h1, far_far]

/-! ## The plan -/

abbrev N0 : ℕ := (Memref.whole main_v1_0 : Memref sig .tc .hbm S512x4096 .bf16).view.dmaCredit
abbrev N1 : ℕ := (Memref.whole main_v1_2 : Memref sig .tc .hbm S928x1024 .bf16).view.dmaCredit

abbrev osem : Fin 14 → SemLoc sig
  | 0 => .dma ((cc0_scratch0.slice (Rect.unit (s := S6) ![0] S1.size inb_S6_S1_0)).squeeze S_ squeezes_S1_S_).sem
  | 1 => .dma ((cc0_scratch0.slice (Rect.unit (s := S6) ![1] S1.size inb_S6_S1_1)).squeeze S_ squeezes_S1_S_).sem
  | 2 => .dma ((cc0_scratch0.slice (Rect.unit (s := S6) ![2] S1.size inb_S6_S1_2)).squeeze S_ squeezes_S1_S_).sem
  | 3 => .dma ((cc0_scratch0.slice (Rect.unit (s := S6) ![3] S1.size inb_S6_S1_3)).squeeze S_ squeezes_S1_S_).sem
  | 4 => .dma ((cc0_scratch0.slice (Rect.unit (s := S6) ![4] S1.size inb_S6_S1_4)).squeeze S_ squeezes_S1_S_).sem
  | 5 => .dma ((cc0_scratch0.slice (Rect.unit (s := S6) ![5] S1.size inb_S6_S1_5)).squeeze S_ squeezes_S1_S_).sem
  | 6 => .dma ((cc0_scratch1.slice (Rect.unit (s := S6) ![0] S1.size inb_S6_S1_0)).squeeze S_ squeezes_S1_S_).sem
  | 7 => .dma ((cc0_scratch1.slice (Rect.unit (s := S6) ![1] S1.size inb_S6_S1_1)).squeeze S_ squeezes_S1_S_).sem
  | 8 => .dma ((cc0_scratch1.slice (Rect.unit (s := S6) ![2] S1.size inb_S6_S1_2)).squeeze S_ squeezes_S1_S_).sem
  | 9 => .dma ((cc0_scratch1.slice (Rect.unit (s := S6) ![3] S1.size inb_S6_S1_3)).squeeze S_ squeezes_S1_S_).sem
  | 10 => .dma ((cc0_scratch1.slice (Rect.unit (s := S6) ![4] S1.size inb_S6_S1_4)).squeeze S_ squeezes_S1_S_).sem
  | 11 => .dma ((cc0_scratch1.slice (Rect.unit (s := S6) ![5] S1.size inb_S6_S1_5)).squeeze S_ squeezes_S1_S_).sem
  | 12 => .dma ((cc0_scratch2.slice (Rect.unit (s := S2) ![0] S1.size inb_S2_S1_0)).squeeze S_ squeezes_S1_S_).sem
  | 13 => .dma ((cc0_scratch2.slice (Rect.unit (s := S2) ![1] S1.size inb_S2_S1_1)).squeeze S_ squeezes_S1_S_).sem

def pay (c : Dev nD) : Fin 14 → sProp 𝕄
  | 0 => ((c : Thread nD τ).loc main_arg0) ↦[chunk0 ((far 0 c).val / 2)]{fullShare} A0 m c
  | 1 => ((c : Thread nD τ).loc main_arg1) ↦[chunk1 ((far 0 c).val / 2)]{fullShare} A1 m c
  | 2 => ((c : Thread nD τ).loc main_arg0) ↦[chunk0 ((far 1 c).val / 2)]{fullShare} A0 m c
  | 3 => ((c : Thread nD τ).loc main_arg1) ↦[chunk1 ((far 1 c).val / 2)]{fullShare} A1 m c
  | 4 => ((c : Thread nD τ).loc main_arg0) ↦[chunk0 ((far 2 c).val / 2)]{fullShare} A0 m c
  | 5 => ((c : Thread nD τ).loc main_arg1) ↦[chunk1 ((far 2 c).val / 2)]{fullShare} A1 m c
  | 6 => ((c : Thread nD τ).loc main_v1_1) ↦[slot0 0]{fullShare} R0 m c
  | 7 => ((c : Thread nD τ).loc main_v1_3) ↦[slot1 0]{fullShare} R1 m c
  | 8 => ((c : Thread nD τ).loc main_v1_1) ↦[slot0 1]{fullShare} R0 m c
  | 9 => ((c : Thread nD τ).loc main_v1_3) ↦[slot1 1]{fullShare} R1 m c
  | 10 => ((c : Thread nD τ).loc main_v1_1) ↦[slot0 2]{fullShare} R0 m c
  | 11 => ((c : Thread nD τ).loc main_v1_3) ↦[slot1 2]{fullShare} R1 m c
  | 12 => iprop((((c : Thread nD τ).loc main_v1_0) ↦{fullShare} O0 m c) ∗ ((c : Thread nD τ).loc main_arg0) ↦[chunk0 (c.val / 2)]{fullShare} A0 m c)
  | 13 => iprop((((c : Thread nD τ).loc main_v1_2) ↦{fullShare} O1 m c) ∗ ((c : Thread nD τ).loc main_arg1) ↦[chunk1 (c.val / 2)]{fullShare} A1 m c)

def payer (k : Fin 14) (c : Dev nD) : Dev nD :=
  if k = 6 ∨ k = 7 then far 0 c else if k = 8 ∨ k = 9 then far 1 c else if k = 10 ∨ k = 11 then far 2 c else c

/-- The semaphores the other chips pay. -/
abbrev six : Finset (Fin 14) := {6, 7, 8, 9, 10, 11}

def plan : Plan nD τ sig (Elt F) (Fin 14) where
  osem := osem
  inj := by decide
  amt k := if k.val % 2 = 0 then N0 else N1
  amt_pos k := by split; exacts [View.dmaCredit_pos _ (by decide), View.dmaCredit_pos _ (by decide)]
  pay := pay m
  storable c k := by fin_cases k <;> (dsimp only [pay]; infer_instance)
  payer := payer
  payer_payer k c := by revert k c; decide
  remote := six

/-! ## One device's run -/

/-- What the launch deals device `c`: its arguments, its own keeping results, a slot of each of the three others' receiving ones. -/
def start (c : Dev nD) : sProp 𝕄 :=
  iprop((((c : Thread nD τ).loc main_arg0) ↦{fullShare} A0 m c) ∗ (((c : Thread nD τ).loc main_arg1) ↦{fullShare} A1 m c)
    ∗ (((c : Thread nD τ).loc main_v1_0) ↦{fullShare} m ((c : Thread nD τ).loc main_v1_0))
    ∗ ((((far 0 c : Thread nD τ).loc main_v1_1) ↦[slot0 0]{fullShare} m ((far 0 c : Thread nD τ).loc main_v1_1))
      ∗ (((far 1 c : Thread nD τ).loc main_v1_1) ↦[slot0 1]{fullShare} m ((far 1 c : Thread nD τ).loc main_v1_1))
      ∗ (((far 2 c : Thread nD τ).loc main_v1_1) ↦[slot0 2]{fullShare} m ((far 2 c : Thread nD τ).loc main_v1_1)))
    ∗ (((c : Thread nD τ).loc main_v1_2) ↦{fullShare} m ((c : Thread nD τ).loc main_v1_2))
    ∗ ((((far 0 c : Thread nD τ).loc main_v1_3) ↦[slot1 0]{fullShare} m ((far 0 c : Thread nD τ).loc main_v1_3))
      ∗ (((far 1 c : Thread nD τ).loc main_v1_3) ↦[slot1 1]{fullShare} m ((far 1 c : Thread nD τ).loc main_v1_3))
      ∗ (((far 2 c : Thread nD τ).loc main_v1_3) ↦[slot1 2]{fullShare} m ((far 2 c : Thread nD τ).loc main_v1_3))))

/-- What device `c` ends with. -/
def fin (c : Dev nD) : sProp 𝕄 :=
  iprop((((c : Thread nD τ).loc main_arg0) ↦{fullShare} A0 m c) ∗ (((c : Thread nD τ).loc main_arg1) ↦{fullShare} A1 m c)
    ∗ (((c : Thread nD τ).loc main_v1_0) ↦{fullShare} O0 m c) ∗ (((c : Thread nD τ).loc main_v1_1) ↦{fullShare} R0 m c)
    ∗ (((c : Thread nD τ).loc main_v1_2) ↦{fullShare} O1 m c) ∗ (((c : Thread nD τ).loc main_v1_3) ↦{fullShare} R1 m c))

/-- The chips, a device's own first. -/
def order (c : Dev nD) (i : Fin 4) : Fin 4 := match i with
  | 0 => ⟨c.val / 2, by have := c.isLt; simp only [nD] at this; omega⟩
  | 1 => ⟨(far 0 c).val / 2, by have := (far 0 c).isLt; simp only [nD] at this; omega⟩
  | 2 => ⟨(far 1 c).val / 2, by have := (far 1 c).isLt; simp only [nD] at this; omega⟩
  | 3 => ⟨(far 2 c).val / 2, by have := (far 2 c).isLt; simp only [nD] at this; omega⟩
theorem order_bij (c : Dev nD) : Function.Bijective (order c) := by revert c; decide

theorem whole0 (c : Dev nD) (f : Buf (Elt F) ((c : Thread nD τ).loc main_arg0)) : (((c : Thread nD τ).loc main_arg0) ↦{fullShare} f : sProp 𝕄)
    = iprop((((c : Thread nD τ).loc main_arg0) ↦[chunk0 (c.val / 2)]{fullShare} f) ∗ (((c : Thread nD τ).loc main_arg0) ↦[chunk0 ((far 0 c).val / 2)]{fullShare} f) ∗ (((c : Thread nD τ).loc main_arg0) ↦[chunk0 ((far 1 c).val / 2)]{fullShare} f) ∗ (((c : Thread nD τ).loc main_arg0) ↦[chunk0 ((far 2 c).val / 2)]{fullShare} f)) := by
  rw [pointsTo_by (n := 4) (fun x : S4x512x4096.Idx => (x 0).val) (fun x => (x 0).isLt), reorder (order c) (order_bij c), bigSep_fin4]; rfl
theorem whole1 (c : Dev nD) (f : Buf (Elt F) ((c : Thread nD τ).loc main_arg1)) : (((c : Thread nD τ).loc main_arg1) ↦{fullShare} f : sProp 𝕄)
    = iprop((((c : Thread nD τ).loc main_arg1) ↦[chunk1 (c.val / 2)]{fullShare} f) ∗ (((c : Thread nD τ).loc main_arg1) ↦[chunk1 ((far 0 c).val / 2)]{fullShare} f) ∗ (((c : Thread nD τ).loc main_arg1) ↦[chunk1 ((far 1 c).val / 2)]{fullShare} f) ∗ (((c : Thread nD τ).loc main_arg1) ↦[chunk1 ((far 2 c).val / 2)]{fullShare} f)) := by
  rw [pointsTo_by (n := 4) (fun x : S4x928x1024.Idx => (x 0).val) (fun x => (x 0).isLt), reorder (order c) (order_bij c), bigSep_fin4]; rfl
theorem slots0 (c : Dev nD) (f : Buf (Elt F) ((c : Thread nD τ).loc main_v1_1)) : (((c : Thread nD τ).loc main_v1_1) ↦{fullShare} f : sProp 𝕄)
    = iprop((((c : Thread nD τ).loc main_v1_1) ↦[slot0 0]{fullShare} f) ∗ (((c : Thread nD τ).loc main_v1_1) ↦[slot0 1]{fullShare} f) ∗ (((c : Thread nD τ).loc main_v1_1) ↦[slot0 2]{fullShare} f)) := by
  rw [pointsTo_by (n := 3) (fun x : S3x512x4096.Idx => (x 0).val) (fun x => (x 0).isLt), bigSep_fin3]; rfl
theorem slots1 (c : Dev nD) (f : Buf (Elt F) ((c : Thread nD τ).loc main_v1_3)) : (((c : Thread nD τ).loc main_v1_3) ↦{fullShare} f : sProp 𝕄)
    = iprop((((c : Thread nD τ).loc main_v1_3) ↦[slot1 0]{fullShare} f) ∗ (((c : Thread nD τ).loc main_v1_3) ↦[slot1 1]{fullShare} f) ∗ (((c : Thread nD τ).loc main_v1_3) ↦[slot1 2]{fullShare} f)) := by
  rw [pointsTo_by (n := 3) (fun x : S3x928x1024.Idx => (x 0).val) (fun x => (x 0).isLt), bigSep_fin3]; rfl

theorem due_eq (c : Dev nD) : (plan m).due c = (plan m).dueOn c six := rfl
theorem due_done (c : Dev nD) : (plan m).dueOn c ((((((six.erase 6).erase 7).erase 8).erase 9).erase 10).erase 11) = 0 := by
  rw [show (((((six.erase 6).erase 7).erase 8).erase 9).erase 10).erase 11 = ∅ by decide, Plan.dueOn_empty]

theorem pay_0 (c : Dev nD) : (plan m).pay c 0 = (((c : Thread nD τ).loc main_arg0) ↦[chunk0 ((far 0 c).val / 2)]{fullShare} A0 m c : sProp 𝕄) := rfl
theorem pay_1 (c : Dev nD) : (plan m).pay c 1 = (((c : Thread nD τ).loc main_arg1) ↦[chunk1 ((far 0 c).val / 2)]{fullShare} A1 m c : sProp 𝕄) := rfl
theorem pay_2 (c : Dev nD) : (plan m).pay c 2 = (((c : Thread nD τ).loc main_arg0) ↦[chunk0 ((far 1 c).val / 2)]{fullShare} A0 m c : sProp 𝕄) := rfl
theorem pay_3 (c : Dev nD) : (plan m).pay c 3 = (((c : Thread nD τ).loc main_arg1) ↦[chunk1 ((far 1 c).val / 2)]{fullShare} A1 m c : sProp 𝕄) := rfl
theorem pay_4 (c : Dev nD) : (plan m).pay c 4 = (((c : Thread nD τ).loc main_arg0) ↦[chunk0 ((far 2 c).val / 2)]{fullShare} A0 m c : sProp 𝕄) := rfl
theorem pay_5 (c : Dev nD) : (plan m).pay c 5 = (((c : Thread nD τ).loc main_arg1) ↦[chunk1 ((far 2 c).val / 2)]{fullShare} A1 m c : sProp 𝕄) := rfl
theorem pay_6 (c : Dev nD) : (plan m).pay c 6 = (((c : Thread nD τ).loc main_v1_1) ↦[slot0 0]{fullShare} R0 m c : sProp 𝕄) := rfl
theorem pay_7 (c : Dev nD) : (plan m).pay c 7 = (((c : Thread nD τ).loc main_v1_3) ↦[slot1 0]{fullShare} R1 m c : sProp 𝕄) := rfl
theorem pay_8 (c : Dev nD) : (plan m).pay c 8 = (((c : Thread nD τ).loc main_v1_1) ↦[slot0 1]{fullShare} R0 m c : sProp 𝕄) := rfl
theorem pay_9 (c : Dev nD) : (plan m).pay c 9 = (((c : Thread nD τ).loc main_v1_3) ↦[slot1 1]{fullShare} R1 m c : sProp 𝕄) := rfl
theorem pay_10 (c : Dev nD) : (plan m).pay c 10 = (((c : Thread nD τ).loc main_v1_1) ↦[slot0 2]{fullShare} R0 m c : sProp 𝕄) := rfl
theorem pay_11 (c : Dev nD) : (plan m).pay c 11 = (((c : Thread nD τ).loc main_v1_3) ↦[slot1 2]{fullShare} R1 m c : sProp 𝕄) := rfl
theorem pay_12 (c : Dev nD) : (plan m).pay c 12 = iprop((((c : Thread nD τ).loc main_v1_0) ↦{fullShare} O0 m c) ∗ ((c : Thread nD τ).loc main_arg0) ↦[chunk0 (c.val / 2)]{fullShare} A0 m c) := rfl
theorem pay_13 (c : Dev nD) : (plan m).pay c 13 = iprop((((c : Thread nD τ).loc main_v1_2) ↦{fullShare} O1 m c) ∗ ((c : Thread nD τ).loc main_arg1) ↦[chunk1 (c.val / 2)]{fullShare} A1 m c) := rfl

theorem hand_eq (c : Dev nD) : (plan m).hand c = iprop((bigSep Finset.univ fun k => (plan m).pos c k) ∗ (bigSep Finset.univ fun k => (plan m).tok c k)
    ∗ ((plan m).crd c 6 ∗ (plan m).crd c 7 ∗ (plan m).crd c 8 ∗ (plan m).crd c 9 ∗ (plan m).crd c 10 ∗ (plan m).crd c 11)) := by
  unfold Plan.hand
  rw [show (plan m).remote = six from rfl, bigSep_eq_bigSepL_of_eq (S := six) [6, 7, 8, 9, 10, 11] (by decide) (by decide) (fun k => (plan m).crd c k)]; rfl

set_option maxHeartbeats 4000000 in
theorem sound_body (c : Dev nD) (κ : Dev nD × Fin 14 → ℕ) (Kt : sProp 𝕄) :
    iprop((plan m).records κ ∗ (plan m).hand c ∗ start m c ∗ Plan.owed c ((plan m).due c) ∗ (((plan m).back c ∗ fin m c ∗ Plan.owed c 0) -∗ Kt))
      ⊢ wp frame (wpE (Ix := Unit) (Name := ℕ) (U := UU nD τ sig) (Lvl := ℕ) (defs₀ (F := F)) Variants.none (c : Thread nD τ) none) Set.univ
          (cc0_grad_chip_exchange (Memref.whole main_arg0) (Memref.isWhole_whole _) (Memref.whole main_arg1) (Memref.isWhole_whole _)
            (Memref.whole main_v1_0) (Memref.isWhole_whole _) (Memref.whole main_v1_1) (Memref.isWhole_whole _)
            (Memref.whole main_v1_2) (Memref.isWhole_whole _) (Memref.whole main_v1_3) (Memref.isWhole_whole _) cc0_scratch0 cc0_scratch1 cc0_scratch2)
          fun _ => Kt := by
  simp only [cc0_grad_chip_exchange_eq_skeleton]; unfold cc0_grad_chip_exchange_skel
  simp only [k0_part1_eq_skeleton, k0_part2_eq_skeleton, k0_part3_eq_skeleton, k0_part4_eq_skeleton, k0_part5_eq_skeleton, k0_part6_eq_skeleton,
    k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  rw [hand_eq, bigSep_fin14, bigSep_fin14, due_eq]
  unfold start
  rw [whole0, whole1]
  iintro ⟨#HR, ⟨⟨Hp0, Hp1, Hp2, Hp3, Hp4, Hp5, Hp6, Hp7, Hp8, Hp9, Hp10, Hp11, Hp12, Hp13⟩, ⟨Ht0, Ht1, Ht2, Ht3, Ht4, Ht5, Ht6, Ht7, Ht8, Ht9, Ht10, Ht11, Ht12, Ht13⟩, Hc6, Hc7, Hc8, Hc9, Hc10, Hc11⟩, ⟨⟨HA0, HB0, HB2, HB4⟩, ⟨HA1, HB1, HB3, HB5⟩, HM0, ⟨HN0, HN2, HN4⟩, HM1, HN1, HN3, HN5⟩, Ho, Hk⟩
  -- its own chip's chunks into its own results
  iapply ((plan m).copy defs₀ Variants.none κ c 12 (src := K0 c) (dst := Memref.whole main_v1_0) rfl rfl (O0 m c) rfl (set_K0 c) (View.set_whole _) (read_K0 m c) (BI.Entails.refl _)) $$ [HA0 HM0 Ht12]
  · isplitr; · iexact HR
    isplitl [HA0]; · iexact HA0
    isplitl [HM0]; · iexact HM0
    iexact Ht12
  iintro Hc12
  iapply ((plan m).copy defs₀ Variants.none κ c 13 (src := K1 c) (dst := Memref.whole main_v1_2) rfl rfl (O1 m c) rfl (set_K1 c) (View.set_whole _) (read_K1 m c) (BI.Entails.refl _)) $$ [HA1 HM1 Ht13]
  · isplitr; · iexact HR
    isplitl [HA1]; · iexact HA1
    isplitl [HM1]; · iexact HM1
    iexact Ht13
  iintro Hc13
  -- the other chips' to them
  iapply ((plan m).send defs₀ Variants.none κ c (far 0 c) (dev1_eq c) 0 6 (src := G00 c) (dst := D00) rfl rfl rfl rfl (S := six) (by decide) (R0 m (far 0 c)) rfl rfl (set_G00 c) set_D00
      (read_D00 m c) (BI.Entails.refl _) (BI.Entails.refl _)) $$ [HB0 HN0 Ho Ht0 Ht6]
  · isplitr; · iexact HR
    isplitl [HB0]; · iexact HB0
    isplitl [HN0]; · iexact HN0
    isplitl [Ho]; · iexact Ho
    isplitl [Ht0]; · iexact Ht0
    iexact Ht6
  iintro ⟨Hc0, Ho⟩
  iapply ((plan m).send defs₀ Variants.none κ c (far 0 c) (dev2_eq c) 1 7 (src := G10 c) (dst := D10) rfl rfl rfl rfl (S := (six.erase 6)) (by decide) (R1 m (far 0 c)) rfl rfl (set_G10 c) set_D10
      (read_D10 m c) (BI.Entails.refl _) (BI.Entails.refl _)) $$ [HB1 HN1 Ho Ht1 Ht7]
  · isplitr; · iexact HR
    isplitl [HB1]; · iexact HB1
    isplitl [HN1]; · iexact HN1
    isplitl [Ho]; · iexact Ho
    isplitl [Ht1]; · iexact Ht1
    iexact Ht7
  iintro ⟨Hc1, Ho⟩
  iapply ((plan m).send defs₀ Variants.none κ c (far 1 c) (dev3_eq c) 2 8 (src := G01 c) (dst := D01) rfl rfl rfl rfl (S := (((six.erase 6)).erase 7)) (by decide) (R0 m (far 1 c)) rfl rfl (set_G01 c) set_D01
      (read_D01 m c) (BI.Entails.refl _) (BI.Entails.refl _)) $$ [HB2 HN2 Ho Ht2 Ht8]
  · isplitr; · iexact HR
    isplitl [HB2]; · iexact HB2
    isplitl [HN2]; · iexact HN2
    isplitl [Ho]; · iexact Ho
    isplitl [Ht2]; · iexact Ht2
    iexact Ht8
  iintro ⟨Hc2, Ho⟩
  iapply ((plan m).send defs₀ Variants.none κ c (far 1 c) (dev4_eq c) 3 9 (src := G11 c) (dst := D11) rfl rfl rfl rfl (S := (((((six.erase 6)).erase 7)).erase 8)) (by decide) (R1 m (far 1 c)) rfl rfl (set_G11 c) set_D11
      (read_D11 m c) (BI.Entails.refl _) (BI.Entails.refl _)) $$ [HB3 HN3 Ho Ht3 Ht9]
  · isplitr; · iexact HR
    isplitl [HB3]; · iexact HB3
    isplitl [HN3]; · iexact HN3
    isplitl [Ho]; · iexact Ho
    isplitl [Ht3]; · iexact Ht3
    iexact Ht9
  iintro ⟨Hc3, Ho⟩
  iapply ((plan m).send defs₀ Variants.none κ c (far 2 c) (dev5_eq c) 4 10 (src := G02 c) (dst := D02) rfl rfl rfl rfl (S := (((((((six.erase 6)).erase 7)).erase 8)).erase 9)) (by decide) (R0 m (far 2 c)) rfl rfl (set_G02 c) set_D02
      (read_D02 m c) (BI.Entails.refl _) (BI.Entails.refl _)) $$ [HB4 HN4 Ho Ht4 Ht10]
  · isplitr; · iexact HR
    isplitl [HB4]; · iexact HB4
    isplitl [HN4]; · iexact HN4
    isplitl [Ho]; · iexact Ho
    isplitl [Ht4]; · iexact Ht4
    iexact Ht10
  iintro ⟨Hc4, Ho⟩
  iapply ((plan m).send defs₀ Variants.none κ c (far 2 c) (dev6_eq c) 5 11 (src := G12 c) (dst := D12) rfl rfl rfl rfl (S := (((((((((six.erase 6)).erase 7)).erase 8)).erase 9)).erase 10)) (by decide) (R1 m (far 2 c)) rfl rfl (set_G12 c) set_D12
      (read_D12 m c) (BI.Entails.refl _) (BI.Entails.refl _)) $$ [HB5 HN5 Ho Ht5 Ht11]
  · isplitr; · iexact HR
    isplitl [HB5]; · iexact HB5
    isplitl [HN5]; · iexact HN5
    isplitl [Ho]; · iexact Ho
    isplitl [Ht5]; · iexact Ht5
    iexact Ht11
  iintro ⟨Hc5, Ho⟩
  rw [due_done]
  -- the waits
  iapply ((plan m).wp_wait defs₀ Variants.none κ c 0 rfl (wpE_waitDma2_eq Variants.none (c : Thread nD τ) none Set.univ) rfl) $$ [Hc0 Ho Hp0]
  · isplitr; · iexact HR
    isplitl [Hc0]; · iexact Hc0
    isplitl [Ho]; · iexact Ho
    iexact Hp0
  iintro ⟨Ho, Hd0, Hy0⟩
  iapply ((plan m).wp_wait defs₀ Variants.none κ c 6 rfl (wpE_waitDma2_eq Variants.none (c : Thread nD τ) none Set.univ) rfl) $$ [Hc6 Ho Hp6]
  · isplitr; · iexact HR
    isplitl [Hc6]; · iexact Hc6
    isplitl [Ho]; · iexact Ho
    iexact Hp6
  iintro ⟨Ho, Hd6, Hy6⟩
  iapply ((plan m).wp_wait defs₀ Variants.none κ c 1 rfl (wpE_waitDma2_eq Variants.none (c : Thread nD τ) none Set.univ) rfl) $$ [Hc1 Ho Hp1]
  · isplitr; · iexact HR
    isplitl [Hc1]; · iexact Hc1
    isplitl [Ho]; · iexact Ho
    iexact Hp1
  iintro ⟨Ho, Hd1, Hy1⟩
  iapply ((plan m).wp_wait defs₀ Variants.none κ c 7 rfl (wpE_waitDma2_eq Variants.none (c : Thread nD τ) none Set.univ) rfl) $$ [Hc7 Ho Hp7]
  · isplitr; · iexact HR
    isplitl [Hc7]; · iexact Hc7
    isplitl [Ho]; · iexact Ho
    iexact Hp7
  iintro ⟨Ho, Hd7, Hy7⟩
  iapply ((plan m).wp_wait defs₀ Variants.none κ c 2 rfl (wpE_waitDma2_eq Variants.none (c : Thread nD τ) none Set.univ) rfl) $$ [Hc2 Ho Hp2]
  · isplitr; · iexact HR
    isplitl [Hc2]; · iexact Hc2
    isplitl [Ho]; · iexact Ho
    iexact Hp2
  iintro ⟨Ho, Hd2, Hy2⟩
  iapply ((plan m).wp_wait defs₀ Variants.none κ c 8 rfl (wpE_waitDma2_eq Variants.none (c : Thread nD τ) none Set.univ) rfl) $$ [Hc8 Ho Hp8]
  · isplitr; · iexact HR
    isplitl [Hc8]; · iexact Hc8
    isplitl [Ho]; · iexact Ho
    iexact Hp8
  iintro ⟨Ho, Hd8, Hy8⟩
  iapply ((plan m).wp_wait defs₀ Variants.none κ c 3 rfl (wpE_waitDma2_eq Variants.none (c : Thread nD τ) none Set.univ) rfl) $$ [Hc3 Ho Hp3]
  · isplitr; · iexact HR
    isplitl [Hc3]; · iexact Hc3
    isplitl [Ho]; · iexact Ho
    iexact Hp3
  iintro ⟨Ho, Hd3, Hy3⟩
  iapply ((plan m).wp_wait defs₀ Variants.none κ c 9 rfl (wpE_waitDma2_eq Variants.none (c : Thread nD τ) none Set.univ) rfl) $$ [Hc9 Ho Hp9]
  · isplitr; · iexact HR
    isplitl [Hc9]; · iexact Hc9
    isplitl [Ho]; · iexact Ho
    iexact Hp9
  iintro ⟨Ho, Hd9, Hy9⟩
  iapply ((plan m).wp_wait defs₀ Variants.none κ c 4 rfl (wpE_waitDma2_eq Variants.none (c : Thread nD τ) none Set.univ) rfl) $$ [Hc4 Ho Hp4]
  · isplitr; · iexact HR
    isplitl [Hc4]; · iexact Hc4
    isplitl [Ho]; · iexact Ho
    iexact Hp4
  iintro ⟨Ho, Hd4, Hy4⟩
  iapply ((plan m).wp_wait defs₀ Variants.none κ c 10 rfl (wpE_waitDma2_eq Variants.none (c : Thread nD τ) none Set.univ) rfl) $$ [Hc10 Ho Hp10]
  · isplitr; · iexact HR
    isplitl [Hc10]; · iexact Hc10
    isplitl [Ho]; · iexact Ho
    iexact Hp10
  iintro ⟨Ho, Hd10, Hy10⟩
  iapply ((plan m).wp_wait defs₀ Variants.none κ c 5 rfl (wpE_waitDma2_eq Variants.none (c : Thread nD τ) none Set.univ) rfl) $$ [Hc5 Ho Hp5]
  · isplitr; · iexact HR
    isplitl [Hc5]; · iexact Hc5
    isplitl [Ho]; · iexact Ho
    iexact Hp5
  iintro ⟨Ho, Hd5, Hy5⟩
  iapply ((plan m).wp_wait defs₀ Variants.none κ c 11 rfl (wpE_waitDma2_eq Variants.none (c : Thread nD τ) none Set.univ) rfl) $$ [Hc11 Ho Hp11]
  · isplitr; · iexact HR
    isplitl [Hc11]; · iexact Hc11
    isplitl [Ho]; · iexact Ho
    iexact Hp11
  iintro ⟨Ho, Hd11, Hy11⟩
  iapply ((plan m).wp_wait defs₀ Variants.none κ c 12 rfl (wpE_waitDma2_eq Variants.none (c : Thread nD τ) none Set.univ) rfl) $$ [Hc12 Ho Hp12]
  · isplitr; · iexact HR
    isplitl [Hc12]; · iexact Hc12
    isplitl [Ho]; · iexact Ho
    iexact Hp12
  iintro ⟨Ho, Hd12, Hy12⟩
  iapply ((plan m).wp_wait defs₀ Variants.none κ c 13 rfl (wpE_waitDma2_eq Variants.none (c : Thread nD τ) none Set.univ) rfl) $$ [Hc13 Ho Hp13]
  · isplitr; · iexact HR
    isplitl [Hc13]; · iexact Hc13
    isplitl [Ho]; · iexact Ho
    iexact Hp13
  iintro ⟨Ho, Hd13, Hy13⟩
  rw [wp_ret]; imodintro
  iapply Hk
  isplitl [Hd0 Hd1 Hd2 Hd3 Hd4 Hd5 Hd6 Hd7 Hd8 Hd9 Hd10 Hd11 Hd12 Hd13]
  · unfold Plan.back
    rw [bigSep_fin14]
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    iexact Hd13
  isplitr [Ho]
  · unfold fin
    rw [whole0, whole1, slots0, slots1]
    ihave Hy0 := (Entails.of_eq (pay_0 m c)) $$ Hy0
    ihave Hy1 := (Entails.of_eq (pay_1 m c)) $$ Hy1
    ihave Hy2 := (Entails.of_eq (pay_2 m c)) $$ Hy2
    ihave Hy3 := (Entails.of_eq (pay_3 m c)) $$ Hy3
    ihave Hy4 := (Entails.of_eq (pay_4 m c)) $$ Hy4
    ihave Hy5 := (Entails.of_eq (pay_5 m c)) $$ Hy5
    ihave Hy6 := (Entails.of_eq (pay_6 m c)) $$ Hy6
    ihave Hy7 := (Entails.of_eq (pay_7 m c)) $$ Hy7
    ihave Hy8 := (Entails.of_eq (pay_8 m c)) $$ Hy8
    ihave Hy9 := (Entails.of_eq (pay_9 m c)) $$ Hy9
    ihave Hy10 := (Entails.of_eq (pay_10 m c)) $$ Hy10
    ihave Hy11 := (Entails.of_eq (pay_11 m c)) $$ Hy11
    ihave Hy12 := (Entails.of_eq (pay_12 m c)) $$ Hy12
    ihave Hy13 := (Entails.of_eq (pay_13 m c)) $$ Hy13
    icases Hy12 with ⟨Hy12, HA0⟩
    icases Hy13 with ⟨Hy13, HA1⟩
    isplitl [HA0 Hy0 Hy2 Hy4]
    · isplitl [HA0]; · iexact HA0
      isplitl [Hy0]; · iexact Hy0
      isplitl [Hy2]; · iexact Hy2
      iexact Hy4
    isplitl [HA1 Hy1 Hy3 Hy5]
    · isplitl [HA1]; · iexact HA1
      isplitl [Hy1]; · iexact Hy1
      isplitl [Hy3]; · iexact Hy3
      iexact Hy5
    isplitl [Hy12]; · iexact Hy12
    isplitl [Hy6 Hy8 Hy10]
    · isplitl [Hy6]; · iexact Hy6
      isplitl [Hy8]; · iexact Hy8
      iexact Hy10
    isplitl [Hy13]; · iexact Hy13
    isplitl [Hy7]; · iexact Hy7
    isplitl [Hy9]; · iexact Hy9
    iexact Hy11
  iexact Ho

/-! ## The launch -/

/-- Which slot of which device the launch deals to device `c`. -/
def dealt (x : Dev nD × Fin 3) : Dev nD × Fin 3 := (far x.2 x.1, x.2)
theorem dealt_bij : Function.Bijective dealt := by decide

theorem deal : (bigSep Finset.univ fun c : Dev nD => Pipeline.unscopedRest (Ix := Unit) (Name := ℕ) (U := UU nD τ sig) (Lvl := ℕ) (cfgs 0).spec c (fun b => m ((c : Thread nD τ).loc b)))
    ⊢ bigSep Finset.univ (start m) := by
  have hv : (fun c : Dev nD => Pipeline.unscopedRest (Ix := Unit) (Name := ℕ) (U := UU nD τ sig) (Lvl := ℕ) (cfgs 0).spec c (fun b => m ((c : Thread nD τ).loc b))) = fun c => _ :=
    funext fun c => unscopedRest0_eq c _
  have h0 := dealt_by (Val := Elt F) (fun d : Dev nD => (d : Thread nD τ).loc main_v1_1) (fun d (x : S3x512x4096.Idx) => (x 0).val) (fun d x => (x 0).isLt)
    (fun d => m ((d : Thread nD τ).loc main_v1_1)) dealt dealt_bij
  have h1 := dealt_by (Val := Elt F) (fun d : Dev nD => (d : Thread nD τ).loc main_v1_3) (fun d (x : S3x928x1024.Idx) => (x 0).val) (fun d x => (x 0).isLt)
    (fun d => m ((d : Thread nD τ).loc main_v1_3)) dealt dealt_bij
  rw [hv, show (start m : Dev nD → sProp 𝕄) = fun c => start m c from rfl]
  unfold start
  simp only [bigSep_sep', h0, h1]
  simp only [bigSep_fin3, bigSep_sep']
  exact Entails.of_eq rfl

theorem ownSemFacts : Pipeline.OwnSemFacts (cfgs 0).spec (plan m).osem := by
  show Pipeline.OwnSemFacts cfg0.spec osem
  decide

/-- What a memory holds on device `c` at the end. -/
def Ends (c : Dev nD) (mem : (ℓ : Loc nD τ sig) → Buf (Elt F) ℓ) : Prop :=
  mem ((c : Thread nD τ).loc main_arg0) = A0 m c ∧ mem ((c : Thread nD τ).loc main_arg1) = A1 m c
    ∧ mem ((c : Thread nD τ).loc main_v1_0) = O0 m c ∧ mem ((c : Thread nD τ).loc main_v1_1) = R0 m c
    ∧ mem ((c : Thread nD τ).loc main_v1_2) = O1 m c ∧ mem ((c : Thread nD τ).loc main_v1_3) = R1 m c

/-- The run: every device ends with the chunks of its chip, its own and those of the other chips, its arguments unchanged, and
    every semaphore at zero. -/
theorem run_main (g : Dev nD → PrngReg) :
    θ_run (Cert.ChipIdeal.defs (F := F)) (onTc (τ := τ) main) ⟨m, fun _ => 0, g⟩ (fun r => (∀ c : Dev nD, Ends m c r.2.mem) ∧ r.2.sem = fun _ => 0) := by
  refine run_exchange (plan m) cfgs defs₀ (fun p => by fin_cases p; exact inferInstanceAs (IsEmpty (Fin 0))) N_0 cellOf_inj winFacts0 (ownSemFacts m) (start m) (fin m)
    (fun c κ t Kt => sound_body m c κ Kt) (by decide) m g main (fun _ => rfl) (deal m) (fun c mem => Ends m c mem.mem) fun c s' => ?_
  unfold fin
  iintro ⟨⟨H0, H1, H2, H3, H4, H5⟩, HSI⟩
  ihave H := (read_one (A0 m c) s') $$ [H0 HSI]
  · isplitl [H0] <;> iassumption
  icases H with ⟨%e0, HSI⟩
  ihave H := (read_one (A1 m c) s') $$ [H1 HSI]
  · isplitl [H1] <;> iassumption
  icases H with ⟨%e1, HSI⟩
  ihave H := (read_one (O0 m c) s') $$ [H2 HSI]
  · isplitl [H2] <;> iassumption
  icases H with ⟨%e2, HSI⟩
  ihave H := (read_one (R0 m c) s') $$ [H3 HSI]
  · isplitl [H3] <;> iassumption
  icases H with ⟨%e3, HSI⟩
  ihave H := (read_one (O1 m c) s') $$ [H4 HSI]
  · isplitl [H4] <;> iassumption
  icases H with ⟨%e4, HSI⟩
  ihave H := (read_one (R1 m c) s') $$ [H5 HSI]
  · isplitl [H5] <;> iassumption
  icases H with ⟨%e5, HSI⟩
  imodintro
  isplitr
  · ipureintro; exact ⟨e0, e1, e2, e3, e4, e5⟩
  iexact HSI

end Cert.ChipIdeal.Run

end
-- ==== Proof.ChipValue.lean ====
/-
# The exchange of gradient chunks: its results are the reference's, device by device
-/
module

public import proofs.«01_k».proof.Defs
public import proofs.«01_k».proof.Proof.ChipRun
public import proofs.«01_k».proof.Proof.Gen.Chip
public import proofs.«01_k».proof.Proof.Gen.ChipReference
public import proofs.«01_k».proof.Proof.Gen.ChipReferenceIdeal.Run
public import proofs.«01_k».proof.Proof.Stacks

@[expose] public section

noncomputable section

namespace Cert.ChipIdeal.Run

open Cert.ChipIdeal Cert.Exchange
open Idealize.ShloMosaic Idealize.ShloMosaic.TcCoe Idealize.SL.Sem

variable {F : FTy → Type} [FloatOps F]

/-- Chunk `c / 2` of device `c` is at this position of the whole stack. -/
theorem own_chip (c : Dev nD) : c.val * 4 + c.val / 2 = ((![0, 1, 2, 3] : Fin 4 → ℕ) ⟨c.val / 2, by have := c.isLt; simp only [nD] at this; omega⟩ * 2 + c.val % 2) * 4 + c.val / 2 := by
  revert c; decide
/-- Chunk `c / 2` of the device across is at this position of the whole stack. -/
theorem from_chip (k : Fin 3) (c : Dev nD) : (far k c).val * 4 + c.val / 2
    = ((![![2, 3, 0, 1], ![1, 0, 3, 2], ![3, 2, 1, 0]] : Fin 3 → Fin 4 → ℕ) k ⟨c.val / 2, by have := c.isLt; simp only [nD] at this; omega⟩ * 2 + c.val % 2) * 4 + c.val / 2 := by
  revert k c; decide

/-- A chunk of the whole stack: what chip `o` holds for chip `j`. -/
abbrev sent0 {o : Fin 5 → ℕ} (X : Cert.ChipReferenceIdeal.S32x512x4096.Idx → Elt F .bf16) (h : Cert.ChipReferenceIdeal.S4x2x4x512x4096.Slices o Cert.ChipReferenceIdeal.S1x2x1x512x4096) : Cert.ChipReferenceIdeal.S1x2x512x4096.Idx → Elt F .bf16 :=
  broadcastInDim _ ![1, 2, 3] Cert.ChipReferenceIdeal.Gen.bcast_S2x512x4096_S1x2x512x4096_1_2_3 (shapeCast _ (extractStridedSlice _ o (shapeCast _ X Cert.ChipReferenceIdeal.Gen.shapeCasts_S32x512x4096_S4x2x4x512x4096) h) Cert.ChipReferenceIdeal.Gen.shapeCasts_S1x2x1x512x4096_S2x512x4096)

/-- The chunks the four chips are sent, stacked. -/
abbrev sents0 {o₀ o₁ o₂ o₃ : Fin 5 → ℕ} (X : Cert.ChipReferenceIdeal.S32x512x4096.Idx → Elt F .bf16) (h₀ : Cert.ChipReferenceIdeal.S4x2x4x512x4096.Slices o₀ Cert.ChipReferenceIdeal.S1x2x1x512x4096) (h₁ : Cert.ChipReferenceIdeal.S4x2x4x512x4096.Slices o₁ Cert.ChipReferenceIdeal.S1x2x1x512x4096)
    (h₂ : Cert.ChipReferenceIdeal.S4x2x4x512x4096.Slices o₂ Cert.ChipReferenceIdeal.S1x2x1x512x4096) (h₃ : Cert.ChipReferenceIdeal.S4x2x4x512x4096.Slices o₃ Cert.ChipReferenceIdeal.S1x2x1x512x4096) : Cert.ChipReferenceIdeal.S4x2x512x4096.Idx → Elt F .bf16 :=
  concatenate Cert.ChipReferenceIdeal.S4x2x512x4096 0 [⟨Cert.ChipReferenceIdeal.S1x2x512x4096, sent0 X h₀⟩, ⟨Cert.ChipReferenceIdeal.S1x2x512x4096, sent0 X h₁⟩, ⟨Cert.ChipReferenceIdeal.S1x2x512x4096, sent0 X h₂⟩, ⟨Cert.ChipReferenceIdeal.S1x2x512x4096, sent0 X h₃⟩] Cert.ChipReferenceIdeal.Gen.concatenates_S1x2x512x4096_S1x2x512x4096_S1x2x512x4096_S1x2x512x4096_S4x2x512x4096_d0

theorem sents0_all (X : Cert.ChipReferenceIdeal.S32x512x4096.Idx → Elt F .bf16) (o₀ o₁ o₂ o₃ : ℕ) (h₀ : Cert.ChipReferenceIdeal.S4x2x4x512x4096.Slices (chipOff o₀ 0) Cert.ChipReferenceIdeal.S1x2x1x512x4096) (h₁ : Cert.ChipReferenceIdeal.S4x2x4x512x4096.Slices (chipOff o₁ 1) Cert.ChipReferenceIdeal.S1x2x1x512x4096)
    (h₂ : Cert.ChipReferenceIdeal.S4x2x4x512x4096.Slices (chipOff o₂ 2) Cert.ChipReferenceIdeal.S1x2x1x512x4096) (h₃ : Cert.ChipReferenceIdeal.S4x2x4x512x4096.Slices (chipOff o₃ 3) Cert.ChipReferenceIdeal.S1x2x1x512x4096) (l₀ : o₀ < 4) (l₁ : o₁ < 4) (l₂ : o₂ < 4) (l₃ : o₃ < 4) :
    SentAll (P := 512) (Q := 4096) (sents0 X h₀ h₁ h₂ h₃) X ![o₀, o₁, o₂, o₃] :=
  chip_stack (P := 512) (Q := 4096) _ (chip_piece o₀ 0 X _ h₀ _ _ l₀ (by decide)) (chip_piece o₁ 1 X _ h₁ _ _ l₁ (by decide)) (chip_piece o₂ 2 X _ h₂ _ _ l₂ (by decide)) (chip_piece o₃ 3 X _ h₃ _ _ l₃ (by decide))

/-- What every device keeps. -/
def own0 (X : Cert.ChipReferenceIdeal.S32x512x4096.Idx → Elt F .bf16) : Cert.ChipReferenceIdeal.S4096x4096.Idx → Elt F .bf16 :=
  shapeCast Cert.ChipReferenceIdeal.S4096x4096 (sents0 X Cert.ChipReferenceIdeal.Gen.slices_S4x2x4x512x4096_S1x2x1x512x4096_0_0_0_0_0 Cert.ChipReferenceIdeal.Gen.slices_S4x2x4x512x4096_S1x2x1x512x4096_1_0_1_0_0 Cert.ChipReferenceIdeal.Gen.slices_S4x2x4x512x4096_S1x2x1x512x4096_2_0_2_0_0 Cert.ChipReferenceIdeal.Gen.slices_S4x2x4x512x4096_S1x2x1x512x4096_3_0_3_0_0) Cert.ChipReferenceIdeal.Gen.shapeCasts_S4x2x512x4096_S4096x4096

theorem value_O0 (X : Cert.ChipReferenceIdeal.S32x512x4096.Idx → Elt F .bf16) (m : (ℓ : Loc nD τ sig) → Buf (Elt F) ℓ)
    (h : ∀ d : Dev nD, m ((d : Thread nD τ).loc main_arg0) = Layout.block ⟨3, ![4, 512, 4096]⟩ ⟨3, ![32, 512, 4096]⟩ 0 8 d X) (c : Dev nD) :
    O0 m c = Layout.block ⟨2, ![512, 4096]⟩ ⟨2, ![4096, 4096]⟩ 0 8 c (own0 X) := by
  unfold own0
  have s := (sents0_all X 0 1 2 3 Cert.ChipReferenceIdeal.Gen.slices_S4x2x4x512x4096_S1x2x1x512x4096_0_0_0_0_0 Cert.ChipReferenceIdeal.Gen.slices_S4x2x4x512x4096_S1x2x1x512x4096_1_0_1_0_0 Cert.ChipReferenceIdeal.Gen.slices_S4x2x4x512x4096_S1x2x1x512x4096_2_0_2_0_0 Cert.ChipReferenceIdeal.Gen.slices_S4x2x4x512x4096_S1x2x1x512x4096_3_0_3_0_0 (by decide) (by decide) (by decide) (by decide))
  generalize (sents0 X Cert.ChipReferenceIdeal.Gen.slices_S4x2x4x512x4096_S1x2x1x512x4096_0_0_0_0_0 Cert.ChipReferenceIdeal.Gen.slices_S4x2x4x512x4096_S1x2x1x512x4096_1_0_1_0_0 Cert.ChipReferenceIdeal.Gen.slices_S4x2x4x512x4096_S1x2x1x512x4096_2_0_2_0_0 Cert.ChipReferenceIdeal.Gen.slices_S4x2x4x512x4096_S1x2x1x512x4096_3_0_3_0_0) = w at s ⊢
  funext x
  show m _ _ = _
  rw [h, Layout.block_apply, Layout.block_apply]
  refine (chip_own (P := 512) (Q := 4096) (R := 4096) s _ c (x 0) _ _ rfl ?_ rfl rfl).symm
  exact own_chip c

/-- What every device is sent by the three devices across, side by side. -/
def across0 (X : Cert.ChipReferenceIdeal.S32x512x4096.Idx → Elt F .bf16) : Cert.ChipReferenceIdeal.S24x512x4096.Idx → Elt F .bf16 :=
  shapeCast Cert.ChipReferenceIdeal.S24x512x4096 (concatenate Cert.ChipReferenceIdeal.S4x2x3x512x4096 2
    [⟨Cert.ChipReferenceIdeal.S4x2x1x512x4096, broadcastInDim Cert.ChipReferenceIdeal.S4x2x1x512x4096 ![0, 1, 3, 4] Cert.ChipReferenceIdeal.Gen.bcast_S4x2x512x4096_S4x2x1x512x4096_0_1_3_4 (sents0 X Cert.ChipReferenceIdeal.Gen.slices_S4x2x4x512x4096_S1x2x1x512x4096_2_0_0_0_0 Cert.ChipReferenceIdeal.Gen.slices_S4x2x4x512x4096_S1x2x1x512x4096_3_0_1_0_0 Cert.ChipReferenceIdeal.Gen.slices_S4x2x4x512x4096_S1x2x1x512x4096_0_0_2_0_0 Cert.ChipReferenceIdeal.Gen.slices_S4x2x4x512x4096_S1x2x1x512x4096_1_0_3_0_0)⟩,
     ⟨Cert.ChipReferenceIdeal.S4x2x1x512x4096, broadcastInDim Cert.ChipReferenceIdeal.S4x2x1x512x4096 ![0, 1, 3, 4] Cert.ChipReferenceIdeal.Gen.bcast_S4x2x512x4096_S4x2x1x512x4096_0_1_3_4 (sents0 X Cert.ChipReferenceIdeal.Gen.slices_S4x2x4x512x4096_S1x2x1x512x4096_1_0_0_0_0 Cert.ChipReferenceIdeal.Gen.slices_S4x2x4x512x4096_S1x2x1x512x4096_0_0_1_0_0 Cert.ChipReferenceIdeal.Gen.slices_S4x2x4x512x4096_S1x2x1x512x4096_3_0_2_0_0 Cert.ChipReferenceIdeal.Gen.slices_S4x2x4x512x4096_S1x2x1x512x4096_2_0_3_0_0)⟩,
     ⟨Cert.ChipReferenceIdeal.S4x2x1x512x4096, broadcastInDim Cert.ChipReferenceIdeal.S4x2x1x512x4096 ![0, 1, 3, 4] Cert.ChipReferenceIdeal.Gen.bcast_S4x2x512x4096_S4x2x1x512x4096_0_1_3_4 (sents0 X Cert.ChipReferenceIdeal.Gen.slices_S4x2x4x512x4096_S1x2x1x512x4096_3_0_0_0_0 Cert.ChipReferenceIdeal.Gen.slices_S4x2x4x512x4096_S1x2x1x512x4096_2_0_1_0_0 Cert.ChipReferenceIdeal.Gen.slices_S4x2x4x512x4096_S1x2x1x512x4096_1_0_2_0_0 Cert.ChipReferenceIdeal.Gen.slices_S4x2x4x512x4096_S1x2x1x512x4096_0_0_3_0_0)⟩] Cert.ChipReferenceIdeal.Gen.concatenates_S4x2x1x512x4096_S4x2x1x512x4096_S4x2x1x512x4096_S4x2x3x512x4096_d2) Cert.ChipReferenceIdeal.Gen.shapeCasts_S4x2x3x512x4096_S24x512x4096

theorem value_R0 (X : Cert.ChipReferenceIdeal.S32x512x4096.Idx → Elt F .bf16) (m : (ℓ : Loc nD τ sig) → Buf (Elt F) ℓ)
    (h : ∀ d : Dev nD, m ((d : Thread nD τ).loc main_arg0) = Layout.block ⟨3, ![4, 512, 4096]⟩ ⟨3, ![32, 512, 4096]⟩ 0 8 d X) (c : Dev nD) :
    R0 m c = Layout.block ⟨3, ![3, 512, 4096]⟩ ⟨3, ![24, 512, 4096]⟩ 0 8 c (across0 X) := by
  have s₀ := (sents0_all X 2 3 0 1 Cert.ChipReferenceIdeal.Gen.slices_S4x2x4x512x4096_S1x2x1x512x4096_2_0_0_0_0 Cert.ChipReferenceIdeal.Gen.slices_S4x2x4x512x4096_S1x2x1x512x4096_3_0_1_0_0 Cert.ChipReferenceIdeal.Gen.slices_S4x2x4x512x4096_S1x2x1x512x4096_0_0_2_0_0 Cert.ChipReferenceIdeal.Gen.slices_S4x2x4x512x4096_S1x2x1x512x4096_1_0_3_0_0 (by decide) (by decide) (by decide) (by decide))
  have s₁ := (sents0_all X 1 0 3 2 Cert.ChipReferenceIdeal.Gen.slices_S4x2x4x512x4096_S1x2x1x512x4096_1_0_0_0_0 Cert.ChipReferenceIdeal.Gen.slices_S4x2x4x512x4096_S1x2x1x512x4096_0_0_1_0_0 Cert.ChipReferenceIdeal.Gen.slices_S4x2x4x512x4096_S1x2x1x512x4096_3_0_2_0_0 Cert.ChipReferenceIdeal.Gen.slices_S4x2x4x512x4096_S1x2x1x512x4096_2_0_3_0_0 (by decide) (by decide) (by decide) (by decide))
  have s₂ := (sents0_all X 3 2 1 0 Cert.ChipReferenceIdeal.Gen.slices_S4x2x4x512x4096_S1x2x1x512x4096_3_0_0_0_0 Cert.ChipReferenceIdeal.Gen.slices_S4x2x4x512x4096_S1x2x1x512x4096_2_0_1_0_0 Cert.ChipReferenceIdeal.Gen.slices_S4x2x4x512x4096_S1x2x1x512x4096_1_0_2_0_0 Cert.ChipReferenceIdeal.Gen.slices_S4x2x4x512x4096_S1x2x1x512x4096_0_0_3_0_0 (by decide) (by decide) (by decide) (by decide))
  unfold across0
  generalize (sents0 X Cert.ChipReferenceIdeal.Gen.slices_S4x2x4x512x4096_S1x2x1x512x4096_2_0_0_0_0 Cert.ChipReferenceIdeal.Gen.slices_S4x2x4x512x4096_S1x2x1x512x4096_3_0_1_0_0 Cert.ChipReferenceIdeal.Gen.slices_S4x2x4x512x4096_S1x2x1x512x4096_0_0_2_0_0 Cert.ChipReferenceIdeal.Gen.slices_S4x2x4x512x4096_S1x2x1x512x4096_1_0_3_0_0) = w₀ at s₀ ⊢
  generalize (sents0 X Cert.ChipReferenceIdeal.Gen.slices_S4x2x4x512x4096_S1x2x1x512x4096_1_0_0_0_0 Cert.ChipReferenceIdeal.Gen.slices_S4x2x4x512x4096_S1x2x1x512x4096_0_0_1_0_0 Cert.ChipReferenceIdeal.Gen.slices_S4x2x4x512x4096_S1x2x1x512x4096_3_0_2_0_0 Cert.ChipReferenceIdeal.Gen.slices_S4x2x4x512x4096_S1x2x1x512x4096_2_0_3_0_0) = w₁ at s₁ ⊢
  generalize (sents0 X Cert.ChipReferenceIdeal.Gen.slices_S4x2x4x512x4096_S1x2x1x512x4096_3_0_0_0_0 Cert.ChipReferenceIdeal.Gen.slices_S4x2x4x512x4096_S1x2x1x512x4096_2_0_1_0_0 Cert.ChipReferenceIdeal.Gen.slices_S4x2x4x512x4096_S1x2x1x512x4096_1_0_2_0_0 Cert.ChipReferenceIdeal.Gen.slices_S4x2x4x512x4096_S1x2x1x512x4096_0_0_3_0_0) = w₂ at s₂ ⊢
  funext x
  show m _ _ = _
  rw [h, Layout.block_apply, Layout.block_apply]
  generalize hk : (⟨(x 0).val, (x 0).isLt⟩ : Fin 3) = k
  have hv : (x 0).val = k.val := congrArg Fin.val hk
  refine (chip_rec (P := 512) (Q := 4096) s₀ s₁ s₂ _ _ _ _ _ c k _ _ ?_ ?_ ?_ ?_).symm
  · show c.val * 3 + (x 0).val = c.val * 3 + k.val
    rw [hv]
  · exact from_chip k c
  · show (x 1).val = (x 1).val
    rfl
  · show (x 2).val = (x 2).val
    rfl

/-- The reference's. -/
theorem res_R0 (m : (ℓ : Loc Cert.ChipReferenceIdeal.nD Cert.ChipReferenceIdeal.τ Cert.ChipReferenceIdeal.sig) → Buf (Elt F) ℓ) (c : Dev Cert.ChipReferenceIdeal.nD) :
    Cert.ChipReferenceIdeal.Value.res_out1 m c = across0 (m ((c.tc : Thread Cert.ChipReferenceIdeal.nD Cert.ChipReferenceIdeal.τ).loc Cert.ChipReferenceIdeal.main_arg0)) := rfl

/-- A chunk of the whole stack: what chip `o` holds for chip `j`. -/
abbrev sent1 {o : Fin 5 → ℕ} (X : Cert.ChipReferenceIdeal.S32x928x1024.Idx → Elt F .bf16) (h : Cert.ChipReferenceIdeal.S4x2x4x928x1024.Slices o Cert.ChipReferenceIdeal.S1x2x1x928x1024) : Cert.ChipReferenceIdeal.S1x2x928x1024.Idx → Elt F .bf16 :=
  broadcastInDim _ ![1, 2, 3] Cert.ChipReferenceIdeal.Gen.bcast_S2x928x1024_S1x2x928x1024_1_2_3 (shapeCast _ (extractStridedSlice _ o (shapeCast _ X Cert.ChipReferenceIdeal.Gen.shapeCasts_S32x928x1024_S4x2x4x928x1024) h) Cert.ChipReferenceIdeal.Gen.shapeCasts_S1x2x1x928x1024_S2x928x1024)

/-- The chunks the four chips are sent, stacked. -/
abbrev sents1 {o₀ o₁ o₂ o₃ : Fin 5 → ℕ} (X : Cert.ChipReferenceIdeal.S32x928x1024.Idx → Elt F .bf16) (h₀ : Cert.ChipReferenceIdeal.S4x2x4x928x1024.Slices o₀ Cert.ChipReferenceIdeal.S1x2x1x928x1024) (h₁ : Cert.ChipReferenceIdeal.S4x2x4x928x1024.Slices o₁ Cert.ChipReferenceIdeal.S1x2x1x928x1024)
    (h₂ : Cert.ChipReferenceIdeal.S4x2x4x928x1024.Slices o₂ Cert.ChipReferenceIdeal.S1x2x1x928x1024) (h₃ : Cert.ChipReferenceIdeal.S4x2x4x928x1024.Slices o₃ Cert.ChipReferenceIdeal.S1x2x1x928x1024) : Cert.ChipReferenceIdeal.S4x2x928x1024.Idx → Elt F .bf16 :=
  concatenate Cert.ChipReferenceIdeal.S4x2x928x1024 0 [⟨Cert.ChipReferenceIdeal.S1x2x928x1024, sent1 X h₀⟩, ⟨Cert.ChipReferenceIdeal.S1x2x928x1024, sent1 X h₁⟩, ⟨Cert.ChipReferenceIdeal.S1x2x928x1024, sent1 X h₂⟩, ⟨Cert.ChipReferenceIdeal.S1x2x928x1024, sent1 X h₃⟩] Cert.ChipReferenceIdeal.Gen.concatenates_S1x2x928x1024_S1x2x928x1024_S1x2x928x1024_S1x2x928x1024_S4x2x928x1024_d0

theorem sents1_all (X : Cert.ChipReferenceIdeal.S32x928x1024.Idx → Elt F .bf16) (o₀ o₁ o₂ o₃ : ℕ) (h₀ : Cert.ChipReferenceIdeal.S4x2x4x928x1024.Slices (chipOff o₀ 0) Cert.ChipReferenceIdeal.S1x2x1x928x1024) (h₁ : Cert.ChipReferenceIdeal.S4x2x4x928x1024.Slices (chipOff o₁ 1) Cert.ChipReferenceIdeal.S1x2x1x928x1024)
    (h₂ : Cert.ChipReferenceIdeal.S4x2x4x928x1024.Slices (chipOff o₂ 2) Cert.ChipReferenceIdeal.S1x2x1x928x1024) (h₃ : Cert.ChipReferenceIdeal.S4x2x4x928x1024.Slices (chipOff o₃ 3) Cert.ChipReferenceIdeal.S1x2x1x928x1024) (l₀ : o₀ < 4) (l₁ : o₁ < 4) (l₂ : o₂ < 4) (l₃ : o₃ < 4) :
    SentAll (P := 928) (Q := 1024) (sents1 X h₀ h₁ h₂ h₃) X ![o₀, o₁, o₂, o₃] :=
  chip_stack (P := 928) (Q := 1024) _ (chip_piece o₀ 0 X _ h₀ _ _ l₀ (by decide)) (chip_piece o₁ 1 X _ h₁ _ _ l₁ (by decide)) (chip_piece o₂ 2 X _ h₂ _ _ l₂ (by decide)) (chip_piece o₃ 3 X _ h₃ _ _ l₃ (by decide))

/-- What every device keeps. -/
def own1 (X : Cert.ChipReferenceIdeal.S32x928x1024.Idx → Elt F .bf16) : Cert.ChipReferenceIdeal.S7424x1024.Idx → Elt F .bf16 :=
  shapeCast Cert.ChipReferenceIdeal.S7424x1024 (sents1 X Cert.ChipReferenceIdeal.Gen.slices_S4x2x4x928x1024_S1x2x1x928x1024_0_0_0_0_0 Cert.ChipReferenceIdeal.Gen.slices_S4x2x4x928x1024_S1x2x1x928x1024_1_0_1_0_0 Cert.ChipReferenceIdeal.Gen.slices_S4x2x4x928x1024_S1x2x1x928x1024_2_0_2_0_0 Cert.ChipReferenceIdeal.Gen.slices_S4x2x4x928x1024_S1x2x1x928x1024_3_0_3_0_0) Cert.ChipReferenceIdeal.Gen.shapeCasts_S4x2x928x1024_S7424x1024

theorem value_O1 (X : Cert.ChipReferenceIdeal.S32x928x1024.Idx → Elt F .bf16) (m : (ℓ : Loc nD τ sig) → Buf (Elt F) ℓ)
    (h : ∀ d : Dev nD, m ((d : Thread nD τ).loc main_arg1) = Layout.block ⟨3, ![4, 928, 1024]⟩ ⟨3, ![32, 928, 1024]⟩ 0 8 d X) (c : Dev nD) :
    O1 m c = Layout.block ⟨2, ![928, 1024]⟩ ⟨2, ![7424, 1024]⟩ 0 8 c (own1 X) := by
  unfold own1
  have s := (sents1_all X 0 1 2 3 Cert.ChipReferenceIdeal.Gen.slices_S4x2x4x928x1024_S1x2x1x928x1024_0_0_0_0_0 Cert.ChipReferenceIdeal.Gen.slices_S4x2x4x928x1024_S1x2x1x928x1024_1_0_1_0_0 Cert.ChipReferenceIdeal.Gen.slices_S4x2x4x928x1024_S1x2x1x928x1024_2_0_2_0_0 Cert.ChipReferenceIdeal.Gen.slices_S4x2x4x928x1024_S1x2x1x928x1024_3_0_3_0_0 (by decide) (by decide) (by decide) (by decide))
  generalize (sents1 X Cert.ChipReferenceIdeal.Gen.slices_S4x2x4x928x1024_S1x2x1x928x1024_0_0_0_0_0 Cert.ChipReferenceIdeal.Gen.slices_S4x2x4x928x1024_S1x2x1x928x1024_1_0_1_0_0 Cert.ChipReferenceIdeal.Gen.slices_S4x2x4x928x1024_S1x2x1x928x1024_2_0_2_0_0 Cert.ChipReferenceIdeal.Gen.slices_S4x2x4x928x1024_S1x2x1x928x1024_3_0_3_0_0) = w at s ⊢
  funext x
  show m _ _ = _
  rw [h, Layout.block_apply, Layout.block_apply]
  refine (chip_own (P := 928) (Q := 1024) (R := 7424) s _ c (x 0) _ _ rfl ?_ rfl rfl).symm
  exact own_chip c

/-- What every device is sent by the three devices across, side by side. -/
def across1 (X : Cert.ChipReferenceIdeal.S32x928x1024.Idx → Elt F .bf16) : Cert.ChipReferenceIdeal.S24x928x1024.Idx → Elt F .bf16 :=
  shapeCast Cert.ChipReferenceIdeal.S24x928x1024 (concatenate Cert.ChipReferenceIdeal.S4x2x3x928x1024 2
    [⟨Cert.ChipReferenceIdeal.S4x2x1x928x1024, broadcastInDim Cert.ChipReferenceIdeal.S4x2x1x928x1024 ![0, 1, 3, 4] Cert.ChipReferenceIdeal.Gen.bcast_S4x2x928x1024_S4x2x1x928x1024_0_1_3_4 (sents1 X Cert.ChipReferenceIdeal.Gen.slices_S4x2x4x928x1024_S1x2x1x928x1024_2_0_0_0_0 Cert.ChipReferenceIdeal.Gen.slices_S4x2x4x928x1024_S1x2x1x928x1024_3_0_1_0_0 Cert.ChipReferenceIdeal.Gen.slices_S4x2x4x928x1024_S1x2x1x928x1024_0_0_2_0_0 Cert.ChipReferenceIdeal.Gen.slices_S4x2x4x928x1024_S1x2x1x928x1024_1_0_3_0_0)⟩,
     ⟨Cert.ChipReferenceIdeal.S4x2x1x928x1024, broadcastInDim Cert.ChipReferenceIdeal.S4x2x1x928x1024 ![0, 1, 3, 4] Cert.ChipReferenceIdeal.Gen.bcast_S4x2x928x1024_S4x2x1x928x1024_0_1_3_4 (sents1 X Cert.ChipReferenceIdeal.Gen.slices_S4x2x4x928x1024_S1x2x1x928x1024_1_0_0_0_0 Cert.ChipReferenceIdeal.Gen.slices_S4x2x4x928x1024_S1x2x1x928x1024_0_0_1_0_0 Cert.ChipReferenceIdeal.Gen.slices_S4x2x4x928x1024_S1x2x1x928x1024_3_0_2_0_0 Cert.ChipReferenceIdeal.Gen.slices_S4x2x4x928x1024_S1x2x1x928x1024_2_0_3_0_0)⟩,
     ⟨Cert.ChipReferenceIdeal.S4x2x1x928x1024, broadcastInDim Cert.ChipReferenceIdeal.S4x2x1x928x1024 ![0, 1, 3, 4] Cert.ChipReferenceIdeal.Gen.bcast_S4x2x928x1024_S4x2x1x928x1024_0_1_3_4 (sents1 X Cert.ChipReferenceIdeal.Gen.slices_S4x2x4x928x1024_S1x2x1x928x1024_3_0_0_0_0 Cert.ChipReferenceIdeal.Gen.slices_S4x2x4x928x1024_S1x2x1x928x1024_2_0_1_0_0 Cert.ChipReferenceIdeal.Gen.slices_S4x2x4x928x1024_S1x2x1x928x1024_1_0_2_0_0 Cert.ChipReferenceIdeal.Gen.slices_S4x2x4x928x1024_S1x2x1x928x1024_0_0_3_0_0)⟩] Cert.ChipReferenceIdeal.Gen.concatenates_S4x2x1x928x1024_S4x2x1x928x1024_S4x2x1x928x1024_S4x2x3x928x1024_d2) Cert.ChipReferenceIdeal.Gen.shapeCasts_S4x2x3x928x1024_S24x928x1024

theorem value_R1 (X : Cert.ChipReferenceIdeal.S32x928x1024.Idx → Elt F .bf16) (m : (ℓ : Loc nD τ sig) → Buf (Elt F) ℓ)
    (h : ∀ d : Dev nD, m ((d : Thread nD τ).loc main_arg1) = Layout.block ⟨3, ![4, 928, 1024]⟩ ⟨3, ![32, 928, 1024]⟩ 0 8 d X) (c : Dev nD) :
    R1 m c = Layout.block ⟨3, ![3, 928, 1024]⟩ ⟨3, ![24, 928, 1024]⟩ 0 8 c (across1 X) := by
  have s₀ := (sents1_all X 2 3 0 1 Cert.ChipReferenceIdeal.Gen.slices_S4x2x4x928x1024_S1x2x1x928x1024_2_0_0_0_0 Cert.ChipReferenceIdeal.Gen.slices_S4x2x4x928x1024_S1x2x1x928x1024_3_0_1_0_0 Cert.ChipReferenceIdeal.Gen.slices_S4x2x4x928x1024_S1x2x1x928x1024_0_0_2_0_0 Cert.ChipReferenceIdeal.Gen.slices_S4x2x4x928x1024_S1x2x1x928x1024_1_0_3_0_0 (by decide) (by decide) (by decide) (by decide))
  have s₁ := (sents1_all X 1 0 3 2 Cert.ChipReferenceIdeal.Gen.slices_S4x2x4x928x1024_S1x2x1x928x1024_1_0_0_0_0 Cert.ChipReferenceIdeal.Gen.slices_S4x2x4x928x1024_S1x2x1x928x1024_0_0_1_0_0 Cert.ChipReferenceIdeal.Gen.slices_S4x2x4x928x1024_S1x2x1x928x1024_3_0_2_0_0 Cert.ChipReferenceIdeal.Gen.slices_S4x2x4x928x1024_S1x2x1x928x1024_2_0_3_0_0 (by decide) (by decide) (by decide) (by decide))
  have s₂ := (sents1_all X 3 2 1 0 Cert.ChipReferenceIdeal.Gen.slices_S4x2x4x928x1024_S1x2x1x928x1024_3_0_0_0_0 Cert.ChipReferenceIdeal.Gen.slices_S4x2x4x928x1024_S1x2x1x928x1024_2_0_1_0_0 Cert.ChipReferenceIdeal.Gen.slices_S4x2x4x928x1024_S1x2x1x928x1024_1_0_2_0_0 Cert.ChipReferenceIdeal.Gen.slices_S4x2x4x928x1024_S1x2x1x928x1024_0_0_3_0_0 (by decide) (by decide) (by decide) (by decide))
  unfold across1
  generalize (sents1 X Cert.ChipReferenceIdeal.Gen.slices_S4x2x4x928x1024_S1x2x1x928x1024_2_0_0_0_0 Cert.ChipReferenceIdeal.Gen.slices_S4x2x4x928x1024_S1x2x1x928x1024_3_0_1_0_0 Cert.ChipReferenceIdeal.Gen.slices_S4x2x4x928x1024_S1x2x1x928x1024_0_0_2_0_0 Cert.ChipReferenceIdeal.Gen.slices_S4x2x4x928x1024_S1x2x1x928x1024_1_0_3_0_0) = w₀ at s₀ ⊢
  generalize (sents1 X Cert.ChipReferenceIdeal.Gen.slices_S4x2x4x928x1024_S1x2x1x928x1024_1_0_0_0_0 Cert.ChipReferenceIdeal.Gen.slices_S4x2x4x928x1024_S1x2x1x928x1024_0_0_1_0_0 Cert.ChipReferenceIdeal.Gen.slices_S4x2x4x928x1024_S1x2x1x928x1024_3_0_2_0_0 Cert.ChipReferenceIdeal.Gen.slices_S4x2x4x928x1024_S1x2x1x928x1024_2_0_3_0_0) = w₁ at s₁ ⊢
  generalize (sents1 X Cert.ChipReferenceIdeal.Gen.slices_S4x2x4x928x1024_S1x2x1x928x1024_3_0_0_0_0 Cert.ChipReferenceIdeal.Gen.slices_S4x2x4x928x1024_S1x2x1x928x1024_2_0_1_0_0 Cert.ChipReferenceIdeal.Gen.slices_S4x2x4x928x1024_S1x2x1x928x1024_1_0_2_0_0 Cert.ChipReferenceIdeal.Gen.slices_S4x2x4x928x1024_S1x2x1x928x1024_0_0_3_0_0) = w₂ at s₂ ⊢
  funext x
  show m _ _ = _
  rw [h, Layout.block_apply, Layout.block_apply]
  generalize hk : (⟨(x 0).val, (x 0).isLt⟩ : Fin 3) = k
  have hv : (x 0).val = k.val := congrArg Fin.val hk
  refine (chip_rec (P := 928) (Q := 1024) s₀ s₁ s₂ _ _ _ _ _ c k _ _ ?_ ?_ ?_ ?_).symm
  · show c.val * 3 + (x 0).val = c.val * 3 + k.val
    rw [hv]
  · exact from_chip k c
  · show (x 1).val = (x 1).val
    rfl
  · show (x 2).val = (x 2).val
    rfl

/-- The reference's. -/
theorem res_R1 (m : (ℓ : Loc Cert.ChipReferenceIdeal.nD Cert.ChipReferenceIdeal.τ Cert.ChipReferenceIdeal.sig) → Buf (Elt F) ℓ) (c : Dev Cert.ChipReferenceIdeal.nD) :
    Cert.ChipReferenceIdeal.Value.res_out3 m c = across1 (m ((c.tc : Thread Cert.ChipReferenceIdeal.nD Cert.ChipReferenceIdeal.τ).loc Cert.ChipReferenceIdeal.main_arg1)) := rfl

/-- The reference's run. -/
theorem run_reference (m : (ℓ : Loc Cert.ChipReferenceIdeal.nD Cert.ChipReferenceIdeal.τ Cert.ChipReferenceIdeal.sig) → Buf (Elt F) ℓ) (g : Dev Cert.ChipReferenceIdeal.nD → PrngReg) :
    θ_run Cert.ChipReferenceIdeal.defs (onTc (τ := Cert.ChipReferenceIdeal.τ) (Cert.ChipReferenceIdeal.main (F := F))) ⟨m, fun _ => 0, g⟩ fun r => ∀ c : Dev Cert.ChipReferenceIdeal.nD,
      r.2.mem ((c.tc : Thread Cert.ChipReferenceIdeal.nD Cert.ChipReferenceIdeal.τ).loc Cert.ChipReferenceIdeal.main_v57) = own0 (m ((c.tc : Thread Cert.ChipReferenceIdeal.nD Cert.ChipReferenceIdeal.τ).loc Cert.ChipReferenceIdeal.main_arg0))
      ∧ r.2.mem ((c.tc : Thread Cert.ChipReferenceIdeal.nD Cert.ChipReferenceIdeal.τ).loc Cert.ChipReferenceIdeal.main_v58) = across0 (m ((c.tc : Thread Cert.ChipReferenceIdeal.nD Cert.ChipReferenceIdeal.τ).loc Cert.ChipReferenceIdeal.main_arg0))
      ∧ r.2.mem ((c.tc : Thread Cert.ChipReferenceIdeal.nD Cert.ChipReferenceIdeal.τ).loc Cert.ChipReferenceIdeal.main_v116) = own1 (m ((c.tc : Thread Cert.ChipReferenceIdeal.nD Cert.ChipReferenceIdeal.τ).loc Cert.ChipReferenceIdeal.main_arg1))
      ∧ r.2.mem ((c.tc : Thread Cert.ChipReferenceIdeal.nD Cert.ChipReferenceIdeal.τ).loc Cert.ChipReferenceIdeal.main_v117) = across1 (m ((c.tc : Thread Cert.ChipReferenceIdeal.nD Cert.ChipReferenceIdeal.τ).loc Cert.ChipReferenceIdeal.main_arg1))
      ∧ r.2.mem ((c.tc : Thread Cert.ChipReferenceIdeal.nD Cert.ChipReferenceIdeal.τ).loc Cert.ChipReferenceIdeal.main_arg0) = m ((c.tc : Thread Cert.ChipReferenceIdeal.nD Cert.ChipReferenceIdeal.τ).loc Cert.ChipReferenceIdeal.main_arg0)
      ∧ r.2.mem ((c.tc : Thread Cert.ChipReferenceIdeal.nD Cert.ChipReferenceIdeal.τ).loc Cert.ChipReferenceIdeal.main_arg1) = m ((c.tc : Thread Cert.ChipReferenceIdeal.nD Cert.ChipReferenceIdeal.τ).loc Cert.ChipReferenceIdeal.main_arg1) :=
  (θ_run Cert.ChipReferenceIdeal.defs _ _).mono (fun r h c => by
    obtain ⟨e0, e1, e2, e3, e4, e5⟩ := h c
    refine ⟨e0.trans ?_, e1.trans (res_R0 m c), e2.trans ?_, e3.trans (res_R1 m c), e4, e5⟩
    · unfold own0; rfl
    · unfold own1; rfl) (Cert.ChipReferenceIdeal.Value.run (F := F) m g)

theorem frame_chip : Cert.quiescent_Chip := fun m g _ =>
  (θ_run Cert.ChipIdeal.defs _ _).mono (fun _ h => ⟨fun c => ⟨(h.1 c).1, (h.1 c).2.1⟩, h.2⟩) (run_main (F := Bits) m g)
theorem frame_chip_ideal : Cert.quiescent_ChipIdeal := fun m g _ =>
  (θ_run Cert.ChipIdeal.defs _ _).mono (fun _ h => ⟨fun c => ⟨(h.1 c).1, (h.1 c).2.1⟩, h.2⟩) (run_main (F := Ideal) m g)

set_option maxHeartbeats 4000000 in
theorem frame_chip_reference : Cert.quiescent_ChipReference := fun m g _ =>
  (θ_run Cert.ChipReferenceIdeal.defs _ _).mono (fun r h => ⟨fun c => (h c).2.2.2.2, sem_eq_zero_of_no_sems (by decide) r.2⟩)
    (run_reference (F := Bits) m g)
set_option maxHeartbeats 4000000 in
theorem frame_chip_reference_ideal : Cert.quiescent_ChipReferenceIdeal := fun m g _ =>
  (θ_run Cert.ChipReferenceIdeal.defs _ _).mono (fun r h => ⟨fun c => (h c).2.2.2.2, sem_eq_zero_of_no_sems (by decide) r.2⟩)
    (run_reference (F := Ideal) m g)

set_option maxHeartbeats 4000000 in
theorem algebraic_chip : Cert.algebraic_ChipIdeal_ChipReferenceIdeal := by
  intro m g m' g' _ hag
  refine ⟨own0 (m' (((0 : Dev Cert.ChipReferenceIdeal.nD).tc : Thread Cert.ChipReferenceIdeal.nD Cert.ChipReferenceIdeal.τ).loc Cert.ChipReferenceIdeal.main_arg0)), across0 (m' (((0 : Dev Cert.ChipReferenceIdeal.nD).tc : Thread Cert.ChipReferenceIdeal.nD Cert.ChipReferenceIdeal.τ).loc Cert.ChipReferenceIdeal.main_arg0)), own1 (m' (((0 : Dev Cert.ChipReferenceIdeal.nD).tc : Thread Cert.ChipReferenceIdeal.nD Cert.ChipReferenceIdeal.τ).loc Cert.ChipReferenceIdeal.main_arg1)), across1 (m' (((0 : Dev Cert.ChipReferenceIdeal.nD).tc : Thread Cert.ChipReferenceIdeal.nD Cert.ChipReferenceIdeal.τ).loc Cert.ChipReferenceIdeal.main_arg1)), ?_,
    (θ_run Cert.ChipReferenceIdeal.defs _ _).mono (fun r h => (h 0)) (run_reference (F := Ideal) m' g')⟩
  refine (θ_run Cert.ChipIdeal.defs _ _).mono (fun r h c => ?_) (run_main (F := Ideal) m g)
  obtain ⟨e0, e1, e2, e3, e4, e5⟩ := h.1 c
  exact ⟨e2.trans (value_O0 _ m (fun d => (hag d).1) c), e3.trans (value_R0 _ m (fun d => (hag d).1) c), e4.trans (value_O1 _ m (fun d => (hag d).2) c),
    e5.trans (value_R1 _ m (fun d => (hag d).2) c), e0, e1⟩

set_option maxHeartbeats 4000000 in
theorem bitexact_chip : Cert.bitexact_Chip_ChipReference := by
  intro m g m' g' _ hag
  refine ⟨own0 (m' (((0 : Dev Cert.ChipReferenceIdeal.nD).tc : Thread Cert.ChipReferenceIdeal.nD Cert.ChipReferenceIdeal.τ).loc Cert.ChipReferenceIdeal.main_arg0)), across0 (m' (((0 : Dev Cert.ChipReferenceIdeal.nD).tc : Thread Cert.ChipReferenceIdeal.nD Cert.ChipReferenceIdeal.τ).loc Cert.ChipReferenceIdeal.main_arg0)), own1 (m' (((0 : Dev Cert.ChipReferenceIdeal.nD).tc : Thread Cert.ChipReferenceIdeal.nD Cert.ChipReferenceIdeal.τ).loc Cert.ChipReferenceIdeal.main_arg1)), across1 (m' (((0 : Dev Cert.ChipReferenceIdeal.nD).tc : Thread Cert.ChipReferenceIdeal.nD Cert.ChipReferenceIdeal.τ).loc Cert.ChipReferenceIdeal.main_arg1)), ?_,
    (θ_run Cert.ChipReferenceIdeal.defs _ _).mono (fun r h => (h 0)) (run_reference (F := Bits) m' g')⟩
  refine (θ_run Cert.ChipIdeal.defs _ _).mono (fun r h c => ?_) (run_main (F := Bits) m g)
  obtain ⟨e0, e1, e2, e3, e4, e5⟩ := h.1 c
  exact ⟨e2.trans (value_O0 _ m (fun d => (hag d).1) c), e3.trans (value_R0 _ m (fun d => (hag d).1) c), e4.trans (value_O1 _ m (fun d => (hag d).2) c),
    e5.trans (value_R1 _ m (fun d => (hag d).2) c), e0, e1⟩

end Cert.ChipIdeal.Run

end
-- ==== Proof.AdamW.lean ====
/- The AdamW updates of the ten large weights, each on one device at its shard's shape. The update is pointwise: a function
   of a weight, its gradient and its two moments at one index. `newM`, `newV` and `delta` name it over the reals; for any
   shape, reference.py's update of whole arrays is that function index by index (`newM_host`, `newV_host`, `delta_host`),
   and so is what the kernel's tiles write, whatever the tiling. Each shape's claims follow from the run of its kernel, the
   run of its reference and these equations. -/
module

public import proofs.«01_k».proof.Defs
public import proofs.«01_k».proof.Proof.Gen.AdamUp.Frame
public import proofs.«01_k».proof.Proof.Gen.AdamUpIdeal.Value
public import proofs.«01_k».proof.Proof.Gen.AdamUpReferenceIdeal.Run
public import proofs.«01_k».proof.Proof.Gen.AdamDown.Frame
public import proofs.«01_k».proof.Proof.Gen.AdamDownIdeal.Value
public import proofs.«01_k».proof.Proof.Gen.AdamDownReferenceIdeal.Run
public import proofs.«01_k».proof.Proof.Gen.AdamIn.Frame
public import proofs.«01_k».proof.Proof.Gen.AdamInIdeal.Value
public import proofs.«01_k».proof.Proof.Gen.AdamInReferenceIdeal.Run
public import proofs.«01_k».proof.Proof.Gen.AdamOut.Frame
public import proofs.«01_k».proof.Proof.Gen.AdamOutIdeal.Value
public import proofs.«01_k».proof.Proof.Gen.AdamOutReferenceIdeal.Run
public import proofs.«01_k».proof.Proof.Gen.AdamBranchA.Frame
public import proofs.«01_k».proof.Proof.Gen.AdamBranchAIdeal.Value
public import proofs.«01_k».proof.Proof.Gen.AdamBranchAReferenceIdeal.Run
public import proofs.«01_k».proof.Proof.Gen.AdamBranchB.Frame
public import proofs.«01_k».proof.Proof.Gen.AdamBranchBIdeal.Value
public import proofs.«01_k».proof.Proof.Gen.AdamBranchBReferenceIdeal.Run
public import Idealize.ShloMosaic.Lib.Quiescent
public import Idealize.ShloMosaic.PureOps.Ideal

@[expose] public section

noncomputable section

open Idealize.ShloMosaic Idealize.ShloMosaic.TcCoe Idealize.SL.Sem

namespace Cert.AdamW

/-! ## The update at one index, over the reals -/

/-- A constant of the update, from its 32-bit word. -/
abbrev cst (b : BitVec 32) : Ideal .f32 := Scalar.ofBits (F := Ideal) .f32 b

/-- The first moment: `0.9 * m + 0.1 * g`. -/
def newM (g m : Ideal .f32) : Ideal .f32 :=
  FloatOps.addf (FloatOps.mulf (cst 0x3F666666#32) m) (FloatOps.mulf (cst 0x3DCCCCCD#32) g)

/-- The second moment: `0.999 * v + 0.001 * g²`. -/
def newV (g v : Ideal .f32) : Ideal .f32 :=
  FloatOps.addf (FloatOps.mulf (cst 0x3F7FBE77#32) v) (FloatOps.mulf (cst 0x3A83126F#32) (FloatOps.mulf g g))

/-- The step: `-lr * (m̂ / (√v̂ + ε) + wd * w)`, with both moments divided by their bias corrections. -/
def delta (w g m v : Ideal .f32) : Ideal .f32 :=
  FloatOps.mulf (cst 0xBA83126F#32) (FloatOps.addf
    (FloatOps.divf (FloatOps.divf (newM g m) (cst 0x3F26BD02#32))
      (FloatOps.addf (FloatOps.sqrt (FloatOps.divf (newV g v) (cst 0x3C231ACC#32))) (cst 0x322BCC77#32)))
    (FloatOps.mulf (cst 0x3C23D70A#32) w))

/-! ## reference.py's update of whole arrays is this function index by index -/

section Host

variable {Z S : Shape} {d : Fin Z.rank → Fin S.rank} (h : Z.BroadcastsInDim S d)

/-- A constant spread over an array. -/
abbrev spread (b : BitVec 32) : FVec Ideal S .f32 := broadcastInDim S d h (constant (F := Ideal) Z .f32 b)

/-- The reference's first moment. -/
abbrev hostM (g m : FVec Ideal S .f32) : FVec Ideal S .f32 :=
  addf (mulf (spread h 0x3F666666#32) m) (mulf (spread h 0x3DCCCCCD#32) g)

/-- The reference's second moment. -/
abbrev hostV (g v : FVec Ideal S .f32) : FVec Ideal S .f32 :=
  addf (mulf (spread h 0x3F7FBE77#32) v) (mulf (spread h 0x3A83126F#32) (mulf g g))

/-- The reference's step. -/
abbrev hostDelta (w g m v : FVec Ideal S .f32) : FVec Ideal S .f32 :=
  mulf (spread h 0xBA83126F#32) (addf
    (Host.divf (Host.divf (hostM h g m) (spread h 0x3F26BD02#32))
      (addf (Host.sqrt (Host.divf (hostV h g v) (spread h 0x3C231ACC#32))) (spread h 0x322BCC77#32)))
    (mulf (spread h 0x3C23D70A#32) w))

theorem newM_host (g m : FVec Ideal S .f32) : hostM h g m = fun i => newM (g i) (m i) := rfl
theorem newV_host (g v : FVec Ideal S .f32) : hostV h g v = fun i => newV (g i) (v i) := rfl
theorem delta_host (w g m v : FVec Ideal S .f32) : hostDelta h w g m v = fun i => delta (w i) (g i) (m i) (v i) := rfl

end Host

end Cert.AdamW

/-! ## 1024 × 704: the gate and up projections of both feed-forward layers -/

namespace Cert.AdamW.AdamUp

theorem frame : Cert.quiescent_AdamUp := fun m ρ _ => Cert.AdamUp.Gen.frame m ρ
theorem frame_ideal : Cert.quiescent_AdamUpIdeal := fun m ρ _ => Cert.AdamUpIdeal.Gen.frame m ρ
theorem frame_reference : Cert.quiescent_AdamUpReferenceIdeal := fun m ρ _ =>
  (θ_run Cert.AdamUpReferenceIdeal.defs _ _).mono
    (fun r h => ⟨fun c => (h c).2.2.2, Idealize.ShloMosaic.sem_eq_zero_of_no_sems (by decide) r.2⟩)
    (Cert.AdamUpReferenceIdeal.Value.run (F := Ideal) m ρ)

/-- On the whole shard, the kernel's three results are the reference's. -/
theorem algebraic : Cert.algebraic_AdamUpIdeal_AdamUpReferenceIdeal := by
  intro m ρ m' ρ' _ hagree
  refine ⟨_, _, _, Cert.AdamUpIdeal.Value.run (F := Ideal) m ρ,
    (θ_run Cert.AdamUpReferenceIdeal.defs _ _).mono (fun r h c => ?_) (Cert.AdamUpReferenceIdeal.Value.run (F := Ideal) m' ρ')⟩
  obtain ⟨hd, hm, hv, hargs⟩ := h c
  obtain ⟨e0, e1, e2, e3⟩ := hagree c
  refine ⟨hd.trans ?_, hm.trans ?_, hv.trans ?_, hargs⟩
  · refine (delta_host _ _ _ _ _).trans ?_; rw [e0, e1, e2, e3]; exact funext fun _ => rfl
  · refine (newM_host _ _ _).trans ?_; rw [e1, e2]; exact funext fun _ => rfl
  · refine (newV_host _ _ _).trans ?_; rw [e1, e3]; exact funext fun _ => rfl

end Cert.AdamW.AdamUp

/-! ## 704 × 1024: the down projections of both -/

namespace Cert.AdamW.AdamDown

theorem frame : Cert.quiescent_AdamDown := fun m ρ _ => Cert.AdamDown.Gen.frame m ρ
theorem frame_ideal : Cert.quiescent_AdamDownIdeal := fun m ρ _ => Cert.AdamDownIdeal.Gen.frame m ρ
theorem frame_reference : Cert.quiescent_AdamDownReferenceIdeal := fun m ρ _ =>
  (θ_run Cert.AdamDownReferenceIdeal.defs _ _).mono
    (fun r h => ⟨fun c => (h c).2.2.2, Idealize.ShloMosaic.sem_eq_zero_of_no_sems (by decide) r.2⟩)
    (Cert.AdamDownReferenceIdeal.Value.run (F := Ideal) m ρ)

/-- On the whole shard, the kernel's three results are the reference's. -/
theorem algebraic : Cert.algebraic_AdamDownIdeal_AdamDownReferenceIdeal := by
  intro m ρ m' ρ' _ hagree
  refine ⟨_, _, _, Cert.AdamDownIdeal.Value.run (F := Ideal) m ρ,
    (θ_run Cert.AdamDownReferenceIdeal.defs _ _).mono (fun r h c => ?_) (Cert.AdamDownReferenceIdeal.Value.run (F := Ideal) m' ρ')⟩
  obtain ⟨hd, hm, hv, hargs⟩ := h c
  obtain ⟨e0, e1, e2, e3⟩ := hagree c
  refine ⟨hd.trans ?_, hm.trans ?_, hv.trans ?_, hargs⟩
  · refine (delta_host _ _ _ _ _).trans ?_; rw [e0, e1, e2, e3]; exact funext fun _ => rfl
  · refine (newM_host _ _ _).trans ?_; rw [e1, e2]; exact funext fun _ => rfl
  · refine (newV_host _ _ _).trans ?_; rw [e1, e3]; exact funext fun _ => rfl

end Cert.AdamW.AdamDown

/-! ## 1024 × 1280: the input projection -/

namespace Cert.AdamW.AdamIn

theorem frame : Cert.quiescent_AdamIn := fun m ρ _ => Cert.AdamIn.Gen.frame m ρ
theorem frame_ideal : Cert.quiescent_AdamInIdeal := fun m ρ _ => Cert.AdamInIdeal.Gen.frame m ρ
theorem frame_reference : Cert.quiescent_AdamInReferenceIdeal := fun m ρ _ =>
  (θ_run Cert.AdamInReferenceIdeal.defs _ _).mono
    (fun r h => ⟨fun c => (h c).2.2.2, Idealize.ShloMosaic.sem_eq_zero_of_no_sems (by decide) r.2⟩)
    (Cert.AdamInReferenceIdeal.Value.run (F := Ideal) m ρ)

/-- On the whole shard, the kernel's three results are the reference's. -/
theorem algebraic : Cert.algebraic_AdamInIdeal_AdamInReferenceIdeal := by
  intro m ρ m' ρ' _ hagree
  refine ⟨_, _, _, Cert.AdamInIdeal.Value.run (F := Ideal) m ρ,
    (θ_run Cert.AdamInReferenceIdeal.defs _ _).mono (fun r h c => ?_) (Cert.AdamInReferenceIdeal.Value.run (F := Ideal) m' ρ')⟩
  obtain ⟨hd, hm, hv, hargs⟩ := h c
  obtain ⟨e0, e1, e2, e3⟩ := hagree c
  refine ⟨hd.trans ?_, hm.trans ?_, hv.trans ?_, hargs⟩
  · refine (delta_host _ _ _ _ _).trans ?_; rw [e0, e1, e2, e3]; exact funext fun _ => rfl
  · refine (newM_host _ _ _).trans ?_; rw [e1, e2]; exact funext fun _ => rfl
  · refine (newV_host _ _ _).trans ?_; rw [e1, e3]; exact funext fun _ => rfl

end Cert.AdamW.AdamIn

/-! ## 256 × 1024: the output projection -/

namespace Cert.AdamW.AdamOut

theorem frame : Cert.quiescent_AdamOut := fun m ρ _ => Cert.AdamOut.Gen.frame m ρ
theorem frame_ideal : Cert.quiescent_AdamOutIdeal := fun m ρ _ => Cert.AdamOutIdeal.Gen.frame m ρ
theorem frame_reference : Cert.quiescent_AdamOutReferenceIdeal := fun m ρ _ =>
  (θ_run Cert.AdamOutReferenceIdeal.defs _ _).mono
    (fun r h => ⟨fun c => (h c).2.2.2, Idealize.ShloMosaic.sem_eq_zero_of_no_sems (by decide) r.2⟩)
    (Cert.AdamOutReferenceIdeal.Value.run (F := Ideal) m ρ)

/-- On the whole shard, the kernel's three results are the reference's. -/
theorem algebraic : Cert.algebraic_AdamOutIdeal_AdamOutReferenceIdeal := by
  intro m ρ m' ρ' _ hagree
  refine ⟨_, _, _, Cert.AdamOutIdeal.Value.run (F := Ideal) m ρ,
    (θ_run Cert.AdamOutReferenceIdeal.defs _ _).mono (fun r h c => ?_) (Cert.AdamOutReferenceIdeal.Value.run (F := Ideal) m' ρ')⟩
  obtain ⟨hd, hm, hv, hargs⟩ := h c
  obtain ⟨e0, e1, e2, e3⟩ := hagree c
  refine ⟨hd.trans ?_, hm.trans ?_, hv.trans ?_, hargs⟩
  · refine (delta_host _ _ _ _ _).trans ?_; rw [e0, e1, e2, e3]; exact funext fun _ => rfl
  · refine (newM_host _ _ _).trans ?_; rw [e1, e2]; exact funext fun _ => rfl
  · refine (newV_host _ _ _).trans ?_; rw [e1, e3]; exact funext fun _ => rfl

end Cert.AdamW.AdamOut

/-! ## 256 × 256: the first branch -/

namespace Cert.AdamW.AdamBranchA

theorem frame : Cert.quiescent_AdamBranchA := fun m ρ _ => Cert.AdamBranchA.Gen.frame m ρ
theorem frame_ideal : Cert.quiescent_AdamBranchAIdeal := fun m ρ _ => Cert.AdamBranchAIdeal.Gen.frame m ρ
theorem frame_reference : Cert.quiescent_AdamBranchAReferenceIdeal := fun m ρ _ =>
  (θ_run Cert.AdamBranchAReferenceIdeal.defs _ _).mono
    (fun r h => ⟨fun c => (h c).2.2.2, Idealize.ShloMosaic.sem_eq_zero_of_no_sems (by decide) r.2⟩)
    (Cert.AdamBranchAReferenceIdeal.Value.run (F := Ideal) m ρ)

/-- On the whole shard, the kernel's three results are the reference's. -/
theorem algebraic : Cert.algebraic_AdamBranchAIdeal_AdamBranchAReferenceIdeal := by
  intro m ρ m' ρ' _ hagree
  refine ⟨_, _, _, Cert.AdamBranchAIdeal.Value.run (F := Ideal) m ρ,
    (θ_run Cert.AdamBranchAReferenceIdeal.defs _ _).mono (fun r h c => ?_) (Cert.AdamBranchAReferenceIdeal.Value.run (F := Ideal) m' ρ')⟩
  obtain ⟨hd, hm, hv, hargs⟩ := h c
  obtain ⟨e0, e1, e2, e3⟩ := hagree c
  refine ⟨hd.trans ?_, hm.trans ?_, hv.trans ?_, hargs⟩
  · refine (delta_host _ _ _ _ _).trans ?_; rw [e0, e1, e2, e3]; exact funext fun _ => rfl
  · refine (newM_host _ _ _).trans ?_; rw [e1, e2]; exact funext fun _ => rfl
  · refine (newV_host _ _ _).trans ?_; rw [e1, e3]; exact funext fun _ => rfl

end Cert.AdamW.AdamBranchA

/-! ## 512 × 256: the second branch -/

namespace Cert.AdamW.AdamBranchB

theorem frame : Cert.quiescent_AdamBranchB := fun m ρ _ => Cert.AdamBranchB.Gen.frame m ρ
theorem frame_ideal : Cert.quiescent_AdamBranchBIdeal := fun m ρ _ => Cert.AdamBranchBIdeal.Gen.frame m ρ
theorem frame_reference : Cert.quiescent_AdamBranchBReferenceIdeal := fun m ρ _ =>
  (θ_run Cert.AdamBranchBReferenceIdeal.defs _ _).mono
    (fun r h => ⟨fun c => (h c).2.2.2, Idealize.ShloMosaic.sem_eq_zero_of_no_sems (by decide) r.2⟩)
    (Cert.AdamBranchBReferenceIdeal.Value.run (F := Ideal) m ρ)

/-- On the whole shard, the kernel's three results are the reference's. -/
theorem algebraic : Cert.algebraic_AdamBranchBIdeal_AdamBranchBReferenceIdeal := by
  intro m ρ m' ρ' _ hagree
  refine ⟨_, _, _, Cert.AdamBranchBIdeal.Value.run (F := Ideal) m ρ,
    (θ_run Cert.AdamBranchBReferenceIdeal.defs _ _).mono (fun r h c => ?_) (Cert.AdamBranchBReferenceIdeal.Value.run (F := Ideal) m' ρ')⟩
  obtain ⟨hd, hm, hv, hargs⟩ := h c
  obtain ⟨e0, e1, e2, e3⟩ := hagree c
  refine ⟨hd.trans ?_, hm.trans ?_, hv.trans ?_, hargs⟩
  · refine (delta_host _ _ _ _ _).trans ?_; rw [e0, e1, e2, e3]; exact funext fun _ => rfl
  · refine (newM_host _ _ _).trans ?_; rw [e1, e2]; exact funext fun _ => rfl
  · refine (newV_host _ _ _).trans ?_; rw [e1, e3]; exact funext fun _ => rfl

end Cert.AdamW.AdamBranchB

end
-- ==== Proof.SmallPack.lean ====
/- The small weights' packing. `pack` lays the seven small arrays out in one array of 16 rows of 1024: rows 0 to 3 hold
   ffn1_norm, mix_norm, ffn2_norm and final_norm, rows 4 to 8 hold b_in, row 9 holds sinks, rel_bias and zeros, and the rest
   is zeros. `un0` to `un6` read the seven back, in the order of the arguments, and `un0_pack` to `un6_pack` say that each
   gives back what was packed. -/
module

public import proofs.«01_k».proof.Defs
public import proofs.«01_k».proof.Proof.Gen.AdamSmallIdeal
public import Idealize.ShloMosaic.Lib.Pipeline.Value
public import Idealize.ShloMosaic.Lib.ValueIdx

@[expose] public section

noncomputable section

open Idealize.ShloMosaic

namespace Cert.SmallPack

open Cert.AdamSmallIdeal Cert.AdamSmallIdeal.Gen

variable {α : Type}

/-- Row 9: sinks in columns 0 to 7, rel_bias in columns 8 to 647, zeros. -/
abbrev tail (p3 : S1x8.Idx → α) (p4 : S32x20.Idx → α) (z : S376.Idx → α) : S1024.Idx → α :=
  concatenate S1024 0 [⟨S8, shapeCast S8 p3 shapeCasts_S1x8_S8⟩, ⟨S640, shapeCast S640 p4 shapeCasts_S32x20_S640⟩, ⟨S376, z⟩]
    concatenates_S8_S640_S376_S1024_d0

/-- The seven arrays, in the order of the arguments, in one. -/
abbrev pack (p0 p1 : S1x1024.Idx → α) (p2 : S1x5120.Idx → α) (p3 : S1x8.Idx → α) (p4 : S32x20.Idx → α) (p5 : S1x1024.Idx → α)
    (p6 : S1024.Idx → α) (z : S376.Idx → α) (z' : S6x1024.Idx → α) : S16x1024.Idx → α :=
  concatenate S16x1024 0 [⟨S1x1024, p0⟩, ⟨S1x1024, p1⟩, ⟨S1x1024, p5⟩, ⟨S1x1024, shapeCast S1x1024 p6 shapeCasts_S1024_S1x1024⟩,
      ⟨S5x1024, shapeCast S5x1024 p2 shapeCasts_S1x5120_S5x1024⟩,
      ⟨S1x1024, shapeCast S1x1024 (tail p3 p4 z) shapeCasts_S1024_S1x1024⟩, ⟨S6x1024, z'⟩]
    concatenates_S1x1024_S1x1024_S1x1024_S1x1024_S5x1024_S1x1024_S6x1024_S16x1024_d0

abbrev un0 (A : S16x1024.Idx → α) : S1x1024.Idx → α := extractStridedSlice S1x1024 ![0, 0] A slices_S16x1024_S1x1024_0_0
abbrev un1 (A : S16x1024.Idx → α) : S1x1024.Idx → α := extractStridedSlice S1x1024 ![1, 0] A slices_S16x1024_S1x1024_1_0
abbrev un2 (A : S16x1024.Idx → α) : S1x5120.Idx → α :=
  shapeCast S1x5120 (extractStridedSlice S5x1024 ![4, 0] A slices_S16x1024_S5x1024_4_0) shapeCasts_S5x1024_S1x5120
abbrev un3 (A : S16x1024.Idx → α) : S1x8.Idx → α :=
  shapeCast S1x8 (shapeCast S8 (extractStridedSlice S1x8 ![9, 0] A slices_S16x1024_S1x8_9_0) shapeCasts_S1x8_S8) shapeCasts_S8_S1x8
abbrev un4 (A : S16x1024.Idx → α) : S32x20.Idx → α :=
  shapeCast S32x20 (shapeCast S640 (extractStridedSlice S1x640 ![9, 8] A slices_S16x1024_S1x640_9_8) shapeCasts_S1x640_S640)
    shapeCasts_S640_S32x20
abbrev un5 (A : S16x1024.Idx → α) : S1x1024.Idx → α := extractStridedSlice S1x1024 ![2, 0] A slices_S16x1024_S1x1024_2_0
abbrev un6 (A : S16x1024.Idx → α) : S1024.Idx → α :=
  shapeCast S1024 (extractStridedSlice S1x1024 ![3, 0] A slices_S16x1024_S1x1024_3_0) shapeCasts_S1x1024_S1024

variable (p0 p1 : S1x1024.Idx → α) (p2 : S1x5120.Idx → α) (p3 : S1x8.Idx → α) (p4 : S32x20.Idx → α) (p5 : S1x1024.Idx → α)
    (p6 : S1024.Idx → α) (z : S376.Idx → α) (z' : S6x1024.Idx → α)

/-- A row of a stack of arrays of 1024 columns: row `pre + r` of the stack is row `r` of the array that `pre` rows precede. -/
theorem stack_apply (xs : List ((s : Shape) × (s.Idx → α))) (h : Shape.Concatenates (xs.map (·.1)) S16x1024 0) (k : ℕ)
    (hk : k < xs.length) (R : ℕ) (x : (⟨2, ![R, 1024]⟩ : Shape).Idx → α) (hx : xs[k] = ⟨⟨2, ![R, 1024]⟩, x⟩) (pre : ℕ)
    (hpre : (((xs.take k).map (·.1)).map fun s => if h : s.rank = 2 then s.size ((0 : Fin 2).cast h.symm) else 0).sum = pre)
    (j : S16x1024.Idx) (i : (⟨2, ![R, 1024]⟩ : Shape).Idx) (h0 : pre + (i 0).val = (j 0).val) (h1 : (i 1).val = (j 1).val) :
    concatenate S16x1024 0 xs h j = x i :=
  concatenate_apply_piece 0 xs h j k hk ⟨2, ![R, 1024]⟩ x hx rfl pre hpre i
    (fun b hb => by
      match b with
      | ⟨0, _⟩ => exact absurd rfl hb
      | ⟨1, _⟩ => exact h1) h0

/-- A cell of one row made of several pieces. -/
theorem line_apply (xs : List ((s : Shape) × (s.Idx → α))) (h : Shape.Concatenates (xs.map (·.1)) S1024 0) (k : ℕ)
    (hk : k < xs.length) (R : ℕ) (x : (⟨1, ![R]⟩ : Shape).Idx → α) (hx : xs[k] = ⟨⟨1, ![R]⟩, x⟩) (pre : ℕ)
    (hpre : (((xs.take k).map (·.1)).map fun s => if h : s.rank = 1 then s.size ((0 : Fin 1).cast h.symm) else 0).sum = pre)
    (j : S1024.Idx) (i : (⟨1, ![R]⟩ : Shape).Idx) (h0 : pre + (i 0).val = (j 0).val) :
    concatenate S1024 0 xs h j = x i :=
  concatenate_apply_piece 0 xs h j k hk ⟨1, ![R]⟩ x hx rfl pre hpre i
    (fun b hb => by
      match b with
      | ⟨0, _⟩ => exact absurd rfl hb) h0

/-- Row `r`, column `q` of the packed array. -/
abbrev at16 (r : ℕ) (hr : r < 16) (q : ℕ) (hq : q < 1024) : S16x1024.Idx := ValueIdx.ix2 (⟨r, hr⟩ : Fin 16) (⟨q, hq⟩ : Fin 1024)

theorem un0_pack : un0 (pack p0 p1 p2 p3 p4 p5 p6 z z') = p0 := funext fun j => by
  have h0 : (j 0).val < 1 := (j 0).isLt
  have h1 : (j 1).val < 1024 := (j 1).isLt
  rw [un0, extractStridedSlice_apply _ _ _ j (at16 0 (by decide) (j 1).val h1) (fun a => by
    match a with
    | ⟨0, _⟩ => show 0 = 0 + (j 0).val; omega
    | ⟨1, _⟩ => exact (Nat.zero_add _).symm)]
  exact stack_apply _ _ 0 (by exact (by decide : 0 < 7)) 1 _ rfl 0 rfl _ j (show 0 + (j 0).val = 0 by omega) rfl

theorem un1_pack : un1 (pack p0 p1 p2 p3 p4 p5 p6 z z') = p1 := funext fun j => by
  have h0 : (j 0).val < 1 := (j 0).isLt
  have h1 : (j 1).val < 1024 := (j 1).isLt
  rw [un1, extractStridedSlice_apply _ _ _ j (at16 1 (by decide) (j 1).val h1) (fun a => by
    match a with
    | ⟨0, _⟩ => show 1 = 1 + (j 0).val; omega
    | ⟨1, _⟩ => exact (Nat.zero_add _).symm)]
  exact stack_apply _ _ 1 (by exact (by decide : 1 < 7)) 1 _ rfl 1 rfl _ j (show 1 + (j 0).val = 1 by omega) rfl

theorem un5_pack : un5 (pack p0 p1 p2 p3 p4 p5 p6 z z') = p5 := funext fun j => by
  have h0 : (j 0).val < 1 := (j 0).isLt
  have h1 : (j 1).val < 1024 := (j 1).isLt
  rw [un5, extractStridedSlice_apply _ _ _ j (at16 2 (by decide) (j 1).val h1) (fun a => by
    match a with
    | ⟨0, _⟩ => show 2 = 2 + (j 0).val; omega
    | ⟨1, _⟩ => exact (Nat.zero_add _).symm)]
  exact stack_apply _ _ 2 (by exact (by decide : 2 < 7)) 1 _ rfl 2 rfl _ j (show 2 + (j 0).val = 2 by omega) rfl

theorem un6_pack : un6 (pack p0 p1 p2 p3 p4 p5 p6 z z') = p6 := funext fun j => by
  have h0 : (j 0).val < 1024 := (j 0).isLt
  rw [un6, shapeCast_apply _ _ j (ValueIdx.ix2 (0 : Fin 1) (j 0) : S1x1024.Idx) (by
      rw [Shape.rowMajor_val_two, Shape.rowMajor_val_one]
      show 0 * 1024 + (j 0).val = (j 0).val
      omega),
    extractStridedSlice_apply _ _ _ _ (at16 3 (by decide) (j 0).val h0) (fun a => by
      match a with
      | ⟨0, _⟩ => rfl
      | ⟨1, _⟩ => exact (Nat.zero_add _).symm)]
  refine (stack_apply _ _ 3 (by exact (by decide : 3 < 7)) 1 _ rfl 3 rfl _ (ValueIdx.ix2 (0 : Fin 1) (j 0)) rfl rfl).trans ?_
  refine shapeCast_apply _ _ _ j ?_
  rw [Shape.rowMajor_val_two, Shape.rowMajor_val_one]
  show (j 0).val = 0 * 1024 + (j 0).val
  omega

theorem un2_pack : un2 (pack p0 p1 p2 p3 p4 p5 p6 z z') = p2 := funext fun j => by
  have h0 : (j 0).val < 1 := (j 0).isLt
  have h1 : (j 1).val < 5120 := (j 1).isLt
  rw [un2, shapeCast_apply _ _ j (ValueIdx.ix2 (⟨(j 1).val / 1024, by omega⟩ : Fin 5) (⟨(j 1).val % 1024, by omega⟩ : Fin 1024) : S5x1024.Idx) (by
      rw [Shape.rowMajor_val_two, Shape.rowMajor_val_two]
      show (j 1).val / 1024 * 1024 + (j 1).val % 1024 = (j 0).val * 5120 + (j 1).val
      omega),
    extractStridedSlice_apply _ _ _ _ (at16 (4 + (j 1).val / 1024) (by omega) ((j 1).val % 1024) (by omega)) (fun a => by
      match a with
      | ⟨0, _⟩ => rfl
      | ⟨1, _⟩ => exact (Nat.zero_add _).symm)]
  refine (stack_apply _ _ 4 (by exact (by decide : 4 < 7)) 5 _ rfl 4 rfl _
    (ValueIdx.ix2 (⟨(j 1).val / 1024, by omega⟩ : Fin 5) (⟨(j 1).val % 1024, by omega⟩ : Fin 1024)) rfl rfl).trans ?_
  refine shapeCast_apply _ _ _ j ?_
  rw [Shape.rowMajor_val_two, Shape.rowMajor_val_two]
  show (j 0).val * 5120 + (j 1).val = (j 1).val / 1024 * 1024 + (j 1).val % 1024
  omega

/-- Row 9 of the packed array is its tail. -/
theorem pack_tail (q : ℕ) (hq : q < 1024) :
    pack p0 p1 p2 p3 p4 p5 p6 z z' (at16 9 (by decide) q hq) = tail p3 p4 z (ValueIdx.ix1 (⟨q, hq⟩ : Fin 1024)) := by
  refine (stack_apply _ _ 5 (by exact (by decide : 5 < 7)) 1 _ rfl 9 rfl _ (ValueIdx.ix2 (0 : Fin 1) (⟨q, hq⟩ : Fin 1024)) rfl rfl).trans ?_
  refine shapeCast_apply _ _ _ _ ?_
  rw [Shape.rowMajor_val_two, Shape.rowMajor_val_one]
  show q = 0 * 1024 + q
  omega

theorem un3_pack : un3 (pack p0 p1 p2 p3 p4 p5 p6 z z') = p3 := funext fun j => by
  have h0 : (j 0).val < 1 := (j 0).isLt
  have h1 : (j 1).val < 8 := (j 1).isLt
  rw [un3, shapeCast_shapeCast, extractStridedSlice_apply _ _ _ _ (at16 9 (by decide) (j 1).val (by omega)) (fun a => by
      match a with
      | ⟨0, _⟩ => show 9 = 9 + (j 0).val; omega
      | ⟨1, _⟩ => exact (Nat.zero_add _).symm), pack_tail]
  refine (line_apply _ _ 0 (by exact (by decide : 0 < 3)) 8 _ rfl 0 rfl _ (ValueIdx.ix1 (j 1)) (Nat.zero_add _)).trans ?_
  refine shapeCast_apply _ _ _ j ?_
  rw [Shape.rowMajor_val_two, Shape.rowMajor_val_one]
  show (j 0).val * 8 + (j 1).val = (j 1).val
  omega

theorem un4_pack : un4 (pack p0 p1 p2 p3 p4 p5 p6 z z') = p4 := funext fun j => by
  have h0 : (j 0).val < 32 := (j 0).isLt
  have h1 : (j 1).val < 20 := (j 1).isLt
  rw [un4, shapeCast_apply _ _ j (ValueIdx.ix1 (⟨(j 0).val * 20 + (j 1).val, by omega⟩ : Fin 640) : S640.Idx) (by
      rw [Shape.rowMajor_val_two, Shape.rowMajor_val_one]
      rfl),
    shapeCast_apply _ _ _ (ValueIdx.ix2 (0 : Fin 1) (⟨(j 0).val * 20 + (j 1).val, by omega⟩ : Fin 640) : S1x640.Idx) (by
      rw [Shape.rowMajor_val_two, Shape.rowMajor_val_one]
      show 0 * 640 + ((j 0).val * 20 + (j 1).val) = (j 0).val * 20 + (j 1).val
      omega),
    extractStridedSlice_apply _ _ _ _ (at16 9 (by decide) (8 + ((j 0).val * 20 + (j 1).val)) (by omega)) (fun a => by
      match a with
      | ⟨0, _⟩ => rfl
      | ⟨1, _⟩ => rfl), pack_tail]
  refine (line_apply _ _ 1 (by exact (by decide : 1 < 3)) 640 _ rfl 8 rfl _ (ValueIdx.ix1 (⟨(j 0).val * 20 + (j 1).val, by omega⟩ : Fin 640)) rfl).trans ?_
  refine shapeCast_apply _ _ _ j ?_
  rw [Shape.rowMajor_val_two, Shape.rowMajor_val_one]
  rfl

/-- Seven small arrays, in the order of the arguments. -/
structure Parts (α : Type) where
  p0 : S1x1024.Idx → α
  p1 : S1x1024.Idx → α
  p2 : S1x5120.Idx → α
  p3 : S1x8.Idx → α
  p4 : S32x20.Idx → α
  p5 : S1x1024.Idx → α
  p6 : S1024.Idx → α

theorem Parts.eq {A B : Parts α} (h0 : A.p0 = B.p0) (h1 : A.p1 = B.p1) (h2 : A.p2 = B.p2) (h3 : A.p3 = B.p3) (h4 : A.p4 = B.p4)
    (h5 : A.p5 = B.p5) (h6 : A.p6 = B.p6) : A = B := by
  cases A; cases B; cases h0; cases h1; cases h2; cases h3; cases h4; cases h5; cases h6; rfl

/-- The seven in one array, zeros elsewhere. -/
def packed (A : Parts (Ideal .f32)) : S16x1024.Idx → Ideal .f32 :=
  pack A.p0 A.p1 A.p2 A.p3 A.p4 A.p5 A.p6 (broadcastInDim S376 ![] bcast_S_S376 (constant (F := Ideal) S_ .f32 0x00000000#32))
    (broadcastInDim S6x1024 ![] bcast_S_S6x1024 (constant (F := Ideal) S_ .f32 0x00000000#32))

/-! A function of four packed arrays index by index, read back: the function of the four parts. -/

section Pointwise

variable {β : Type} (f : Ideal .f32 → Ideal .f32 → Ideal .f32 → Ideal .f32 → β) (W G M V : Parts (Ideal .f32))

/-- `f` of four arrays of one shape, index by index. -/
abbrev pts {S : Shape} (w g m v : S.Idx → Ideal .f32) : S.Idx → β := fun i => f (w i) (g i) (m i) (v i)

theorem un0_pts : un0 (pts f (packed W) (packed G) (packed M) (packed V)) = pts f W.p0 G.p0 M.p0 V.p0 := by
  show pts f (un0 (packed W)) (un0 (packed G)) (un0 (packed M)) (un0 (packed V)) = _
  simp only [packed, un0_pack]
theorem un1_pts : un1 (pts f (packed W) (packed G) (packed M) (packed V)) = pts f W.p1 G.p1 M.p1 V.p1 := by
  show pts f (un1 (packed W)) (un1 (packed G)) (un1 (packed M)) (un1 (packed V)) = _
  simp only [packed, un1_pack]
theorem un2_pts : un2 (pts f (packed W) (packed G) (packed M) (packed V)) = pts f W.p2 G.p2 M.p2 V.p2 := by
  show pts f (un2 (packed W)) (un2 (packed G)) (un2 (packed M)) (un2 (packed V)) = _
  simp only [packed, un2_pack]
theorem un3_pts : un3 (pts f (packed W) (packed G) (packed M) (packed V)) = pts f W.p3 G.p3 M.p3 V.p3 := by
  show pts f (un3 (packed W)) (un3 (packed G)) (un3 (packed M)) (un3 (packed V)) = _
  simp only [packed, un3_pack]
theorem un4_pts : un4 (pts f (packed W) (packed G) (packed M) (packed V)) = pts f W.p4 G.p4 M.p4 V.p4 := by
  show pts f (un4 (packed W)) (un4 (packed G)) (un4 (packed M)) (un4 (packed V)) = _
  simp only [packed, un4_pack]
theorem un5_pts : un5 (pts f (packed W) (packed G) (packed M) (packed V)) = pts f W.p5 G.p5 M.p5 V.p5 := by
  show pts f (un5 (packed W)) (un5 (packed G)) (un5 (packed M)) (un5 (packed V)) = _
  simp only [packed, un5_pack]
theorem un6_pts : un6 (pts f (packed W) (packed G) (packed M) (packed V)) = pts f W.p6 G.p6 M.p6 V.p6 := by
  show pts f (un6 (packed W)) (un6 (packed G)) (un6 (packed M)) (un6 (packed V)) = _
  simp only [packed, un6_pack]

end Pointwise

end Cert.SmallPack
end
-- ==== Proof.SmallRun.lean ====
/- The run of the small weights' AdamW update, read. The host lines before the region pack the weights, the gradients and
   the two moments (`V_w` to `V_v`); the region's one point covers each output array whole, so each ends at the pointwise
   update of the packed arrays (`final4` to `final6`); the host lines after the region read the seven parts of each back
   (`tails`). With what Proof/SmallPack.lean says of packing, every result is the update of its own weight (`run`). -/
module

public import proofs.«01_k».proof.Defs
public import proofs.«01_k».proof.Proof.Gen.AdamSmallIdeal.Frame
public import proofs.«01_k».proof.Proof.AdamW
public import proofs.«01_k».proof.Proof.SmallPack
public import Idealize.ShloMosaic.Lib.Pipeline.Value
public import Idealize.ShloMosaic.Lib.Claim
public import Idealize.ShloMosaic.Lib.StableHlo.RunRead

@[expose] public section

noncomputable section

open Idealize.ShloMosaic Idealize.ShloMosaic.TcCoe Idealize.SL.Sem
open Idealize.ShloMosaic.Pipeline (Dat)

namespace Cert.SmallRun

open Cert.AdamSmallIdeal Cert.AdamSmallIdeal.Gen Cert.SmallPack

variable (m : (ℓ : Loc nD τ sig) → Buf (Elt Ideal) ℓ) (ρ : Dev nD → PrngReg)

/-- The seven weights. -/
def ws (c : Dev nD) : Parts (Ideal .f32) :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6)⟩
/-- Their gradients. -/
def gs (c : Dev nD) : Parts (Ideal .f32) :=
  ⟨m ((c.tc : Thread nD τ).loc main_arg7), m ((c.tc : Thread nD τ).loc main_arg8), m ((c.tc : Thread nD τ).loc main_arg9), m ((c.tc : Thread nD τ).loc main_arg10),
    m ((c.tc : Thread nD τ).loc main_arg11), m ((c.tc : Thread nD τ).loc main_arg12), m ((c.tc : Thread nD τ).loc main_arg13)⟩
/-- Their first moments. -/
def ms (c : Dev nD) : Parts (Ideal .f32) :=
  ⟨m ((c.tc : Thread nD τ).loc main_arg14), m ((c.tc : Thread nD τ).loc main_arg15), m ((c.tc : Thread nD τ).loc main_arg16), m ((c.tc : Thread nD τ).loc main_arg17),
    m ((c.tc : Thread nD τ).loc main_arg18), m ((c.tc : Thread nD τ).loc main_arg19), m ((c.tc : Thread nD τ).loc main_arg20)⟩
/-- Their second moments. -/
def vs (c : Dev nD) : Parts (Ideal .f32) :=
  ⟨m ((c.tc : Thread nD τ).loc main_arg21), m ((c.tc : Thread nD τ).loc main_arg22), m ((c.tc : Thread nD τ).loc main_arg23), m ((c.tc : Thread nD τ).loc main_arg24),
    m ((c.tc : Thread nD τ).loc main_arg25), m ((c.tc : Thread nD τ).loc main_arg26), m ((c.tc : Thread nD τ).loc main_arg27)⟩

/-! ## The packed arrays, as the region finds them -/

theorem V_w (c : Dev nD) : V m c main_v17 = packed (ws m c) := by
  unfold V V0
  after_reads_simp
  rfl
theorem V_g (c : Dev nD) : V m c main_v8 = packed (gs m c) := by
  unfold V V0
  after_reads_simp
  rfl
theorem V_m (c : Dev nD) : V m c main_v26 = packed (ms m c) := by
  unfold V V0
  after_reads_simp
  rfl
theorem V_v (c : Dev nD) : V m c main_v35 = packed (vs m c) := by
  unfold V V0
  after_reads_simp
  rfl

/-! ## The region's three output arrays -/

/-- The three updates as functions of a weight, its gradient and its moments. -/
abbrev fD : Ideal .f32 → Ideal .f32 → Ideal .f32 → Ideal .f32 → Ideal .f32 := fun w g m v => AdamW.delta w g m v
abbrev fM : Ideal .f32 → Ideal .f32 → Ideal .f32 → Ideal .f32 → Ideal .f32 := fun _ g m _ => AdamW.newM g m
abbrev fV : Ideal .f32 → Ideal .f32 → Ideal .f32 → Ideal .f32 → Ideal .f32 := fun _ g _ v => AdamW.newV g v

/-- One of them, of the packed arrays. -/
abbrev whole (f : Ideal .f32 → Ideal .f32 → Ideal .f32 → Ideal .f32 → Ideal .f32) (c : Dev nD) : S16x1024.Idx → Ideal .f32 :=
  pts f (V m c main_v17) (V m c main_v8) (V m c main_v26) (V m c main_v35)

theorem hz : (![0, 0] : Fin 2 → Nat) = fun _ => 0 := funext fun a => by fin_cases a <;> rfl

theorem flushed4 (c : Dev nD) (t : Fin cfg0.N) :
    (dats m 0 c).flushed 4 t = ((cfg0.win 4).blk t).view.read (Elt Ideal) (whole m fD c) := by
  show (cfg0.win 4).cut (grid0.coords t) ((dats m 0 c).after 4 t) = _
  rw [after0_4]
  unfold out0_4
  rw [View.canon_unit_zero hz]
  repeat rw [View.ld_unit_zero hz]
  unfold k0_pay4 k0_pay3 k0_pay2 k0_pay1
  simp only [shapeCast_self]
  rfl

theorem flushed5 (c : Dev nD) (t : Fin cfg0.N) :
    (dats m 0 c).flushed 5 t = ((cfg0.win 5).blk t).view.read (Elt Ideal) (whole m fM c) := by
  show (cfg0.win 5).cut (grid0.coords t) ((dats m 0 c).after 5 t) = _
  rw [after0_5]
  unfold out0_5
  rw [View.canon_unit_zero hz]
  repeat rw [View.ld_unit_zero hz]
  unfold k0_pay2 k0_pay1
  simp only [shapeCast_self]
  rfl

theorem flushed6 (c : Dev nD) (t : Fin cfg0.N) :
    (dats m 0 c).flushed 6 t = ((cfg0.win 6).blk t).view.read (Elt Ideal) (whole m fV c) := by
  show (cfg0.win 6).cut (grid0.coords t) ((dats m 0 c).after 6 t) = _
  rw [after0_6]
  unfold out0_6
  rw [View.canon_unit_zero hz]
  repeat rw [View.ld_unit_zero hz]
  unfold k0_pay3 k0_pay1
  simp only [shapeCast_self]
  rfl

theorem cover4 (i : S16x1024.Idx) : ∃ t : Fin cfg0.N, (cfg0.win 4).flush t = true ∧ i ∈ ((cfg0.win 4).blk t).view.set := by
  refine ⟨t0_0, flush0_4 _, ?_⟩
  show i ∈ ((View.whole main_v36_0).slice (win0_4.rect t0_0)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

theorem final4 (c : Dev nD) : (dats m 0 c).arrAt 4 cfg0.N = pts fD (packed (ws m c)) (packed (gs m c)) (packed (ms m c)) (packed (vs m c)) := by
  rw [← V_w, ← V_g, ← V_m, ← V_v]
  exact (dats m 0 c).arrAt_eq_of_cover 4 (whole m fD c) (fun t _ => flushed4 m c t) cover4

theorem cover5 (i : S16x1024.Idx) : ∃ t : Fin cfg0.N, (cfg0.win 5).flush t = true ∧ i ∈ ((cfg0.win 5).blk t).view.set := by
  refine ⟨t0_0, flush0_5 _, ?_⟩
  show i ∈ ((View.whole main_v36_1).slice (win0_5.rect t0_0)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

theorem final5 (c : Dev nD) : (dats m 0 c).arrAt 5 cfg0.N = pts fM (packed (ws m c)) (packed (gs m c)) (packed (ms m c)) (packed (vs m c)) := by
  rw [← V_w, ← V_g, ← V_m, ← V_v]
  exact (dats m 0 c).arrAt_eq_of_cover 5 (whole m fM c) (fun t _ => flushed5 m c t) cover5

theorem cover6 (i : S16x1024.Idx) : ∃ t : Fin cfg0.N, (cfg0.win 6).flush t = true ∧ i ∈ ((cfg0.win 6).blk t).view.set := by
  refine ⟨t0_0, flush0_6 _, ?_⟩
  show i ∈ ((View.whole main_v36_2).slice (win0_6.rect t0_0)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

theorem final6 (c : Dev nD) : (dats m 0 c).arrAt 6 cfg0.N = pts fV (packed (ws m c)) (packed (gs m c)) (packed (ms m c)) (packed (vs m c)) := by
  rw [← V_w, ← V_g, ← V_m, ← V_v]
  exact (dats m 0 c).arrAt_eq_of_cover 6 (whole m fV c) (fun t _ => flushed6 m c t) cover6

/-! ## The host lines after the region -/

/-- Each result is a part of one of the three output arrays. -/
theorem tails (W : Valuation τ sig (Elt Ideal)) :
    StableHlo.after hostOps1 W (Proc.devRef .tc main_v37) = un0 (W (Proc.devRef .tc main_v36_0))
    ∧ StableHlo.after hostOps1 W (Proc.devRef .tc main_v38) = un1 (W (Proc.devRef .tc main_v36_0))
    ∧ StableHlo.after hostOps1 W (Proc.devRef .tc main_v43) = un2 (W (Proc.devRef .tc main_v36_0))
    ∧ StableHlo.after hostOps1 W (Proc.devRef .tc main_v46) = un3 (W (Proc.devRef .tc main_v36_0))
    ∧ StableHlo.after hostOps1 W (Proc.devRef .tc main_v49) = un4 (W (Proc.devRef .tc main_v36_0))
    ∧ StableHlo.after hostOps1 W (Proc.devRef .tc main_v39) = un5 (W (Proc.devRef .tc main_v36_0))
    ∧ StableHlo.after hostOps1 W (Proc.devRef .tc main_v41) = un6 (W (Proc.devRef .tc main_v36_0))
    ∧ StableHlo.after hostOps1 W (Proc.devRef .tc main_v50) = un0 (W (Proc.devRef .tc main_v36_1))
    ∧ StableHlo.after hostOps1 W (Proc.devRef .tc main_v51) = un1 (W (Proc.devRef .tc main_v36_1))
    ∧ StableHlo.after hostOps1 W (Proc.devRef .tc main_v56) = un2 (W (Proc.devRef .tc main_v36_1))
    ∧ StableHlo.after hostOps1 W (Proc.devRef .tc main_v59) = un3 (W (Proc.devRef .tc main_v36_1))
    ∧ StableHlo.after hostOps1 W (Proc.devRef .tc main_v62) = un4 (W (Proc.devRef .tc main_v36_1))
    ∧ StableHlo.after hostOps1 W (Proc.devRef .tc main_v52) = un5 (W (Proc.devRef .tc main_v36_1))
    ∧ StableHlo.after hostOps1 W (Proc.devRef .tc main_v54) = un6 (W (Proc.devRef .tc main_v36_1))
    ∧ StableHlo.after hostOps1 W (Proc.devRef .tc main_v63) = un0 (W (Proc.devRef .tc main_v36_2))
    ∧ StableHlo.after hostOps1 W (Proc.devRef .tc main_v64) = un1 (W (Proc.devRef .tc main_v36_2))
    ∧ StableHlo.after hostOps1 W (Proc.devRef .tc main_v69) = un2 (W (Proc.devRef .tc main_v36_2))
    ∧ StableHlo.after hostOps1 W (Proc.devRef .tc main_v72) = un3 (W (Proc.devRef .tc main_v36_2))
    ∧ StableHlo.after hostOps1 W (Proc.devRef .tc main_v75) = un4 (W (Proc.devRef .tc main_v36_2))
    ∧ StableHlo.after hostOps1 W (Proc.devRef .tc main_v65) = un5 (W (Proc.devRef .tc main_v36_2))
    ∧ StableHlo.after hostOps1 W (Proc.devRef .tc main_v67) = un6 (W (Proc.devRef .tc main_v36_2)) := by
  refine ⟨?_, ?_, ?_, ?_, ?_, ?_, ?_, ?_, ?_, ?_, ?_, ?_, ?_, ?_, ?_, ?_, ?_, ?_, ?_, ?_, ?_⟩ <;> (after_reads_simp <;> rfl)

/-- The whole run: every result is the update of its own weight, and the arguments are kept. -/
theorem run : θ_run defs (onTc (τ := τ) (main (F := Ideal))) ⟨m, fun _ => 0, ρ⟩ fun r => ∀ c : Dev nD,
    r.2.mem ((c.tc : Thread nD τ).loc main_v37) = pts fD (ws m c).p0 (gs m c).p0 (ms m c).p0 (vs m c).p0
    ∧ r.2.mem ((c.tc : Thread nD τ).loc main_v38) = pts fD (ws m c).p1 (gs m c).p1 (ms m c).p1 (vs m c).p1
    ∧ r.2.mem ((c.tc : Thread nD τ).loc main_v43) = pts fD (ws m c).p2 (gs m c).p2 (ms m c).p2 (vs m c).p2
    ∧ r.2.mem ((c.tc : Thread nD τ).loc main_v46) = pts fD (ws m c).p3 (gs m c).p3 (ms m c).p3 (vs m c).p3
    ∧ r.2.mem ((c.tc : Thread nD τ).loc main_v49) = pts fD (ws m c).p4 (gs m c).p4 (ms m c).p4 (vs m c).p4
    ∧ r.2.mem ((c.tc : Thread nD τ).loc main_v39) = pts fD (ws m c).p5 (gs m c).p5 (ms m c).p5 (vs m c).p5
    ∧ r.2.mem ((c.tc : Thread nD τ).loc main_v41) = pts fD (ws m c).p6 (gs m c).p6 (ms m c).p6 (vs m c).p6
    ∧ r.2.mem ((c.tc : Thread nD τ).loc main_v50) = pts fM (ws m c).p0 (gs m c).p0 (ms m c).p0 (vs m c).p0
    ∧ r.2.mem ((c.tc : Thread nD τ).loc main_v51) = pts fM (ws m c).p1 (gs m c).p1 (ms m c).p1 (vs m c).p1
    ∧ r.2.mem ((c.tc : Thread nD τ).loc main_v56) = pts fM (ws m c).p2 (gs m c).p2 (ms m c).p2 (vs m c).p2
    ∧ r.2.mem ((c.tc : Thread nD τ).loc main_v59) = pts fM (ws m c).p3 (gs m c).p3 (ms m c).p3 (vs m c).p3
    ∧ r.2.mem ((c.tc : Thread nD τ).loc main_v62) = pts fM (ws m c).p4 (gs m c).p4 (ms m c).p4 (vs m c).p4
    ∧ r.2.mem ((c.tc : Thread nD τ).loc main_v52) = pts fM (ws m c).p5 (gs m c).p5 (ms m c).p5 (vs m c).p5
    ∧ r.2.mem ((c.tc : Thread nD τ).loc main_v54) = pts fM (ws m c).p6 (gs m c).p6 (ms m c).p6 (vs m c).p6
    ∧ r.2.mem ((c.tc : Thread nD τ).loc main_v63) = pts fV (ws m c).p0 (gs m c).p0 (ms m c).p0 (vs m c).p0
    ∧ r.2.mem ((c.tc : Thread nD τ).loc main_v64) = pts fV (ws m c).p1 (gs m c).p1 (ms m c).p1 (vs m c).p1
    ∧ r.2.mem ((c.tc : Thread nD τ).loc main_v69) = pts fV (ws m c).p2 (gs m c).p2 (ms m c).p2 (vs m c).p2
    ∧ r.2.mem ((c.tc : Thread nD τ).loc main_v72) = pts fV (ws m c).p3 (gs m c).p3 (ms m c).p3 (vs m c).p3
    ∧ r.2.mem ((c.tc : Thread nD τ).loc main_v75) = pts fV (ws m c).p4 (gs m c).p4 (ms m c).p4 (vs m c).p4
    ∧ r.2.mem ((c.tc : Thread nD τ).loc main_v65) = pts fV (ws m c).p5 (gs m c).p5 (ms m c).p5 (vs m c).p5
    ∧ r.2.mem ((c.tc : Thread nD τ).loc main_v67) = pts fV (ws m c).p6 (gs m c).p6 (ms m c).p6 (vs m c).p6
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27) := by
  refine (θ_run defs _ _).mono (fun r h c => ?_) (Cert.AdamSmallIdeal.Gen.run_main m ρ)
  have t := tails (Pipeline.withArrays spec0 c (V0 m c) fun w => (dats m 0 c).arrAt w cfg0.N)
  have e4 := (Pipeline.withArrays_arr spec0 launch0.win.arr_inj c (V0 m c) (fun w => (dats m 0 c).arrAt w cfg0.N) 4).trans (final4 m c)
  have e5 := (Pipeline.withArrays_arr spec0 launch0.win.arr_inj c (V0 m c) (fun w => (dats m 0 c).arrAt w cfg0.N) 5).trans (final5 m c)
  have e6 := (Pipeline.withArrays_arr spec0 launch0.win.arr_inj c (V0 m c) (fun w => (dats m 0 c).arrAt w cfg0.N) 6).trans (final6 m c)
  have rd : ∀ (b : Ref sig .tc) (h₁ : _) (h₂ : _), _ := fun b h₁ h₂ => (h c).2 b (Pipeline.mem_restRefs_of b h₁ h₂)
  obtain ⟨t0, t1, t2, t3, t4, t5, t6, t7, t8, t9, t10, t11, t12, t13, t14, t15, t16, t17, t18, t19, t20⟩ := t
  exact ⟨(rd main_v37 (by decide) (by decide)).trans (t0.trans ((congrArg un0 e4).trans (un0_pts fD _ _ _ _))),
    (rd main_v38 (by decide) (by decide)).trans (t1.trans ((congrArg un1 e4).trans (un1_pts fD _ _ _ _))),
    (rd main_v43 (by decide) (by decide)).trans (t2.trans ((congrArg un2 e4).trans (un2_pts fD _ _ _ _))),
    (rd main_v46 (by decide) (by decide)).trans (t3.trans ((congrArg un3 e4).trans (un3_pts fD _ _ _ _))),
    (rd main_v49 (by decide) (by decide)).trans (t4.trans ((congrArg un4 e4).trans (un4_pts fD _ _ _ _))),
    (rd main_v39 (by decide) (by decide)).trans (t5.trans ((congrArg un5 e4).trans (un5_pts fD _ _ _ _))),
    (rd main_v41 (by decide) (by decide)).trans (t6.trans ((congrArg un6 e4).trans (un6_pts fD _ _ _ _))),
    (rd main_v50 (by decide) (by decide)).trans (t7.trans ((congrArg un0 e5).trans (un0_pts fM _ _ _ _))),
    (rd main_v51 (by decide) (by decide)).trans (t8.trans ((congrArg un1 e5).trans (un1_pts fM _ _ _ _))),
    (rd main_v56 (by decide) (by decide)).trans (t9.trans ((congrArg un2 e5).trans (un2_pts fM _ _ _ _))),
    (rd main_v59 (by decide) (by decide)).trans (t10.trans ((congrArg un3 e5).trans (un3_pts fM _ _ _ _))),
    (rd main_v62 (by decide) (by decide)).trans (t11.trans ((congrArg un4 e5).trans (un4_pts fM _ _ _ _))),
    (rd main_v52 (by decide) (by decide)).trans (t12.trans ((congrArg un5 e5).trans (un5_pts fM _ _ _ _))),
    (rd main_v54 (by decide) (by decide)).trans (t13.trans ((congrArg un6 e5).trans (un6_pts fM _ _ _ _))),
    (rd main_v63 (by decide) (by decide)).trans (t14.trans ((congrArg un0 e6).trans (un0_pts fV _ _ _ _))),
    (rd main_v64 (by decide) (by decide)).trans (t15.trans ((congrArg un1 e6).trans (un1_pts fV _ _ _ _))),
    (rd main_v69 (by decide) (by decide)).trans (t16.trans ((congrArg un2 e6).trans (un2_pts fV _ _ _ _))),
    (rd main_v72 (by decide) (by decide)).trans (t17.trans ((congrArg un3 e6).trans (un3_pts fV _ _ _ _))),
    (rd main_v75 (by decide) (by decide)).trans (t18.trans ((congrArg un4 e6).trans (un4_pts fV _ _ _ _))),
    (rd main_v65 (by decide) (by decide)).trans (t19.trans ((congrArg un5 e6).trans (un5_pts fV _ _ _ _))),
    (rd main_v67 (by decide) (by decide)).trans (t20.trans ((congrArg un6 e6).trans (un6_pts fV _ _ _ _))),
    (rd main_arg0 (by decide) (by decide)).trans (W_main_arg0 m (dats m) c),
    (rd main_arg1 (by decide) (by decide)).trans (W_main_arg1 m (dats m) c),
    (rd main_arg2 (by decide) (by decide)).trans (W_main_arg2 m (dats m) c),
    (rd main_arg3 (by decide) (by decide)).trans (W_main_arg3 m (dats m) c),
    (rd main_arg4 (by decide) (by decide)).trans (W_main_arg4 m (dats m) c),
    (rd main_arg5 (by decide) (by decide)).trans (W_main_arg5 m (dats m) c),
    (rd main_arg6 (by decide) (by decide)).trans (W_main_arg6 m (dats m) c),
    (rd main_arg7 (by decide) (by decide)).trans (W_main_arg7 m (dats m) c),
    (rd main_arg8 (by decide) (by decide)).trans (W_main_arg8 m (dats m) c),
    (rd main_arg9 (by decide) (by decide)).trans (W_main_arg9 m (dats m) c),
    (rd main_arg10 (by decide) (by decide)).trans (W_main_arg10 m (dats m) c),
    (rd main_arg11 (by decide) (by decide)).trans (W_main_arg11 m (dats m) c),
    (rd main_arg12 (by decide) (by decide)).trans (W_main_arg12 m (dats m) c),
    (rd main_arg13 (by decide) (by decide)).trans (W_main_arg13 m (dats m) c),
    (rd main_arg14 (by decide) (by decide)).trans (W_main_arg14 m (dats m) c),
    (rd main_arg15 (by decide) (by decide)).trans (W_main_arg15 m (dats m) c),
    (rd main_arg16 (by decide) (by decide)).trans (W_main_arg16 m (dats m) c),
    (rd main_arg17 (by decide) (by decide)).trans (W_main_arg17 m (dats m) c),
    (rd main_arg18 (by decide) (by decide)).trans (W_main_arg18 m (dats m) c),
    (rd main_arg19 (by decide) (by decide)).trans (W_main_arg19 m (dats m) c),
    (rd main_arg20 (by decide) (by decide)).trans (W_main_arg20 m (dats m) c),
    (rd main_arg21 (by decide) (by decide)).trans (W_main_arg21 m (dats m) c),
    (rd main_arg22 (by decide) (by decide)).trans (W_main_arg22 m (dats m) c),
    (rd main_arg23 (by decide) (by decide)).trans (W_main_arg23 m (dats m) c),
    (rd main_arg24 (by decide) (by decide)).trans (W_main_arg24 m (dats m) c),
    (rd main_arg25 (by decide) (by decide)).trans (W_main_arg25 m (dats m) c),
    (rd main_arg26 (by decide) (by decide)).trans (W_main_arg26 m (dats m) c),
    (rd main_arg27 (by decide) (by decide)).trans (W_main_arg27 m (dats m) c)⟩

end Cert.SmallRun
end
-- ==== Proof.AdamSmall.lean ====
/- The claims about the small weights' AdamW update. Both runs are read: the kernel's in Proof/SmallRun.lean, the
   reference's as generated, which Proof/AdamW.lean has index by index. Every result of both is the same update of the
   same weight. -/
module

public import proofs.«01_k».proof.Defs
public import proofs.«01_k».proof.Proof.Gen.AdamSmall.Frame
public import proofs.«01_k».proof.Proof.Gen.AdamSmallReferenceIdeal.Run
public import proofs.«01_k».proof.Proof.SmallRun
public import Idealize.ShloMosaic.Lib.Quiescent

@[expose] public section

noncomputable section

open Idealize.ShloMosaic Idealize.ShloMosaic.TcCoe Idealize.SL.Sem

namespace Cert.AdamW.AdamSmall

open Cert.SmallPack Cert.SmallRun

theorem frame : Cert.quiescent_AdamSmall := fun m ρ _ => Cert.AdamSmall.Gen.frame m ρ
theorem frame_ideal : Cert.quiescent_AdamSmallIdeal := fun m ρ _ => Cert.AdamSmallIdeal.Gen.frame m ρ
theorem frame_reference : Cert.quiescent_AdamSmallReferenceIdeal := fun m ρ _ =>
  (θ_run Cert.AdamSmallReferenceIdeal.defs _ _).mono
    (fun r h => ⟨fun c => (h c).2.2.2.2.2.2.2.2.2.2.2.2.2.2.2.2.2.2.2.2.2, Idealize.ShloMosaic.sem_eq_zero_of_no_sems (by decide) r.2⟩)
    (Cert.AdamSmallReferenceIdeal.Value.run (F := Ideal) m ρ)

/-- Equal arrays have equal updates. -/
theorem pts_congr (f : Ideal .f32 → Ideal .f32 → Ideal .f32 → Ideal .f32 → Ideal .f32) {S : Shape} {w w' g g' m m' v v' : S.Idx → Ideal .f32}
    (hw : w = w') (hg : g = g') (hm : m = m') (hv : v = v') : pts f w g m v = pts f w' g' m' v' := by
  rw [hw, hg, hm, hv]

/-- Every result of the kernel is the reference's. -/
theorem algebraic : Cert.algebraic_AdamSmallIdeal_AdamSmallReferenceIdeal := by
  intro m ρ m' ρ' _ hagree
  refine ⟨_, _, _, _, _, _, _, _, _, _, _, _, _, _, _, _, _, _, _, _, _, run m ρ,
    (θ_run Cert.AdamSmallReferenceIdeal.defs _ _).mono (fun r h c => ?_) (Cert.AdamSmallReferenceIdeal.Value.run (F := Ideal) m' ρ')⟩
  obtain ⟨h0, h1, h2, h3, h4, h5, h6, h7, h8, h9, h10, h11, h12, h13, h14, h15, h16, h17, h18, h19, h20, hargs⟩ := h c
  obtain ⟨a0, a1, a2, a3, a4, a5, a6, a7, a8, a9, a10, a11, a12, a13, a14, a15, a16, a17, a18, a19, a20, a21, a22, a23, a24, a25, a26, a27⟩ := hagree c
  exact ⟨h0.trans ((delta_host _ _ _ _ _).trans (pts_congr fD a0 a7 a14 a21)),
    h1.trans ((delta_host _ _ _ _ _).trans (pts_congr fD a1 a8 a15 a22)),
    h2.trans ((delta_host _ _ _ _ _).trans (pts_congr fD a2 a9 a16 a23)),
    h3.trans ((delta_host _ _ _ _ _).trans (pts_congr fD a3 a10 a17 a24)),
    h4.trans ((delta_host _ _ _ _ _).trans (pts_congr fD a4 a11 a18 a25)),
    h5.trans ((delta_host _ _ _ _ _).trans (pts_congr fD a5 a12 a19 a26)),
    h6.trans ((delta_host _ _ _ _ _).trans (pts_congr fD a6 a13 a20 a27)),
    h7.trans ((newM_host _ _ _).trans (pts_congr fM a0 a7 a14 a21)),
    h8.trans ((newM_host _ _ _).trans (pts_congr fM a1 a8 a15 a22)),
    h9.trans ((newM_host _ _ _).trans (pts_congr fM a2 a9 a16 a23)),
    h10.trans ((newM_host _ _ _).trans (pts_congr fM a3 a10 a17 a24)),
    h11.trans ((newM_host _ _ _).trans (pts_congr fM a4 a11 a18 a25)),
    h12.trans ((newM_host _ _ _).trans (pts_congr fM a5 a12 a19 a26)),
    h13.trans ((newM_host _ _ _).trans (pts_congr fM a6 a13 a20 a27)),
    h14.trans ((newV_host _ _ _).trans (pts_congr fV a0 a7 a14 a21)),
    h15.trans ((newV_host _ _ _).trans (pts_congr fV a1 a8 a15 a22)),
    h16.trans ((newV_host _ _ _).trans (pts_congr fV a2 a9 a16 a23)),
    h17.trans ((newV_host _ _ _).trans (pts_congr fV a3 a10 a17 a24)),
    h18.trans ((newV_host _ _ _).trans (pts_congr fV a4 a11 a18 a25)),
    h19.trans ((newV_host _ _ _).trans (pts_congr fV a5 a12 a19 a26)),
    h20.trans ((newV_host _ _ _).trans (pts_congr fV a6 a13 a20 a27)), hargs⟩

end Cert.AdamW.AdamSmall
end
-- ==== Proof.Layer.lean ====
/- What the layers' calls have in common: reads and stores of whole buffers and of column or row pieces, and arrays whose 8192
   rows come in 16 blocks of 512. -/
module

public import Idealize.ShloMosaic.Lib.Pipeline.ValueKit
public import Idealize.ShloMosaic.Lib.WholeRead
public import Idealize.ShloMosaic.Lib.Pointwise

@[expose] public section

noncomputable section

open Idealize.ShloMosaic Idealize.ShloMosaic.TcCoe Idealize.SL.Sem

namespace Cert.Layer

section

variable {F : FTy → Type} [FloatOps F] {sig : RefSig}

/-- A load from a whole buffer that holds `X`. -/
theorem readAt_whole {sp : Space} {s : Shape} {e : EltTy} (M : Memref sig .tc sp s e) (h : M.IsWhole) (X : Vec F s e) (r : Rect s) :
    View.readAt (Elt F) M.view r.toLoadRect (h.unread X) = View.ld X r := funext fun x => h.readAt_unread X r.toLoadRect x

/-- One store of the whole leaves what it stored. -/
theorem canon_whole {s : Shape} {e : EltTy} (X : Vec F s e) : View.canon (Val := Elt F) [⟨Rect.whole s, X⟩] = X :=
  View.canon_unit_zero (Val := Elt F) (e := e) rfl _ X

/-- A load of what one store of the whole left. -/
theorem readCov_of_whole {sp : Space} {s : Shape} {e : EltTy} (v : View sig .tc sp s e) (X : Vec F s e) (r : Rect s) :
    v.readCov (Val := Elt F) [⟨Rect.whole s, X⟩] r.toLoadRect = View.ld X r := funext fun x => by
  rw [View.readCov_eq_canon']
  exact congrFun (View.canon_unit_zero (Val := Elt F) (e := e) rfl _ X) _

variable {e : EltTy} {k n : ℕ}

/-- A load of all rows and columns, a store of them, and a load after a store. -/
theorem ld_all (inb) (X : Vec F ⟨2, ![k, n]⟩ e) : View.ld X (Rect.unit (s := ⟨2, ![k, n]⟩) ![0, 0] ![k, n] inb) = X :=
  View.ld_unit_lit (S := ⟨2, ![k, n]⟩) inb X (Fin.forall_fin_two.mpr ⟨rfl, rfl⟩)

theorem canon_all (inb) (X : Vec F ⟨2, ![k, n]⟩ e) (L : List (View.Piece (Elt F) ⟨2, ![k, n]⟩ e)) :
    View.canon (⟨Rect.unit (s := ⟨2, ![k, n]⟩) ![0, 0] ![k, n] inb, X⟩ :: L) = X :=
  View.canon_cons_unit_lit (S := ⟨2, ![k, n]⟩) inb X L (Fin.forall_fin_two.mpr ⟨rfl, rfl⟩)

theorem readCov_all {sp : Space} (v : View sig .tc sp ⟨2, ![k, n]⟩ e) (inb) (X : Vec F ⟨2, ![k, n]⟩ e) :
    v.readCov (Val := Elt F) [⟨Rect.unit (s := ⟨2, ![k, n]⟩) ![0, 0] ![k, n] inb, X⟩] (Rect.unit (s := ⟨2, ![k, n]⟩) ![0, 0] ![k, n] inb).toLoadRect = X :=
  View.readCov_unit_lit (S := ⟨2, ![k, n]⟩) v inb X (Fin.forall_fin_two.mpr ⟨rfl, rfl⟩)

end

/-! ## Pieces -/

section

variable {F : FTy → Type} [FloatOps F] {e : EltTy} {k n w j : ℕ}

/-- A piece of `w` columns from column `j` on: row `r`, column `q` of it is column `j + q`. -/
theorem cols_apply (inb : ∀ a, (![0, j] : Fin 2 → ℕ) a + (![k, w] : Fin 2 → ℕ) a ≤ (⟨2, ![k, n]⟩ : Shape).size a) (X : Vec F ⟨2, ![k, n]⟩ e)
    (r : Fin k) (q : Fin w) (h : j + q.val < n) : View.ld X (Rect.unit (s := ⟨2, ![k, n]⟩) ![0, j] ![k, w] inb) (ix2 r q) = X (ix2 r ⟨j + q.val, h⟩) :=
  congrArg X (by idx_ext)

/-- A piece of `w` rows from row `j` on. -/
theorem rows_apply (inb : ∀ a, (![j, 0] : Fin 2 → ℕ) a + (![w, n] : Fin 2 → ℕ) a ≤ (⟨2, ![k, n]⟩ : Shape).size a) (X : Vec F ⟨2, ![k, n]⟩ e)
    (r : Fin w) (q : Fin n) (h : j + r.val < k) : View.ld X (Rect.unit (s := ⟨2, ![k, n]⟩) ![j, 0] ![w, n] inb) (ix2 r q) = X (ix2 ⟨j + r.val, h⟩ q) :=
  congrArg X (by idx_ext)

/-- Column pieces that are each `G`'s make `G` wherever they reach. -/
theorem pieces_apply (G : Fin k → Fin n → Elt F e) (L : List (View.Piece (Elt F) ⟨2, ![k, n]⟩ e))
    (hL : ∀ p ∈ L, ∃ j w inb, ∃ v : Vec F ⟨2, ![k, w]⟩ e, p = ⟨Rect.unit (s := ⟨2, ![k, n]⟩) ![0, j] ![k, w] inb, v⟩
      ∧ ∀ r q (h : j + q.val < n), v (ix2 r q) = G r ⟨j + q.val, h⟩)
    (hc : ∀ q : Fin n, ∃ p ∈ L, p.1.off 1 ≤ q.val ∧ q.val < p.1.off 1 + p.1.size 1) (r : Fin k) (q : Fin n) :
    View.canon L (ix2 r q) = G r q := by
  refine View.canon_apply_of_pieces (Val := Elt F) (e := e) (fun y => G (y 0) (y 1)) L ?_ (ix2 r q) ?_
  · intro p hp x
    obtain ⟨j, w, inb, v, rfl, h⟩ := hL p hp
    have hw : j + w ≤ n := inb 1
    have hj : j + (x 1).val < n := lt_of_lt_of_le (Nat.add_lt_add_left (x 1).isLt j) hw
    refine (congrArg v (eq_ix2 x)).trans ((h (x 0) (x 1) hj).trans ?_)
    exact (cols_apply inb (fun y => G (y 0) (y 1)) (x 0) (x 1) hj).symm.trans (congrArg (View.ld (fun y => G (y 0) (y 1)) (Rect.unit (s := ⟨2, ![k, n]⟩) ![0, j] ![k, w] inb)) (eq_ix2 x).symm)
  · obtain ⟨p, hp, h0, h1⟩ := hc q
    obtain ⟨j, w, inb, v, rfl, h⟩ := hL p hp
    refine ⟨_, hp, ?_⟩
    rw [Rect.mem_set_unit]
    intro a
    fin_cases a
    · exact ⟨Nat.zero_le _, by simp⟩
    · exact ⟨h0, h1⟩

/-- Two pieces that are the halves of `G`'s columns make `G`. -/
theorem halves_apply (inb0 inb1) (G : Fin k → Fin n → Elt F e) (l h : Vec F ⟨2, ![k, w]⟩ e) (hn : n = w + w)
    (hl : ∀ r q, l (ix2 r q) = G r ⟨q.val, by omega⟩) (hh : ∀ r q, h (ix2 r q) = G r ⟨w + q.val, by omega⟩) (r : Fin k) (q : Fin n) :
    View.canon (Val := Elt F) [⟨Rect.unit (s := ⟨2, ![k, n]⟩) ![0, w] ![k, w] inb1, h⟩, ⟨Rect.unit (s := ⟨2, ![k, n]⟩) ![0, 0] ![k, w] inb0, l⟩]
      (ix2 r q) = G r q := by
  refine pieces_apply G _ (fun p hp => ?_) (fun q => ?_) r q
  · simp only [List.mem_cons, List.not_mem_nil, or_false] at hp
    rcases hp with rfl | rfl
    · exact ⟨_, _, _, _, rfl, fun r q _ => hh r q⟩
    · exact ⟨_, _, _, _, rfl, fun r q _ => (hl r q).trans (congrArg (G r) (Fin.ext (Nat.zero_add _).symm))⟩
  · by_cases h : q.val < w
    · exact ⟨_, List.mem_cons_of_mem _ (List.mem_cons_self ..), Nat.zero_le _, lt_of_lt_of_eq h (Nat.zero_add w).symm⟩
    · exact ⟨_, List.mem_cons_self .., Nat.not_lt.mp h, lt_of_lt_of_eq q.isLt hn⟩

end

/-! ## Blocks of 512 tokens -/

/-- The index type of an array of `k` rows and `n` columns. -/
abbrev Ix (k n : ℕ) : Type := (⟨2, ![k, n]⟩ : Shape).Idx

/-- Token `s` of point `t`'s block. -/
abbrev tok (t : ℕ) (s : Fin 512) : Fin 8192 := ⟨t % 16 * 512 + s.val, by have := s.isLt; omega⟩

/-- An index at row `s` of point `t`'s block. -/
theorem place {n : ℕ} (j : Ix 8192 n) (t i0 : ℕ) (s : Fin 512) (q : Fin n) (h0 : (j 0).val = i0 * 512 + s.val) (e0 : i0 = t % 16)
    (h1 : (j 1).val = q.val) : j = ix2 (tok t s) q := by
  subst e0
  exact (eq_ix2 j).trans (congrArg₂ ix2 (Fin.ext h0) (Fin.ext h1))

/-- Block indices that take point `t` to row block `t % 16`, all columns. -/
abbrev Steps {N : ℕ} (b : Fin N → Fin 2 → ℕ) : Prop := ∀ t, b t 0 = t.val % 16 ∧ b t 1 = 0

/-- Blocks at such indices, read: row `s` of point `t`'s block is its token's. -/
theorem rows {N n : ℕ} {A : Ix 8192 n → EReal} {x : Fin N → Ix 512 n → EReal} {emb : Fin N → Ix 512 n → Ix 8192 n} {b : Fin N → Fin 2 → ℕ}
    (hb : Steps b) (hx : ∀ t i, x t i = A (emb t i)) (h0 : ∀ t i, (emb t i 0).val = b t 0 * 512 + (i 0).val)
    (h1 : ∀ t i, (emb t i 1).val = b t 1 * n + (i 1).val) (t : Fin N) (s : Fin 512) (p : Fin n) : x t (ix2 s p) = A (ix2 (tok t.val s) p) :=
  (hx t _).trans (congrArg A (place _ t.val _ s p (h0 t _) (hb t).1
    ((h1 t _).trans (by rw [(hb t).2, Nat.zero_mul, Nat.zero_add]; rfl))))

/-- Arrays that agree at every row and column are equal. -/
theorem ext2 {k n : ℕ} {f g : Ix k n → EReal} (h : ∀ p q, f (ix2 p q) = g (ix2 p q)) : f = g := by
  funext i
  rw [eq_ix2 i]
  exact h _ _

/-- An index into the block that is all of a row vector. -/
theorem row_eq {n : ℕ} (j : Ix 1 n) (k : Fin n) (h : (j 1).val = 0 * n + k.val) : j = ix2 0 k :=
  (eq_ix2 j).trans (congrArg₂ ix2 (Subsingleton.elim (α := Fin 1) _ _) (Fin.ext (h.trans ((congrArg (· + k.val) (Nat.zero_mul n)).trans (Nat.zero_add _)))))

/-- An index into the block that is all of an array. -/
theorem all_eq {k n : ℕ} (j : Ix k n) (p : Fin k) (q : Fin n) (h0 : (j 0).val = 0 * k + p.val) (h1 : (j 1).val = 0 * n + q.val) : j = ix2 p q :=
  (eq_ix2 j).trans (congrArg₂ ix2 (Fin.ext (h0.trans ((congrArg (· + p.val) (Nat.zero_mul k)).trans (Nat.zero_add _))))
    (Fin.ext (h1.trans ((congrArg (· + q.val) (Nat.zero_mul n)).trans (Nat.zero_add _)))))

/-- Every row is a token of some point's block. -/
theorem exists_tok (n : Fin 8192) : ∃ (t : Fin 16) (s : Fin 512), n = tok t.val s :=
  ⟨⟨n.val / 512, by omega⟩, ⟨n.val % 512, by omega⟩, Fin.ext (by show n.val = n.val / 512 % 16 * 512 + n.val % 512; omega)⟩

/-- An array whose blocks, at such indices, hold `G`'s rows is `G`. -/
theorem eq_of_rows {n : ℕ} {α : Type} {A G : Ix 8192 n → α} {emb : Fin 16 → Ix 512 n → Ix 8192 n} {b : Fin 16 → Fin 2 → ℕ}
    (hb : Steps b) (h0 : ∀ t i, (emb t i 0).val = b t 0 * 512 + (i 0).val) (h1 : ∀ t i, (emb t i 1).val = b t 1 * n + (i 1).val)
    (h : ∀ t s q, A (emb t (ix2 s q)) = G (ix2 (tok t.val s) q)) : A = G := by
  have H : ∀ p q, A (ix2 p q) = G (ix2 p q) := fun p q => by
    obtain ⟨t, s, rfl⟩ := exists_tok p
    refine Eq.trans (congrArg A ?_) (h t s q)
    exact (place _ t.val _ s q (h0 t _) (hb t).1 ((h1 t _).trans (by rw [(hb t).2, Nat.zero_mul, Nat.zero_add]; rfl))).symm
  funext j
  rw [eq_ix2 j]
  exact H _ _

end Cert.Layer

end
-- ==== Proof.FfnBody.lean ====
/- What one grid point of the layer's backward leaves, as functions of the point's blocks of rows and of the three weights:
   the same functions at the first point, which copies the weights in, and at the later ones, which find them there. -/
module

public import proofs.«01_k».proof.Proof.Gen.FfnBwdIdeal.Value
public import proofs.«01_k».proof.Proof.Layer

@[expose] public section

noncomputable section

open Idealize.ShloMosaic Idealize.ShloMosaic.TcCoe Idealize.ShloMosaic.Tactic Idealize.SL.Sem

namespace Cert.FfnBody

open Cert.FfnBwdIdeal Cert.FfnBwdIdeal.Gen Cert.Layer

variable {F : FTy → Type} [FloatOps F]

/-- The two halves of a block's 2816 columns, of a weight's columns, and of a weight's rows. -/
abbrev lo (x : Vec F S256x2816 .bf16) : Vec F S256x1408 .bf16 := View.ld x (Rect.unit (s := S256x2816) ![0, 0] S256x1408.size inb_S256x2816_S256x1408_0_0)
abbrev hi (x : Vec F S256x2816 .bf16) : Vec F S256x1408 .bf16 := View.ld x (Rect.unit (s := S256x2816) ![0, 1408] S256x1408.size inb_S256x2816_S256x1408_0_1408)
abbrev wLo (w : Vec F S1024x2816 .bf16) : Vec F S1024x1408 .bf16 := View.ld w (Rect.unit (s := S1024x2816) ![0, 0] S1024x1408.size inb_S1024x2816_S1024x1408_0_0)
abbrev wHi (w : Vec F S1024x2816 .bf16) : Vec F S1024x1408 .bf16 := View.ld w (Rect.unit (s := S1024x2816) ![0, 1408] S1024x1408.size inb_S1024x2816_S1024x1408_0_1408)
abbrev dLo (w : Vec F S2816x1024 .bf16) : Vec F S1408x1024 .bf16 := View.ld w (Rect.unit (s := S2816x1024) ![0, 0] S1408x1024.size inb_S2816x1024_S1408x1024_0_0)
abbrev dHi (w : Vec F S2816x1024 .bf16) : Vec F S1408x1024 .bf16 := View.ld w (Rect.unit (s := S2816x1024) ![1408, 0] S1408x1024.size inb_S2816x1024_S1408x1024_1408_0)

/-- Two halves of the columns, stored one after the other. -/
abbrev halves (l h : Vec F S256x1408 .bf16) : Vec F S256x2816 .bf16 :=
  View.canon [⟨Rect.unit (s := S256x2816) ![0, 1408] S256x1408.size inb_S256x2816_S256x1408_0_1408, h⟩,
    ⟨Rect.unit (s := S256x2816) ![0, 0] S256x1408.size inb_S256x2816_S256x1408_0_0, l⟩]

section

variable (x0 x1 : Vec F S256x1024 .f32) (x2 : Vec F S1x1024 .f32) (x3 x4 : Vec F S256x2816 .bf16) (wg wu : Vec F S1024x2816 .bf16)
  (wd : Vec F S2816x1024 .bf16)

abbrev dgLo := k0_pay10 x0 (dLo wd) (lo x3) (lo x4)
abbrev dgHi := k0_pay19 (k0_pay3 x0) (dHi wd) (hi x3) (hi x4)
abbrev duLo := k0_pay11 x0 (dLo wd) (lo x3)
abbrev duHi := k0_pay20 (k0_pay3 x0) (dHi wd) (hi x3)
abbrev aLo := k0_pay12 (k0_pay7 (lo x4)) (k0_pay9 (lo x3))
abbrev aHi := k0_pay21 (k0_pay16 (hi x4)) (k0_pay18 (hi x3))

/-- The gradient of the normalized input after the first half of the columns. -/
abbrev dn0 := k0_pay13 k0_pay4 (dgLo x0 x3 x4 wd) (duLo x0 x3 wd) (wLo wg) (wLo wu)

/-- The gradients of the input (`bDh`), of the gate (`bDg`) and of the up branch (`bDu`), the activations (`bA`), the rounded
    half of the incoming gradient (`bDf`) and the gain's gradient summed onto `acc` (`bGain`). -/
def bDh : Vec F S256x1024 .f32 := k0_pay1 x0 (k0_pay23 x1) (k0_pay24 x1)
  (k0_pay26 (dn0 x0 x3 x4 wg wu wd) (dgHi x0 x3 x4 wd) (duHi x0 x3 wd) (wHi wg) (wHi wu) x2)
def bDg : Vec F S256x2816 .bf16 := halves (dgLo x0 x3 x4 wd) (dgHi x0 x3 x4 wd)
def bDu : Vec F S256x2816 .bf16 := halves (duLo x0 x3 wd) (duHi x0 x3 wd)
def bA : Vec F S256x2816 .bf16 := halves (aLo x3 x4) (aHi x3 x4)
def bDf : Vec F S256x1024 .bf16 := k0_pay3 x0
def bGain (acc : Vec F S1x1024 .f32) : Vec F S1x1024 .f32 :=
  k0_pay25 (dn0 x0 x3 x4 wg wu wd) (dgHi x0 x3 x4 wd) (duHi x0 x3 wd) (wHi wg) (wHi wu) x1 acc

end

variable (c : Dev nD) (i : grid0.Coords)
variable
    (arg1 : Memref sig .tc .vmem S256x1024 .f32) (harg1 : arg1.IsWhole) (arg2 : Memref sig .tc .vmem S256x1024 .f32) (harg2 : arg2.IsWhole)
  (arg3 : Memref sig .tc .vmem S1x1024 .f32) (harg3 : arg3.IsWhole) (arg4 : Memref sig .tc .vmem S256x2816 .bf16) (harg4 : arg4.IsWhole)
  (arg5 : Memref sig .tc .vmem S256x2816 .bf16) (harg5 : arg5.IsWhole) (arg9 : Memref sig .tc .vmem S256x1024 .f32) (harg9 : arg9.IsWhole)
  (arg10 : Memref sig .tc .vmem S256x2816 .bf16) (harg10 : arg10.IsWhole) (arg11 : Memref sig .tc .vmem S256x2816 .bf16) (harg11 : arg11.IsWhole)
  (arg12 : Memref sig .tc .vmem S256x2816 .bf16) (harg12 : arg12.IsWhole) (arg13 : Memref sig .tc .vmem S256x1024 .bf16) (harg13 : arg13.IsWhole)
  (arg14 : Memref sig .tc .vmem S1x1024 .f32) (harg14 : arg14.IsWhole) (arg15 : Memref sig .tc .vmem S1024x2816 .bf16) (harg15 : arg15.IsWhole)
  (arg16 : Memref sig .tc .vmem S1024x2816 .bf16) (harg16 : arg16.IsWhole) (arg17 : Memref sig .tc .vmem S2816x1024 .bf16) (harg17 : arg17.IsWhole)
  (x0 x1 : Vec F S256x1024 .f32) (x2 : Vec F S1x1024 .f32) (x3 x4 : Vec F S256x2816 .bf16)
  (xo : Vec F S1x1024 .f32) (xs0 xs1 : Vec F S1024x2816 .bf16) (xs2 : Vec F S2816x1024 .bf16)
  (fh0 : HbBuf0 (F := F) c hbM0_0) (fh1 : HbBuf0 (F := F) c hbM0_1) (fh2 : HbBuf0 (F := F) c hbM0_2)

/-- At the first point: the weights are what the copies brought, and the gain starts from zeros. -/
theorem out_A (hc : cond0_0 i) :
    out0_A_5 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = bDh x0 x1 x2 x3 x4 fh0 fh1 fh2
    ∧ out0_A_6 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = bDg x0 x3 x4 fh2
    ∧ out0_A_7 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = bDu x0 x3 fh2
    ∧ out0_A_8 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = bA x3 x4
    ∧ out0_A_9 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = bDf x0
    ∧ out0_A_10 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = bGain x0 x1 x3 x4 fh0 fh1 fh2 k0_pay2
    ∧ sout0_A_0 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = fh0
    ∧ sout0_A_1 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = fh1
    ∧ sout0_A_2 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 fh0 fh1 fh2
      = fh2 := by
  unfold out0_A_5 out0_A_6 out0_A_7 out0_A_8 out0_A_9 out0_A_10 sout0_A_0 sout0_A_1 sout0_A_2
  simp only [View.read_writes_junk_eq_canon]
  unfold kernelRun0_A
  dsimp only
  sl_unfold_run_names
  simp only [readAt_whole, readCov_of_whole, canon_whole, ld_all, canon_all, readCov_all]
  dsimp only [bDh, bDg, bDu, bA, bDf, bGain, halves, dn0, dgLo, dgHi, duLo, duHi, aLo, aHi, lo, hi, wLo, wHi, dLo, dHi]
  simp only [ReadAs.same, ReadAs.apply, View.read_whole, and_self]

/-- At a later point: the weights are what the scratch holds, and the gain goes on from what the point before left. -/
theorem out_B (hc : ¬cond0_0 i) :
    out0_B_5 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 xo xs0 xs1 xs2 fh0 fh1 fh2
      = bDh x0 x1 x2 x3 x4 xs0 xs1 xs2
    ∧ out0_B_6 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 xo xs0 xs1 xs2 fh0 fh1 fh2
      = bDg x0 x3 x4 xs2
    ∧ out0_B_7 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 xo xs0 xs1 xs2 fh0 fh1 fh2
      = bDu x0 x3 xs2
    ∧ out0_B_8 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 xo xs0 xs1 xs2 fh0 fh1 fh2
      = bA x3 x4
    ∧ out0_B_9 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 xo xs0 xs1 xs2 fh0 fh1 fh2
      = bDf x0
    ∧ out0_B_10 c i arg1 harg1 arg2 harg2 arg3 harg3 arg4 harg4 arg5 harg5 arg9 harg9 arg10 harg10 arg11 harg11 arg12 harg12 arg13 harg13 arg14 harg14 arg15 harg15 arg16 harg16 arg17 harg17 hc x0 x1 x2 x3 x4 xo xs0 xs1 xs2 fh0 fh1 fh2
      = bGain x0 x1 x3 x4 xs0 xs1 xs2 xo := by
  unfold out0_B_5 out0_B_6 out0_B_7 out0_B_8 out0_B_9 out0_B_10
  simp only [View.read_writes_junk_eq_canon]
  unfold kernelRun0_B
  dsimp only
  sl_unfold_run_names
  simp only [readAt_whole, readCov_of_whole, canon_whole, ld_all, canon_all, readCov_all]
  dsimp only [bDh, bDg, bDu, bA, bDf, bGain, halves, dn0, dgLo, dgHi, duLo, duHi, aLo, aHi, lo, hi, wLo, wHi, dLo, dHi]
  simp only [and_self]

end Cert.FfnBody

end
-- ==== Proof.FfnRow.lean ====
/- The layer's backward over the extended reals, one row (one token) at a time: what the reference computes at a row of its
   arrays, and what a grid point computes at a row of its blocks, whose sums over the 2816 hidden columns go half by half. -/
module

public import proofs.«01_k».proof.Proof.FfnBody
public import proofs.«01_k».proof.Proof.Gen.FfnBwdReferenceIdeal.Run
public import Idealize.ShloMosaic.Lib.Pointwise

@[expose] public section

set_option maxRecDepth 16384

noncomputable section

open Idealize.ShloMosaic Idealize.ShloMosaic.TcCoe Idealize.SL.Sem

namespace Cert.FfnRow

/-! ## A row -/

section

/-- One half, the number of columns and the norm's epsilon, as the programs write them. -/
abbrev half : EReal := Ideal.ofBits .f32 0x3F000000#32
abbrev width : EReal := Ideal.ofBits .f32 0x44800000#32
abbrev eps : EReal := Ideal.ofBits .f32 0x358637BD#32

/- A token's incoming gradient, its input and the norm's gain; the kept gate and up values; the three weights. -/
variable (d h gn : Fin 1024 → EReal) (g u : Fin 2816 → EReal) (wg wu : Fin 1024 → Fin 2816 → EReal) (wd : Fin 2816 → Fin 1024 → EReal)

/-- The gradient of the activations; the gate's sigmoid; the gradients of the gate and of the up branch; the activations. -/
def da (q : Fin 2816) : EReal := ∑ k, half * d k * wd q k
def sg (q : Fin 2816) : EReal := Ideal.div 1 (1 + Ideal.exp (-g q))
def dg (q : Fin 2816) : EReal := da d wd q * u q * (sg g q * (1 + g q * (1 - sg g q)))
def du (q : Fin 2816) : EReal := da d wd q * (g q * sg g q)
def act (q : Fin 2816) : EReal := g q * sg g q * u q

/-- The gradient of the normalized input; the norm's factor; the normalized input; the gradient of the input; the token's
    part of the gain's gradient. -/
def dn (k : Fin 1024) : EReal := ∑ q, dg d g u wd q * wg k q + ∑ q, du d g wd q * wu k q
def rs : EReal := Ideal.rsqrt (Ideal.div (∑ k, h k * h k) width + eps)
def hn (k : Fin 1024) : EReal := h k * rs h
def dh (k : Fin 1024) : EReal :=
  d k + rs h * (dn d g u wg wu wd k * gn k - hn h k * Ideal.div (∑ j, dn d g u wg wu wd j * gn j * hn h j) width)
def gain (k : Fin 1024) : EReal := dn d g u wg wu wd k * hn h k

end

/-! ## The reference -/

section

open Cert.FfnBwdReferenceIdeal Cert.FfnBwdReferenceIdeal.Gen

section

variable {F : FTy → Type} [FloatOps F]
variable (A0 A1 : Vec F S8192x1024 .f32) (A2 : Vec F S1x1024 .f32) (A3 A4 : Vec F S8192x2816 .bf16) (A5 A6 : Vec F S1024x2816 .bf16)
  (A7 : Vec F S2816x1024 .bf16)

def rDf : Vec F S8192x1024 .f32 := mulf (broadcastInDim S8192x1024 ![] bcast_S_S8192x1024 (constant S_ .f32 0x3F000000#32)) A0
def rDa : Vec F S8192x2816 .f32 := Host.dotGeneral dot_S8192x1024_S1024x2816_S8192x2816_1_0_0_1_n_n none (rDf A0)
  (transpose S1024x2816 [1, 0] (extf .f32 A7 bitsLt_bf16_f32) transposes_S2816x1024_S1024x2816_1_0)
def rOne : Vec F S8192x2816 .f32 := broadcastInDim S8192x2816 ![] bcast_S_S8192x2816 (constant S_ .f32 0x3F800000#32)
def rSg : Vec F S8192x2816 .f32 := Host.divf rOne (addf rOne (Host.exp (Host.negf (extf .f32 A3 bitsLt_bf16_f32))))
def rDg : Vec F S8192x2816 .f32 := mulf (mulf (rDa A0 A7) (extf .f32 A4 bitsLt_bf16_f32))
  (mulf (rSg A3) (addf rOne (mulf (extf .f32 A3 bitsLt_bf16_f32) (subf rOne (rSg A3)))))
def rDu : Vec F S8192x2816 .f32 := mulf (rDa A0 A7) (mulf (extf .f32 A3 bitsLt_bf16_f32) (rSg A3))
def rA : Vec F S8192x2816 .f32 := mulf (mulf (extf .f32 A3 bitsLt_bf16_f32) (rSg A3)) (extf .f32 A4 bitsLt_bf16_f32)
def rDn : Vec F S8192x1024 .f32 := addf
  (Host.dotGeneral dot_S8192x2816_S2816x1024_S8192x1024_1_0_0_1_n_n none (rDg A0 A3 A4 A7)
    (transpose S2816x1024 [1, 0] (extf .f32 A5 bitsLt_bf16_f32) transposes_S1024x2816_S2816x1024_1_0))
  (Host.dotGeneral dot_S8192x2816_S2816x1024_S8192x1024_1_0_0_1_n_n none (rDu A0 A3 A7)
    (transpose S2816x1024 [1, 0] (extf .f32 A6 bitsLt_bf16_f32) transposes_S1024x2816_S2816x1024_1_0))
def rMean (X : Vec F S8192x1024 .f32) : Vec F S8192x1 .f32 := Host.divf
  (broadcastInDim S8192x1 ![0] bcast_S8192_S8192x1_0 (Host.reduceAdd X (constant S_ .f32 0x00000000#32) reducesTo_S8192x1024_S8192_d1 h_S_))
  (broadcastInDim S8192x1 ![] bcast_S_S8192x1 (constant S_ .f32 0x44800000#32))
def rRs : Vec F S8192x1024 .f32 := broadcastInDim S8192x1024 ![0, 1] bcast_S8192x1_S8192x1024_0_1
  (Host.rsqrt (addf (rMean (mulf A1 A1)) (broadcastInDim S8192x1 ![] bcast_S_S8192x1 (constant S_ .f32 0x358637BD#32))))
def rHn : Vec F S8192x1024 .f32 := mulf A1 (rRs A1)
def rDng : Vec F S8192x1024 .f32 := mulf (rDn A0 A3 A4 A5 A6 A7) (broadcastInDim S8192x1024 ![0, 1] bcast_S1x1024_S8192x1024_0_1 A2)
def rDh : Vec F S8192x1024 .f32 := addf A0 (mulf (rRs A1) (subf (rDng A0 A2 A3 A4 A5 A6 A7)
  (mulf (rHn A1) (broadcastInDim S8192x1024 ![0, 1] bcast_S8192x1_S8192x1024_0_1 (rMean (mulf (rDng A0 A2 A3 A4 A5 A6 A7) (rHn A1)))))))
def rGain : Vec F S1x1024 .f32 := broadcastInDim S1x1024 ![1] bcast_S1024_S1x1024_1
  (Host.reduceAdd (mulf (rDn A0 A3 A4 A5 A6 A7) (rHn A1)) (constant S_ .f32 0x00000000#32) reducesTo_S8192x1024_S1024_d0 h_S_)

end

variable (A0 A1 : Vec Ideal S8192x1024 .f32) (A2 : Vec Ideal S1x1024 .f32) (A3 A4 : Vec Ideal S8192x2816 .bf16)
  (A5 A6 : Vec Ideal S1024x2816 .bf16) (A7 : Vec Ideal S2816x1024 .bf16) (n : Fin 8192)

theorem rDf_apply (k : Fin 1024) : rDf A0 (ix2 n k) = half * A0 (ix2 n k) := by
  pointwise [rDf]

theorem rDa_apply (q : Fin 2816) : rDa A0 A7 (ix2 n q) = da (fun k => A0 (ix2 n k)) (fun q k => A7 (ix2 q k)) q := by
  pointwise [rDa, rDf_apply, da]

theorem rSg_apply (q : Fin 2816) : rSg A3 (ix2 n q) = sg (fun q => A3 (ix2 n q)) q := by
  pointwise [rSg, rOne, sg]

theorem rDg_apply (q : Fin 2816) : rDg A0 A3 A4 A7 (ix2 n q)
    = dg (fun k => A0 (ix2 n k)) (fun q => A3 (ix2 n q)) (fun q => A4 (ix2 n q)) (fun q k => A7 (ix2 q k)) q := by
  pointwise [rDg, rOne, rDa_apply, rSg_apply, dg]

theorem rDu_apply (q : Fin 2816) : rDu A0 A3 A7 (ix2 n q)
    = du (fun k => A0 (ix2 n k)) (fun q => A3 (ix2 n q)) (fun q k => A7 (ix2 q k)) q := by
  pointwise [rDu, rDa_apply, rSg_apply, du]

theorem rA_apply (q : Fin 2816) : rA A3 A4 (ix2 n q) = act (fun q => A3 (ix2 n q)) (fun q => A4 (ix2 n q)) q := by
  pointwise [rA, rSg_apply, act]

theorem rDn_apply (k : Fin 1024) : rDn A0 A3 A4 A5 A6 A7 (ix2 n k)
    = dn (fun k => A0 (ix2 n k)) (fun q => A3 (ix2 n q)) (fun q => A4 (ix2 n q)) (fun k q => A5 (ix2 k q)) (fun k q => A6 (ix2 k q))
      (fun q k => A7 (ix2 q k)) k := by
  pointwise [rDn, rDg_apply, rDu_apply, dn]

theorem rRs_apply (k : Fin 1024) : rRs A1 (ix2 n k) = rs (fun k => A1 (ix2 n k)) := by
  pointwise [rRs, rMean, rs]

theorem rHn_apply (k : Fin 1024) : rHn A1 (ix2 n k) = hn (fun k => A1 (ix2 n k)) k := by
  pointwise [rHn, rRs_apply, hn]

theorem rDh_apply (k : Fin 1024) : rDh A0 A1 A2 A3 A4 A5 A6 A7 (ix2 n k)
    = dh (fun k => A0 (ix2 n k)) (fun k => A1 (ix2 n k)) (fun k => A2 (ix2 0 k)) (fun q => A3 (ix2 n q)) (fun q => A4 (ix2 n q))
      (fun k q => A5 (ix2 k q)) (fun k q => A6 (ix2 k q)) (fun q k => A7 (ix2 q k)) k := by
  pointwise [rDh, rDng, rMean, rRs_apply, rHn_apply, rDn_apply, dh]

theorem rGain_apply (k : Fin 1024) : rGain A0 A1 A3 A4 A5 A6 A7 (ix2 0 k)
    = ∑ n : Fin 8192, gain (fun k => A0 (ix2 n k)) (fun k => A1 (ix2 n k)) (fun q => A3 (ix2 n q)) (fun q => A4 (ix2 n q))
      (fun k q => A5 (ix2 k q)) (fun k q => A6 (ix2 k q)) (fun q k => A7 (ix2 q k)) k := by
  pointwise [rGain, rHn_apply, rDn_apply, gain]

end

end Cert.FfnRow

end
-- ==== Proof.FfnBlock.lean ====
/- What a grid point computes over the extended reals, a row at a time: the sums over the 2816 hidden columns go half by half. -/
module

public import proofs.«01_k».proof.Proof.FfnRow

@[expose] public section

set_option maxRecDepth 16384

noncomputable section

open Idealize.ShloMosaic Idealize.ShloMosaic.TcCoe Idealize.SL.Sem

namespace Cert.FfnRow

open Cert.FfnBwdIdeal Cert.FfnBwdIdeal.Gen Cert.FfnBody Cert.Layer

/-- A column of the first half, and of the second. -/
abbrev colLo (q : Fin 1408) : Fin 2816 := ⟨q.val, by have := q.isLt; omega⟩
abbrev colHi (q : Fin 1408) : Fin 2816 := ⟨1408 + q.val, by have := q.isLt; omega⟩

section

variable (x : Vec Ideal S256x2816 .bf16) (w : Vec Ideal S1024x2816 .bf16) (v : Vec Ideal S2816x1024 .bf16) (r : Fin 256) (k : Fin 1024) (q : Fin 1408)

theorem lo_apply : lo x (ix2 r q) = x (ix2 r (colLo q)) := congrArg x (by idx_ext)
theorem hi_apply : hi x (ix2 r q) = x (ix2 r (colHi q)) := congrArg x (by idx_ext)
theorem wLo_apply : wLo w (ix2 k q) = w (ix2 k (colLo q)) := congrArg w (by idx_ext)
theorem wHi_apply : wHi w (ix2 k q) = w (ix2 k (colHi q)) := congrArg w (by idx_ext)
theorem dLo_apply : dLo v (ix2 q k) = v (ix2 (colLo q) k) := congrArg v (by idx_ext)
theorem dHi_apply : dHi v (ix2 q k) = v (ix2 (colHi q) k) := congrArg v (by idx_ext)

end

/-! ### A half, whichever: its columns are `col` of the whole's -/

section

variable (x0 : Vec Ideal S256x1024 .f32) (w : Vec Ideal S1408x1024 .bf16) (g u : Vec Ideal S256x1408 .bf16)
  (G U : Fin 2816 → EReal) (W : Fin 2816 → Fin 1024 → EReal) (col : Fin 1408 → Fin 2816) (r : Fin 256)
  (hw : ∀ q k, w (ix2 q k) = W (col q) k) (hg : ∀ q, g (ix2 r q) = G (col q)) (hu : ∀ q, u (ix2 r q) = U (col q)) (q : Fin 1408)

include hw hg hu in
theorem dg_half : k0_pay10 x0 w g u (ix2 r q) = dg (fun k => x0 (ix2 r k)) G U W (col q) := by
  pointwise [k0_pay10, k0_pay5, k0_pay3, k0_pay6, k0_pay7, k0_pay8, k0_pay9, dg, da, sg, zero_sub, hw, hg, hu]

include hw hg in
theorem du_half : k0_pay11 x0 w g (ix2 r q) = du (fun k => x0 (ix2 r k)) G W (col q) := by
  pointwise [k0_pay11, k0_pay5, k0_pay3, k0_pay6, k0_pay8, k0_pay9, du, da, sg, zero_sub, hw, hg]

include hg hu in
theorem act_half : k0_pay12 (k0_pay7 u) (k0_pay9 g) (ix2 r q) = act G U (col q) := by
  pointwise [k0_pay12, k0_pay6, k0_pay7, k0_pay8, k0_pay9, act, sg, zero_sub, hg, hu]

end

variable (x0 x1 : Vec Ideal S256x1024 .f32) (x2 : Vec Ideal S1x1024 .f32) (x3 x4 : Vec Ideal S256x2816 .bf16)
  (wg wu : Vec Ideal S1024x2816 .bf16) (wd : Vec Ideal S2816x1024 .bf16) (r : Fin 256)

theorem dgLo_apply (q : Fin 1408) : dgLo x0 x3 x4 wd (ix2 r q)
    = dg (fun k => x0 (ix2 r k)) (fun q => x3 (ix2 r q)) (fun q => x4 (ix2 r q)) (fun q k => wd (ix2 q k)) (colLo q) :=
  dg_half _ _ _ _ _ _ _ colLo r (fun q k => dLo_apply wd k q) (fun q => lo_apply x3 r q) (fun q => lo_apply x4 r q) q

theorem dgHi_apply (q : Fin 1408) : dgHi x0 x3 x4 wd (ix2 r q)
    = dg (fun k => x0 (ix2 r k)) (fun q => x3 (ix2 r q)) (fun q => x4 (ix2 r q)) (fun q k => wd (ix2 q k)) (colHi q) :=
  dg_half _ _ _ _ _ _ _ colHi r (fun q k => dHi_apply wd k q) (fun q => hi_apply x3 r q) (fun q => hi_apply x4 r q) q

theorem duLo_apply (q : Fin 1408) : duLo x0 x3 wd (ix2 r q)
    = du (fun k => x0 (ix2 r k)) (fun q => x3 (ix2 r q)) (fun q k => wd (ix2 q k)) (colLo q) :=
  du_half _ _ _ _ _ colLo r (fun q k => dLo_apply wd k q) (fun q => lo_apply x3 r q) q

theorem duHi_apply (q : Fin 1408) : duHi x0 x3 wd (ix2 r q)
    = du (fun k => x0 (ix2 r k)) (fun q => x3 (ix2 r q)) (fun q k => wd (ix2 q k)) (colHi q) :=
  du_half _ _ _ _ _ colHi r (fun q k => dHi_apply wd k q) (fun q => hi_apply x3 r q) q

theorem aLo_apply (q : Fin 1408) : aLo x3 x4 (ix2 r q) = act (fun q => x3 (ix2 r q)) (fun q => x4 (ix2 r q)) (colLo q) :=
  act_half _ _ _ _ colLo r (fun q => lo_apply x3 r q) (fun q => lo_apply x4 r q) q

theorem aHi_apply (q : Fin 1408) : aHi x3 x4 (ix2 r q) = act (fun q => x3 (ix2 r q)) (fun q => x4 (ix2 r q)) (colHi q) :=
  act_half _ _ _ _ colHi r (fun q => hi_apply x3 r q) (fun q => hi_apply x4 r q) q

/-- The gradient of the normalized input, one half of the columns onto the other. -/
theorem dn_halves (g0 u0 g1 u1 : Vec Ideal S256x1408 .bf16) (w0 v0 w1 v1 : Vec Ideal S1024x1408 .bf16)
    (DG DU : Fin 2816 → EReal) (W V : Fin 1024 → Fin 2816 → EReal)
    (hg0 : ∀ q, g0 (ix2 r q) = DG (colLo q)) (hg1 : ∀ q, g1 (ix2 r q) = DG (colHi q))
    (hu0 : ∀ q, u0 (ix2 r q) = DU (colLo q)) (hu1 : ∀ q, u1 (ix2 r q) = DU (colHi q))
    (hw0 : ∀ k q, w0 (ix2 k q) = W k (colLo q)) (hw1 : ∀ k q, w1 (ix2 k q) = W k (colHi q))
    (hv0 : ∀ k q, v0 (ix2 k q) = V k (colLo q)) (hv1 : ∀ k q, v1 (ix2 k q) = V k (colHi q)) (k : Fin 1024) :
    k0_pay22 (k0_pay13 k0_pay4 g0 u0 w0 v0) g1 u1 w1 v1 (ix2 r k) = ∑ q, DG q * W k q + ∑ q, DU q * V k q := by
  rw [Fin.sum_univ_two_halves 1408 1408 rfl (fun q => DG q * _), Fin.sum_univ_two_halves 1408 1408 rfl (fun q => DU q * _)]
  pointwise [k0_pay22, k0_pay13, k0_pay4, hg0, hg1, hu0, hu1, hw0, hw1, hv0, hv1]
  exact (add_assoc _ _ _).trans (add_add_add_comm _ _ _ _)

theorem dn_apply (k : Fin 1024) :
    k0_pay22 (dn0 x0 x3 x4 wg wu wd) (dgHi x0 x3 x4 wd) (duHi x0 x3 wd) (wHi wg) (wHi wu) (ix2 r k)
    = dn (fun k => x0 (ix2 r k)) (fun q => x3 (ix2 r q)) (fun q => x4 (ix2 r q)) (fun k q => wg (ix2 k q)) (fun k q => wu (ix2 k q))
      (fun q k => wd (ix2 q k)) k := by
  unfold dn
  exact dn_halves r _ _ _ _ _ _ _ _ _ _ (fun k q => wg (ix2 k q)) (fun k q => wu (ix2 k q)) (fun q => dgLo_apply x0 x3 x4 wd r q) (fun q => dgHi_apply x0 x3 x4 wd r q)
    (fun q => duLo_apply x0 x3 wd r q) (fun q => duHi_apply x0 x3 wd r q) (fun k q => wLo_apply wg k q) (fun k q => wHi_apply wg k q)
    (fun k q => wLo_apply wu k q) (fun k q => wHi_apply wu k q) k

theorem bDf_apply (k : Fin 1024) : bDf x0 (ix2 r k) = half * x0 (ix2 r k) := by
  pointwise [bDf, k0_pay3]

theorem bDg_apply (q : Fin 2816) : bDg x0 x3 x4 wd (ix2 r q)
    = dg (fun k => x0 (ix2 r k)) (fun q => x3 (ix2 r q)) (fun q => x4 (ix2 r q)) (fun q k => wd (ix2 q k)) q := by
  unfold bDg
  exact halves_apply (F := Ideal) (e := .bf16) (k := 256) (n := 2816) _ _ (fun r q => dg (fun k => x0 (ix2 r k)) (fun q => x3 (ix2 r q)) (fun q => x4 (ix2 r q)) (fun q k => wd (ix2 q k)) q)
    _ _ rfl (fun r q => dgLo_apply x0 x3 x4 wd r q) (fun r q => dgHi_apply x0 x3 x4 wd r q) r q

theorem bDu_apply (q : Fin 2816) : bDu x0 x3 wd (ix2 r q)
    = du (fun k => x0 (ix2 r k)) (fun q => x3 (ix2 r q)) (fun q k => wd (ix2 q k)) q := by
  unfold bDu
  exact halves_apply (F := Ideal) (e := .bf16) (k := 256) (n := 2816) _ _ (fun r q => du (fun k => x0 (ix2 r k)) (fun q => x3 (ix2 r q)) (fun q k => wd (ix2 q k)) q)
    _ _ rfl (fun r q => duLo_apply x0 x3 wd r q) (fun r q => duHi_apply x0 x3 wd r q) r q

theorem bA_apply (q : Fin 2816) : bA x3 x4 (ix2 r q) = act (fun q => x3 (ix2 r q)) (fun q => x4 (ix2 r q)) q := by
  unfold bA
  exact halves_apply (F := Ideal) (e := .bf16) (k := 256) (n := 2816) _ _ (fun r q => act (fun q => x3 (ix2 r q)) (fun q => x4 (ix2 r q)) q)
    _ _ rfl (fun r q => aLo_apply x3 x4 r q) (fun r q => aHi_apply x3 x4 r q) r q

theorem bDh_apply (k : Fin 1024) : bDh x0 x1 x2 x3 x4 wg wu wd (ix2 r k)
    = dh (fun k => x0 (ix2 r k)) (fun k => x1 (ix2 r k)) (fun k => x2 (ix2 0 k)) (fun q => x3 (ix2 r q)) (fun q => x4 (ix2 r q))
      (fun k q => wg (ix2 k q)) (fun k q => wu (ix2 k q)) (fun q k => wd (ix2 q k)) k := by
  pointwise [bDh, k0_pay1, k0_pay23, k0_pay24, k0_pay26, dn_apply, dh, hn, rs]

theorem bGain_apply (acc : Vec Ideal S1x1024 .f32) (k : Fin 1024) : bGain x0 x1 x3 x4 wg wu wd acc (ix2 0 k)
    = acc (ix2 0 k) + ∑ r : Fin 256, gain (fun k => x0 (ix2 r k)) (fun k => x1 (ix2 r k)) (fun q => x3 (ix2 r q)) (fun q => x4 (ix2 r q))
      (fun k q => wg (ix2 k q)) (fun k q => wu (ix2 k q)) (fun q k => wd (ix2 q k)) k := by
  pointwise [bGain, k0_pay25, k0_pay23, k0_pay24, dn_apply, gain, hn, rs]

end Cert.FfnRow

end
-- ==== Proof.FfnRun.lean ====
/- The layer's backward, run: what each grid point leaves (`outs`), and from it the six output arrays. The five that are cut
   into blocks of 256 rows are, row by row, the row's own values; the gain's gradient is summed over the points, hence over
   all the rows. -/
module

public import proofs.«01_k».proof.Defs
public import proofs.«01_k».proof.Proof.FfnBlock
public import proofs.«01_k».proof.Proof.Gen.FfnBwd.Frame

@[expose] public section

noncomputable section

open Idealize.ShloMosaic Idealize.ShloMosaic.TcCoe Idealize.SL.Sem
open Idealize.ShloMosaic.Pipeline (Dat Window)

namespace Cert.FfnRun

open Cert.FfnBwdIdeal Cert.FfnBwdIdeal.Gen Cert.FfnBody

/-! ## What a point leaves -/

section

variable {F : FTy → Type} [FloatOps F]
variable (m : (ℓ : Loc nD τ sig) → Buf (Elt F) ℓ)

/-- The gain's gradient after point `n`. -/
def acc (c : Dev nD) : (n : ℕ) → n < cfg0.N → Vec F S1x1024 .f32
  | 0, h => bGain (iblk m c 0 ⟨0, h⟩) (iblk m c 1 ⟨0, h⟩) (iblk m c 3 ⟨0, h⟩) (iblk m c 4 ⟨0, h⟩) (V m c main_arg5) (V m c main_arg6) (V m c main_arg7)
      k0_pay2
  | n + 1, h => bGain (iblk m c 0 ⟨n + 1, h⟩) (iblk m c 1 ⟨n + 1, h⟩) (iblk m c 3 ⟨n + 1, h⟩) (iblk m c 4 ⟨n + 1, h⟩) (V m c main_arg5) (V m c main_arg6)
      (V m c main_arg7) (acc c n (Nat.lt_of_succ_lt h))

/-- The six outputs at a point, from its blocks and the whole weights, and the weights themselves in the scratch buffers. -/
theorem outs (c : Dev nD) (n : ℕ) (h : n < cfg0.N) : outsAt0 m c n h =
    (bDh (iblk m c 0 ⟨n, h⟩) (iblk m c 1 ⟨n, h⟩) (iblk m c 2 ⟨n, h⟩) (iblk m c 3 ⟨n, h⟩) (iblk m c 4 ⟨n, h⟩) (V m c main_arg5) (V m c main_arg6) (V m c main_arg7),
      bDg (iblk m c 0 ⟨n, h⟩) (iblk m c 3 ⟨n, h⟩) (iblk m c 4 ⟨n, h⟩) (V m c main_arg7),
      bDu (iblk m c 0 ⟨n, h⟩) (iblk m c 3 ⟨n, h⟩) (V m c main_arg7),
      bA (iblk m c 3 ⟨n, h⟩) (iblk m c 4 ⟨n, h⟩),
      bDf (iblk m c 0 ⟨n, h⟩),
      acc m c n h, V m c main_arg5, V m c main_arg6, V m c main_arg7) := by
  have hN : cfg0.N = 32 := N_0
  induction n with
  | zero =>
    refine (outsAt0_A m c ⟨0, h⟩ rfl).trans ?_
    obtain ⟨h5, h6, h7, h8, h9, h10, s0, s1, s2⟩ := out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) scM0_0 (Memref.isWhole_whole _) scM0_1 (Memref.isWhole_whole _) scM0_2 (Memref.isWhole_whole _) (iblk m c 0 ⟨0, h⟩) (iblk m c 1 ⟨0, h⟩) (iblk m c 2 ⟨0, h⟩) (iblk m c 3 ⟨0, h⟩) (iblk m c 4 ⟨0, h⟩) (V m c main_arg5) (V m c main_arg6) (V m c main_arg7) ((hcond0_0 ⟨0, h⟩).mpr rfl)
    exact congr (congrArg Prod.mk h5) (congr (congrArg Prod.mk h6) (congr (congrArg Prod.mk h7) (congr (congrArg Prod.mk h8) (congr (congrArg Prod.mk h9)
      (congr (congrArg Prod.mk h10) (congr (congrArg Prod.mk s0) (congr (congrArg Prod.mk s1) s2)))))))
  | succ n ih =>
    have h0 : ¬(⟨n + 1, h⟩ : Fin cfg0.N).val % 32 = 0 := by dsimp only; omega
    refine (outsAt0_B m c ⟨n + 1, h⟩ h0).trans ?_
    have e : outsAt0 m c ((⟨n + 1, h⟩ : Fin cfg0.N).val - 1) (Nat.lt_of_le_of_lt (Nat.sub_le _ _) (⟨n + 1, h⟩ : Fin cfg0.N).isLt) = _ := ih (Nat.lt_of_succ_lt h)
    rw [e]
    dsimp only
    obtain ⟨h5, h6, h7, h8, h9, h10⟩ := out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (acc m c n (Nat.lt_of_succ_lt h)) (V m c main_arg5) (V m c main_arg6) (V m c main_arg7) (V m c main_arg5) (V m c main_arg6) (V m c main_arg7) (fun h' => h0 ((hcond0_0 ⟨n + 1, h⟩).mp h'))
    exact congr (congrArg Prod.mk h5) (congr (congrArg Prod.mk h6) (congr (congrArg Prod.mk h7) (congr (congrArg Prod.mk h8) (congr (congrArg Prod.mk h9)
      (congr (congrArg Prod.mk h10) rfl)))))

end

end Cert.FfnRun

end
-- ==== Proof.FfnArrays.lean ====
/- The layer's backward, its six output arrays: where a block's rows sit, what each array ends at, the sum over the points. -/
module

public import proofs.«01_k».proof.Proof.FfnRun

@[expose] public section

set_option maxRecDepth 16384

noncomputable section

open Idealize.ShloMosaic Idealize.ShloMosaic.TcCoe Idealize.SL.Sem
open Idealize.ShloMosaic.Pipeline (Dat Window)

namespace Cert.FfnRun

open Cert.FfnBwdIdeal Cert.FfnBwdIdeal.Gen Cert.FfnBody Cert.FfnRow

variable (m : (ℓ : Loc nD τ sig) → Buf (Elt Ideal) ℓ) (c : Dev nD)

/-! ## Where a block's rows sit -/

/-- Row `r` of the block at point `t`. -/
abbrev row (t : Fin cfg0.N) (r : Fin 256) : Fin 8192 := ⟨t.val * 256 + r.val, by have := t.isLt; have := r.isLt; have : cfg0.N = 32 := N_0; omega⟩

/-- The block index of every window that moves is the point, on the rows. -/
theorem index_row : ∀ t : Fin cfg0.N, cc0_transform_0 (grid0.coords t) 0 = t.val :=
  (by decide +kernel : ∀ t : Fin grid0.N, cc0_transform_0 (grid0.coords t) 0 = t.val)

/-- An index at row `r` of point `t`'s block. -/
theorem eq_row {n : ℕ} (j : (⟨2, ![8192, n]⟩ : Shape).Idx) (t : Fin cfg0.N) (r : Fin 256) (q : Fin n)
    (h0 : (j 0).val = cc0_transform_0 (grid0.coords t) 0 * 256 + r.val) (h1 : (j 1).val = 0 * n + q.val) : j = ix2 (row t r) q := by
  rw [eq_ix2 j]
  refine congrArg₂ ix2 (Fin.ext ?_) (Fin.ext ?_)
  · rw [h0, index_row]
  · rw [h1, Nat.zero_mul, Nat.zero_add]

theorem emb0 (t : Fin cfg0.N) (r : Fin 256) (k : Fin 1024) : (win0_0.rect t).emb (ix2 r k) = ix2 (row t r) k :=
  eq_row _ t r k (win0_0.rect_emb_val t _ 0) (win0_0.rect_emb_val t _ 1)
theorem emb3 (t : Fin cfg0.N) (r : Fin 256) (q : Fin 2816) : (win0_3.rect t).emb (ix2 r q) = ix2 (row t r) q :=
  eq_row _ t r q (win0_3.rect_emb_val t _ 0) (win0_3.rect_emb_val t _ 1)

theorem emb2 (t : Fin cfg0.N) (k : Fin 1024) : (win0_2.rect t).emb (ix2 0 k) = ix2 0 k := Layer.row_eq _ k (win0_2.rect_emb_val t _ 1)
theorem emb10 (t : Fin cfg0.N) (k : Fin 1024) : (win0_10.rect t).emb (ix2 0 k) = ix2 0 k := emb2 t k

theorem iblk0 (t : Fin cfg0.N) (r : Fin 256) (k : Fin 1024) : iblk m c 0 t (ix2 r k) = V m c main_arg0 (ix2 (row t r) k) :=
  congrArg (V m c main_arg0) (emb0 t r k)
theorem iblk1 (t : Fin cfg0.N) (r : Fin 256) (k : Fin 1024) : iblk m c 1 t (ix2 r k) = V m c main_arg1 (ix2 (row t r) k) :=
  congrArg (V m c main_arg1) (emb0 t r k)
theorem iblk2 (t : Fin cfg0.N) (k : Fin 1024) : iblk m c 2 t (ix2 0 k) = V m c main_arg2 (ix2 0 k) :=
  congrArg (V m c main_arg2) (emb2 t k)
theorem iblk3 (t : Fin cfg0.N) (r : Fin 256) (q : Fin 2816) : iblk m c 3 t (ix2 r q) = V m c main_arg3 (ix2 (row t r) q) :=
  congrArg (V m c main_arg3) (emb3 t r q)
theorem iblk4 (t : Fin cfg0.N) (r : Fin 256) (q : Fin 2816) : iblk m c 4 t (ix2 r q) = V m c main_arg4 (ix2 (row t r) q) :=
  congrArg (V m c main_arg4) (emb3 t r q)

/-! ## The five arrays cut by rows -/

/-- Two arrays that agree at every row of every block agree. -/
theorem arr_eq {n : ℕ} {α : Type} (A G : (⟨2, ![8192, n]⟩ : Shape).Idx → α)
    (h : ∀ (t : Fin cfg0.N) (r : Fin 256) (q : Fin n), A (ix2 (row t r) q) = G (ix2 (row t r) q)) : A = G := by
  funext j
  have hj : (j 0).val < 8192 := (j 0).isLt
  have e : j = ix2 (row ⟨(j 0).val / 256, by have : cfg0.N = 32 := N_0; omega⟩ ⟨(j 0).val % 256, by omega⟩) (j 1) :=
    (eq_ix2 j).trans (congrArg (fun i => ix2 i (j 1)) (Fin.ext (by dsimp only; omega)))
  rw [e]
  exact h _ _ _

/-- The arguments on a device. -/
abbrev a0 : Vec Ideal S8192x1024 .f32 := V m c main_arg0
abbrev a1 : Vec Ideal S8192x1024 .f32 := V m c main_arg1
abbrev a2 : Vec Ideal S1x1024 .f32 := V m c main_arg2
abbrev a3 : Vec Ideal S8192x2816 .bf16 := V m c main_arg3
abbrev a4 : Vec Ideal S8192x2816 .bf16 := V m c main_arg4
abbrev a5 : Vec Ideal S1024x2816 .bf16 := V m c main_arg5
abbrev a6 : Vec Ideal S1024x2816 .bf16 := V m c main_arg6
abbrev a7 : Vec Ideal S2816x1024 .bf16 := V m c main_arg7

theorem final5 : (dats m 0 c).arrAt 5 cfg0.N = rDh (a0 m c) (a1 m c) (a2 m c) (a3 m c) (a4 m c) (a5 m c) (a6 m c) (a7 m c) :=
  arr_eq _ _ fun t r k => by
    have h := congrFun (Value.blocks5 m c t (flush0_5 t)) (ix2 r k)
    rw [Value.flushed5, outs] at h
    refine (congrArg ((dats m 0 c).arrAt 5 cfg0.N) (emb0 t r k).symm).trans (h.trans ((bDh_apply _ _ _ _ _ _ _ _ r k).trans ?_))
    simp only [iblk0, iblk1, iblk2, iblk3, iblk4]
    exact (rDh_apply (a0 m c) (a1 m c) (a2 m c) (a3 m c) (a4 m c) (a5 m c) (a6 m c) (a7 m c) (row t r) k).symm

theorem final6 : (dats m 0 c).arrAt 6 cfg0.N = rDg (a0 m c) (a3 m c) (a4 m c) (a7 m c) :=
  arr_eq _ _ fun t r q => by
    have h := congrFun (Value.blocks6 m c t (flush0_6 t)) (ix2 r q)
    rw [Value.flushed6, outs] at h
    dsimp only at h
    have hc (X : Vec Ideal S256x2816 .bf16) : (cfg0.win 6).cut (grid0.coords t) X (ix2 r q) = X (ix2 r q) := rfl
    refine (congrArg ((dats m 0 c).arrAt 6 cfg0.N) (emb3 t r q).symm).trans (h.trans ?_)
    rw [hc, bDg_apply]
    simp only [iblk0, iblk3, iblk4]
    exact (rDg_apply (a0 m c) (a3 m c) (a4 m c) (a7 m c) (row t r) q).symm

theorem final7 : (dats m 0 c).arrAt 7 cfg0.N = rDu (a0 m c) (a3 m c) (a7 m c) :=
  arr_eq _ _ fun t r q => by
    have h := congrFun (Value.blocks7 m c t (flush0_7 t)) (ix2 r q)
    rw [Value.flushed7, outs] at h
    dsimp only at h
    have hc (X : Vec Ideal S256x2816 .bf16) : (cfg0.win 7).cut (grid0.coords t) X (ix2 r q) = X (ix2 r q) := rfl
    refine (congrArg ((dats m 0 c).arrAt 7 cfg0.N) (emb3 t r q).symm).trans (h.trans ?_)
    rw [hc, bDu_apply]
    simp only [iblk0, iblk3]
    exact (rDu_apply (a0 m c) (a3 m c) (a7 m c) (row t r) q).symm

theorem final8 : (dats m 0 c).arrAt 8 cfg0.N = rA (a3 m c) (a4 m c) :=
  arr_eq _ _ fun t r q => by
    have h := congrFun (Value.blocks8 m c t (flush0_8 t)) (ix2 r q)
    rw [Value.flushed8, outs] at h
    dsimp only at h
    have hc (X : Vec Ideal S256x2816 .bf16) : (cfg0.win 8).cut (grid0.coords t) X (ix2 r q) = X (ix2 r q) := rfl
    refine (congrArg ((dats m 0 c).arrAt 8 cfg0.N) (emb3 t r q).symm).trans (h.trans ?_)
    rw [hc, bA_apply]
    simp only [iblk3, iblk4]
    exact (rA_apply (a3 m c) (a4 m c) (row t r) q).symm

theorem final9 : (dats m 0 c).arrAt 9 cfg0.N = rDf (a0 m c) :=
  arr_eq _ _ fun t r k => by
    have h := congrFun (Value.blocks9 m c t (flush0_9 t)) (ix2 r k)
    rw [Value.flushed9, outs] at h
    refine (congrArg ((dats m 0 c).arrAt 9 cfg0.N) (emb0 t r k).symm).trans (h.trans ((bDf_apply _ r k).trans ?_))
    simp only [iblk0]
    exact (rDf_apply (a0 m c) (row t r) k).symm

/-! ## The gain's gradient, summed over the points -/

/-- What token `n` adds to it. -/
def gainAt (n : Fin 8192) (k : Fin 1024) : EReal :=
  gain (fun k => a0 m c (ix2 n k)) (fun k => a1 m c (ix2 n k)) (fun q => a3 m c (ix2 n q)) (fun q => a4 m c (ix2 n q))
    (fun k q => a5 m c (ix2 k q)) (fun k q => a6 m c (ix2 k q)) (fun q k => a7 m c (ix2 q k)) k

theorem acc_apply (k : Fin 1024) (n : ℕ) (h : n < cfg0.N) :
    acc m c n h (ix2 0 k) = ∑ t : Fin (n + 1), ∑ r : Fin 256, gainAt m c (row ⟨t.val, lt_of_lt_of_le t.isLt h⟩ r) k := by
  induction n with
  | zero =>
    refine (bGain_apply _ _ _ _ _ _ _ _ k).trans ?_
    simp only [iblk0, iblk1, iblk3, iblk4]
    have z : (k0_pay2 (F := Ideal)) (ix2 0 k) = 0 := by pointwise [k0_pay2]
    rw [z, zero_add, Fin.sum_univ_one]
    rfl
  | succ n ih =>
    refine (bGain_apply _ _ _ _ _ _ _ _ k).trans ?_
    simp only [iblk0, iblk1, iblk3, iblk4]
    rw [ih, Fin.sum_univ_castSucc (n := n + 1)]
    rfl

theorem final10 : (dats m 0 c).arrAt 10 cfg0.N = rGain (a0 m c) (a1 m c) (a3 m c) (a4 m c) (a5 m c) (a6 m c) (a7 m c) := by
  refine (dats m 0 c).arrAt_eq_of_cover 10 _ (fun t hf => ?_) fun i => ?_
  · have ht : t.val = 31 := by
      have := (flush0_10 t).mp hf
      have := t.isLt
      have : cfg0.N = 32 := N_0
      omega
    obtain ⟨n, hn⟩ := t
    subst ht
    rw [Value.flushed10, outs]
    funext y
    obtain ⟨k, rfl⟩ : ∃ k : Fin 1024, y = ix2 0 k :=
      ⟨y 1, (eq_ix2 y).trans (congrArg (fun i => ix2 i (y 1)) (Subsingleton.elim (α := Fin 1) _ _))⟩
    refine Eq.trans (b := acc m c 31 hn (ix2 0 k)) rfl ((acc_apply m c k 31 hn).trans (Eq.trans ?_
      (congrArg (rGain (a0 m c) (a1 m c) (a3 m c) (a4 m c) (a5 m c) (a6 m c) (a7 m c)) (emb10 ⟨31, hn⟩ k).symm)))
    rw [rGain_apply]
    exact (Fin.sum_univ_tiles 32 256 rfl (fun n => gainAt m c n k)).symm
  · have hlt : 31 < cfg0.N := by have hN : cfg0.N = 32 := N_0; omega
    refine ⟨⟨31, hlt⟩, (flush0_10 _).mpr rfl, ?_⟩
    obtain ⟨k, rfl⟩ : ∃ k : Fin 1024, i = ix2 0 k :=
      ⟨i 1, (eq_ix2 i).trans (congrArg (fun j => ix2 j (i 1)) (Subsingleton.elim (α := Fin 1) _ _))⟩
    show _ ∈ ((View.whole main_v0_5).slice (win0_10.rect ⟨31, hlt⟩)).set
    rw [View.set_slice_whole, ← emb10 ⟨31, hlt⟩ k]
    exact LoadRect.idx_mem _ _

end Cert.FfnRun

end
-- ==== Proof.Ffn.lean ====
/- The layer's backward: the kernel's six outputs are the reference's, over the extended reals, from any arguments. -/
module

public import proofs.«01_k».proof.Proof.FfnArrays
public import Idealize.ShloMosaic.Lib.Quiescent

@[expose] public section

set_option maxRecDepth 16384

noncomputable section

open Idealize.ShloMosaic Idealize.ShloMosaic.TcCoe Idealize.SL.Sem

namespace Cert.Ffn

open Cert.FfnRow Cert.FfnRun

theorem frame : Cert.quiescent_FfnBwd := fun m ρ _ => Cert.FfnBwd.Gen.frame m ρ
theorem frame_ideal : Cert.quiescent_FfnBwdIdeal := fun m ρ _ => Cert.FfnBwdIdeal.Gen.frame m ρ

theorem run_reference (m : (ℓ : Loc Cert.FfnBwdReferenceIdeal.nD Cert.FfnBwdReferenceIdeal.τ Cert.FfnBwdReferenceIdeal.sig) → Buf (Elt Ideal) ℓ) (ρ : Dev Cert.FfnBwdReferenceIdeal.nD → PrngReg) :
    θ_run Cert.FfnBwdReferenceIdeal.defs (onTc (τ := Cert.FfnBwdReferenceIdeal.τ) (Cert.FfnBwdReferenceIdeal.main (F := Ideal))) ⟨m, fun _ => 0, ρ⟩
      fun r => (∀ c : Dev Cert.FfnBwdReferenceIdeal.nD,
        r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
        ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
        ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
        ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
        ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4)
        ∧ r.2.mem ((c.tc : Thread Cert.FfnBwdReferenceIdeal.nD Cert.FfnBwdReferenceIdeal.τ).loc Cert.FfnBwdReferenceIdeal.main_arg5) = m ((c.tc : Thread Cert.FfnBwdReferenceIdeal.nD Cert.FfnBwdReferenceIdeal.τ).loc Cert.FfnBwdReferenceIdeal.main_arg5)
        ∧ r.2.mem ((c.tc : Thread Cert.FfnBwdReferenceIdeal.nD Cert.FfnBwdReferenceIdeal.τ).loc Cert.FfnBwdReferenceIdeal.main_arg6) = m ((c.tc : Thread Cert.FfnBwdReferenceIdeal.nD Cert.FfnBwdReferenceIdeal.τ).loc Cert.FfnBwdReferenceIdeal.main_arg6)
        ∧ r.2.mem ((c.tc : Thread Cert.FfnBwdReferenceIdeal.nD Cert.FfnBwdReferenceIdeal.τ).loc Cert.FfnBwdReferenceIdeal.main_arg7) = m ((c.tc : Thread Cert.FfnBwdReferenceIdeal.nD Cert.FfnBwdReferenceIdeal.τ).loc Cert.FfnBwdReferenceIdeal.main_arg7)) ∧ r.2.sem = fun _ => 0 :=
  (θ_run Cert.FfnBwdReferenceIdeal.defs _ _).mono
    (fun r h => ⟨fun c => (h c).2.2.2.2.2.2, Idealize.ShloMosaic.sem_eq_zero_of_no_sems (by decide) r.2⟩)
    (Cert.FfnBwdReferenceIdeal.Value.run (F := Ideal) m ρ)

theorem frame_reference_ideal : Cert.quiescent_FfnBwdReferenceIdeal := fun m ρ _ => run_reference m ρ

theorem algebraic : Cert.algebraic_FfnBwdIdeal_FfnBwdReferenceIdeal := by
  intro m ρ m' ρ' _ hagree
  refine ⟨_, _, _, _, _, _, Cert.FfnBwdIdeal.Value.run_blocks (F := Ideal) m ρ, ?_⟩
  refine (θ_run Cert.FfnBwdReferenceIdeal.defs _ _).mono (fun r h c => ?_) (Cert.FfnBwdReferenceIdeal.Value.run (F := Ideal) m' ρ')
  obtain ⟨h0, h1, h2, h3, h4, h5, hk⟩ := h c
  obtain ⟨e0, e1, e2, e3, e4, e5, e6, e7⟩ := hagree c
  refine ⟨h0.trans ?_, h1.trans ?_, h2.trans ?_, h3.trans ?_, h4.trans ?_, h5.trans ?_, hk⟩
  · refine Eq.trans ?_ (final5 m c).symm
    unfold Cert.FfnBwdReferenceIdeal.Value.res_main_v54
    rw [e0, e1, e2, e3, e4, e5, e6, e7]
    rfl
  · refine Eq.trans ?_ (final6 m c).symm
    rw [e0, e3, e4, e7]
    rfl
  · refine Eq.trans ?_ (final7 m c).symm
    rw [e0, e3, e7]
    rfl
  · refine Eq.trans ?_ (final8 m c).symm
    rw [e3, e4]
    rfl
  · refine Eq.trans ?_ (final9 m c).symm
    rw [e0]
    rfl
  · refine Eq.trans ?_ (final10 m c).symm
    rw [e0, e1, e3, e4, e5, e6, e7]
    rfl

end Cert.Ffn

end
-- ==== Proof.Grad.lean ====
/- The gradients of the large weights on one device. A grid point adds to its output block the product of 512 tokens, and the
   16 points of a run do so for all 8192 (`run_eq`, of any arrays and blocks; `whole`, where the block is the whole array); the
   reference is the product over the tokens. Each shape's section says where its blocks sit and what a point adds, and applies
   that. -/
module

public import proofs.«01_k».proof.Defs
public import proofs.«01_k».proof.Proof.Gen.GradUp.Frame
public import proofs.«01_k».proof.Proof.Gen.GradUpIdeal.Value
public import proofs.«01_k».proof.Proof.Gen.GradUpReferenceIdeal.Run
public import proofs.«01_k».proof.Proof.Gen.GradDown.Frame
public import proofs.«01_k».proof.Proof.Gen.GradDownIdeal.Value
public import proofs.«01_k».proof.Proof.Gen.GradDownReferenceIdeal.Run
public import proofs.«01_k».proof.Proof.Gen.GradOut.Frame
public import proofs.«01_k».proof.Proof.Gen.GradOutIdeal.Value
public import proofs.«01_k».proof.Proof.Gen.GradOutReferenceIdeal.Run
public import proofs.«01_k».proof.Proof.Gen.GradBranchA.Frame
public import proofs.«01_k».proof.Proof.Gen.GradBranchAIdeal.Value
public import proofs.«01_k».proof.Proof.Gen.GradBranchAReferenceIdeal.Run
public import proofs.«01_k».proof.Proof.Gen.GradBranchB.Frame
public import proofs.«01_k».proof.Proof.Gen.GradBranchBIdeal.Value
public import proofs.«01_k».proof.Proof.Gen.GradBranchBReferenceIdeal.Run
public import proofs.«01_k».proof.Proof.Gen.GradIn.Frame
public import proofs.«01_k».proof.Proof.Gen.GradInIdeal.Value
public import proofs.«01_k».proof.Proof.Gen.GradInReferenceIdeal.Run
public import Idealize.ShloMosaic.Lib.Quiescent
public import proofs.«01_k».proof.Proof.Layer
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.Grad

open Cert.Layer

/-! ## The sum over a run's points, of any arrays -/

/-- A run of 16 points that starts from the first block's sum and adds each later block's gives the sum over all tokens. -/
theorem fold {N : ℕ} {ι : Type} (a : (n : ℕ) → n < N → ι → EReal) (g : (n : ℕ) → n < N → (ι → EReal) → ι → EReal)
    (r : ℕ) (i : ι) (f : Fin 8192 → EReal) (ha : ∀ h, a (16 * r) h i = ∑ s, f (tok (16 * r) s))
    (hg : ∀ (n : ℕ) (h : n < N) (acc : ι → EReal), n / 16 = r → g n h acc i = acc i + ∑ s, f (tok n s))
    (h : 16 * r + 15 < N) : Pipeline.accAt a g (16 * r) 15 h i = ∑ n, f n := by
  have step : ∀ (j : ℕ) (_ : j < 16) (h : 16 * r + j < N),
      Pipeline.accAt a g (16 * r) j h i = ∑ t : Fin (j + 1), ∑ s, f (tok (16 * r + t.val) s) := by
    intro j
    induction j with
    | zero =>
      intro _ h
      rw [Pipeline.accAt_zero, Fin.sum_univ_one]
      exact ha h
    | succ j ih =>
      intro hj h
      rw [Pipeline.accAt_succ, hg (16 * r + (j + 1)) h _ (by omega), ih (Nat.lt_of_succ_lt hj), Fin.sum_univ_castSucc (n := j + 1)]
      rfl
  refine (step 15 (by decide) h).trans (Eq.trans ?_ (Fin.sum_univ_tiles 16 512 rfl f).symm)
  refine Finset.sum_congr rfl fun t _ => Finset.sum_congr rfl fun s _ => congrArg f (Fin.ext ?_)
  have ht : t.val < 16 := t.isLt
  show (16 * r + t.val) % 16 * 512 + s.val = t.val * 512 + s.val
  omega

/-- One entry of the transposed left array's product with the right one. -/
abbrev prod {k n : ℕ} (A : Ix 8192 k → EReal) (B : Ix 8192 n → EReal) (p : Fin k) (q : Fin n) : EReal :=
  ∑ t, A (ix2 t p) * B (ix2 t q)

/-- What run `r` leaves at (p, q): `z` is what a run starts from, `x` and `y` are the points' blocks, and column `q` of a block
    of the right array is the array's column `q'`. -/
theorem run_eq {N k n w : ℕ} (A : Ix 8192 k → EReal) (B : Ix 8192 n → EReal) (x : Fin N → Ix 512 k → EReal)
    (y : Fin N → Ix 512 w → EReal) (step : (Ix k w → EReal) → (Ix 512 k → EReal) → (Ix 512 w → EReal) → Ix k w → EReal) (z : Ix k w → EReal)
    (hs : ∀ v x y p q, step v x y (ix2 p q) = v (ix2 p q) + ∑ s, x (ix2 s p) * y (ix2 s q)) (hz : ∀ p q, z (ix2 p q) = 0)
    (r : ℕ) (p : Fin k) (q : Fin w) (q' : Fin n) (hx : ∀ t s, x t (ix2 s p) = A (ix2 (tok t.val s) p))
    (hy : ∀ t s, t.val / 16 = r → y t (ix2 s q) = B (ix2 (tok t.val s) q')) (h : 16 * r + 15 < N) :
    Pipeline.accAt (fun n h => step z (x ⟨n, h⟩) (y ⟨n, h⟩)) (fun n h v => step v (x ⟨n, h⟩) (y ⟨n, h⟩)) (16 * r) 15 h (ix2 p q)
      = prod A B p q' := by
  refine fold _ _ r _ (fun t => A (ix2 t p) * B (ix2 t q')) (fun h => ?_) (fun n h v hn => ?_) h
  · rw [hs, hz, zero_add]
    exact Finset.sum_congr rfl fun s _ => congrArg₂ (· * ·) (hx _ s) (hy _ s (by dsimp only; omega))
  · rw [hs]
    exact congrArg (v (ix2 p q) + ·) (Finset.sum_congr rfl fun s _ => congrArg₂ (· * ·) (hx _ s) (hy _ s hn))

/-- The array a single run leaves, when its block is the whole of it. -/
theorem whole {k n : ℕ} {A : Ix 8192 k → EReal} {B : Ix 8192 n → EReal} {x : Fin 16 → Ix 512 k → EReal}
    {y : Fin 16 → Ix 512 n → EReal} {step : (Ix k n → EReal) → (Ix 512 k → EReal) → (Ix 512 n → EReal) → Ix k n → EReal} {z d G : Ix k n → EReal}
    {loc : Ix k n → Ix k n} (hs : ∀ v x y p q, step v x y (ix2 p q) = v (ix2 p q) + ∑ s, x (ix2 s p) * y (ix2 s q)) (hz : ∀ p q, z (ix2 p q) = 0)
    (hx : ∀ t s p, x t (ix2 s p) = A (ix2 (tok t.val s) p)) (hy : ∀ t s q, y t (ix2 s q) = B (ix2 (tok t.val s) q))
    (h0 : ∀ i, (loc i 0).val = (i 0).val % k) (h1 : ∀ i, (loc i 1).val = (i 1).val % n)
    (hG : G = fun i => if h : 16 * (1 * ((i 0).val / k - 0) + 1 * ((i 1).val / n - 0)) + 15 < 16 then
      Pipeline.accAt (fun t h => step z (x ⟨t, h⟩) (y ⟨t, h⟩)) (fun t h v => step v (x ⟨t, h⟩) (y ⟨t, h⟩))
        (16 * (1 * ((i 0).val / k - 0) + 1 * ((i 1).val / n - 0))) 15 h (loc i) else d i) (p : Fin k) (q : Fin n) :
    G (ix2 p q) = prod A B p q := by
  have hr : 1 * (p.val / k - 0) + 1 * (q.val / n - 0) = 0 := by rw [Nat.div_eq_of_lt p.isLt, Nat.div_eq_of_lt q.isLt]
  have hl : loc (ix2 p q) = ix2 p q := (eq_ix2 _).trans (congrArg₂ ix2 (Fin.ext ((h0 _).trans (Nat.mod_eq_of_lt p.isLt)))
    (Fin.ext ((h1 _).trans (Nat.mod_eq_of_lt q.isLt))))
  rw [hG]
  refine (dif_pos (show 16 * (1 * (p.val / k - 0) + 1 * (q.val / n - 0)) + 15 < 16 by rw [hr]; decide)).trans ?_
  rw [hl]
  exact run_eq A B x y step z hs hz _ p q q (fun t s => hx t s p) (fun t s _ => hy t s q) _

/-! ## The gate and up weights, 1024 × 2816 -/

namespace Up

open Cert.GradUpIdeal Cert.GradUpIdeal.Gen Cert.GradUpIdeal.Value

theorem frame : Cert.quiescent_GradUp := fun m ρ _ => Cert.GradUp.Gen.frame m ρ
theorem frame_ideal : Cert.quiescent_GradUpIdeal := fun m ρ _ => Cert.GradUpIdeal.Gen.frame m ρ
theorem frame_reference : Cert.quiescent_GradUpReferenceIdeal := fun m ρ _ =>
  (θ_run Cert.GradUpReferenceIdeal.defs _ _).mono (fun r h => ⟨fun c => (h c).2, sem_eq_zero_of_no_sems (by decide) r.2⟩)
    (Cert.GradUpReferenceIdeal.Value.run (F := Ideal) m ρ)

theorem index0 : Steps win0_0.index := (by decide +kernel : Steps (N := grid0.N) win0_0.index)
theorem index1 : Steps win0_1.index := (by decide +kernel : Steps (N := grid0.N) win0_1.index)

theorem value (m : (ℓ : Loc nD τ sig) → Buf (Elt Ideal) ℓ) (c : Dev nD) : ∀ p q, G2 m c (ix2 p q) = prod (V m c main_arg0) (V m c main_arg1) p q :=
  whole (step := k0_pay2 (F := Ideal)) (z := k0_pay1 (F := Ideal)) (fun v x y p q => by pointwise [k0_pay2]) (fun p q => by pointwise [k0_pay1])
    (rows index0 (fun _ _ => rfl) (fun t i => win0_0.rect_emb_val t i 0) (fun t i => win0_0.rect_emb_val t i 1))
    (rows index1 (fun _ _ => rfl) (fun t i => win0_1.rect_emb_val t i 0) (fun t i => win0_1.rect_emb_val t i 1))
    (fun _ => rfl) (fun _ => rfl) rfl

theorem algebraic : Cert.algebraic_GradUpIdeal_GradUpReferenceIdeal := by
  intro m ρ m' ρ' _ hagree
  refine ⟨_, Cert.GradUpIdeal.Value.run (F := Ideal) m ρ,
    (θ_run Cert.GradUpReferenceIdeal.defs _ _).mono (fun r h c => ⟨(h c).1.trans ?_, (h c).2⟩)
      (Cert.GradUpReferenceIdeal.Value.run (F := Ideal) m' ρ')⟩
  rw [(hagree c).1, (hagree c).2]
  refine ext2 fun p q => Eq.trans ?_ (value m c p q).symm
  pointwise [prod]

end Up

/-! ## The down weights, 2816 × 1024 -/

namespace Down

open Cert.GradDownIdeal Cert.GradDownIdeal.Gen Cert.GradDownIdeal.Value

theorem frame : Cert.quiescent_GradDown := fun m ρ _ => Cert.GradDown.Gen.frame m ρ
theorem frame_ideal : Cert.quiescent_GradDownIdeal := fun m ρ _ => Cert.GradDownIdeal.Gen.frame m ρ
theorem frame_reference : Cert.quiescent_GradDownReferenceIdeal := fun m ρ _ =>
  (θ_run Cert.GradDownReferenceIdeal.defs _ _).mono (fun r h => ⟨fun c => (h c).2, sem_eq_zero_of_no_sems (by decide) r.2⟩)
    (Cert.GradDownReferenceIdeal.Value.run (F := Ideal) m ρ)

theorem index0 : Steps win0_0.index := (by decide +kernel : Steps (N := grid0.N) win0_0.index)
theorem index1 : Steps win0_1.index := (by decide +kernel : Steps (N := grid0.N) win0_1.index)

theorem value (m : (ℓ : Loc nD τ sig) → Buf (Elt Ideal) ℓ) (c : Dev nD) : ∀ p q, G2 m c (ix2 p q) = prod (V m c main_arg0) (V m c main_arg1) p q :=
  whole (step := k0_pay2 (F := Ideal)) (z := k0_pay1 (F := Ideal)) (fun v x y p q => by pointwise [k0_pay2]) (fun p q => by pointwise [k0_pay1])
    (rows index0 (fun _ _ => rfl) (fun t i => win0_0.rect_emb_val t i 0) (fun t i => win0_0.rect_emb_val t i 1))
    (rows index1 (fun _ _ => rfl) (fun t i => win0_1.rect_emb_val t i 0) (fun t i => win0_1.rect_emb_val t i 1))
    (fun _ => rfl) (fun _ => rfl) rfl

theorem algebraic : Cert.algebraic_GradDownIdeal_GradDownReferenceIdeal := by
  intro m ρ m' ρ' _ hagree
  refine ⟨_, Cert.GradDownIdeal.Value.run (F := Ideal) m ρ,
    (θ_run Cert.GradDownReferenceIdeal.defs _ _).mono (fun r h c => ⟨(h c).1.trans ?_, (h c).2⟩)
      (Cert.GradDownReferenceIdeal.Value.run (F := Ideal) m' ρ')⟩
  rw [(hagree c).1, (hagree c).2]
  refine ext2 fun p q => Eq.trans ?_ (value m c p q).symm
  pointwise [prod]

end Down

/-! ## The output projection, 1024 × 1024 -/

namespace Out

open Cert.GradOutIdeal Cert.GradOutIdeal.Gen Cert.GradOutIdeal.Value

theorem frame : Cert.quiescent_GradOut := fun m ρ _ => Cert.GradOut.Gen.frame m ρ
theorem frame_ideal : Cert.quiescent_GradOutIdeal := fun m ρ _ => Cert.GradOutIdeal.Gen.frame m ρ
theorem frame_reference : Cert.quiescent_GradOutReferenceIdeal := fun m ρ _ =>
  (θ_run Cert.GradOutReferenceIdeal.defs _ _).mono (fun r h => ⟨fun c => (h c).2, sem_eq_zero_of_no_sems (by decide) r.2⟩)
    (Cert.GradOutReferenceIdeal.Value.run (F := Ideal) m ρ)

theorem index0 : Steps win0_0.index := (by decide +kernel : Steps (N := grid0.N) win0_0.index)
theorem index1 : Steps win0_1.index := (by decide +kernel : Steps (N := grid0.N) win0_1.index)

theorem value (m : (ℓ : Loc nD τ sig) → Buf (Elt Ideal) ℓ) (c : Dev nD) : ∀ p q, G2 m c (ix2 p q) = prod (V m c main_arg0) (V m c main_arg1) p q :=
  whole (step := k0_pay2 (F := Ideal)) (z := k0_pay1 (F := Ideal)) (fun v x y p q => by pointwise [k0_pay2]) (fun p q => by pointwise [k0_pay1])
    (rows index0 (fun _ _ => rfl) (fun t i => win0_0.rect_emb_val t i 0) (fun t i => win0_0.rect_emb_val t i 1))
    (rows index1 (fun _ _ => rfl) (fun t i => win0_1.rect_emb_val t i 0) (fun t i => win0_1.rect_emb_val t i 1))
    (fun _ => rfl) (fun _ => rfl) rfl

theorem algebraic : Cert.algebraic_GradOutIdeal_GradOutReferenceIdeal := by
  intro m ρ m' ρ' _ hagree
  refine ⟨_, Cert.GradOutIdeal.Value.run (F := Ideal) m ρ,
    (θ_run Cert.GradOutReferenceIdeal.defs _ _).mono (fun r h c => ⟨(h c).1.trans ?_, (h c).2⟩)
      (Cert.GradOutReferenceIdeal.Value.run (F := Ideal) m' ρ')⟩
  rw [(hagree c).1, (hagree c).2]
  refine ext2 fun p q => Eq.trans ?_ (value m c p q).symm
  pointwise [prod]

end Out

/-! ## The first branch's weight, 256 × 1024 -/

namespace BranchA

open Cert.GradBranchAIdeal Cert.GradBranchAIdeal.Gen Cert.GradBranchAIdeal.Value

theorem frame : Cert.quiescent_GradBranchA := fun m ρ _ => Cert.GradBranchA.Gen.frame m ρ
theorem frame_ideal : Cert.quiescent_GradBranchAIdeal := fun m ρ _ => Cert.GradBranchAIdeal.Gen.frame m ρ
theorem frame_reference : Cert.quiescent_GradBranchAReferenceIdeal := fun m ρ _ =>
  (θ_run Cert.GradBranchAReferenceIdeal.defs _ _).mono (fun r h => ⟨fun c => (h c).2, sem_eq_zero_of_no_sems (by decide) r.2⟩)
    (Cert.GradBranchAReferenceIdeal.Value.run (F := Ideal) m ρ)

theorem index0 : Steps win0_0.index := (by decide +kernel : Steps (N := grid0.N) win0_0.index)
theorem index1 : Steps win0_1.index := (by decide +kernel : Steps (N := grid0.N) win0_1.index)

theorem value (m : (ℓ : Loc nD τ sig) → Buf (Elt Ideal) ℓ) (c : Dev nD) : ∀ p q, G2 m c (ix2 p q) = prod (V m c main_arg0) (V m c main_arg1) p q :=
  whole (step := k0_pay2 (F := Ideal)) (z := k0_pay1 (F := Ideal)) (fun v x y p q => by pointwise [k0_pay2]) (fun p q => by pointwise [k0_pay1])
    (rows index0 (fun _ _ => rfl) (fun t i => win0_0.rect_emb_val t i 0) (fun t i => win0_0.rect_emb_val t i 1))
    (rows index1 (fun _ _ => rfl) (fun t i => win0_1.rect_emb_val t i 0) (fun t i => win0_1.rect_emb_val t i 1))
    (fun _ => rfl) (fun _ => rfl) rfl

theorem algebraic : Cert.algebraic_GradBranchAIdeal_GradBranchAReferenceIdeal := by
  intro m ρ m' ρ' _ hagree
  refine ⟨_, Cert.GradBranchAIdeal.Value.run (F := Ideal) m ρ,
    (θ_run Cert.GradBranchAReferenceIdeal.defs _ _).mono (fun r h c => ⟨(h c).1.trans ?_, (h c).2⟩)
      (Cert.GradBranchAReferenceIdeal.Value.run (F := Ideal) m' ρ')⟩
  rw [(hagree c).1, (hagree c).2]
  refine ext2 fun p q => Eq.trans ?_ (value m c p q).symm
  pointwise [prod]

end BranchA

/-! ## The second branch's weight, 512 × 1024 -/

namespace BranchB

open Cert.GradBranchBIdeal Cert.GradBranchBIdeal.Gen Cert.GradBranchBIdeal.Value

theorem frame : Cert.quiescent_GradBranchB := fun m ρ _ => Cert.GradBranchB.Gen.frame m ρ
theorem frame_ideal : Cert.quiescent_GradBranchBIdeal := fun m ρ _ => Cert.GradBranchBIdeal.Gen.frame m ρ
theorem frame_reference : Cert.quiescent_GradBranchBReferenceIdeal := fun m ρ _ =>
  (θ_run Cert.GradBranchBReferenceIdeal.defs _ _).mono (fun r h => ⟨fun c => (h c).2, sem_eq_zero_of_no_sems (by decide) r.2⟩)
    (Cert.GradBranchBReferenceIdeal.Value.run (F := Ideal) m ρ)

theorem index0 : Steps win0_0.index := (by decide +kernel : Steps (N := grid0.N) win0_0.index)
theorem index1 : Steps win0_1.index := (by decide +kernel : Steps (N := grid0.N) win0_1.index)

theorem value (m : (ℓ : Loc nD τ sig) → Buf (Elt Ideal) ℓ) (c : Dev nD) : ∀ p q, G2 m c (ix2 p q) = prod (V m c main_arg0) (V m c main_arg1) p q :=
  whole (step := k0_pay2 (F := Ideal)) (z := k0_pay1 (F := Ideal)) (fun v x y p q => by pointwise [k0_pay2]) (fun p q => by pointwise [k0_pay1])
    (rows index0 (fun _ _ => rfl) (fun t i => win0_0.rect_emb_val t i 0) (fun t i => win0_0.rect_emb_val t i 1))
    (rows index1 (fun _ _ => rfl) (fun t i => win0_1.rect_emb_val t i 0) (fun t i => win0_1.rect_emb_val t i 1))
    (fun _ => rfl) (fun _ => rfl) rfl

theorem algebraic : Cert.algebraic_GradBranchBIdeal_GradBranchBReferenceIdeal := by
  intro m ρ m' ρ' _ hagree
  refine ⟨_, Cert.GradBranchBIdeal.Value.run (F := Ideal) m ρ,
    (θ_run Cert.GradBranchBReferenceIdeal.defs _ _).mono (fun r h c => ⟨(h c).1.trans ?_, (h c).2⟩)
      (Cert.GradBranchBReferenceIdeal.Value.run (F := Ideal) m' ρ')⟩
  rw [(hagree c).1, (hagree c).2]
  refine ext2 fun p q => Eq.trans ?_ (value m c p q).symm
  pointwise [prod]

end BranchB

/-! ## The input projection's weight and bias, 1024 × 5120 in two column blocks -/

namespace In

open Cert.GradInIdeal Cert.GradInIdeal.Gen Cert.GradInIdeal.Value

theorem frame : Cert.quiescent_GradIn := fun m ρ _ => Cert.GradIn.Gen.frame m ρ
theorem frame_ideal : Cert.quiescent_GradInIdeal := fun m ρ _ => Cert.GradInIdeal.Gen.frame m ρ
theorem frame_reference : Cert.quiescent_GradInReferenceIdeal := fun m ρ _ =>
  (θ_run Cert.GradInReferenceIdeal.defs _ _).mono (fun r h => ⟨fun c => (h c).2.2, sem_eq_zero_of_no_sems (by decide) r.2⟩)
    (Cert.GradInReferenceIdeal.Value.run (F := Ideal) m ρ)

theorem index0 : Steps win0_0.index := (by decide +kernel : Steps (N := grid0.N) win0_0.index)
theorem index1 : ∀ t : Fin cfg0.N, win0_1.index t 0 = t.val % 16 ∧ win0_1.index t 1 = t.val / 16 :=
  (by decide +kernel : ∀ t : Fin grid0.N, win0_1.index t 0 = t.val % 16 ∧ win0_1.index t 1 = t.val / 16)

variable (m : (ℓ : Loc nD τ sig) → Buf (Elt Ideal) ℓ) (c : Dev nD)

abbrev arg0 : Vec Ideal S8192x1024 .bf16 := V m c main_arg0
abbrev arg1 : Vec Ideal S8192x5120 .bf16 := V m c main_arg1

/-- The place of column `q` in its block. -/
abbrev col (q : Fin 5120) : Fin 2560 := ⟨q.val % 2560, Nat.mod_lt _ (by decide)⟩

theorem blk0 : ∀ (t : Fin cfg0.N) s p, iblk m c 0 t (ix2 s p) = arg0 m c (ix2 (tok t.val s) p) :=
  rows index0 (fun _ _ => rfl) (fun t i => win0_0.rect_emb_val t i 0) (fun t i => win0_0.rect_emb_val t i 1)
theorem blk1 (t : Fin cfg0.N) (s : Fin 512) (q : Fin 5120) (ht : t.val / 16 = q.val / 2560) :
    iblk m c 1 t (ix2 s (col q)) = arg1 m c (ix2 (tok t.val s) q) :=
  congrArg (arg1 m c) (place _ t.val _ s q (win0_1.rect_emb_val t _ 0) (index1 t).1
    ((win0_1.rect_emb_val t _ 1).trans (by rw [(index1 t).2, ht]; exact Nat.div_add_mod' q.val 2560)))

theorem adds (v : Vec Ideal S1024x2560 .f32) (x : Vec Ideal S512x1024 .bf16) (y : Vec Ideal S512x2560 .bf16) (p : Fin 1024) (q : Fin 2560) :
    k0_pay3 v x y (ix2 p q) = v (ix2 p q) + ∑ s, x (ix2 s p) * y (ix2 s q) := by pointwise [k0_pay3]
theorem zero (p : Fin 1024) (q : Fin 2560) : k0_pay1 (F := Ideal) (ix2 p q) = 0 := by pointwise [k0_pay1]
theorem adds_bias (v : Vec Ideal S1x2560 .f32) (y : Vec Ideal S512x2560 .bf16) (q : Fin 2560) :
    k0_pay4 v y (ix2 0 q) = v (ix2 0 q) + ∑ s, y (ix2 s q) := by pointwise [k0_pay4]
theorem zero_bias (q : Fin 2560) : k0_pay2 (F := Ideal) (ix2 0 q) = 0 := by pointwise [k0_pay2]

theorem value (p : Fin 1024) (q : Fin 5120) : G2 m c (ix2 p q) = prod (arg0 m c) (arg1 m c) p q := by
  have hr : run2Of (ix2 p q) = q.val / 2560 := by show 2 * (p.val / 1024 - 0) + 1 * (q.val / 2560 - 0) = q.val / 2560; omega
  have hl : loc2Of (ix2 p q) = ix2 p (col q) := (eq_ix2 _).trans (congrArg₂ ix2 (Fin.ext (Nat.mod_eq_of_lt p.isLt)) (Fin.ext rfl))
  unfold G2
  rw [dif_pos (by rw [hr, show cfg0.N = 32 from N_0]; have := q.isLt; omega), hl]
  exact run_eq (arg0 m c) (arg1 m c) (iblk m c 0) (iblk m c 1) (k0_pay3 (F := Ideal)) (k0_pay1 (F := Ideal)) adds zero _ p (col q) q
    (fun t s => blk0 m c t s p) (fun t s ht => blk1 m c t s q (ht.trans hr)) _

theorem value_bias (q : Fin 5120) : G3 m c (ix2 0 q) = ∑ n, arg1 m c (ix2 n q) := by
  have hr : run3Of (ix2 (0 : Fin 1) q) = q.val / 2560 := by show 2 * (0 / 1 - 0) + 1 * (q.val / 2560 - 0) = q.val / 2560; omega
  have hl : loc3Of (ix2 (0 : Fin 1) q) = ix2 0 (col q) := (eq_ix2 _).trans (congrArg₂ ix2 (Fin.ext rfl) (Fin.ext rfl))
  unfold G3
  rw [dif_pos (by rw [hr, show cfg0.N = 32 from N_0]; have := q.isLt; omega), hl]
  refine fold _ _ _ _ (fun n => arg1 m c (ix2 n q)) (fun h => ?_) (fun n h acc hn => ?_) _
  · refine (adds_bias _ _ (col q)).trans ?_
    rw [zero_bias, zero_add]
    exact Finset.sum_congr rfl fun s _ => blk1 m c _ s q ((Nat.mul_div_cancel_left _ (by decide)).trans hr)
  · refine (adds_bias _ _ (col q)).trans (congrArg (acc (ix2 0 (col q)) + ·) ?_)
    exact Finset.sum_congr rfl fun s _ => blk1 m c _ s q (hn.trans hr)

theorem algebraic : Cert.algebraic_GradInIdeal_GradInReferenceIdeal := by
  intro m ρ m' ρ' _ hagree
  refine ⟨_, _, Cert.GradInIdeal.Value.run (F := Ideal) m ρ,
    (θ_run Cert.GradInReferenceIdeal.defs _ _).mono (fun r h c => ⟨(h c).1.trans ?_, (h c).2.1.trans ?_, (h c).2.2⟩)
      (Cert.GradInReferenceIdeal.Value.run (F := Ideal) m' ρ')⟩
  · obtain ⟨e0, e1⟩ := hagree c
    rw [e0, e1]
    refine ext2 fun p q => Eq.trans ?_ (value m c p q).symm
    pointwise [prod]
  · rw [(hagree c).2]
    funext i
    obtain ⟨q, rfl⟩ : ∃ q : Fin 5120, i = ix2 0 q :=
      ⟨i 1, (eq_ix2 i).trans (congrArg (fun j => ix2 j (i 1)) (Subsingleton.elim (α := Fin 1) _ _))⟩
    refine Eq.trans ?_ (value_bias m c q).symm
    pointwise []

end In

end Cert.Grad

end
-- ==== Proof.FfnForward.lean ====
/- The layer's forward on one device: what a grid point of 512 tokens leaves, a row of it over the extended reals, and the four
   output arrays, which are the reference's. -/
module

public import proofs.«01_k».proof.Defs
public import proofs.«01_k».proof.Proof.FfnBlock
public import proofs.«01_k».proof.Proof.Gen.FfnFwd.Frame
public import proofs.«01_k».proof.Proof.Gen.FfnFwdIdeal.Value
public import proofs.«01_k».proof.Proof.Gen.FfnFwdReferenceIdeal.Run
public import Idealize.ShloMosaic.Lib.Quiescent

@[expose] public section

set_option maxRecDepth 16384

noncomputable section

open Idealize.ShloMosaic Idealize.ShloMosaic.TcCoe Idealize.ShloMosaic.Tactic Idealize.SL.Sem

namespace Cert.FfnForward

open Cert.Layer Cert.FfnRow

/-! ## A row -/

section

variable (h gn : Fin 1024 → EReal) (wg wu : Fin 1024 → Fin 2816 → EReal) (wd : Fin 2816 → Fin 1024 → EReal)

/-- A token's normalized input times the gain; its product with a weight; the layer's output. -/
def nrm (k : Fin 1024) : EReal := hn h k * gn k
def proj {n : ℕ} (w : Fin 1024 → Fin n → EReal) (q : Fin n) : EReal := ∑ k, nrm h gn k * w k q
def out (k : Fin 1024) : EReal := h k + half * ∑ q, act (proj h gn wg) (proj h gn wu) q * wd q k

end

/-! ## The reference -/

section

open Cert.FfnFwdReferenceIdeal Cert.FfnFwdReferenceIdeal.Gen

section

variable {F : FTy → Type} [FloatOps F]
variable (A0 : Vec F S8192x1024 .f32) (A1 : Vec F S1x1024 .f32) (A2 A3 : Vec F S1024x2816 .bf16) (A4 : Vec F S2816x1024 .bf16)

def rN : Vec F S8192x1024 .f32 := mulf (mulf A0 (broadcastInDim S8192x1024 ![0, 1] bcast_S8192x1_S8192x1024_0_1 (Host.rsqrt (addf
  (Host.divf (broadcastInDim S8192x1 ![0] bcast_S8192_S8192x1_0 (Host.reduceAdd (mulf A0 A0) (constant S_ .f32 0x00000000#32) reducesTo_S8192x1024_S8192_d1 h_S_))
    (broadcastInDim S8192x1 ![] bcast_S_S8192x1 (constant S_ .f32 0x44800000#32)))
  (broadcastInDim S8192x1 ![] bcast_S_S8192x1 (constant S_ .f32 0x358637BD#32))))))
  (broadcastInDim S8192x1024 ![0, 1] bcast_S1x1024_S8192x1024_0_1 A1)
def rP (W : Vec F S1024x2816 .bf16) : Vec F S8192x2816 .f32 :=
  Host.dotGeneral dot_S8192x1024_S1024x2816_S8192x2816_1_0_0_1_n_n none (rN A0 A1) (extf .f32 W bitsLt_bf16_f32)
def rOne : Vec F S8192x2816 .f32 := broadcastInDim S8192x2816 ![] bcast_S_S8192x2816 (constant S_ .f32 0x3F800000#32)
def rAct : Vec F S8192x2816 .f32 :=
  mulf (mulf (rP A0 A1 A2) (Host.divf rOne (addf rOne (Host.exp (Host.negf (rP A0 A1 A2)))))) (rP A0 A1 A3)
def rOut : Vec F S8192x1024 .f32 := addf A0 (mulf (broadcastInDim S8192x1024 ![] bcast_S_S8192x1024 (constant S_ .f32 0x3F000000#32))
  (Host.dotGeneral dot_S8192x2816_S2816x1024_S8192x1024_1_0_0_1_n_n none (rAct A0 A1 A2 A3) (extf .f32 A4 bitsLt_bf16_f32)))

end

variable (A0 : Vec Ideal S8192x1024 .f32) (A1 : Vec Ideal S1x1024 .f32) (A2 A3 : Vec Ideal S1024x2816 .bf16) (A4 : Vec Ideal S2816x1024 .bf16)
  (n : Fin 8192)

theorem rN_apply (k : Fin 1024) : rN A0 A1 (ix2 n k) = nrm (fun k => A0 (ix2 n k)) (fun k => A1 (ix2 0 k)) k := by
  pointwise [rN, nrm, hn, rs]

theorem rP_apply (W : Vec Ideal S1024x2816 .bf16) (q : Fin 2816) :
    rP A0 A1 W (ix2 n q) = proj (fun k => A0 (ix2 n k)) (fun k => A1 (ix2 0 k)) (fun k q => W (ix2 k q)) q := by
  pointwise [rP, rN_apply, proj]

theorem rAct_apply (q : Fin 2816) : rAct A0 A1 A2 A3 (ix2 n q)
    = act (proj (fun k => A0 (ix2 n k)) (fun k => A1 (ix2 0 k)) (fun k q => A2 (ix2 k q)))
      (proj (fun k => A0 (ix2 n k)) (fun k => A1 (ix2 0 k)) (fun k q => A3 (ix2 k q))) q := by
  pointwise [rAct, rOne, rP_apply, act, sg]

theorem rOut_apply (k : Fin 1024) : rOut A0 A1 A2 A3 A4 (ix2 n k)
    = out (fun k => A0 (ix2 n k)) (fun k => A1 (ix2 0 k)) (fun k q => A2 (ix2 k q)) (fun k q => A3 (ix2 k q)) (fun q k => A4 (ix2 q k)) k := by
  pointwise [rOut, rAct_apply, out]

end

/-! ## What a point leaves -/

open Cert.FfnFwdIdeal Cert.FfnFwdIdeal.Gen

section

variable {F : FTy → Type} [FloatOps F]

/-- The halves of a weight's columns and of a weight's rows; two halves of a block's columns, stored one after the other. -/
def wLo (w : Vec F S1024x2816 .bf16) : Vec F S1024x1408 .bf16 := View.ld w (Rect.unit (s := S1024x2816) ![0, 0] S1024x1408.size inb_S1024x2816_S1024x1408_0_0)
def wHi (w : Vec F S1024x2816 .bf16) : Vec F S1024x1408 .bf16 := View.ld w (Rect.unit (s := S1024x2816) ![0, 1408] S1024x1408.size inb_S1024x2816_S1024x1408_0_1408)
def dLo (w : Vec F S2816x1024 .bf16) : Vec F S1408x1024 .bf16 := View.ld w (Rect.unit (s := S2816x1024) ![0, 0] S1408x1024.size inb_S2816x1024_S1408x1024_0_0)
def dHi (w : Vec F S2816x1024 .bf16) : Vec F S1408x1024 .bf16 := View.ld w (Rect.unit (s := S2816x1024) ![1408, 0] S1408x1024.size inb_S2816x1024_S1408x1024_1408_0)
abbrev halves (l h : Vec F S512x1408 .bf16) : Vec F S512x2816 .bf16 :=
  View.canon [⟨Rect.unit (s := S512x2816) ![0, 1408] S512x1408.size inb_S512x2816_S512x1408_0_1408, h⟩,
    ⟨Rect.unit (s := S512x2816) ![0, 0] S512x1408.size inb_S512x2816_S512x1408_0_0, l⟩]

variable (x0 : Vec F S512x1024 .f32) (x1 : Vec F S1x1024 .f32) (wg wu : Vec F S1024x2816 .bf16) (wd : Vec F S2816x1024 .bf16)

/-- The layer's output, the normalized input, the gate and the up values. -/
def bOut : Vec F S512x1024 .f32 := k0_pay12 x0 (k0_pay1 x0 x1) k0_pay2 (k0_pay3 x0 x1 (wLo wg)) (k0_pay4 x0 x1 (wLo wu)) (k0_pay7 x0 x1 (wLo wg))
  (Scalar.ofBits .f32 0x3F800000#32) (dLo wd) (wHi wg) (wHi wu) (dHi wd)
def bN : Vec F S512x1024 .bf16 := k0_pay1 x0 x1
def bG : Vec F S512x2816 .bf16 := halves (k0_pay5 x0 x1 (wLo wg)) (k0_pay10 (k0_pay1 x0 x1) (wHi wg))
def bU : Vec F S512x2816 .bf16 := halves (k0_pay6 x0 x1 (wLo wu)) (k0_pay11 (k0_pay1 x0 x1) (wHi wu))

variable (c : Dev nD) (i : grid0.Coords)
  (arg1 : Memref sig .tc .vmem S512x1024 .f32) (harg1 : arg1.IsWhole) (arg2 : Memref sig .tc .vmem S1x1024 .f32) (harg2 : arg2.IsWhole)
  (arg6 : Memref sig .tc .vmem S512x1024 .f32) (harg6 : arg6.IsWhole) (arg7 : Memref sig .tc .vmem S512x1024 .bf16) (harg7 : arg7.IsWhole)
  (arg8 : Memref sig .tc .vmem S512x2816 .bf16) (harg8 : arg8.IsWhole) (arg9 : Memref sig .tc .vmem S512x2816 .bf16) (harg9 : arg9.IsWhole)
  (arg10 : Memref sig .tc .vmem S1024x2816 .bf16) (harg10 : arg10.IsWhole) (arg11 : Memref sig .tc .vmem S1024x2816 .bf16) (harg11 : arg11.IsWhole)
  (arg12 : Memref sig .tc .vmem S2816x1024 .bf16) (harg12 : arg12.IsWhole)
  (xs0 xs1 : Vec F S1024x2816 .bf16) (xs2 : Vec F S2816x1024 .bf16)
  (fh0 : HbBuf0 (F := F) c hbM0_0) (fh1 : HbBuf0 (F := F) c hbM0_1) (fh2 : HbBuf0 (F := F) c hbM0_2)

/-- At the first point the weights are what the copies brought; they stay in the scratch. -/
theorem out_A (hc : cond0_0 i) :
    out0_A_2 c i arg1 harg1 arg2 harg2 arg6 harg6 arg7 harg7 arg8 harg8 arg9 harg9 arg10 harg10 arg11 harg11 arg12 harg12 hc x0 x1 fh0 fh1 fh2
      = bOut x0 x1 fh0 fh1 fh2
    ∧ out0_A_3 c i arg1 harg1 arg2 harg2 arg6 harg6 arg7 harg7 arg8 harg8 arg9 harg9 arg10 harg10 arg11 harg11 arg12 harg12 hc x0 x1 fh0 fh1 fh2
      = bN x0 x1
    ∧ out0_A_4 c i arg1 harg1 arg2 harg2 arg6 harg6 arg7 harg7 arg8 harg8 arg9 harg9 arg10 harg10 arg11 harg11 arg12 harg12 hc x0 x1 fh0 fh1 fh2
      = bG x0 x1 fh0
    ∧ out0_A_5 c i arg1 harg1 arg2 harg2 arg6 harg6 arg7 harg7 arg8 harg8 arg9 harg9 arg10 harg10 arg11 harg11 arg12 harg12 hc x0 x1 fh0 fh1 fh2
      = bU x0 x1 fh1
    ∧ sout0_A_0 c i arg1 harg1 arg2 harg2 arg6 harg6 arg7 harg7 arg8 harg8 arg9 harg9 arg10 harg10 arg11 harg11 arg12 harg12 hc x0 x1 fh0 fh1 fh2
      = fh0
    ∧ sout0_A_1 c i arg1 harg1 arg2 harg2 arg6 harg6 arg7 harg7 arg8 harg8 arg9 harg9 arg10 harg10 arg11 harg11 arg12 harg12 hc x0 x1 fh0 fh1 fh2
      = fh1
    ∧ sout0_A_2 c i arg1 harg1 arg2 harg2 arg6 harg6 arg7 harg7 arg8 harg8 arg9 harg9 arg10 harg10 arg11 harg11 arg12 harg12 hc x0 x1 fh0 fh1 fh2
      = fh2 := by
  unfold out0_A_2 out0_A_3 out0_A_4 out0_A_5 sout0_A_0 sout0_A_1 sout0_A_2
  simp only [View.read_writes_junk_eq_canon]
  unfold kernelRun0_A
  dsimp only
  sl_unfold_run_names
  simp only [readAt_whole, readCov_of_whole, canon_whole, ld_all, canon_all, readCov_all]
  dsimp only [bOut, bN, bG, bU, halves, wLo, wHi, dLo, dHi]
  simp only [ReadAs.same, ReadAs.apply, View.read_whole, and_self]

/-- At a later point the weights are what the scratch holds. -/
theorem out_B (hc : ¬cond0_0 i) :
    out0_B_2 c i arg1 harg1 arg2 harg2 arg6 harg6 arg7 harg7 arg8 harg8 arg9 harg9 arg10 harg10 arg11 harg11 arg12 harg12 hc x0 x1 xs0 xs1 xs2 fh0 fh1 fh2
      = bOut x0 x1 xs0 xs1 xs2
    ∧ out0_B_3 c i arg1 harg1 arg2 harg2 arg6 harg6 arg7 harg7 arg8 harg8 arg9 harg9 arg10 harg10 arg11 harg11 arg12 harg12 hc x0 x1 xs0 xs1 xs2 fh0 fh1 fh2
      = bN x0 x1
    ∧ out0_B_4 c i arg1 harg1 arg2 harg2 arg6 harg6 arg7 harg7 arg8 harg8 arg9 harg9 arg10 harg10 arg11 harg11 arg12 harg12 hc x0 x1 xs0 xs1 xs2 fh0 fh1 fh2
      = bG x0 x1 xs0
    ∧ out0_B_5 c i arg1 harg1 arg2 harg2 arg6 harg6 arg7 harg7 arg8 harg8 arg9 harg9 arg10 harg10 arg11 harg11 arg12 harg12 hc x0 x1 xs0 xs1 xs2 fh0 fh1 fh2
      = bU x0 x1 xs1 := by
  unfold out0_B_2 out0_B_3 out0_B_4 out0_B_5
  simp only [View.read_writes_junk_eq_canon]
  unfold kernelRun0_B
  dsimp only
  sl_unfold_run_names
  simp only [readAt_whole, readCov_of_whole, canon_whole, ld_all, canon_all, readCov_all]
  dsimp only [bOut, bN, bG, bU, halves, wLo, wHi, dLo, dHi]
  simp only [and_self]

variable (m : (ℓ : Loc nD τ sig) → Buf (Elt F) ℓ)

/-- The outputs at a point, from its blocks and the whole weights, and the weights themselves in the scratch. -/
theorem outs (n : ℕ) (h : n < cfg0.N) : outsAt0 m c n h =
    (bOut (iblk m c 0 ⟨n, h⟩) (iblk m c 1 ⟨n, h⟩) (V m c main_arg2) (V m c main_arg3) (V m c main_arg4),
      bN (iblk m c 0 ⟨n, h⟩) (iblk m c 1 ⟨n, h⟩), bG (iblk m c 0 ⟨n, h⟩) (iblk m c 1 ⟨n, h⟩) (V m c main_arg2),
      bU (iblk m c 0 ⟨n, h⟩) (iblk m c 1 ⟨n, h⟩) (V m c main_arg3), V m c main_arg2, V m c main_arg3, V m c main_arg4) := by
  have hN : cfg0.N = 16 := N_0
  induction n with
  | zero =>
    refine (outsAt0_A m c ⟨0, h⟩ rfl).trans ?_
    obtain ⟨h2, h3, h4, h5, s0, s1, s2⟩ := out_A (iblk m c 0 ⟨0, h⟩) (iblk m c 1 ⟨0, h⟩) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) scM0_2 (Memref.isWhole_whole _) (V m c main_arg2) (V m c main_arg3) (V m c main_arg4) ((hcond0_0 ⟨0, h⟩).mpr rfl)
    exact congr (congrArg Prod.mk h2) (congr (congrArg Prod.mk h3) (congr (congrArg Prod.mk h4) (congr (congrArg Prod.mk h5)
      (congr (congrArg Prod.mk s0) (congr (congrArg Prod.mk s1) s2)))))
  | succ n ih =>
    have h0 : ¬(⟨n + 1, h⟩ : Fin cfg0.N).val % 16 = 0 := by dsimp only; omega
    refine (outsAt0_B m c ⟨n + 1, h⟩ h0).trans ?_
    have e : outsAt0 m c ((⟨n + 1, h⟩ : Fin cfg0.N).val - 1) (Nat.lt_of_le_of_lt (Nat.sub_le _ _) (⟨n + 1, h⟩ : Fin cfg0.N).isLt) = _ := ih (Nat.lt_of_succ_lt h)
    rw [e]
    dsimp only
    obtain ⟨h2, h3, h4, h5⟩ := out_B (iblk m c 0 ⟨n + 1, h⟩) (iblk m c 1 ⟨n + 1, h⟩) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) scM0_2 (Memref.isWhole_whole _) (V m c main_arg2) (V m c main_arg3) (V m c main_arg4) (V m c main_arg2) (V m c main_arg3) (V m c main_arg4) (fun h' => h0 ((hcond0_0 ⟨n + 1, h⟩).mp h'))
    exact congr (congrArg Prod.mk h2) (congr (congrArg Prod.mk h3) (congr (congrArg Prod.mk h4) (congr (congrArg Prod.mk h5) rfl)))

end

/-! ## A row of a block -/

section

variable (x0 : Vec Ideal S512x1024 .f32) (x1 : Vec Ideal S1x1024 .f32) (wg wu : Vec Ideal S1024x2816 .bf16) (wd : Vec Ideal S2816x1024 .bf16)
  (r : Fin 512)

theorem wLo_apply (w : Vec Ideal S1024x2816 .bf16) (k : Fin 1024) (q : Fin 1408) : wLo w (ix2 k q) = w (ix2 k (colLo q)) := congrArg w (by idx_ext)
theorem wHi_apply (w : Vec Ideal S1024x2816 .bf16) (k : Fin 1024) (q : Fin 1408) : wHi w (ix2 k q) = w (ix2 k (colHi q)) := congrArg w (by idx_ext)
theorem dLo_apply (w : Vec Ideal S2816x1024 .bf16) (q : Fin 1408) (k : Fin 1024) : dLo w (ix2 q k) = w (ix2 (colLo q) k) := congrArg w (by idx_ext)
theorem dHi_apply (w : Vec Ideal S2816x1024 .bf16) (q : Fin 1408) (k : Fin 1024) : dHi w (ix2 q k) = w (ix2 (colHi q) k) := congrArg w (by idx_ext)

theorem pay1_apply (k : Fin 1024) : k0_pay1 x0 x1 (ix2 r k) = nrm (fun k => x0 (ix2 r k)) (fun k => x1 (ix2 0 k)) k := by
  pointwise [k0_pay1, nrm, hn, rs]

theorem bG_apply (q : Fin 2816) :
    bG x0 x1 wg (ix2 r q) = proj (fun k => x0 (ix2 r k)) (fun k => x1 (ix2 0 k)) (fun k q => wg (ix2 k q)) q := by
  unfold bG
  refine halves_apply (F := Ideal) (e := .bf16) (k := 512) (n := 2816) _ _
    (fun r => proj (fun k => x0 (ix2 r k)) (fun k => x1 (ix2 0 k)) (fun k q => wg (ix2 k q))) _ _ rfl (fun r q => ?_) (fun r q => ?_) r q
  · pointwise [k0_pay5, k0_pay3, pay1_apply, wLo_apply, proj]
  · pointwise [k0_pay10, k0_pay8, pay1_apply, wHi_apply, proj]

theorem bU_apply (q : Fin 2816) :
    bU x0 x1 wu (ix2 r q) = proj (fun k => x0 (ix2 r k)) (fun k => x1 (ix2 0 k)) (fun k q => wu (ix2 k q)) q := by
  unfold bU
  refine halves_apply (F := Ideal) (e := .bf16) (k := 512) (n := 2816) _ _
    (fun r => proj (fun k => x0 (ix2 r k)) (fun k => x1 (ix2 0 k)) (fun k q => wu (ix2 k q))) _ _ rfl (fun r q => ?_) (fun r q => ?_) r q
  · pointwise [k0_pay6, k0_pay4, pay1_apply, wLo_apply, proj]
  · pointwise [k0_pay11, k0_pay9, pay1_apply, wHi_apply, proj]

theorem bOut_apply (k : Fin 1024) : bOut x0 x1 wg wu wd (ix2 r k)
    = out (fun k => x0 (ix2 r k)) (fun k => x1 (ix2 0 k)) (fun k q => wg (ix2 k q)) (fun k q => wu (ix2 k q)) (fun q k => wd (ix2 q k)) k := by
  unfold out
  rw [Fin.sum_univ_two_halves 1408 1408 rfl]
  pointwise [bOut, k0_pay12, k0_pay2, k0_pay3, k0_pay4, k0_pay7, k0_pay8, k0_pay9, pay1_apply, wLo_apply, wHi_apply, dLo_apply, dHi_apply, act, sg, proj, zero_sub]

end

/-! ## The arrays -/

variable (m : (ℓ : Loc nD τ sig) → Buf (Elt Ideal) ℓ) (c : Dev nD)

theorem index0 : Steps win0_0.index := (by decide +kernel : Steps (N := grid0.N) win0_0.index)

theorem iblk0 (t : Fin cfg0.N) (r : Fin 512) (k : Fin 1024) : iblk m c 0 t (ix2 r k) = V m c main_arg0 (ix2 (tok t.val r) k) :=
  rows (x := fun t => iblk m c 0 t) (A := V m c main_arg0) index0 (fun _ _ => rfl) (fun t i => win0_0.rect_emb_val t i 0) (fun t i => win0_0.rect_emb_val t i 1) t r k
theorem iblk1 (t : Fin cfg0.N) (k : Fin 1024) : iblk m c 1 t (ix2 0 k) = V m c main_arg1 (ix2 0 k) :=
  congrArg (V m c main_arg1) (row_eq _ k (win0_1.rect_emb_val t (ix2 0 k) 1))

/-- The arguments on a device. -/
abbrev a0 : Vec Ideal S8192x1024 .f32 := V m c main_arg0
abbrev a1 : Vec Ideal S1x1024 .f32 := V m c main_arg1
abbrev a2 : Vec Ideal S1024x2816 .bf16 := V m c main_arg2
abbrev a3 : Vec Ideal S1024x2816 .bf16 := V m c main_arg3
abbrev a4 : Vec Ideal S2816x1024 .bf16 := V m c main_arg4

theorem final2 : (dats m 0 c).arrAt 2 cfg0.N = rOut (a0 m c) (a1 m c) (a2 m c) (a3 m c) (a4 m c) :=
  eq_of_rows (b := win0_2.index) index0 (fun t i => win0_2.rect_emb_val t i 0) (fun t i => win0_2.rect_emb_val t i 1) fun (t : Fin cfg0.N) r k => by
    have h := congrFun (Value.blocks2 m c t (flush0_2 t)) (ix2 r k)
    rw [Value.flushed2, outs] at h
    refine h.trans ((bOut_apply _ _ _ _ _ r k).trans ?_)
    simp only [iblk0, iblk1]
    exact (rOut_apply (a0 m c) (a1 m c) (a2 m c) (a3 m c) (a4 m c) (tok t.val r) k).symm

theorem final3 : (dats m 0 c).arrAt 3 cfg0.N = rN (a0 m c) (a1 m c) :=
  eq_of_rows (b := win0_3.index) index0 (fun t i => win0_3.rect_emb_val t i 0) (fun t i => win0_3.rect_emb_val t i 1) fun (t : Fin cfg0.N) r k => by
    have h := congrFun (Value.blocks3 m c t (flush0_3 t)) (ix2 r k)
    rw [Value.flushed3, outs] at h
    refine h.trans ((pay1_apply _ _ r k).trans ?_)
    simp only [iblk0, iblk1]
    exact (rN_apply (a0 m c) (a1 m c) (tok t.val r) k).symm

theorem final4 : (dats m 0 c).arrAt 4 cfg0.N = rP (a0 m c) (a1 m c) (a2 m c) :=
  eq_of_rows (b := win0_4.index) index0 (fun t i => win0_4.rect_emb_val t i 0) (fun t i => win0_4.rect_emb_val t i 1) fun (t : Fin cfg0.N) r q => by
    have h := congrFun (Value.blocks4 m c t (flush0_4 t)) (ix2 r q)
    rw [Value.flushed4, outs] at h
    dsimp only at h
    have hc (X : Vec Ideal S512x2816 .bf16) : (cfg0.win 4).cut (grid0.coords t) X (ix2 r q) = X (ix2 r q) := rfl
    rw [hc, bG_apply] at h
    refine h.trans ?_
    simp only [iblk0, iblk1]
    exact (rP_apply (a0 m c) (a1 m c) (tok t.val r) (a2 m c) q).symm

theorem final5 : (dats m 0 c).arrAt 5 cfg0.N = rP (a0 m c) (a1 m c) (a3 m c) :=
  eq_of_rows (b := win0_5.index) index0 (fun t i => win0_5.rect_emb_val t i 0) (fun t i => win0_5.rect_emb_val t i 1) fun (t : Fin cfg0.N) r q => by
    have h := congrFun (Value.blocks5 m c t (flush0_5 t)) (ix2 r q)
    rw [Value.flushed5, outs] at h
    dsimp only at h
    have hc (X : Vec Ideal S512x2816 .bf16) : (cfg0.win 5).cut (grid0.coords t) X (ix2 r q) = X (ix2 r q) := rfl
    rw [hc, bU_apply] at h
    refine h.trans ?_
    simp only [iblk0, iblk1]
    exact (rP_apply (a0 m c) (a1 m c) (tok t.val r) (a3 m c) q).symm

/-! ## The claims -/

theorem frame : Cert.quiescent_FfnFwd := fun m ρ _ => Cert.FfnFwd.Gen.frame m ρ
theorem frame_ideal : Cert.quiescent_FfnFwdIdeal := fun m ρ _ => Cert.FfnFwdIdeal.Gen.frame m ρ
theorem frame_reference : Cert.quiescent_FfnFwdReferenceIdeal := fun m ρ _ =>
  (θ_run Cert.FfnFwdReferenceIdeal.defs _ _).mono (fun r h => ⟨fun c => (h c).2.2.2.2, sem_eq_zero_of_no_sems (by decide) r.2⟩)
    (Cert.FfnFwdReferenceIdeal.Value.run (F := Ideal) m ρ)

theorem algebraic : Cert.algebraic_FfnFwdIdeal_FfnFwdReferenceIdeal := by
  intro m ρ m' ρ' _ hagree
  refine ⟨_, _, _, _, Cert.FfnFwdIdeal.Value.run_blocks (F := Ideal) m ρ, ?_⟩
  refine (θ_run Cert.FfnFwdReferenceIdeal.defs _ _).mono (fun r h c => ?_) (Cert.FfnFwdReferenceIdeal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩
  · rw [e0, e1, e2, e3, e4]
    exact (final2 m c).symm
  · rw [e0, e1]
    exact (final3 m c).symm
  · rw [e0, e1, e2]
    exact (final4 m c).symm
  · rw [e0, e1, e3]
    exact (final5 m c).symm

end Cert.FfnForward

end
-- ==== Proof.InForward.lean ====
/- The input projection on one device: the normalized input, and its product with w_in plus b_in. A point of 512 tokens takes
   the 5120 columns in five pieces; a piece is stated once, for any column it starts at. -/
module

public import proofs.«01_k».proof.Proof.FfnForward
public import proofs.«01_k».proof.Proof.Gen.InFwd.Frame
public import proofs.«01_k».proof.Proof.Gen.InFwdIdeal.Value
public import proofs.«01_k».proof.Proof.Gen.InFwdReferenceIdeal.Run

@[expose] public section

set_option maxRecDepth 16384

noncomputable section

open Idealize.ShloMosaic Idealize.ShloMosaic.TcCoe Idealize.ShloMosaic.Tactic Idealize.SL.Sem

namespace Cert.InForward

open Cert.Layer Cert.FfnRow
open Cert.FfnForward (nrm proj rN rN_apply)

/-! ## The reference -/

section

open Cert.InFwdReferenceIdeal Cert.InFwdReferenceIdeal.Gen

def rZ {F : FTy → Type} [FloatOps F] (A0 : Vec F S8192x1024 .f32) (A1 : Vec F S1x1024 .f32) (A2 : Vec F S1024x5120 .bf16) (A3 : Vec F S1x5120 .f32) :
    Vec F S8192x5120 .f32 :=
  addf (Host.dotGeneral dot_S8192x1024_S1024x5120_S8192x5120_1_0_0_1_n_n none (rN A0 A1) (extf .f32 A2 bitsLt_bf16_f32))
    (broadcastInDim S8192x5120 ![0, 1] bcast_S1x5120_S8192x5120_0_1 A3)

theorem rZ_apply (A0 : Vec Ideal S8192x1024 .f32) (A1 : Vec Ideal S1x1024 .f32) (A2 : Vec Ideal S1024x5120 .bf16) (A3 : Vec Ideal S1x5120 .f32)
    (n : Fin 8192) (q : Fin 5120) : rZ A0 A1 A2 A3 (ix2 n q)
    = proj (fun k => A0 (ix2 n k)) (fun k => A1 (ix2 0 k)) (fun k q => A2 (ix2 k q)) q + A3 (ix2 0 q) := by
  pointwise [rZ, rN_apply, proj]

end

/-! ## What a point leaves -/

open Cert.InFwdIdeal Cert.InFwdIdeal.Gen

section

variable {F : FTy → Type} [FloatOps F]

/-- 1024 columns from column `j` on: of the weight, of the bias, and of what a point stores. -/
def wAt (j : ℕ) (inb : ∀ a, (![0, j] : Fin 2 → ℕ) a + S1024x1024.size a ≤ S1024x5120.size a) (w : Vec F S1024x5120 .bf16) : Vec F S1024x1024 .bf16 := View.ld w (Rect.unit (s := S1024x5120) ![0, j] S1024x1024.size inb)
def bAt (j : ℕ) (inb : ∀ a, (![0, j] : Fin 2 → ℕ) a + S1x1024.size a ≤ S1x5120.size a) (b : Vec F S1x5120 .f32) : Vec F S1x1024 .f32 := View.ld b (Rect.unit (s := S1x5120) ![0, j] S1x1024.size inb)
def zAt (j : ℕ) (inb : ∀ a, (![0, j] : Fin 2 → ℕ) a + S512x1024.size a ≤ S512x5120.size a)
    (inw : ∀ a, (![0, j] : Fin 2 → ℕ) a + S1024x1024.size a ≤ S1024x5120.size a) (inv : ∀ a, (![0, j] : Fin 2 → ℕ) a + S1x1024.size a ≤ S1x5120.size a) (x0 : Vec F S512x1024 .f32) (x1 : Vec F S1x1024 .f32) (x2 : Vec F S1x5120 .f32) (w : Vec F S1024x5120 .bf16) :
    View.Piece (Elt F) S512x5120 .bf16 :=
  ⟨Rect.unit (s := S512x5120) ![0, j] S512x1024.size inb, k0_pay1 (k0_pay4 x0 x1) (wAt j inw w) (bAt j inv x2)⟩

variable (x0 : Vec F S512x1024 .f32) (x1 : Vec F S1x1024 .f32) (x2 : Vec F S1x5120 .f32) (w : Vec F S1024x5120 .bf16)

def bN : Vec F S512x1024 .bf16 := k0_pay4 x0 x1
def bZ : Vec F S512x5120 .bf16 := View.canon [
  zAt 4096 inb_S512x5120_S512x1024_0_4096 inb_S1024x5120_S1024x1024_0_4096 inb_S1x5120_S1x1024_0_4096 x0 x1 x2 w,
  zAt 3072 inb_S512x5120_S512x1024_0_3072 inb_S1024x5120_S1024x1024_0_3072 inb_S1x5120_S1x1024_0_3072 x0 x1 x2 w,
  zAt 2048 inb_S512x5120_S512x1024_0_2048 inb_S1024x5120_S1024x1024_0_2048 inb_S1x5120_S1x1024_0_2048 x0 x1 x2 w,
  zAt 1024 inb_S512x5120_S512x1024_0_1024 inb_S1024x5120_S1024x1024_0_1024 inb_S1x5120_S1x1024_0_1024 x0 x1 x2 w,
  zAt 0 inb_S512x5120_S512x1024_0_0 inb_S1024x5120_S1024x1024_0_0 inb_S1x5120_S1x1024_0_0 x0 x1 x2 w]

variable (c : Dev nD) (i : grid0.Coords)
  (arg1 : Memref sig .tc .vmem S512x1024 .f32) (harg1 : arg1.IsWhole) (arg2 : Memref sig .tc .vmem S1x1024 .f32) (harg2 : arg2.IsWhole)
  (arg4 : Memref sig .tc .vmem S1x5120 .f32) (harg4 : arg4.IsWhole) (arg5 : Memref sig .tc .vmem S512x1024 .bf16) (harg5 : arg5.IsWhole)
  (arg6 : Memref sig .tc .vmem S512x5120 .bf16) (harg6 : arg6.IsWhole) (arg7 : Memref sig .tc .vmem S1024x5120 .bf16) (harg7 : arg7.IsWhole)
  (xs0 : Vec F S1024x5120 .bf16) (fh0 : HbBuf0 (F := F) c hbM0_0)

/-- At the first point the weight is what the copy brought; it stays in the scratch. -/
theorem out_A (hc : cond0_0 i) :
    out0_A_3 c i arg1 harg1 arg2 harg2 arg4 harg4 arg5 harg5 arg6 harg6 arg7 harg7 hc x0 x1 x2 fh0 = bN x0 x1
    ∧ out0_A_4 c i arg1 harg1 arg2 harg2 arg4 harg4 arg5 harg5 arg6 harg6 arg7 harg7 hc x0 x1 x2 fh0 = bZ x0 x1 x2 fh0
    ∧ sout0_A_0 c i arg1 harg1 arg2 harg2 arg4 harg4 arg5 harg5 arg6 harg6 arg7 harg7 hc x0 x1 x2 fh0 = fh0 := by
  unfold out0_A_3 out0_A_4 sout0_A_0
  simp only [View.read_writes_junk_eq_canon]
  unfold kernelRun0_A
  dsimp only
  sl_unfold_run_names
  simp only [readAt_whole, readCov_of_whole, canon_whole, ld_all, canon_all, readCov_all]
  simp only [ReadAs.same, ReadAs.apply, View.read_whole]
  exact ⟨rfl, rfl, trivial⟩

/-- At a later point the weight is what the scratch holds. -/
theorem out_B (hc : ¬cond0_0 i) :
    out0_B_3 c i arg1 harg1 arg2 harg2 arg4 harg4 arg5 harg5 arg6 harg6 arg7 harg7 hc x0 x1 x2 xs0 fh0 = bN x0 x1
    ∧ out0_B_4 c i arg1 harg1 arg2 harg2 arg4 harg4 arg5 harg5 arg6 harg6 arg7 harg7 hc x0 x1 x2 xs0 fh0 = bZ x0 x1 x2 xs0 := by
  unfold out0_B_3 out0_B_4
  simp only [View.read_writes_junk_eq_canon]
  unfold kernelRun0_B
  dsimp only
  sl_unfold_run_names
  simp only [readAt_whole, readCov_of_whole, canon_whole, ld_all, canon_all, readCov_all]
  exact ⟨rfl, rfl⟩

variable (m : (ℓ : Loc nD τ sig) → Buf (Elt F) ℓ)

/-- The outputs at a point, from its blocks and the whole weight, and the weight itself in the scratch. -/
theorem outs (n : ℕ) (h : n < cfg0.N) : outsAt0 m c n h =
    (bN (iblk m c 0 ⟨n, h⟩) (iblk m c 1 ⟨n, h⟩), bZ (iblk m c 0 ⟨n, h⟩) (iblk m c 1 ⟨n, h⟩) (iblk m c 2 ⟨n, h⟩) (V m c main_arg2),
      V m c main_arg2) := by
  have hN : cfg0.N = 16 := N_0
  induction n with
  | zero =>
    refine (outsAt0_A m c ⟨0, h⟩ rfl).trans ?_
    obtain ⟨h3, h4, s0⟩ := out_A (iblk m c 0 ⟨0, h⟩) (iblk m c 1 ⟨0, h⟩) (iblk m c 2 ⟨0, h⟩) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) (V m c main_arg2) ((hcond0_0 ⟨0, h⟩).mpr rfl)
    exact congr (congrArg Prod.mk h3) (congr (congrArg Prod.mk h4) s0)
  | succ n ih =>
    have h0 : ¬(⟨n + 1, h⟩ : Fin cfg0.N).val % 16 = 0 := by dsimp only; omega
    refine (outsAt0_B m c ⟨n + 1, h⟩ h0).trans ?_
    have e : outsAt0 m c ((⟨n + 1, h⟩ : Fin cfg0.N).val - 1) (Nat.lt_of_le_of_lt (Nat.sub_le _ _) (⟨n + 1, h⟩ : Fin cfg0.N).isLt) = _ := ih (Nat.lt_of_succ_lt h)
    rw [e]
    dsimp only
    obtain ⟨h3, h4⟩ := out_B (iblk m c 0 ⟨n + 1, h⟩) (iblk m c 1 ⟨n + 1, h⟩) (iblk m c 2 ⟨n + 1, h⟩) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (V m c main_arg2) (V m c main_arg2) (fun h' => h0 ((hcond0_0 ⟨n + 1, h⟩).mp h'))
    exact congr (congrArg Prod.mk h3) (congr (congrArg Prod.mk h4) rfl)

end

/-! ## A row of a block -/

section

variable (x0 : Vec Ideal S512x1024 .f32) (x1 : Vec Ideal S1x1024 .f32) (x2 : Vec Ideal S1x5120 .f32) (w : Vec Ideal S1024x5120 .bf16)

theorem bN_apply (r : Fin 512) (k : Fin 1024) : k0_pay4 x0 x1 (ix2 r k) = nrm (fun k => x0 (ix2 r k)) (fun k => x1 (ix2 0 k)) k := by
  pointwise [k0_pay4, nrm, hn, rs]

/-- The projection at row `r` and column `q`. -/
def zRow (r : Fin 512) (q : Fin 5120) : EReal := proj (fun k => x0 (ix2 r k)) (fun k => x1 (ix2 0 k)) (fun k q => w (ix2 k q)) q + x2 (ix2 0 q)

/-- A piece is a piece of it, wherever it starts. -/
theorem piece_apply (j : ℕ) (inw inv) (r : Fin 512) (q : Fin 1024) (h : j + q.val < 5120) :
    k0_pay1 (k0_pay4 x0 x1) (wAt j inw w) (bAt j inv x2) (ix2 r q) = zRow x0 x1 x2 w r ⟨j + q.val, h⟩ := by
  have hw (k : Fin 1024) : wAt j inw w (ix2 k q) = w (ix2 k ⟨j + q.val, h⟩) := cols_apply inw w k q h
  have hb : bAt j inv x2 (ix2 0 q) = x2 (ix2 0 ⟨j + q.val, h⟩) := cols_apply inv x2 0 q h
  pointwise [k0_pay1, bN_apply, hw, hb, proj, zRow]

theorem bZ_apply (r : Fin 512) (q : Fin 5120) : bZ x0 x1 x2 w (ix2 r q) = zRow x0 x1 x2 w r q := by
  unfold bZ
  refine pieces_apply (F := Ideal) (e := .bf16) (k := 512) (n := 5120) (zRow x0 x1 x2 w) _ (fun p hp => ?_) (fun q => ?_) r q
  · simp only [List.mem_cons, List.not_mem_nil, or_false] at hp
    rcases hp with rfl | rfl | rfl | rfl | rfl <;> exact ⟨_, _, _, _, rfl, fun r q h => piece_apply x0 x1 x2 w _ _ _ r q h⟩
  · have hq := q.isLt
    obtain h | h | h | h | h : q.val < 1024 ∨ (1024 ≤ q.val ∧ q.val < 2048) ∨ (2048 ≤ q.val ∧ q.val < 3072) ∨ (3072 ≤ q.val ∧ q.val < 4096)
      ∨ 4096 ≤ q.val := by omega
    · exact ⟨_, .tail _ (.tail _ (.tail _ (.tail _ (.head _)))), Nat.zero_le _, h⟩
    · exact ⟨_, .tail _ (.tail _ (.tail _ (.head _))), h.1, h.2⟩
    · exact ⟨_, .tail _ (.tail _ (.head _)), h.1, h.2⟩
    · exact ⟨_, .tail _ (.head _), h.1, h.2⟩
    · exact ⟨_, .head _, h, hq⟩

end

/-! ## The arrays -/

variable (m : (ℓ : Loc nD τ sig) → Buf (Elt Ideal) ℓ) (c : Dev nD)

theorem index0 : Steps win0_0.index := (by decide +kernel : Steps (N := grid0.N) win0_0.index)

theorem iblk0 (t : Fin cfg0.N) (r : Fin 512) (k : Fin 1024) : iblk m c 0 t (ix2 r k) = V m c main_arg0 (ix2 (tok t.val r) k) :=
  rows (x := fun t => iblk m c 0 t) (A := V m c main_arg0) index0 (fun _ _ => rfl) (fun t i => win0_0.rect_emb_val t i 0) (fun t i => win0_0.rect_emb_val t i 1) t r k
theorem iblk1 (t : Fin cfg0.N) (k : Fin 1024) : iblk m c 1 t (ix2 0 k) = V m c main_arg1 (ix2 0 k) :=
  congrArg (V m c main_arg1) (row_eq _ k (win0_1.rect_emb_val t (ix2 0 k) 1))
theorem iblk2 (t : Fin cfg0.N) (q : Fin 5120) : iblk m c 2 t (ix2 0 q) = V m c main_arg3 (ix2 0 q) :=
  congrArg (V m c main_arg3) (row_eq _ q (win0_2.rect_emb_val t (ix2 0 q) 1))

/-- The arguments on a device. -/
abbrev a0 : Vec Ideal S8192x1024 .f32 := V m c main_arg0
abbrev a1 : Vec Ideal S1x1024 .f32 := V m c main_arg1
abbrev a2 : Vec Ideal S1024x5120 .bf16 := V m c main_arg2
abbrev a3 : Vec Ideal S1x5120 .f32 := V m c main_arg3

theorem final3 : (dats m 0 c).arrAt 3 cfg0.N = rN (a0 m c) (a1 m c) :=
  eq_of_rows (b := win0_3.index) index0 (fun t i => win0_3.rect_emb_val t i 0) (fun t i => win0_3.rect_emb_val t i 1) fun (t : Fin cfg0.N) r k => by
    have h := congrFun (Value.blocks3 m c t (flush0_3 t)) (ix2 r k)
    rw [Value.flushed3, outs] at h
    refine h.trans ((bN_apply (iblk m c 0 t) (iblk m c 1 t) r k).trans ?_)
    simp only [iblk0, iblk1]
    exact (rN_apply (a0 m c) (a1 m c) (tok t.val r) k).symm

theorem final4 : (dats m 0 c).arrAt 4 cfg0.N = rZ (a0 m c) (a1 m c) (a2 m c) (a3 m c) :=
  eq_of_rows (b := win0_4.index) index0 (fun t i => win0_4.rect_emb_val t i 0) (fun t i => win0_4.rect_emb_val t i 1) fun (t : Fin cfg0.N) r q => by
    have h := congrFun (Value.blocks4 m c t (flush0_4 t)) (ix2 r q)
    rw [Value.flushed4, outs] at h
    dsimp only at h
    have hc (X : Vec Ideal S512x5120 .bf16) : (cfg0.win 4).cut (grid0.coords t) X (ix2 r q) = X (ix2 r q) := rfl
    rw [hc, bZ_apply] at h
    refine h.trans ?_
    simp only [zRow, iblk0, iblk1, iblk2]
    exact (rZ_apply (a0 m c) (a1 m c) (a2 m c) (a3 m c) (tok t.val r) q).symm

/-! ## The claims -/

theorem frame : Cert.quiescent_InFwd := fun m ρ _ => Cert.InFwd.Gen.frame m ρ
theorem frame_ideal : Cert.quiescent_InFwdIdeal := fun m ρ _ => Cert.InFwdIdeal.Gen.frame m ρ
theorem frame_reference : Cert.quiescent_InFwdReferenceIdeal := fun m ρ _ =>
  (θ_run Cert.InFwdReferenceIdeal.defs _ _).mono (fun r h => ⟨fun c => (h c).2.2, sem_eq_zero_of_no_sems (by decide) r.2⟩)
    (Cert.InFwdReferenceIdeal.Value.run (F := Ideal) m ρ)

theorem algebraic : Cert.algebraic_InFwdIdeal_InFwdReferenceIdeal := by
  intro m ρ m' ρ' _ hagree
  refine ⟨_, _, Cert.InFwdIdeal.Value.run_blocks (F := Ideal) m ρ, ?_⟩
  refine (θ_run Cert.InFwdReferenceIdeal.defs _ _).mono (fun r h c => ?_) (Cert.InFwdReferenceIdeal.Value.run (F := Ideal) m' ρ')
  obtain ⟨h0, h1, hk⟩ := h c
  obtain ⟨e0, e1, e2, e3⟩ := hagree c
  refine ⟨h0.trans ?_, h1.trans ?_, hk⟩
  · rw [e0, e1]
    exact (final3 m c).symm
  · rw [e0, e1, e2, e3]
    exact (final4 m c).symm

end Cert.InForward

end
-- ==== Proof.NormBackward.lean ====
/- The derivative of a norm's output in its input and in its gain, from the gradient of the output: a row of it, the reference's
   arrays of it, and sums over the tokens taken 512 at a time. -/
module

public import proofs.«01_k».proof.Proof.FfnRow
public import proofs.«01_k».proof.Proof.Layer

@[expose] public section

set_option maxRecDepth 16384

noncomputable section

open Idealize.ShloMosaic Idealize.ShloMosaic.TcCoe Idealize.SL.Sem

namespace Cert.NormBackward

open Cert.Layer
open Cert.FfnRow hiding da sg dg du act dn dh gain

section

/- A token's gradient of the norm's output, its input and the gain. -/
variable (g h gn : Fin 1024 → EReal)

/-- The gradient of the input; the token's part of the gain's gradient. -/
def dh (k : Fin 1024) : EReal := rs h * (g k * gn k - hn h k * Ideal.div (∑ j, g j * gn j * hn h j) width)
def gain (k : Fin 1024) : EReal := g k * hn h k

end

/-! ## The reference -/

section

open Cert.FfnBwdReferenceIdeal Cert.FfnBwdReferenceIdeal.Gen

section

variable {F : FTy → Type} [FloatOps F] (G H : Vec F S8192x1024 .f32) (A : Vec F S1x1024 .f32)

def rNg : Vec F S8192x1024 .f32 := mulf G (broadcastInDim S8192x1024 ![0, 1] bcast_S1x1024_S8192x1024_0_1 A)
def rNh : Vec F S8192x1024 .f32 := mulf (rRs H) (subf (rNg G A)
  (mulf (rHn H) (broadcastInDim S8192x1024 ![0, 1] bcast_S8192x1_S8192x1024_0_1 (rMean (mulf (rNg G A) (rHn H))))))
def rNgain : Vec F S1x1024 .f32 := broadcastInDim S1x1024 ![1] bcast_S1024_S1x1024_1
  (Host.reduceAdd (mulf G (rHn H)) (constant S_ .f32 0x00000000#32) reducesTo_S8192x1024_S1024_d0 h_S_)

end

variable (G H : Vec Ideal S8192x1024 .f32) (A : Vec Ideal S1x1024 .f32)

theorem rNh_apply (n : Fin 8192) (k : Fin 1024) :
    rNh G H A (ix2 n k) = dh (fun k => G (ix2 n k)) (fun k => H (ix2 n k)) (fun k => A (ix2 0 k)) k := by
  pointwise [rNh, rNg, rMean, rRs_apply, rHn_apply, dh]

theorem rNgain_apply (k : Fin 1024) : rNgain G H (ix2 0 k) = ∑ n, gain (fun k => G (ix2 n k)) (fun k => H (ix2 n k)) k := by
  pointwise [rNgain, rHn_apply, gain]

end

/-! ## Sums over the tokens -/

/-- What 16 points leave, each adding its block's part to what the point before it left. -/
theorem sum_points {N : ℕ} (a : (n : ℕ) → n < N → EReal) (f : Fin 8192 → EReal) (h0 : ∀ h, a 0 h = ∑ s, f (tok 0 s))
    (hs : ∀ n h, a (n + 1) h = a n (Nat.lt_of_succ_lt h) + ∑ s, f (tok (n + 1) s)) (h : 15 < N) : a 15 h = ∑ n, f n := by
  have step : ∀ n h, a n h = ∑ t : Fin (n + 1), ∑ s, f (tok t.val s) := by
    intro n
    induction n with
    | zero => exact fun h => (h0 h).trans (Fin.sum_univ_one (f := fun t : Fin 1 => ∑ s, f (tok t.val s))).symm
    | succ n ih =>
      intro h
      rw [hs, ih, Fin.sum_univ_castSucc (n := n + 1)]
      rfl
  refine (step 15 h).trans (Eq.trans ?_ (Fin.sum_univ_tiles 16 512 rfl f).symm)
  refine Finset.sum_congr rfl fun t _ => Finset.sum_congr rfl fun s _ => congrArg f (Fin.ext ?_)
  have ht : t.val < 16 := t.isLt
  show t.val % 16 * 512 + s.val = t.val * 512 + s.val
  omega

end Cert.NormBackward

end
-- ==== Proof.InBackward.lean ====
/- The input projection's backward on one device: the gradient of the normalized input is the product with the transposed weight,
   over the 5120 columns in five pieces; the norm's derivative follows. The gain's gradient is summed over the 16 points. -/
module

public import proofs.«01_k».proof.Defs
public import proofs.«01_k».proof.Proof.NormBackward
public import proofs.«01_k».proof.Proof.Gen.InBwd.Frame
public import proofs.«01_k».proof.Proof.Gen.InBwdIdeal.Value
public import proofs.«01_k».proof.Proof.Gen.InBwdReferenceIdeal.Run

@[expose] public section

set_option maxRecDepth 16384

noncomputable section

open Idealize.ShloMosaic Idealize.ShloMosaic.TcCoe Idealize.ShloMosaic.Tactic Idealize.SL.Sem

namespace Cert.InBackward

open Cert.Layer Cert.NormBackward
open Cert.FfnRow (rs hn)

/-- A row of the gradient of the normalized input. -/
def du (dz : Fin 5120 → EReal) (w : Fin 1024 → Fin 5120 → EReal) (k : Fin 1024) : EReal := ∑ q, dz q * w k q

/-! ## The reference -/

section

open Cert.InBwdReferenceIdeal Cert.InBwdReferenceIdeal.Gen

section

variable {F : FTy → Type} [FloatOps F]
variable (A0 : Vec F S8192x5120 .bf16) (A1 A2 : Vec F S8192x1024 .f32) (A3 : Vec F S1x1024 .f32) (A4 : Vec F S1024x5120 .bf16)

def rDu : Vec F S8192x1024 .f32 := Host.dotGeneral dot_S8192x5120_S5120x1024_S8192x1024_1_0_0_1_n_n none (extf .f32 A0 bitsLt_bf16_f32)
  (transpose S5120x1024 [1, 0] (extf .f32 A4 bitsLt_bf16_f32) transposes_S1024x5120_S5120x1024_1_0)
def rDh : Vec F S8192x1024 .f32 := addf A1 (rNh (rDu A0 A4) A2 A3)
def rGain : Vec F S1x1024 .f32 := rNgain (rDu A0 A4) A2

end

variable (A0 : Vec Ideal S8192x5120 .bf16) (A1 A2 : Vec Ideal S8192x1024 .f32) (A3 : Vec Ideal S1x1024 .f32) (A4 : Vec Ideal S1024x5120 .bf16)

theorem rDu_apply (n : Fin 8192) (k : Fin 1024) : rDu A0 A4 (ix2 n k) = du (fun q => A0 (ix2 n q)) (fun k q => A4 (ix2 k q)) k := by
  pointwise [rDu, du]

theorem rDh_apply (n : Fin 8192) (k : Fin 1024) : rDh A0 A1 A2 A3 A4 (ix2 n k)
    = A1 (ix2 n k) + dh (du (fun q => A0 (ix2 n q)) (fun k q => A4 (ix2 k q))) (fun k => A2 (ix2 n k)) (fun k => A3 (ix2 0 k)) k := by
  refine congrArg (A1 (ix2 n k) + ·) ((rNh_apply (rDu A0 A4) A2 A3 n k).trans ?_)
  simp only [rDu_apply]

theorem rGain_apply (k : Fin 1024) : rGain A0 A2 A4 (ix2 0 k)
    = ∑ n, gain (du (fun q => A0 (ix2 n q)) (fun k q => A4 (ix2 k q))) (fun k => A2 (ix2 n k)) k := by
  refine (rNgain_apply (rDu A0 A4) A2 k).trans ?_
  simp only [rDu_apply]

end

/-! ## What a point leaves -/

open Cert.InBwdIdeal Cert.InBwdIdeal.Gen

section

variable {F : FTy → Type} [FloatOps F]

/-- 1024 columns from column `j` on, of the incoming gradient and of the weight. -/
def zAt (j : ℕ) (inb : ∀ a, (![0, j] : Fin 2 → ℕ) a + S512x1024.size a ≤ S512x5120.size a) (x : Vec F S512x5120 .bf16) : Vec F S512x1024 .bf16 :=
  View.ld x (Rect.unit (s := S512x5120) ![0, j] S512x1024.size inb)
def wAt (j : ℕ) (inb : ∀ a, (![0, j] : Fin 2 → ℕ) a + S1024x1024.size a ≤ S1024x5120.size a) (w : Vec F S1024x5120 .bf16) : Vec F S1024x1024 .bf16 :=
  View.ld w (Rect.unit (s := S1024x5120) ![0, j] S1024x1024.size inb)

variable (x0 : Vec F S512x5120 .bf16) (x1 x2 : Vec F S512x1024 .f32) (x3 : Vec F S1x1024 .f32) (w : Vec F S1024x5120 .bf16)

def bDu : Vec F S512x1024 .f32 := k0_pay6
  (zAt 0 inb_S512x5120_S512x1024_0_0 x0) (wAt 0 inb_S1024x5120_S1024x1024_0_0 w)
  (zAt 1024 inb_S512x5120_S512x1024_0_1024 x0) (wAt 1024 inb_S1024x5120_S1024x1024_0_1024 w)
  (zAt 2048 inb_S512x5120_S512x1024_0_2048 x0) (wAt 2048 inb_S1024x5120_S1024x1024_0_2048 w)
  (zAt 3072 inb_S512x5120_S512x1024_0_3072 x0) (wAt 3072 inb_S1024x5120_S1024x1024_0_3072 w)
  (zAt 4096 inb_S512x5120_S512x1024_0_4096 x0) (wAt 4096 inb_S1024x5120_S1024x1024_0_4096 w)
def bDh : Vec F S512x1024 .f32 := k0_pay4 (bDu x0 w) x2 (k0_pay7 x2) x3 x1
def bGain (acc : Vec F S1x1024 .f32) : Vec F S1x1024 .f32 := k0_pay3 (bDu x0 w) x2 (k0_pay7 x2) acc

variable (c : Dev nD) (i : grid0.Coords)
  (arg1 : Memref sig .tc .vmem S512x5120 .bf16) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S1x1024 .f32) (harg4 : arg4.IsWhole)
  (arg6 : Memref sig .tc .vmem S512x1024 .f32) (harg6 : arg6.IsWhole) (arg7 : Memref sig .tc .vmem S1x1024 .f32) (harg7 : arg7.IsWhole)
  (arg8 : Memref sig .tc .vmem S1024x5120 .bf16) (harg8 : arg8.IsWhole)
  (xo5 : Vec F S1x1024 .f32) (xs0 : Vec F S1024x5120 .bf16) (fh0 : HbBuf0 (F := F) c hbM0_0)

/-- At the first point the weight is what the copy brought, and the gain's gradient starts from zero. -/
theorem out_A (hc : cond0_0 i) :
    out0_A_4 c i arg1 harg1 arg2 harg2 arg3 harg3 arg4 harg4 arg6 harg6 arg7 harg7 arg8 harg8 hc x0 x1 x2 x3 fh0 = bDh x0 x1 x2 x3 fh0
    ∧ out0_A_5 c i arg1 harg1 arg2 harg2 arg3 harg3 arg4 harg4 arg6 harg6 arg7 harg7 arg8 harg8 hc x0 x1 x2 x3 fh0 = bGain x0 x2 fh0 k0_pay5
    ∧ sout0_A_0 c i arg1 harg1 arg2 harg2 arg3 harg3 arg4 harg4 arg6 harg6 arg7 harg7 arg8 harg8 hc x0 x1 x2 x3 fh0 = fh0 := by
  unfold out0_A_4 out0_A_5 sout0_A_0
  simp only [View.read_writes_junk_eq_canon]
  unfold kernelRun0_A
  dsimp only
  sl_unfold_run_names
  simp only [readAt_whole, readCov_of_whole, canon_whole, ld_all, canon_all, readCov_all]
  simp only [ReadAs.same, ReadAs.apply, View.read_whole]
  exact ⟨rfl, rfl, trivial⟩

/-- At a later point the weight is what the scratch holds, and the gain's gradient goes on from what the block holds. -/
theorem out_B (hc : ¬cond0_0 i) :
    out0_B_4 c i arg1 harg1 arg2 harg2 arg3 harg3 arg4 harg4 arg6 harg6 arg7 harg7 arg8 harg8 hc x0 x1 x2 x3 xo5 xs0 fh0 = bDh x0 x1 x2 x3 xs0
    ∧ out0_B_5 c i arg1 harg1 arg2 harg2 arg3 harg3 arg4 harg4 arg6 harg6 arg7 harg7 arg8 harg8 hc x0 x1 x2 x3 xo5 xs0 fh0 = bGain x0 x2 xs0 xo5 := by
  unfold out0_B_4 out0_B_5
  simp only [View.read_writes_junk_eq_canon]
  unfold kernelRun0_B
  dsimp only
  sl_unfold_run_names
  simp only [readAt_whole, readCov_of_whole, canon_whole, ld_all, canon_all, readCov_all]
  exact ⟨rfl, rfl⟩

variable (m : (ℓ : Loc nD τ sig) → Buf (Elt F) ℓ)

/-- The gain's gradient after point `n`. -/
def acc : (n : ℕ) → n < cfg0.N → Vec F S1x1024 .f32
  | 0, h => bGain (iblk m c 0 ⟨0, h⟩) (iblk m c 2 ⟨0, h⟩) (V m c main_arg4) k0_pay5
  | n + 1, h => bGain (iblk m c 0 ⟨n + 1, h⟩) (iblk m c 2 ⟨n + 1, h⟩) (V m c main_arg4) (acc n (Nat.lt_of_succ_lt h))

/-- The outputs at a point, from its blocks and the whole weight, and the weight itself in the scratch. -/
theorem outs (n : ℕ) (h : n < cfg0.N) : outsAt0 m c n h =
    (bDh (iblk m c 0 ⟨n, h⟩) (iblk m c 1 ⟨n, h⟩) (iblk m c 2 ⟨n, h⟩) (iblk m c 3 ⟨n, h⟩) (V m c main_arg4), acc c m n h, V m c main_arg4) := by
  have hN : cfg0.N = 16 := N_0
  induction n with
  | zero =>
    refine (outsAt0_A m c ⟨0, h⟩ rfl).trans ?_
    obtain ⟨h4, h5, s0⟩ := out_A (iblk m c 0 ⟨0, h⟩) (iblk m c 1 ⟨0, h⟩) (iblk m c 2 ⟨0, h⟩) (iblk m c 3 ⟨0, h⟩) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) (V m c main_arg4) ((hcond0_0 ⟨0, h⟩).mpr rfl)
    exact congr (congrArg Prod.mk h4) (congr (congrArg Prod.mk h5) s0)
  | succ n ih =>
    have h0 : ¬(⟨n + 1, h⟩ : Fin cfg0.N).val % 16 = 0 := by dsimp only; omega
    refine (outsAt0_B m c ⟨n + 1, h⟩ h0).trans ?_
    have e : outsAt0 m c ((⟨n + 1, h⟩ : Fin cfg0.N).val - 1) (Nat.lt_of_le_of_lt (Nat.sub_le _ _) (⟨n + 1, h⟩ : Fin cfg0.N).isLt) = _ := ih (Nat.lt_of_succ_lt h)
    rw [e]
    dsimp only
    obtain ⟨h4, h5⟩ := out_B (iblk m c 0 ⟨n + 1, h⟩) (iblk m c 1 ⟨n + 1, h⟩) (iblk m c 2 ⟨n + 1, h⟩) (iblk m c 3 ⟨n + 1, h⟩) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (acc c m n (Nat.lt_of_succ_lt h)) (V m c main_arg4) (V m c main_arg4) (fun h' => h0 ((hcond0_0 ⟨n + 1, h⟩).mp h'))
    exact congr (congrArg Prod.mk h4) (congr (congrArg Prod.mk h5) rfl)

end

/-! ## A row of a block -/

section

variable (x0 : Vec Ideal S512x5120 .bf16) (x1 x2 : Vec Ideal S512x1024 .f32) (x3 : Vec Ideal S1x1024 .f32) (w : Vec Ideal S1024x5120 .bf16)

/-- A piece of the product, wherever it starts. -/
theorem piece_apply (j : ℕ) (inb inw) (hj : j + 1024 ≤ 5120) (r : Fin 512) (k : Fin 1024) :
    ∑ q : Fin 1024, zAt j inb x0 (ix2 r q) * wAt j inw w (ix2 k q)
    = ∑ q : Fin 1024, x0 (ix2 r ⟨j + q.val, by omega⟩) * w (ix2 k ⟨j + q.val, by omega⟩) :=
  Finset.sum_congr rfl fun q _ => congrArg₂ (· * ·) (cols_apply inb x0 r q (by omega)) (cols_apply inw w k q (by omega))

theorem bDu_apply (r : Fin 512) (k : Fin 1024) : bDu x0 w (ix2 r k) = du (fun q => x0 (ix2 r q)) (fun k q => w (ix2 k q)) k := by
  have h : bDu x0 w (ix2 r k)
      = ∑ q, zAt 0 inb_S512x5120_S512x1024_0_0 x0 (ix2 r q) * wAt 0 inb_S1024x5120_S1024x1024_0_0 w (ix2 k q)
      + ∑ q, zAt 1024 inb_S512x5120_S512x1024_0_1024 x0 (ix2 r q) * wAt 1024 inb_S1024x5120_S1024x1024_0_1024 w (ix2 k q)
      + ∑ q, zAt 2048 inb_S512x5120_S512x1024_0_2048 x0 (ix2 r q) * wAt 2048 inb_S1024x5120_S1024x1024_0_2048 w (ix2 k q)
      + ∑ q, zAt 3072 inb_S512x5120_S512x1024_0_3072 x0 (ix2 r q) * wAt 3072 inb_S1024x5120_S1024x1024_0_3072 w (ix2 k q)
      + ∑ q, zAt 4096 inb_S512x5120_S512x1024_0_4096 x0 (ix2 r q) * wAt 4096 inb_S1024x5120_S1024x1024_0_4096 w (ix2 k q) := by
    pointwise [bDu, k0_pay6]
  rw [h]
  simp only [piece_apply x0 w _ _ _ (show 0 + 1024 ≤ 5120 by decide), piece_apply x0 w _ _ _ (show 1024 + 1024 ≤ 5120 by decide),
    piece_apply x0 w _ _ _ (show 2048 + 1024 ≤ 5120 by decide), piece_apply x0 w _ _ _ (show 3072 + 1024 ≤ 5120 by decide),
    piece_apply x0 w _ _ _ (show 4096 + 1024 ≤ 5120 by decide)]
  unfold du
  rw [Fin.sum_univ_tiles 5 1024 rfl, Fin.sum_univ_five]
  rfl

theorem bDh_apply (r : Fin 512) (k : Fin 1024) : bDh x0 x1 x2 x3 w (ix2 r k)
    = x1 (ix2 r k) + dh (du (fun q => x0 (ix2 r q)) (fun k q => w (ix2 k q))) (fun k => x2 (ix2 r k)) (fun k => x3 (ix2 0 k)) k := by
  pointwise [bDh, k0_pay4, k0_pay2, k0_pay1, k0_pay7, bDu_apply, dh, hn, rs]

theorem bGain_apply (a : Vec Ideal S1x1024 .f32) (k : Fin 1024) : bGain x0 x2 w a (ix2 0 k)
    = a (ix2 0 k) + ∑ r, gain (du (fun q => x0 (ix2 r q)) (fun k q => w (ix2 k q))) (fun k => x2 (ix2 r k)) k := by
  pointwise [bGain, k0_pay3, k0_pay2, k0_pay1, k0_pay7, bDu_apply, gain, hn, rs]

end

/-! ## The arrays -/

variable (m : (ℓ : Loc nD τ sig) → Buf (Elt Ideal) ℓ) (c : Dev nD)

theorem index0 : Steps win0_0.index := (by decide +kernel : Steps (N := grid0.N) win0_0.index)

theorem iblk0 (t : Fin cfg0.N) (r : Fin 512) (q : Fin 5120) : iblk m c 0 t (ix2 r q) = V m c main_arg0 (ix2 (tok t.val r) q) :=
  rows (x := fun t => iblk m c 0 t) (A := V m c main_arg0) index0 (fun _ _ => rfl) (fun t i => win0_0.rect_emb_val t i 0) (fun t i => win0_0.rect_emb_val t i 1) t r q
theorem iblk1 (t : Fin cfg0.N) (r : Fin 512) (k : Fin 1024) : iblk m c 1 t (ix2 r k) = V m c main_arg1 (ix2 (tok t.val r) k) :=
  rows (x := fun t => iblk m c 1 t) (A := V m c main_arg1) index0 (fun _ _ => rfl) (fun t i => win0_1.rect_emb_val t i 0) (fun t i => win0_1.rect_emb_val t i 1) t r k
theorem iblk2 (t : Fin cfg0.N) (r : Fin 512) (k : Fin 1024) : iblk m c 2 t (ix2 r k) = V m c main_arg2 (ix2 (tok t.val r) k) :=
  rows (x := fun t => iblk m c 2 t) (A := V m c main_arg2) index0 (fun _ _ => rfl) (fun t i => win0_2.rect_emb_val t i 0) (fun t i => win0_2.rect_emb_val t i 1) t r k
theorem iblk3 (t : Fin cfg0.N) (k : Fin 1024) : iblk m c 3 t (ix2 0 k) = V m c main_arg3 (ix2 0 k) :=
  congrArg (V m c main_arg3) (row_eq _ k (win0_3.rect_emb_val t (ix2 0 k) 1))

/-- The arguments on a device. -/
abbrev a0 : Vec Ideal S8192x5120 .bf16 := V m c main_arg0
abbrev a1 : Vec Ideal S8192x1024 .f32 := V m c main_arg1
abbrev a2 : Vec Ideal S8192x1024 .f32 := V m c main_arg2
abbrev a3 : Vec Ideal S1x1024 .f32 := V m c main_arg3
abbrev a4 : Vec Ideal S1024x5120 .bf16 := V m c main_arg4

theorem final4 : (dats m 0 c).arrAt 4 cfg0.N = rDh (a0 m c) (a1 m c) (a2 m c) (a3 m c) (a4 m c) :=
  eq_of_rows (b := win0_4.index) index0 (fun t i => win0_4.rect_emb_val t i 0) (fun t i => win0_4.rect_emb_val t i 1) fun (t : Fin cfg0.N) r k => by
    have h := congrFun (Value.blocks4 m c t (flush0_4 t)) (ix2 r k)
    rw [Value.flushed4, outs] at h
    refine h.trans ((bDh_apply (iblk m c 0 t) (iblk m c 1 t) (iblk m c 2 t) (iblk m c 3 t) (V m c main_arg4) r k).trans ?_)
    simp only [iblk0, iblk1, iblk2, iblk3]
    exact (rDh_apply (a0 m c) (a1 m c) (a2 m c) (a3 m c) (a4 m c) (tok t.val r) k).symm

theorem acc_last (k : Fin 1024) (h : 15 < cfg0.N) : acc c m 15 h (ix2 0 k) = rGain (a0 m c) (a2 m c) (a4 m c) (ix2 0 k) := by
  refine Eq.trans ?_ (rGain_apply (a0 m c) (a2 m c) (a4 m c) k).symm
  refine sum_points (fun n h => acc c m n h (ix2 0 k)) (fun n => gain (du (fun q => a0 m c (ix2 n q)) (fun k q => a4 m c (ix2 k q))) (fun k => a2 m c (ix2 n k)) k)
    (fun h => ?_) (fun n h => ?_) h
  · refine (bGain_apply _ _ _ _ k).trans ?_
    have z : (k0_pay5 (F := Ideal)) (ix2 0 k) = 0 := by pointwise [k0_pay5]
    rw [z, zero_add]
    simp only [iblk0, iblk2]
  · refine (bGain_apply _ _ _ _ k).trans ?_
    simp only [iblk0, iblk2]

theorem final5 : (dats m 0 c).arrAt 5 cfg0.N = rGain (a0 m c) (a2 m c) (a4 m c) := by
  refine (dats m 0 c).arrAt_eq_of_cover 5 _ (fun t hf => ?_)
    (Pipeline.Window.Covers.cover (w := cfg0.win 5) (by decide +kernel) (Memref.isWhole_whole _))
  have ht : t.val = 15 := by
    have := (flush0_5 t).mp hf
    have := t.isLt
    have : cfg0.N = 16 := N_0
    omega
  obtain ⟨n, hn⟩ := t
  subst ht
  rw [Value.flushed5, outs]
  funext y
  obtain ⟨k, rfl⟩ : ∃ k : Fin 1024, y = ix2 0 k :=
    ⟨y 1, (eq_ix2 y).trans (congrArg (fun i => ix2 i (y 1)) (Subsingleton.elim (α := Fin 1) _ _))⟩
  refine Eq.trans (b := acc c m 15 hn (ix2 0 k)) rfl ((acc_last m c k hn).trans ?_)
  exact congrArg (rGain (a0 m c) (a2 m c) (a4 m c)) (row_eq _ k (win0_5.rect_emb_val ⟨15, hn⟩ (ix2 0 k) 1)).symm

/-! ## The claims -/

theorem frame : Cert.quiescent_InBwd := fun m ρ _ => Cert.InBwd.Gen.frame m ρ
theorem frame_ideal : Cert.quiescent_InBwdIdeal := fun m ρ _ => Cert.InBwdIdeal.Gen.frame m ρ
theorem frame_reference : Cert.quiescent_InBwdReferenceIdeal := fun m ρ _ =>
  (θ_run Cert.InBwdReferenceIdeal.defs _ _).mono (fun r h => ⟨fun c => (h c).2.2, sem_eq_zero_of_no_sems (by decide) r.2⟩)
    (Cert.InBwdReferenceIdeal.Value.run (F := Ideal) m ρ)

theorem algebraic : Cert.algebraic_InBwdIdeal_InBwdReferenceIdeal := by
  intro m ρ m' ρ' _ hagree
  refine ⟨_, _, Cert.InBwdIdeal.Value.run_blocks (F := Ideal) m ρ, ?_⟩
  refine (θ_run Cert.InBwdReferenceIdeal.defs _ _).mono (fun r h c => ?_) (Cert.InBwdReferenceIdeal.Value.run (F := Ideal) m' ρ')
  obtain ⟨h0, h1, hk⟩ := h c
  obtain ⟨e0, e1, e2, e3, e4⟩ := hagree c
  refine ⟨h0.trans ?_, h1.trans ?_, hk⟩
  · rw [e0, e1, e2, e3, e4]
    exact (final4 m c).symm
  · rw [e0, e2, e4]
    exact (final5 m c).symm

end Cert.InBackward

end
-- ==== Proof.LossGrad.lean ====
/- The loss on one device and its gradients. A point adds the squared errors of its 512 tokens up and takes them times 1 / 2048;
   the reference halves the sum of the tokens' means, each a sum over 1024 columns divided by 1024. The constants are finite and
   positive, so they go through the sums. -/
module

public import proofs.«01_k».proof.Defs
public import proofs.«01_k».proof.Proof.NormBackward
public import proofs.«01_k».proof.Proof.Gen.LossHead.Frame
public import proofs.«01_k».proof.Proof.Gen.LossHeadIdeal.Value
public import proofs.«01_k».proof.Proof.Gen.LossHeadReferenceIdeal.Run

@[expose] public section

set_option maxRecDepth 16384

noncomputable section

open Idealize.ShloMosaic Idealize.ShloMosaic.TcCoe Idealize.ShloMosaic.Tactic Idealize.SL.Sem

namespace Cert.LossGrad

open Cert.Layer Cert.NormBackward
open Cert.FfnRow (rs hn half width rHn rHn_apply)

/-! ## The constants -/

/-- 1 / 1024 and 1 / 2048, as the kernel writes them. -/
abbrev inv : EReal := Ideal.ofBits .f32 0x3A800000#32
abbrev halfInv : EReal := Ideal.ofBits .f32 0x3A000000#32

theorem width_eq : width = ((1024 : ℝ) : EReal) := by simp [width, Ideal.ofBits, Ideal.ieee, -EReal.coe_mul]; norm_num
theorem inv_eq : inv = ((1 / 1024 : ℝ) : EReal) := by simp [inv, Ideal.ofBits, Ideal.ieee, -EReal.coe_mul]; norm_num
theorem halfInv_eq : halfInv = ((1 / 2048 : ℝ) : EReal) := by simp [halfInv, Ideal.ofBits, Ideal.ieee, -EReal.coe_mul]; norm_num
theorem half_eq : half = ((1 / 2 : ℝ) : EReal) := by simp [half, Ideal.ofBits, Ideal.ieee, -EReal.coe_mul]; norm_num

theorem div_width (x : EReal) : Ideal.div x width = x * inv := by
  rw [width_eq, inv_eq, Ideal.div_coe (by norm_num)]

theorem half_div (x : EReal) : half * Ideal.div x width = halfInv * x := by
  rw [div_width, mul_left_comm, mul_comm x, half_eq, inv_eq, halfInv_eq, ← EReal.coe_mul]
  norm_num

/-- A finite non-negative factor goes through a sum. -/
theorem mul_sum {ι : Type} [Fintype ι] (a : ℝ) (ha : 0 ≤ a) (f : ι → EReal) : (a : EReal) * ∑ i, f i = ∑ i, (a : EReal) * f i :=
  map_sum (⟨⟨fun x => (a : EReal) * x, mul_zero _⟩,
    EReal.left_distrib_of_nonneg_of_ne_top (EReal.coe_nonneg.mpr ha) (EReal.coe_ne_top a)⟩ : EReal →+ EReal) f Finset.univ

/-! ## A row -/

section

/- A token's value, the gain and the token's target. -/
variable (h gn t : Fin 1024 → EReal)

def err (k : Fin 1024) : EReal := hn h k * gn k - t k
def sq : EReal := ∑ k, err h gn t k * err h gn t k
def dy (k : Fin 1024) : EReal := err h gn t k * inv

end

/-! ## The reference -/

section

open Cert.LossHeadReferenceIdeal Cert.LossHeadReferenceIdeal.Gen

section

variable {F : FTy → Type} [FloatOps F] (A0 : Vec F S8192x1024 .f32) (A1 : Vec F S1x1024 .f32) (A2 : Vec F S8192x1024 .f32)

def rErr : Vec F S8192x1024 .f32 := subf (mulf (rHn A0) (broadcastInDim S8192x1024 ![0, 1] bcast_S1x1024_S8192x1024_0_1 A1)) A2
def rDy : Vec F S8192x1024 .f32 :=
  Host.divf (rErr A0 A1 A2) (broadcastInDim S8192x1024 ![] bcast_S_S8192x1024 (constant S_ .f32 0x44800000#32))
def rLoss : Vec F S8x128 .f32 := broadcastInDim S8x128 ![] bcast_S_S8x128 (mulf (constant S_ .f32 0x3F000000#32) (Host.reduceAdd
  (Host.divf (Host.reduceAdd (mulf (rErr A0 A1 A2) (rErr A0 A1 A2)) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))
def rDh : Vec F S8192x1024 .f32 := rNh (rDy A0 A1 A2) A0 A1
def rGain : Vec F S1x1024 .f32 := rNgain (rDy A0 A1 A2) A0

end

variable (A0 : Vec Ideal S8192x1024 .f32) (A1 : Vec Ideal S1x1024 .f32) (A2 : Vec Ideal S8192x1024 .f32)

theorem rErr_apply (n : Fin 8192) (k : Fin 1024) :
    rErr A0 A1 A2 (ix2 n k) = err (fun k => A0 (ix2 n k)) (fun k => A1 (ix2 0 k)) (fun k => A2 (ix2 n k)) k := by
  pointwise [rErr, rHn_apply, err]

theorem rDy_apply (n : Fin 8192) (k : Fin 1024) :
    rDy A0 A1 A2 (ix2 n k) = dy (fun k => A0 (ix2 n k)) (fun k => A1 (ix2 0 k)) (fun k => A2 (ix2 n k)) k := by
  have h : rDy A0 A1 A2 (ix2 n k) = Ideal.div (err (fun k => A0 (ix2 n k)) (fun k => A1 (ix2 0 k)) (fun k => A2 (ix2 n k)) k) width := by
    pointwise [rDy, rErr_apply]
  exact h.trans (div_width _)

theorem rLoss_apply (p : Fin 8) (q : Fin 128) : rLoss A0 A1 A2 (ix2 p q)
    = ∑ n, halfInv * sq (fun k => A0 (ix2 n k)) (fun k => A1 (ix2 0 k)) (fun k => A2 (ix2 n k)) := by
  have h : rLoss A0 A1 A2 (ix2 p q)
      = half * ∑ n, Ideal.div (sq (fun k => A0 (ix2 n k)) (fun k => A1 (ix2 0 k)) (fun k => A2 (ix2 n k))) width := by
    pointwise [rLoss, rErr_apply, sq]
  rw [h, half_eq, mul_sum _ (by norm_num), ← half_eq]
  exact Finset.sum_congr rfl fun n _ => half_div _

theorem rDh_apply (n : Fin 8192) (k : Fin 1024) : rDh A0 A1 A2 (ix2 n k)
    = dh (dy (fun k => A0 (ix2 n k)) (fun k => A1 (ix2 0 k)) (fun k => A2 (ix2 n k))) (fun k => A0 (ix2 n k)) (fun k => A1 (ix2 0 k)) k := by
  refine (rNh_apply (rDy A0 A1 A2) A0 A1 n k).trans ?_
  simp only [rDy_apply]

theorem rGain_apply (k : Fin 1024) : rGain A0 A1 A2 (ix2 0 k)
    = ∑ n, gain (dy (fun k => A0 (ix2 n k)) (fun k => A1 (ix2 0 k)) (fun k => A2 (ix2 n k))) (fun k => A0 (ix2 n k)) k := by
  refine (rNgain_apply (rDy A0 A1 A2) A0 k).trans ?_
  simp only [rDy_apply]

end

/-! ## What a point leaves -/

open Cert.LossHeadIdeal Cert.LossHeadIdeal.Gen

section

variable {F : FTy → Type} [FloatOps F] (x0 : Vec F S512x1024 .f32) (x1 : Vec F S1x1024 .f32) (x2 : Vec F S512x1024 .f32)

def bDh : Vec F S512x1024 .f32 := k0_pay2 (k0_pay5 x0) (k0_pay6 x0) (k0_pay9 x0 x1 x2) x1
def bGain (acc : Vec F S1x1024 .f32) : Vec F S1x1024 .f32 := k0_pay1 (k0_pay10 acc) (k0_pay11 x0 x1 x2)

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S8x128 .f32) (harg5 : arg5.IsWhole) (arg6 : Memref sig .tc .vmem S1x1024 .f32) (harg6 : arg6.IsWhole)
  (xo4 : Vec F S8x128 .f32) (xo5 : Vec F S1x1024 .f32)

/-- At the first point the two sums start from zero. -/
theorem out_A (hc : cond0_0 i) :
    out0_A_3 c i arg1 harg1 arg2 harg2 arg3 harg3 arg4 harg4 arg5 harg5 arg6 harg6 hc x0 x1 x2 = bDh x0 x1 x2
    ∧ out0_A_4 c i arg1 harg1 arg2 harg2 arg3 harg3 arg4 harg4 arg5 harg5 arg6 harg6 hc x0 x1 x2 = k0_pay8 x0 x1 x2 k0_pay3
    ∧ out0_A_5 c i arg1 harg1 arg2 harg2 arg3 harg3 arg4 harg4 arg5 harg5 arg6 harg6 hc x0 x1 x2 = bGain x0 x1 x2 k0_pay4 := by
  unfold out0_A_3 out0_A_4 out0_A_5
  simp only [View.read_writes_junk_eq_canon]
  unfold kernelRun0_A
  dsimp only
  sl_unfold_run_names
  simp only [readAt_whole, readCov_of_whole, canon_whole, ld_all, canon_all, readCov_all]
  exact ⟨rfl, trivial, rfl⟩

/-- At a later point they go on from what the blocks hold. -/
theorem out_B (hc : ¬cond0_0 i) :
    out0_B_3 c i arg1 harg1 arg2 harg2 arg3 harg3 arg4 harg4 arg5 harg5 arg6 harg6 hc x0 x1 x2 xo4 xo5 = bDh x0 x1 x2
    ∧ out0_B_4 c i arg1 harg1 arg2 harg2 arg3 harg3 arg4 harg4 arg5 harg5 arg6 harg6 hc x0 x1 x2 xo4 xo5 = k0_pay8 x0 x1 x2 xo4
    ∧ out0_B_5 c i arg1 harg1 arg2 harg2 arg3 harg3 arg4 harg4 arg5 harg5 arg6 harg6 hc x0 x1 x2 xo4 xo5 = bGain x0 x1 x2 xo5 := by
  unfold out0_B_3 out0_B_4 out0_B_5
  simp only [View.read_writes_junk_eq_canon]
  unfold kernelRun0_B
  dsimp only
  sl_unfold_run_names
  simp only [readAt_whole, readCov_of_whole, canon_whole, ld_all, canon_all, readCov_all]
  exact ⟨rfl, trivial, rfl⟩

variable (m : (ℓ : Loc nD τ sig) → Buf (Elt F) ℓ)

/-- The loss and the gain's gradient after point `n`. -/
def accLoss : (n : ℕ) → n < cfg0.N → Vec F S8x128 .f32
  | 0, h => k0_pay8 (iblk m c 0 ⟨0, h⟩) (iblk m c 1 ⟨0, h⟩) (iblk m c 2 ⟨0, h⟩) k0_pay3
  | n + 1, h => k0_pay8 (iblk m c 0 ⟨n + 1, h⟩) (iblk m c 1 ⟨n + 1, h⟩) (iblk m c 2 ⟨n + 1, h⟩) (accLoss n (Nat.lt_of_succ_lt h))
def accGain : (n : ℕ) → n < cfg0.N → Vec F S1x1024 .f32
  | 0, h => bGain (iblk m c 0 ⟨0, h⟩) (iblk m c 1 ⟨0, h⟩) (iblk m c 2 ⟨0, h⟩) k0_pay4
  | n + 1, h => bGain (iblk m c 0 ⟨n + 1, h⟩) (iblk m c 1 ⟨n + 1, h⟩) (iblk m c 2 ⟨n + 1, h⟩) (accGain n (Nat.lt_of_succ_lt h))

/-- The outputs at a point, from its blocks. -/
theorem outs (n : ℕ) (h : n < cfg0.N) : outsAt0 m c n h =
    (bDh (iblk m c 0 ⟨n, h⟩) (iblk m c 1 ⟨n, h⟩) (iblk m c 2 ⟨n, h⟩), accLoss c m n h, accGain c m n h) := by
  have hN : cfg0.N = 16 := N_0
  induction n with
  | zero =>
    refine (outsAt0_A m c ⟨0, h⟩ rfl).trans ?_
    obtain ⟨h3, h4, h5⟩ := out_A (iblk m c 0 ⟨0, h⟩) (iblk m c 1 ⟨0, h⟩) (iblk m c 2 ⟨0, h⟩) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl)
    exact congr (congrArg Prod.mk h3) (congr (congrArg Prod.mk h4) h5)
  | succ n ih =>
    have h0 : ¬(⟨n + 1, h⟩ : Fin cfg0.N).val % 16 = 0 := by dsimp only; omega
    refine (outsAt0_B m c ⟨n + 1, h⟩ h0).trans ?_
    have e : outsAt0 m c ((⟨n + 1, h⟩ : Fin cfg0.N).val - 1) (Nat.lt_of_le_of_lt (Nat.sub_le _ _) (⟨n + 1, h⟩ : Fin cfg0.N).isLt) = _ := ih (Nat.lt_of_succ_lt h)
    rw [e]
    dsimp only
    obtain ⟨h3, h4, h5⟩ := out_B (iblk m c 0 ⟨n + 1, h⟩) (iblk m c 1 ⟨n + 1, h⟩) (iblk m c 2 ⟨n + 1, h⟩) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (accLoss c m n (Nat.lt_of_succ_lt h)) (accGain c m n (Nat.lt_of_succ_lt h)) (fun h' => h0 ((hcond0_0 ⟨n + 1, h⟩).mp h'))
    exact congr (congrArg Prod.mk h3) (congr (congrArg Prod.mk h4) h5)

end

/-! ## A row of a block -/

section

variable (x0 : Vec Ideal S512x1024 .f32) (x1 : Vec Ideal S1x1024 .f32) (x2 : Vec Ideal S512x1024 .f32)

theorem bErr_apply (r : Fin 512) (k : Fin 1024) :
    k0_pay7 x0 x1 x2 (ix2 r k) = err (fun k => x0 (ix2 r k)) (fun k => x1 (ix2 0 k)) (fun k => x2 (ix2 r k)) k := by
  pointwise [k0_pay7, k0_pay6, k0_pay5, err, hn, rs]

theorem bDh_apply (r : Fin 512) (k : Fin 1024) : bDh x0 x1 x2 (ix2 r k)
    = dh (dy (fun k => x0 (ix2 r k)) (fun k => x1 (ix2 0 k)) (fun k => x2 (ix2 r k))) (fun k => x0 (ix2 r k)) (fun k => x1 (ix2 0 k)) k := by
  pointwise [bDh, k0_pay2, k0_pay9, k0_pay6, k0_pay5, bErr_apply, dy, dh, hn, rs]

theorem bGain_apply (a : Vec Ideal S1x1024 .f32) (k : Fin 1024) : bGain x0 x1 x2 a (ix2 0 k)
    = a (ix2 0 k) + ∑ r, gain (dy (fun k => x0 (ix2 r k)) (fun k => x1 (ix2 0 k)) (fun k => x2 (ix2 r k))) (fun k => x0 (ix2 r k)) k := by
  pointwise [bGain, k0_pay1, k0_pay10, k0_pay11, k0_pay9, k0_pay6, k0_pay5, bErr_apply, dy, gain, hn, rs]

theorem bLoss_apply (a : Vec Ideal S8x128 .f32) (p : Fin 8) (q : Fin 128) : k0_pay8 x0 x1 x2 a (ix2 p q)
    = a (ix2 p q) + ∑ r, halfInv * sq (fun k => x0 (ix2 r k)) (fun k => x1 (ix2 0 k)) (fun k => x2 (ix2 r k)) := by
  have h : k0_pay8 x0 x1 x2 a (ix2 p q)
      = a (ix2 p q) + halfInv * ∑ r, sq (fun k => x0 (ix2 r k)) (fun k => x1 (ix2 0 k)) (fun k => x2 (ix2 r k)) := by
    pointwise [k0_pay8, bErr_apply, sq]
  rw [h, halfInv_eq, mul_sum _ (by norm_num)]

end

/-! ## The arrays -/

variable (m : (ℓ : Loc nD τ sig) → Buf (Elt Ideal) ℓ) (c : Dev nD)

theorem index0 : Steps win0_0.index := (by decide +kernel : Steps (N := grid0.N) win0_0.index)

theorem iblk0 (t : Fin cfg0.N) (r : Fin 512) (k : Fin 1024) : iblk m c 0 t (ix2 r k) = V m c main_arg0 (ix2 (tok t.val r) k) :=
  rows (x := fun t => iblk m c 0 t) (A := V m c main_arg0) index0 (fun _ _ => rfl) (fun t i => win0_0.rect_emb_val t i 0) (fun t i => win0_0.rect_emb_val t i 1) t r k
theorem iblk1 (t : Fin cfg0.N) (k : Fin 1024) : iblk m c 1 t (ix2 0 k) = V m c main_arg1 (ix2 0 k) :=
  congrArg (V m c main_arg1) (row_eq _ k (win0_1.rect_emb_val t (ix2 0 k) 1))
theorem iblk2 (t : Fin cfg0.N) (r : Fin 512) (k : Fin 1024) : iblk m c 2 t (ix2 r k) = V m c main_arg2 (ix2 (tok t.val r) k) :=
  rows (x := fun t => iblk m c 2 t) (A := V m c main_arg2) index0 (fun _ _ => rfl) (fun t i => win0_2.rect_emb_val t i 0) (fun t i => win0_2.rect_emb_val t i 1) t r k

/-- The arguments on a device. -/
abbrev a0 : Vec Ideal S8192x1024 .f32 := V m c main_arg0
abbrev a1 : Vec Ideal S1x1024 .f32 := V m c main_arg1
abbrev a2 : Vec Ideal S8192x1024 .f32 := V m c main_arg2

theorem final3 : (dats m 0 c).arrAt 3 cfg0.N = rDh (a0 m c) (a1 m c) (a2 m c) :=
  eq_of_rows (b := win0_3.index) index0 (fun t i => win0_3.rect_emb_val t i 0) (fun t i => win0_3.rect_emb_val t i 1) fun (t : Fin cfg0.N) r k => by
    have h := congrFun (Value.blocks3 m c t (flush0_3 t)) (ix2 r k)
    rw [Value.flushed3, outs] at h
    refine h.trans ((bDh_apply (iblk m c 0 t) (iblk m c 1 t) (iblk m c 2 t) r k).trans ?_)
    simp only [iblk0, iblk1, iblk2]
    exact (rDh_apply (a0 m c) (a1 m c) (a2 m c) (tok t.val r) k).symm

theorem accLoss_last (p : Fin 8) (q : Fin 128) (h : 15 < cfg0.N) : accLoss c m 15 h (ix2 p q) = rLoss (a0 m c) (a1 m c) (a2 m c) (ix2 p q) := by
  refine Eq.trans ?_ (rLoss_apply (a0 m c) (a1 m c) (a2 m c) p q).symm
  refine sum_points (fun n h => accLoss c m n h (ix2 p q)) (fun n => halfInv * sq (fun k => a0 m c (ix2 n k)) (fun k => a1 m c (ix2 0 k)) (fun k => a2 m c (ix2 n k)))
    (fun h => ?_) (fun n h => ?_) h
  · refine (bLoss_apply _ _ _ _ p q).trans ?_
    have z : (k0_pay3 (F := Ideal)) (ix2 p q) = 0 := by pointwise [k0_pay3]
    rw [z, zero_add]
    simp only [iblk0, iblk1, iblk2]
  · refine (bLoss_apply _ _ _ _ p q).trans ?_
    simp only [iblk0, iblk1, iblk2]

theorem accGain_last (k : Fin 1024) (h : 15 < cfg0.N) : accGain c m 15 h (ix2 0 k) = rGain (a0 m c) (a1 m c) (a2 m c) (ix2 0 k) := by
  refine Eq.trans ?_ (rGain_apply (a0 m c) (a1 m c) (a2 m c) k).symm
  refine sum_points (fun n h => accGain c m n h (ix2 0 k)) (fun n => gain (dy (fun k => a0 m c (ix2 n k)) (fun k => a1 m c (ix2 0 k)) (fun k => a2 m c (ix2 n k))) (fun k => a0 m c (ix2 n k)) k)
    (fun h => ?_) (fun n h => ?_) h
  · refine (bGain_apply _ _ _ _ k).trans ?_
    have z : (k0_pay4 (F := Ideal)) (ix2 0 k) = 0 := by pointwise [k0_pay4]
    rw [z, zero_add]
    simp only [iblk0, iblk1, iblk2]
  · refine (bGain_apply _ _ _ _ k).trans ?_
    simp only [iblk0, iblk1, iblk2]

theorem final4 : (dats m 0 c).arrAt 4 cfg0.N = rLoss (a0 m c) (a1 m c) (a2 m c) := by
  refine (dats m 0 c).arrAt_eq_of_cover 4 _ (fun t hf => ?_)
    (Pipeline.Window.Covers.cover (w := cfg0.win 4) (by decide +kernel) (Memref.isWhole_whole _))
  have ht : t.val = 15 := by
    have := (flush0_4 t).mp hf
    have := t.isLt
    have : cfg0.N = 16 := N_0
    omega
  obtain ⟨n, hn⟩ := t
  subst ht
  rw [Value.flushed4, outs]
  funext y
  obtain ⟨p, q, rfl⟩ : ∃ (p : Fin 8) (q : Fin 128), y = ix2 p q := ⟨y 0, y 1, eq_ix2 y⟩
  refine Eq.trans (b := accLoss c m 15 hn (ix2 p q)) rfl ((accLoss_last m c p q hn).trans ?_)
  exact congrArg (rLoss (a0 m c) (a1 m c) (a2 m c))
    (all_eq _ p q (win0_4.rect_emb_val ⟨15, hn⟩ (ix2 p q) 0) (win0_4.rect_emb_val ⟨15, hn⟩ (ix2 p q) 1)).symm

theorem final5 : (dats m 0 c).arrAt 5 cfg0.N = rGain (a0 m c) (a1 m c) (a2 m c) := by
  refine (dats m 0 c).arrAt_eq_of_cover 5 _ (fun t hf => ?_)
    (Pipeline.Window.Covers.cover (w := cfg0.win 5) (by decide +kernel) (Memref.isWhole_whole _))
  have ht : t.val = 15 := by
    have := (flush0_5 t).mp hf
    have := t.isLt
    have : cfg0.N = 16 := N_0
    omega
  obtain ⟨n, hn⟩ := t
  subst ht
  rw [Value.flushed5, outs]
  funext y
  obtain ⟨k, rfl⟩ : ∃ k : Fin 1024, y = ix2 0 k :=
    ⟨y 1, (eq_ix2 y).trans (congrArg (fun i => ix2 i (y 1)) (Subsingleton.elim (α := Fin 1) _ _))⟩
  refine Eq.trans (b := accGain c m 15 hn (ix2 0 k)) rfl ((accGain_last m c k hn).trans ?_)
  exact congrArg (rGain (a0 m c) (a1 m c) (a2 m c)) (row_eq _ k (win0_5.rect_emb_val ⟨15, hn⟩ (ix2 0 k) 1)).symm

/-! ## The claims -/

theorem frame : Cert.quiescent_LossHead := fun m ρ _ => Cert.LossHead.Gen.frame m ρ
theorem frame_ideal : Cert.quiescent_LossHeadIdeal := fun m ρ _ => Cert.LossHeadIdeal.Gen.frame m ρ
theorem frame_reference : Cert.quiescent_LossHeadReferenceIdeal := fun m ρ _ =>
  (θ_run Cert.LossHeadReferenceIdeal.defs _ _).mono (fun r h => ⟨fun c => (h c).2.2.2, sem_eq_zero_of_no_sems (by decide) r.2⟩)
    (Cert.LossHeadReferenceIdeal.Value.run (F := Ideal) m ρ)

theorem algebraic : Cert.algebraic_LossHeadIdeal_LossHeadReferenceIdeal := by
  intro m ρ m' ρ' _ hagree
  refine ⟨_, _, _, Cert.LossHeadIdeal.Value.run_blocks (F := Ideal) m ρ, ?_⟩
  refine (θ_run Cert.LossHeadReferenceIdeal.defs _ _).mono (fun r h c => ?_) (Cert.LossHeadReferenceIdeal.Value.run (F := Ideal) m' ρ')
  obtain ⟨h0, h1, h2, hk⟩ := h c
  obtain ⟨e0, e1, e2⟩ := hagree c
  refine ⟨h0.trans ?_, h1.trans ?_, h2.trans ?_, hk⟩
  · rw [e0, e1, e2]
    exact (final3 m c).symm
  · rw [e0, e1, e2]
    exact (final4 m c).symm
  · rw [e0, e1, e2]
    exact (final5 m c).symm

end Cert.LossGrad

end
-- ==== Proof.MergeForward.lean ====
/- The merge of the mixers on one device: what a grid point of 512 tokens leaves, a row of it over the extended reals, and the six
   output arrays, which are the reference's. -/
module

public import proofs.«01_k».proof.Defs
public import proofs.«01_k».proof.Proof.Layer
public import proofs.«01_k».proof.Proof.Gen.MergeFwd.Frame
public import proofs.«01_k».proof.Proof.Gen.MergeFwdIdeal.Value
public import proofs.«01_k».proof.Proof.Gen.MergeFwdReferenceIdeal.Run
public import Idealize.ShloMosaic.Lib.Quiescent

@[expose] public section

set_option maxRecDepth 16384

noncomputable section

open Idealize.ShloMosaic Idealize.ShloMosaic.TcCoe Idealize.ShloMosaic.Tactic Idealize.SL.Sem

namespace Cert.MergeForward

open Cert.Layer

/-! ## A row -/

section

variable (a b c : EReal)

/-- The greatest of three log denominators; a denominator over it; their sum; the log of the sum. -/
def top : EReal := max (max a b) c
def wt (x : EReal) : EReal := Ideal.exp (x - top a b c)
def den : EReal := wt a b c a + wt a b c b + wt a b c c
def lse : EReal := top a b c + Ideal.log (den a b c)
/-- The mean of `p`, `q` and `s` with the denominators as weights. -/
def mix (p q s : EReal) : EReal := Ideal.div (wt a b c a * p + wt a b c b * q + wt a b c c * s) (den a b c)

end

/-- A gate; two branches gated and added; a row's product with a matrix. -/
def gate (x : EReal) : EReal := Ideal.div 1 (1 + Ideal.exp (-x))
def gated (ga gb pa pb : EReal) : EReal := gate ga * pa + gate gb * pb
def prod {k : ℕ} (y : Fin k → EReal) (w : Fin k → Fin 1024 → EReal) (q : Fin 1024) : EReal := ∑ k, y k * w k q

/-! ## The reference -/

section

open Cert.MergeFwdReferenceIdeal Cert.MergeFwdReferenceIdeal.Gen

/-- The columns of the gates. -/
abbrev colA (q : Fin 1024) : Fin 5120 := ⟨3072 + q.val, by omega⟩
abbrev colB (q : Fin 1024) : Fin 5120 := ⟨4096 + q.val, by omega⟩

section

variable {F : FTy → Type} [FloatOps F]
variable (A0 A1 A2 A3 A4 A5 : Vec F S8192x256 .f32) (A6 : Vec F S8192x512 .bf16) (A7 : Vec F S8192x5120 .bf16) (A8 : Vec F S8192x1024 .f32)
  (A9 : Vec F S256x1024 .bf16) (A10 : Vec F S512x1024 .bf16) (A11 : Vec F S1024x1024 .bf16)

def rTop : Vec F S8192x256 .f32 := maximumf (maximumf A3 A4) A5
def rWt (X : Vec F S8192x256 .f32) : Vec F S8192x256 .f32 := Host.exp (subf X (rTop A3 A4 A5))
def rDen : Vec F S8192x256 .f32 := addf (addf (rWt A3 A4 A5 A3) (rWt A3 A4 A5 A4)) (rWt A3 A4 A5 A5)
def rLse : Vec F S8192x256 .f32 := addf (rTop A3 A4 A5) (Host.log (rDen A3 A4 A5))
def rMix : Vec F S8192x256 .f32 := Host.divf
  (addf (addf (mulf (rWt A3 A4 A5 A3) A0) (mulf (rWt A3 A4 A5 A4) A1)) (mulf (rWt A3 A4 A5 A5) A2)) (rDen A3 A4 A5)
def rPa : Vec F S8192x1024 .f32 :=
  Host.dotGeneral dot_S8192x256_S256x1024_S8192x1024_1_0_0_1_n_n none (rMix A0 A1 A2 A3 A4 A5) (extf .f32 A9 bitsLt_bf16_f32)
def rPb : Vec F S8192x1024 .f32 :=
  Host.dotGeneral dot_S8192x512_S512x1024_S8192x1024_1_0_0_1_n_n none (extf .f32 A6 bitsLt_bf16_f32) (extf .f32 A10 bitsLt_bf16_f32)
def rOne : Vec F S8192x1024 .f32 := broadcastInDim S8192x1024 ![] bcast_S_S8192x1024 (constant S_ .f32 0x3F800000#32)
def rGate (X : Vec F S8192x1024 .bf16) : Vec F S8192x1024 .f32 := Host.divf rOne (addf rOne (Host.exp (Host.negf (extf .f32 X bitsLt_bf16_f32))))
def rA : Vec F S8192x1024 .bf16 := extractStridedSlice S8192x1024 ![0, 3072] A7 slices_S8192x5120_S8192x1024_0_3072
def rB : Vec F S8192x1024 .bf16 := extractStridedSlice S8192x1024 ![0, 4096] A7 slices_S8192x5120_S8192x1024_0_4096
def rMerged : Vec F S8192x1024 .f32 := addf (mulf (rGate (rA A7)) (rPa A0 A1 A2 A3 A4 A5 A9)) (mulf (rGate (rB A7)) (rPb A6 A10))
def rOut : Vec F S8192x1024 .f32 := addf A8 (Host.dotGeneral dot_S8192x1024_S1024x1024_S8192x1024_1_0_0_1_n_n none
  (rMerged A0 A1 A2 A3 A4 A5 A6 A7 A9 A10) (extf .f32 A11 bitsLt_bf16_f32))

end

variable (A0 A1 A2 A3 A4 A5 : Vec Ideal S8192x256 .f32) (A6 : Vec Ideal S8192x512 .bf16) (A7 : Vec Ideal S8192x5120 .bf16)
  (A8 : Vec Ideal S8192x1024 .f32) (A9 : Vec Ideal S256x1024 .bf16) (A10 : Vec Ideal S512x1024 .bf16) (A11 : Vec Ideal S1024x1024 .bf16)
  (n : Fin 8192)

theorem rA_apply (q : Fin 1024) : rA A7 (ix2 n q) = A7 (ix2 n (colA q)) := congrArg A7 (by idx_ext)
theorem rB_apply (q : Fin 1024) : rB A7 (ix2 n q) = A7 (ix2 n (colB q)) := congrArg A7 (by idx_ext)

theorem rLse_apply (k : Fin 256) : rLse A3 A4 A5 (ix2 n k) = lse (A3 (ix2 n k)) (A4 (ix2 n k)) (A5 (ix2 n k)) := by
  pointwise [rLse, rDen, rWt, rTop, lse, den, wt, top]

theorem rMix_apply (k : Fin 256) : rMix A0 A1 A2 A3 A4 A5 (ix2 n k)
    = mix (A3 (ix2 n k)) (A4 (ix2 n k)) (A5 (ix2 n k)) (A0 (ix2 n k)) (A1 (ix2 n k)) (A2 (ix2 n k)) := by
  pointwise [rMix, rDen, rWt, rTop, mix, den, wt, top]

theorem rPa_apply (q : Fin 1024) : rPa A0 A1 A2 A3 A4 A5 A9 (ix2 n q)
    = prod (fun k => mix (A3 (ix2 n k)) (A4 (ix2 n k)) (A5 (ix2 n k)) (A0 (ix2 n k)) (A1 (ix2 n k)) (A2 (ix2 n k))) (fun k q => A9 (ix2 k q)) q := by
  pointwise [rPa, rMix_apply, prod]

theorem rPb_apply (q : Fin 1024) : rPb A6 A10 (ix2 n q) = prod (fun k => A6 (ix2 n k)) (fun k q => A10 (ix2 k q)) q := by
  pointwise [rPb, prod]

theorem rGate_apply (X : Vec Ideal S8192x1024 .bf16) (q : Fin 1024) : rGate X (ix2 n q) = gate (X (ix2 n q)) := by
  pointwise [rGate, rOne, gate]

theorem rMerged_apply (q : Fin 1024) : rMerged A0 A1 A2 A3 A4 A5 A6 A7 A9 A10 (ix2 n q)
    = gated (A7 (ix2 n (colA q))) (A7 (ix2 n (colB q))) (rPa A0 A1 A2 A3 A4 A5 A9 (ix2 n q)) (rPb A6 A10 (ix2 n q)) := by
  pointwise [rMerged, rGate_apply, rA_apply, rB_apply, gated]

theorem rOut_apply (q : Fin 1024) : rOut A0 A1 A2 A3 A4 A5 A6 A7 A8 A9 A10 A11 (ix2 n q)
    = A8 (ix2 n q) + prod (fun k => rMerged A0 A1 A2 A3 A4 A5 A6 A7 A9 A10 (ix2 n k)) (fun k q => A11 (ix2 k q)) q := by
  pointwise [rOut, prod]

end

/-! ## What a point leaves -/

open Cert.MergeFwdIdeal Cert.MergeFwdIdeal.Gen

section

variable {F : FTy → Type} [FloatOps F]
variable (x0 x1 x2 x3 x4 x5 : Vec F S512x256 .f32) (x6 : Vec F S512x512 .bf16) (x7 x8 : Vec F S512x1024 .bf16) (x9 : Vec F S512x1024 .f32)
  (x10 : Vec F S256x1024 .bf16) (x11 : Vec F S512x1024 .bf16) (x12 : Vec F S1024x1024 .bf16)

/-- The mixed log denominator and output; the two branches; the merged branches; the layer's output. -/
def bLse : Vec F S512x256 .f32 := k0_pay9 x3 x4 x5
def bMix : Vec F S512x256 .bf16 := k0_pay10 x3 x4 x5 x0 x1 x2
def bPa : Vec F S512x1024 .f32 := k0_pay11 x3 x4 x5 x0 x1 x2 x10
def bPb : Vec F S512x1024 .f32 := k0_pay12 x6 x11
def bMerged : Vec F S512x1024 .bf16 := k0_pay2 (bPa x0 x1 x2 x3 x4 x5 x10) (bPb x6 x11) x7 x8
def bOut : Vec F S512x1024 .f32 := k0_pay3 (bPa x0 x1 x2 x3 x4 x5 x10) (bPb x6 x11) x7 x8 x9 x12

theorem outs :
    out0_13 x0 x1 x2 x3 x4 x5 x6 x7 x8 x9 x10 x11 x12 = bOut x0 x1 x2 x3 x4 x5 x6 x7 x8 x9 x10 x11 x12
    ∧ out0_14 x0 x1 x2 x3 x4 x5 x6 x7 x8 x9 x10 x11 x12 = bMix x0 x1 x2 x3 x4 x5
    ∧ out0_15 x0 x1 x2 x3 x4 x5 x6 x7 x8 x9 x10 x11 x12 = bLse x3 x4 x5
    ∧ out0_16 x0 x1 x2 x3 x4 x5 x6 x7 x8 x9 x10 x11 x12 = truncf .bf16 (bPa x0 x1 x2 x3 x4 x5 x10) bitsLt_bf16_f32
    ∧ out0_17 x0 x1 x2 x3 x4 x5 x6 x7 x8 x9 x10 x11 x12 = truncf .bf16 (bPb x6 x11) bitsLt_bf16_f32
    ∧ out0_18 x0 x1 x2 x3 x4 x5 x6 x7 x8 x9 x10 x11 x12 = bMerged x0 x1 x2 x3 x4 x5 x6 x7 x8 x10 x11 := by
  unfold out0_13 out0_14 out0_15 out0_16 out0_17 out0_18 k0_pay14 k0_pay15 r0_0 r0_1 r0_2 r0_3 r0_4
  simp only [ld_all, canon_all]
  exact ⟨rfl, rfl, rfl, rfl, rfl, rfl⟩

end

/-! ## A row of a block -/

section

variable (x0 x1 x2 x3 x4 x5 : Vec Ideal S512x256 .f32) (x6 : Vec Ideal S512x512 .bf16) (x7 x8 : Vec Ideal S512x1024 .bf16)
  (x9 : Vec Ideal S512x1024 .f32) (x10 : Vec Ideal S256x1024 .bf16) (x11 : Vec Ideal S512x1024 .bf16) (x12 : Vec Ideal S1024x1024 .bf16)
  (r : Fin 512)

theorem bLse_apply (k : Fin 256) : bLse x3 x4 x5 (ix2 r k) = lse (x3 (ix2 r k)) (x4 (ix2 r k)) (x5 (ix2 r k)) := by
  pointwise [bLse, k0_pay9, k0_pay8, k0_pay7, k0_pay6, k0_pay5, k0_pay4, lse, den, wt, top]

theorem bMix_apply (k : Fin 256) : bMix x0 x1 x2 x3 x4 x5 (ix2 r k)
    = mix (x3 (ix2 r k)) (x4 (ix2 r k)) (x5 (ix2 r k)) (x0 (ix2 r k)) (x1 (ix2 r k)) (x2 (ix2 r k)) := by
  pointwise [bMix, k0_pay10, k0_pay8, k0_pay7, k0_pay6, k0_pay5, k0_pay4, mix, den, wt, top]

theorem bPa_apply (q : Fin 1024) : bPa x0 x1 x2 x3 x4 x5 x10 (ix2 r q)
    = prod (fun k => mix (x3 (ix2 r k)) (x4 (ix2 r k)) (x5 (ix2 r k)) (x0 (ix2 r k)) (x1 (ix2 r k)) (x2 (ix2 r k))) (fun k q => x10 (ix2 k q)) q := by
  simp only [← bMix_apply]
  pointwise [bPa, k0_pay11, bMix, prod]

theorem bPb_apply (q : Fin 1024) : bPb x6 x11 (ix2 r q) = prod (fun k => x6 (ix2 r k)) (fun k q => x11 (ix2 k q)) q := by
  pointwise [bPb, k0_pay12, prod]

theorem bMerged_apply (q : Fin 1024) : bMerged x0 x1 x2 x3 x4 x5 x6 x7 x8 x10 x11 (ix2 r q)
    = gated (x7 (ix2 r q)) (x8 (ix2 r q)) (bPa x0 x1 x2 x3 x4 x5 x10 (ix2 r q)) (bPb x6 x11 (ix2 r q)) := by
  pointwise [bMerged, k0_pay2, gated, gate, zero_sub]

theorem bOut_apply (q : Fin 1024) : bOut x0 x1 x2 x3 x4 x5 x6 x7 x8 x9 x10 x11 x12 (ix2 r q)
    = x9 (ix2 r q) + prod (fun k => bMerged x0 x1 x2 x3 x4 x5 x6 x7 x8 x10 x11 (ix2 r k)) (fun k q => x12 (ix2 k q)) q := by
  pointwise [bOut, k0_pay3, bMerged, prod]

end

/-! ## The arrays -/

variable (m : (ℓ : Loc nD τ sig) → Buf (Elt Ideal) ℓ) (c : Dev nD)

theorem index0 : Steps win0_0.index := (by decide +kernel : Steps (N := grid0.N) win0_0.index)
theorem index7 : ∀ t : Fin grid0.N, win0_7.index t 0 = t.val % 16 ∧ win0_7.index t 1 = 3 := by decide +kernel
theorem index8 : ∀ t : Fin grid0.N, win0_8.index t 0 = t.val % 16 ∧ win0_8.index t 1 = 4 := by decide +kernel

section

variable (t : Fin cfg0.N)

theorem iblk0 (r : Fin 512) (k : Fin 256) : iblk m c 0 t (ix2 r k) = V m c main_arg0 (ix2 (tok t.val r) k) :=
  rows (x := fun t => iblk m c 0 t) (A := V m c main_arg0) index0 (fun _ _ => rfl) (fun t i => win0_0.rect_emb_val t i 0) (fun t i => win0_0.rect_emb_val t i 1) t r k
theorem iblk1 (r : Fin 512) (k : Fin 256) : iblk m c 1 t (ix2 r k) = V m c main_arg1 (ix2 (tok t.val r) k) :=
  rows (x := fun t => iblk m c 1 t) (A := V m c main_arg1) index0 (fun _ _ => rfl) (fun t i => win0_1.rect_emb_val t i 0) (fun t i => win0_1.rect_emb_val t i 1) t r k
theorem iblk2 (r : Fin 512) (k : Fin 256) : iblk m c 2 t (ix2 r k) = V m c main_arg2 (ix2 (tok t.val r) k) :=
  rows (x := fun t => iblk m c 2 t) (A := V m c main_arg2) index0 (fun _ _ => rfl) (fun t i => win0_2.rect_emb_val t i 0) (fun t i => win0_2.rect_emb_val t i 1) t r k
theorem iblk3 (r : Fin 512) (k : Fin 256) : iblk m c 3 t (ix2 r k) = V m c main_arg3 (ix2 (tok t.val r) k) :=
  rows (x := fun t => iblk m c 3 t) (A := V m c main_arg3) index0 (fun _ _ => rfl) (fun t i => win0_3.rect_emb_val t i 0) (fun t i => win0_3.rect_emb_val t i 1) t r k
theorem iblk4 (r : Fin 512) (k : Fin 256) : iblk m c 4 t (ix2 r k) = V m c main_arg4 (ix2 (tok t.val r) k) :=
  rows (x := fun t => iblk m c 4 t) (A := V m c main_arg4) index0 (fun _ _ => rfl) (fun t i => win0_4.rect_emb_val t i 0) (fun t i => win0_4.rect_emb_val t i 1) t r k
theorem iblk5 (r : Fin 512) (k : Fin 256) : iblk m c 5 t (ix2 r k) = V m c main_arg5 (ix2 (tok t.val r) k) :=
  rows (x := fun t => iblk m c 5 t) (A := V m c main_arg5) index0 (fun _ _ => rfl) (fun t i => win0_5.rect_emb_val t i 0) (fun t i => win0_5.rect_emb_val t i 1) t r k
theorem iblk6 (r : Fin 512) (k : Fin 512) : iblk m c 6 t (ix2 r k) = V m c main_arg6 (ix2 (tok t.val r) k) :=
  rows (x := fun t => iblk m c 6 t) (A := V m c main_arg6) index0 (fun _ _ => rfl) (fun t i => win0_6.rect_emb_val t i 0) (fun t i => win0_6.rect_emb_val t i 1) t r k
theorem iblk7 (r : Fin 512) (q : Fin 1024) : iblk m c 7 t (ix2 r q) = V m c main_arg7 (ix2 (tok t.val r) (colA q)) :=
  congrArg (V m c main_arg7) (place _ t.val _ r (colA q) (win0_7.rect_emb_val t (ix2 r q) 0) (index7 t).1
    ((win0_7.rect_emb_val t (ix2 r q) 1).trans (congrArg (· * 1024 + q.val) (index7 t).2)))
theorem iblk8 (r : Fin 512) (q : Fin 1024) : iblk m c 8 t (ix2 r q) = V m c main_arg7 (ix2 (tok t.val r) (colB q)) :=
  congrArg (V m c main_arg7) (place _ t.val _ r (colB q) (win0_8.rect_emb_val t (ix2 r q) 0) (index8 t).1
    ((win0_8.rect_emb_val t (ix2 r q) 1).trans (congrArg (· * 1024 + q.val) (index8 t).2)))
theorem iblk9 (r : Fin 512) (k : Fin 1024) : iblk m c 9 t (ix2 r k) = V m c main_arg8 (ix2 (tok t.val r) k) :=
  rows (x := fun t => iblk m c 9 t) (A := V m c main_arg8) index0 (fun _ _ => rfl) (fun t i => win0_9.rect_emb_val t i 0) (fun t i => win0_9.rect_emb_val t i 1) t r k
theorem iblk10 (k : Fin 256) (q : Fin 1024) : iblk m c 10 t (ix2 k q) = V m c main_arg9 (ix2 k q) :=
  congrArg (V m c main_arg9) (all_eq _ k q (win0_10.rect_emb_val t (ix2 k q) 0) (win0_10.rect_emb_val t (ix2 k q) 1))
theorem iblk11 (k : Fin 512) (q : Fin 1024) : iblk m c 11 t (ix2 k q) = V m c main_arg10 (ix2 k q) :=
  congrArg (V m c main_arg10) (all_eq _ k q (win0_11.rect_emb_val t (ix2 k q) 0) (win0_11.rect_emb_val t (ix2 k q) 1))
theorem iblk12 (k q : Fin 1024) : iblk m c 12 t (ix2 k q) = V m c main_arg11 (ix2 k q) :=
  congrArg (V m c main_arg11) (all_eq _ k q (win0_12.rect_emb_val t (ix2 k q) 0) (win0_12.rect_emb_val t (ix2 k q) 1))

end

/-- The arguments on a device. -/
abbrev a0 : Vec Ideal S8192x256 .f32 := V m c main_arg0
abbrev a1 : Vec Ideal S8192x256 .f32 := V m c main_arg1
abbrev a2 : Vec Ideal S8192x256 .f32 := V m c main_arg2
abbrev a3 : Vec Ideal S8192x256 .f32 := V m c main_arg3
abbrev a4 : Vec Ideal S8192x256 .f32 := V m c main_arg4
abbrev a5 : Vec Ideal S8192x256 .f32 := V m c main_arg5
abbrev a6 : Vec Ideal S8192x512 .bf16 := V m c main_arg6
abbrev a7 : Vec Ideal S8192x5120 .bf16 := V m c main_arg7
abbrev a8 : Vec Ideal S8192x1024 .f32 := V m c main_arg8
abbrev a9 : Vec Ideal S256x1024 .bf16 := V m c main_arg9
abbrev a10 : Vec Ideal S512x1024 .bf16 := V m c main_arg10
abbrev a11 : Vec Ideal S1024x1024 .bf16 := V m c main_arg11

/-! A row of a point's block is the reference's row of its token. -/

section

variable (t : Fin cfg0.N) (r : Fin 512)

theorem lse_row (k : Fin 256) : bLse (iblk m c 3 t) (iblk m c 4 t) (iblk m c 5 t) (ix2 r k) = rLse (a3 m c) (a4 m c) (a5 m c) (ix2 (tok t.val r) k) := by
  refine (bLse_apply _ _ _ r k).trans ?_
  simp only [iblk3, iblk4, iblk5]
  exact (rLse_apply (a3 m c) (a4 m c) (a5 m c) (tok t.val r) k).symm

theorem mix_row (k : Fin 256) : bMix (iblk m c 0 t) (iblk m c 1 t) (iblk m c 2 t) (iblk m c 3 t) (iblk m c 4 t) (iblk m c 5 t) (ix2 r k)
    = rMix (a0 m c) (a1 m c) (a2 m c) (a3 m c) (a4 m c) (a5 m c) (ix2 (tok t.val r) k) := by
  refine (bMix_apply _ _ _ _ _ _ r k).trans ?_
  simp only [iblk0, iblk1, iblk2, iblk3, iblk4, iblk5]
  exact (rMix_apply (a0 m c) (a1 m c) (a2 m c) (a3 m c) (a4 m c) (a5 m c) (tok t.val r) k).symm

theorem pa_row (q : Fin 1024) :
    bPa (iblk m c 0 t) (iblk m c 1 t) (iblk m c 2 t) (iblk m c 3 t) (iblk m c 4 t) (iblk m c 5 t) (iblk m c 10 t) (ix2 r q)
      = rPa (a0 m c) (a1 m c) (a2 m c) (a3 m c) (a4 m c) (a5 m c) (a9 m c) (ix2 (tok t.val r) q) := by
  refine (bPa_apply _ _ _ _ _ _ _ r q).trans ?_
  simp only [iblk0, iblk1, iblk2, iblk3, iblk4, iblk5, iblk10]
  exact (rPa_apply (a0 m c) (a1 m c) (a2 m c) (a3 m c) (a4 m c) (a5 m c) (a9 m c) (tok t.val r) q).symm

theorem pb_row (q : Fin 1024) : bPb (iblk m c 6 t) (iblk m c 11 t) (ix2 r q) = rPb (a6 m c) (a10 m c) (ix2 (tok t.val r) q) := by
  refine (bPb_apply _ _ r q).trans ?_
  simp only [iblk6, iblk11]
  exact (rPb_apply (a6 m c) (a10 m c) (tok t.val r) q).symm

theorem merged_row (q : Fin 1024) :
    bMerged (iblk m c 0 t) (iblk m c 1 t) (iblk m c 2 t) (iblk m c 3 t) (iblk m c 4 t) (iblk m c 5 t) (iblk m c 6 t) (iblk m c 7 t) (iblk m c 8 t)
      (iblk m c 10 t) (iblk m c 11 t) (ix2 r q)
      = rMerged (a0 m c) (a1 m c) (a2 m c) (a3 m c) (a4 m c) (a5 m c) (a6 m c) (a7 m c) (a9 m c) (a10 m c) (ix2 (tok t.val r) q) := by
  refine (bMerged_apply _ _ _ _ _ _ _ _ _ _ _ r q).trans ?_
  rw [pa_row, pb_row, iblk7, iblk8]
  exact (rMerged_apply (a0 m c) (a1 m c) (a2 m c) (a3 m c) (a4 m c) (a5 m c) (a6 m c) (a7 m c) (a9 m c) (a10 m c) (tok t.val r) q).symm

theorem out_row (q : Fin 1024) :
    bOut (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (ix2 r q)
      = rOut (a0 m c) (a1 m c) (a2 m c) (a3 m c) (a4 m c) (a5 m c) (a6 m c) (a7 m c) (a8 m c) (a9 m c) (a10 m c) (a11 m c) (ix2 (tok t.val r) q) := by
  refine (bOut_apply _ _ _ _ _ _ _ _ _ _ _ _ _ r q).trans ?_
  simp only [merged_row, iblk9, iblk12]
  exact (rOut_apply (a0 m c) (a1 m c) (a2 m c) (a3 m c) (a4 m c) (a5 m c) (a6 m c) (a7 m c) (a8 m c) (a9 m c) (a10 m c) (a11 m c) (tok t.val r) q).symm

end

theorem final13 : (dats m 0 c).arrAt 13 cfg0.N
    = rOut (a0 m c) (a1 m c) (a2 m c) (a3 m c) (a4 m c) (a5 m c) (a6 m c) (a7 m c) (a8 m c) (a9 m c) (a10 m c) (a11 m c) :=
  eq_of_rows (b := win0_13.index) index0 (fun t i => win0_13.rect_emb_val t i 0) (fun t i => win0_13.rect_emb_val t i 1) fun (t : Fin cfg0.N) r k => by
    have h := congrFun (Value.blocks13 m c t (flush0_13 t)) (ix2 r k)
    rw [Value.flushed13, (outs ..).1] at h
    exact h.trans (out_row m c t r k)

theorem final14 : (dats m 0 c).arrAt 14 cfg0.N = rMix (a0 m c) (a1 m c) (a2 m c) (a3 m c) (a4 m c) (a5 m c) :=
  eq_of_rows (b := win0_14.index) index0 (fun t i => win0_14.rect_emb_val t i 0) (fun t i => win0_14.rect_emb_val t i 1) fun (t : Fin cfg0.N) r k => by
    have h := congrFun (Value.blocks14 m c t (flush0_14 t)) (ix2 r k)
    rw [Value.flushed14, (outs ..).2.1] at h
    exact h.trans (mix_row m c t r k)

theorem final15 : (dats m 0 c).arrAt 15 cfg0.N = rLse (a3 m c) (a4 m c) (a5 m c) :=
  eq_of_rows (b := win0_15.index) index0 (fun t i => win0_15.rect_emb_val t i 0) (fun t i => win0_15.rect_emb_val t i 1) fun (t : Fin cfg0.N) r k => by
    have h := congrFun (Value.blocks15 m c t (flush0_15 t)) (ix2 r k)
    rw [Value.flushed15, (outs ..).2.2.1] at h
    exact h.trans (lse_row m c t r k)

theorem final16 : (dats m 0 c).arrAt 16 cfg0.N = rPa (a0 m c) (a1 m c) (a2 m c) (a3 m c) (a4 m c) (a5 m c) (a9 m c) :=
  eq_of_rows (b := win0_16.index) index0 (fun t i => win0_16.rect_emb_val t i 0) (fun t i => win0_16.rect_emb_val t i 1) fun (t : Fin cfg0.N) r k => by
    have h := congrFun (Value.blocks16 m c t (flush0_16 t)) (ix2 r k)
    rw [Value.flushed16, (outs ..).2.2.2.1] at h
    exact h.trans (pa_row m c t r k)

theorem final17 : (dats m 0 c).arrAt 17 cfg0.N = rPb (a6 m c) (a10 m c) :=
  eq_of_rows (b := win0_17.index) index0 (fun t i => win0_17.rect_emb_val t i 0) (fun t i => win0_17.rect_emb_val t i 1) fun (t : Fin cfg0.N) r k => by
    have h := congrFun (Value.blocks17 m c t (flush0_17 t)) (ix2 r k)
    rw [Value.flushed17, (outs ..).2.2.2.2.1] at h
    exact h.trans (pb_row m c t r k)

theorem final18 : (dats m 0 c).arrAt 18 cfg0.N
    = rMerged (a0 m c) (a1 m c) (a2 m c) (a3 m c) (a4 m c) (a5 m c) (a6 m c) (a7 m c) (a9 m c) (a10 m c) :=
  eq_of_rows (b := win0_18.index) index0 (fun t i => win0_18.rect_emb_val t i 0) (fun t i => win0_18.rect_emb_val t i 1) fun (t : Fin cfg0.N) r k => by
    have h := congrFun (Value.blocks18 m c t (flush0_18 t)) (ix2 r k)
    rw [Value.flushed18, (outs ..).2.2.2.2.2] at h
    exact h.trans (merged_row m c t r k)

/-! ## The claims -/

theorem frame : Cert.quiescent_MergeFwd := fun m ρ _ => Cert.MergeFwd.Gen.frame m ρ
theorem frame_ideal : Cert.quiescent_MergeFwdIdeal := fun m ρ _ => Cert.MergeFwdIdeal.Gen.frame m ρ
theorem frame_reference : Cert.quiescent_MergeFwdReferenceIdeal := fun m ρ _ =>
  (θ_run Cert.MergeFwdReferenceIdeal.defs _ _).mono (fun r h => ⟨fun c => (h c).2.2.2.2.2.2, sem_eq_zero_of_no_sems (by decide) r.2⟩)
    (Cert.MergeFwdReferenceIdeal.Value.run (F := Ideal) m ρ)

theorem algebraic : Cert.algebraic_MergeFwdIdeal_MergeFwdReferenceIdeal := by
  intro m ρ m' ρ' _ hagree
  refine ⟨_, _, _, _, _, _, Cert.MergeFwdIdeal.Value.run_blocks (F := Ideal) m ρ, ?_⟩
  refine (θ_run Cert.MergeFwdReferenceIdeal.defs _ _).mono (fun r h c => ?_) (Cert.MergeFwdReferenceIdeal.Value.run (F := Ideal) m' ρ')
  obtain ⟨h0, h1, h2, h3, h4, h5, hk⟩ := h c
  obtain ⟨e0, e1, e2, e3, e4, e5, e6, e7, e8, e9, e10, e11⟩ := hagree c
  refine ⟨h0.trans ?_, h1.trans ?_, h2.trans ?_, h3.trans ?_, h4.trans ?_, h5.trans ?_, hk⟩
  · change rOut (F := Ideal) _ _ _ _ _ _ _ _ _ _ _ _ = _
    rw [e0, e1, e2, e3, e4, e5, e6, e7, e8, e9, e10, e11]
    exact (final13 m c).symm
  · change rMix (F := Ideal) _ _ _ _ _ _ = _
    rw [e0, e1, e2, e3, e4, e5]
    exact (final14 m c).symm
  · rw [e3, e4, e5]
    exact (final15 m c).symm
  · change rPa (F := Ideal) _ _ _ _ _ _ _ = _
    rw [e0, e1, e2, e3, e4, e5, e9]
    exact (final16 m c).symm
  · rw [e6, e10]
    exact (final17 m c).symm
  · change rMerged (F := Ideal) _ _ _ _ _ _ _ _ _ _ = _
    rw [e0, e1, e2, e3, e4, e5, e6, e7, e9, e10]
    exact (final18 m c).symm

end Cert.MergeForward

end
-- ==== Proof.MergeBackward.lean ====
/- The merge's backward on one device: what a grid point of 512 tokens leaves, a row of it over the extended reals, and the nine
   output arrays, which are the reference's. -/
module

public import proofs.«01_k».proof.Defs
public import proofs.«01_k».proof.Proof.MergeForward
public import proofs.«01_k».proof.Proof.Gen.MergeBwd.Frame
public import proofs.«01_k».proof.Proof.Gen.MergeBwdIdeal.Value
public import proofs.«01_k».proof.Proof.Gen.MergeBwdReferenceIdeal.Run
public import Idealize.ShloMosaic.Lib.Quiescent

@[expose] public section

set_option maxRecDepth 16384

noncomputable section

open Idealize.ShloMosaic Idealize.ShloMosaic.TcCoe Idealize.ShloMosaic.Tactic Idealize.SL.Sem

namespace Cert.MergeBackward

open Cert.Layer
open Cert.MergeForward (gate colA colB rOne rGate rA rB rGate_apply rA_apply rB_apply)

/-! ## The columns of a head -/

/-- A column's head, as the kernel computes it: the quotient of the column by 64, less one where the signs differ and the division leaves a rest. -/
def word (x : ℕ) : BitVec 32 :=
  Scalar.select
    (IntOp.andi
      (IntOp.cmpi .ne
        (IntOp.subi (BitVec.setWidth 32 (IntOp.cmpi .sgt (BitVec.ofNat 32 x) 0#32)) (BitVec.setWidth 32 (IntOp.cmpi .slt (BitVec.ofNat 32 x) 0#32)))
        (Scalar.subi (Scalar.extui (Scalar.cmpi .sgt 64#32 0#32)) (Scalar.extui (Scalar.cmpi .slt 64#32 0#32))))
      (IntOp.cmpi .ne (IntOp.remsi .vector (BitVec.ofNat 32 x) 64#32) 0#32))
    (IntOp.subi (IntOp.divsi .vector (BitVec.ofNat 32 x) 64#32) 1#32)
    (IntOp.divsi .vector (BitVec.ofNat 32 x) 64#32)

theorem word_eq : ∀ x : Fin 512, word x.val = BitVec.ofNat 32 (x.val / 64) := by decide +kernel

/-- One where two columns have the same head, else zero. -/
def same (x q : ℕ) : EReal := FloatOps.sitofp (F := Ideal) .f32 (BitVec.setWidth 32 (IntOp.cmpi .eq (word x) (word q)))

theorem same_eq (x q : ℕ) (hx : x < 512) (hq : q < 512) : same x q = if x / 64 = q / 64 then 1 else 0 := by
  have h : word x = word q ↔ x / 64 = q / 64 := by
    rw [word_eq ⟨x, hx⟩, word_eq ⟨q, hq⟩]
    refine ⟨fun h => ?_, fun h => congrArg _ h⟩
    have e := congrArg BitVec.toNat h
    simp only [BitVec.toNat_ofNat] at e
    omega
  unfold same
  by_cases hw : word x = word q
  · rw [if_pos (h.mp hw), hw]
    have e : IntOp.cmpi .eq (word q) (word q) = 1#1 := by simp [IntOp.cmpi]
    rw [e]
    show ((((1#32 : BitVec 32).toInt : ℤ) : ℝ) : EReal) = 1
    simp
  · rw [if_neg (fun e => hw (h.mpr e))]
    have e : IntOp.cmpi .eq (word x) (word q) = 0#1 := by
      show BitVec.ofBool (word x == word q) = 0#1
      rw [beq_eq_false_iff_ne.mpr hw]
      rfl
    rw [e]
    show ((((0#32 : BitVec 32).toInt : ℤ) : ℝ) : EReal) = 0
    simp

/-- The sum over a column's head. -/
def headSum {n : ℕ} (hn : n % 64 = 0) (f : Fin n → EReal) (q : Fin n) : EReal := ∑ k : Fin 64, f ⟨q.val / 64 * 64 + k.val, by omega⟩

theorem sum_same {n : ℕ} (hn : n % 64 = 0) (h : n ≤ 512) (f : Fin n → EReal) (q : Fin n) :
    ∑ x : Fin n, f x * same x.val q.val = headSum hn f q := by
  have e (x : Fin n) : f x * same x.val q.val = if x.val / 64 = q.val / 64 then f x else 0 := by
    rw [same_eq x.val q.val (by omega) (by omega), mul_ite, mul_one, mul_zero]
  simp only [e]
  rw [← Finset.sum_filter]
  refine Finset.sum_nbij' (fun x => (⟨x.val % 64, by omega⟩ : Fin 64)) (fun k => (⟨q.val / 64 * 64 + k.val, by omega⟩ : Fin n)) ?_ ?_ ?_ ?_ ?_
  · exact fun _ _ => Finset.mem_univ _
  · intro k _
    refine Finset.mem_filter.mpr ⟨Finset.mem_univ _, ?_⟩
    dsimp only
    omega
  · intro x hx
    have := (Finset.mem_filter.mp hx).2
    exact Fin.ext (by dsimp only; omega)
  · intro k _
    exact Fin.ext (by dsimp only; omega)
  · intro x hx
    have := (Finset.mem_filter.mp hx).2
    exact congrArg f (Fin.ext (by dsimp only; omega))

/-! ## A row -/

/-- A row's product with the transpose of a matrix; the derivative in a branch, and in a gate. -/
def back {k : ℕ} (d : Fin 1024 → EReal) (w : Fin k → Fin 1024 → EReal) (q : Fin k) : EReal := ∑ j, d j * w q j
def dBranch (dm g : EReal) : EReal := dm * gate g
def dGate (dm p g : EReal) : EReal := dm * p * gate g * (1 - gate g)

/-! ## The reference -/

section

open Cert.MergeBwdReferenceIdeal Cert.MergeBwdReferenceIdeal.Gen

section

variable {F : FTy → Type} [FloatOps F]
variable (A0 : Vec F S8192x1024 .f32) (P G : Vec F S8192x1024 .bf16) (A4 : Vec F S8192x256 .bf16) (A5 : Vec F S8192x512 .bf16)
  (A6 : Vec F S256x1024 .bf16) (A7 : Vec F S512x1024 .bf16) (A8 : Vec F S1024x1024 .bf16)

def rDm : Vec F S8192x1024 .f32 := Host.dotGeneral dot_S8192x1024_S1024x1024_S8192x1024_1_0_0_1_n_n none A0
  (transpose S1024x1024 [1, 0] (extf .f32 A8 bitsLt_bf16_f32) transposes_S1024x1024_S1024x1024_1_0)
def rBranch : Vec F S8192x1024 .f32 := mulf (rDm A0 A8) (rGate G)
def rDGate : Vec F S8192x1024 .f32 := mulf (mulf (mulf (rDm A0 A8) (extf .f32 P bitsLt_bf16_f32)) (rGate G)) (subf rOne (rGate G))
def rYa : Vec F S8192x256 .f32 := Host.dotGeneral dot_S8192x1024_S1024x256_S8192x256_1_0_0_1_n_n none (rBranch A0 G A8)
  (transpose S1024x256 [1, 0] (extf .f32 A6 bitsLt_bf16_f32) transposes_S256x1024_S1024x256_1_0)
def rYb : Vec F S8192x512 .f32 := Host.dotGeneral dot_S8192x1024_S1024x512_S8192x512_1_0_0_1_n_n none (rBranch A0 G A8)
  (transpose S1024x512 [1, 0] (extf .f32 A7 bitsLt_bf16_f32) transposes_S512x1024_S1024x512_1_0)
def rCa : Vec F S8192x256 .f32 :=
  shapeCast _ (broadcastInDim S8192x4x64 ![0, 1, 2] bcast_S8192x4x1_S8192x4x64_0_1_2 (broadcastInDim S8192x4x1 ![0, 1] bcast_S8192x4_S8192x4x1_0_1
    (Host.reduceAdd (shapeCast _ (mulf (rYa A0 G A6 A8) (extf .f32 A4 bitsLt_bf16_f32)) shapeCasts_S8192x256_S8192x4x64)
      (constant S_ .f32 0x00000000#32) reducesTo_S8192x4x64_S8192x4_d2 h_S_))) shapeCasts_S8192x4x64_S8192x256
def rCb : Vec F S8192x512 .f32 :=
  shapeCast _ (broadcastInDim S8192x8x64 ![0, 1, 2] bcast_S8192x8x1_S8192x8x64_0_1_2 (broadcastInDim S8192x8x1 ![0, 1] bcast_S8192x8_S8192x8x1_0_1
    (Host.reduceAdd (shapeCast _ (mulf (rYb A0 G A7 A8) (extf .f32 A5 bitsLt_bf16_f32)) shapeCasts_S8192x512_S8192x8x64)
      (constant S_ .f32 0x00000000#32) reducesTo_S8192x8x64_S8192x8_d2 h_S_))) shapeCasts_S8192x8x64_S8192x512

end

variable (A0 : Vec Ideal S8192x1024 .f32) (P G : Vec Ideal S8192x1024 .bf16) (A4 : Vec Ideal S8192x256 .bf16) (A5 : Vec Ideal S8192x512 .bf16)
  (A6 : Vec Ideal S256x1024 .bf16) (A7 : Vec Ideal S512x1024 .bf16) (A8 : Vec Ideal S1024x1024 .bf16) (n : Fin 8192)

theorem rDm_apply (q : Fin 1024) : rDm A0 A8 (ix2 n q) = back (fun k => A0 (ix2 n k)) (fun q k => A8 (ix2 q k)) q := by
  pointwise [rDm, back]

theorem rBranch_apply (q : Fin 1024) : rBranch A0 G A8 (ix2 n q) = dBranch (rDm A0 A8 (ix2 n q)) (G (ix2 n q)) := by
  pointwise [rBranch, rGate_apply, dBranch]

theorem rDGate_apply (q : Fin 1024) : rDGate A0 P G A8 (ix2 n q) = dGate (rDm A0 A8 (ix2 n q)) (P (ix2 n q)) (G (ix2 n q)) := by
  pointwise [rDGate, rGate_apply, rOne, dGate]

theorem rYa_apply (q : Fin 256) : rYa A0 G A6 A8 (ix2 n q) = back (fun k => rBranch A0 G A8 (ix2 n k)) (fun q k => A6 (ix2 q k)) q := by
  pointwise [rYa, back]

theorem rYb_apply (q : Fin 512) : rYb A0 G A7 A8 (ix2 n q) = back (fun k => rBranch A0 G A8 (ix2 n k)) (fun q k => A7 (ix2 q k)) q := by
  pointwise [rYb, back]

theorem rCa_apply (q : Fin 256) : rCa A0 G A4 A6 A8 (ix2 n q) = headSum rfl (fun k => rYa A0 G A6 A8 (ix2 n k) * A4 (ix2 n k)) q := by
  pointwise [rCa, headSum]

theorem rCb_apply (q : Fin 512) : rCb A0 G A5 A7 A8 (ix2 n q) = headSum rfl (fun k => rYb A0 G A7 A8 (ix2 n k) * A5 (ix2 n k)) q := by
  pointwise [rCb, headSum]

end

/-! ## What a point leaves -/

open Cert.MergeBwdIdeal Cert.MergeBwdIdeal.Gen

section

variable {F : FTy → Type} [FloatOps F]
variable (x0 : Vec F S512x1024 .f32) (x1 x2 x3 x4 : Vec F S512x1024 .bf16) (x5 : Vec F S512x256 .bf16) (x6 : Vec F S512x512 .bf16)
  (x7 : Vec F S256x1024 .bf16) (x8 : Vec F S512x1024 .bf16) (x9 : Vec F S1024x1024 .bf16)

/-- The derivatives in the merged branches; in the two branches and gates; in the mixers' outputs; the sums over the heads. -/
def bDm : Vec F S512x1024 .f32 := k0_pay3 x0 x9
def bBranchA : Vec F S512x1024 .bf16 := k0_pay6 x0 x9 x3
def bBranchB : Vec F S512x1024 .bf16 := k0_pay7 x0 x9 x4
def bGateA : Vec F S512x1024 .bf16 := k0_pay9 (k0_pay4 x3) (k0_pay8 x0 x9 x3 x1)
def bGateB : Vec F S512x1024 .bf16 := k0_pay10 (bDm x0 x9) (k0_pay5 x4) x2
def bYa : Vec F S512x256 .f32 := k0_pay11 (bBranchA x0 x3 x9) x7
def bYb : Vec F S512x512 .f32 := k0_pay12 (bBranchB x0 x4 x9) x8
def bCa : Vec F S512x256 .f32 := k0_pay19 (k0_pay15 (bBranchA x0 x3 x9) x7 x5) (iota .tc S256x256 32 [0] iota_S256x256_d0_w32) 64#32 k0_pay16 k0_pay17 k0_pay18
def bCb : Vec F S512x512 .f32 :=
  k0_pay1 (k0_pay20 (bYb x0 x4 x8 x9) x6) k0_pay21 (iota .tc S512x512 32 [1] iota_S512x512_d1_w32) 64#32 k0_pay22 k0_pay23 k0_pay24

theorem outs :
    out0_10 x0 x1 x2 x3 x4 x5 x6 x7 x8 x9 = bBranchA x0 x3 x9
    ∧ out0_11 x0 x1 x2 x3 x4 x5 x6 x7 x8 x9 = bBranchB x0 x4 x9
    ∧ out0_12 x0 x1 x2 x3 x4 x5 x6 x7 x8 x9 = bGateA x0 x1 x3 x9
    ∧ out0_13 x0 x1 x2 x3 x4 x5 x6 x7 x8 x9 = bGateB x0 x2 x4 x9
    ∧ out0_14 x0 x1 x2 x3 x4 x5 x6 x7 x8 x9 = truncf .bf16 (bYa x0 x3 x7 x9) bitsLt_bf16_f32
    ∧ out0_15 x0 x1 x2 x3 x4 x5 x6 x7 x8 x9 = truncf .bf16 (bYb x0 x4 x8 x9) bitsLt_bf16_f32
    ∧ out0_16 x0 x1 x2 x3 x4 x5 x6 x7 x8 x9 = truncf .bf16 x0 bitsLt_bf16_f32
    ∧ out0_17 x0 x1 x2 x3 x4 x5 x6 x7 x8 x9 = bCa x0 x3 x5 x7 x9
    ∧ out0_18 x0 x1 x2 x3 x4 x5 x6 x7 x8 x9 = bCb x0 x4 x6 x8 x9 := by
  unfold out0_10 out0_11 out0_12 out0_13 out0_14 out0_15 out0_16 out0_17 out0_18 k0_pay25 k0_pay26 r0_0 r0_1 r0_2 r0_3 r0_4
  simp only [ld_all, canon_all]
  exact ⟨rfl, rfl, rfl, rfl, rfl, rfl, rfl, rfl, rfl⟩

end

/-! ## A row of a block -/

section

variable (x0 : Vec Ideal S512x1024 .f32) (x1 x2 x3 x4 : Vec Ideal S512x1024 .bf16) (x5 : Vec Ideal S512x256 .bf16) (x6 : Vec Ideal S512x512 .bf16)
  (x7 : Vec Ideal S256x1024 .bf16) (x8 : Vec Ideal S512x1024 .bf16) (x9 : Vec Ideal S1024x1024 .bf16) (r : Fin 512)

theorem bDm_apply (q : Fin 1024) : bDm x0 x9 (ix2 r q) = back (fun k => x0 (ix2 r k)) (fun q k => x9 (ix2 q k)) q := by
  pointwise [bDm, k0_pay3, k0_pay2, back]

theorem bBranchA_apply (q : Fin 1024) : bBranchA x0 x3 x9 (ix2 r q) = dBranch (bDm x0 x9 (ix2 r q)) (x3 (ix2 r q)) := by
  unfold bDm
  pointwise [bBranchA, k0_pay6, k0_pay4, dBranch, gate, zero_sub]

theorem bBranchB_apply (q : Fin 1024) : bBranchB x0 x4 x9 (ix2 r q) = dBranch (bDm x0 x9 (ix2 r q)) (x4 (ix2 r q)) := by
  unfold bDm
  pointwise [bBranchB, k0_pay7, k0_pay5, dBranch, gate, zero_sub]

theorem bGateA_apply (q : Fin 1024) : bGateA x0 x1 x3 x9 (ix2 r q) = dGate (bDm x0 x9 (ix2 r q)) (x1 (ix2 r q)) (x3 (ix2 r q)) := by
  unfold bDm
  pointwise [bGateA, k0_pay9, k0_pay8, k0_pay4, dGate, gate, zero_sub]

theorem bGateB_apply (q : Fin 1024) : bGateB x0 x2 x4 x9 (ix2 r q) = dGate (bDm x0 x9 (ix2 r q)) (x2 (ix2 r q)) (x4 (ix2 r q)) := by
  pointwise [bGateB, k0_pay10, k0_pay5, dGate, gate, zero_sub]

theorem bYa_apply (q : Fin 256) : bYa x0 x3 x7 x9 (ix2 r q) = back (fun k => bBranchA x0 x3 x9 (ix2 r k)) (fun q k => x7 (ix2 q k)) q := by
  pointwise [bYa, k0_pay11, back]

theorem bYb_apply (q : Fin 512) : bYb x0 x4 x8 x9 (ix2 r q) = back (fun k => bBranchB x0 x4 x9 (ix2 r k)) (fun q k => x8 (ix2 q k)) q := by
  pointwise [bYb, k0_pay12, back]

theorem bCa_apply (q : Fin 256) : bCa x0 x3 x5 x7 x9 (ix2 r q) = headSum rfl (fun k => bYa x0 x3 x7 x9 (ix2 r k) * x5 (ix2 r k)) q := by
  refine Eq.trans ?_ (sum_same rfl (by decide) (fun k => bYa x0 x3 x7 x9 (ix2 r k) * x5 (ix2 r k)) q)
  unfold bYa
  pointwise [bCa, k0_pay19, k0_pay15, k0_pay16, k0_pay17, k0_pay18]
  rfl

theorem bCb_apply (q : Fin 512) : bCb x0 x4 x6 x8 x9 (ix2 r q) = headSum rfl (fun k => bYb x0 x4 x8 x9 (ix2 r k) * x6 (ix2 r k)) q := by
  refine Eq.trans ?_ (sum_same rfl (by decide) (fun k => bYb x0 x4 x8 x9 (ix2 r k) * x6 (ix2 r k)) q)
  pointwise [bCb, k0_pay1, k0_pay20, k0_pay21, k0_pay22, k0_pay23, k0_pay24]
  rfl

end

/-! ## The arrays -/

variable (m : (ℓ : Loc nD τ sig) → Buf (Elt Ideal) ℓ) (c : Dev nD)

theorem index0 : Steps win0_0.index := (by decide +kernel : Steps (N := grid0.N) win0_0.index)
theorem index3 : ∀ t : Fin grid0.N, win0_3.index t 0 = t.val % 16 ∧ win0_3.index t 1 = 3 := by decide +kernel
theorem index4 : ∀ t : Fin grid0.N, win0_4.index t 0 = t.val % 16 ∧ win0_4.index t 1 = 4 := by decide +kernel

section

variable (t : Fin cfg0.N)

theorem iblk0 (r : Fin 512) (k : Fin 1024) : iblk m c 0 t (ix2 r k) = V m c main_arg0 (ix2 (tok t.val r) k) :=
  rows (x := fun t => iblk m c 0 t) (A := V m c main_arg0) index0 (fun _ _ => rfl) (fun t i => win0_0.rect_emb_val t i 0) (fun t i => win0_0.rect_emb_val t i 1) t r k
theorem iblk1 (r : Fin 512) (k : Fin 1024) : iblk m c 1 t (ix2 r k) = V m c main_arg1 (ix2 (tok t.val r) k) :=
  rows (x := fun t => iblk m c 1 t) (A := V m c main_arg1) index0 (fun _ _ => rfl) (fun t i => win0_1.rect_emb_val t i 0) (fun t i => win0_1.rect_emb_val t i 1) t r k
theorem iblk2 (r : Fin 512) (k : Fin 1024) : iblk m c 2 t (ix2 r k) = V m c main_arg2 (ix2 (tok t.val r) k) :=
  rows (x := fun t => iblk m c 2 t) (A := V m c main_arg2) index0 (fun _ _ => rfl) (fun t i => win0_2.rect_emb_val t i 0) (fun t i => win0_2.rect_emb_val t i 1) t r k
theorem iblk3 (r : Fin 512) (q : Fin 1024) : iblk m c 3 t (ix2 r q) = V m c main_arg3 (ix2 (tok t.val r) (colA q)) :=
  congrArg (V m c main_arg3) (place _ t.val _ r (colA q) (win0_3.rect_emb_val t (ix2 r q) 0) (index3 t).1
    ((win0_3.rect_emb_val t (ix2 r q) 1).trans (congrArg (· * 1024 + q.val) (index3 t).2)))
theorem iblk4 (r : Fin 512) (q : Fin 1024) : iblk m c 4 t (ix2 r q) = V m c main_arg3 (ix2 (tok t.val r) (colB q)) :=
  congrArg (V m c main_arg3) (place _ t.val _ r (colB q) (win0_4.rect_emb_val t (ix2 r q) 0) (index4 t).1
    ((win0_4.rect_emb_val t (ix2 r q) 1).trans (congrArg (· * 1024 + q.val) (index4 t).2)))
theorem iblk5 (r : Fin 512) (k : Fin 256) : iblk m c 5 t (ix2 r k) = V m c main_arg4 (ix2 (tok t.val r) k) :=
  rows (x := fun t => iblk m c 5 t) (A := V m c main_arg4) index0 (fun _ _ => rfl) (fun t i => win0_5.rect_emb_val t i 0) (fun t i => win0_5.rect_emb_val t i 1) t r k
theorem iblk6 (r : Fin 512) (k : Fin 512) : iblk m c 6 t (ix2 r k) = V m c main_arg5 (ix2 (tok t.val r) k) :=
  rows (x := fun t => iblk m c 6 t) (A := V m c main_arg5) index0 (fun _ _ => rfl) (fun t i => win0_6.rect_emb_val t i 0) (fun t i => win0_6.rect_emb_val t i 1) t r k
theorem iblk7 (k : Fin 256) (q : Fin 1024) : iblk m c 7 t (ix2 k q) = V m c main_arg6 (ix2 k q) :=
  congrArg (V m c main_arg6) (all_eq _ k q (win0_7.rect_emb_val t (ix2 k q) 0) (win0_7.rect_emb_val t (ix2 k q) 1))
theorem iblk8 (k : Fin 512) (q : Fin 1024) : iblk m c 8 t (ix2 k q) = V m c main_arg7 (ix2 k q) :=
  congrArg (V m c main_arg7) (all_eq _ k q (win0_8.rect_emb_val t (ix2 k q) 0) (win0_8.rect_emb_val t (ix2 k q) 1))
theorem iblk9 (k : Fin 1024) (q : Fin 1024) : iblk m c 9 t (ix2 k q) = V m c main_arg8 (ix2 k q) :=
  congrArg (V m c main_arg8) (all_eq _ k q (win0_9.rect_emb_val t (ix2 k q) 0) (win0_9.rect_emb_val t (ix2 k q) 1))

end

/-- The arguments on a device, and the gates. -/
abbrev a0 : Vec Ideal S8192x1024 .f32 := V m c main_arg0
abbrev a1 : Vec Ideal S8192x1024 .bf16 := V m c main_arg1
abbrev a2 : Vec Ideal S8192x1024 .bf16 := V m c main_arg2
abbrev gA : Vec Ideal S8192x1024 .bf16 := rA (F := Ideal) (V m c main_arg3)
abbrev gB : Vec Ideal S8192x1024 .bf16 := rB (F := Ideal) (V m c main_arg3)
abbrev a4 : Vec Ideal S8192x256 .bf16 := V m c main_arg4
abbrev a5 : Vec Ideal S8192x512 .bf16 := V m c main_arg5
abbrev a6 : Vec Ideal S256x1024 .bf16 := V m c main_arg6
abbrev a7 : Vec Ideal S512x1024 .bf16 := V m c main_arg7
abbrev a8 : Vec Ideal S1024x1024 .bf16 := V m c main_arg8

/-! A row of a point's block is the reference's row of its token. -/

section

variable (t : Fin cfg0.N) (r : Fin 512)

theorem gA_row (q : Fin 1024) : iblk m c 3 t (ix2 r q) = gA m c (ix2 (tok t.val r) q) := (iblk3 m c t r q).trans (rA_apply _ _ q).symm
theorem gB_row (q : Fin 1024) : iblk m c 4 t (ix2 r q) = gB m c (ix2 (tok t.val r) q) := (iblk4 m c t r q).trans (rB_apply _ _ q).symm

theorem dm_row (q : Fin 1024) : bDm (iblk m c 0 t) (iblk m c 9 t) (ix2 r q) = rDm (a0 m c) (a8 m c) (ix2 (tok t.val r) q) := by
  refine (bDm_apply _ _ r q).trans ?_
  simp only [iblk0, iblk9]
  exact (rDm_apply (a0 m c) (a8 m c) (tok t.val r) q).symm

theorem branchA_row (q : Fin 1024) :
    bBranchA (iblk m c 0 t) (iblk m c 3 t) (iblk m c 9 t) (ix2 r q) = rBranch (a0 m c) (gA m c) (a8 m c) (ix2 (tok t.val r) q) := by
  refine (bBranchA_apply _ _ _ r q).trans ?_
  rw [dm_row, gA_row]
  exact (rBranch_apply (a0 m c) (gA m c) (a8 m c) (tok t.val r) q).symm

theorem branchB_row (q : Fin 1024) :
    bBranchB (iblk m c 0 t) (iblk m c 4 t) (iblk m c 9 t) (ix2 r q) = rBranch (a0 m c) (gB m c) (a8 m c) (ix2 (tok t.val r) q) := by
  refine (bBranchB_apply _ _ _ r q).trans ?_
  rw [dm_row, gB_row]
  exact (rBranch_apply (a0 m c) (gB m c) (a8 m c) (tok t.val r) q).symm

theorem gateA_row (q : Fin 1024) : bGateA (iblk m c 0 t) (iblk m c 1 t) (iblk m c 3 t) (iblk m c 9 t) (ix2 r q)
    = rDGate (a0 m c) (a1 m c) (gA m c) (a8 m c) (ix2 (tok t.val r) q) := by
  refine (bGateA_apply _ _ _ _ r q).trans ?_
  rw [dm_row, gA_row, iblk1]
  exact (rDGate_apply (a0 m c) (a1 m c) (gA m c) (a8 m c) (tok t.val r) q).symm

theorem gateB_row (q : Fin 1024) : bGateB (iblk m c 0 t) (iblk m c 2 t) (iblk m c 4 t) (iblk m c 9 t) (ix2 r q)
    = rDGate (a0 m c) (a2 m c) (gB m c) (a8 m c) (ix2 (tok t.val r) q) := by
  refine (bGateB_apply _ _ _ _ r q).trans ?_
  rw [dm_row, gB_row, iblk2]
  exact (rDGate_apply (a0 m c) (a2 m c) (gB m c) (a8 m c) (tok t.val r) q).symm

theorem ya_row (q : Fin 256) : bYa (iblk m c 0 t) (iblk m c 3 t) (iblk m c 7 t) (iblk m c 9 t) (ix2 r q)
    = rYa (a0 m c) (gA m c) (a6 m c) (a8 m c) (ix2 (tok t.val r) q) := by
  refine (bYa_apply _ _ _ _ r q).trans ?_
  simp only [branchA_row, iblk7]
  exact (rYa_apply (a0 m c) (gA m c) (a6 m c) (a8 m c) (tok t.val r) q).symm

theorem yb_row (q : Fin 512) : bYb (iblk m c 0 t) (iblk m c 4 t) (iblk m c 8 t) (iblk m c 9 t) (ix2 r q)
    = rYb (a0 m c) (gB m c) (a7 m c) (a8 m c) (ix2 (tok t.val r) q) := by
  refine (bYb_apply _ _ _ _ r q).trans ?_
  simp only [branchB_row, iblk8]
  exact (rYb_apply (a0 m c) (gB m c) (a7 m c) (a8 m c) (tok t.val r) q).symm

theorem ca_row (q : Fin 256) : bCa (iblk m c 0 t) (iblk m c 3 t) (iblk m c 5 t) (iblk m c 7 t) (iblk m c 9 t) (ix2 r q)
    = rCa (a0 m c) (gA m c) (a4 m c) (a6 m c) (a8 m c) (ix2 (tok t.val r) q) := by
  refine (bCa_apply _ _ _ _ _ r q).trans ?_
  simp only [ya_row, iblk5]
  exact (rCa_apply (a0 m c) (gA m c) (a4 m c) (a6 m c) (a8 m c) (tok t.val r) q).symm

theorem cb_row (q : Fin 512) : bCb (iblk m c 0 t) (iblk m c 4 t) (iblk m c 6 t) (iblk m c 8 t) (iblk m c 9 t) (ix2 r q)
    = rCb (a0 m c) (gB m c) (a5 m c) (a7 m c) (a8 m c) (ix2 (tok t.val r) q) := by
  refine (bCb_apply _ _ _ _ _ r q).trans ?_
  simp only [yb_row, iblk6]
  exact (rCb_apply (a0 m c) (gB m c) (a5 m c) (a7 m c) (a8 m c) (tok t.val r) q).symm

end

theorem final10 : (dats m 0 c).arrAt 10 cfg0.N = rBranch (a0 m c) (gA m c) (a8 m c) :=
  eq_of_rows (b := win0_10.index) index0 (fun t i => win0_10.rect_emb_val t i 0) (fun t i => win0_10.rect_emb_val t i 1) fun (t : Fin cfg0.N) r k => by
    have h := congrFun (Value.blocks10 m c t (flush0_10 t)) (ix2 r k)
    rw [Value.flushed10, (outs ..).1] at h
    exact h.trans (branchA_row m c t r k)

theorem final11 : (dats m 0 c).arrAt 11 cfg0.N = rBranch (a0 m c) (gB m c) (a8 m c) :=
  eq_of_rows (b := win0_11.index) index0 (fun t i => win0_11.rect_emb_val t i 0) (fun t i => win0_11.rect_emb_val t i 1) fun (t : Fin cfg0.N) r k => by
    have h := congrFun (Value.blocks11 m c t (flush0_11 t)) (ix2 r k)
    rw [Value.flushed11, (outs ..).2.1] at h
    exact h.trans (branchB_row m c t r k)

theorem final12 : (dats m 0 c).arrAt 12 cfg0.N = rDGate (a0 m c) (a1 m c) (gA m c) (a8 m c) :=
  eq_of_rows (b := win0_12.index) index0 (fun t i => win0_12.rect_emb_val t i 0) (fun t i => win0_12.rect_emb_val t i 1) fun (t : Fin cfg0.N) r k => by
    have h := congrFun (Value.blocks12 m c t (flush0_12 t)) (ix2 r k)
    rw [Value.flushed12, (outs ..).2.2.1] at h
    exact h.trans (gateA_row m c t r k)

theorem final13 : (dats m 0 c).arrAt 13 cfg0.N = rDGate (a0 m c) (a2 m c) (gB m c) (a8 m c) :=
  eq_of_rows (b := win0_13.index) index0 (fun t i => win0_13.rect_emb_val t i 0) (fun t i => win0_13.rect_emb_val t i 1) fun (t : Fin cfg0.N) r k => by
    have h := congrFun (Value.blocks13 m c t (flush0_13 t)) (ix2 r k)
    rw [Value.flushed13, (outs ..).2.2.2.1] at h
    exact h.trans (gateB_row m c t r k)

theorem final14 : (dats m 0 c).arrAt 14 cfg0.N = rYa (a0 m c) (gA m c) (a6 m c) (a8 m c) :=
  eq_of_rows (b := win0_14.index) index0 (fun t i => win0_14.rect_emb_val t i 0) (fun t i => win0_14.rect_emb_val t i 1) fun (t : Fin cfg0.N) r k => by
    have h := congrFun (Value.blocks14 m c t (flush0_14 t)) (ix2 r k)
    rw [Value.flushed14, (outs ..).2.2.2.2.1] at h
    exact h.trans (ya_row m c t r k)

theorem final15 : (dats m 0 c).arrAt 15 cfg0.N = rYb (a0 m c) (gB m c) (a7 m c) (a8 m c) :=
  eq_of_rows (b := win0_15.index) index0 (fun t i => win0_15.rect_emb_val t i 0) (fun t i => win0_15.rect_emb_val t i 1) fun (t : Fin cfg0.N) r k => by
    have h := congrFun (Value.blocks15 m c t (flush0_15 t)) (ix2 r k)
    rw [Value.flushed15, (outs ..).2.2.2.2.2.1] at h
    exact h.trans (yb_row m c t r k)

theorem final16 : (dats m 0 c).arrAt 16 cfg0.N = a0 m c :=
  eq_of_rows (b := win0_16.index) index0 (fun t i => win0_16.rect_emb_val t i 0) (fun t i => win0_16.rect_emb_val t i 1) fun (t : Fin cfg0.N) r k => by
    have h := congrFun (Value.blocks16 m c t (flush0_16 t)) (ix2 r k)
    rw [Value.flushed16, (outs ..).2.2.2.2.2.2.1] at h
    exact h.trans (iblk0 m c t r k)

theorem final17 : (dats m 0 c).arrAt 17 cfg0.N = rCa (a0 m c) (gA m c) (a4 m c) (a6 m c) (a8 m c) :=
  eq_of_rows (b := win0_17.index) index0 (fun t i => win0_17.rect_emb_val t i 0) (fun t i => win0_17.rect_emb_val t i 1) fun (t : Fin cfg0.N) r k => by
    have h := congrFun (Value.blocks17 m c t (flush0_17 t)) (ix2 r k)
    rw [Value.flushed17, (outs ..).2.2.2.2.2.2.2.1] at h
    exact h.trans (ca_row m c t r k)

theorem final18 : (dats m 0 c).arrAt 18 cfg0.N = rCb (a0 m c) (gB m c) (a5 m c) (a7 m c) (a8 m c) :=
  eq_of_rows (b := win0_18.index) index0 (fun t i => win0_18.rect_emb_val t i 0) (fun t i => win0_18.rect_emb_val t i 1) fun (t : Fin cfg0.N) r k => by
    have h := congrFun (Value.blocks18 m c t (flush0_18 t)) (ix2 r k)
    rw [Value.flushed18, (outs ..).2.2.2.2.2.2.2.2] at h
    exact h.trans (cb_row m c t r k)

/-! ## The claims -/

theorem frame : Cert.quiescent_MergeBwd := fun m ρ _ => Cert.MergeBwd.Gen.frame m ρ
theorem frame_ideal : Cert.quiescent_MergeBwdIdeal := fun m ρ _ => Cert.MergeBwdIdeal.Gen.frame m ρ
theorem frame_reference : Cert.quiescent_MergeBwdReferenceIdeal := fun m ρ _ =>
  (θ_run Cert.MergeBwdReferenceIdeal.defs _ _).mono (fun r h => ⟨fun c => (h c).2.2.2.2.2.2.2.2.2, sem_eq_zero_of_no_sems (by decide) r.2⟩)
    (Cert.MergeBwdReferenceIdeal.Value.run (F := Ideal) m ρ)

theorem algebraic : Cert.algebraic_MergeBwdIdeal_MergeBwdReferenceIdeal := by
  intro m ρ m' ρ' _ hagree
  refine ⟨_, _, _, _, _, _, _, _, _, Cert.MergeBwdIdeal.Value.run_blocks (F := Ideal) m ρ, ?_⟩
  refine (θ_run Cert.MergeBwdReferenceIdeal.defs _ _).mono (fun r h c => ?_) (Cert.MergeBwdReferenceIdeal.Value.run (F := Ideal) m' ρ')
  obtain ⟨h0, h1, h2, h3, h4, h5, h6, h7, h8, hk⟩ := h c
  obtain ⟨e0, e1, e2, e3, e4, e5, e6, e7, e8⟩ := hagree c
  refine ⟨h0.trans ?_, h1.trans ?_, h2.trans ?_, h3.trans ?_, h4.trans ?_, h5.trans ?_, h6.trans ?_, h7.trans ?_, h8.trans ?_, hk⟩
  · change rBranch (F := Ideal) _ (rA _) _ = _
    rw [e0, e3, e8]
    exact (final10 m c).symm
  · change rBranch (F := Ideal) _ (rB _) _ = _
    rw [e0, e3, e8]
    exact (final11 m c).symm
  · change rDGate (F := Ideal) _ _ (rA _) _ = _
    rw [e0, e1, e3, e8]
    exact (final12 m c).symm
  · change rDGate (F := Ideal) _ _ (rB _) _ = _
    rw [e0, e2, e3, e8]
    exact (final13 m c).symm
  · change rYa (F := Ideal) _ (rA _) _ _ = _
    rw [e0, e3, e6, e8]
    exact (final14 m c).symm
  · change rYb (F := Ideal) _ (rB _) _ _ = _
    rw [e0, e3, e7, e8]
    exact (final15 m c).symm
  · rw [e0]
    exact (final16 m c).symm
  · change rCa (F := Ideal) _ (rA _) _ _ _ = _
    rw [e0, e3, e4, e6, e8]
    exact (final17 m c).symm
  · change rCb (F := Ideal) _ (rB _) _ _ _ = _
    rw [e0, e3, e5, e7, e8]
    exact (final18 m c).symm

end Cert.MergeBackward

end
-- ==== Proof.BiasGradient.lean ====
/- The gradient of the bias table on one device: the reference's table, what the kernel's loop over the buckets leaves, and that
   the two are equal cell by cell. -/
module

public import proofs.«01_k».proof.Defs
public import proofs.«01_k».proof.Proof.Layer
public import proofs.«01_k».proof.Proof.Gen.BiasGrad.Frame
public import proofs.«01_k».proof.Proof.Gen.BiasGradIdeal.Value
public import proofs.«01_k».proof.Proof.Gen.BiasGradReferenceIdeal.Run
public import Idealize.ShloMosaic.Lib.Quiescent

@[expose] public section

set_option maxRecDepth 16384

noncomputable section

open Idealize.ShloMosaic Idealize.ShloMosaic.TcCoe Idealize.ShloMosaic.Tactic Idealize.SL.Sem

namespace Cert.BiasGradient

open Cert.Layer

theorem select_eq {w : ℕ} {α : Type} (a b : BitVec w) (x y : α) : Scalar.select (IntOp.cmpi .eq a b) x y = if a = b then x else y := by
  by_cases h : a = b
  · subst h
    have e : IntOp.cmpi .eq a a = 1#1 := by simp [IntOp.cmpi]
    rw [e, if_pos rfl]
    rfl
  · have e : IntOp.cmpi .eq a b = 0#1 := by
      show BitVec.ofBool (a == b) = 0#1
      rw [beq_eq_false_iff_ne.mpr h]
      rfl
    rw [e, if_neg h]
    rfl

theorem select_and {α : Type} (a b : BitVec 1) (x y : α) : Scalar.select (IntOp.andi a b) x y = Scalar.select a (Scalar.select b x y) y := by
  revert a b
  have : ∀ a b : BitVec 1, (IntOp.andi a b = 1#1 ↔ a = 1#1 ∧ b = 1#1) := by decide
  intro a b
  unfold Scalar.select
  have := this a b
  split_ifs <;> simp_all

/-- Head `h`'s group of buckets. -/
def group (h : Fin 20) : Fin 4 := ⟨min (h.val / 4) 3, by omega⟩

/-- The cell of a bucket and a column. -/
def cell (x0 : Vec Ideal ⟨3, ![20, 128, 256]⟩ .f32) (x1 : Vec Ideal ⟨3, ![4, 128, 256]⟩ .i32) (b : BitVec 32) (q : Fin 128) : EReal :=
  if h : q.val < 20 then ∑ i : Fin 128, ∑ j : Fin 256, if x1 (ix3 (group ⟨q.val, h⟩) i j) = b then x0 (ix3 ⟨q.val, h⟩ i j) else 0 else 0

/-! ## The reference -/

section

open Cert.BiasGradReferenceIdeal Cert.BiasGradReferenceIdeal.Gen

section

variable {F : FTy → Type} [FloatOps F] (x0 : Vec F S20x128x256 .f32) (x1 : Vec F S4x128x256 .i32)

def rBucket : Vec F S20x128x256 .i32 :=
  concatenate S20x128x256 0 [⟨S12x128x256, (shapeCast _ (broadcastInDim S3x4x128x256 ![0, 2, 3] bcast_S3x128x256_S3x4x128x256_0_2_3 (extractStridedSlice S3x128x256 ![0, 0, 0] x1 slices_S4x128x256_S3x128x256_0_0_0)) shapeCasts_S3x4x128x256_S12x128x256)⟩,
    ⟨S8x128x256, (shapeCast _ (broadcastInDim S1x8x128x256 ![0, 2, 3] bcast_S1x128x256_S1x8x128x256_0_2_3 (extractStridedSlice S1x128x256 ![3, 0, 0] x1 slices_S4x128x256_S1x128x256_3_0_0)) shapeCasts_S1x8x128x256_S8x128x256)⟩] concatenates_S12x128x256_S8x128x256_S20x128x256_d0
def rSum : Vec F S32x20 .f32 :=
  Host.reduceAdd (select (cmpi .eq (broadcastInDim S32x20x128x256 ![0, 1, 2, 3] bcast_S1x20x128x256_S32x20x128x256_0_1_2_3 (broadcastInDim S1x20x128x256 ![1, 2, 3] bcast_S20x128x256_S1x20x128x256_1_2_3 (rBucket (F := F) x1))) (broadcastInDim S32x20x128x256 ![0, 1, 2, 3] bcast_S32x1x1x1_S32x20x128x256_0_1_2_3 (broadcastInDim S32x1x1x1 ![0] bcast_S32_S32x1x1x1_0 (iotaInDim S32 32 0))))
    (broadcastInDim S32x20x128x256 ![0, 1, 2, 3] bcast_S1x20x128x256_S32x20x128x256_0_1_2_3 (broadcastInDim S1x20x128x256 ![1, 2, 3] bcast_S20x128x256_S1x20x128x256_1_2_3 x0)) (broadcastInDim S32x20x128x256 ![] bcast_S_S32x20x128x256 (id (constant S_ .f32 0x00000000#32)))) (constant S_ .f32 0x00000000#32) reducesTo_S32x20x128x256_S32x20_d2_3 h_S_
def rTable : Vec F S32x128 .f32 :=
  concatenate S32x128 1 [⟨S32x20, rSum x0 x1⟩, ⟨S32x108, (broadcastInDim S32x108 ![] bcast_S_S32x108 (constant S_ .f32 0x00000000#32))⟩] concatenates_S32x20_S32x108_S32x128_d1

end

variable (x0 : Vec Ideal S20x128x256 .f32) (x1 : Vec Ideal S4x128x256 .i32)

theorem rBucket_apply (h : Fin 20) (i : Fin 128) (j : Fin 256) : rBucket (F := Ideal) x1 (ix3 h i j) = x1 (ix3 (group h) i j) := by
  pointwise [rBucket]
  split_ifs with hh
  · exact congrArg (fun g => x1 (ix3 g i j)) (Fin.ext (by show h.val / 4 = min (h.val / 4) 3; omega))
  · exact congrArg (fun g => x1 (ix3 g i j)) (Fin.ext (by show 3 = min (h.val / 4) 3; omega))

theorem rSum_apply (r : Fin 32) (h : Fin 20) : rSum (F := Ideal) x0 x1 (ix2 r h) = ∑ i : Fin 128, ∑ j : Fin 256, if x1 (ix3 (group h) i j) = BitVec.ofNat 32 r.val then x0 (ix3 h i j) else 0 := by
  pointwise [rSum, id]
  simp only [rBucket_apply, select_eq]

theorem rTable_apply (r : Fin 32) (q : Fin 128) : rTable (F := Ideal) x0 x1 (ix2 r q) = cell x0 x1 (BitVec.ofNat 32 r.val) q := by
  pointwise [rTable, cell, rSum_apply]

end

/-! ## A trip of the loop -/

open Cert.BiasGradIdeal Cert.BiasGradIdeal.Gen

section

variable {F : FTy → Type} [FloatOps F]

/-- The matrix of a stack of `n` matrices. -/
def page {n : ℕ} {e : EltTy} (X : Vec F ⟨3, ![n, 128, 256]⟩ e) (h : Fin n) : Vec F S1x128x256 e := fun i => X (ix3 h (i 1) (i 2))

theorem ld_page {n j : ℕ} {e : EltTy} (inb) (X : Vec F ⟨3, ![n, 128, 256]⟩ e) :
    View.ld X (Rect.unit (s := ⟨3, ![n, 128, 256]⟩) ![j, 0, 0] ![1, 128, 256] inb) = page X ⟨j, inb 0⟩ := by
  funext i
  refine congrArg X ?_
  have h0 : (i 0).val = 0 := Nat.lt_one_iff.mp (i 0).isLt
  funext a
  fin_cases a
  · exact Fin.ext (by show j + 1 * (i 0).val = j; omega)
  · exact Fin.ext (by show 0 + 1 * (i 1).val = (i 1).val; omega)
  · exact Fin.ext (by show 0 + 1 * (i 2).val = (i 2).val; omega)

/-- One head's step. -/
def put (v0 v1 : IVec S32x128 32) (b h : BitVec 32) (bk : Vec F S1x128x256 .i32) (ds : Vec F S1x128x256 .f32) (acc : FVec F S32x128 .f32) : FVec F S32x128 .f32 :=
  select (andi (cmpi .eq v0 (broadcast S32x128 b)) (cmpi .eq v1 (broadcast S32x128 h)))
    (broadcastTo S32x128 (shapeCast S1x1 (shapeCast S1x1 (multiReduction .add [0] S1 (shapeCast S128x1 (multiReduction .add [1] S128
      (select (cmpi .eq (shapeCast S128x256 bk shapeCasts_S1x128x256_S128x256) (broadcast S128x256 b)) (shapeCast S128x256 ds shapeCasts_S1x128x256_S128x256)
        (broadcast S128x256 (Scalar.ofBits .f32 0x00000000#32)))
      0x00000000#32 reduces_S128x256_S128 (.inl rfl) rfl) shapeCasts_S128_S128x1) 0x00000000#32 reduces_S128x1_S1 (.inl rfl) rfl) shapeCasts_S1_S1x1)
      shapeCasts_S1x1_S1x1) broadcasts_S1x1_S32x128) acc

/-- All heads' steps. -/
def heads (v0 v1 : IVec S32x128 32) (b : BitVec 32) (x0 : Vec F S20x128x256 .f32) (x1 : Vec F S4x128x256 .i32) (l : List (Fin 20)) (acc : FVec F S32x128 .f32) :
    FVec F S32x128 .f32 :=
  l.foldl (fun acc h => put v0 v1 b (BitVec.ofNat 32 h.val) (page x1 (group h)) (page x0 h) acc) acc

/-- Every head. -/
abbrev all : List (Fin 20) := [0, 1, 2, 3, 4, 5, 6, 7, 8, 9, 10, 11, 12, 13, 14, 15, 16, 17, 18, 19]

theorem trip_eq (𝒱 : Variants) (c : Dev nD) (bd : Option 𝒱.V) (arg0 : Memref sig .tc .vmem S20x128x256 .f32) (harg0 : arg0.IsWhole)
    (arg1 : Memref sig .tc .vmem S4x128x256 .i32) (harg1 : arg1.IsWhole) (arg2 : Memref sig .tc .vmem S32x128 .f32) (harg2 : arg2.IsWhole)
    (v0 v1 : IVec S32x128 32) (x0 : Vec F S20x128x256 .f32) (x1 : Vec F S4x128x256 .i32) (k : Fin k0_t1_loop.trips) (acc : FVec F S32x128 .f32) :
    tripR_k0_t1 𝒱 c bd arg0 harg0 arg1 harg1 arg2 harg2 v0 v1 (harg0.unread x0) (harg1.unread x1) k acc
      = heads v0 v1 (Scf.iv 0#32 1#32 k) x0 x1 all acc := by
  unfold tripR_k0_t1 trip_k0_t1
  dsimp only
  unfold trip_k0_t1.sl.r_29 trip_k0_t1.sl.r_28 trip_k0_t1.sl.r_27 trip_k0_t1.sl.r_26 trip_k0_t1.sl.r_25 trip_k0_t1.sl.r_24 trip_k0_t1.sl.r_23 trip_k0_t1.sl.r_22 trip_k0_t1.sl.r_21 trip_k0_t1.sl.r_20 trip_k0_t1.sl.r_19 trip_k0_t1.sl.r_18 trip_k0_t1.sl.r_17 trip_k0_t1.sl.r_16 trip_k0_t1.sl.r_15 trip_k0_t1.sl.r_14 trip_k0_t1.sl.r_13 trip_k0_t1.sl.r_12 trip_k0_t1.sl.r_11 trip_k0_t1.sl.r_10 trip_k0_t1.sl.r_9 trip_k0_t1.sl.r_8 trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r
  simp only [readAt_whole, ld_page]
  rfl

end

section

variable (bk : Vec Ideal S1x128x256 .i32) (ds : Vec Ideal S1x128x256 .f32) (acc : FVec Ideal S32x128 .f32) (r : Fin 32) (q : Fin 128)

/-- The sum of a page where another page is `b`. -/
def total (b : BitVec 32) : EReal := ∑ i : Fin 128, ∑ j : Fin 256, if bk (ix3 0 i j) = b then ds (ix3 0 i j) else 0

theorem put_apply (b h : BitVec 32) :
    put (F := Ideal) (iota .tc S32x128 32 [0] iota_S32x128_d0_w32) (iota .tc S32x128 32 [1] iota_S32x128_d1_w32) b h bk ds acc (ix2 r q)
      = if BitVec.ofNat 32 r.val = b ∧ BitVec.ofNat 32 q.val = h then total bk ds b else acc (ix2 r q) := by
  unfold total
  pointwise [put]
  simp only [select_and, select_eq, ← ite_and]

end

theorem heads_apply (x0 : Vec Ideal S20x128x256 .f32) (x1 : Vec Ideal S4x128x256 .i32) (b : BitVec 32) (r : Fin 32) (q : Fin 128) (l : List (Fin 20)) :
    ∀ acc : FVec Ideal S32x128 .f32,
    heads (F := Ideal) (iota .tc S32x128 32 [0] iota_S32x128_d0_w32) (iota .tc S32x128 32 [1] iota_S32x128_d1_w32) b x0 x1 l acc (ix2 r q)
      = if BitVec.ofNat 32 r.val = b ∧ ∃ h ∈ l, h.val = q.val then cell x0 x1 b q else acc (ix2 r q) := by
  induction l with
  | nil => intro acc; simp [heads]
  | cons h l ih =>
    intro acc
    refine (ih _).trans ?_
    dsimp only
    rw [put_apply]
    have e : BitVec.ofNat 32 q.val = BitVec.ofNat 32 h.val ↔ h.val = q.val := by
      refine ⟨fun e => ?_, fun e => congrArg _ e.symm⟩
      have e := congrArg BitVec.toNat e
      simp only [BitVec.toNat_ofNat] at e
      omega
    have e' : h.val = q.val → total (page x1 (group h)) (page x0 h) b = cell x0 x1 b q := by
      intro hq
      have : h = ⟨q.val, hq ▸ h.isLt⟩ := Fin.ext hq
      unfold cell
      rw [dif_pos (hq ▸ h.isLt), ← this]
      rfl
    simp only [e]
    simp only [List.mem_cons, exists_eq_or_imp]
    by_cases hb : BitVec.ofNat 32 r.val = b
    · by_cases hl : ∃ h ∈ l, h.val = q.val
      · simp [hb, hl]
      · by_cases hq : h.val = q.val
        · simp [hb, hl, hq, e' hq]
        · simp [hb, hl, hq]
    · simp [hb]

/-! ## The loop: after `k` trips the rows below `k` are done, the others zero -/

theorem mem_all : ∀ h : Fin 20, h ∈ all := by decide

theorem trips_eq : k0_t1_loop.trips = 32 := by decide

section

variable (𝒱 : Variants) (c : Dev nD) (bd : Option 𝒱.V) (arg0 : Memref sig .tc .vmem S20x128x256 .f32) (harg0 : arg0.IsWhole)
    (arg1 : Memref sig .tc .vmem S4x128x256 .i32) (harg1 : arg1.IsWhole) (arg2 : Memref sig .tc .vmem S32x128 .f32) (harg2 : arg2.IsWhole)

theorem state_apply (x0 : Vec Ideal S20x128x256 .f32) (x1 : Vec Ideal S4x128x256 .i32) (r : Fin 32) (q : Fin 128) (k : ℕ) (hk : k ≤ 32) :
    st_k0_t1 (F := Ideal) 𝒱 c bd arg0 harg0 arg1 harg1 arg2 harg2 (iota .tc S32x128 32 [0] iota_S32x128_d0_w32)
      (iota .tc S32x128 32 [1] iota_S32x128_d1_w32) (harg0.unread x0) (harg1.unread x1) k0_pay1 k (ix2 r q)
      = if r.val < k then cell x0 x1 (BitVec.ofNat 32 r.val) q else 0 := by
  induction k with
  | zero =>
    rw [st_k0_t1_zero, if_neg (Nat.not_lt_zero _)]
    pointwise [k0_pay1]
  | succ k ih =>
    rw [st_k0_t1_succ (k := ⟨k, by rw [trips_eq]; omega⟩), trip_eq, heads_apply, ih (by omega)]
    have e : Scf.iv 0#32 1#32 k = BitVec.ofNat 32 k := by unfold Scf.iv; simp
    have e' : BitVec.ofNat 32 r.val = BitVec.ofNat 32 k ↔ r.val = k := by
      refine ⟨fun e => ?_, fun e => congrArg _ e⟩
      have e := congrArg BitVec.toNat e
      simp only [BitVec.toNat_ofNat] at e
      omega
    rw [show Scf.iv 0#32 1#32 (⟨k, by rw [trips_eq]; omega⟩ : Fin k0_t1_loop.trips).val = BitVec.ofNat 32 k from e]
    simp only [e']
    by_cases hq : q.val < 20
    · have hm : ∃ h ∈ all, h.val = q.val := ⟨⟨q.val, hq⟩, mem_all _, rfl⟩
      by_cases hr : r.val = k
      · rw [if_pos ⟨hr, hm⟩, if_pos (by omega), hr]
      · rw [if_neg (fun h => hr h.1)]
        by_cases hl : r.val < k
        · rw [if_pos hl, if_pos (by omega)]
        · rw [if_neg hl, if_neg (by omega)]
    · rw [if_neg (fun ⟨_, h, _, hh⟩ => hq (hh ▸ h.isLt))]
      simp [cell, hq]

theorem out_apply (x0 : Vec Ideal S20x128x256 .f32) (x1 : Vec Ideal S4x128x256 .i32) (r : Fin 32) (q : Fin 128) :
    out0_A_2 (F := Ideal) c arg0 harg0 arg1 harg1 arg2 harg2 x0 x1 (ix2 r q) = cell x0 x1 (BitVec.ofNat 32 r.val) q := by
  unfold out0_A_2
  simp only [View.read_writes_junk_eq_canon]
  unfold kernelRun0_A
  dsimp only
  sl_unfold_run_names
  refine (congrFun (canon_all _ _ _) _).trans ?_
  rw [show Scf.trips (0#32) (Scalar.addi 0#32 32#32) 1#32 = 32 from by decide, state_apply _ _ _ _ _ _ _ _ _ _ _ _ _ _ le_rfl, if_pos r.isLt]

end

/-! ## The launch -/

variable (m : (ℓ : Loc nD τ sig) → Buf (Elt Ideal) ℓ) (c : Dev nD)

/-- The one point of the launch; its blocks are the whole arrays. -/
abbrev t0 : Fin cfg0.N := ⟨0, by decide +kernel⟩

theorem emb_val (w : Pipeline.Window sig grid0) (hk : w.kind = .blocked) (h : ∀ a, w.index t0 a = 0) (i : (w.xblock (grid0.coords t0)).Idx) (a : Fin w.shape.rank) :
    ((w.rect t0).emb i a : ℕ) = i a := by
  rw [w.rect_emb_val t0 i a hk, h a, Nat.zero_mul, Nat.zero_add]

theorem emb0 (i : S20x128x256.Idx) : ((cfg0.win 0).blk t0).view.emb i = i :=
  funext fun a => Fin.ext (emb_val win0_0 rfl (by decide +kernel) i a)

theorem emb1 (i : S4x128x256.Idx) : ((cfg0.win 1).blk t0).view.emb i = i :=
  funext fun a => Fin.ext (emb_val win0_1 rfl (by decide +kernel) i a)

theorem emb2 (i : S32x128.Idx) : ((cfg0.win 2).blk t0).view.emb i = i :=
  funext fun a => Fin.ext (emb_val win0_2 rfl (by decide +kernel) i a)

theorem final2 : (dats m 0 c).arrAt 2 cfg0.N = rTable (F := Ideal) (V m c main_arg0) (V m c main_arg1) :=
  ext2 fun (r : Fin 32) (q : Fin 128) => by
    have h := congrFun (Value.blocks2 m c t0 (by decide +kernel)) (ix2 r q)
    rw [Value.flushed2_A] at h
    have h0 : iblk m c 0 t0 = V m c main_arg0 := funext fun i => congrArg (V m c main_arg0) (emb0 i)
    have h1 : iblk m c 1 t0 = V m c main_arg1 := funext fun i => congrArg (V m c main_arg1) (emb1 i)
    rw [h0, h1] at h
    refine (congrArg ((dats m 0 c).arrAt 2 cfg0.N) (emb2 (ix2 r q)).symm).trans (h.trans ?_)
    exact (out_apply ..).trans (rTable_apply _ _ r q).symm

/-! ## The claims -/

theorem frame : Cert.quiescent_BiasGrad := fun m ρ _ => Cert.BiasGrad.Gen.frame m ρ
theorem frame_ideal : Cert.quiescent_BiasGradIdeal := fun m ρ _ => Cert.BiasGradIdeal.Gen.frame m ρ
theorem frame_reference : Cert.quiescent_BiasGradReferenceIdeal := fun m ρ _ =>
  (θ_run Cert.BiasGradReferenceIdeal.defs _ _).mono (fun r h => ⟨fun c => (h c).2, sem_eq_zero_of_no_sems (by decide) r.2⟩)
    (Cert.BiasGradReferenceIdeal.Value.run (F := Ideal) m ρ)

theorem algebraic : Cert.algebraic_BiasGradIdeal_BiasGradReferenceIdeal := by
  intro m ρ m' ρ' _ hagree
  refine ⟨_, Cert.BiasGradIdeal.Value.run_blocks (F := Ideal) m ρ, ?_⟩
  refine (θ_run Cert.BiasGradReferenceIdeal.defs _ _).mono (fun r h c => ?_) (Cert.BiasGradReferenceIdeal.Value.run (F := Ideal) m' ρ')
  obtain ⟨h0, hk⟩ := h c
  obtain ⟨e0, e1⟩ := hagree c
  refine ⟨h0.trans ?_, hk⟩
  change rTable (F := Ideal) _ _ = _
  rw [e0, e1]
  exact (final2 m c).symm

end Cert.BiasGradient

end
-- ==== Proof.Attention.lean ====
/- The attention of the third group on one device: what a grid point (one residue class of one sequence, four heads) leaves, a row of
   the reference, and the two output arrays, which are the reference's. -/
module

public import proofs.«01_k».proof.Defs
public import proofs.«01_k».proof.Proof.MergeBackward
public import proofs.«01_k».proof.Proof.BiasGradient
public import proofs.«01_k».proof.Proof.Gen.AttnFwd.Frame
public import proofs.«01_k».proof.Proof.Gen.AttnFwdIdeal.Value
public import proofs.«01_k».proof.Proof.Gen.AttnFwdReferenceIdeal.Run
public import Idealize.ShloMosaic.Lib.Quiescent

@[expose] public section

set_option maxRecDepth 16384

noncomputable section

open Idealize.ShloMosaic Idealize.ShloMosaic.TcCoe Idealize.ShloMosaic.Tactic Idealize.SL.Sem

namespace Cert.Attention

open Cert.MergeBackward (word word_eq same same_eq headSum sum_same)
open Cert.BiasGradient (select_eq)

/-! ## A row -/

section

variable (s : Fin 128 → EReal)

/-- The greatest logit (from minus infinity on); a key's weight; their sum and its log; the weighted mean of `v`. -/
def top : EReal := Finset.univ.fold max (Ideal.ofBits .f32 0xFF800000#32) s
def wt (j : Fin 128) : EReal := Ideal.exp (s j - top s)
def den : EReal := ∑ j, wt s j
def lse : EReal := top s + Ideal.log (den s)
def mean (v : Fin 128 → EReal) : EReal := Ideal.div (∑ j, wt s j * v j) (den s)

end

/-- A logit from a product, which is taken times 1/8, and a bias. -/
def logit (x b : EReal) : EReal := x * Ideal.ofBits .f32 0x3E000000#32 + b

/-! ## What a point leaves -/

section

open Cert.AttnFwdIdeal Cert.AttnFwdIdeal.Gen

section

variable {F : FTy → Type} [FloatOps F]

/-- Head `h`'s bias to the keys of the block itself. -/
def own (x3 : Vec F S4x128x256 .f32) (h : Fin 4) : Vec F S1x128x128 .f32 := fun i => x3 (ix3 h (i 1) ⟨128 + (i 2).val, Nat.add_lt_add_left (i 2).isLt 128⟩)

theorem ld_own {j : ℕ} (inb) (X : Vec F S4x128x256 .f32) :
    View.ld X (Rect.unit (s := S4x128x256) ![j, 0, 128] S1x128x128.size inb) = own X ⟨j, inb 0⟩ := by
  funext i
  refine congrArg X ?_
  have h0 : (i 0).val = 0 := Nat.lt_one_iff.mp (i 0).isLt
  funext a
  fin_cases a
  · exact Fin.ext (by show j + 1 * (i 0).val = j; omega)
  · exact Fin.ext (by show 0 + 1 * (i 1).val = (i 1).val; omega)
  · exact Fin.ext (by show 128 + 1 * (i 2).val = 128 + (i 2).val; omega)

theorem ld_block {e : EltTy} (inb) (X : Vec F S1x128x256 e) : View.ld X (Rect.unit (s := S1x128x256) ![0, 0, 0] S1x128x256.size inb) = X :=
  View.ld_unit_lit (S := ⟨3, ![1, 128, 256]⟩) inb X (fun a => by fin_cases a <;> rfl)

theorem canon_block {e : EltTy} (inb) (X : Vec F S1x128x256 e) (L : List (View.Piece (Elt F) S1x128x256 e)) :
    View.canon (⟨Rect.unit (s := S1x128x256) ![0, 0, 0] S1x128x256.size inb, X⟩ :: L) = X :=
  View.canon_cons_unit_lit (S := ⟨3, ![1, 128, 256]⟩) inb X L (fun a => by fin_cases a <;> rfl)

variable (b : BitVec 32) (x0 x1 x2 : Vec F S1x128x256 .bf16) (y : Vec F S1x128x128 .f32)

/-- One head: its logits, the greatest of a row, the weights, their sum; its steps on the two outputs. -/
def kLogit : FVec F S128x128 .f32 :=
  addf (mulf (matmul dot_S128x256_S128x256_S128x128_1_1_0_0_n_n none
    (select (cmpi .eq k0_pay1 (broadcast S128x256 b)) (shapeCast S128x256 x0 shapeCasts_S1x128x256_S128x256) (broadcast S128x256 (Scalar.ofBits .bf16 0x0000#16)))
    (shapeCast S128x256 x1 shapeCasts_S1x128x256_S128x256) (constant S128x128 .f32 0x00000000#32)) (broadcast S128x128 (Scalar.ofBits .f32 0x3E000000#32)))
    (shapeCast S128x128 y shapeCasts_S1x128x128_S128x128)
def kTop : FVec F S128x1 .f32 :=
  shapeCast S128x1 (multiReduction .maximumf [1] S128 (kLogit b x0 x1 y) 0xFF800000#32 reduces_S128x128_S128 (.inl rfl) rfl) shapeCasts_S128_S128x1
def kWt : FVec F S128x128 .f32 := exp (subf (kLogit b x0 x1 y) (broadcastTo S128x128 (kTop b x0 x1 y) broadcasts_S128x1_S128x128))
def kDen : FVec F S128x1 .f32 :=
  shapeCast S128x1 (multiReduction .add [1] S128 (kWt b x0 x1 y) 0x00000000#32 reduces_S128x128_S128 (.inl rfl) rfl) shapeCasts_S128_S128x1
def kMean : FVec F S128x256 .f32 :=
  divf (matmul dot_S128x128_S128x256_S128x256_1_0_0_1_n_n none (truncf .bf16 (kWt b x0 x1 y) bitsLt_bf16_f32)
    (shapeCast S128x256 x2 shapeCasts_S1x128x256_S128x256) (constant S128x256 .f32 0x00000000#32)) (broadcastTo S128x256 (kDen b x0 x1 y) broadcasts_S128x1_S128x256)
def kLse : FVec F S128x256 .f32 :=
  broadcastTo S128x256 (shapeCast S128x1 (addf (kTop b x0 x1 y) (log (kDen b x0 x1 y))) shapeCasts_S128x1_S128x1) broadcasts_S128x1_S128x256

/-- `v` in the columns of head `b`, `acc` in the others. -/
def put (v acc : FVec F S128x256 .f32) : FVec F S128x256 .f32 := select (cmpi .eq k0_pay1 (broadcast S128x256 b)) v acc

/-- Each head's array in its columns. -/
def heads (v : Fin 4 → FVec F S128x256 .f32) : Vec F S1x128x256 .f32 :=
  shapeCast S1x128x256 (put 3#32 (v 3) (put 2#32 (v 2) (put 1#32 (v 1) (put 0#32 (v 0) (broadcast S128x256 (Scalar.ofBits .f32 0x00000000#32))))))
    shapeCasts_S128x256_S1x128x256

variable (x3 : Vec F S4x128x256 .f32) (x4 : Vec F S1x4x128 .f32)

theorem outs : out0_5 x0 x1 x2 x3 x4 = heads (fun h => kMean (BitVec.ofNat 32 h.val) x0 x1 x2 (own x3 h))
    ∧ out0_6 x0 x1 x2 x3 x4 = heads (fun h => kLse (BitVec.ofNat 32 h.val) x0 x1 (own x3 h)) := by
  unfold out0_5 out0_6 k0_pay40 k0_pay39 k0_pay38 k0_pay37 k0_pay36 k0_pay35 k0_pay34
  simp only [ld_block, ld_own, canon_block]
  exact ⟨rfl, rfl⟩

end

section

variable (x0 x1 x2 : Vec Ideal S1x128x256 .bf16) (x3 : Vec Ideal S4x128x256 .f32) (i : Fin 128) (q : Fin 256)

theorem lane_apply : k0_pay1 (ix2 i q) = BitVec.ofNat 32 (q.val / 64) := by
  refine Eq.trans ?_ (word_eq ⟨q.val, by omega⟩)
  pointwise [k0_pay1]
  rfl

theorem heads_apply (v : Fin 4 → FVec Ideal S128x256 .f32) : heads (F := Ideal) v (ix3 0 i q) = v ⟨q.val / 64, by omega⟩ (ix2 i q) := by
  have e : ∀ h : Fin 4, (if BitVec.ofNat 32 h.val = 3#32 then v 3 (ix2 i q) else if BitVec.ofNat 32 h.val = 2#32 then v 2 (ix2 i q)
      else if BitVec.ofNat 32 h.val = 1#32 then v 1 (ix2 i q) else if BitVec.ofNat 32 h.val = 0#32 then v 0 (ix2 i q) else 0) = v h (ix2 i q) := by
    intro h
    fin_cases h <;> rfl
  pointwise [heads, put, lane_apply, select_eq]
  exact e ⟨q.val / 64, by omega⟩

/-- The logits of the head of column `q`, from a point's blocks. -/
def row (j : Fin 128) : EReal :=
  logit (headSum rfl (fun x => x0 (ix3 0 i x) * x1 (ix3 0 j x)) q) (x3 (ix3 ⟨q.val / 64, by omega⟩ i ⟨128 + j.val, by omega⟩))

theorem kLogit_apply (j : Fin 128) : kLogit (F := Ideal) (BitVec.ofNat 32 (q.val / 64)) x0 x1 (own x3 ⟨q.val / 64, by omega⟩) (ix2 i j) = row x0 x1 x3 i q j := by
  unfold row
  rw [← sum_same rfl (by decide)]
  pointwise [kLogit, logit, own, lane_apply, select_eq]
  refine congrArg (· * _ + _) (Finset.sum_congr rfl fun x _ => ?_)
  have e : BitVec.ofNat 32 (x.val / 64) = BitVec.ofNat 32 (q.val / 64) ↔ x.val / 64 = q.val / 64 := by
    refine ⟨fun e => ?_, fun e => congrArg _ e⟩
    have e := congrArg BitVec.toNat e
    simp only [BitVec.toNat_ofNat] at e
    omega
  rw [same_eq x.val q.val (by omega) (by omega)]
  simp only [e]
  split_ifs
  · rw [mul_one]
  · rw [mul_zero, zero_mul]

theorem kWt_apply (j : Fin 128) : kWt (F := Ideal) (BitVec.ofNat 32 (q.val / 64)) x0 x1 (own x3 ⟨q.val / 64, by omega⟩) (ix2 i j) = wt (row x0 x1 x3 i q) j := by
  pointwise [kWt, kTop, kLogit_apply, wt, top]

theorem kMean_apply : kMean (F := Ideal) (BitVec.ofNat 32 (q.val / 64)) x0 x1 x2 (own x3 ⟨q.val / 64, by omega⟩) (ix2 i q)
    = mean (row x0 x1 x3 i q) (fun j => x2 (ix3 0 j q)) := by
  pointwise [kMean, kDen, kWt_apply, mean, den]

theorem kLse_apply : kLse (F := Ideal) (BitVec.ofNat 32 (q.val / 64)) x0 x1 (own x3 ⟨q.val / 64, by omega⟩) (ix2 i q) = lse (row x0 x1 x3 i q) := by
  pointwise [kLse, kTop, kDen, kLogit_apply, kWt_apply, lse, den, top]

end

end

/-! ## The reference -/

section

open Cert.AttnFwdReferenceIdeal Cert.AttnFwdReferenceIdeal.Gen

section

variable {F : FTy → Type} [FloatOps F] (A0 : Vec F S4x128x81920 .bf16) (A1 : Vec F S4x128x256 .f32)

def rHeads : Vec F S4x128x16x80x64 .f32 := shapeCast _ (extf .f32 A0 bitsLt_bf16_f32) shapeCasts_S4x128x81920_S4x128x16x80x64
def rQ : Vec F S4x128x16x4x64 .f32 := extractStridedSlice S4x128x16x4x64 ![0, 0, 0, 8, 0] (rHeads A0) slices_S4x128x16x80x64_S4x128x16x4x64_0_0_0_8_0
def rK : Vec F S4x128x16x4x64 .f32 := extractStridedSlice S4x128x16x4x64 ![0, 0, 0, 20, 0] (rHeads A0) slices_S4x128x16x80x64_S4x128x16x4x64_0_0_0_20_0
def rV : Vec F S4x128x16x4x64 .f32 := extractStridedSlice S4x128x16x4x64 ![0, 0, 0, 32, 0] (rHeads A0) slices_S4x128x16x80x64_S4x128x16x4x64_0_0_0_32_0
def rLogit : Vec F S4x16x4x128x128 .f32 :=
  addf (mulf (Host.dotGeneral dot_S4x128x16x4x64_S4x128x16x4x64_S4x16x4x128x128_4_4_1_1_023_023 none (rQ A0) (rK A0))
    (broadcastInDim S4x16x4x128x128 ![] bcast_S_S4x16x4x128x128 (constant S_ .f32 0x3E000000#32)))
    (broadcastInDim S4x16x4x128x128 ![0, 1, 2, 3, 4] bcast_S1x1x4x128x128_S4x16x4x128x128_0_1_2_3_4 (broadcastInDim S1x1x4x128x128 ![2, 3, 4]
      bcast_S4x128x128_S1x1x4x128x128_2_3_4 (extractStridedSlice S4x128x128 ![0, 0, 128] A1 slices_S4x128x256_S4x128x128_0_0_128)))
def rTop : Vec F S4x16x4x128 .f32 :=
  Host.reduce FloatOps.maximumf (rLogit A0 A1) (constant S_ .f32 0xFF800000#32) reducesTo_S4x16x4x128x128_S4x16x4x128_d4 h_S_
def rWt : Vec F S4x16x4x128x128 .f32 :=
  Host.exp (subf (rLogit A0 A1) (broadcastInDim S4x16x4x128x128 ![0, 1, 2, 3, 4] bcast_S4x16x4x128x1_S4x16x4x128x128_0_1_2_3_4
    (broadcastInDim S4x16x4x128x1 ![0, 1, 2, 3] bcast_S4x16x4x128_S4x16x4x128x1_0_1_2_3 (rTop A0 A1))))
def rDen : Vec F S4x16x4x128 .f32 := Host.reduceAdd (rWt A0 A1) (constant S_ .f32 0x00000000#32) reducesTo_S4x16x4x128x128_S4x16x4x128_d4 h_S_
/-- One value per query and head, at each of the head's 64 columns; the columns of all heads and residue classes side by side. -/
def rWide (X : Vec F S4x16x4x128 .f32) : Vec F S4x16x4x128x64 .f32 :=
  broadcastInDim S4x16x4x128x64 ![0, 1, 2, 3, 4] bcast_S4x16x4x128x1_S4x16x4x128x64_0_1_2_3_4
    (broadcastInDim S4x16x4x128x1 ![0, 1, 2, 3] bcast_S4x16x4x128_S4x16x4x128x1_0_1_2_3 X)
def rUnfold (X : Vec F S4x16x4x128x64 .f32) : Vec F S4x128x4096 .f32 :=
  shapeCast _ (transpose S4x128x16x4x64 [0, 3, 1, 2, 4] X transposes_S4x16x4x128x64_S4x128x16x4x64_0_3_1_2_4) shapeCasts_S4x128x16x4x64_S4x128x4096
def rMean : Vec F S4x128x4096 .f32 :=
  rUnfold (Host.divf (Host.dotGeneral dot_S4x16x4x128x128_S4x128x16x4x64_S4x16x4x128x64_4_1_3_4_012_023 none (rWt A0 A1) (rV A0)) (rWide (rDen A0 A1)))
def rLse : Vec F S4x128x4096 .f32 := rUnfold (rWide (addf (rTop A0 A1) (Host.log (rDen A0 A1))))

end

variable (A0 : Vec Ideal S4x128x81920 .bf16) (A1 : Vec Ideal S4x128x256 .f32) (n : Fin 4) (r : Fin 16) (h : Fin 4) (i : Fin 128)

/-- Column `d` of head `g` of residue class `r`. -/
abbrev col (r : Fin 16) (g : ℕ) (hg : g < 80) (d : Fin 64) : Fin 81920 := ⟨r.val * 5120 + g * 64 + d.val, by omega⟩

theorem rHeads_apply (g : Fin 80) (d : Fin 64) : rHeads A0 (ix5 n i r g d) = A0 (ix3 n i (col r g.val g.isLt d)) := by
  pointwise [rHeads]

/-- A query's logits. -/
def rRow (j : Fin 128) : EReal :=
  logit (∑ d : Fin 64, A0 (ix3 n i (col r (8 + h.val) (by omega) d)) * A0 (ix3 n j (col r (20 + h.val) (by omega) d))) (A1 (ix3 h i ⟨128 + j.val, by omega⟩))

theorem rLogit_apply (j : Fin 128) : rLogit A0 A1 (ix5 n r h i j) = rRow A0 A1 n r h i j := by
  pointwise [rLogit, rQ, rK, rHeads_apply, rRow, logit]

theorem rTop_apply : rTop A0 A1 (ix4 n r h i) = top (rRow A0 A1 n r h i) := by
  pointwise [rTop, rLogit_apply, top]

theorem rWt_apply (j : Fin 128) : rWt A0 A1 (ix5 n r h i j) = wt (rRow A0 A1 n r h i) j := by
  pointwise [rWt, rTop_apply, rLogit_apply, wt]

theorem rDen_apply : rDen A0 A1 (ix4 n r h i) = den (rRow A0 A1 n r h i) := by
  pointwise [rDen, rWt_apply, den]

theorem rWide_apply (X : Vec Ideal S4x16x4x128 .f32) (d : Fin 64) : rWide X (ix5 n r h i d) = X (ix4 n r h i) := by
  pointwise [rWide]

theorem rUnfold_apply (X : Vec Ideal S4x16x4x128x64 .f32) (q : Fin 4096) : rUnfold X (ix3 n i q)
    = X (ix5 n ⟨q.val / 256, by omega⟩ ⟨q.val % 256 / 64, by omega⟩ i ⟨q.val % 64, by omega⟩) := by
  have e : q.val / 64 % 4 = q.val % 256 / 64 := by omega
  pointwise [rUnfold]
  simp only [e]

theorem rMean_apply (q : Fin 4096) : rMean A0 A1 (ix3 n i q)
    = mean (rRow A0 A1 n ⟨q.val / 256, by omega⟩ ⟨q.val % 256 / 64, by omega⟩ i)
      (fun j => A0 (ix3 n j (col ⟨q.val / 256, by omega⟩ (32 + q.val % 256 / 64) (by omega) ⟨q.val % 64, by omega⟩))) := by
  pointwise [rMean, rUnfold_apply, rWide_apply, rDen_apply, rWt_apply, rV, rHeads_apply, mean]

theorem rLse_apply (q : Fin 4096) : rLse A0 A1 (ix3 n i q) = lse (rRow A0 A1 n ⟨q.val / 256, by omega⟩ ⟨q.val % 256 / 64, by omega⟩ i) := by
  rw [rLse, rUnfold_apply, rWide_apply, addf_apply, rTop_apply, Host.log_apply, rDen_apply]
  rfl

end

/-! ## The launch -/

section

open Cert.AttnFwdIdeal Cert.AttnFwdIdeal.Gen

/-- A window's blocks: point `t` takes sequence `t / 16` and, of residue class `t % 16`, the group of 256 columns at `k` of its `a`. -/
abbrev Steps {N : ℕ} (b : Fin N → Fin 3 → ℕ) (a k : ℕ) : Prop := ∀ t, b t 0 = t.val / 16 ∧ b t 1 = 0 ∧ b t 2 = t.val % 16 * a + k

theorem ext3 {k l n : ℕ} {f g : (⟨3, ![k, l, n]⟩ : Shape).Idx → EReal} (h : ∀ p q r, f (ix3 p q r) = g (ix3 p q r)) : f = g := by
  funext i
  have e : i = ix3 (i 0) (i 1) (i 2) := by
    funext z
    fin_cases z <;> rfl
  rw [e]
  exact h _ _ _

theorem place {N W a k : ℕ} {b : Fin N → Fin 3 → ℕ} (hb : Steps b a k) {t : Fin N} {n : Fin 4} {i : Fin 128} {x : Fin 256} {y : Fin W}
    (j : (⟨3, ![4, 128, W]⟩ : Shape).Idx) (h0 : (j 0).val = b t 0 * 1 + 0) (h1 : (j 1).val = b t 1 * 128 + i.val) (h2 : (j 2).val = b t 2 * 256 + x.val)
    (hn : t.val / 16 = n.val) (hy : (t.val % 16 * a + k) * 256 + x.val = y.val) : j = ix3 n i y := by
  obtain ⟨e0, e1, e2⟩ := hb t
  funext z
  fin_cases z
  · exact Fin.ext (by show (j 0).val = n.val; omega)
  · exact Fin.ext (by show (j 1).val = i.val; omega)
  · exact Fin.ext (by show (j 2).val = y.val; rw [h2, e2, hy])

theorem index0 : Steps win0_0.index 20 2 := (by decide +kernel : Steps (N := grid0.N) win0_0.index 20 2)
theorem index1 : Steps win0_1.index 20 5 := (by decide +kernel : Steps (N := grid0.N) win0_1.index 20 5)
theorem index2 : Steps win0_2.index 20 8 := (by decide +kernel : Steps (N := grid0.N) win0_2.index 20 8)
theorem index5 : Steps win0_5.index 1 0 := (by decide +kernel : Steps (N := grid0.N) win0_5.index 1 0)
theorem index6 : Steps win0_6.index 1 0 := (by decide +kernel : Steps (N := grid0.N) win0_6.index 1 0)
theorem index3 : ∀ (t : Fin cfg0.N) (a : Fin 3), win0_3.index t a = 0 := (by decide +kernel : ∀ (t : Fin grid0.N) (a : Fin 3), win0_3.index t a = 0)

/-- The point and the column of its block that a column of the outputs is in. -/
abbrev pt (n : Fin 4) (y : Fin 4096) : Fin cfg0.N := ⟨n.val * 16 + y.val / 256, by
  have h : cfg0.N = 64 := by decide +kernel
  omega⟩
abbrev lane (y : Fin 4096) : Fin 256 := ⟨y.val % 256, by omega⟩

variable (m : (ℓ : Loc nD τ sig) → Buf (Elt Ideal) ℓ) (c : Dev nD)

/-- The arguments on a device. -/
abbrev a0 : Vec Ideal S4x128x81920 .bf16 := V m c main_arg0
abbrev a1 : Vec Ideal S4x128x256 .f32 := V m c main_arg1

variable (t : Fin cfg0.N) (n : Fin 4) (r : Fin 16) (ht : t.val = n.val * 16 + r.val) (i : Fin 128) (q : Fin 256)

include ht

theorem iblk0 (y : Fin 81920) (hy : (r.val * 20 + 2) * 256 + q.val = y.val) : iblk m c 0 t (ix3 0 i q) = a0 m c (ix3 n i y) :=
  congrArg (V m c main_arg0) (place (i := i) (x := q) index0 _ (win0_0.rect_emb_val t (ix3 0 i q) 0) (win0_0.rect_emb_val t (ix3 0 i q) 1)
    (win0_0.rect_emb_val t (ix3 0 i q) 2) (by omega) (by omega))
theorem iblk1 (y : Fin 81920) (hy : (r.val * 20 + 5) * 256 + q.val = y.val) : iblk m c 1 t (ix3 0 i q) = a0 m c (ix3 n i y) :=
  congrArg (V m c main_arg0) (place (i := i) (x := q) index1 _ (win0_1.rect_emb_val t (ix3 0 i q) 0) (win0_1.rect_emb_val t (ix3 0 i q) 1)
    (win0_1.rect_emb_val t (ix3 0 i q) 2) (by omega) (by omega))
theorem iblk2 (y : Fin 81920) (hy : (r.val * 20 + 8) * 256 + q.val = y.val) : iblk m c 2 t (ix3 0 i q) = a0 m c (ix3 n i y) :=
  congrArg (V m c main_arg0) (place (i := i) (x := q) index2 _ (win0_2.rect_emb_val t (ix3 0 i q) 0) (win0_2.rect_emb_val t (ix3 0 i q) 1)
    (win0_2.rect_emb_val t (ix3 0 i q) 2) (by omega) (by omega))

omit ht in
theorem iblk3 : iblk m c 3 t = a1 m c := by
  refine funext fun i => congrArg (V m c main_arg1) (funext fun a => Fin.ext ?_)
  refine (win0_3.rect_emb_val t i a).trans ?_
  rw [index3 t a, Nat.zero_mul, Nat.zero_add]

theorem row_eq : row (iblk m c 0 t) (iblk m c 1 t) (iblk m c 3 t) i q = rRow (a0 m c) (a1 m c) n r ⟨q.val / 64, by omega⟩ i := by
  funext j
  rw [iblk3]
  refine congrArg₂ logit (Finset.sum_congr rfl fun d _ => ?_) rfl
  exact congrArg₂ (· * ·) (iblk0 m c t n r ht i _ _ (by show _ = r.val * 5120 + (8 + q.val / 64) * 64 + d.val; dsimp only; omega))
    (iblk1 m c t n r ht j _ _ (by show _ = r.val * 5120 + (20 + q.val / 64) * 64 + d.val; dsimp only; omega))

omit ht

theorem final5 : (dats m 0 c).arrAt 5 cfg0.N = rMean (F := Ideal) (a0 m c) (a1 m c) :=
  ext3 fun (n : Fin 4) (i : Fin 128) (y : Fin 4096) => by
    have h := congrFun (Value.blocks5 m c (pt n y) (flush0_5 _)) (ix3 0 i (lane y))
    rw [Value.flushed5, (outs ..).1] at h
    refine (congrArg ((dats m 0 c).arrAt 5 cfg0.N) (place (i := i) (x := lane y) index5 _ (win0_5.rect_emb_val (pt n y) (ix3 0 i (lane y)) 0)
      (win0_5.rect_emb_val (pt n y) (ix3 0 i (lane y)) 1) (win0_5.rect_emb_val (pt n y) (ix3 0 i (lane y)) 2)
      (by dsimp only; omega) (by dsimp only; omega)).symm).trans (h.trans ?_)
    refine (heads_apply i (lane y) _).trans ((kMean_apply _ _ _ _ i (lane y)).trans (Eq.trans ?_ (rMean_apply (a0 m c) (a1 m c) n i y).symm))
    rw [row_eq m c (pt n y) n ⟨y.val / 256, by omega⟩ rfl]
    exact congrArg (mean _) (funext fun j => iblk2 m c (pt n y) n ⟨y.val / 256, by omega⟩ rfl j (lane y) _
      (by show _ = y.val / 256 * 5120 + (32 + y.val % 256 / 64) * 64 + y.val % 64; dsimp only; omega))

theorem final6 : (dats m 0 c).arrAt 6 cfg0.N = rLse (F := Ideal) (a0 m c) (a1 m c) :=
  ext3 fun (n : Fin 4) (i : Fin 128) (y : Fin 4096) => by
    have h := congrFun (Value.blocks6 m c (pt n y) (flush0_6 _)) (ix3 0 i (lane y))
    rw [Value.flushed6, (outs ..).2] at h
    refine (congrArg ((dats m 0 c).arrAt 6 cfg0.N) (place (i := i) (x := lane y) index6 _ (win0_6.rect_emb_val (pt n y) (ix3 0 i (lane y)) 0)
      (win0_6.rect_emb_val (pt n y) (ix3 0 i (lane y)) 1) (win0_6.rect_emb_val (pt n y) (ix3 0 i (lane y)) 2)
      (by dsimp only; omega) (by dsimp only; omega)).symm).trans (h.trans ?_)
    refine (heads_apply i (lane y) _).trans ((kLse_apply _ _ _ i (lane y)).trans (Eq.trans ?_ (rLse_apply (a0 m c) (a1 m c) n i y).symm))
    rw [row_eq m c (pt n y) n ⟨y.val / 256, by omega⟩ rfl]

/-! ## The claims -/

theorem frame : Cert.quiescent_AttnFwd := fun m ρ _ => Cert.AttnFwd.Gen.frame m ρ
theorem frame_ideal : Cert.quiescent_AttnFwdIdeal := fun m ρ _ => Cert.AttnFwdIdeal.Gen.frame m ρ
theorem frame_reference : Cert.quiescent_AttnFwdReferenceIdeal := fun m ρ _ =>
  (θ_run Cert.AttnFwdReferenceIdeal.defs _ _).mono (fun r h => ⟨fun c => (h c).2.2, sem_eq_zero_of_no_sems (by decide) r.2⟩)
    (Cert.AttnFwdReferenceIdeal.Value.run (F := Ideal) m ρ)

theorem algebraic : Cert.algebraic_AttnFwdIdeal_AttnFwdReferenceIdeal := by
  intro m ρ m' ρ' _ hagree
  refine ⟨_, _, Cert.AttnFwdIdeal.Value.run_blocks (F := Ideal) m ρ, ?_⟩
  refine (θ_run Cert.AttnFwdReferenceIdeal.defs _ _).mono (fun r h c => ?_) (Cert.AttnFwdReferenceIdeal.Value.run (F := Ideal) m' ρ')
  obtain ⟨h0, h1, hk⟩ := h c
  obtain ⟨e0, e1⟩ := hagree c
  refine ⟨h0.trans ?_, h1.trans ?_, hk⟩
  · change rMean (F := Ideal) _ _ = _
    rw [e0, e1]
    exact (final5 m c).symm
  · change rLse (F := Ideal) _ _ = _
    rw [e0, e1]
    exact (final6 m c).symm

end

end Cert.Attention

end
-- ==== Proof.Sums.lean ====
/- The four sums of the gradients' reduction: two halves after the exchange between the cores of a chip, four chunks after
   the exchange between the chips. The kernel's blocks tile the array, and what each writes is the sum of the arguments at
   its own indices, in the reference's order: the two are the same function over any float values, so bit by bit too. -/
module

public import proofs.«01_k».proof.Defs
public import proofs.«01_k».proof.Proof.Gen.PairSumA.Value
public import proofs.«01_k».proof.Proof.Gen.PairSumAIdeal.Value
public import proofs.«01_k».proof.Proof.Gen.PairSumAReference
public import proofs.«01_k».proof.Proof.Gen.PairSumAReferenceIdeal.Run
public import proofs.«01_k».proof.Proof.Gen.PairSumB.Value
public import proofs.«01_k».proof.Proof.Gen.PairSumBIdeal.Value
public import proofs.«01_k».proof.Proof.Gen.PairSumBReference
public import proofs.«01_k».proof.Proof.Gen.PairSumBReferenceIdeal.Run
public import proofs.«01_k».proof.Proof.Gen.ChipSumA.Value
public import proofs.«01_k».proof.Proof.Gen.ChipSumAIdeal.Value
public import proofs.«01_k».proof.Proof.Gen.ChipSumAReference
public import proofs.«01_k».proof.Proof.Gen.ChipSumAReferenceIdeal.Run
public import proofs.«01_k».proof.Proof.Gen.ChipSumB.Value
public import proofs.«01_k».proof.Proof.Gen.ChipSumBIdeal.Value
public import proofs.«01_k».proof.Proof.Gen.ChipSumBReference
public import proofs.«01_k».proof.Proof.Gen.ChipSumBReferenceIdeal.Run
public import Idealize.ShloMosaic.Lib.Quiescent
public import Idealize.ShloMosaic.PureOps.Ideal

@[expose] public section

noncomputable section

open Idealize.ShloMosaic Idealize.ShloMosaic.TcCoe Idealize.SL.Sem

/-! ## Two halves of the column-cut gradients, 2048 × 4096 -/

namespace Cert.Sums.PairSumA

theorem frame : Cert.quiescent_PairSumA := fun m ρ _ => Cert.PairSumA.Gen.frame m ρ
theorem frame_ideal : Cert.quiescent_PairSumAIdeal := fun m ρ _ => Cert.PairSumAIdeal.Gen.frame m ρ

variable {F : FTy → Type} [FloatOps F]

theorem run_reference (m : (ℓ : Loc Cert.PairSumAReferenceIdeal.nD Cert.PairSumAReferenceIdeal.τ Cert.PairSumAReferenceIdeal.sig) → Buf (Elt F) ℓ)
    (ρ : Dev Cert.PairSumAReferenceIdeal.nD → PrngReg) :
    θ_run Cert.PairSumAReferenceIdeal.defs (onTc (τ := Cert.PairSumAReferenceIdeal.τ) (Cert.PairSumAReferenceIdeal.main (F := F))) ⟨m, fun _ => 0, ρ⟩
      fun r => (∀ c : Dev Cert.PairSumAReferenceIdeal.nD, r.2.mem ((c.tc : Thread Cert.PairSumAReferenceIdeal.nD Cert.PairSumAReferenceIdeal.τ).loc Cert.PairSumAReferenceIdeal.main_arg0) = m ((c.tc : Thread Cert.PairSumAReferenceIdeal.nD Cert.PairSumAReferenceIdeal.τ).loc Cert.PairSumAReferenceIdeal.main_arg0)
        ∧ r.2.mem ((c.tc : Thread Cert.PairSumAReferenceIdeal.nD Cert.PairSumAReferenceIdeal.τ).loc Cert.PairSumAReferenceIdeal.main_arg1) = m ((c.tc : Thread Cert.PairSumAReferenceIdeal.nD Cert.PairSumAReferenceIdeal.τ).loc Cert.PairSumAReferenceIdeal.main_arg1)) ∧ r.2.sem = fun _ => 0 :=
  (θ_run Cert.PairSumAReferenceIdeal.defs _ _).mono
    (fun r h => ⟨fun c => (h c).2, Idealize.ShloMosaic.sem_eq_zero_of_no_sems (by decide) r.2⟩)
    (Cert.PairSumAReferenceIdeal.Value.run (F := F) m ρ)

theorem frame_reference_ideal : Cert.quiescent_PairSumAReferenceIdeal := fun m ρ _ => run_reference m ρ
theorem frame_reference : Cert.quiescent_PairSumAReference := fun m ρ _ => run_reference (F := Bits) m ρ

theorem algebraic : Cert.algebraic_PairSumAIdeal_PairSumAReferenceIdeal := by
  intro m ρ m' ρ' _ hagree
  refine ⟨_, Cert.PairSumAIdeal.Value.run (F := Ideal) m ρ,
    (θ_run Cert.PairSumAReferenceIdeal.defs _ _).mono (fun r h c => ⟨(h c).1.trans ?_, (h c).2⟩)
      (Cert.PairSumAReferenceIdeal.Value.run (F := Ideal) m' ρ')⟩
  obtain ⟨e0, e1⟩ := hagree c
  rw [e0, e1]; exact funext fun _ => rfl

theorem bitexact : Cert.bitexact_PairSumA_PairSumAReference := by
  intro m ρ m' ρ' _ hagree
  refine ⟨_, Cert.PairSumA.Value.run (F := Bits) m ρ, ?_⟩
  refine (θ_run Cert.PairSumAReferenceIdeal.defs _ _).mono (fun r h c => ?_) (Cert.PairSumAReferenceIdeal.Value.run (F := Bits) m' ρ')
  refine ⟨(h c).1.trans ?_, (h c).2⟩
  obtain ⟨e0, e1⟩ := hagree c
  erw [e0, e1]; exact funext fun _ => rfl

end Cert.Sums.PairSumA

/-! ## Two halves of the row-cut gradients, 3712 × 1024 -/

namespace Cert.Sums.PairSumB

theorem frame : Cert.quiescent_PairSumB := fun m ρ _ => Cert.PairSumB.Gen.frame m ρ
theorem frame_ideal : Cert.quiescent_PairSumBIdeal := fun m ρ _ => Cert.PairSumBIdeal.Gen.frame m ρ

variable {F : FTy → Type} [FloatOps F]

theorem run_reference (m : (ℓ : Loc Cert.PairSumBReferenceIdeal.nD Cert.PairSumBReferenceIdeal.τ Cert.PairSumBReferenceIdeal.sig) → Buf (Elt F) ℓ)
    (ρ : Dev Cert.PairSumBReferenceIdeal.nD → PrngReg) :
    θ_run Cert.PairSumBReferenceIdeal.defs (onTc (τ := Cert.PairSumBReferenceIdeal.τ) (Cert.PairSumBReferenceIdeal.main (F := F))) ⟨m, fun _ => 0, ρ⟩
      fun r => (∀ c : Dev Cert.PairSumBReferenceIdeal.nD, r.2.mem ((c.tc : Thread Cert.PairSumBReferenceIdeal.nD Cert.PairSumBReferenceIdeal.τ).loc Cert.PairSumBReferenceIdeal.main_arg0) = m ((c.tc : Thread Cert.PairSumBReferenceIdeal.nD Cert.PairSumBReferenceIdeal.τ).loc Cert.PairSumBReferenceIdeal.main_arg0)
        ∧ r.2.mem ((c.tc : Thread Cert.PairSumBReferenceIdeal.nD Cert.PairSumBReferenceIdeal.τ).loc Cert.PairSumBReferenceIdeal.main_arg1) = m ((c.tc : Thread Cert.PairSumBReferenceIdeal.nD Cert.PairSumBReferenceIdeal.τ).loc Cert.PairSumBReferenceIdeal.main_arg1)) ∧ r.2.sem = fun _ => 0 :=
  (θ_run Cert.PairSumBReferenceIdeal.defs _ _).mono
    (fun r h => ⟨fun c => (h c).2, Idealize.ShloMosaic.sem_eq_zero_of_no_sems (by decide) r.2⟩)
    (Cert.PairSumBReferenceIdeal.Value.run (F := F) m ρ)

theorem frame_reference_ideal : Cert.quiescent_PairSumBReferenceIdeal := fun m ρ _ => run_reference m ρ
theorem frame_reference : Cert.quiescent_PairSumBReference := fun m ρ _ => run_reference (F := Bits) m ρ

theorem algebraic : Cert.algebraic_PairSumBIdeal_PairSumBReferenceIdeal := by
  intro m ρ m' ρ' _ hagree
  refine ⟨_, Cert.PairSumBIdeal.Value.run (F := Ideal) m ρ,
    (θ_run Cert.PairSumBReferenceIdeal.defs _ _).mono (fun r h c => ⟨(h c).1.trans ?_, (h c).2⟩)
      (Cert.PairSumBReferenceIdeal.Value.run (F := Ideal) m' ρ')⟩
  obtain ⟨e0, e1⟩ := hagree c
  rw [e0, e1]; exact funext fun _ => rfl

theorem bitexact : Cert.bitexact_PairSumB_PairSumBReference := by
  intro m ρ m' ρ' _ hagree
  refine ⟨_, Cert.PairSumB.Value.run (F := Bits) m ρ, ?_⟩
  refine (θ_run Cert.PairSumBReferenceIdeal.defs _ _).mono (fun r h c => ?_) (Cert.PairSumBReferenceIdeal.Value.run (F := Bits) m' ρ')
  refine ⟨(h c).1.trans ?_, (h c).2⟩
  obtain ⟨e0, e1⟩ := hagree c
  erw [e0, e1]; exact funext fun _ => rfl

end Cert.Sums.PairSumB

/-! ## Four chunks of the column-cut gradients, 512 × 4096 -/

namespace Cert.Sums.ChipSumA

theorem frame : Cert.quiescent_ChipSumA := fun m ρ _ => Cert.ChipSumA.Gen.frame m ρ
theorem frame_ideal : Cert.quiescent_ChipSumAIdeal := fun m ρ _ => Cert.ChipSumAIdeal.Gen.frame m ρ

variable {F : FTy → Type} [FloatOps F]

theorem run_reference (m : (ℓ : Loc Cert.ChipSumAReferenceIdeal.nD Cert.ChipSumAReferenceIdeal.τ Cert.ChipSumAReferenceIdeal.sig) → Buf (Elt F) ℓ)
    (ρ : Dev Cert.ChipSumAReferenceIdeal.nD → PrngReg) :
    θ_run Cert.ChipSumAReferenceIdeal.defs (onTc (τ := Cert.ChipSumAReferenceIdeal.τ) (Cert.ChipSumAReferenceIdeal.main (F := F))) ⟨m, fun _ => 0, ρ⟩
      fun r => (∀ c : Dev Cert.ChipSumAReferenceIdeal.nD, r.2.mem ((c.tc : Thread Cert.ChipSumAReferenceIdeal.nD Cert.ChipSumAReferenceIdeal.τ).loc Cert.ChipSumAReferenceIdeal.main_arg0) = m ((c.tc : Thread Cert.ChipSumAReferenceIdeal.nD Cert.ChipSumAReferenceIdeal.τ).loc Cert.ChipSumAReferenceIdeal.main_arg0)
        ∧ r.2.mem ((c.tc : Thread Cert.ChipSumAReferenceIdeal.nD Cert.ChipSumAReferenceIdeal.τ).loc Cert.ChipSumAReferenceIdeal.main_arg1) = m ((c.tc : Thread Cert.ChipSumAReferenceIdeal.nD Cert.ChipSumAReferenceIdeal.τ).loc Cert.ChipSumAReferenceIdeal.main_arg1)
        ∧ r.2.mem ((c.tc : Thread Cert.ChipSumAReferenceIdeal.nD Cert.ChipSumAReferenceIdeal.τ).loc Cert.ChipSumAReferenceIdeal.main_arg2) = m ((c.tc : Thread Cert.ChipSumAReferenceIdeal.nD Cert.ChipSumAReferenceIdeal.τ).loc Cert.ChipSumAReferenceIdeal.main_arg2)
        ∧ r.2.mem ((c.tc : Thread Cert.ChipSumAReferenceIdeal.nD Cert.ChipSumAReferenceIdeal.τ).loc Cert.ChipSumAReferenceIdeal.main_arg3) = m ((c.tc : Thread Cert.ChipSumAReferenceIdeal.nD Cert.ChipSumAReferenceIdeal.τ).loc Cert.ChipSumAReferenceIdeal.main_arg3)) ∧ r.2.sem = fun _ => 0 :=
  (θ_run Cert.ChipSumAReferenceIdeal.defs _ _).mono
    (fun r h => ⟨fun c => (h c).2, Idealize.ShloMosaic.sem_eq_zero_of_no_sems (by decide) r.2⟩)
    (Cert.ChipSumAReferenceIdeal.Value.run (F := F) m ρ)

theorem frame_reference_ideal : Cert.quiescent_ChipSumAReferenceIdeal := fun m ρ _ => run_reference m ρ
theorem frame_reference : Cert.quiescent_ChipSumAReference := fun m ρ _ => run_reference (F := Bits) m ρ

theorem algebraic : Cert.algebraic_ChipSumAIdeal_ChipSumAReferenceIdeal := by
  intro m ρ m' ρ' _ hagree
  refine ⟨_, Cert.ChipSumAIdeal.Value.run (F := Ideal) m ρ,
    (θ_run Cert.ChipSumAReferenceIdeal.defs _ _).mono (fun r h c => ⟨(h c).1.trans ?_, (h c).2⟩)
      (Cert.ChipSumAReferenceIdeal.Value.run (F := Ideal) m' ρ')⟩
  obtain ⟨e0, e1, e2, e3⟩ := hagree c
  rw [e0, e1, e2, e3]; exact funext fun _ => rfl

theorem bitexact : Cert.bitexact_ChipSumA_ChipSumAReference := by
  intro m ρ m' ρ' _ hagree
  refine ⟨_, Cert.ChipSumA.Value.run (F := Bits) m ρ, ?_⟩
  refine (θ_run Cert.ChipSumAReferenceIdeal.defs _ _).mono (fun r h c => ?_) (Cert.ChipSumAReferenceIdeal.Value.run (F := Bits) m' ρ')
  refine ⟨(h c).1.trans ?_, (h c).2⟩
  obtain ⟨e0, e1, e2, e3⟩ := hagree c
  erw [e0, e1, e2, e3]; exact funext fun _ => rfl

end Cert.Sums.ChipSumA

/-! ## Four chunks of the row-cut gradients, 928 × 1024 -/

namespace Cert.Sums.ChipSumB

theorem frame : Cert.quiescent_ChipSumB := fun m ρ _ => Cert.ChipSumB.Gen.frame m ρ
theorem frame_ideal : Cert.quiescent_ChipSumBIdeal := fun m ρ _ => Cert.ChipSumBIdeal.Gen.frame m ρ

variable {F : FTy → Type} [FloatOps F]

theorem run_reference (m : (ℓ : Loc Cert.ChipSumBReferenceIdeal.nD Cert.ChipSumBReferenceIdeal.τ Cert.ChipSumBReferenceIdeal.sig) → Buf (Elt F) ℓ)
    (ρ : Dev Cert.ChipSumBReferenceIdeal.nD → PrngReg) :
    θ_run Cert.ChipSumBReferenceIdeal.defs (onTc (τ := Cert.ChipSumBReferenceIdeal.τ) (Cert.ChipSumBReferenceIdeal.main (F := F))) ⟨m, fun _ => 0, ρ⟩
      fun r => (∀ c : Dev Cert.ChipSumBReferenceIdeal.nD, r.2.mem ((c.tc : Thread Cert.ChipSumBReferenceIdeal.nD Cert.ChipSumBReferenceIdeal.τ).loc Cert.ChipSumBReferenceIdeal.main_arg0) = m ((c.tc : Thread Cert.ChipSumBReferenceIdeal.nD Cert.ChipSumBReferenceIdeal.τ).loc Cert.ChipSumBReferenceIdeal.main_arg0)
        ∧ r.2.mem ((c.tc : Thread Cert.ChipSumBReferenceIdeal.nD Cert.ChipSumBReferenceIdeal.τ).loc Cert.ChipSumBReferenceIdeal.main_arg1) = m ((c.tc : Thread Cert.ChipSumBReferenceIdeal.nD Cert.ChipSumBReferenceIdeal.τ).loc Cert.ChipSumBReferenceIdeal.main_arg1)
        ∧ r.2.mem ((c.tc : Thread Cert.ChipSumBReferenceIdeal.nD Cert.ChipSumBReferenceIdeal.τ).loc Cert.ChipSumBReferenceIdeal.main_arg2) = m ((c.tc : Thread Cert.ChipSumBReferenceIdeal.nD Cert.ChipSumBReferenceIdeal.τ).loc Cert.ChipSumBReferenceIdeal.main_arg2)
        ∧ r.2.mem ((c.tc : Thread Cert.ChipSumBReferenceIdeal.nD Cert.ChipSumBReferenceIdeal.τ).loc Cert.ChipSumBReferenceIdeal.main_arg3) = m ((c.tc : Thread Cert.ChipSumBReferenceIdeal.nD Cert.ChipSumBReferenceIdeal.τ).loc Cert.ChipSumBReferenceIdeal.main_arg3)) ∧ r.2.sem = fun _ => 0 :=
  (θ_run Cert.ChipSumBReferenceIdeal.defs _ _).mono
    (fun r h => ⟨fun c => (h c).2, Idealize.ShloMosaic.sem_eq_zero_of_no_sems (by decide) r.2⟩)
    (Cert.ChipSumBReferenceIdeal.Value.run (F := F) m ρ)

theorem frame_reference_ideal : Cert.quiescent_ChipSumBReferenceIdeal := fun m ρ _ => run_reference m ρ
theorem frame_reference : Cert.quiescent_ChipSumBReference := fun m ρ _ => run_reference (F := Bits) m ρ

theorem algebraic : Cert.algebraic_ChipSumBIdeal_ChipSumBReferenceIdeal := by
  intro m ρ m' ρ' _ hagree
  refine ⟨_, Cert.ChipSumBIdeal.Value.run (F := Ideal) m ρ,
    (θ_run Cert.ChipSumBReferenceIdeal.defs _ _).mono (fun r h c => ⟨(h c).1.trans ?_, (h c).2⟩)
      (Cert.ChipSumBReferenceIdeal.Value.run (F := Ideal) m' ρ')⟩
  obtain ⟨e0, e1, e2, e3⟩ := hagree c
  rw [e0, e1, e2, e3]; exact funext fun _ => rfl

theorem bitexact : Cert.bitexact_ChipSumB_ChipSumBReference := by
  intro m ρ m' ρ' _ hagree
  refine ⟨_, Cert.ChipSumB.Value.run (F := Bits) m ρ, ?_⟩
  refine (θ_run Cert.ChipSumBReferenceIdeal.defs _ _).mono (fun r h c => ?_) (Cert.ChipSumBReferenceIdeal.Value.run (F := Bits) m' ρ')
  refine ⟨(h c).1.trans ?_, (h c).2⟩
  obtain ⟨e0, e1, e2, e3⟩ := hagree c
  erw [e0, e1, e2, e3]; exact funext fun _ => rfl

end Cert.Sums.ChipSumB

end
-- ==== Proof.lean ====
/- The claims, assembled from their modules. The exchanges: `Proof/Exchange.lean` (the run of a kernel whose copies and sends
   each pay their own counters), `Proof/Slots.lean` (a slot of an array; one copy, one send), and for each exchange its run
   and its value. `Proof/Sums.lean`: the sums of the gradients' reduction. The AdamW updates: `Proof/AdamW.lean` (the update at one index; the large weights), `Proof/SmallPack.lean`,
   `Proof/SmallRun.lean` and `Proof/AdamSmall.lean` (the small weights, packed in one array). The layer's backward: `Proof/FfnBody.lean` (what a point stores),
   `Proof/FfnRow.lean` and `Proof/FfnBlock.lean` (a row of the reference, a row of a block), `Proof/FfnRun.lean`, `Proof/FfnArrays.lean` and
   `Proof/Ffn.lean` (the points one after the other, the arrays, the claims). The large weights' gradients: `Proof/Grad.lean`.
   The layer programs: `Proof/Layer.lean` (blocks of 512 tokens, products with a whole weight), `Proof/FfnForward.lean` and
   `Proof/InForward.lean` (the forward calls), `Proof/NormBackward.lean` (the derivative of the norm, one token at a time),
   `Proof/InBackward.lean` and `Proof/LossGrad.lean` (the two calls that take it), `Proof/MergeForward.lean` and
   `Proof/MergeBackward.lean` (the merge of the mixers), `Proof/BiasGradient.lean` (the gradient of the bias table),
   `Proof/Attention.lean` (the attention of the third group). -/
module

public import proofs.«01_k».proof.Defs
public import proofs.«01_k».proof.Proof.HalfValue
public import proofs.«01_k».proof.Proof.GatherValue
public import proofs.«01_k».proof.Proof.PairValue
public import proofs.«01_k».proof.Proof.ChipValue
public import proofs.«01_k».proof.Proof.AdamW
public import proofs.«01_k».proof.Proof.AdamSmall
public import proofs.«01_k».proof.Proof.Ffn
public import proofs.«01_k».proof.Proof.Grad
public import proofs.«01_k».proof.Proof.FfnForward
public import proofs.«01_k».proof.Proof.InForward
public import proofs.«01_k».proof.Proof.InBackward
public import proofs.«01_k».proof.Proof.LossGrad
public import proofs.«01_k».proof.Proof.MergeForward
public import proofs.«01_k».proof.Proof.MergeBackward
public import proofs.«01_k».proof.Proof.BiasGradient
public import proofs.«01_k».proof.Proof.Attention
public import proofs.«01_k».proof.Proof.Sums
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherReference
public import proofs.«01_k».proof.Proof.Gen.GatherReferenceIdeal
public import proofs.«01_k».proof.Proof.Gen.GatherReferenceIdeal.Run
public import proofs.«01_k».proof.Proof.Gen.Pair
public import proofs.«01_k».proof.Proof.Gen.PairIdeal
public import proofs.«01_k».proof.Proof.Gen.PairIdeal.Skeleton
public import proofs.«01_k».proof.Proof.Gen.PairIdeal.Launch
public import proofs.«01_k».proof.Proof.Gen.PairReference
public import proofs.«01_k».proof.Proof.Gen.PairReferenceIdeal
public import proofs.«01_k».proof.Proof.Gen.PairReferenceIdeal.Run
public import proofs.«01_k».proof.Proof.Gen.Chip
public import proofs.«01_k».proof.Proof.Gen.ChipIdeal
public import proofs.«01_k».proof.Proof.Gen.ChipIdeal.Skeleton
public import proofs.«01_k».proof.Proof.Gen.ChipIdeal.Launch
public import proofs.«01_k».proof.Proof.Gen.ChipReference
public import proofs.«01_k».proof.Proof.Gen.ChipReferenceIdeal
public import proofs.«01_k».proof.Proof.Gen.ChipReferenceIdeal.Run
public import proofs.«01_k».proof.Proof.Gen.AdamUpIdeal.Value
public import proofs.«01_k».proof.Proof.Gen.AdamUp.Frame
public import proofs.«01_k».proof.Proof.Gen.AdamUpReferenceIdeal.Run
public import proofs.«01_k».proof.Proof.Gen.AdamDownIdeal.Value
public import proofs.«01_k».proof.Proof.Gen.AdamDown.Frame
public import proofs.«01_k».proof.Proof.Gen.AdamDownReferenceIdeal.Run
public import proofs.«01_k».proof.Proof.Gen.AdamInIdeal.Value
public import proofs.«01_k».proof.Proof.Gen.AdamIn.Frame
public import proofs.«01_k».proof.Proof.Gen.AdamInReferenceIdeal.Run
public import proofs.«01_k».proof.Proof.Gen.AdamOutIdeal.Value
public import proofs.«01_k».proof.Proof.Gen.AdamOut.Frame
public import proofs.«01_k».proof.Proof.Gen.AdamOutReferenceIdeal.Run
public import proofs.«01_k».proof.Proof.Gen.AdamBranchAIdeal.Value
public import proofs.«01_k».proof.Proof.Gen.AdamBranchA.Frame
public import proofs.«01_k».proof.Proof.Gen.AdamBranchAReferenceIdeal.Run
public import proofs.«01_k».proof.Proof.Gen.AdamBranchBIdeal.Value
public import proofs.«01_k».proof.Proof.Gen.AdamBranchB.Frame
public import proofs.«01_k».proof.Proof.Gen.AdamBranchBReferenceIdeal.Run
public import proofs.«01_k».proof.Proof.Gen.AdamSmallIdeal.Frame
public import proofs.«01_k».proof.Proof.Gen.AdamSmall.Frame
public import proofs.«01_k».proof.Proof.Gen.AdamSmallReferenceIdeal.Run
public import proofs.«01_k».proof.Proof.Gen.PairSumAIdeal.Value
public import proofs.«01_k».proof.Proof.Gen.PairSumA.Value
public import proofs.«01_k».proof.Proof.Gen.PairSumAReferenceIdeal.Run
public import proofs.«01_k».proof.Proof.Gen.PairSumBIdeal.Value
public import proofs.«01_k».proof.Proof.Gen.PairSumB.Value
public import proofs.«01_k».proof.Proof.Gen.PairSumBReferenceIdeal.Run
public import proofs.«01_k».proof.Proof.Gen.ChipSumAIdeal.Value
public import proofs.«01_k».proof.Proof.Gen.ChipSumA.Value
public import proofs.«01_k».proof.Proof.Gen.ChipSumAReferenceIdeal.Run
public import proofs.«01_k».proof.Proof.Gen.ChipSumBIdeal.Value
public import proofs.«01_k».proof.Proof.Gen.ChipSumB.Value
public import proofs.«01_k».proof.Proof.Gen.ChipSumBReferenceIdeal.Run
public import proofs.«01_k».proof.Proof.Gen.FfnBwdIdeal.Value
public import proofs.«01_k».proof.Proof.Gen.FfnBwd.Frame
public import proofs.«01_k».proof.Proof.Gen.FfnBwdReferenceIdeal.Run
public import proofs.«01_k».proof.Proof.Gen.GradUpIdeal.Value
public import proofs.«01_k».proof.Proof.Gen.GradUp.Frame
public import proofs.«01_k».proof.Proof.Gen.GradUpReferenceIdeal.Run
public import proofs.«01_k».proof.Proof.Gen.GradDownIdeal.Value
public import proofs.«01_k».proof.Proof.Gen.GradDown.Frame
public import proofs.«01_k».proof.Proof.Gen.GradDownReferenceIdeal.Run
public import proofs.«01_k».proof.Proof.Gen.GradOutIdeal.Value
public import proofs.«01_k».proof.Proof.Gen.GradOut.Frame
public import proofs.«01_k».proof.Proof.Gen.GradOutReferenceIdeal.Run
public import proofs.«01_k».proof.Proof.Gen.GradBranchAIdeal.Value
public import proofs.«01_k».proof.Proof.Gen.GradBranchA.Frame
public import proofs.«01_k».proof.Proof.Gen.GradBranchAReferenceIdeal.Run
public import proofs.«01_k».proof.Proof.Gen.GradBranchBIdeal.Value
public import proofs.«01_k».proof.Proof.Gen.GradBranchB.Frame
public import proofs.«01_k».proof.Proof.Gen.GradBranchBReferenceIdeal.Run
public import proofs.«01_k».proof.Proof.Gen.GradInIdeal.Value
public import proofs.«01_k».proof.Proof.Gen.GradIn.Frame
public import proofs.«01_k».proof.Proof.Gen.GradInReferenceIdeal.Run
public import proofs.«01_k».proof.Proof.Gen.FfnFwdIdeal.Value
public import proofs.«01_k».proof.Proof.Gen.FfnFwd.Frame
public import proofs.«01_k».proof.Proof.Gen.FfnFwdReferenceIdeal.Run
public import proofs.«01_k».proof.Proof.Gen.InFwdIdeal.Value
public import proofs.«01_k».proof.Proof.Gen.InFwd.Frame
public import proofs.«01_k».proof.Proof.Gen.InFwdReferenceIdeal.Run
public import proofs.«01_k».proof.Proof.Gen.InBwdIdeal.Value
public import proofs.«01_k».proof.Proof.Gen.InBwd.Frame
public import proofs.«01_k».proof.Proof.Gen.InBwdReferenceIdeal.Run
public import proofs.«01_k».proof.Proof.Gen.LossHeadIdeal.Value
public import proofs.«01_k».proof.Proof.Gen.LossHead.Frame
public import proofs.«01_k».proof.Proof.Gen.LossHeadReferenceIdeal.Run
public import proofs.«01_k».proof.Proof.Gen.MergeFwdIdeal.Value
public import proofs.«01_k».proof.Proof.Gen.MergeFwd.Frame
public import proofs.«01_k».proof.Proof.Gen.MergeFwdReferenceIdeal.Run
public import proofs.«01_k».proof.Proof.Gen.MergeBwdIdeal.Value
public import proofs.«01_k».proof.Proof.Gen.MergeBwd.Frame
public import proofs.«01_k».proof.Proof.Gen.MergeBwdReferenceIdeal.Run
public import proofs.«01_k».proof.Proof.Gen.BiasGradIdeal.Value
public import proofs.«01_k».proof.Proof.Gen.BiasGrad.Frame
public import proofs.«01_k».proof.Proof.Gen.BiasGradReferenceIdeal.Run
public import proofs.«01_k».proof.Proof.Gen.AttnFwdIdeal.Value
public import proofs.«01_k».proof.Proof.Gen.AttnFwd.Frame
public import proofs.«01_k».proof.Proof.Gen.AttnFwdReferenceIdeal.Run

@[expose] public section

noncomputable section

namespace Cert.Proof

theorem claim : Cert.Claim :=
  ⟨Cert.Half.Gen.facts, Cert.HalfIdeal.Gen.facts, Cert.HalfReferenceIdeal.Gen.facts, Cert.HalfReference.Gen.facts,
  Cert.Gather.Gen.facts, Cert.GatherIdeal.Gen.facts, Cert.GatherReferenceIdeal.Gen.facts, Cert.GatherReference.Gen.facts,
  Cert.Pair.Gen.facts, Cert.PairIdeal.Gen.facts, Cert.PairReferenceIdeal.Gen.facts, Cert.PairReference.Gen.facts,
  Cert.Chip.Gen.facts, Cert.ChipIdeal.Gen.facts, Cert.ChipReferenceIdeal.Gen.facts, Cert.ChipReference.Gen.facts,
  Cert.PairSumA.Gen.facts, Cert.PairSumAIdeal.Gen.facts, Cert.PairSumAReferenceIdeal.Gen.facts, Cert.PairSumAReference.Gen.facts,
  Cert.PairSumB.Gen.facts, Cert.PairSumBIdeal.Gen.facts, Cert.PairSumBReferenceIdeal.Gen.facts, Cert.PairSumBReference.Gen.facts,
  Cert.ChipSumA.Gen.facts, Cert.ChipSumAIdeal.Gen.facts, Cert.ChipSumAReferenceIdeal.Gen.facts, Cert.ChipSumAReference.Gen.facts,
  Cert.ChipSumB.Gen.facts, Cert.ChipSumBIdeal.Gen.facts, Cert.ChipSumBReferenceIdeal.Gen.facts, Cert.ChipSumBReference.Gen.facts,
  Cert.AdamUp.Gen.facts, Cert.AdamUpIdeal.Gen.facts, Cert.AdamUpReferenceIdeal.Gen.facts,
  Cert.AdamDown.Gen.facts, Cert.AdamDownIdeal.Gen.facts, Cert.AdamDownReferenceIdeal.Gen.facts,
  Cert.AdamIn.Gen.facts, Cert.AdamInIdeal.Gen.facts, Cert.AdamInReferenceIdeal.Gen.facts,
  Cert.AdamOut.Gen.facts, Cert.AdamOutIdeal.Gen.facts, Cert.AdamOutReferenceIdeal.Gen.facts,
  Cert.AdamBranchA.Gen.facts, Cert.AdamBranchAIdeal.Gen.facts, Cert.AdamBranchAReferenceIdeal.Gen.facts,
  Cert.AdamBranchB.Gen.facts, Cert.AdamBranchBIdeal.Gen.facts, Cert.AdamBranchBReferenceIdeal.Gen.facts,
  Cert.AdamSmall.Gen.facts, Cert.AdamSmallIdeal.Gen.facts, Cert.AdamSmallReferenceIdeal.Gen.facts,
  Cert.FfnBwd.Gen.facts, Cert.FfnBwdIdeal.Gen.facts, Cert.FfnBwdReferenceIdeal.Gen.facts,
  Cert.GradUp.Gen.facts, Cert.GradUpIdeal.Gen.facts, Cert.GradUpReferenceIdeal.Gen.facts,
  Cert.GradDown.Gen.facts, Cert.GradDownIdeal.Gen.facts, Cert.GradDownReferenceIdeal.Gen.facts,
  Cert.GradOut.Gen.facts, Cert.GradOutIdeal.Gen.facts, Cert.GradOutReferenceIdeal.Gen.facts,
  Cert.GradBranchA.Gen.facts, Cert.GradBranchAIdeal.Gen.facts, Cert.GradBranchAReferenceIdeal.Gen.facts,
  Cert.GradBranchB.Gen.facts, Cert.GradBranchBIdeal.Gen.facts, Cert.GradBranchBReferenceIdeal.Gen.facts,
  Cert.GradIn.Gen.facts, Cert.GradInIdeal.Gen.facts, Cert.GradInReferenceIdeal.Gen.facts,
  Cert.FfnFwd.Gen.facts, Cert.FfnFwdIdeal.Gen.facts, Cert.FfnFwdReferenceIdeal.Gen.facts,
  Cert.InFwd.Gen.facts, Cert.InFwdIdeal.Gen.facts, Cert.InFwdReferenceIdeal.Gen.facts,
  Cert.InBwd.Gen.facts, Cert.InBwdIdeal.Gen.facts, Cert.InBwdReferenceIdeal.Gen.facts,
  Cert.LossHead.Gen.facts, Cert.LossHeadIdeal.Gen.facts, Cert.LossHeadReferenceIdeal.Gen.facts,
  Cert.MergeFwd.Gen.facts, Cert.MergeFwdIdeal.Gen.facts, Cert.MergeFwdReferenceIdeal.Gen.facts,
  Cert.MergeBwd.Gen.facts, Cert.MergeBwdIdeal.Gen.facts, Cert.MergeBwdReferenceIdeal.Gen.facts,
  Cert.BiasGrad.Gen.facts, Cert.BiasGradIdeal.Gen.facts, Cert.BiasGradReferenceIdeal.Gen.facts,
  Cert.AttnFwd.Gen.facts, Cert.AttnFwdIdeal.Gen.facts, Cert.AttnFwdReferenceIdeal.Gen.facts,
  Cert.HalfIdeal.Run.frame_half, Cert.HalfIdeal.Run.frame_half_ideal, Cert.HalfIdeal.Run.frame_half_reference_ideal, Cert.HalfIdeal.Run.frame_half_reference,
  Cert.GatherIdeal.Run.frame_gather, Cert.GatherIdeal.Run.frame_gather_ideal, Cert.GatherIdeal.Run.frame_gather_reference_ideal, Cert.GatherIdeal.Run.frame_gather_reference,
  Cert.PairIdeal.Run.frame_pair, Cert.PairIdeal.Run.frame_pair_ideal, Cert.PairIdeal.Run.frame_pair_reference_ideal, Cert.PairIdeal.Run.frame_pair_reference,
  Cert.ChipIdeal.Run.frame_chip, Cert.ChipIdeal.Run.frame_chip_ideal, Cert.ChipIdeal.Run.frame_chip_reference_ideal, Cert.ChipIdeal.Run.frame_chip_reference,
  Cert.Sums.PairSumA.frame, Cert.Sums.PairSumA.frame_ideal, Cert.Sums.PairSumA.frame_reference_ideal, Cert.Sums.PairSumA.frame_reference,
  Cert.Sums.PairSumB.frame, Cert.Sums.PairSumB.frame_ideal, Cert.Sums.PairSumB.frame_reference_ideal, Cert.Sums.PairSumB.frame_reference,
  Cert.Sums.ChipSumA.frame, Cert.Sums.ChipSumA.frame_ideal, Cert.Sums.ChipSumA.frame_reference_ideal, Cert.Sums.ChipSumA.frame_reference,
  Cert.Sums.ChipSumB.frame, Cert.Sums.ChipSumB.frame_ideal, Cert.Sums.ChipSumB.frame_reference_ideal, Cert.Sums.ChipSumB.frame_reference,
  Cert.AdamW.AdamUp.frame, Cert.AdamW.AdamUp.frame_ideal, Cert.AdamW.AdamUp.frame_reference,
  Cert.AdamW.AdamDown.frame, Cert.AdamW.AdamDown.frame_ideal, Cert.AdamW.AdamDown.frame_reference,
  Cert.AdamW.AdamIn.frame, Cert.AdamW.AdamIn.frame_ideal, Cert.AdamW.AdamIn.frame_reference,
  Cert.AdamW.AdamOut.frame, Cert.AdamW.AdamOut.frame_ideal, Cert.AdamW.AdamOut.frame_reference,
  Cert.AdamW.AdamBranchA.frame, Cert.AdamW.AdamBranchA.frame_ideal, Cert.AdamW.AdamBranchA.frame_reference,
  Cert.AdamW.AdamBranchB.frame, Cert.AdamW.AdamBranchB.frame_ideal, Cert.AdamW.AdamBranchB.frame_reference,
  Cert.AdamW.AdamSmall.frame, Cert.AdamW.AdamSmall.frame_ideal, Cert.AdamW.AdamSmall.frame_reference,
  Cert.Ffn.frame, Cert.Ffn.frame_ideal, Cert.Ffn.frame_reference_ideal,
  Cert.Grad.Up.frame, Cert.Grad.Up.frame_ideal, Cert.Grad.Up.frame_reference,
  Cert.Grad.Down.frame, Cert.Grad.Down.frame_ideal, Cert.Grad.Down.frame_reference,
  Cert.Grad.Out.frame, Cert.Grad.Out.frame_ideal, Cert.Grad.Out.frame_reference,
  Cert.Grad.BranchA.frame, Cert.Grad.BranchA.frame_ideal, Cert.Grad.BranchA.frame_reference,
  Cert.Grad.BranchB.frame, Cert.Grad.BranchB.frame_ideal, Cert.Grad.BranchB.frame_reference,
  Cert.Grad.In.frame, Cert.Grad.In.frame_ideal, Cert.Grad.In.frame_reference,
  Cert.FfnForward.frame, Cert.FfnForward.frame_ideal, Cert.FfnForward.frame_reference,
  Cert.InForward.frame, Cert.InForward.frame_ideal, Cert.InForward.frame_reference,
  Cert.InBackward.frame, Cert.InBackward.frame_ideal, Cert.InBackward.frame_reference,
  Cert.LossGrad.frame, Cert.LossGrad.frame_ideal, Cert.LossGrad.frame_reference,
  Cert.MergeForward.frame, Cert.MergeForward.frame_ideal, Cert.MergeForward.frame_reference,
  Cert.MergeBackward.frame, Cert.MergeBackward.frame_ideal, Cert.MergeBackward.frame_reference,
  Cert.BiasGradient.frame, Cert.BiasGradient.frame_ideal, Cert.BiasGradient.frame_reference,
  Cert.Attention.frame, Cert.Attention.frame_ideal, Cert.Attention.frame_reference,
  trivial, Cert.HalfIdeal.Run.algebraic_half, Cert.HalfIdeal.Run.bitexact_half,
  trivial, Cert.GatherIdeal.Run.algebraic_gather, Cert.GatherIdeal.Run.bitexact_gather,
  trivial, Cert.PairIdeal.Run.algebraic_pair, Cert.PairIdeal.Run.bitexact_pair,
  trivial, Cert.ChipIdeal.Run.algebraic_chip, Cert.ChipIdeal.Run.bitexact_chip,
  trivial, Cert.Sums.PairSumA.algebraic, Cert.Sums.PairSumA.bitexact,
  trivial, Cert.Sums.PairSumB.algebraic, Cert.Sums.PairSumB.bitexact,
  trivial, Cert.Sums.ChipSumA.algebraic, Cert.Sums.ChipSumA.bitexact,
  trivial, Cert.Sums.ChipSumB.algebraic, Cert.Sums.ChipSumB.bitexact,
  trivial, Cert.AdamW.AdamUp.algebraic,
  trivial, Cert.AdamW.AdamDown.algebraic,
  trivial, Cert.AdamW.AdamIn.algebraic,
  trivial, Cert.AdamW.AdamOut.algebraic,
  trivial, Cert.AdamW.AdamBranchA.algebraic,
  trivial, Cert.AdamW.AdamBranchB.algebraic,
  trivial, Cert.AdamW.AdamSmall.algebraic,
  trivial, Cert.Ffn.algebraic,
  trivial, Cert.Grad.Up.algebraic,
  trivial, Cert.Grad.Down.algebraic,
  trivial, Cert.Grad.Out.algebraic,
  trivial, Cert.Grad.BranchA.algebraic,
  trivial, Cert.Grad.BranchB.algebraic,
  trivial, Cert.Grad.In.algebraic,
  trivial, Cert.FfnForward.algebraic,
  trivial, Cert.InForward.algebraic,
  trivial, Cert.InBackward.algebraic,
  trivial, Cert.LossGrad.algebraic,
  trivial, Cert.MergeForward.algebraic,
  trivial, Cert.MergeBackward.algebraic,
  trivial, Cert.BiasGradient.algebraic,
  trivial, Cert.Attention.algebraic⟩

end Cert.Proof

end
